-- ==== Defs.lean ====
def Pre_LaneSum (m : (ℓ : Loc Cert.LaneSum.nD Cert.LaneSum.τ Cert.LaneSum.sig) → Buf (Elt Bits) ℓ) : Prop :=
  True

def Pre_LaneSumIdeal (m : (ℓ : Loc Cert.LaneSumIdeal.nD Cert.LaneSumIdeal.τ Cert.LaneSumIdeal.sig) → Buf (Elt Ideal) ℓ) : Prop :=
  True

def Pre_LaneSumRefIdeal (m : (ℓ : Loc Cert.LaneSumRefIdeal.nD Cert.LaneSumRefIdeal.τ Cert.LaneSumRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_ffn_finite [hPre_ffn_finite : Cert.Pre_ffn_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_ffn_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2))).1 = (fun _ => 1#1)
    ∧ (Cert.Pre_ffn_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2))).2.1 = (fun _ => 1#1)
    ∧ (Cert.Pre_ffn_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2))).2.2 = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_ffn_finite [hPre_ffn_finite : Cert.Pre_ffn_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_ffn_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2))).1 = (fun _ => 1#1)
    ∧ (Cert.Pre_ffn_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2))).2.1 = (fun _ => 1#1)
    ∧ (Cert.Pre_ffn_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2))).2.2 = (fun _ => 1#1)

def Pre_UpFirst (m : (ℓ : Loc Cert.UpFirst.nD Cert.UpFirst.τ Cert.UpFirst.sig) → Buf (Elt Bits) ℓ) : Prop :=
  True

def Pre_UpFirstIdeal (m : (ℓ : Loc Cert.UpFirstIdeal.nD Cert.UpFirstIdeal.τ Cert.UpFirstIdeal.sig) → Buf (Elt Ideal) ℓ) : Prop :=
  True

def Pre_UpFirstRefIdeal (m : (ℓ : Loc Cert.UpFirstRefIdeal.nD Cert.UpFirstRefIdeal.τ Cert.UpFirstRefIdeal.sig) → Buf (Elt Ideal) ℓ) : Prop :=
  True

def Pre_UpMixer (m : (ℓ : Loc Cert.UpMixer.nD Cert.UpMixer.τ Cert.UpMixer.sig) → Buf (Elt Bits) ℓ) : Prop :=
  True

def Pre_UpMixerIdeal (m : (ℓ : Loc Cert.UpMixerIdeal.nD Cert.UpMixerIdeal.τ Cert.UpMixerIdeal.sig) → Buf (Elt Ideal) ℓ) : Prop :=
  True

def Pre_UpMixerIdeal_up1_finite [hPre_up1_finite : Cert.Pre_up1_finite.Facts] (m : (ℓ : Loc Cert.UpMixerIdeal.nD Cert.UpMixerIdeal.τ Cert.UpMixerIdeal.sig) → Buf (Elt Ideal) ℓ) : Prop :=
  ∀ c : Dev Cert.UpMixerIdeal.nD,
    (Cert.Pre_up1_finite.fn (F := Ideal) (m ((c.tc : Thread Cert.UpMixerIdeal.nD Cert.UpMixerIdeal.τ).loc Cert.UpMixerIdeal.main_arg0)) (m ((c.tc : Thread Cert.UpMixerIdeal.nD Cert.UpMixerIdeal.τ).loc Cert.UpMixerIdeal.main_arg1)) (m ((c.tc : Thread Cert.UpMixerIdeal.nD Cert.UpMixerIdeal.τ).loc Cert.UpMixerIdeal.main_arg2)) (m ((c.tc : Thread Cert.UpMixerIdeal.nD Cert.UpMixerIdeal.τ).loc Cert.UpMixerIdeal.main_arg3)) (m ((c.tc : Thread Cert.UpMixerIdeal.nD Cert.UpMixerIdeal.τ).loc Cert.UpMixerIdeal.main_arg4)) (m ((c.tc : Thread Cert.UpMixerIdeal.nD Cert.UpMixerIdeal.τ).loc Cert.UpMixerIdeal.main_arg5)) (m ((c.tc : Thread Cert.UpMixerIdeal.nD Cert.UpMixerIdeal.τ).loc Cert.UpMixerIdeal.main_arg6)) (m ((c.tc : Thread Cert.UpMixerIdeal.nD Cert.UpMixerIdeal.τ).loc Cert.UpMixerIdeal.main_arg7)) (m ((c.tc : Thread Cert.UpMixerIdeal.nD Cert.UpMixerIdeal.τ).loc Cert.UpMixerIdeal.main_arg8)) (m ((c.tc : Thread Cert.UpMixerIdeal.nD Cert.UpMixerIdeal.τ).loc Cert.UpMixerIdeal.main_arg9))).1 = (fun _ => 1#1)
    ∧ (Cert.Pre_up1_finite.fn (F := Ideal) (m ((c.tc : Thread Cert.UpMixerIdeal.nD Cert.UpMixerIdeal.τ).loc Cert.UpMixerIdeal.main_arg0)) (m ((c.tc : Thread Cert.UpMixerIdeal.nD Cert.UpMixerIdeal.τ).loc Cert.UpMixerIdeal.main_arg1)) (m ((c.tc : Thread Cert.UpMixerIdeal.nD Cert.UpMixerIdeal.τ).loc Cert.UpMixerIdeal.main_arg2)) (m ((c.tc : Thread Cert.UpMixerIdeal.nD Cert.UpMixerIdeal.τ).loc Cert.UpMixerIdeal.main_arg3)) (m ((c.tc : Thread Cert.UpMixerIdeal.nD Cert.UpMixerIdeal.τ).loc Cert.UpMixerIdeal.main_arg4)) (m ((c.tc : Thread Cert.UpMixerIdeal.nD Cert.UpMixerIdeal.τ).loc Cert.UpMixerIdeal.main_arg5)) (m ((c.tc : Thread Cert.UpMixerIdeal.nD Cert.UpMixerIdeal.τ).loc Cert.UpMixerIdeal.main_arg6)) (m ((c.tc : Thread Cert.UpMixerIdeal.nD Cert.UpMixerIdeal.τ).loc Cert.UpMixerIdeal.main_arg7)) (m ((c.tc : Thread Cert.UpMixerIdeal.nD Cert.UpMixerIdeal.τ).loc Cert.UpMixerIdeal.main_arg8)) (m ((c.tc : Thread Cert.UpMixerIdeal.nD Cert.UpMixerIdeal.τ).loc Cert.UpMixerIdeal.main_arg9))).2.1 = (fun _ => 1#1)
    ∧ (Cert.Pre_up1_finite.fn (F := Ideal) (m ((c.tc : Thread Cert.UpMixerIdeal.nD Cert.UpMixerIdeal.τ).loc Cert.UpMixerIdeal.main_arg0)) (m ((c.tc : Thread Cert.UpMixerIdeal.nD Cert.UpMixerIdeal.τ).loc Cert.UpMixerIdeal.main_arg1)) (m ((c.tc : Thread Cert.UpMixerIdeal.nD Cert.UpMixerIdeal.τ).loc Cert.UpMixerIdeal.main_arg2)) (m ((c.tc : Thread Cert.UpMixerIdeal.nD Cert.UpMixerIdeal.τ).loc Cert.UpMixerIdeal.main_arg3)) (m ((c.tc : Thread Cert.UpMixerIdeal.nD Cert.UpMixerIdeal.τ).loc Cert.UpMixerIdeal.main_arg4)) (m ((c.tc : Thread Cert.UpMixerIdeal.nD Cert.UpMixerIdeal.τ).loc Cert.UpMixerIdeal.main_arg5)) (m ((c.tc : Thread Cert.UpMixerIdeal.nD Cert.UpMixerIdeal.τ).loc Cert.UpMixerIdeal.main_arg6)) (m ((c.tc : Thread Cert.UpMixerIdeal.nD Cert.UpMixerIdeal.τ).loc Cert.UpMixerIdeal.main_arg7)) (m ((c.tc : Thread Cert.UpMixerIdeal.nD Cert.UpMixerIdeal.τ).loc Cert.UpMixerIdeal.main_arg8)) (m ((c.tc : Thread Cert.UpMixerIdeal.nD Cert.UpMixerIdeal.τ).loc Cert.UpMixerIdeal.main_arg9))).2.2.1 = (fun _ => 1#1)
    ∧ (Cert.Pre_up1_finite.fn (F := Ideal) (m ((c.tc : Thread Cert.UpMixerIdeal.nD Cert.UpMixerIdeal.τ).loc Cert.UpMixerIdeal.main_arg0)) (m ((c.tc : Thread Cert.UpMixerIdeal.nD Cert.UpMixerIdeal.τ).loc Cert.UpMixerIdeal.main_arg1)) (m ((c.tc : Thread Cert.UpMixerIdeal.nD Cert.UpMixerIdeal.τ).loc Cert.UpMixerIdeal.main_arg2)) (m ((c.tc : Thread Cert.UpMixerIdeal.nD Cert.UpMixerIdeal.τ).loc Cert.UpMixerIdeal.main_arg3)) (m ((c.tc : Thread Cert.UpMixerIdeal.nD Cert.UpMixerIdeal.τ).loc Cert.UpMixerIdeal.main_arg4)) (m ((c.tc : Thread Cert.UpMixerIdeal.nD Cert.UpMixerIdeal.τ).loc Cert.UpMixerIdeal.main_arg5)) (m ((c.tc : Thread Cert.UpMixerIdeal.nD Cert.UpMixerIdeal.τ).loc Cert.UpMixerIdeal.main_arg6)) (m ((c.tc : Thread Cert.UpMixerIdeal.nD Cert.UpMixerIdeal.τ).loc Cert.UpMixerIdeal.main_arg7)) (m ((c.tc : Thread Cert.UpMixerIdeal.nD Cert.UpMixerIdeal.τ).loc Cert.UpMixerIdeal.main_arg8)) (m ((c.tc : Thread Cert.UpMixerIdeal.nD Cert.UpMixerIdeal.τ).loc Cert.UpMixerIdeal.main_arg9))).2.2.2.1 = (fun _ => 1#1)
    ∧ (Cert.Pre_up1_finite.fn (F := Ideal) (m ((c.tc : Thread Cert.UpMixerIdeal.nD Cert.UpMixerIdeal.τ).loc Cert.UpMixerIdeal.main_arg0)) (m ((c.tc : Thread Cert.UpMixerIdeal.nD Cert.UpMixerIdeal.τ).loc Cert.UpMixerIdeal.main_arg1)) (m ((c.tc : Thread Cert.UpMixerIdeal.nD Cert.UpMixerIdeal.τ).loc Cert.UpMixerIdeal.main_arg2)) (m ((c.tc : Thread Cert.UpMixerIdeal.nD Cert.UpMixerIdeal.τ).loc Cert.UpMixerIdeal.main_arg3)) (m ((c.tc : Thread Cert.UpMixerIdeal.nD Cert.UpMixerIdeal.τ).loc Cert.UpMixerIdeal.main_arg4)) (m ((c.tc : Thread Cert.UpMixerIdeal.nD Cert.UpMixerIdeal.τ).loc Cert.UpMixerIdeal.main_arg5)) (m ((c.tc : Thread Cert.UpMixerIdeal.nD Cert.UpMixerIdeal.τ).loc Cert.UpMixerIdeal.main_arg6)) (m ((c.tc : Thread Cert.UpMixerIdeal.nD Cert.UpMixerIdeal.τ).loc Cert.UpMixerIdeal.main_arg7)) (m ((c.tc : Thread Cert.UpMixerIdeal.nD Cert.UpMixerIdeal.τ).loc Cert.UpMixerIdeal.main_arg8)) (m ((c.tc : Thread Cert.UpMixerIdeal.nD Cert.UpMixerIdeal.τ).loc Cert.UpMixerIdeal.main_arg9))).2.2.2.2.1 = (fun _ => 1#1)
    ∧ (Cert.Pre_up1_finite.fn (F := Ideal) (m ((c.tc : Thread Cert.UpMixerIdeal.nD Cert.UpMixerIdeal.τ).loc Cert.UpMixerIdeal.main_arg0)) (m ((c.tc : Thread Cert.UpMixerIdeal.nD Cert.UpMixerIdeal.τ).loc Cert.UpMixerIdeal.main_arg1)) (m ((c.tc : Thread Cert.UpMixerIdeal.nD Cert.UpMixerIdeal.τ).loc Cert.UpMixerIdeal.main_arg2)) (m ((c.tc : Thread Cert.UpMixerIdeal.nD Cert.UpMixerIdeal.τ).loc Cert.UpMixerIdeal.main_arg3)) (m ((c.tc : Thread Cert.UpMixerIdeal.nD Cert.UpMixerIdeal.τ).loc Cert.UpMixerIdeal.main_arg4)) (m ((c.tc : Thread Cert.UpMixerIdeal.nD Cert.UpMixerIdeal.τ).loc Cert.UpMixerIdeal.main_arg5)) (m ((c.tc : Thread Cert.UpMixerIdeal.nD Cert.UpMixerIdeal.τ).loc Cert.UpMixerIdeal.main_arg6)) (m ((c.tc : Thread Cert.UpMixerIdeal.nD Cert.UpMixerIdeal.τ).loc Cert.UpMixerIdeal.main_arg7)) (m ((c.tc : Thread Cert.UpMixerIdeal.nD Cert.UpMixerIdeal.τ).loc Cert.UpMixerIdeal.main_arg8)) (m ((c.tc : Thread Cert.UpMixerIdeal.nD Cert.UpMixerIdeal.τ).loc Cert.UpMixerIdeal.main_arg9))).2.2.2.2.2.1 = (fun _ => 1#1)
    ∧ (Cert.Pre_up1_finite.fn (F := Ideal) (m ((c.tc : Thread Cert.UpMixerIdeal.nD Cert.UpMixerIdeal.τ).loc Cert.UpMixerIdeal.main_arg0)) (m ((c.tc : Thread Cert.UpMixerIdeal.nD Cert.UpMixerIdeal.τ).loc Cert.UpMixerIdeal.main_arg1)) (m ((c.tc : Thread Cert.UpMixerIdeal.nD Cert.UpMixerIdeal.τ).loc Cert.UpMixerIdeal.main_arg2)) (m ((c.tc : Thread Cert.UpMixerIdeal.nD Cert.UpMixerIdeal.τ).loc Cert.UpMixerIdeal.main_arg3)) (m ((c.tc : Thread Cert.UpMixerIdeal.nD Cert.UpMixerIdeal.τ).loc Cert.UpMixerIdeal.main_arg4)) (m ((c.tc : Thread Cert.UpMixerIdeal.nD Cert.UpMixerIdeal.τ).loc Cert.UpMixerIdeal.main_arg5)) (m ((c.tc : Thread Cert.UpMixerIdeal.nD Cert.UpMixerIdeal.τ).loc Cert.UpMixerIdeal.main_arg6)) (m ((c.tc : Thread Cert.UpMixerIdeal.nD Cert.UpMixerIdeal.τ).loc Cert.UpMixerIdeal.main_arg7)) (m ((c.tc : Thread Cert.UpMixerIdeal.nD Cert.UpMixerIdeal.τ).loc Cert.UpMixerIdeal.main_arg8)) (m ((c.tc : Thread Cert.UpMixerIdeal.nD Cert.UpMixerIdeal.τ).loc Cert.UpMixerIdeal.main_arg9))).2.2.2.2.2.2.1 = (fun _ => 1#1)
    ∧ (Cert.Pre_up1_finite.fn (F := Ideal) (m ((c.tc : Thread Cert.UpMixerIdeal.nD Cert.UpMixerIdeal.τ).loc Cert.UpMixerIdeal.main_arg0)) (m ((c.tc : Thread Cert.UpMixerIdeal.nD Cert.UpMixerIdeal.τ).loc Cert.UpMixerIdeal.main_arg1)) (m ((c.tc : Thread Cert.UpMixerIdeal.nD Cert.UpMixerIdeal.τ).loc Cert.UpMixerIdeal.main_arg2)) (m ((c.tc : Thread Cert.UpMixerIdeal.nD Cert.UpMixerIdeal.τ).loc Cert.UpMixerIdeal.main_arg3)) (m ((c.tc : Thread Cert.UpMixerIdeal.nD Cert.UpMixerIdeal.τ).loc Cert.UpMixerIdeal.main_arg4)) (m ((c.tc : Thread Cert.UpMixerIdeal.nD Cert.UpMixerIdeal.τ).loc Cert.UpMixerIdeal.main_arg5)) (m ((c.tc : Thread Cert.UpMixerIdeal.nD Cert.UpMixerIdeal.τ).loc Cert.UpMixerIdeal.main_arg6)) (m ((c.tc : Thread Cert.UpMixerIdeal.nD Cert.UpMixerIdeal.τ).loc Cert.UpMixerIdeal.main_arg7)) (m ((c.tc : Thread Cert.UpMixerIdeal.nD Cert.UpMixerIdeal.τ).loc Cert.UpMixerIdeal.main_arg8)) (m ((c.tc : Thread Cert.UpMixerIdeal.nD Cert.UpMixerIdeal.τ).loc Cert.UpMixerIdeal.main_arg9))).2.2.2.2.2.2.2 = (fun _ => 1#1)

def Pre_UpMixerRefIdeal (m : (ℓ : Loc Cert.UpMixerRefIdeal.nD Cert.UpMixerRefIdeal.τ Cert.UpMixerRefIdeal.sig) → Buf (Elt Ideal) ℓ) : Prop :=
  True

def Pre_UpMixerRefIdeal_up1_finite [hPre_up1_finite : Cert.Pre_up1_finite.Facts] (m : (ℓ : Loc Cert.UpMixerRefIdeal.nD Cert.UpMixerRefIdeal.τ Cert.UpMixerRefIdeal.sig) → Buf (Elt Ideal) ℓ) : Prop :=
  ∀ c : Dev Cert.UpMixerRefIdeal.nD,
    (Cert.Pre_up1_finite.fn (F := Ideal) (m ((c.tc : Thread Cert.UpMixerRefIdeal.nD Cert.UpMixerRefIdeal.τ).loc Cert.UpMixerRefIdeal.main_arg0)) (m ((c.tc : Thread Cert.UpMixerRefIdeal.nD Cert.UpMixerRefIdeal.τ).loc Cert.UpMixerRefIdeal.main_arg1)) (m ((c.tc : Thread Cert.UpMixerRefIdeal.nD Cert.UpMixerRefIdeal.τ).loc Cert.UpMixerRefIdeal.main_arg2)) (m ((c.tc : Thread Cert.UpMixerRefIdeal.nD Cert.UpMixerRefIdeal.τ).loc Cert.UpMixerRefIdeal.main_arg3)) (m ((c.tc : Thread Cert.UpMixerRefIdeal.nD Cert.UpMixerRefIdeal.τ).loc Cert.UpMixerRefIdeal.main_arg4)) (m ((c.tc : Thread Cert.UpMixerRefIdeal.nD Cert.UpMixerRefIdeal.τ).loc Cert.UpMixerRefIdeal.main_arg5)) (m ((c.tc : Thread Cert.UpMixerRefIdeal.nD Cert.UpMixerRefIdeal.τ).loc Cert.UpMixerRefIdeal.main_arg6)) (m ((c.tc : Thread Cert.UpMixerRefIdeal.nD Cert.UpMixerRefIdeal.τ).loc Cert.UpMixerRefIdeal.main_arg7)) (m ((c.tc : Thread Cert.UpMixerRefIdeal.nD Cert.UpMixerRefIdeal.τ).loc Cert.UpMixerRefIdeal.main_arg8)) (m ((c.tc : Thread Cert.UpMixerRefIdeal.nD Cert.UpMixerRefIdeal.τ).loc Cert.UpMixerRefIdeal.main_arg9))).1 = (fun _ => 1#1)
    ∧ (Cert.Pre_up1_finite.fn (F := Ideal) (m ((c.tc : Thread Cert.UpMixerRefIdeal.nD Cert.UpMixerRefIdeal.τ).loc Cert.UpMixerRefIdeal.main_arg0)) (m ((c.tc : Thread Cert.UpMixerRefIdeal.nD Cert.UpMixerRefIdeal.τ).loc Cert.UpMixerRefIdeal.main_arg1)) (m ((c.tc : Thread Cert.UpMixerRefIdeal.nD Cert.UpMixerRefIdeal.τ).loc Cert.UpMixerRefIdeal.main_arg2)) (m ((c.tc : Thread Cert.UpMixerRefIdeal.nD Cert.UpMixerRefIdeal.τ).loc Cert.UpMixerRefIdeal.main_arg3)) (m ((c.tc : Thread Cert.UpMixerRefIdeal.nD Cert.UpMixerRefIdeal.τ).loc Cert.UpMixerRefIdeal.main_arg4)) (m ((c.tc : Thread Cert.UpMixerRefIdeal.nD Cert.UpMixerRefIdeal.τ).loc Cert.UpMixerRefIdeal.main_arg5)) (m ((c.tc : Thread Cert.UpMixerRefIdeal.nD Cert.UpMixerRefIdeal.τ).loc Cert.UpMixerRefIdeal.main_arg6)) (m ((c.tc : Thread Cert.UpMixerRefIdeal.nD Cert.UpMixerRefIdeal.τ).loc Cert.UpMixerRefIdeal.main_arg7)) (m ((c.tc : Thread Cert.UpMixerRefIdeal.nD Cert.UpMixerRefIdeal.τ).loc Cert.UpMixerRefIdeal.main_arg8)) (m ((c.tc : Thread Cert.UpMixerRefIdeal.nD Cert.UpMixerRefIdeal.τ).loc Cert.UpMixerRefIdeal.main_arg9))).2.1 = (fun _ => 1#1)
    ∧ (Cert.Pre_up1_finite.fn (F := Ideal) (m ((c.tc : Thread Cert.UpMixerRefIdeal.nD Cert.UpMixerRefIdeal.τ).loc Cert.UpMixerRefIdeal.main_arg0)) (m ((c.tc : Thread Cert.UpMixerRefIdeal.nD Cert.UpMixerRefIdeal.τ).loc Cert.UpMixerRefIdeal.main_arg1)) (m ((c.tc : Thread Cert.UpMixerRefIdeal.nD Cert.UpMixerRefIdeal.τ).loc Cert.UpMixerRefIdeal.main_arg2)) (m ((c.tc : Thread Cert.UpMixerRefIdeal.nD Cert.UpMixerRefIdeal.τ).loc Cert.UpMixerRefIdeal.main_arg3)) (m ((c.tc : Thread Cert.UpMixerRefIdeal.nD Cert.UpMixerRefIdeal.τ).loc Cert.UpMixerRefIdeal.main_arg4)) (m ((c.tc : Thread Cert.UpMixerRefIdeal.nD Cert.UpMixerRefIdeal.τ).loc Cert.UpMixerRefIdeal.main_arg5)) (m ((c.tc : Thread Cert.UpMixerRefIdeal.nD Cert.UpMixerRefIdeal.τ).loc Cert.UpMixerRefIdeal.main_arg6)) (m ((c.tc : Thread Cert.UpMixerRefIdeal.nD Cert.UpMixerRefIdeal.τ).loc Cert.UpMixerRefIdeal.main_arg7)) (m ((c.tc : Thread Cert.UpMixerRefIdeal.nD Cert.UpMixerRefIdeal.τ).loc Cert.UpMixerRefIdeal.main_arg8)) (m ((c.tc : Thread Cert.UpMixerRefIdeal.nD Cert.UpMixerRefIdeal.τ).loc Cert.UpMixerRefIdeal.main_arg9))).2.2.1 = (fun _ => 1#1)
    ∧ (Cert.Pre_up1_finite.fn (F := Ideal) (m ((c.tc : Thread Cert.UpMixerRefIdeal.nD Cert.UpMixerRefIdeal.τ).loc Cert.UpMixerRefIdeal.main_arg0)) (m ((c.tc : Thread Cert.UpMixerRefIdeal.nD Cert.UpMixerRefIdeal.τ).loc Cert.UpMixerRefIdeal.main_arg1)) (m ((c.tc : Thread Cert.UpMixerRefIdeal.nD Cert.UpMixerRefIdeal.τ).loc Cert.UpMixerRefIdeal.main_arg2)) (m ((c.tc : Thread Cert.UpMixerRefIdeal.nD Cert.UpMixerRefIdeal.τ).loc Cert.UpMixerRefIdeal.main_arg3)) (m ((c.tc : Thread Cert.UpMixerRefIdeal.nD Cert.UpMixerRefIdeal.τ).loc Cert.UpMixerRefIdeal.main_arg4)) (m ((c.tc : Thread Cert.UpMixerRefIdeal.nD Cert.UpMixerRefIdeal.τ).loc Cert.UpMixerRefIdeal.main_arg5)) (m ((c.tc : Thread Cert.UpMixerRefIdeal.nD Cert.UpMixerRefIdeal.τ).loc Cert.UpMixerRefIdeal.main_arg6)) (m ((c.tc : Thread Cert.UpMixerRefIdeal.nD Cert.UpMixerRefIdeal.τ).loc Cert.UpMixerRefIdeal.main_arg7)) (m ((c.tc : Thread Cert.UpMixerRefIdeal.nD Cert.UpMixerRefIdeal.τ).loc Cert.UpMixerRefIdeal.main_arg8)) (m ((c.tc : Thread Cert.UpMixerRefIdeal.nD Cert.UpMixerRefIdeal.τ).loc Cert.UpMixerRefIdeal.main_arg9))).2.2.2.1 = (fun _ => 1#1)
    ∧ (Cert.Pre_up1_finite.fn (F := Ideal) (m ((c.tc : Thread Cert.UpMixerRefIdeal.nD Cert.UpMixerRefIdeal.τ).loc Cert.UpMixerRefIdeal.main_arg0)) (m ((c.tc : Thread Cert.UpMixerRefIdeal.nD Cert.UpMixerRefIdeal.τ).loc Cert.UpMixerRefIdeal.main_arg1)) (m ((c.tc : Thread Cert.UpMixerRefIdeal.nD Cert.UpMixerRefIdeal.τ).loc Cert.UpMixerRefIdeal.main_arg2)) (m ((c.tc : Thread Cert.UpMixerRefIdeal.nD Cert.UpMixerRefIdeal.τ).loc Cert.UpMixerRefIdeal.main_arg3)) (m ((c.tc : Thread Cert.UpMixerRefIdeal.nD Cert.UpMixerRefIdeal.τ).loc Cert.UpMixerRefIdeal.main_arg4)) (m ((c.tc : Thread Cert.UpMixerRefIdeal.nD Cert.UpMixerRefIdeal.τ).loc Cert.UpMixerRefIdeal.main_arg5)) (m ((c.tc : Thread Cert.UpMixerRefIdeal.nD Cert.UpMixerRefIdeal.τ).loc Cert.UpMixerRefIdeal.main_arg6)) (m ((c.tc : Thread Cert.UpMixerRefIdeal.nD Cert.UpMixerRefIdeal.τ).loc Cert.UpMixerRefIdeal.main_arg7)) (m ((c.tc : Thread Cert.UpMixerRefIdeal.nD Cert.UpMixerRefIdeal.τ).loc Cert.UpMixerRefIdeal.main_arg8)) (m ((c.tc : Thread Cert.UpMixerRefIdeal.nD Cert.UpMixerRefIdeal.τ).loc Cert.UpMixerRefIdeal.main_arg9))).2.2.2.2.1 = (fun _ => 1#1)
    ∧ (Cert.Pre_up1_finite.fn (F := Ideal) (m ((c.tc : Thread Cert.UpMixerRefIdeal.nD Cert.UpMixerRefIdeal.τ).loc Cert.UpMixerRefIdeal.main_arg0)) (m ((c.tc : Thread Cert.UpMixerRefIdeal.nD Cert.UpMixerRefIdeal.τ).loc Cert.UpMixerRefIdeal.main_arg1)) (m ((c.tc : Thread Cert.UpMixerRefIdeal.nD Cert.UpMixerRefIdeal.τ).loc Cert.UpMixerRefIdeal.main_arg2)) (m ((c.tc : Thread Cert.UpMixerRefIdeal.nD Cert.UpMixerRefIdeal.τ).loc Cert.UpMixerRefIdeal.main_arg3)) (m ((c.tc : Thread Cert.UpMixerRefIdeal.nD Cert.UpMixerRefIdeal.τ).loc Cert.UpMixerRefIdeal.main_arg4)) (m ((c.tc : Thread Cert.UpMixerRefIdeal.nD Cert.UpMixerRefIdeal.τ).loc Cert.UpMixerRefIdeal.main_arg5)) (m ((c.tc : Thread Cert.UpMixerRefIdeal.nD Cert.UpMixerRefIdeal.τ).loc Cert.UpMixerRefIdeal.main_arg6)) (m ((c.tc : Thread Cert.UpMixerRefIdeal.nD Cert.UpMixerRefIdeal.τ).loc Cert.UpMixerRefIdeal.main_arg7)) (m ((c.tc : Thread Cert.UpMixerRefIdeal.nD Cert.UpMixerRefIdeal.τ).loc Cert.UpMixerRefIdeal.main_arg8)) (m ((c.tc : Thread Cert.UpMixerRefIdeal.nD Cert.UpMixerRefIdeal.τ).loc Cert.UpMixerRefIdeal.main_arg9))).2.2.2.2.2.1 = (fun _ => 1#1)
    ∧ (Cert.Pre_up1_finite.fn (F := Ideal) (m ((c.tc : Thread Cert.UpMixerRefIdeal.nD Cert.UpMixerRefIdeal.τ).loc Cert.UpMixerRefIdeal.main_arg0)) (m ((c.tc : Thread Cert.UpMixerRefIdeal.nD Cert.UpMixerRefIdeal.τ).loc Cert.UpMixerRefIdeal.main_arg1)) (m ((c.tc : Thread Cert.UpMixerRefIdeal.nD Cert.UpMixerRefIdeal.τ).loc Cert.UpMixerRefIdeal.main_arg2)) (m ((c.tc : Thread Cert.UpMixerRefIdeal.nD Cert.UpMixerRefIdeal.τ).loc Cert.UpMixerRefIdeal.main_arg3)) (m ((c.tc : Thread Cert.UpMixerRefIdeal.nD Cert.UpMixerRefIdeal.τ).loc Cert.UpMixerRefIdeal.main_arg4)) (m ((c.tc : Thread Cert.UpMixerRefIdeal.nD Cert.UpMixerRefIdeal.τ).loc Cert.UpMixerRefIdeal.main_arg5)) (m ((c.tc : Thread Cert.UpMixerRefIdeal.nD Cert.UpMixerRefIdeal.τ).loc Cert.UpMixerRefIdeal.main_arg6)) (m ((c.tc : Thread Cert.UpMixerRefIdeal.nD Cert.UpMixerRefIdeal.τ).loc Cert.UpMixerRefIdeal.main_arg7)) (m ((c.tc : Thread Cert.UpMixerRefIdeal.nD Cert.UpMixerRefIdeal.τ).loc Cert.UpMixerRefIdeal.main_arg8)) (m ((c.tc : Thread Cert.UpMixerRefIdeal.nD Cert.UpMixerRefIdeal.τ).loc Cert.UpMixerRefIdeal.main_arg9))).2.2.2.2.2.2.1 = (fun _ => 1#1)
    ∧ (Cert.Pre_up1_finite.fn (F := Ideal) (m ((c.tc : Thread Cert.UpMixerRefIdeal.nD Cert.UpMixerRefIdeal.τ).loc Cert.UpMixerRefIdeal.main_arg0)) (m ((c.tc : Thread Cert.UpMixerRefIdeal.nD Cert.UpMixerRefIdeal.τ).loc Cert.UpMixerRefIdeal.main_arg1)) (m ((c.tc : Thread Cert.UpMixerRefIdeal.nD Cert.UpMixerRefIdeal.τ).loc Cert.UpMixerRefIdeal.main_arg2)) (m ((c.tc : Thread Cert.UpMixerRefIdeal.nD Cert.UpMixerRefIdeal.τ).loc Cert.UpMixerRefIdeal.main_arg3)) (m ((c.tc : Thread Cert.UpMixerRefIdeal.nD Cert.UpMixerRefIdeal.τ).loc Cert.UpMixerRefIdeal.main_arg4)) (m ((c.tc : Thread Cert.UpMixerRefIdeal.nD Cert.UpMixerRefIdeal.τ).loc Cert.UpMixerRefIdeal.main_arg5)) (m ((c.tc : Thread Cert.UpMixerRefIdeal.nD Cert.UpMixerRefIdeal.τ).loc Cert.UpMixerRefIdeal.main_arg6)) (m ((c.tc : Thread Cert.UpMixerRefIdeal.nD Cert.UpMixerRefIdeal.τ).loc Cert.UpMixerRefIdeal.main_arg7)) (m ((c.tc : Thread Cert.UpMixerRefIdeal.nD Cert.UpMixerRefIdeal.τ).loc Cert.UpMixerRefIdeal.main_arg8)) (m ((c.tc : Thread Cert.UpMixerRefIdeal.nD Cert.UpMixerRefIdeal.τ).loc Cert.UpMixerRefIdeal.main_arg9))).2.2.2.2.2.2.2 = (fun _ => 1#1)

def Pre_LossLn (m : (ℓ : Loc Cert.LossLn.nD Cert.LossLn.τ Cert.LossLn.sig) → Buf (Elt Bits) ℓ) : Prop :=
  True

def Pre_LossLnIdeal (m : (ℓ : Loc Cert.LossLnIdeal.nD Cert.LossLnIdeal.τ Cert.LossLnIdeal.sig) → Buf (Elt Ideal) ℓ) : Prop :=
  True

def Pre_LossLnIdeal_loss_finite [hPre_loss_finite : Cert.Pre_loss_finite.Facts] (m : (ℓ : Loc Cert.LossLnIdeal.nD Cert.LossLnIdeal.τ Cert.LossLnIdeal.sig) → Buf (Elt Ideal) ℓ) : Prop :=
  ∀ c : Dev Cert.LossLnIdeal.nD,
    (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.2.1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.2.2.1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.2.2.2.1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.2.2.2.2 = (fun _ => 1#1)

def Pre_LossLnRefIdeal (m : (ℓ : Loc Cert.LossLnRefIdeal.nD Cert.LossLnRefIdeal.τ Cert.LossLnRefIdeal.sig) → Buf (Elt Ideal) ℓ) : Prop :=
  True

def Pre_LossLnRefIdeal_loss_finite [hPre_loss_finite : Cert.Pre_loss_finite.Facts] (m : (ℓ : Loc Cert.LossLnRefIdeal.nD Cert.LossLnRefIdeal.τ Cert.LossLnRefIdeal.sig) → Buf (Elt Ideal) ℓ) : Prop :=
  ∀ c : Dev Cert.LossLnRefIdeal.nD,
    (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.2.1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.2.2.1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.2.2.2.1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.2.2.2.2 = (fun _ => 1#1)

def Pre_UpFfn (m : (ℓ : Loc Cert.UpFfn.nD Cert.UpFfn.τ Cert.UpFfn.sig) → Buf (Elt Bits) ℓ) : Prop :=
  True

def Pre_UpFfnIdeal (m : (ℓ : Loc Cert.UpFfnIdeal.nD Cert.UpFfnIdeal.τ Cert.UpFfnIdeal.sig) → Buf (Elt Ideal) ℓ) : Prop :=
  True

def Pre_UpFfnIdeal_up2_finite [hPre_up2_finite : Cert.Pre_up2_finite.Facts] (m : (ℓ : Loc Cert.UpFfnIdeal.nD Cert.UpFfnIdeal.τ Cert.UpFfnIdeal.sig) → Buf (Elt Ideal) ℓ) : Prop :=
  ∀ c : Dev Cert.UpFfnIdeal.nD,
    (Cert.Pre_up2_finite.fn (F := Ideal) (m ((c.tc : Thread Cert.UpFfnIdeal.nD Cert.UpFfnIdeal.τ).loc Cert.UpFfnIdeal.main_arg0)) (m ((c.tc : Thread Cert.UpFfnIdeal.nD Cert.UpFfnIdeal.τ).loc Cert.UpFfnIdeal.main_arg1)) (m ((c.tc : Thread Cert.UpFfnIdeal.nD Cert.UpFfnIdeal.τ).loc Cert.UpFfnIdeal.main_arg2)) (m ((c.tc : Thread Cert.UpFfnIdeal.nD Cert.UpFfnIdeal.τ).loc Cert.UpFfnIdeal.main_arg3)) (m ((c.tc : Thread Cert.UpFfnIdeal.nD Cert.UpFfnIdeal.τ).loc Cert.UpFfnIdeal.main_arg4)) (m ((c.tc : Thread Cert.UpFfnIdeal.nD Cert.UpFfnIdeal.τ).loc Cert.UpFfnIdeal.main_arg5)) (m ((c.tc : Thread Cert.UpFfnIdeal.nD Cert.UpFfnIdeal.τ).loc Cert.UpFfnIdeal.main_arg6)) (m ((c.tc : Thread Cert.UpFfnIdeal.nD Cert.UpFfnIdeal.τ).loc Cert.UpFfnIdeal.main_arg7)) (m ((c.tc : Thread Cert.UpFfnIdeal.nD Cert.UpFfnIdeal.τ).loc Cert.UpFfnIdeal.main_arg8)) (m ((c.tc : Thread Cert.UpFfnIdeal.nD Cert.UpFfnIdeal.τ).loc Cert.UpFfnIdeal.main_arg9))).1 = (fun _ => 1#1)
    ∧ (Cert.Pre_up2_finite.fn (F := Ideal) (m ((c.tc : Thread Cert.UpFfnIdeal.nD Cert.UpFfnIdeal.τ).loc Cert.UpFfnIdeal.main_arg0)) (m ((c.tc : Thread Cert.UpFfnIdeal.nD Cert.UpFfnIdeal.τ).loc Cert.UpFfnIdeal.main_arg1)) (m ((c.tc : Thread Cert.UpFfnIdeal.nD Cert.UpFfnIdeal.τ).loc Cert.UpFfnIdeal.main_arg2)) (m ((c.tc : Thread Cert.UpFfnIdeal.nD Cert.UpFfnIdeal.τ).loc Cert.UpFfnIdeal.main_arg3)) (m ((c.tc : Thread Cert.UpFfnIdeal.nD Cert.UpFfnIdeal.τ).loc Cert.UpFfnIdeal.main_arg4)) (m ((c.tc : Thread Cert.UpFfnIdeal.nD Cert.UpFfnIdeal.τ).loc Cert.UpFfnIdeal.main_arg5)) (m ((c.tc : Thread Cert.UpFfnIdeal.nD Cert.UpFfnIdeal.τ).loc Cert.UpFfnIdeal.main_arg6)) (m ((c.tc : Thread Cert.UpFfnIdeal.nD Cert.UpFfnIdeal.τ).loc Cert.UpFfnIdeal.main_arg7)) (m ((c.tc : Thread Cert.UpFfnIdeal.nD Cert.UpFfnIdeal.τ).loc Cert.UpFfnIdeal.main_arg8)) (m ((c.tc : Thread Cert.UpFfnIdeal.nD Cert.UpFfnIdeal.τ).loc Cert.UpFfnIdeal.main_arg9))).2.1 = (fun _ => 1#1)
    ∧ (Cert.Pre_up2_finite.fn (F := Ideal) (m ((c.tc : Thread Cert.UpFfnIdeal.nD Cert.UpFfnIdeal.τ).loc Cert.UpFfnIdeal.main_arg0)) (m ((c.tc : Thread Cert.UpFfnIdeal.nD Cert.UpFfnIdeal.τ).loc Cert.UpFfnIdeal.main_arg1)) (m ((c.tc : Thread Cert.UpFfnIdeal.nD Cert.UpFfnIdeal.τ).loc Cert.UpFfnIdeal.main_arg2)) (m ((c.tc : Thread Cert.UpFfnIdeal.nD Cert.UpFfnIdeal.τ).loc Cert.UpFfnIdeal.main_arg3)) (m ((c.tc : Thread Cert.UpFfnIdeal.nD Cert.UpFfnIdeal.τ).loc Cert.UpFfnIdeal.main_arg4)) (m ((c.tc : Thread Cert.UpFfnIdeal.nD Cert.UpFfnIdeal.τ).loc Cert.UpFfnIdeal.main_arg5)) (m ((c.tc : Thread Cert.UpFfnIdeal.nD Cert.UpFfnIdeal.τ).loc Cert.UpFfnIdeal.main_arg6)) (m ((c.tc : Thread Cert.UpFfnIdeal.nD Cert.UpFfnIdeal.τ).loc Cert.UpFfnIdeal.main_arg7)) (m ((c.tc : Thread Cert.UpFfnIdeal.nD Cert.UpFfnIdeal.τ).loc Cert.UpFfnIdeal.main_arg8)) (m ((c.tc : Thread Cert.UpFfnIdeal.nD Cert.UpFfnIdeal.τ).loc Cert.UpFfnIdeal.main_arg9))).2.2.1 = (fun _ => 1#1)
    ∧ (Cert.Pre_up2_finite.fn (F := Ideal) (m ((c.tc : Thread Cert.UpFfnIdeal.nD Cert.UpFfnIdeal.τ).loc Cert.UpFfnIdeal.main_arg0)) (m ((c.tc : Thread Cert.UpFfnIdeal.nD Cert.UpFfnIdeal.τ).loc Cert.UpFfnIdeal.main_arg1)) (m ((c.tc : Thread Cert.UpFfnIdeal.nD Cert.UpFfnIdeal.τ).loc Cert.UpFfnIdeal.main_arg2)) (m ((c.tc : Thread Cert.UpFfnIdeal.nD Cert.UpFfnIdeal.τ).loc Cert.UpFfnIdeal.main_arg3)) (m ((c.tc : Thread Cert.UpFfnIdeal.nD Cert.UpFfnIdeal.τ).loc Cert.UpFfnIdeal.main_arg4)) (m ((c.tc : Thread Cert.UpFfnIdeal.nD Cert.UpFfnIdeal.τ).loc Cert.UpFfnIdeal.main_arg5)) (m ((c.tc : Thread Cert.UpFfnIdeal.nD Cert.UpFfnIdeal.τ).loc Cert.UpFfnIdeal.main_arg6)) (m ((c.tc : Thread Cert.UpFfnIdeal.nD Cert.UpFfnIdeal.τ).loc Cert.UpFfnIdeal.main_arg7)) (m ((c.tc : Thread Cert.UpFfnIdeal.nD Cert.UpFfnIdeal.τ).loc Cert.UpFfnIdeal.main_arg8)) (m ((c.tc : Thread Cert.UpFfnIdeal.nD Cert.UpFfnIdeal.τ).loc Cert.UpFfnIdeal.main_arg9))).2.2.2.1 = (fun _ => 1#1)
    ∧ (Cert.Pre_up2_finite.fn (F := Ideal) (m ((c.tc : Thread Cert.UpFfnIdeal.nD Cert.UpFfnIdeal.τ).loc Cert.UpFfnIdeal.main_arg0)) (m ((c.tc : Thread Cert.UpFfnIdeal.nD Cert.UpFfnIdeal.τ).loc Cert.UpFfnIdeal.main_arg1)) (m ((c.tc : Thread Cert.UpFfnIdeal.nD Cert.UpFfnIdeal.τ).loc Cert.UpFfnIdeal.main_arg2)) (m ((c.tc : Thread Cert.UpFfnIdeal.nD Cert.UpFfnIdeal.τ).loc Cert.UpFfnIdeal.main_arg3)) (m ((c.tc : Thread Cert.UpFfnIdeal.nD Cert.UpFfnIdeal.τ).loc Cert.UpFfnIdeal.main_arg4)) (m ((c.tc : Thread Cert.UpFfnIdeal.nD Cert.UpFfnIdeal.τ).loc Cert.UpFfnIdeal.main_arg5)) (m ((c.tc : Thread Cert.UpFfnIdeal.nD Cert.UpFfnIdeal.τ).loc Cert.UpFfnIdeal.main_arg6)) (m ((c.tc : Thread Cert.UpFfnIdeal.nD Cert.UpFfnIdeal.τ).loc Cert.UpFfnIdeal.main_arg7)) (m ((c.tc : Thread Cert.UpFfnIdeal.nD Cert.UpFfnIdeal.τ).loc Cert.UpFfnIdeal.main_arg8)) (m ((c.tc : Thread Cert.UpFfnIdeal.nD Cert.UpFfnIdeal.τ).loc Cert.UpFfnIdeal.main_arg9))).2.2.2.2.1 = (fun _ => 1#1)
    ∧ (Cert.Pre_up2_finite.fn (F := Ideal) (m ((c.tc : Thread Cert.UpFfnIdeal.nD Cert.UpFfnIdeal.τ).loc Cert.UpFfnIdeal.main_arg0)) (m ((c.tc : Thread Cert.UpFfnIdeal.nD Cert.UpFfnIdeal.τ).loc Cert.UpFfnIdeal.main_arg1)) (m ((c.tc : Thread Cert.UpFfnIdeal.nD Cert.UpFfnIdeal.τ).loc Cert.UpFfnIdeal.main_arg2)) (m ((c.tc : Thread Cert.UpFfnIdeal.nD Cert.UpFfnIdeal.τ).loc Cert.UpFfnIdeal.main_arg3)) (m ((c.tc : Thread Cert.UpFfnIdeal.nD Cert.UpFfnIdeal.τ).loc Cert.UpFfnIdeal.main_arg4)) (m ((c.tc : Thread Cert.UpFfnIdeal.nD Cert.UpFfnIdeal.τ).loc Cert.UpFfnIdeal.main_arg5)) (m ((c.tc : Thread Cert.UpFfnIdeal.nD Cert.UpFfnIdeal.τ).loc Cert.UpFfnIdeal.main_arg6)) (m ((c.tc : Thread Cert.UpFfnIdeal.nD Cert.UpFfnIdeal.τ).loc Cert.UpFfnIdeal.main_arg7)) (m ((c.tc : Thread Cert.UpFfnIdeal.nD Cert.UpFfnIdeal.τ).loc Cert.UpFfnIdeal.main_arg8)) (m ((c.tc : Thread Cert.UpFfnIdeal.nD Cert.UpFfnIdeal.τ).loc Cert.UpFfnIdeal.main_arg9))).2.2.2.2.2.1 = (fun _ => 1#1)
    ∧ (Cert.Pre_up2_finite.fn (F := Ideal) (m ((c.tc : Thread Cert.UpFfnIdeal.nD Cert.UpFfnIdeal.τ).loc Cert.UpFfnIdeal.main_arg0)) (m ((c.tc : Thread Cert.UpFfnIdeal.nD Cert.UpFfnIdeal.τ).loc Cert.UpFfnIdeal.main_arg1)) (m ((c.tc : Thread Cert.UpFfnIdeal.nD Cert.UpFfnIdeal.τ).loc Cert.UpFfnIdeal.main_arg2)) (m ((c.tc : Thread Cert.UpFfnIdeal.nD Cert.UpFfnIdeal.τ).loc Cert.UpFfnIdeal.main_arg3)) (m ((c.tc : Thread Cert.UpFfnIdeal.nD Cert.UpFfnIdeal.τ).loc Cert.UpFfnIdeal.main_arg4)) (m ((c.tc : Thread Cert.UpFfnIdeal.nD Cert.UpFfnIdeal.τ).loc Cert.UpFfnIdeal.main_arg5)) (m ((c.tc : Thread Cert.UpFfnIdeal.nD Cert.UpFfnIdeal.τ).loc Cert.UpFfnIdeal.main_arg6)) (m ((c.tc : Thread Cert.UpFfnIdeal.nD Cert.UpFfnIdeal.τ).loc Cert.UpFfnIdeal.main_arg7)) (m ((c.tc : Thread Cert.UpFfnIdeal.nD Cert.UpFfnIdeal.τ).loc Cert.UpFfnIdeal.main_arg8)) (m ((c.tc : Thread Cert.UpFfnIdeal.nD Cert.UpFfnIdeal.τ).loc Cert.UpFfnIdeal.main_arg9))).2.2.2.2.2.2.1 = (fun _ => 1#1)
    ∧ (Cert.Pre_up2_finite.fn (F := Ideal) (m ((c.tc : Thread Cert.UpFfnIdeal.nD Cert.UpFfnIdeal.τ).loc Cert.UpFfnIdeal.main_arg0)) (m ((c.tc : Thread Cert.UpFfnIdeal.nD Cert.UpFfnIdeal.τ).loc Cert.UpFfnIdeal.main_arg1)) (m ((c.tc : Thread Cert.UpFfnIdeal.nD Cert.UpFfnIdeal.τ).loc Cert.UpFfnIdeal.main_arg2)) (m ((c.tc : Thread Cert.UpFfnIdeal.nD Cert.UpFfnIdeal.τ).loc Cert.UpFfnIdeal.main_arg3)) (m ((c.tc : Thread Cert.UpFfnIdeal.nD Cert.UpFfnIdeal.τ).loc Cert.UpFfnIdeal.main_arg4)) (m ((c.tc : Thread Cert.UpFfnIdeal.nD Cert.UpFfnIdeal.τ).loc Cert.UpFfnIdeal.main_arg5)) (m ((c.tc : Thread Cert.UpFfnIdeal.nD Cert.UpFfnIdeal.τ).loc Cert.UpFfnIdeal.main_arg6)) (m ((c.tc : Thread Cert.UpFfnIdeal.nD Cert.UpFfnIdeal.τ).loc Cert.UpFfnIdeal.main_arg7)) (m ((c.tc : Thread Cert.UpFfnIdeal.nD Cert.UpFfnIdeal.τ).loc Cert.UpFfnIdeal.main_arg8)) (m ((c.tc : Thread Cert.UpFfnIdeal.nD Cert.UpFfnIdeal.τ).loc Cert.UpFfnIdeal.main_arg9))).2.2.2.2.2.2.2 = (fun _ => 1#1)

def Pre_UpFfnRefIdeal (m : (ℓ : Loc Cert.UpFfnRefIdeal.nD Cert.UpFfnRefIdeal.τ Cert.UpFfnRefIdeal.sig) → Buf (Elt Ideal) ℓ) : Prop :=
  True

def Pre_UpFfnRefIdeal_up2_finite [hPre_up2_finite : Cert.Pre_up2_finite.Facts] (m : (ℓ : Loc Cert.UpFfnRefIdeal.nD Cert.UpFfnRefIdeal.τ Cert.UpFfnRefIdeal.sig) → Buf (Elt Ideal) ℓ) : Prop :=
  ∀ c : Dev Cert.UpFfnRefIdeal.nD,
    (Cert.Pre_up2_finite.fn (F := Ideal) (m ((c.tc : Thread Cert.UpFfnRefIdeal.nD Cert.UpFfnRefIdeal.τ).loc Cert.UpFfnRefIdeal.main_arg0)) (m ((c.tc : Thread Cert.UpFfnRefIdeal.nD Cert.UpFfnRefIdeal.τ).loc Cert.UpFfnRefIdeal.main_arg1)) (m ((c.tc : Thread Cert.UpFfnRefIdeal.nD Cert.UpFfnRefIdeal.τ).loc Cert.UpFfnRefIdeal.main_arg2)) (m ((c.tc : Thread Cert.UpFfnRefIdeal.nD Cert.UpFfnRefIdeal.τ).loc Cert.UpFfnRefIdeal.main_arg3)) (m ((c.tc : Thread Cert.UpFfnRefIdeal.nD Cert.UpFfnRefIdeal.τ).loc Cert.UpFfnRefIdeal.main_arg4)) (m ((c.tc : Thread Cert.UpFfnRefIdeal.nD Cert.UpFfnRefIdeal.τ).loc Cert.UpFfnRefIdeal.main_arg5)) (m ((c.tc : Thread Cert.UpFfnRefIdeal.nD Cert.UpFfnRefIdeal.τ).loc Cert.UpFfnRefIdeal.main_arg6)) (m ((c.tc : Thread Cert.UpFfnRefIdeal.nD Cert.UpFfnRefIdeal.τ).loc Cert.UpFfnRefIdeal.main_arg7)) (m ((c.tc : Thread Cert.UpFfnRefIdeal.nD Cert.UpFfnRefIdeal.τ).loc Cert.UpFfnRefIdeal.main_arg8)) (m ((c.tc : Thread Cert.UpFfnRefIdeal.nD Cert.UpFfnRefIdeal.τ).loc Cert.UpFfnRefIdeal.main_arg9))).1 = (fun _ => 1#1)
    ∧ (Cert.Pre_up2_finite.fn (F := Ideal) (m ((c.tc : Thread Cert.UpFfnRefIdeal.nD Cert.UpFfnRefIdeal.τ).loc Cert.UpFfnRefIdeal.main_arg0)) (m ((c.tc : Thread Cert.UpFfnRefIdeal.nD Cert.UpFfnRefIdeal.τ).loc Cert.UpFfnRefIdeal.main_arg1)) (m ((c.tc : Thread Cert.UpFfnRefIdeal.nD Cert.UpFfnRefIdeal.τ).loc Cert.UpFfnRefIdeal.main_arg2)) (m ((c.tc : Thread Cert.UpFfnRefIdeal.nD Cert.UpFfnRefIdeal.τ).loc Cert.UpFfnRefIdeal.main_arg3)) (m ((c.tc : Thread Cert.UpFfnRefIdeal.nD Cert.UpFfnRefIdeal.τ).loc Cert.UpFfnRefIdeal.main_arg4)) (m ((c.tc : Thread Cert.UpFfnRefIdeal.nD Cert.UpFfnRefIdeal.τ).loc Cert.UpFfnRefIdeal.main_arg5)) (m ((c.tc : Thread Cert.UpFfnRefIdeal.nD Cert.UpFfnRefIdeal.τ).loc Cert.UpFfnRefIdeal.main_arg6)) (m ((c.tc : Thread Cert.UpFfnRefIdeal.nD Cert.UpFfnRefIdeal.τ).loc Cert.UpFfnRefIdeal.main_arg7)) (m ((c.tc : Thread Cert.UpFfnRefIdeal.nD Cert.UpFfnRefIdeal.τ).loc Cert.UpFfnRefIdeal.main_arg8)) (m ((c.tc : Thread Cert.UpFfnRefIdeal.nD Cert.UpFfnRefIdeal.τ).loc Cert.UpFfnRefIdeal.main_arg9))).2.1 = (fun _ => 1#1)
    ∧ (Cert.Pre_up2_finite.fn (F := Ideal) (m ((c.tc : Thread Cert.UpFfnRefIdeal.nD Cert.UpFfnRefIdeal.τ).loc Cert.UpFfnRefIdeal.main_arg0)) (m ((c.tc : Thread Cert.UpFfnRefIdeal.nD Cert.UpFfnRefIdeal.τ).loc Cert.UpFfnRefIdeal.main_arg1)) (m ((c.tc : Thread Cert.UpFfnRefIdeal.nD Cert.UpFfnRefIdeal.τ).loc Cert.UpFfnRefIdeal.main_arg2)) (m ((c.tc : Thread Cert.UpFfnRefIdeal.nD Cert.UpFfnRefIdeal.τ).loc Cert.UpFfnRefIdeal.main_arg3)) (m ((c.tc : Thread Cert.UpFfnRefIdeal.nD Cert.UpFfnRefIdeal.τ).loc Cert.UpFfnRefIdeal.main_arg4)) (m ((c.tc : Thread Cert.UpFfnRefIdeal.nD Cert.UpFfnRefIdeal.τ).loc Cert.UpFfnRefIdeal.main_arg5)) (m ((c.tc : Thread Cert.UpFfnRefIdeal.nD Cert.UpFfnRefIdeal.τ).loc Cert.UpFfnRefIdeal.main_arg6)) (m ((c.tc : Thread Cert.UpFfnRefIdeal.nD Cert.UpFfnRefIdeal.τ).loc Cert.UpFfnRefIdeal.main_arg7)) (m ((c.tc : Thread Cert.UpFfnRefIdeal.nD Cert.UpFfnRefIdeal.τ).loc Cert.UpFfnRefIdeal.main_arg8)) (m ((c.tc : Thread Cert.UpFfnRefIdeal.nD Cert.UpFfnRefIdeal.τ).loc Cert.UpFfnRefIdeal.main_arg9))).2.2.1 = (fun _ => 1#1)
    ∧ (Cert.Pre_up2_finite.fn (F := Ideal) (m ((c.tc : Thread Cert.UpFfnRefIdeal.nD Cert.UpFfnRefIdeal.τ).loc Cert.UpFfnRefIdeal.main_arg0)) (m ((c.tc : Thread Cert.UpFfnRefIdeal.nD Cert.UpFfnRefIdeal.τ).loc Cert.UpFfnRefIdeal.main_arg1)) (m ((c.tc : Thread Cert.UpFfnRefIdeal.nD Cert.UpFfnRefIdeal.τ).loc Cert.UpFfnRefIdeal.main_arg2)) (m ((c.tc : Thread Cert.UpFfnRefIdeal.nD Cert.UpFfnRefIdeal.τ).loc Cert.UpFfnRefIdeal.main_arg3)) (m ((c.tc : Thread Cert.UpFfnRefIdeal.nD Cert.UpFfnRefIdeal.τ).loc Cert.UpFfnRefIdeal.main_arg4)) (m ((c.tc : Thread Cert.UpFfnRefIdeal.nD Cert.UpFfnRefIdeal.τ).loc Cert.UpFfnRefIdeal.main_arg5)) (m ((c.tc : Thread Cert.UpFfnRefIdeal.nD Cert.UpFfnRefIdeal.τ).loc Cert.UpFfnRefIdeal.main_arg6)) (m ((c.tc : Thread Cert.UpFfnRefIdeal.nD Cert.UpFfnRefIdeal.τ).loc Cert.UpFfnRefIdeal.main_arg7)) (m ((c.tc : Thread Cert.UpFfnRefIdeal.nD Cert.UpFfnRefIdeal.τ).loc Cert.UpFfnRefIdeal.main_arg8)) (m ((c.tc : Thread Cert.UpFfnRefIdeal.nD Cert.UpFfnRefIdeal.τ).loc Cert.UpFfnRefIdeal.main_arg9))).2.2.2.1 = (fun _ => 1#1)
    ∧ (Cert.Pre_up2_finite.fn (F := Ideal) (m ((c.tc : Thread Cert.UpFfnRefIdeal.nD Cert.UpFfnRefIdeal.τ).loc Cert.UpFfnRefIdeal.main_arg0)) (m ((c.tc : Thread Cert.UpFfnRefIdeal.nD Cert.UpFfnRefIdeal.τ).loc Cert.UpFfnRefIdeal.main_arg1)) (m ((c.tc : Thread Cert.UpFfnRefIdeal.nD Cert.UpFfnRefIdeal.τ).loc Cert.UpFfnRefIdeal.main_arg2)) (m ((c.tc : Thread Cert.UpFfnRefIdeal.nD Cert.UpFfnRefIdeal.τ).loc Cert.UpFfnRefIdeal.main_arg3)) (m ((c.tc : Thread Cert.UpFfnRefIdeal.nD Cert.UpFfnRefIdeal.τ).loc Cert.UpFfnRefIdeal.main_arg4)) (m ((c.tc : Thread Cert.UpFfnRefIdeal.nD Cert.UpFfnRefIdeal.τ).loc Cert.UpFfnRefIdeal.main_arg5)) (m ((c.tc : Thread Cert.UpFfnRefIdeal.nD Cert.UpFfnRefIdeal.τ).loc Cert.UpFfnRefIdeal.main_arg6)) (m ((c.tc : Thread Cert.UpFfnRefIdeal.nD Cert.UpFfnRefIdeal.τ).loc Cert.UpFfnRefIdeal.main_arg7)) (m ((c.tc : Thread Cert.UpFfnRefIdeal.nD Cert.UpFfnRefIdeal.τ).loc Cert.UpFfnRefIdeal.main_arg8)) (m ((c.tc : Thread Cert.UpFfnRefIdeal.nD Cert.UpFfnRefIdeal.τ).loc Cert.UpFfnRefIdeal.main_arg9))).2.2.2.2.1 = (fun _ => 1#1)
    ∧ (Cert.Pre_up2_finite.fn (F := Ideal) (m ((c.tc : Thread Cert.UpFfnRefIdeal.nD Cert.UpFfnRefIdeal.τ).loc Cert.UpFfnRefIdeal.main_arg0)) (m ((c.tc : Thread Cert.UpFfnRefIdeal.nD Cert.UpFfnRefIdeal.τ).loc Cert.UpFfnRefIdeal.main_arg1)) (m ((c.tc : Thread Cert.UpFfnRefIdeal.nD Cert.UpFfnRefIdeal.τ).loc Cert.UpFfnRefIdeal.main_arg2)) (m ((c.tc : Thread Cert.UpFfnRefIdeal.nD Cert.UpFfnRefIdeal.τ).loc Cert.UpFfnRefIdeal.main_arg3)) (m ((c.tc : Thread Cert.UpFfnRefIdeal.nD Cert.UpFfnRefIdeal.τ).loc Cert.UpFfnRefIdeal.main_arg4)) (m ((c.tc : Thread Cert.UpFfnRefIdeal.nD Cert.UpFfnRefIdeal.τ).loc Cert.UpFfnRefIdeal.main_arg5)) (m ((c.tc : Thread Cert.UpFfnRefIdeal.nD Cert.UpFfnRefIdeal.τ).loc Cert.UpFfnRefIdeal.main_arg6)) (m ((c.tc : Thread Cert.UpFfnRefIdeal.nD Cert.UpFfnRefIdeal.τ).loc Cert.UpFfnRefIdeal.main_arg7)) (m ((c.tc : Thread Cert.UpFfnRefIdeal.nD Cert.UpFfnRefIdeal.τ).loc Cert.UpFfnRefIdeal.main_arg8)) (m ((c.tc : Thread Cert.UpFfnRefIdeal.nD Cert.UpFfnRefIdeal.τ).loc Cert.UpFfnRefIdeal.main_arg9))).2.2.2.2.2.1 = (fun _ => 1#1)
    ∧ (Cert.Pre_up2_finite.fn (F := Ideal) (m ((c.tc : Thread Cert.UpFfnRefIdeal.nD Cert.UpFfnRefIdeal.τ).loc Cert.UpFfnRefIdeal.main_arg0)) (m ((c.tc : Thread Cert.UpFfnRefIdeal.nD Cert.UpFfnRefIdeal.τ).loc Cert.UpFfnRefIdeal.main_arg1)) (m ((c.tc : Thread Cert.UpFfnRefIdeal.nD Cert.UpFfnRefIdeal.τ).loc Cert.UpFfnRefIdeal.main_arg2)) (m ((c.tc : Thread Cert.UpFfnRefIdeal.nD Cert.UpFfnRefIdeal.τ).loc Cert.UpFfnRefIdeal.main_arg3)) (m ((c.tc : Thread Cert.UpFfnRefIdeal.nD Cert.UpFfnRefIdeal.τ).loc Cert.UpFfnRefIdeal.main_arg4)) (m ((c.tc : Thread Cert.UpFfnRefIdeal.nD Cert.UpFfnRefIdeal.τ).loc Cert.UpFfnRefIdeal.main_arg5)) (m ((c.tc : Thread Cert.UpFfnRefIdeal.nD Cert.UpFfnRefIdeal.τ).loc Cert.UpFfnRefIdeal.main_arg6)) (m ((c.tc : Thread Cert.UpFfnRefIdeal.nD Cert.UpFfnRefIdeal.τ).loc Cert.UpFfnRefIdeal.main_arg7)) (m ((c.tc : Thread Cert.UpFfnRefIdeal.nD Cert.UpFfnRefIdeal.τ).loc Cert.UpFfnRefIdeal.main_arg8)) (m ((c.tc : Thread Cert.UpFfnRefIdeal.nD Cert.UpFfnRefIdeal.τ).loc Cert.UpFfnRefIdeal.main_arg9))).2.2.2.2.2.2.1 = (fun _ => 1#1)
    ∧ (Cert.Pre_up2_finite.fn (F := Ideal) (m ((c.tc : Thread Cert.UpFfnRefIdeal.nD Cert.UpFfnRefIdeal.τ).loc Cert.UpFfnRefIdeal.main_arg0)) (m ((c.tc : Thread Cert.UpFfnRefIdeal.nD Cert.UpFfnRefIdeal.τ).loc Cert.UpFfnRefIdeal.main_arg1)) (m ((c.tc : Thread Cert.UpFfnRefIdeal.nD Cert.UpFfnRefIdeal.τ).loc Cert.UpFfnRefIdeal.main_arg2)) (m ((c.tc : Thread Cert.UpFfnRefIdeal.nD Cert.UpFfnRefIdeal.τ).loc Cert.UpFfnRefIdeal.main_arg3)) (m ((c.tc : Thread Cert.UpFfnRefIdeal.nD Cert.UpFfnRefIdeal.τ).loc Cert.UpFfnRefIdeal.main_arg4)) (m ((c.tc : Thread Cert.UpFfnRefIdeal.nD Cert.UpFfnRefIdeal.τ).loc Cert.UpFfnRefIdeal.main_arg5)) (m ((c.tc : Thread Cert.UpFfnRefIdeal.nD Cert.UpFfnRefIdeal.τ).loc Cert.UpFfnRefIdeal.main_arg6)) (m ((c.tc : Thread Cert.UpFfnRefIdeal.nD Cert.UpFfnRefIdeal.τ).loc Cert.UpFfnRefIdeal.main_arg7)) (m ((c.tc : Thread Cert.UpFfnRefIdeal.nD Cert.UpFfnRefIdeal.τ).loc Cert.UpFfnRefIdeal.main_arg8)) (m ((c.tc : Thread Cert.UpFfnRefIdeal.nD Cert.UpFfnRefIdeal.τ).loc Cert.UpFfnRefIdeal.main_arg9))).2.2.2.2.2.2.2 = (fun _ => 1#1)

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInIdeal_gmlp_finite [hPre_gmlp_finite : Cert.Pre_gmlp_finite.Facts] (m : (ℓ : Loc Cert.GmlpInIdeal.nD Cert.GmlpInIdeal.τ Cert.GmlpInIdeal.sig) → Buf (Elt Ideal) ℓ) : Prop :=
  ∀ c : Dev Cert.GmlpInIdeal.nD,
    (Cert.Pre_gmlp_finite.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1)) (m ((c.tc : Thread Cert.GmlpInIdeal.nD Cert.GmlpInIdeal.τ).loc Cert.GmlpInIdeal.main_arg2)) (m ((c.tc : Thread Cert.GmlpInIdeal.nD Cert.GmlpInIdeal.τ).loc Cert.GmlpInIdeal.main_arg3)) (m ((c.tc : Thread Cert.GmlpInIdeal.nD Cert.GmlpInIdeal.τ).loc Cert.GmlpInIdeal.main_arg4)) (m ((c.tc : Thread Cert.GmlpInIdeal.nD Cert.GmlpInIdeal.τ).loc Cert.GmlpInIdeal.main_arg5)) (m ((c.tc : Thread Cert.GmlpInIdeal.nD Cert.GmlpInIdeal.τ).loc Cert.GmlpInIdeal.main_arg6)) (m ((c.tc : Thread Cert.GmlpInIdeal.nD Cert.GmlpInIdeal.τ).loc Cert.GmlpInIdeal.main_arg7)) (m ((c.tc : Thread Cert.GmlpInIdeal.nD Cert.GmlpInIdeal.τ).loc Cert.GmlpInIdeal.main_arg8)) (m ((c.tc : Thread Cert.GmlpInIdeal.nD Cert.GmlpInIdeal.τ).loc Cert.GmlpInIdeal.main_arg9))).1 = (fun _ => 1#1)
    ∧ (Cert.Pre_gmlp_finite.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1)) (m ((c.tc : Thread Cert.GmlpInIdeal.nD Cert.GmlpInIdeal.τ).loc Cert.GmlpInIdeal.main_arg2)) (m ((c.tc : Thread Cert.GmlpInIdeal.nD Cert.GmlpInIdeal.τ).loc Cert.GmlpInIdeal.main_arg3)) (m ((c.tc : Thread Cert.GmlpInIdeal.nD Cert.GmlpInIdeal.τ).loc Cert.GmlpInIdeal.main_arg4)) (m ((c.tc : Thread Cert.GmlpInIdeal.nD Cert.GmlpInIdeal.τ).loc Cert.GmlpInIdeal.main_arg5)) (m ((c.tc : Thread Cert.GmlpInIdeal.nD Cert.GmlpInIdeal.τ).loc Cert.GmlpInIdeal.main_arg6)) (m ((c.tc : Thread Cert.GmlpInIdeal.nD Cert.GmlpInIdeal.τ).loc Cert.GmlpInIdeal.main_arg7)) (m ((c.tc : Thread Cert.GmlpInIdeal.nD Cert.GmlpInIdeal.τ).loc Cert.GmlpInIdeal.main_arg8)) (m ((c.tc : Thread Cert.GmlpInIdeal.nD Cert.GmlpInIdeal.τ).loc Cert.GmlpInIdeal.main_arg9))).2.1 = (fun _ => 1#1)
    ∧ (Cert.Pre_gmlp_finite.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1)) (m ((c.tc : Thread Cert.GmlpInIdeal.nD Cert.GmlpInIdeal.τ).loc Cert.GmlpInIdeal.main_arg2)) (m ((c.tc : Thread Cert.GmlpInIdeal.nD Cert.GmlpInIdeal.τ).loc Cert.GmlpInIdeal.main_arg3)) (m ((c.tc : Thread Cert.GmlpInIdeal.nD Cert.GmlpInIdeal.τ).loc Cert.GmlpInIdeal.main_arg4)) (m ((c.tc : Thread Cert.GmlpInIdeal.nD Cert.GmlpInIdeal.τ).loc Cert.GmlpInIdeal.main_arg5)) (m ((c.tc : Thread Cert.GmlpInIdeal.nD Cert.GmlpInIdeal.τ).loc Cert.GmlpInIdeal.main_arg6)) (m ((c.tc : Thread Cert.GmlpInIdeal.nD Cert.GmlpInIdeal.τ).loc Cert.GmlpInIdeal.main_arg7)) (m ((c.tc : Thread Cert.GmlpInIdeal.nD Cert.GmlpInIdeal.τ).loc Cert.GmlpInIdeal.main_arg8)) (m ((c.tc : Thread Cert.GmlpInIdeal.nD Cert.GmlpInIdeal.τ).loc Cert.GmlpInIdeal.main_arg9))).2.2.1 = (fun _ => 1#1)
    ∧ (Cert.Pre_gmlp_finite.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1)) (m ((c.tc : Thread Cert.GmlpInIdeal.nD Cert.GmlpInIdeal.τ).loc Cert.GmlpInIdeal.main_arg2)) (m ((c.tc : Thread Cert.GmlpInIdeal.nD Cert.GmlpInIdeal.τ).loc Cert.GmlpInIdeal.main_arg3)) (m ((c.tc : Thread Cert.GmlpInIdeal.nD Cert.GmlpInIdeal.τ).loc Cert.GmlpInIdeal.main_arg4)) (m ((c.tc : Thread Cert.GmlpInIdeal.nD Cert.GmlpInIdeal.τ).loc Cert.GmlpInIdeal.main_arg5)) (m ((c.tc : Thread Cert.GmlpInIdeal.nD Cert.GmlpInIdeal.τ).loc Cert.GmlpInIdeal.main_arg6)) (m ((c.tc : Thread Cert.GmlpInIdeal.nD Cert.GmlpInIdeal.τ).loc Cert.GmlpInIdeal.main_arg7)) (m ((c.tc : Thread Cert.GmlpInIdeal.nD Cert.GmlpInIdeal.τ).loc Cert.GmlpInIdeal.main_arg8)) (m ((c.tc : Thread Cert.GmlpInIdeal.nD Cert.GmlpInIdeal.τ).loc Cert.GmlpInIdeal.main_arg9))).2.2.2.1 = (fun _ => 1#1)
    ∧ (Cert.Pre_gmlp_finite.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1)) (m ((c.tc : Thread Cert.GmlpInIdeal.nD Cert.GmlpInIdeal.τ).loc Cert.GmlpInIdeal.main_arg2)) (m ((c.tc : Thread Cert.GmlpInIdeal.nD Cert.GmlpInIdeal.τ).loc Cert.GmlpInIdeal.main_arg3)) (m ((c.tc : Thread Cert.GmlpInIdeal.nD Cert.GmlpInIdeal.τ).loc Cert.GmlpInIdeal.main_arg4)) (m ((c.tc : Thread Cert.GmlpInIdeal.nD Cert.GmlpInIdeal.τ).loc Cert.GmlpInIdeal.main_arg5)) (m ((c.tc : Thread Cert.GmlpInIdeal.nD Cert.GmlpInIdeal.τ).loc Cert.GmlpInIdeal.main_arg6)) (m ((c.tc : Thread Cert.GmlpInIdeal.nD Cert.GmlpInIdeal.τ).loc Cert.GmlpInIdeal.main_arg7)) (m ((c.tc : Thread Cert.GmlpInIdeal.nD Cert.GmlpInIdeal.τ).loc Cert.GmlpInIdeal.main_arg8)) (m ((c.tc : Thread Cert.GmlpInIdeal.nD Cert.GmlpInIdeal.τ).loc Cert.GmlpInIdeal.main_arg9))).2.2.2.2.1 = (fun _ => 1#1)
    ∧ (Cert.Pre_gmlp_finite.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1)) (m ((c.tc : Thread Cert.GmlpInIdeal.nD Cert.GmlpInIdeal.τ).loc Cert.GmlpInIdeal.main_arg2)) (m ((c.tc : Thread Cert.GmlpInIdeal.nD Cert.GmlpInIdeal.τ).loc Cert.GmlpInIdeal.main_arg3)) (m ((c.tc : Thread Cert.GmlpInIdeal.nD Cert.GmlpInIdeal.τ).loc Cert.GmlpInIdeal.main_arg4)) (m ((c.tc : Thread Cert.GmlpInIdeal.nD Cert.GmlpInIdeal.τ).loc Cert.GmlpInIdeal.main_arg5)) (m ((c.tc : Thread Cert.GmlpInIdeal.nD Cert.GmlpInIdeal.τ).loc Cert.GmlpInIdeal.main_arg6)) (m ((c.tc : Thread Cert.GmlpInIdeal.nD Cert.GmlpInIdeal.τ).loc Cert.GmlpInIdeal.main_arg7)) (m ((c.tc : Thread Cert.GmlpInIdeal.nD Cert.GmlpInIdeal.τ).loc Cert.GmlpInIdeal.main_arg8)) (m ((c.tc : Thread Cert.GmlpInIdeal.nD Cert.GmlpInIdeal.τ).loc Cert.GmlpInIdeal.main_arg9))).2.2.2.2.2.1 = (fun _ => 1#1)
    ∧ (Cert.Pre_gmlp_finite.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1)) (m ((c.tc : Thread Cert.GmlpInIdeal.nD Cert.GmlpInIdeal.τ).loc Cert.GmlpInIdeal.main_arg2)) (m ((c.tc : Thread Cert.GmlpInIdeal.nD Cert.GmlpInIdeal.τ).loc Cert.GmlpInIdeal.main_arg3)) (m ((c.tc : Thread Cert.GmlpInIdeal.nD Cert.GmlpInIdeal.τ).loc Cert.GmlpInIdeal.main_arg4)) (m ((c.tc : Thread Cert.GmlpInIdeal.nD Cert.GmlpInIdeal.τ).loc Cert.GmlpInIdeal.main_arg5)) (m ((c.tc : Thread Cert.GmlpInIdeal.nD Cert.GmlpInIdeal.τ).loc Cert.GmlpInIdeal.main_arg6)) (m ((c.tc : Thread Cert.GmlpInIdeal.nD Cert.GmlpInIdeal.τ).loc Cert.GmlpInIdeal.main_arg7)) (m ((c.tc : Thread Cert.GmlpInIdeal.nD Cert.GmlpInIdeal.τ).loc Cert.GmlpInIdeal.main_arg8)) (m ((c.tc : Thread Cert.GmlpInIdeal.nD Cert.GmlpInIdeal.τ).loc Cert.GmlpInIdeal.main_arg9))).2.2.2.2.2.2.1 = (fun _ => 1#1)
    ∧ (Cert.Pre_gmlp_finite.fn (F := Ideal) (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1)) (m ((c.tc : Thread Cert.GmlpInIdeal.nD Cert.GmlpInIdeal.τ).loc Cert.GmlpInIdeal.main_arg2)) (m ((c.tc : Thread Cert.GmlpInIdeal.nD Cert.GmlpInIdeal.τ).loc Cert.GmlpInIdeal.main_arg3)) (m ((c.tc : Thread Cert.GmlpInIdeal.nD Cert.GmlpInIdeal.τ).loc Cert.GmlpInIdeal.main_arg4)) (m ((c.tc : Thread Cert.GmlpInIdeal.nD Cert.GmlpInIdeal.τ).loc Cert.GmlpInIdeal.main_arg5)) (m ((c.tc : Thread Cert.GmlpInIdeal.nD Cert.GmlpInIdeal.τ).loc Cert.GmlpInIdeal.main_arg6)) (m ((c.tc : Thread Cert.GmlpInIdeal.nD Cert.GmlpInIdeal.τ).loc Cert.GmlpInIdeal.main_arg7)) (m ((c.tc : Thread Cert.GmlpInIdeal.nD Cert.GmlpInIdeal.τ).loc Cert.GmlpInIdeal.main_arg8)) (m ((c.tc : Thread Cert.GmlpInIdeal.nD Cert.GmlpInIdeal.τ).loc Cert.GmlpInIdeal.main_arg9))).2.2.2.2.2.2.2 = (fun _ => 1#1)

def Pre_GmlpInRefIdeal (m : (ℓ : Loc Cert.GmlpInRefIdeal.nD Cert.GmlpInRefIdeal.τ Cert.GmlpInRefIdeal.sig) → Buf (Elt Ideal) ℓ) : Prop :=
  True

def Pre_GmlpInRefIdeal_gmlp_finite [hPre_gmlp_finite : Cert.Pre_gmlp_finite.Facts] (m : (ℓ : Loc Cert.GmlpInRefIdeal.nD Cert.GmlpInRefIdeal.τ Cert.GmlpInRefIdeal.sig) → Buf (Elt Ideal) ℓ) : Prop :=
  ∀ c : Dev Cert.GmlpInRefIdeal.nD,
    (Cert.Pre_gmlp_finite.fn (F := Ideal) (m ((c.tc : Thread Cert.GmlpInRefIdeal.nD Cert.GmlpInRefIdeal.τ).loc Cert.GmlpInRefIdeal.main_arg0)) (m ((c.tc : Thread Cert.GmlpInRefIdeal.nD Cert.GmlpInRefIdeal.τ).loc Cert.GmlpInRefIdeal.main_arg1)) (m ((c.tc : Thread Cert.GmlpInRefIdeal.nD Cert.GmlpInRefIdeal.τ).loc Cert.GmlpInRefIdeal.main_arg2)) (m ((c.tc : Thread Cert.GmlpInRefIdeal.nD Cert.GmlpInRefIdeal.τ).loc Cert.GmlpInRefIdeal.main_arg3)) (m ((c.tc : Thread Cert.GmlpInRefIdeal.nD Cert.GmlpInRefIdeal.τ).loc Cert.GmlpInRefIdeal.main_arg4)) (m ((c.tc : Thread Cert.GmlpInRefIdeal.nD Cert.GmlpInRefIdeal.τ).loc Cert.GmlpInRefIdeal.main_arg5)) (m ((c.tc : Thread Cert.GmlpInRefIdeal.nD Cert.GmlpInRefIdeal.τ).loc Cert.GmlpInRefIdeal.main_arg6)) (m ((c.tc : Thread Cert.GmlpInRefIdeal.nD Cert.GmlpInRefIdeal.τ).loc Cert.GmlpInRefIdeal.main_arg7)) (m ((c.tc : Thread Cert.GmlpInRefIdeal.nD Cert.GmlpInRefIdeal.τ).loc Cert.GmlpInRefIdeal.main_arg8)) (m ((c.tc : Thread Cert.GmlpInRefIdeal.nD Cert.GmlpInRefIdeal.τ).loc Cert.GmlpInRefIdeal.main_arg9))).1 = (fun _ => 1#1)
    ∧ (Cert.Pre_gmlp_finite.fn (F := Ideal) (m ((c.tc : Thread Cert.GmlpInRefIdeal.nD Cert.GmlpInRefIdeal.τ).loc Cert.GmlpInRefIdeal.main_arg0)) (m ((c.tc : Thread Cert.GmlpInRefIdeal.nD Cert.GmlpInRefIdeal.τ).loc Cert.GmlpInRefIdeal.main_arg1)) (m ((c.tc : Thread Cert.GmlpInRefIdeal.nD Cert.GmlpInRefIdeal.τ).loc Cert.GmlpInRefIdeal.main_arg2)) (m ((c.tc : Thread Cert.GmlpInRefIdeal.nD Cert.GmlpInRefIdeal.τ).loc Cert.GmlpInRefIdeal.main_arg3)) (m ((c.tc : Thread Cert.GmlpInRefIdeal.nD Cert.GmlpInRefIdeal.τ).loc Cert.GmlpInRefIdeal.main_arg4)) (m ((c.tc : Thread Cert.GmlpInRefIdeal.nD Cert.GmlpInRefIdeal.τ).loc Cert.GmlpInRefIdeal.main_arg5)) (m ((c.tc : Thread Cert.GmlpInRefIdeal.nD Cert.GmlpInRefIdeal.τ).loc Cert.GmlpInRefIdeal.main_arg6)) (m ((c.tc : Thread Cert.GmlpInRefIdeal.nD Cert.GmlpInRefIdeal.τ).loc Cert.GmlpInRefIdeal.main_arg7)) (m ((c.tc : Thread Cert.GmlpInRefIdeal.nD Cert.GmlpInRefIdeal.τ).loc Cert.GmlpInRefIdeal.main_arg8)) (m ((c.tc : Thread Cert.GmlpInRefIdeal.nD Cert.GmlpInRefIdeal.τ).loc Cert.GmlpInRefIdeal.main_arg9))).2.1 = (fun _ => 1#1)
    ∧ (Cert.Pre_gmlp_finite.fn (F := Ideal) (m ((c.tc : Thread Cert.GmlpInRefIdeal.nD Cert.GmlpInRefIdeal.τ).loc Cert.GmlpInRefIdeal.main_arg0)) (m ((c.tc : Thread Cert.GmlpInRefIdeal.nD Cert.GmlpInRefIdeal.τ).loc Cert.GmlpInRefIdeal.main_arg1)) (m ((c.tc : Thread Cert.GmlpInRefIdeal.nD Cert.GmlpInRefIdeal.τ).loc Cert.GmlpInRefIdeal.main_arg2)) (m ((c.tc : Thread Cert.GmlpInRefIdeal.nD Cert.GmlpInRefIdeal.τ).loc Cert.GmlpInRefIdeal.main_arg3)) (m ((c.tc : Thread Cert.GmlpInRefIdeal.nD Cert.GmlpInRefIdeal.τ).loc Cert.GmlpInRefIdeal.main_arg4)) (m ((c.tc : Thread Cert.GmlpInRefIdeal.nD Cert.GmlpInRefIdeal.τ).loc Cert.GmlpInRefIdeal.main_arg5)) (m ((c.tc : Thread Cert.GmlpInRefIdeal.nD Cert.GmlpInRefIdeal.τ).loc Cert.GmlpInRefIdeal.main_arg6)) (m ((c.tc : Thread Cert.GmlpInRefIdeal.nD Cert.GmlpInRefIdeal.τ).loc Cert.GmlpInRefIdeal.main_arg7)) (m ((c.tc : Thread Cert.GmlpInRefIdeal.nD Cert.GmlpInRefIdeal.τ).loc Cert.GmlpInRefIdeal.main_arg8)) (m ((c.tc : Thread Cert.GmlpInRefIdeal.nD Cert.GmlpInRefIdeal.τ).loc Cert.GmlpInRefIdeal.main_arg9))).2.2.1 = (fun _ => 1#1)
    ∧ (Cert.Pre_gmlp_finite.fn (F := Ideal) (m ((c.tc : Thread Cert.GmlpInRefIdeal.nD Cert.GmlpInRefIdeal.τ).loc Cert.GmlpInRefIdeal.main_arg0)) (m ((c.tc : Thread Cert.GmlpInRefIdeal.nD Cert.GmlpInRefIdeal.τ).loc Cert.GmlpInRefIdeal.main_arg1)) (m ((c.tc : Thread Cert.GmlpInRefIdeal.nD Cert.GmlpInRefIdeal.τ).loc Cert.GmlpInRefIdeal.main_arg2)) (m ((c.tc : Thread Cert.GmlpInRefIdeal.nD Cert.GmlpInRefIdeal.τ).loc Cert.GmlpInRefIdeal.main_arg3)) (m ((c.tc : Thread Cert.GmlpInRefIdeal.nD Cert.GmlpInRefIdeal.τ).loc Cert.GmlpInRefIdeal.main_arg4)) (m ((c.tc : Thread Cert.GmlpInRefIdeal.nD Cert.GmlpInRefIdeal.τ).loc Cert.GmlpInRefIdeal.main_arg5)) (m ((c.tc : Thread Cert.GmlpInRefIdeal.nD Cert.GmlpInRefIdeal.τ).loc Cert.GmlpInRefIdeal.main_arg6)) (m ((c.tc : Thread Cert.GmlpInRefIdeal.nD Cert.GmlpInRefIdeal.τ).loc Cert.GmlpInRefIdeal.main_arg7)) (m ((c.tc : Thread Cert.GmlpInRefIdeal.nD Cert.GmlpInRefIdeal.τ).loc Cert.GmlpInRefIdeal.main_arg8)) (m ((c.tc : Thread Cert.GmlpInRefIdeal.nD Cert.GmlpInRefIdeal.τ).loc Cert.GmlpInRefIdeal.main_arg9))).2.2.2.1 = (fun _ => 1#1)
    ∧ (Cert.Pre_gmlp_finite.fn (F := Ideal) (m ((c.tc : Thread Cert.GmlpInRefIdeal.nD Cert.GmlpInRefIdeal.τ).loc Cert.GmlpInRefIdeal.main_arg0)) (m ((c.tc : Thread Cert.GmlpInRefIdeal.nD Cert.GmlpInRefIdeal.τ).loc Cert.GmlpInRefIdeal.main_arg1)) (m ((c.tc : Thread Cert.GmlpInRefIdeal.nD Cert.GmlpInRefIdeal.τ).loc Cert.GmlpInRefIdeal.main_arg2)) (m ((c.tc : Thread Cert.GmlpInRefIdeal.nD Cert.GmlpInRefIdeal.τ).loc Cert.GmlpInRefIdeal.main_arg3)) (m ((c.tc : Thread Cert.GmlpInRefIdeal.nD Cert.GmlpInRefIdeal.τ).loc Cert.GmlpInRefIdeal.main_arg4)) (m ((c.tc : Thread Cert.GmlpInRefIdeal.nD Cert.GmlpInRefIdeal.τ).loc Cert.GmlpInRefIdeal.main_arg5)) (m ((c.tc : Thread Cert.GmlpInRefIdeal.nD Cert.GmlpInRefIdeal.τ).loc Cert.GmlpInRefIdeal.main_arg6)) (m ((c.tc : Thread Cert.GmlpInRefIdeal.nD Cert.GmlpInRefIdeal.τ).loc Cert.GmlpInRefIdeal.main_arg7)) (m ((c.tc : Thread Cert.GmlpInRefIdeal.nD Cert.GmlpInRefIdeal.τ).loc Cert.GmlpInRefIdeal.main_arg8)) (m ((c.tc : Thread Cert.GmlpInRefIdeal.nD Cert.GmlpInRefIdeal.τ).loc Cert.GmlpInRefIdeal.main_arg9))).2.2.2.2.1 = (fun _ => 1#1)
    ∧ (Cert.Pre_gmlp_finite.fn (F := Ideal) (m ((c.tc : Thread Cert.GmlpInRefIdeal.nD Cert.GmlpInRefIdeal.τ).loc Cert.GmlpInRefIdeal.main_arg0)) (m ((c.tc : Thread Cert.GmlpInRefIdeal.nD Cert.GmlpInRefIdeal.τ).loc Cert.GmlpInRefIdeal.main_arg1)) (m ((c.tc : Thread Cert.GmlpInRefIdeal.nD Cert.GmlpInRefIdeal.τ).loc Cert.GmlpInRefIdeal.main_arg2)) (m ((c.tc : Thread Cert.GmlpInRefIdeal.nD Cert.GmlpInRefIdeal.τ).loc Cert.GmlpInRefIdeal.main_arg3)) (m ((c.tc : Thread Cert.GmlpInRefIdeal.nD Cert.GmlpInRefIdeal.τ).loc Cert.GmlpInRefIdeal.main_arg4)) (m ((c.tc : Thread Cert.GmlpInRefIdeal.nD Cert.GmlpInRefIdeal.τ).loc Cert.GmlpInRefIdeal.main_arg5)) (m ((c.tc : Thread Cert.GmlpInRefIdeal.nD Cert.GmlpInRefIdeal.τ).loc Cert.GmlpInRefIdeal.main_arg6)) (m ((c.tc : Thread Cert.GmlpInRefIdeal.nD Cert.GmlpInRefIdeal.τ).loc Cert.GmlpInRefIdeal.main_arg7)) (m ((c.tc : Thread Cert.GmlpInRefIdeal.nD Cert.GmlpInRefIdeal.τ).loc Cert.GmlpInRefIdeal.main_arg8)) (m ((c.tc : Thread Cert.GmlpInRefIdeal.nD Cert.GmlpInRefIdeal.τ).loc Cert.GmlpInRefIdeal.main_arg9))).2.2.2.2.2.1 = (fun _ => 1#1)
    ∧ (Cert.Pre_gmlp_finite.fn (F := Ideal) (m ((c.tc : Thread Cert.GmlpInRefIdeal.nD Cert.GmlpInRefIdeal.τ).loc Cert.GmlpInRefIdeal.main_arg0)) (m ((c.tc : Thread Cert.GmlpInRefIdeal.nD Cert.GmlpInRefIdeal.τ).loc Cert.GmlpInRefIdeal.main_arg1)) (m ((c.tc : Thread Cert.GmlpInRefIdeal.nD Cert.GmlpInRefIdeal.τ).loc Cert.GmlpInRefIdeal.main_arg2)) (m ((c.tc : Thread Cert.GmlpInRefIdeal.nD Cert.GmlpInRefIdeal.τ).loc Cert.GmlpInRefIdeal.main_arg3)) (m ((c.tc : Thread Cert.GmlpInRefIdeal.nD Cert.GmlpInRefIdeal.τ).loc Cert.GmlpInRefIdeal.main_arg4)) (m ((c.tc : Thread Cert.GmlpInRefIdeal.nD Cert.GmlpInRefIdeal.τ).loc Cert.GmlpInRefIdeal.main_arg5)) (m ((c.tc : Thread Cert.GmlpInRefIdeal.nD Cert.GmlpInRefIdeal.τ).loc Cert.GmlpInRefIdeal.main_arg6)) (m ((c.tc : Thread Cert.GmlpInRefIdeal.nD Cert.GmlpInRefIdeal.τ).loc Cert.GmlpInRefIdeal.main_arg7)) (m ((c.tc : Thread Cert.GmlpInRefIdeal.nD Cert.GmlpInRefIdeal.τ).loc Cert.GmlpInRefIdeal.main_arg8)) (m ((c.tc : Thread Cert.GmlpInRefIdeal.nD Cert.GmlpInRefIdeal.τ).loc Cert.GmlpInRefIdeal.main_arg9))).2.2.2.2.2.2.1 = (fun _ => 1#1)
    ∧ (Cert.Pre_gmlp_finite.fn (F := Ideal) (m ((c.tc : Thread Cert.GmlpInRefIdeal.nD Cert.GmlpInRefIdeal.τ).loc Cert.GmlpInRefIdeal.main_arg0)) (m ((c.tc : Thread Cert.GmlpInRefIdeal.nD Cert.GmlpInRefIdeal.τ).loc Cert.GmlpInRefIdeal.main_arg1)) (m ((c.tc : Thread Cert.GmlpInRefIdeal.nD Cert.GmlpInRefIdeal.τ).loc Cert.GmlpInRefIdeal.main_arg2)) (m ((c.tc : Thread Cert.GmlpInRefIdeal.nD Cert.GmlpInRefIdeal.τ).loc Cert.GmlpInRefIdeal.main_arg3)) (m ((c.tc : Thread Cert.GmlpInRefIdeal.nD Cert.GmlpInRefIdeal.τ).loc Cert.GmlpInRefIdeal.main_arg4)) (m ((c.tc : Thread Cert.GmlpInRefIdeal.nD Cert.GmlpInRefIdeal.τ).loc Cert.GmlpInRefIdeal.main_arg5)) (m ((c.tc : Thread Cert.GmlpInRefIdeal.nD Cert.GmlpInRefIdeal.τ).loc Cert.GmlpInRefIdeal.main_arg6)) (m ((c.tc : Thread Cert.GmlpInRefIdeal.nD Cert.GmlpInRefIdeal.τ).loc Cert.GmlpInRefIdeal.main_arg7)) (m ((c.tc : Thread Cert.GmlpInRefIdeal.nD Cert.GmlpInRefIdeal.τ).loc Cert.GmlpInRefIdeal.main_arg8)) (m ((c.tc : Thread Cert.GmlpInRefIdeal.nD Cert.GmlpInRefIdeal.τ).loc Cert.GmlpInRefIdeal.main_arg9))).2.2.2.2.2.2.2 = (fun _ => 1#1)

def Pre_AttnQ (m : (ℓ : Loc Cert.AttnQ.nD Cert.AttnQ.τ Cert.AttnQ.sig) → Buf (Elt Bits) ℓ) : Prop :=
  True

def Pre_AttnQIdeal (m : (ℓ : Loc Cert.AttnQIdeal.nD Cert.AttnQIdeal.τ Cert.AttnQIdeal.sig) → Buf (Elt Ideal) ℓ) : Prop :=
  True

def Pre_AttnQIdeal_attnq_finite [hPre_attnq_finite : Cert.Pre_attnq_finite.Facts] (m : (ℓ : Loc Cert.AttnQIdeal.nD Cert.AttnQIdeal.τ Cert.AttnQIdeal.sig) → Buf (Elt Ideal) ℓ) : Prop :=
  ∀ c : Dev Cert.AttnQIdeal.nD,
    (Cert.Pre_attnq_finite.fn (F := Ideal) (m ((c.tc : Thread Cert.AttnQIdeal.nD Cert.AttnQIdeal.τ).loc Cert.AttnQIdeal.main_arg0)) (m ((c.tc : Thread Cert.AttnQIdeal.nD Cert.AttnQIdeal.τ).loc Cert.AttnQIdeal.main_arg1)) (m ((c.tc : Thread Cert.AttnQIdeal.nD Cert.AttnQIdeal.τ).loc Cert.AttnQIdeal.main_arg2)) (m ((c.tc : Thread Cert.AttnQIdeal.nD Cert.AttnQIdeal.τ).loc Cert.AttnQIdeal.main_arg3)) (m ((c.tc : Thread Cert.AttnQIdeal.nD Cert.AttnQIdeal.τ).loc Cert.AttnQIdeal.main_arg4)) (m ((c.tc : Thread Cert.AttnQIdeal.nD Cert.AttnQIdeal.τ).loc Cert.AttnQIdeal.main_arg5)) (m ((c.tc : Thread Cert.AttnQIdeal.nD Cert.AttnQIdeal.τ).loc Cert.AttnQIdeal.main_arg6)) (m ((c.tc : Thread Cert.AttnQIdeal.nD Cert.AttnQIdeal.τ).loc Cert.AttnQIdeal.main_arg7)) (m ((c.tc : Thread Cert.AttnQIdeal.nD Cert.AttnQIdeal.τ).loc Cert.AttnQIdeal.main_arg8)) (m ((c.tc : Thread Cert.AttnQIdeal.nD Cert.AttnQIdeal.τ).loc Cert.AttnQIdeal.main_arg9))).1 = (fun _ => 1#1)
    ∧ (Cert.Pre_attnq_finite.fn (F := Ideal) (m ((c.tc : Thread Cert.AttnQIdeal.nD Cert.AttnQIdeal.τ).loc Cert.AttnQIdeal.main_arg0)) (m ((c.tc : Thread Cert.AttnQIdeal.nD Cert.AttnQIdeal.τ).loc Cert.AttnQIdeal.main_arg1)) (m ((c.tc : Thread Cert.AttnQIdeal.nD Cert.AttnQIdeal.τ).loc Cert.AttnQIdeal.main_arg2)) (m ((c.tc : Thread Cert.AttnQIdeal.nD Cert.AttnQIdeal.τ).loc Cert.AttnQIdeal.main_arg3)) (m ((c.tc : Thread Cert.AttnQIdeal.nD Cert.AttnQIdeal.τ).loc Cert.AttnQIdeal.main_arg4)) (m ((c.tc : Thread Cert.AttnQIdeal.nD Cert.AttnQIdeal.τ).loc Cert.AttnQIdeal.main_arg5)) (m ((c.tc : Thread Cert.AttnQIdeal.nD Cert.AttnQIdeal.τ).loc Cert.AttnQIdeal.main_arg6)) (m ((c.tc : Thread Cert.AttnQIdeal.nD Cert.AttnQIdeal.τ).loc Cert.AttnQIdeal.main_arg7)) (m ((c.tc : Thread Cert.AttnQIdeal.nD Cert.AttnQIdeal.τ).loc Cert.AttnQIdeal.main_arg8)) (m ((c.tc : Thread Cert.AttnQIdeal.nD Cert.AttnQIdeal.τ).loc Cert.AttnQIdeal.main_arg9))).2.1 = (fun _ => 1#1)
    ∧ (Cert.Pre_attnq_finite.fn (F := Ideal) (m ((c.tc : Thread Cert.AttnQIdeal.nD Cert.AttnQIdeal.τ).loc Cert.AttnQIdeal.main_arg0)) (m ((c.tc : Thread Cert.AttnQIdeal.nD Cert.AttnQIdeal.τ).loc Cert.AttnQIdeal.main_arg1)) (m ((c.tc : Thread Cert.AttnQIdeal.nD Cert.AttnQIdeal.τ).loc Cert.AttnQIdeal.main_arg2)) (m ((c.tc : Thread Cert.AttnQIdeal.nD Cert.AttnQIdeal.τ).loc Cert.AttnQIdeal.main_arg3)) (m ((c.tc : Thread Cert.AttnQIdeal.nD Cert.AttnQIdeal.τ).loc Cert.AttnQIdeal.main_arg4)) (m ((c.tc : Thread Cert.AttnQIdeal.nD Cert.AttnQIdeal.τ).loc Cert.AttnQIdeal.main_arg5)) (m ((c.tc : Thread Cert.AttnQIdeal.nD Cert.AttnQIdeal.τ).loc Cert.AttnQIdeal.main_arg6)) (m ((c.tc : Thread Cert.AttnQIdeal.nD Cert.AttnQIdeal.τ).loc Cert.AttnQIdeal.main_arg7)) (m ((c.tc : Thread Cert.AttnQIdeal.nD Cert.AttnQIdeal.τ).loc Cert.AttnQIdeal.main_arg8)) (m ((c.tc : Thread Cert.AttnQIdeal.nD Cert.AttnQIdeal.τ).loc Cert.AttnQIdeal.main_arg9))).2.2.1 = (fun _ => 1#1)
    ∧ (Cert.Pre_attnq_finite.fn (F := Ideal) (m ((c.tc : Thread Cert.AttnQIdeal.nD Cert.AttnQIdeal.τ).loc Cert.AttnQIdeal.main_arg0)) (m ((c.tc : Thread Cert.AttnQIdeal.nD Cert.AttnQIdeal.τ).loc Cert.AttnQIdeal.main_arg1)) (m ((c.tc : Thread Cert.AttnQIdeal.nD Cert.AttnQIdeal.τ).loc Cert.AttnQIdeal.main_arg2)) (m ((c.tc : Thread Cert.AttnQIdeal.nD Cert.AttnQIdeal.τ).loc Cert.AttnQIdeal.main_arg3)) (m ((c.tc : Thread Cert.AttnQIdeal.nD Cert.AttnQIdeal.τ).loc Cert.AttnQIdeal.main_arg4)) (m ((c.tc : Thread Cert.AttnQIdeal.nD Cert.AttnQIdeal.τ).loc Cert.AttnQIdeal.main_arg5)) (m ((c.tc : Thread Cert.AttnQIdeal.nD Cert.AttnQIdeal.τ).loc Cert.AttnQIdeal.main_arg6)) (m ((c.tc : Thread Cert.AttnQIdeal.nD Cert.AttnQIdeal.τ).loc Cert.AttnQIdeal.main_arg7)) (m ((c.tc : Thread Cert.AttnQIdeal.nD Cert.AttnQIdeal.τ).loc Cert.AttnQIdeal.main_arg8)) (m ((c.tc : Thread Cert.AttnQIdeal.nD Cert.AttnQIdeal.τ).loc Cert.AttnQIdeal.main_arg9))).2.2.2.1 = (fun _ => 1#1)
    ∧ (Cert.Pre_attnq_finite.fn (F := Ideal) (m ((c.tc : Thread Cert.AttnQIdeal.nD Cert.AttnQIdeal.τ).loc Cert.AttnQIdeal.main_arg0)) (m ((c.tc : Thread Cert.AttnQIdeal.nD Cert.AttnQIdeal.τ).loc Cert.AttnQIdeal.main_arg1)) (m ((c.tc : Thread Cert.AttnQIdeal.nD Cert.AttnQIdeal.τ).loc Cert.AttnQIdeal.main_arg2)) (m ((c.tc : Thread Cert.AttnQIdeal.nD Cert.AttnQIdeal.τ).loc Cert.AttnQIdeal.main_arg3)) (m ((c.tc : Thread Cert.AttnQIdeal.nD Cert.AttnQIdeal.τ).loc Cert.AttnQIdeal.main_arg4)) (m ((c.tc : Thread Cert.AttnQIdeal.nD Cert.AttnQIdeal.τ).loc Cert.AttnQIdeal.main_arg5)) (m ((c.tc : Thread Cert.AttnQIdeal.nD Cert.AttnQIdeal.τ).loc Cert.AttnQIdeal.main_arg6)) (m ((c.tc : Thread Cert.AttnQIdeal.nD Cert.AttnQIdeal.τ).loc Cert.AttnQIdeal.main_arg7)) (m ((c.tc : Thread Cert.AttnQIdeal.nD Cert.AttnQIdeal.τ).loc Cert.AttnQIdeal.main_arg8)) (m ((c.tc : Thread Cert.AttnQIdeal.nD Cert.AttnQIdeal.τ).loc Cert.AttnQIdeal.main_arg9))).2.2.2.2.1 = (fun _ => 1#1)
    ∧ (Cert.Pre_attnq_finite.fn (F := Ideal) (m ((c.tc : Thread Cert.AttnQIdeal.nD Cert.AttnQIdeal.τ).loc Cert.AttnQIdeal.main_arg0)) (m ((c.tc : Thread Cert.AttnQIdeal.nD Cert.AttnQIdeal.τ).loc Cert.AttnQIdeal.main_arg1)) (m ((c.tc : Thread Cert.AttnQIdeal.nD Cert.AttnQIdeal.τ).loc Cert.AttnQIdeal.main_arg2)) (m ((c.tc : Thread Cert.AttnQIdeal.nD Cert.AttnQIdeal.τ).loc Cert.AttnQIdeal.main_arg3)) (m ((c.tc : Thread Cert.AttnQIdeal.nD Cert.AttnQIdeal.τ).loc Cert.AttnQIdeal.main_arg4)) (m ((c.tc : Thread Cert.AttnQIdeal.nD Cert.AttnQIdeal.τ).loc Cert.AttnQIdeal.main_arg5)) (m ((c.tc : Thread Cert.AttnQIdeal.nD Cert.AttnQIdeal.τ).loc Cert.AttnQIdeal.main_arg6)) (m ((c.tc : Thread Cert.AttnQIdeal.nD Cert.AttnQIdeal.τ).loc Cert.AttnQIdeal.main_arg7)) (m ((c.tc : Thread Cert.AttnQIdeal.nD Cert.AttnQIdeal.τ).loc Cert.AttnQIdeal.main_arg8)) (m ((c.tc : Thread Cert.AttnQIdeal.nD Cert.AttnQIdeal.τ).loc Cert.AttnQIdeal.main_arg9))).2.2.2.2.2.1 = (fun _ => 1#1)
    ∧ (Cert.Pre_attnq_finite.fn (F := Ideal) (m ((c.tc : Thread Cert.AttnQIdeal.nD Cert.AttnQIdeal.τ).loc Cert.AttnQIdeal.main_arg0)) (m ((c.tc : Thread Cert.AttnQIdeal.nD Cert.AttnQIdeal.τ).loc Cert.AttnQIdeal.main_arg1)) (m ((c.tc : Thread Cert.AttnQIdeal.nD Cert.AttnQIdeal.τ).loc Cert.AttnQIdeal.main_arg2)) (m ((c.tc : Thread Cert.AttnQIdeal.nD Cert.AttnQIdeal.τ).loc Cert.AttnQIdeal.main_arg3)) (m ((c.tc : Thread Cert.AttnQIdeal.nD Cert.AttnQIdeal.τ).loc Cert.AttnQIdeal.main_arg4)) (m ((c.tc : Thread Cert.AttnQIdeal.nD Cert.AttnQIdeal.τ).loc Cert.AttnQIdeal.main_arg5)) (m ((c.tc : Thread Cert.AttnQIdeal.nD Cert.AttnQIdeal.τ).loc Cert.AttnQIdeal.main_arg6)) (m ((c.tc : Thread Cert.AttnQIdeal.nD Cert.AttnQIdeal.τ).loc Cert.AttnQIdeal.main_arg7)) (m ((c.tc : Thread Cert.AttnQIdeal.nD Cert.AttnQIdeal.τ).loc Cert.AttnQIdeal.main_arg8)) (m ((c.tc : Thread Cert.AttnQIdeal.nD Cert.AttnQIdeal.τ).loc Cert.AttnQIdeal.main_arg9))).2.2.2.2.2.2.1 = (fun _ => 1#1)
    ∧ (Cert.Pre_attnq_finite.fn (F := Ideal) (m ((c.tc : Thread Cert.AttnQIdeal.nD Cert.AttnQIdeal.τ).loc Cert.AttnQIdeal.main_arg0)) (m ((c.tc : Thread Cert.AttnQIdeal.nD Cert.AttnQIdeal.τ).loc Cert.AttnQIdeal.main_arg1)) (m ((c.tc : Thread Cert.AttnQIdeal.nD Cert.AttnQIdeal.τ).loc Cert.AttnQIdeal.main_arg2)) (m ((c.tc : Thread Cert.AttnQIdeal.nD Cert.AttnQIdeal.τ).loc Cert.AttnQIdeal.main_arg3)) (m ((c.tc : Thread Cert.AttnQIdeal.nD Cert.AttnQIdeal.τ).loc Cert.AttnQIdeal.main_arg4)) (m ((c.tc : Thread Cert.AttnQIdeal.nD Cert.AttnQIdeal.τ).loc Cert.AttnQIdeal.main_arg5)) (m ((c.tc : Thread Cert.AttnQIdeal.nD Cert.AttnQIdeal.τ).loc Cert.AttnQIdeal.main_arg6)) (m ((c.tc : Thread Cert.AttnQIdeal.nD Cert.AttnQIdeal.τ).loc Cert.AttnQIdeal.main_arg7)) (m ((c.tc : Thread Cert.AttnQIdeal.nD Cert.AttnQIdeal.τ).loc Cert.AttnQIdeal.main_arg8)) (m ((c.tc : Thread Cert.AttnQIdeal.nD Cert.AttnQIdeal.τ).loc Cert.AttnQIdeal.main_arg9))).2.2.2.2.2.2.2 = (fun _ => 1#1)

def Pre_AttnQRefIdeal (m : (ℓ : Loc Cert.AttnQRefIdeal.nD Cert.AttnQRefIdeal.τ Cert.AttnQRefIdeal.sig) → Buf (Elt Ideal) ℓ) : Prop :=
  True

def Pre_AttnQRefIdeal_attnq_finite [hPre_attnq_finite : Cert.Pre_attnq_finite.Facts] (m : (ℓ : Loc Cert.AttnQRefIdeal.nD Cert.AttnQRefIdeal.τ Cert.AttnQRefIdeal.sig) → Buf (Elt Ideal) ℓ) : Prop :=
  ∀ c : Dev Cert.AttnQRefIdeal.nD,
    (Cert.Pre_attnq_finite.fn (F := Ideal) (m ((c.tc : Thread Cert.AttnQRefIdeal.nD Cert.AttnQRefIdeal.τ).loc Cert.AttnQRefIdeal.main_arg0)) (m ((c.tc : Thread Cert.AttnQRefIdeal.nD Cert.AttnQRefIdeal.τ).loc Cert.AttnQRefIdeal.main_arg1)) (m ((c.tc : Thread Cert.AttnQRefIdeal.nD Cert.AttnQRefIdeal.τ).loc Cert.AttnQRefIdeal.main_arg2)) (m ((c.tc : Thread Cert.AttnQRefIdeal.nD Cert.AttnQRefIdeal.τ).loc Cert.AttnQRefIdeal.main_arg3)) (m ((c.tc : Thread Cert.AttnQRefIdeal.nD Cert.AttnQRefIdeal.τ).loc Cert.AttnQRefIdeal.main_arg4)) (m ((c.tc : Thread Cert.AttnQRefIdeal.nD Cert.AttnQRefIdeal.τ).loc Cert.AttnQRefIdeal.main_arg5)) (m ((c.tc : Thread Cert.AttnQRefIdeal.nD Cert.AttnQRefIdeal.τ).loc Cert.AttnQRefIdeal.main_arg6)) (m ((c.tc : Thread Cert.AttnQRefIdeal.nD Cert.AttnQRefIdeal.τ).loc Cert.AttnQRefIdeal.main_arg7)) (m ((c.tc : Thread Cert.AttnQRefIdeal.nD Cert.AttnQRefIdeal.τ).loc Cert.AttnQRefIdeal.main_arg8)) (m ((c.tc : Thread Cert.AttnQRefIdeal.nD Cert.AttnQRefIdeal.τ).loc Cert.AttnQRefIdeal.main_arg9))).1 = (fun _ => 1#1)
    ∧ (Cert.Pre_attnq_finite.fn (F := Ideal) (m ((c.tc : Thread Cert.AttnQRefIdeal.nD Cert.AttnQRefIdeal.τ).loc Cert.AttnQRefIdeal.main_arg0)) (m ((c.tc : Thread Cert.AttnQRefIdeal.nD Cert.AttnQRefIdeal.τ).loc Cert.AttnQRefIdeal.main_arg1)) (m ((c.tc : Thread Cert.AttnQRefIdeal.nD Cert.AttnQRefIdeal.τ).loc Cert.AttnQRefIdeal.main_arg2)) (m ((c.tc : Thread Cert.AttnQRefIdeal.nD Cert.AttnQRefIdeal.τ).loc Cert.AttnQRefIdeal.main_arg3)) (m ((c.tc : Thread Cert.AttnQRefIdeal.nD Cert.AttnQRefIdeal.τ).loc Cert.AttnQRefIdeal.main_arg4)) (m ((c.tc : Thread Cert.AttnQRefIdeal.nD Cert.AttnQRefIdeal.τ).loc Cert.AttnQRefIdeal.main_arg5)) (m ((c.tc : Thread Cert.AttnQRefIdeal.nD Cert.AttnQRefIdeal.τ).loc Cert.AttnQRefIdeal.main_arg6)) (m ((c.tc : Thread Cert.AttnQRefIdeal.nD Cert.AttnQRefIdeal.τ).loc Cert.AttnQRefIdeal.main_arg7)) (m ((c.tc : Thread Cert.AttnQRefIdeal.nD Cert.AttnQRefIdeal.τ).loc Cert.AttnQRefIdeal.main_arg8)) (m ((c.tc : Thread Cert.AttnQRefIdeal.nD Cert.AttnQRefIdeal.τ).loc Cert.AttnQRefIdeal.main_arg9))).2.1 = (fun _ => 1#1)
    ∧ (Cert.Pre_attnq_finite.fn (F := Ideal) (m ((c.tc : Thread Cert.AttnQRefIdeal.nD Cert.AttnQRefIdeal.τ).loc Cert.AttnQRefIdeal.main_arg0)) (m ((c.tc : Thread Cert.AttnQRefIdeal.nD Cert.AttnQRefIdeal.τ).loc Cert.AttnQRefIdeal.main_arg1)) (m ((c.tc : Thread Cert.AttnQRefIdeal.nD Cert.AttnQRefIdeal.τ).loc Cert.AttnQRefIdeal.main_arg2)) (m ((c.tc : Thread Cert.AttnQRefIdeal.nD Cert.AttnQRefIdeal.τ).loc Cert.AttnQRefIdeal.main_arg3)) (m ((c.tc : Thread Cert.AttnQRefIdeal.nD Cert.AttnQRefIdeal.τ).loc Cert.AttnQRefIdeal.main_arg4)) (m ((c.tc : Thread Cert.AttnQRefIdeal.nD Cert.AttnQRefIdeal.τ).loc Cert.AttnQRefIdeal.main_arg5)) (m ((c.tc : Thread Cert.AttnQRefIdeal.nD Cert.AttnQRefIdeal.τ).loc Cert.AttnQRefIdeal.main_arg6)) (m ((c.tc : Thread Cert.AttnQRefIdeal.nD Cert.AttnQRefIdeal.τ).loc Cert.AttnQRefIdeal.main_arg7)) (m ((c.tc : Thread Cert.AttnQRefIdeal.nD Cert.AttnQRefIdeal.τ).loc Cert.AttnQRefIdeal.main_arg8)) (m ((c.tc : Thread Cert.AttnQRefIdeal.nD Cert.AttnQRefIdeal.τ).loc Cert.AttnQRefIdeal.main_arg9))).2.2.1 = (fun _ => 1#1)
    ∧ (Cert.Pre_attnq_finite.fn (F := Ideal) (m ((c.tc : Thread Cert.AttnQRefIdeal.nD Cert.AttnQRefIdeal.τ).loc Cert.AttnQRefIdeal.main_arg0)) (m ((c.tc : Thread Cert.AttnQRefIdeal.nD Cert.AttnQRefIdeal.τ).loc Cert.AttnQRefIdeal.main_arg1)) (m ((c.tc : Thread Cert.AttnQRefIdeal.nD Cert.AttnQRefIdeal.τ).loc Cert.AttnQRefIdeal.main_arg2)) (m ((c.tc : Thread Cert.AttnQRefIdeal.nD Cert.AttnQRefIdeal.τ).loc Cert.AttnQRefIdeal.main_arg3)) (m ((c.tc : Thread Cert.AttnQRefIdeal.nD Cert.AttnQRefIdeal.τ).loc Cert.AttnQRefIdeal.main_arg4)) (m ((c.tc : Thread Cert.AttnQRefIdeal.nD Cert.AttnQRefIdeal.τ).loc Cert.AttnQRefIdeal.main_arg5)) (m ((c.tc : Thread Cert.AttnQRefIdeal.nD Cert.AttnQRefIdeal.τ).loc Cert.AttnQRefIdeal.main_arg6)) (m ((c.tc : Thread Cert.AttnQRefIdeal.nD Cert.AttnQRefIdeal.τ).loc Cert.AttnQRefIdeal.main_arg7)) (m ((c.tc : Thread Cert.AttnQRefIdeal.nD Cert.AttnQRefIdeal.τ).loc Cert.AttnQRefIdeal.main_arg8)) (m ((c.tc : Thread Cert.AttnQRefIdeal.nD Cert.AttnQRefIdeal.τ).loc Cert.AttnQRefIdeal.main_arg9))).2.2.2.1 = (fun _ => 1#1)
    ∧ (Cert.Pre_attnq_finite.fn (F := Ideal) (m ((c.tc : Thread Cert.AttnQRefIdeal.nD Cert.AttnQRefIdeal.τ).loc Cert.AttnQRefIdeal.main_arg0)) (m ((c.tc : Thread Cert.AttnQRefIdeal.nD Cert.AttnQRefIdeal.τ).loc Cert.AttnQRefIdeal.main_arg1)) (m ((c.tc : Thread Cert.AttnQRefIdeal.nD Cert.AttnQRefIdeal.τ).loc Cert.AttnQRefIdeal.main_arg2)) (m ((c.tc : Thread Cert.AttnQRefIdeal.nD Cert.AttnQRefIdeal.τ).loc Cert.AttnQRefIdeal.main_arg3)) (m ((c.tc : Thread Cert.AttnQRefIdeal.nD Cert.AttnQRefIdeal.τ).loc Cert.AttnQRefIdeal.main_arg4)) (m ((c.tc : Thread Cert.AttnQRefIdeal.nD Cert.AttnQRefIdeal.τ).loc Cert.AttnQRefIdeal.main_arg5)) (m ((c.tc : Thread Cert.AttnQRefIdeal.nD Cert.AttnQRefIdeal.τ).loc Cert.AttnQRefIdeal.main_arg6)) (m ((c.tc : Thread Cert.AttnQRefIdeal.nD Cert.AttnQRefIdeal.τ).loc Cert.AttnQRefIdeal.main_arg7)) (m ((c.tc : Thread Cert.AttnQRefIdeal.nD Cert.AttnQRefIdeal.τ).loc Cert.AttnQRefIdeal.main_arg8)) (m ((c.tc : Thread Cert.AttnQRefIdeal.nD Cert.AttnQRefIdeal.τ).loc Cert.AttnQRefIdeal.main_arg9))).2.2.2.2.1 = (fun _ => 1#1)
    ∧ (Cert.Pre_attnq_finite.fn (F := Ideal) (m ((c.tc : Thread Cert.AttnQRefIdeal.nD Cert.AttnQRefIdeal.τ).loc Cert.AttnQRefIdeal.main_arg0)) (m ((c.tc : Thread Cert.AttnQRefIdeal.nD Cert.AttnQRefIdeal.τ).loc Cert.AttnQRefIdeal.main_arg1)) (m ((c.tc : Thread Cert.AttnQRefIdeal.nD Cert.AttnQRefIdeal.τ).loc Cert.AttnQRefIdeal.main_arg2)) (m ((c.tc : Thread Cert.AttnQRefIdeal.nD Cert.AttnQRefIdeal.τ).loc Cert.AttnQRefIdeal.main_arg3)) (m ((c.tc : Thread Cert.AttnQRefIdeal.nD Cert.AttnQRefIdeal.τ).loc Cert.AttnQRefIdeal.main_arg4)) (m ((c.tc : Thread Cert.AttnQRefIdeal.nD Cert.AttnQRefIdeal.τ).loc Cert.AttnQRefIdeal.main_arg5)) (m ((c.tc : Thread Cert.AttnQRefIdeal.nD Cert.AttnQRefIdeal.τ).loc Cert.AttnQRefIdeal.main_arg6)) (m ((c.tc : Thread Cert.AttnQRefIdeal.nD Cert.AttnQRefIdeal.τ).loc Cert.AttnQRefIdeal.main_arg7)) (m ((c.tc : Thread Cert.AttnQRefIdeal.nD Cert.AttnQRefIdeal.τ).loc Cert.AttnQRefIdeal.main_arg8)) (m ((c.tc : Thread Cert.AttnQRefIdeal.nD Cert.AttnQRefIdeal.τ).loc Cert.AttnQRefIdeal.main_arg9))).2.2.2.2.2.1 = (fun _ => 1#1)
    ∧ (Cert.Pre_attnq_finite.fn (F := Ideal) (m ((c.tc : Thread Cert.AttnQRefIdeal.nD Cert.AttnQRefIdeal.τ).loc Cert.AttnQRefIdeal.main_arg0)) (m ((c.tc : Thread Cert.AttnQRefIdeal.nD Cert.AttnQRefIdeal.τ).loc Cert.AttnQRefIdeal.main_arg1)) (m ((c.tc : Thread Cert.AttnQRefIdeal.nD Cert.AttnQRefIdeal.τ).loc Cert.AttnQRefIdeal.main_arg2)) (m ((c.tc : Thread Cert.AttnQRefIdeal.nD Cert.AttnQRefIdeal.τ).loc Cert.AttnQRefIdeal.main_arg3)) (m ((c.tc : Thread Cert.AttnQRefIdeal.nD Cert.AttnQRefIdeal.τ).loc Cert.AttnQRefIdeal.main_arg4)) (m ((c.tc : Thread Cert.AttnQRefIdeal.nD Cert.AttnQRefIdeal.τ).loc Cert.AttnQRefIdeal.main_arg5)) (m ((c.tc : Thread Cert.AttnQRefIdeal.nD Cert.AttnQRefIdeal.τ).loc Cert.AttnQRefIdeal.main_arg6)) (m ((c.tc : Thread Cert.AttnQRefIdeal.nD Cert.AttnQRefIdeal.τ).loc Cert.AttnQRefIdeal.main_arg7)) (m ((c.tc : Thread Cert.AttnQRefIdeal.nD Cert.AttnQRefIdeal.τ).loc Cert.AttnQRefIdeal.main_arg8)) (m ((c.tc : Thread Cert.AttnQRefIdeal.nD Cert.AttnQRefIdeal.τ).loc Cert.AttnQRefIdeal.main_arg9))).2.2.2.2.2.2.1 = (fun _ => 1#1)
    ∧ (Cert.Pre_attnq_finite.fn (F := Ideal) (m ((c.tc : Thread Cert.AttnQRefIdeal.nD Cert.AttnQRefIdeal.τ).loc Cert.AttnQRefIdeal.main_arg0)) (m ((c.tc : Thread Cert.AttnQRefIdeal.nD Cert.AttnQRefIdeal.τ).loc Cert.AttnQRefIdeal.main_arg1)) (m ((c.tc : Thread Cert.AttnQRefIdeal.nD Cert.AttnQRefIdeal.τ).loc Cert.AttnQRefIdeal.main_arg2)) (m ((c.tc : Thread Cert.AttnQRefIdeal.nD Cert.AttnQRefIdeal.τ).loc Cert.AttnQRefIdeal.main_arg3)) (m ((c.tc : Thread Cert.AttnQRefIdeal.nD Cert.AttnQRefIdeal.τ).loc Cert.AttnQRefIdeal.main_arg4)) (m ((c.tc : Thread Cert.AttnQRefIdeal.nD Cert.AttnQRefIdeal.τ).loc Cert.AttnQRefIdeal.main_arg5)) (m ((c.tc : Thread Cert.AttnQRefIdeal.nD Cert.AttnQRefIdeal.τ).loc Cert.AttnQRefIdeal.main_arg6)) (m ((c.tc : Thread Cert.AttnQRefIdeal.nD Cert.AttnQRefIdeal.τ).loc Cert.AttnQRefIdeal.main_arg7)) (m ((c.tc : Thread Cert.AttnQRefIdeal.nD Cert.AttnQRefIdeal.τ).loc Cert.AttnQRefIdeal.main_arg8)) (m ((c.tc : Thread Cert.AttnQRefIdeal.nD Cert.AttnQRefIdeal.τ).loc Cert.AttnQRefIdeal.main_arg9))).2.2.2.2.2.2.2 = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvIdeal_kv_finite [hPre_kv_finite : Cert.Pre_kv_finite.Facts] (m : (ℓ : Loc Cert.KvIdeal.nD Cert.KvIdeal.τ Cert.KvIdeal.sig) → Buf (Elt Ideal) ℓ) : Prop :=
  ∀ c : Dev Cert.KvIdeal.nD,
    (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7)) (m ((c.tc : Thread Cert.KvIdeal.nD Cert.KvIdeal.τ).loc Cert.KvIdeal.main_arg8)) (m ((c.tc : Thread Cert.KvIdeal.nD Cert.KvIdeal.τ).loc Cert.KvIdeal.main_arg9))).1 = (fun _ => 1#1)
    ∧ (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7)) (m ((c.tc : Thread Cert.KvIdeal.nD Cert.KvIdeal.τ).loc Cert.KvIdeal.main_arg8)) (m ((c.tc : Thread Cert.KvIdeal.nD Cert.KvIdeal.τ).loc Cert.KvIdeal.main_arg9))).2.1 = (fun _ => 1#1)
    ∧ (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7)) (m ((c.tc : Thread Cert.KvIdeal.nD Cert.KvIdeal.τ).loc Cert.KvIdeal.main_arg8)) (m ((c.tc : Thread Cert.KvIdeal.nD Cert.KvIdeal.τ).loc Cert.KvIdeal.main_arg9))).2.2.1 = (fun _ => 1#1)
    ∧ (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7)) (m ((c.tc : Thread Cert.KvIdeal.nD Cert.KvIdeal.τ).loc Cert.KvIdeal.main_arg8)) (m ((c.tc : Thread Cert.KvIdeal.nD Cert.KvIdeal.τ).loc Cert.KvIdeal.main_arg9))).2.2.2.1 = (fun _ => 1#1)
    ∧ (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7)) (m ((c.tc : Thread Cert.KvIdeal.nD Cert.KvIdeal.τ).loc Cert.KvIdeal.main_arg8)) (m ((c.tc : Thread Cert.KvIdeal.nD Cert.KvIdeal.τ).loc Cert.KvIdeal.main_arg9))).2.2.2.2.1 = (fun _ => 1#1)
    ∧ (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7)) (m ((c.tc : Thread Cert.KvIdeal.nD Cert.KvIdeal.τ).loc Cert.KvIdeal.main_arg8)) (m ((c.tc : Thread Cert.KvIdeal.nD Cert.KvIdeal.τ).loc Cert.KvIdeal.main_arg9))).2.2.2.2.2.1 = (fun _ => 1#1)
    ∧ (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7)) (m ((c.tc : Thread Cert.KvIdeal.nD Cert.KvIdeal.τ).loc Cert.KvIdeal.main_arg8)) (m ((c.tc : Thread Cert.KvIdeal.nD Cert.KvIdeal.τ).loc Cert.KvIdeal.main_arg9))).2.2.2.2.2.2.1 = (fun _ => 1#1)
    ∧ (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7)) (m ((c.tc : Thread Cert.KvIdeal.nD Cert.KvIdeal.τ).loc Cert.KvIdeal.main_arg8)) (m ((c.tc : Thread Cert.KvIdeal.nD Cert.KvIdeal.τ).loc Cert.KvIdeal.main_arg9))).2.2.2.2.2.2.2 = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_kv_finite [hPre_kv_finite : Cert.Pre_kv_finite.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7)) (m ((c.tc : Thread Cert.KvRefIdeal.nD Cert.KvRefIdeal.τ).loc Cert.KvRefIdeal.main_arg8)) (m ((c.tc : Thread Cert.KvRefIdeal.nD Cert.KvRefIdeal.τ).loc Cert.KvRefIdeal.main_arg9))).1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7)) (m ((c.tc : Thread Cert.KvRefIdeal.nD Cert.KvRefIdeal.τ).loc Cert.KvRefIdeal.main_arg8)) (m ((c.tc : Thread Cert.KvRefIdeal.nD Cert.KvRefIdeal.τ).loc Cert.KvRefIdeal.main_arg9))).2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7)) (m ((c.tc : Thread Cert.KvRefIdeal.nD Cert.KvRefIdeal.τ).loc Cert.KvRefIdeal.main_arg8)) (m ((c.tc : Thread Cert.KvRefIdeal.nD Cert.KvRefIdeal.τ).loc Cert.KvRefIdeal.main_arg9))).2.2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7)) (m ((c.tc : Thread Cert.KvRefIdeal.nD Cert.KvRefIdeal.τ).loc Cert.KvRefIdeal.main_arg8)) (m ((c.tc : Thread Cert.KvRefIdeal.nD Cert.KvRefIdeal.τ).loc Cert.KvRefIdeal.main_arg9))).2.2.2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7)) (m ((c.tc : Thread Cert.KvRefIdeal.nD Cert.KvRefIdeal.τ).loc Cert.KvRefIdeal.main_arg8)) (m ((c.tc : Thread Cert.KvRefIdeal.nD Cert.KvRefIdeal.τ).loc Cert.KvRefIdeal.main_arg9))).2.2.2.2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7)) (m ((c.tc : Thread Cert.KvRefIdeal.nD Cert.KvRefIdeal.τ).loc Cert.KvRefIdeal.main_arg8)) (m ((c.tc : Thread Cert.KvRefIdeal.nD Cert.KvRefIdeal.τ).loc Cert.KvRefIdeal.main_arg9))).2.2.2.2.2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7)) (m ((c.tc : Thread Cert.KvRefIdeal.nD Cert.KvRefIdeal.τ).loc Cert.KvRefIdeal.main_arg8)) (m ((c.tc : Thread Cert.KvRefIdeal.nD Cert.KvRefIdeal.τ).loc Cert.KvRefIdeal.main_arg9))).2.2.2.2.2.2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7)) (m ((c.tc : Thread Cert.KvRefIdeal.nD Cert.KvRefIdeal.τ).loc Cert.KvRefIdeal.main_arg8)) (m ((c.tc : Thread Cert.KvRefIdeal.nD Cert.KvRefIdeal.τ).loc Cert.KvRefIdeal.main_arg9))).2.2.2.2.2.2.2 = (fun _ => 1#1)

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradIdeal_bias_finite [hPre_bias_finite : Cert.Pre_bias_finite.Facts] (m : (ℓ : Loc Cert.BiasGradIdeal.nD Cert.BiasGradIdeal.τ Cert.BiasGradIdeal.sig) → Buf (Elt Ideal) ℓ) : Prop :=
  ∀ c : Dev Cert.BiasGradIdeal.nD,
    (Cert.Pre_bias_finite.fn (F := Ideal) (m ((c.tc : Thread Cert.BiasGradIdeal.nD Cert.BiasGradIdeal.τ).loc Cert.BiasGradIdeal.main_arg0))) = (fun _ => 1#1)

def Pre_BiasGradRefIdeal (m : (ℓ : Loc Cert.BiasGradRefIdeal.nD Cert.BiasGradRefIdeal.τ Cert.BiasGradRefIdeal.sig) → Buf (Elt Ideal) ℓ) : Prop :=
  True

def Pre_BiasGradRefIdeal_bias_finite [hPre_bias_finite : Cert.Pre_bias_finite.Facts] (m : (ℓ : Loc Cert.BiasGradRefIdeal.nD Cert.BiasGradRefIdeal.τ Cert.BiasGradRefIdeal.sig) → Buf (Elt Ideal) ℓ) : Prop :=
  ∀ c : Dev Cert.BiasGradRefIdeal.nD,
    (Cert.Pre_bias_finite.fn (F := Ideal) (m ((c.tc : Thread Cert.BiasGradRefIdeal.nD Cert.BiasGradRefIdeal.τ).loc Cert.BiasGradRefIdeal.main_arg0))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_sgu_finite [hPre_sgu_finite : Cert.Pre_sgu_finite.Facts] (m : (ℓ : Loc Cert.SguIdeal.nD Cert.SguIdeal.τ Cert.SguIdeal.sig) → Buf (Elt Ideal) ℓ) : Prop :=
  ∀ c : Dev Cert.SguIdeal.nD,
    (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6))).1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6))).2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6))).2.2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6))).2.2.2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6))).2.2.2.2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6))).2.2.2.2.2.1 = (fun _ => 1#1)
    ∧ (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6))).2.2.2.2.2.2 = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_finite [hPre_sgu_finite : Cert.Pre_sgu_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.2.2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.2.2.2.2.2 = (fun _ => 1#1)

def Pre_FfnLn (m : (ℓ : Loc Cert.FfnLn.nD Cert.FfnLn.τ Cert.FfnLn.sig) → Buf (Elt Bits) ℓ) : Prop :=
  True

def Pre_FfnLnIdeal (m : (ℓ : Loc Cert.FfnLnIdeal.nD Cert.FfnLnIdeal.τ Cert.FfnLnIdeal.sig) → Buf (Elt Ideal) ℓ) : Prop :=
  True

def Pre_FfnLnRefIdeal (m : (ℓ : Loc Cert.FfnLnRefIdeal.nD Cert.FfnLnRefIdeal.τ Cert.FfnLnRefIdeal.sig) → Buf (Elt Ideal) ℓ) : Prop :=
  True

def Pre_MixLn (m : (ℓ : Loc Cert.MixLn.nD Cert.MixLn.τ Cert.MixLn.sig) → Buf (Elt Bits) ℓ) : Prop :=
  True

def Pre_MixLnIdeal (m : (ℓ : Loc Cert.MixLnIdeal.nD Cert.MixLnIdeal.τ Cert.MixLnIdeal.sig) → Buf (Elt Ideal) ℓ) : Prop :=
  True

def Pre_MixLnRefIdeal (m : (ℓ : Loc Cert.MixLnRefIdeal.nD Cert.MixLnRefIdeal.τ Cert.MixLnRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_GmlpUp (m : (ℓ : Loc Cert.GmlpUp.nD Cert.GmlpUp.τ Cert.GmlpUp.sig) → Buf (Elt Bits) ℓ) : Prop :=
  True

def Pre_GmlpUpIdeal (m : (ℓ : Loc Cert.GmlpUpIdeal.nD Cert.GmlpUpIdeal.τ Cert.GmlpUpIdeal.sig) → Buf (Elt Ideal) ℓ) : Prop :=
  True

def Pre_GmlpUpRefIdeal (m : (ℓ : Loc Cert.GmlpUpRefIdeal.nD Cert.GmlpUpRefIdeal.τ Cert.GmlpUpRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def quiescent_LaneSum [hLaneSum : Cert.LaneSum.Facts] : Prop :=
  ∀ (m : (ℓ : Loc Cert.LaneSum.nD Cert.LaneSum.τ Cert.LaneSum.sig) → Buf (Elt Bits) ℓ) (g : Dev Cert.LaneSum.nD → PrngReg), Pre_LaneSum m →
    θ_run (Cert.LaneSum.defs (F := Bits)) (onTc (τ := Cert.LaneSum.τ) (Cert.LaneSum.main (F := Bits))) ⟨m, fun _ => 0, g⟩ (fun r => (∀ c : Dev Cert.LaneSum.nD,
      r.2.mem ((c.tc : Thread Cert.LaneSum.nD Cert.LaneSum.τ).loc Cert.LaneSum.main_arg0) = m ((c.tc : Thread Cert.LaneSum.nD Cert.LaneSum.τ).loc Cert.LaneSum.main_arg0))
      ∧ r.2.sem = fun _ => 0)

def quiescent_LaneSumIdeal [hLaneSumIdeal : Cert.LaneSumIdeal.Facts] : Prop :=
  ∀ (m : (ℓ : Loc Cert.LaneSumIdeal.nD Cert.LaneSumIdeal.τ Cert.LaneSumIdeal.sig) → Buf (Elt Ideal) ℓ) (g : Dev Cert.LaneSumIdeal.nD → PrngReg), Pre_LaneSumIdeal m →
    θ_run (Cert.LaneSumIdeal.defs (F := Ideal)) (onTc (τ := Cert.LaneSumIdeal.τ) (Cert.LaneSumIdeal.main (F := Ideal))) ⟨m, fun _ => 0, g⟩ (fun r => (∀ c : Dev Cert.LaneSumIdeal.nD,
      r.2.mem ((c.tc : Thread Cert.LaneSumIdeal.nD Cert.LaneSumIdeal.τ).loc Cert.LaneSumIdeal.main_arg0) = m ((c.tc : Thread Cert.LaneSumIdeal.nD Cert.LaneSumIdeal.τ).loc Cert.LaneSumIdeal.main_arg0))
      ∧ r.2.sem = fun _ => 0)

def quiescent_LaneSumRefIdeal [hLaneSumRefIdeal : Cert.LaneSumRefIdeal.Facts] : Prop :=
  ∀ (m : (ℓ : Loc Cert.LaneSumRefIdeal.nD Cert.LaneSumRefIdeal.τ Cert.LaneSumRefIdeal.sig) → Buf (Elt Ideal) ℓ) (g : Dev Cert.LaneSumRefIdeal.nD → PrngReg), Pre_LaneSumRefIdeal m →
    θ_run (Cert.LaneSumRefIdeal.defs (F := Ideal)) (onTc (τ := Cert.LaneSumRefIdeal.τ) (Cert.LaneSumRefIdeal.main (F := Ideal))) ⟨m, fun _ => 0, g⟩ (fun r => (∀ c : Dev Cert.LaneSumRefIdeal.nD,
      r.2.mem ((c.tc : Thread Cert.LaneSumRefIdeal.nD Cert.LaneSumRefIdeal.τ).loc Cert.LaneSumRefIdeal.main_arg0) = m ((c.tc : Thread Cert.LaneSumRefIdeal.nD Cert.LaneSumRefIdeal.τ).loc Cert.LaneSumRefIdeal.main_arg0))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActIdeal_pre_ffn_finite [hFfnActIdeal : Cert.FfnActIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_ffn_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_FfnActRefIdeal_pre_ffn_finite [hFfnActRefIdeal : Cert.FfnActRefIdeal.Facts] [hPre_ffn_finite : Cert.Pre_ffn_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_ffn_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_UpFirst [hUpFirst : Cert.UpFirst.Facts] : Prop :=
  ∀ (m : (ℓ : Loc Cert.UpFirst.nD Cert.UpFirst.τ Cert.UpFirst.sig) → Buf (Elt Bits) ℓ) (g : Dev Cert.UpFirst.nD → PrngReg), Pre_UpFirst m →
    θ_run (Cert.UpFirst.defs (F := Bits)) (onTc (τ := Cert.UpFirst.τ) (Cert.UpFirst.main (F := Bits))) ⟨m, fun _ => 0, g⟩ (fun r => (∀ c : Dev Cert.UpFirst.nD,
      r.2.mem ((c.tc : Thread Cert.UpFirst.nD Cert.UpFirst.τ).loc Cert.UpFirst.main_arg0) = m ((c.tc : Thread Cert.UpFirst.nD Cert.UpFirst.τ).loc Cert.UpFirst.main_arg0)
      ∧ r.2.mem ((c.tc : Thread Cert.UpFirst.nD Cert.UpFirst.τ).loc Cert.UpFirst.main_arg1) = m ((c.tc : Thread Cert.UpFirst.nD Cert.UpFirst.τ).loc Cert.UpFirst.main_arg1)
      ∧ r.2.mem ((c.tc : Thread Cert.UpFirst.nD Cert.UpFirst.τ).loc Cert.UpFirst.main_arg2) = m ((c.tc : Thread Cert.UpFirst.nD Cert.UpFirst.τ).loc Cert.UpFirst.main_arg2)
      ∧ r.2.mem ((c.tc : Thread Cert.UpFirst.nD Cert.UpFirst.τ).loc Cert.UpFirst.main_arg3) = m ((c.tc : Thread Cert.UpFirst.nD Cert.UpFirst.τ).loc Cert.UpFirst.main_arg3)
      ∧ r.2.mem ((c.tc : Thread Cert.UpFirst.nD Cert.UpFirst.τ).loc Cert.UpFirst.main_arg4) = m ((c.tc : Thread Cert.UpFirst.nD Cert.UpFirst.τ).loc Cert.UpFirst.main_arg4)
      ∧ r.2.mem ((c.tc : Thread Cert.UpFirst.nD Cert.UpFirst.τ).loc Cert.UpFirst.main_arg5) = m ((c.tc : Thread Cert.UpFirst.nD Cert.UpFirst.τ).loc Cert.UpFirst.main_arg5))
      ∧ r.2.sem = fun _ => 0)

def quiescent_UpFirstIdeal [hUpFirstIdeal : Cert.UpFirstIdeal.Facts] : Prop :=
  ∀ (m : (ℓ : Loc Cert.UpFirstIdeal.nD Cert.UpFirstIdeal.τ Cert.UpFirstIdeal.sig) → Buf (Elt Ideal) ℓ) (g : Dev Cert.UpFirstIdeal.nD → PrngReg), Pre_UpFirstIdeal m →
    θ_run (Cert.UpFirstIdeal.defs (F := Ideal)) (onTc (τ := Cert.UpFirstIdeal.τ) (Cert.UpFirstIdeal.main (F := Ideal))) ⟨m, fun _ => 0, g⟩ (fun r => (∀ c : Dev Cert.UpFirstIdeal.nD,
      r.2.mem ((c.tc : Thread Cert.UpFirstIdeal.nD Cert.UpFirstIdeal.τ).loc Cert.UpFirstIdeal.main_arg0) = m ((c.tc : Thread Cert.UpFirstIdeal.nD Cert.UpFirstIdeal.τ).loc Cert.UpFirstIdeal.main_arg0)
      ∧ r.2.mem ((c.tc : Thread Cert.UpFirstIdeal.nD Cert.UpFirstIdeal.τ).loc Cert.UpFirstIdeal.main_arg1) = m ((c.tc : Thread Cert.UpFirstIdeal.nD Cert.UpFirstIdeal.τ).loc Cert.UpFirstIdeal.main_arg1)
      ∧ r.2.mem ((c.tc : Thread Cert.UpFirstIdeal.nD Cert.UpFirstIdeal.τ).loc Cert.UpFirstIdeal.main_arg2) = m ((c.tc : Thread Cert.UpFirstIdeal.nD Cert.UpFirstIdeal.τ).loc Cert.UpFirstIdeal.main_arg2)
      ∧ r.2.mem ((c.tc : Thread Cert.UpFirstIdeal.nD Cert.UpFirstIdeal.τ).loc Cert.UpFirstIdeal.main_arg3) = m ((c.tc : Thread Cert.UpFirstIdeal.nD Cert.UpFirstIdeal.τ).loc Cert.UpFirstIdeal.main_arg3)
      ∧ r.2.mem ((c.tc : Thread Cert.UpFirstIdeal.nD Cert.UpFirstIdeal.τ).loc Cert.UpFirstIdeal.main_arg4) = m ((c.tc : Thread Cert.UpFirstIdeal.nD Cert.UpFirstIdeal.τ).loc Cert.UpFirstIdeal.main_arg4)
      ∧ r.2.mem ((c.tc : Thread Cert.UpFirstIdeal.nD Cert.UpFirstIdeal.τ).loc Cert.UpFirstIdeal.main_arg5) = m ((c.tc : Thread Cert.UpFirstIdeal.nD Cert.UpFirstIdeal.τ).loc Cert.UpFirstIdeal.main_arg5))
      ∧ r.2.sem = fun _ => 0)

def quiescent_UpFirstRefIdeal [hUpFirstRefIdeal : Cert.UpFirstRefIdeal.Facts] : Prop :=
  ∀ (m : (ℓ : Loc Cert.UpFirstRefIdeal.nD Cert.UpFirstRefIdeal.τ Cert.UpFirstRefIdeal.sig) → Buf (Elt Ideal) ℓ) (g : Dev Cert.UpFirstRefIdeal.nD → PrngReg), Pre_UpFirstRefIdeal m →
    θ_run (Cert.UpFirstRefIdeal.defs (F := Ideal)) (onTc (τ := Cert.UpFirstRefIdeal.τ) (Cert.UpFirstRefIdeal.main (F := Ideal))) ⟨m, fun _ => 0, g⟩ (fun r => (∀ c : Dev Cert.UpFirstRefIdeal.nD,
      r.2.mem ((c.tc : Thread Cert.UpFirstRefIdeal.nD Cert.UpFirstRefIdeal.τ).loc Cert.UpFirstRefIdeal.main_arg0) = m ((c.tc : Thread Cert.UpFirstRefIdeal.nD Cert.UpFirstRefIdeal.τ).loc Cert.UpFirstRefIdeal.main_arg0)
      ∧ r.2.mem ((c.tc : Thread Cert.UpFirstRefIdeal.nD Cert.UpFirstRefIdeal.τ).loc Cert.UpFirstRefIdeal.main_arg1) = m ((c.tc : Thread Cert.UpFirstRefIdeal.nD Cert.UpFirstRefIdeal.τ).loc Cert.UpFirstRefIdeal.main_arg1)
      ∧ r.2.mem ((c.tc : Thread Cert.UpFirstRefIdeal.nD Cert.UpFirstRefIdeal.τ).loc Cert.UpFirstRefIdeal.main_arg2) = m ((c.tc : Thread Cert.UpFirstRefIdeal.nD Cert.UpFirstRefIdeal.τ).loc Cert.UpFirstRefIdeal.main_arg2)
      ∧ r.2.mem ((c.tc : Thread Cert.UpFirstRefIdeal.nD Cert.UpFirstRefIdeal.τ).loc Cert.UpFirstRefIdeal.main_arg3) = m ((c.tc : Thread Cert.UpFirstRefIdeal.nD Cert.UpFirstRefIdeal.τ).loc Cert.UpFirstRefIdeal.main_arg3)
      ∧ r.2.mem ((c.tc : Thread Cert.UpFirstRefIdeal.nD Cert.UpFirstRefIdeal.τ).loc Cert.UpFirstRefIdeal.main_arg4) = m ((c.tc : Thread Cert.UpFirstRefIdeal.nD Cert.UpFirstRefIdeal.τ).loc Cert.UpFirstRefIdeal.main_arg4)
      ∧ r.2.mem ((c.tc : Thread Cert.UpFirstRefIdeal.nD Cert.UpFirstRefIdeal.τ).loc Cert.UpFirstRefIdeal.main_arg5) = m ((c.tc : Thread Cert.UpFirstRefIdeal.nD Cert.UpFirstRefIdeal.τ).loc Cert.UpFirstRefIdeal.main_arg5))
      ∧ r.2.sem = fun _ => 0)

def quiescent_UpMixer [hUpMixer : Cert.UpMixer.Facts] : Prop :=
  ∀ (m : (ℓ : Loc Cert.UpMixer.nD Cert.UpMixer.τ Cert.UpMixer.sig) → Buf (Elt Bits) ℓ) (g : Dev Cert.UpMixer.nD → PrngReg), Pre_UpMixer m →
    θ_run (Cert.UpMixer.defs (F := Bits)) (onTc (τ := Cert.UpMixer.τ) (Cert.UpMixer.main (F := Bits))) ⟨m, fun _ => 0, g⟩ (fun r => (∀ c : Dev Cert.UpMixer.nD,
      r.2.mem ((c.tc : Thread Cert.UpMixer.nD Cert.UpMixer.τ).loc Cert.UpMixer.main_arg0) = m ((c.tc : Thread Cert.UpMixer.nD Cert.UpMixer.τ).loc Cert.UpMixer.main_arg0)
      ∧ r.2.mem ((c.tc : Thread Cert.UpMixer.nD Cert.UpMixer.τ).loc Cert.UpMixer.main_arg1) = m ((c.tc : Thread Cert.UpMixer.nD Cert.UpMixer.τ).loc Cert.UpMixer.main_arg1)
      ∧ r.2.mem ((c.tc : Thread Cert.UpMixer.nD Cert.UpMixer.τ).loc Cert.UpMixer.main_arg2) = m ((c.tc : Thread Cert.UpMixer.nD Cert.UpMixer.τ).loc Cert.UpMixer.main_arg2)
      ∧ r.2.mem ((c.tc : Thread Cert.UpMixer.nD Cert.UpMixer.τ).loc Cert.UpMixer.main_arg3) = m ((c.tc : Thread Cert.UpMixer.nD Cert.UpMixer.τ).loc Cert.UpMixer.main_arg3)
      ∧ r.2.mem ((c.tc : Thread Cert.UpMixer.nD Cert.UpMixer.τ).loc Cert.UpMixer.main_arg4) = m ((c.tc : Thread Cert.UpMixer.nD Cert.UpMixer.τ).loc Cert.UpMixer.main_arg4)
      ∧ r.2.mem ((c.tc : Thread Cert.UpMixer.nD Cert.UpMixer.τ).loc Cert.UpMixer.main_arg5) = m ((c.tc : Thread Cert.UpMixer.nD Cert.UpMixer.τ).loc Cert.UpMixer.main_arg5)
      ∧ r.2.mem ((c.tc : Thread Cert.UpMixer.nD Cert.UpMixer.τ).loc Cert.UpMixer.main_arg6) = m ((c.tc : Thread Cert.UpMixer.nD Cert.UpMixer.τ).loc Cert.UpMixer.main_arg6)
      ∧ r.2.mem ((c.tc : Thread Cert.UpMixer.nD Cert.UpMixer.τ).loc Cert.UpMixer.main_arg7) = m ((c.tc : Thread Cert.UpMixer.nD Cert.UpMixer.τ).loc Cert.UpMixer.main_arg7)
      ∧ r.2.mem ((c.tc : Thread Cert.UpMixer.nD Cert.UpMixer.τ).loc Cert.UpMixer.main_arg8) = m ((c.tc : Thread Cert.UpMixer.nD Cert.UpMixer.τ).loc Cert.UpMixer.main_arg8)
      ∧ r.2.mem ((c.tc : Thread Cert.UpMixer.nD Cert.UpMixer.τ).loc Cert.UpMixer.main_arg9) = m ((c.tc : Thread Cert.UpMixer.nD Cert.UpMixer.τ).loc Cert.UpMixer.main_arg9))
      ∧ r.2.sem = fun _ => 0)

def quiescent_UpMixerIdeal [hUpMixerIdeal : Cert.UpMixerIdeal.Facts] : Prop :=
  ∀ (m : (ℓ : Loc Cert.UpMixerIdeal.nD Cert.UpMixerIdeal.τ Cert.UpMixerIdeal.sig) → Buf (Elt Ideal) ℓ) (g : Dev Cert.UpMixerIdeal.nD → PrngReg), Pre_UpMixerIdeal m →
    θ_run (Cert.UpMixerIdeal.defs (F := Ideal)) (onTc (τ := Cert.UpMixerIdeal.τ) (Cert.UpMixerIdeal.main (F := Ideal))) ⟨m, fun _ => 0, g⟩ (fun r => (∀ c : Dev Cert.UpMixerIdeal.nD,
      r.2.mem ((c.tc : Thread Cert.UpMixerIdeal.nD Cert.UpMixerIdeal.τ).loc Cert.UpMixerIdeal.main_arg0) = m ((c.tc : Thread Cert.UpMixerIdeal.nD Cert.UpMixerIdeal.τ).loc Cert.UpMixerIdeal.main_arg0)
      ∧ r.2.mem ((c.tc : Thread Cert.UpMixerIdeal.nD Cert.UpMixerIdeal.τ).loc Cert.UpMixerIdeal.main_arg1) = m ((c.tc : Thread Cert.UpMixerIdeal.nD Cert.UpMixerIdeal.τ).loc Cert.UpMixerIdeal.main_arg1)
      ∧ r.2.mem ((c.tc : Thread Cert.UpMixerIdeal.nD Cert.UpMixerIdeal.τ).loc Cert.UpMixerIdeal.main_arg2) = m ((c.tc : Thread Cert.UpMixerIdeal.nD Cert.UpMixerIdeal.τ).loc Cert.UpMixerIdeal.main_arg2)
      ∧ r.2.mem ((c.tc : Thread Cert.UpMixerIdeal.nD Cert.UpMixerIdeal.τ).loc Cert.UpMixerIdeal.main_arg3) = m ((c.tc : Thread Cert.UpMixerIdeal.nD Cert.UpMixerIdeal.τ).loc Cert.UpMixerIdeal.main_arg3)
      ∧ r.2.mem ((c.tc : Thread Cert.UpMixerIdeal.nD Cert.UpMixerIdeal.τ).loc Cert.UpMixerIdeal.main_arg4) = m ((c.tc : Thread Cert.UpMixerIdeal.nD Cert.UpMixerIdeal.τ).loc Cert.UpMixerIdeal.main_arg4)
      ∧ r.2.mem ((c.tc : Thread Cert.UpMixerIdeal.nD Cert.UpMixerIdeal.τ).loc Cert.UpMixerIdeal.main_arg5) = m ((c.tc : Thread Cert.UpMixerIdeal.nD Cert.UpMixerIdeal.τ).loc Cert.UpMixerIdeal.main_arg5)
      ∧ r.2.mem ((c.tc : Thread Cert.UpMixerIdeal.nD Cert.UpMixerIdeal.τ).loc Cert.UpMixerIdeal.main_arg6) = m ((c.tc : Thread Cert.UpMixerIdeal.nD Cert.UpMixerIdeal.τ).loc Cert.UpMixerIdeal.main_arg6)
      ∧ r.2.mem ((c.tc : Thread Cert.UpMixerIdeal.nD Cert.UpMixerIdeal.τ).loc Cert.UpMixerIdeal.main_arg7) = m ((c.tc : Thread Cert.UpMixerIdeal.nD Cert.UpMixerIdeal.τ).loc Cert.UpMixerIdeal.main_arg7)
      ∧ r.2.mem ((c.tc : Thread Cert.UpMixerIdeal.nD Cert.UpMixerIdeal.τ).loc Cert.UpMixerIdeal.main_arg8) = m ((c.tc : Thread Cert.UpMixerIdeal.nD Cert.UpMixerIdeal.τ).loc Cert.UpMixerIdeal.main_arg8)
      ∧ r.2.mem ((c.tc : Thread Cert.UpMixerIdeal.nD Cert.UpMixerIdeal.τ).loc Cert.UpMixerIdeal.main_arg9) = m ((c.tc : Thread Cert.UpMixerIdeal.nD Cert.UpMixerIdeal.τ).loc Cert.UpMixerIdeal.main_arg9))
      ∧ r.2.sem = fun _ => 0)

def quiescent_UpMixerIdeal_pre_up1_finite [hUpMixerIdeal : Cert.UpMixerIdeal.Facts] [hPre_up1_finite : Cert.Pre_up1_finite.Facts] : Prop :=
  ∀ (m : (ℓ : Loc Cert.UpMixerIdeal.nD Cert.UpMixerIdeal.τ Cert.UpMixerIdeal.sig) → Buf (Elt Ideal) ℓ) (g : Dev Cert.UpMixerIdeal.nD → PrngReg), Pre_UpMixerIdeal_up1_finite m →
    θ_run (Cert.UpMixerIdeal.defs (F := Ideal)) (onTc (τ := Cert.UpMixerIdeal.τ) (Cert.UpMixerIdeal.main (F := Ideal))) ⟨m, fun _ => 0, g⟩ (fun r => (∀ c : Dev Cert.UpMixerIdeal.nD,
      r.2.mem ((c.tc : Thread Cert.UpMixerIdeal.nD Cert.UpMixerIdeal.τ).loc Cert.UpMixerIdeal.main_arg0) = m ((c.tc : Thread Cert.UpMixerIdeal.nD Cert.UpMixerIdeal.τ).loc Cert.UpMixerIdeal.main_arg0)
      ∧ r.2.mem ((c.tc : Thread Cert.UpMixerIdeal.nD Cert.UpMixerIdeal.τ).loc Cert.UpMixerIdeal.main_arg1) = m ((c.tc : Thread Cert.UpMixerIdeal.nD Cert.UpMixerIdeal.τ).loc Cert.UpMixerIdeal.main_arg1)
      ∧ r.2.mem ((c.tc : Thread Cert.UpMixerIdeal.nD Cert.UpMixerIdeal.τ).loc Cert.UpMixerIdeal.main_arg2) = m ((c.tc : Thread Cert.UpMixerIdeal.nD Cert.UpMixerIdeal.τ).loc Cert.UpMixerIdeal.main_arg2)
      ∧ r.2.mem ((c.tc : Thread Cert.UpMixerIdeal.nD Cert.UpMixerIdeal.τ).loc Cert.UpMixerIdeal.main_arg3) = m ((c.tc : Thread Cert.UpMixerIdeal.nD Cert.UpMixerIdeal.τ).loc Cert.UpMixerIdeal.main_arg3)
      ∧ r.2.mem ((c.tc : Thread Cert.UpMixerIdeal.nD Cert.UpMixerIdeal.τ).loc Cert.UpMixerIdeal.main_arg4) = m ((c.tc : Thread Cert.UpMixerIdeal.nD Cert.UpMixerIdeal.τ).loc Cert.UpMixerIdeal.main_arg4)
      ∧ r.2.mem ((c.tc : Thread Cert.UpMixerIdeal.nD Cert.UpMixerIdeal.τ).loc Cert.UpMixerIdeal.main_arg5) = m ((c.tc : Thread Cert.UpMixerIdeal.nD Cert.UpMixerIdeal.τ).loc Cert.UpMixerIdeal.main_arg5)
      ∧ r.2.mem ((c.tc : Thread Cert.UpMixerIdeal.nD Cert.UpMixerIdeal.τ).loc Cert.UpMixerIdeal.main_arg6) = m ((c.tc : Thread Cert.UpMixerIdeal.nD Cert.UpMixerIdeal.τ).loc Cert.UpMixerIdeal.main_arg6)
      ∧ r.2.mem ((c.tc : Thread Cert.UpMixerIdeal.nD Cert.UpMixerIdeal.τ).loc Cert.UpMixerIdeal.main_arg7) = m ((c.tc : Thread Cert.UpMixerIdeal.nD Cert.UpMixerIdeal.τ).loc Cert.UpMixerIdeal.main_arg7)
      ∧ r.2.mem ((c.tc : Thread Cert.UpMixerIdeal.nD Cert.UpMixerIdeal.τ).loc Cert.UpMixerIdeal.main_arg8) = m ((c.tc : Thread Cert.UpMixerIdeal.nD Cert.UpMixerIdeal.τ).loc Cert.UpMixerIdeal.main_arg8)
      ∧ r.2.mem ((c.tc : Thread Cert.UpMixerIdeal.nD Cert.UpMixerIdeal.τ).loc Cert.UpMixerIdeal.main_arg9) = m ((c.tc : Thread Cert.UpMixerIdeal.nD Cert.UpMixerIdeal.τ).loc Cert.UpMixerIdeal.main_arg9))
      ∧ r.2.sem = fun _ => 0)

def quiescent_UpMixerRefIdeal [hUpMixerRefIdeal : Cert.UpMixerRefIdeal.Facts] : Prop :=
  ∀ (m : (ℓ : Loc Cert.UpMixerRefIdeal.nD Cert.UpMixerRefIdeal.τ Cert.UpMixerRefIdeal.sig) → Buf (Elt Ideal) ℓ) (g : Dev Cert.UpMixerRefIdeal.nD → PrngReg), Pre_UpMixerRefIdeal m →
    θ_run (Cert.UpMixerRefIdeal.defs (F := Ideal)) (onTc (τ := Cert.UpMixerRefIdeal.τ) (Cert.UpMixerRefIdeal.main (F := Ideal))) ⟨m, fun _ => 0, g⟩ (fun r => (∀ c : Dev Cert.UpMixerRefIdeal.nD,
      r.2.mem ((c.tc : Thread Cert.UpMixerRefIdeal.nD Cert.UpMixerRefIdeal.τ).loc Cert.UpMixerRefIdeal.main_arg0) = m ((c.tc : Thread Cert.UpMixerRefIdeal.nD Cert.UpMixerRefIdeal.τ).loc Cert.UpMixerRefIdeal.main_arg0)
      ∧ r.2.mem ((c.tc : Thread Cert.UpMixerRefIdeal.nD Cert.UpMixerRefIdeal.τ).loc Cert.UpMixerRefIdeal.main_arg1) = m ((c.tc : Thread Cert.UpMixerRefIdeal.nD Cert.UpMixerRefIdeal.τ).loc Cert.UpMixerRefIdeal.main_arg1)
      ∧ r.2.mem ((c.tc : Thread Cert.UpMixerRefIdeal.nD Cert.UpMixerRefIdeal.τ).loc Cert.UpMixerRefIdeal.main_arg2) = m ((c.tc : Thread Cert.UpMixerRefIdeal.nD Cert.UpMixerRefIdeal.τ).loc Cert.UpMixerRefIdeal.main_arg2)
      ∧ r.2.mem ((c.tc : Thread Cert.UpMixerRefIdeal.nD Cert.UpMixerRefIdeal.τ).loc Cert.UpMixerRefIdeal.main_arg3) = m ((c.tc : Thread Cert.UpMixerRefIdeal.nD Cert.UpMixerRefIdeal.τ).loc Cert.UpMixerRefIdeal.main_arg3)
      ∧ r.2.mem ((c.tc : Thread Cert.UpMixerRefIdeal.nD Cert.UpMixerRefIdeal.τ).loc Cert.UpMixerRefIdeal.main_arg4) = m ((c.tc : Thread Cert.UpMixerRefIdeal.nD Cert.UpMixerRefIdeal.τ).loc Cert.UpMixerRefIdeal.main_arg4)
      ∧ r.2.mem ((c.tc : Thread Cert.UpMixerRefIdeal.nD Cert.UpMixerRefIdeal.τ).loc Cert.UpMixerRefIdeal.main_arg5) = m ((c.tc : Thread Cert.UpMixerRefIdeal.nD Cert.UpMixerRefIdeal.τ).loc Cert.UpMixerRefIdeal.main_arg5)
      ∧ r.2.mem ((c.tc : Thread Cert.UpMixerRefIdeal.nD Cert.UpMixerRefIdeal.τ).loc Cert.UpMixerRefIdeal.main_arg6) = m ((c.tc : Thread Cert.UpMixerRefIdeal.nD Cert.UpMixerRefIdeal.τ).loc Cert.UpMixerRefIdeal.main_arg6)
      ∧ r.2.mem ((c.tc : Thread Cert.UpMixerRefIdeal.nD Cert.UpMixerRefIdeal.τ).loc Cert.UpMixerRefIdeal.main_arg7) = m ((c.tc : Thread Cert.UpMixerRefIdeal.nD Cert.UpMixerRefIdeal.τ).loc Cert.UpMixerRefIdeal.main_arg7)
      ∧ r.2.mem ((c.tc : Thread Cert.UpMixerRefIdeal.nD Cert.UpMixerRefIdeal.τ).loc Cert.UpMixerRefIdeal.main_arg8) = m ((c.tc : Thread Cert.UpMixerRefIdeal.nD Cert.UpMixerRefIdeal.τ).loc Cert.UpMixerRefIdeal.main_arg8)
      ∧ r.2.mem ((c.tc : Thread Cert.UpMixerRefIdeal.nD Cert.UpMixerRefIdeal.τ).loc Cert.UpMixerRefIdeal.main_arg9) = m ((c.tc : Thread Cert.UpMixerRefIdeal.nD Cert.UpMixerRefIdeal.τ).loc Cert.UpMixerRefIdeal.main_arg9))
      ∧ r.2.sem = fun _ => 0)

def quiescent_UpMixerRefIdeal_pre_up1_finite [hUpMixerRefIdeal : Cert.UpMixerRefIdeal.Facts] [hPre_up1_finite : Cert.Pre_up1_finite.Facts] : Prop :=
  ∀ (m : (ℓ : Loc Cert.UpMixerRefIdeal.nD Cert.UpMixerRefIdeal.τ Cert.UpMixerRefIdeal.sig) → Buf (Elt Ideal) ℓ) (g : Dev Cert.UpMixerRefIdeal.nD → PrngReg), Pre_UpMixerRefIdeal_up1_finite m →
    θ_run (Cert.UpMixerRefIdeal.defs (F := Ideal)) (onTc (τ := Cert.UpMixerRefIdeal.τ) (Cert.UpMixerRefIdeal.main (F := Ideal))) ⟨m, fun _ => 0, g⟩ (fun r => (∀ c : Dev Cert.UpMixerRefIdeal.nD,
      r.2.mem ((c.tc : Thread Cert.UpMixerRefIdeal.nD Cert.UpMixerRefIdeal.τ).loc Cert.UpMixerRefIdeal.main_arg0) = m ((c.tc : Thread Cert.UpMixerRefIdeal.nD Cert.UpMixerRefIdeal.τ).loc Cert.UpMixerRefIdeal.main_arg0)
      ∧ r.2.mem ((c.tc : Thread Cert.UpMixerRefIdeal.nD Cert.UpMixerRefIdeal.τ).loc Cert.UpMixerRefIdeal.main_arg1) = m ((c.tc : Thread Cert.UpMixerRefIdeal.nD Cert.UpMixerRefIdeal.τ).loc Cert.UpMixerRefIdeal.main_arg1)
      ∧ r.2.mem ((c.tc : Thread Cert.UpMixerRefIdeal.nD Cert.UpMixerRefIdeal.τ).loc Cert.UpMixerRefIdeal.main_arg2) = m ((c.tc : Thread Cert.UpMixerRefIdeal.nD Cert.UpMixerRefIdeal.τ).loc Cert.UpMixerRefIdeal.main_arg2)
      ∧ r.2.mem ((c.tc : Thread Cert.UpMixerRefIdeal.nD Cert.UpMixerRefIdeal.τ).loc Cert.UpMixerRefIdeal.main_arg3) = m ((c.tc : Thread Cert.UpMixerRefIdeal.nD Cert.UpMixerRefIdeal.τ).loc Cert.UpMixerRefIdeal.main_arg3)
      ∧ r.2.mem ((c.tc : Thread Cert.UpMixerRefIdeal.nD Cert.UpMixerRefIdeal.τ).loc Cert.UpMixerRefIdeal.main_arg4) = m ((c.tc : Thread Cert.UpMixerRefIdeal.nD Cert.UpMixerRefIdeal.τ).loc Cert.UpMixerRefIdeal.main_arg4)
      ∧ r.2.mem ((c.tc : Thread Cert.UpMixerRefIdeal.nD Cert.UpMixerRefIdeal.τ).loc Cert.UpMixerRefIdeal.main_arg5) = m ((c.tc : Thread Cert.UpMixerRefIdeal.nD Cert.UpMixerRefIdeal.τ).loc Cert.UpMixerRefIdeal.main_arg5)
      ∧ r.2.mem ((c.tc : Thread Cert.UpMixerRefIdeal.nD Cert.UpMixerRefIdeal.τ).loc Cert.UpMixerRefIdeal.main_arg6) = m ((c.tc : Thread Cert.UpMixerRefIdeal.nD Cert.UpMixerRefIdeal.τ).loc Cert.UpMixerRefIdeal.main_arg6)
      ∧ r.2.mem ((c.tc : Thread Cert.UpMixerRefIdeal.nD Cert.UpMixerRefIdeal.τ).loc Cert.UpMixerRefIdeal.main_arg7) = m ((c.tc : Thread Cert.UpMixerRefIdeal.nD Cert.UpMixerRefIdeal.τ).loc Cert.UpMixerRefIdeal.main_arg7)
      ∧ r.2.mem ((c.tc : Thread Cert.UpMixerRefIdeal.nD Cert.UpMixerRefIdeal.τ).loc Cert.UpMixerRefIdeal.main_arg8) = m ((c.tc : Thread Cert.UpMixerRefIdeal.nD Cert.UpMixerRefIdeal.τ).loc Cert.UpMixerRefIdeal.main_arg8)
      ∧ r.2.mem ((c.tc : Thread Cert.UpMixerRefIdeal.nD Cert.UpMixerRefIdeal.τ).loc Cert.UpMixerRefIdeal.main_arg9) = m ((c.tc : Thread Cert.UpMixerRefIdeal.nD Cert.UpMixerRefIdeal.τ).loc Cert.UpMixerRefIdeal.main_arg9))
      ∧ r.2.sem = fun _ => 0)

def quiescent_LossLn [hLossLn : Cert.LossLn.Facts] : Prop :=
  ∀ (m : (ℓ : Loc Cert.LossLn.nD Cert.LossLn.τ Cert.LossLn.sig) → Buf (Elt Bits) ℓ) (g : Dev Cert.LossLn.nD → PrngReg), Pre_LossLn m →
    θ_run (Cert.LossLn.defs (F := Bits)) (onTc (τ := Cert.LossLn.τ) (Cert.LossLn.main (F := Bits))) ⟨m, fun _ => 0, g⟩ (fun r => (∀ c : Dev Cert.LossLn.nD,
      r.2.mem ((c.tc : Thread Cert.LossLn.nD Cert.LossLn.τ).loc Cert.LossLn.main_arg0) = m ((c.tc : Thread Cert.LossLn.nD Cert.LossLn.τ).loc Cert.LossLn.main_arg0)
      ∧ r.2.mem ((c.tc : Thread Cert.LossLn.nD Cert.LossLn.τ).loc Cert.LossLn.main_arg1) = m ((c.tc : Thread Cert.LossLn.nD Cert.LossLn.τ).loc Cert.LossLn.main_arg1)
      ∧ r.2.mem ((c.tc : Thread Cert.LossLn.nD Cert.LossLn.τ).loc Cert.LossLn.main_arg2) = m ((c.tc : Thread Cert.LossLn.nD Cert.LossLn.τ).loc Cert.LossLn.main_arg2)
      ∧ r.2.mem ((c.tc : Thread Cert.LossLn.nD Cert.LossLn.τ).loc Cert.LossLn.main_arg3) = m ((c.tc : Thread Cert.LossLn.nD Cert.LossLn.τ).loc Cert.LossLn.main_arg3)
      ∧ r.2.mem ((c.tc : Thread Cert.LossLn.nD Cert.LossLn.τ).loc Cert.LossLn.main_arg4) = m ((c.tc : Thread Cert.LossLn.nD Cert.LossLn.τ).loc Cert.LossLn.main_arg4)
      ∧ r.2.mem ((c.tc : Thread Cert.LossLn.nD Cert.LossLn.τ).loc Cert.LossLn.main_arg5) = m ((c.tc : Thread Cert.LossLn.nD Cert.LossLn.τ).loc Cert.LossLn.main_arg5))
      ∧ r.2.sem = fun _ => 0)

def quiescent_LossLnIdeal [hLossLnIdeal : Cert.LossLnIdeal.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
      ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5))
      ∧ r.2.sem = fun _ => 0)

def quiescent_LossLnIdeal_pre_loss_finite [hLossLnIdeal : Cert.LossLnIdeal.Facts] [hPre_loss_finite : Cert.Pre_loss_finite.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal_loss_finite m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
      ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5))
      ∧ r.2.sem = fun _ => 0)

def quiescent_LossLnRefIdeal [hLossLnRefIdeal : Cert.LossLnRefIdeal.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4)
      ∧ r.2.mem ((c.tc : Thread Cert.LossLnRefIdeal.nD Cert.LossLnRefIdeal.τ).loc Cert.LossLnRefIdeal.main_arg5) = m ((c.tc : Thread Cert.LossLnRefIdeal.nD Cert.LossLnRefIdeal.τ).loc Cert.LossLnRefIdeal.main_arg5))
      ∧ r.2.sem = fun _ => 0)

def quiescent_LossLnRefIdeal_pre_loss_finite [hLossLnRefIdeal : Cert.LossLnRefIdeal.Facts] [hPre_loss_finite : Cert.Pre_loss_finite.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal_loss_finite m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4)
      ∧ r.2.mem ((c.tc : Thread Cert.LossLnRefIdeal.nD Cert.LossLnRefIdeal.τ).loc Cert.LossLnRefIdeal.main_arg5) = m ((c.tc : Thread Cert.LossLnRefIdeal.nD Cert.LossLnRefIdeal.τ).loc Cert.LossLnRefIdeal.main_arg5))
      ∧ r.2.sem = fun _ => 0)

def quiescent_UpFfn [hUpFfn : Cert.UpFfn.Facts] : Prop :=
  ∀ (m : (ℓ : Loc Cert.UpFfn.nD Cert.UpFfn.τ Cert.UpFfn.sig) → Buf (Elt Bits) ℓ) (g : Dev Cert.UpFfn.nD → PrngReg), Pre_UpFfn m →
    θ_run (Cert.UpFfn.defs (F := Bits)) (onTc (τ := Cert.UpFfn.τ) (Cert.UpFfn.main (F := Bits))) ⟨m, fun _ => 0, g⟩ (fun r => (∀ c : Dev Cert.UpFfn.nD,
      r.2.mem ((c.tc : Thread Cert.UpFfn.nD Cert.UpFfn.τ).loc Cert.UpFfn.main_arg0) = m ((c.tc : Thread Cert.UpFfn.nD Cert.UpFfn.τ).loc Cert.UpFfn.main_arg0)
      ∧ r.2.mem ((c.tc : Thread Cert.UpFfn.nD Cert.UpFfn.τ).loc Cert.UpFfn.main_arg1) = m ((c.tc : Thread Cert.UpFfn.nD Cert.UpFfn.τ).loc Cert.UpFfn.main_arg1)
      ∧ r.2.mem ((c.tc : Thread Cert.UpFfn.nD Cert.UpFfn.τ).loc Cert.UpFfn.main_arg2) = m ((c.tc : Thread Cert.UpFfn.nD Cert.UpFfn.τ).loc Cert.UpFfn.main_arg2)
      ∧ r.2.mem ((c.tc : Thread Cert.UpFfn.nD Cert.UpFfn.τ).loc Cert.UpFfn.main_arg3) = m ((c.tc : Thread Cert.UpFfn.nD Cert.UpFfn.τ).loc Cert.UpFfn.main_arg3)
      ∧ r.2.mem ((c.tc : Thread Cert.UpFfn.nD Cert.UpFfn.τ).loc Cert.UpFfn.main_arg4) = m ((c.tc : Thread Cert.UpFfn.nD Cert.UpFfn.τ).loc Cert.UpFfn.main_arg4)
      ∧ r.2.mem ((c.tc : Thread Cert.UpFfn.nD Cert.UpFfn.τ).loc Cert.UpFfn.main_arg5) = m ((c.tc : Thread Cert.UpFfn.nD Cert.UpFfn.τ).loc Cert.UpFfn.main_arg5)
      ∧ r.2.mem ((c.tc : Thread Cert.UpFfn.nD Cert.UpFfn.τ).loc Cert.UpFfn.main_arg6) = m ((c.tc : Thread Cert.UpFfn.nD Cert.UpFfn.τ).loc Cert.UpFfn.main_arg6)
      ∧ r.2.mem ((c.tc : Thread Cert.UpFfn.nD Cert.UpFfn.τ).loc Cert.UpFfn.main_arg7) = m ((c.tc : Thread Cert.UpFfn.nD Cert.UpFfn.τ).loc Cert.UpFfn.main_arg7)
      ∧ r.2.mem ((c.tc : Thread Cert.UpFfn.nD Cert.UpFfn.τ).loc Cert.UpFfn.main_arg8) = m ((c.tc : Thread Cert.UpFfn.nD Cert.UpFfn.τ).loc Cert.UpFfn.main_arg8)
      ∧ r.2.mem ((c.tc : Thread Cert.UpFfn.nD Cert.UpFfn.τ).loc Cert.UpFfn.main_arg9) = m ((c.tc : Thread Cert.UpFfn.nD Cert.UpFfn.τ).loc Cert.UpFfn.main_arg9))
      ∧ r.2.sem = fun _ => 0)

def quiescent_UpFfnIdeal [hUpFfnIdeal : Cert.UpFfnIdeal.Facts] : Prop :=
  ∀ (m : (ℓ : Loc Cert.UpFfnIdeal.nD Cert.UpFfnIdeal.τ Cert.UpFfnIdeal.sig) → Buf (Elt Ideal) ℓ) (g : Dev Cert.UpFfnIdeal.nD → PrngReg), Pre_UpFfnIdeal m →
    θ_run (Cert.UpFfnIdeal.defs (F := Ideal)) (onTc (τ := Cert.UpFfnIdeal.τ) (Cert.UpFfnIdeal.main (F := Ideal))) ⟨m, fun _ => 0, g⟩ (fun r => (∀ c : Dev Cert.UpFfnIdeal.nD,
      r.2.mem ((c.tc : Thread Cert.UpFfnIdeal.nD Cert.UpFfnIdeal.τ).loc Cert.UpFfnIdeal.main_arg0) = m ((c.tc : Thread Cert.UpFfnIdeal.nD Cert.UpFfnIdeal.τ).loc Cert.UpFfnIdeal.main_arg0)
      ∧ r.2.mem ((c.tc : Thread Cert.UpFfnIdeal.nD Cert.UpFfnIdeal.τ).loc Cert.UpFfnIdeal.main_arg1) = m ((c.tc : Thread Cert.UpFfnIdeal.nD Cert.UpFfnIdeal.τ).loc Cert.UpFfnIdeal.main_arg1)
      ∧ r.2.mem ((c.tc : Thread Cert.UpFfnIdeal.nD Cert.UpFfnIdeal.τ).loc Cert.UpFfnIdeal.main_arg2) = m ((c.tc : Thread Cert.UpFfnIdeal.nD Cert.UpFfnIdeal.τ).loc Cert.UpFfnIdeal.main_arg2)
      ∧ r.2.mem ((c.tc : Thread Cert.UpFfnIdeal.nD Cert.UpFfnIdeal.τ).loc Cert.UpFfnIdeal.main_arg3) = m ((c.tc : Thread Cert.UpFfnIdeal.nD Cert.UpFfnIdeal.τ).loc Cert.UpFfnIdeal.main_arg3)
      ∧ r.2.mem ((c.tc : Thread Cert.UpFfnIdeal.nD Cert.UpFfnIdeal.τ).loc Cert.UpFfnIdeal.main_arg4) = m ((c.tc : Thread Cert.UpFfnIdeal.nD Cert.UpFfnIdeal.τ).loc Cert.UpFfnIdeal.main_arg4)
      ∧ r.2.mem ((c.tc : Thread Cert.UpFfnIdeal.nD Cert.UpFfnIdeal.τ).loc Cert.UpFfnIdeal.main_arg5) = m ((c.tc : Thread Cert.UpFfnIdeal.nD Cert.UpFfnIdeal.τ).loc Cert.UpFfnIdeal.main_arg5)
      ∧ r.2.mem ((c.tc : Thread Cert.UpFfnIdeal.nD Cert.UpFfnIdeal.τ).loc Cert.UpFfnIdeal.main_arg6) = m ((c.tc : Thread Cert.UpFfnIdeal.nD Cert.UpFfnIdeal.τ).loc Cert.UpFfnIdeal.main_arg6)
      ∧ r.2.mem ((c.tc : Thread Cert.UpFfnIdeal.nD Cert.UpFfnIdeal.τ).loc Cert.UpFfnIdeal.main_arg7) = m ((c.tc : Thread Cert.UpFfnIdeal.nD Cert.UpFfnIdeal.τ).loc Cert.UpFfnIdeal.main_arg7)
      ∧ r.2.mem ((c.tc : Thread Cert.UpFfnIdeal.nD Cert.UpFfnIdeal.τ).loc Cert.UpFfnIdeal.main_arg8) = m ((c.tc : Thread Cert.UpFfnIdeal.nD Cert.UpFfnIdeal.τ).loc Cert.UpFfnIdeal.main_arg8)
      ∧ r.2.mem ((c.tc : Thread Cert.UpFfnIdeal.nD Cert.UpFfnIdeal.τ).loc Cert.UpFfnIdeal.main_arg9) = m ((c.tc : Thread Cert.UpFfnIdeal.nD Cert.UpFfnIdeal.τ).loc Cert.UpFfnIdeal.main_arg9))
      ∧ r.2.sem = fun _ => 0)

def quiescent_UpFfnIdeal_pre_up2_finite [hUpFfnIdeal : Cert.UpFfnIdeal.Facts] [hPre_up2_finite : Cert.Pre_up2_finite.Facts] : Prop :=
  ∀ (m : (ℓ : Loc Cert.UpFfnIdeal.nD Cert.UpFfnIdeal.τ Cert.UpFfnIdeal.sig) → Buf (Elt Ideal) ℓ) (g : Dev Cert.UpFfnIdeal.nD → PrngReg), Pre_UpFfnIdeal_up2_finite m →
    θ_run (Cert.UpFfnIdeal.defs (F := Ideal)) (onTc (τ := Cert.UpFfnIdeal.τ) (Cert.UpFfnIdeal.main (F := Ideal))) ⟨m, fun _ => 0, g⟩ (fun r => (∀ c : Dev Cert.UpFfnIdeal.nD,
      r.2.mem ((c.tc : Thread Cert.UpFfnIdeal.nD Cert.UpFfnIdeal.τ).loc Cert.UpFfnIdeal.main_arg0) = m ((c.tc : Thread Cert.UpFfnIdeal.nD Cert.UpFfnIdeal.τ).loc Cert.UpFfnIdeal.main_arg0)
      ∧ r.2.mem ((c.tc : Thread Cert.UpFfnIdeal.nD Cert.UpFfnIdeal.τ).loc Cert.UpFfnIdeal.main_arg1) = m ((c.tc : Thread Cert.UpFfnIdeal.nD Cert.UpFfnIdeal.τ).loc Cert.UpFfnIdeal.main_arg1)
      ∧ r.2.mem ((c.tc : Thread Cert.UpFfnIdeal.nD Cert.UpFfnIdeal.τ).loc Cert.UpFfnIdeal.main_arg2) = m ((c.tc : Thread Cert.UpFfnIdeal.nD Cert.UpFfnIdeal.τ).loc Cert.UpFfnIdeal.main_arg2)
      ∧ r.2.mem ((c.tc : Thread Cert.UpFfnIdeal.nD Cert.UpFfnIdeal.τ).loc Cert.UpFfnIdeal.main_arg3) = m ((c.tc : Thread Cert.UpFfnIdeal.nD Cert.UpFfnIdeal.τ).loc Cert.UpFfnIdeal.main_arg3)
      ∧ r.2.mem ((c.tc : Thread Cert.UpFfnIdeal.nD Cert.UpFfnIdeal.τ).loc Cert.UpFfnIdeal.main_arg4) = m ((c.tc : Thread Cert.UpFfnIdeal.nD Cert.UpFfnIdeal.τ).loc Cert.UpFfnIdeal.main_arg4)
      ∧ r.2.mem ((c.tc : Thread Cert.UpFfnIdeal.nD Cert.UpFfnIdeal.τ).loc Cert.UpFfnIdeal.main_arg5) = m ((c.tc : Thread Cert.UpFfnIdeal.nD Cert.UpFfnIdeal.τ).loc Cert.UpFfnIdeal.main_arg5)
      ∧ r.2.mem ((c.tc : Thread Cert.UpFfnIdeal.nD Cert.UpFfnIdeal.τ).loc Cert.UpFfnIdeal.main_arg6) = m ((c.tc : Thread Cert.UpFfnIdeal.nD Cert.UpFfnIdeal.τ).loc Cert.UpFfnIdeal.main_arg6)
      ∧ r.2.mem ((c.tc : Thread Cert.UpFfnIdeal.nD Cert.UpFfnIdeal.τ).loc Cert.UpFfnIdeal.main_arg7) = m ((c.tc : Thread Cert.UpFfnIdeal.nD Cert.UpFfnIdeal.τ).loc Cert.UpFfnIdeal.main_arg7)
      ∧ r.2.mem ((c.tc : Thread Cert.UpFfnIdeal.nD Cert.UpFfnIdeal.τ).loc Cert.UpFfnIdeal.main_arg8) = m ((c.tc : Thread Cert.UpFfnIdeal.nD Cert.UpFfnIdeal.τ).loc Cert.UpFfnIdeal.main_arg8)
      ∧ r.2.mem ((c.tc : Thread Cert.UpFfnIdeal.nD Cert.UpFfnIdeal.τ).loc Cert.UpFfnIdeal.main_arg9) = m ((c.tc : Thread Cert.UpFfnIdeal.nD Cert.UpFfnIdeal.τ).loc Cert.UpFfnIdeal.main_arg9))
      ∧ r.2.sem = fun _ => 0)

def quiescent_UpFfnRefIdeal [hUpFfnRefIdeal : Cert.UpFfnRefIdeal.Facts] : Prop :=
  ∀ (m : (ℓ : Loc Cert.UpFfnRefIdeal.nD Cert.UpFfnRefIdeal.τ Cert.UpFfnRefIdeal.sig) → Buf (Elt Ideal) ℓ) (g : Dev Cert.UpFfnRefIdeal.nD → PrngReg), Pre_UpFfnRefIdeal m →
    θ_run (Cert.UpFfnRefIdeal.defs (F := Ideal)) (onTc (τ := Cert.UpFfnRefIdeal.τ) (Cert.UpFfnRefIdeal.main (F := Ideal))) ⟨m, fun _ => 0, g⟩ (fun r => (∀ c : Dev Cert.UpFfnRefIdeal.nD,
      r.2.mem ((c.tc : Thread Cert.UpFfnRefIdeal.nD Cert.UpFfnRefIdeal.τ).loc Cert.UpFfnRefIdeal.main_arg0) = m ((c.tc : Thread Cert.UpFfnRefIdeal.nD Cert.UpFfnRefIdeal.τ).loc Cert.UpFfnRefIdeal.main_arg0)
      ∧ r.2.mem ((c.tc : Thread Cert.UpFfnRefIdeal.nD Cert.UpFfnRefIdeal.τ).loc Cert.UpFfnRefIdeal.main_arg1) = m ((c.tc : Thread Cert.UpFfnRefIdeal.nD Cert.UpFfnRefIdeal.τ).loc Cert.UpFfnRefIdeal.main_arg1)
      ∧ r.2.mem ((c.tc : Thread Cert.UpFfnRefIdeal.nD Cert.UpFfnRefIdeal.τ).loc Cert.UpFfnRefIdeal.main_arg2) = m ((c.tc : Thread Cert.UpFfnRefIdeal.nD Cert.UpFfnRefIdeal.τ).loc Cert.UpFfnRefIdeal.main_arg2)
      ∧ r.2.mem ((c.tc : Thread Cert.UpFfnRefIdeal.nD Cert.UpFfnRefIdeal.τ).loc Cert.UpFfnRefIdeal.main_arg3) = m ((c.tc : Thread Cert.UpFfnRefIdeal.nD Cert.UpFfnRefIdeal.τ).loc Cert.UpFfnRefIdeal.main_arg3)
      ∧ r.2.mem ((c.tc : Thread Cert.UpFfnRefIdeal.nD Cert.UpFfnRefIdeal.τ).loc Cert.UpFfnRefIdeal.main_arg4) = m ((c.tc : Thread Cert.UpFfnRefIdeal.nD Cert.UpFfnRefIdeal.τ).loc Cert.UpFfnRefIdeal.main_arg4)
      ∧ r.2.mem ((c.tc : Thread Cert.UpFfnRefIdeal.nD Cert.UpFfnRefIdeal.τ).loc Cert.UpFfnRefIdeal.main_arg5) = m ((c.tc : Thread Cert.UpFfnRefIdeal.nD Cert.UpFfnRefIdeal.τ).loc Cert.UpFfnRefIdeal.main_arg5)
      ∧ r.2.mem ((c.tc : Thread Cert.UpFfnRefIdeal.nD Cert.UpFfnRefIdeal.τ).loc Cert.UpFfnRefIdeal.main_arg6) = m ((c.tc : Thread Cert.UpFfnRefIdeal.nD Cert.UpFfnRefIdeal.τ).loc Cert.UpFfnRefIdeal.main_arg6)
      ∧ r.2.mem ((c.tc : Thread Cert.UpFfnRefIdeal.nD Cert.UpFfnRefIdeal.τ).loc Cert.UpFfnRefIdeal.main_arg7) = m ((c.tc : Thread Cert.UpFfnRefIdeal.nD Cert.UpFfnRefIdeal.τ).loc Cert.UpFfnRefIdeal.main_arg7)
      ∧ r.2.mem ((c.tc : Thread Cert.UpFfnRefIdeal.nD Cert.UpFfnRefIdeal.τ).loc Cert.UpFfnRefIdeal.main_arg8) = m ((c.tc : Thread Cert.UpFfnRefIdeal.nD Cert.UpFfnRefIdeal.τ).loc Cert.UpFfnRefIdeal.main_arg8)
      ∧ r.2.mem ((c.tc : Thread Cert.UpFfnRefIdeal.nD Cert.UpFfnRefIdeal.τ).loc Cert.UpFfnRefIdeal.main_arg9) = m ((c.tc : Thread Cert.UpFfnRefIdeal.nD Cert.UpFfnRefIdeal.τ).loc Cert.UpFfnRefIdeal.main_arg9))
      ∧ r.2.sem = fun _ => 0)

def quiescent_UpFfnRefIdeal_pre_up2_finite [hUpFfnRefIdeal : Cert.UpFfnRefIdeal.Facts] [hPre_up2_finite : Cert.Pre_up2_finite.Facts] : Prop :=
  ∀ (m : (ℓ : Loc Cert.UpFfnRefIdeal.nD Cert.UpFfnRefIdeal.τ Cert.UpFfnRefIdeal.sig) → Buf (Elt Ideal) ℓ) (g : Dev Cert.UpFfnRefIdeal.nD → PrngReg), Pre_UpFfnRefIdeal_up2_finite m →
    θ_run (Cert.UpFfnRefIdeal.defs (F := Ideal)) (onTc (τ := Cert.UpFfnRefIdeal.τ) (Cert.UpFfnRefIdeal.main (F := Ideal))) ⟨m, fun _ => 0, g⟩ (fun r => (∀ c : Dev Cert.UpFfnRefIdeal.nD,
      r.2.mem ((c.tc : Thread Cert.UpFfnRefIdeal.nD Cert.UpFfnRefIdeal.τ).loc Cert.UpFfnRefIdeal.main_arg0) = m ((c.tc : Thread Cert.UpFfnRefIdeal.nD Cert.UpFfnRefIdeal.τ).loc Cert.UpFfnRefIdeal.main_arg0)
      ∧ r.2.mem ((c.tc : Thread Cert.UpFfnRefIdeal.nD Cert.UpFfnRefIdeal.τ).loc Cert.UpFfnRefIdeal.main_arg1) = m ((c.tc : Thread Cert.UpFfnRefIdeal.nD Cert.UpFfnRefIdeal.τ).loc Cert.UpFfnRefIdeal.main_arg1)
      ∧ r.2.mem ((c.tc : Thread Cert.UpFfnRefIdeal.nD Cert.UpFfnRefIdeal.τ).loc Cert.UpFfnRefIdeal.main_arg2) = m ((c.tc : Thread Cert.UpFfnRefIdeal.nD Cert.UpFfnRefIdeal.τ).loc Cert.UpFfnRefIdeal.main_arg2)
      ∧ r.2.mem ((c.tc : Thread Cert.UpFfnRefIdeal.nD Cert.UpFfnRefIdeal.τ).loc Cert.UpFfnRefIdeal.main_arg3) = m ((c.tc : Thread Cert.UpFfnRefIdeal.nD Cert.UpFfnRefIdeal.τ).loc Cert.UpFfnRefIdeal.main_arg3)
      ∧ r.2.mem ((c.tc : Thread Cert.UpFfnRefIdeal.nD Cert.UpFfnRefIdeal.τ).loc Cert.UpFfnRefIdeal.main_arg4) = m ((c.tc : Thread Cert.UpFfnRefIdeal.nD Cert.UpFfnRefIdeal.τ).loc Cert.UpFfnRefIdeal.main_arg4)
      ∧ r.2.mem ((c.tc : Thread Cert.UpFfnRefIdeal.nD Cert.UpFfnRefIdeal.τ).loc Cert.UpFfnRefIdeal.main_arg5) = m ((c.tc : Thread Cert.UpFfnRefIdeal.nD Cert.UpFfnRefIdeal.τ).loc Cert.UpFfnRefIdeal.main_arg5)
      ∧ r.2.mem ((c.tc : Thread Cert.UpFfnRefIdeal.nD Cert.UpFfnRefIdeal.τ).loc Cert.UpFfnRefIdeal.main_arg6) = m ((c.tc : Thread Cert.UpFfnRefIdeal.nD Cert.UpFfnRefIdeal.τ).loc Cert.UpFfnRefIdeal.main_arg6)
      ∧ r.2.mem ((c.tc : Thread Cert.UpFfnRefIdeal.nD Cert.UpFfnRefIdeal.τ).loc Cert.UpFfnRefIdeal.main_arg7) = m ((c.tc : Thread Cert.UpFfnRefIdeal.nD Cert.UpFfnRefIdeal.τ).loc Cert.UpFfnRefIdeal.main_arg7)
      ∧ r.2.mem ((c.tc : Thread Cert.UpFfnRefIdeal.nD Cert.UpFfnRefIdeal.τ).loc Cert.UpFfnRefIdeal.main_arg8) = m ((c.tc : Thread Cert.UpFfnRefIdeal.nD Cert.UpFfnRefIdeal.τ).loc Cert.UpFfnRefIdeal.main_arg8)
      ∧ r.2.mem ((c.tc : Thread Cert.UpFfnRefIdeal.nD Cert.UpFfnRefIdeal.τ).loc Cert.UpFfnRefIdeal.main_arg9) = m ((c.tc : Thread Cert.UpFfnRefIdeal.nD Cert.UpFfnRefIdeal.τ).loc Cert.UpFfnRefIdeal.main_arg9))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1)
      ∧ r.2.mem ((c.tc : Thread Cert.GmlpIn.nD Cert.GmlpIn.τ).loc Cert.GmlpIn.main_arg2) = m ((c.tc : Thread Cert.GmlpIn.nD Cert.GmlpIn.τ).loc Cert.GmlpIn.main_arg2)
      ∧ r.2.mem ((c.tc : Thread Cert.GmlpIn.nD Cert.GmlpIn.τ).loc Cert.GmlpIn.main_arg3) = m ((c.tc : Thread Cert.GmlpIn.nD Cert.GmlpIn.τ).loc Cert.GmlpIn.main_arg3)
      ∧ r.2.mem ((c.tc : Thread Cert.GmlpIn.nD Cert.GmlpIn.τ).loc Cert.GmlpIn.main_arg4) = m ((c.tc : Thread Cert.GmlpIn.nD Cert.GmlpIn.τ).loc Cert.GmlpIn.main_arg4)
      ∧ r.2.mem ((c.tc : Thread Cert.GmlpIn.nD Cert.GmlpIn.τ).loc Cert.GmlpIn.main_arg5) = m ((c.tc : Thread Cert.GmlpIn.nD Cert.GmlpIn.τ).loc Cert.GmlpIn.main_arg5)
      ∧ r.2.mem ((c.tc : Thread Cert.GmlpIn.nD Cert.GmlpIn.τ).loc Cert.GmlpIn.main_arg6) = m ((c.tc : Thread Cert.GmlpIn.nD Cert.GmlpIn.τ).loc Cert.GmlpIn.main_arg6)
      ∧ r.2.mem ((c.tc : Thread Cert.GmlpIn.nD Cert.GmlpIn.τ).loc Cert.GmlpIn.main_arg7) = m ((c.tc : Thread Cert.GmlpIn.nD Cert.GmlpIn.τ).loc Cert.GmlpIn.main_arg7)
      ∧ r.2.mem ((c.tc : Thread Cert.GmlpIn.nD Cert.GmlpIn.τ).loc Cert.GmlpIn.main_arg8) = m ((c.tc : Thread Cert.GmlpIn.nD Cert.GmlpIn.τ).loc Cert.GmlpIn.main_arg8)
      ∧ r.2.mem ((c.tc : Thread Cert.GmlpIn.nD Cert.GmlpIn.τ).loc Cert.GmlpIn.main_arg9) = m ((c.tc : Thread Cert.GmlpIn.nD Cert.GmlpIn.τ).loc Cert.GmlpIn.main_arg9))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
      ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2)
      ∧ r.2.mem ((c.tc : Thread Cert.GmlpInIdeal.nD Cert.GmlpInIdeal.τ).loc Cert.GmlpInIdeal.main_arg3) = m ((c.tc : Thread Cert.GmlpInIdeal.nD Cert.GmlpInIdeal.τ).loc Cert.GmlpInIdeal.main_arg3)
      ∧ r.2.mem ((c.tc : Thread Cert.GmlpInIdeal.nD Cert.GmlpInIdeal.τ).loc Cert.GmlpInIdeal.main_arg4) = m ((c.tc : Thread Cert.GmlpInIdeal.nD Cert.GmlpInIdeal.τ).loc Cert.GmlpInIdeal.main_arg4)
      ∧ r.2.mem ((c.tc : Thread Cert.GmlpInIdeal.nD Cert.GmlpInIdeal.τ).loc Cert.GmlpInIdeal.main_arg5) = m ((c.tc : Thread Cert.GmlpInIdeal.nD Cert.GmlpInIdeal.τ).loc Cert.GmlpInIdeal.main_arg5)
      ∧ r.2.mem ((c.tc : Thread Cert.GmlpInIdeal.nD Cert.GmlpInIdeal.τ).loc Cert.GmlpInIdeal.main_arg6) = m ((c.tc : Thread Cert.GmlpInIdeal.nD Cert.GmlpInIdeal.τ).loc Cert.GmlpInIdeal.main_arg6)
      ∧ r.2.mem ((c.tc : Thread Cert.GmlpInIdeal.nD Cert.GmlpInIdeal.τ).loc Cert.GmlpInIdeal.main_arg7) = m ((c.tc : Thread Cert.GmlpInIdeal.nD Cert.GmlpInIdeal.τ).loc Cert.GmlpInIdeal.main_arg7)
      ∧ r.2.mem ((c.tc : Thread Cert.GmlpInIdeal.nD Cert.GmlpInIdeal.τ).loc Cert.GmlpInIdeal.main_arg8) = m ((c.tc : Thread Cert.GmlpInIdeal.nD Cert.GmlpInIdeal.τ).loc Cert.GmlpInIdeal.main_arg8)
      ∧ r.2.mem ((c.tc : Thread Cert.GmlpInIdeal.nD Cert.GmlpInIdeal.τ).loc Cert.GmlpInIdeal.main_arg9) = m ((c.tc : Thread Cert.GmlpInIdeal.nD Cert.GmlpInIdeal.τ).loc Cert.GmlpInIdeal.main_arg9))
      ∧ r.2.sem = fun _ => 0)

def quiescent_GmlpInIdeal_pre_gmlp_finite [hGmlpInIdeal : Cert.GmlpInIdeal.Facts] [hPre_gmlp_finite : Cert.Pre_gmlp_finite.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal_gmlp_finite m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
      ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2)
      ∧ r.2.mem ((c.tc : Thread Cert.GmlpInIdeal.nD Cert.GmlpInIdeal.τ).loc Cert.GmlpInIdeal.main_arg3) = m ((c.tc : Thread Cert.GmlpInIdeal.nD Cert.GmlpInIdeal.τ).loc Cert.GmlpInIdeal.main_arg3)
      ∧ r.2.mem ((c.tc : Thread Cert.GmlpInIdeal.nD Cert.GmlpInIdeal.τ).loc Cert.GmlpInIdeal.main_arg4) = m ((c.tc : Thread Cert.GmlpInIdeal.nD Cert.GmlpInIdeal.τ).loc Cert.GmlpInIdeal.main_arg4)
      ∧ r.2.mem ((c.tc : Thread Cert.GmlpInIdeal.nD Cert.GmlpInIdeal.τ).loc Cert.GmlpInIdeal.main_arg5) = m ((c.tc : Thread Cert.GmlpInIdeal.nD Cert.GmlpInIdeal.τ).loc Cert.GmlpInIdeal.main_arg5)
      ∧ r.2.mem ((c.tc : Thread Cert.GmlpInIdeal.nD Cert.GmlpInIdeal.τ).loc Cert.GmlpInIdeal.main_arg6) = m ((c.tc : Thread Cert.GmlpInIdeal.nD Cert.GmlpInIdeal.τ).loc Cert.GmlpInIdeal.main_arg6)
      ∧ r.2.mem ((c.tc : Thread Cert.GmlpInIdeal.nD Cert.GmlpInIdeal.τ).loc Cert.GmlpInIdeal.main_arg7) = m ((c.tc : Thread Cert.GmlpInIdeal.nD Cert.GmlpInIdeal.τ).loc Cert.GmlpInIdeal.main_arg7)
      ∧ r.2.mem ((c.tc : Thread Cert.GmlpInIdeal.nD Cert.GmlpInIdeal.τ).loc Cert.GmlpInIdeal.main_arg8) = m ((c.tc : Thread Cert.GmlpInIdeal.nD Cert.GmlpInIdeal.τ).loc Cert.GmlpInIdeal.main_arg8)
      ∧ r.2.mem ((c.tc : Thread Cert.GmlpInIdeal.nD Cert.GmlpInIdeal.τ).loc Cert.GmlpInIdeal.main_arg9) = m ((c.tc : Thread Cert.GmlpInIdeal.nD Cert.GmlpInIdeal.τ).loc Cert.GmlpInIdeal.main_arg9))
      ∧ r.2.sem = fun _ => 0)

def quiescent_GmlpInRefIdeal [hGmlpInRefIdeal : Cert.GmlpInRefIdeal.Facts] : Prop :=
  ∀ (m : (ℓ : Loc Cert.GmlpInRefIdeal.nD Cert.GmlpInRefIdeal.τ Cert.GmlpInRefIdeal.sig) → Buf (Elt Ideal) ℓ) (g : Dev Cert.GmlpInRefIdeal.nD → PrngReg), Pre_GmlpInRefIdeal m →
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1)
      ∧ r.2.mem ((c.tc : Thread Cert.GmlpInRefIdeal.nD Cert.GmlpInRefIdeal.τ).loc Cert.GmlpInRefIdeal.main_arg2) = m ((c.tc : Thread Cert.GmlpInRefIdeal.nD Cert.GmlpInRefIdeal.τ).loc Cert.GmlpInRefIdeal.main_arg2)
      ∧ r.2.mem ((c.tc : Thread Cert.GmlpInRefIdeal.nD Cert.GmlpInRefIdeal.τ).loc Cert.GmlpInRefIdeal.main_arg3) = m ((c.tc : Thread Cert.GmlpInRefIdeal.nD Cert.GmlpInRefIdeal.τ).loc Cert.GmlpInRefIdeal.main_arg3)
      ∧ r.2.mem ((c.tc : Thread Cert.GmlpInRefIdeal.nD Cert.GmlpInRefIdeal.τ).loc Cert.GmlpInRefIdeal.main_arg4) = m ((c.tc : Thread Cert.GmlpInRefIdeal.nD Cert.GmlpInRefIdeal.τ).loc Cert.GmlpInRefIdeal.main_arg4)
      ∧ r.2.mem ((c.tc : Thread Cert.GmlpInRefIdeal.nD Cert.GmlpInRefIdeal.τ).loc Cert.GmlpInRefIdeal.main_arg5) = m ((c.tc : Thread Cert.GmlpInRefIdeal.nD Cert.GmlpInRefIdeal.τ).loc Cert.GmlpInRefIdeal.main_arg5)
      ∧ r.2.mem ((c.tc : Thread Cert.GmlpInRefIdeal.nD Cert.GmlpInRefIdeal.τ).loc Cert.GmlpInRefIdeal.main_arg6) = m ((c.tc : Thread Cert.GmlpInRefIdeal.nD Cert.GmlpInRefIdeal.τ).loc Cert.GmlpInRefIdeal.main_arg6)
      ∧ r.2.mem ((c.tc : Thread Cert.GmlpInRefIdeal.nD Cert.GmlpInRefIdeal.τ).loc Cert.GmlpInRefIdeal.main_arg7) = m ((c.tc : Thread Cert.GmlpInRefIdeal.nD Cert.GmlpInRefIdeal.τ).loc Cert.GmlpInRefIdeal.main_arg7)
      ∧ r.2.mem ((c.tc : Thread Cert.GmlpInRefIdeal.nD Cert.GmlpInRefIdeal.τ).loc Cert.GmlpInRefIdeal.main_arg8) = m ((c.tc : Thread Cert.GmlpInRefIdeal.nD Cert.GmlpInRefIdeal.τ).loc Cert.GmlpInRefIdeal.main_arg8)
      ∧ r.2.mem ((c.tc : Thread Cert.GmlpInRefIdeal.nD Cert.GmlpInRefIdeal.τ).loc Cert.GmlpInRefIdeal.main_arg9) = m ((c.tc : Thread Cert.GmlpInRefIdeal.nD Cert.GmlpInRefIdeal.τ).loc Cert.GmlpInRefIdeal.main_arg9))
      ∧ r.2.sem = fun _ => 0)

def quiescent_GmlpInRefIdeal_pre_gmlp_finite [hGmlpInRefIdeal : Cert.GmlpInRefIdeal.Facts] [hPre_gmlp_finite : Cert.Pre_gmlp_finite.Facts] : Prop :=
  ∀ (m : (ℓ : Loc Cert.GmlpInRefIdeal.nD Cert.GmlpInRefIdeal.τ Cert.GmlpInRefIdeal.sig) → Buf (Elt Ideal) ℓ) (g : Dev Cert.GmlpInRefIdeal.nD → PrngReg), Pre_GmlpInRefIdeal_gmlp_finite m →
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1)
      ∧ r.2.mem ((c.tc : Thread Cert.GmlpInRefIdeal.nD Cert.GmlpInRefIdeal.τ).loc Cert.GmlpInRefIdeal.main_arg2) = m ((c.tc : Thread Cert.GmlpInRefIdeal.nD Cert.GmlpInRefIdeal.τ).loc Cert.GmlpInRefIdeal.main_arg2)
      ∧ r.2.mem ((c.tc : Thread Cert.GmlpInRefIdeal.nD Cert.GmlpInRefIdeal.τ).loc Cert.GmlpInRefIdeal.main_arg3) = m ((c.tc : Thread Cert.GmlpInRefIdeal.nD Cert.GmlpInRefIdeal.τ).loc Cert.GmlpInRefIdeal.main_arg3)
      ∧ r.2.mem ((c.tc : Thread Cert.GmlpInRefIdeal.nD Cert.GmlpInRefIdeal.τ).loc Cert.GmlpInRefIdeal.main_arg4) = m ((c.tc : Thread Cert.GmlpInRefIdeal.nD Cert.GmlpInRefIdeal.τ).loc Cert.GmlpInRefIdeal.main_arg4)
      ∧ r.2.mem ((c.tc : Thread Cert.GmlpInRefIdeal.nD Cert.GmlpInRefIdeal.τ).loc Cert.GmlpInRefIdeal.main_arg5) = m ((c.tc : Thread Cert.GmlpInRefIdeal.nD Cert.GmlpInRefIdeal.τ).loc Cert.GmlpInRefIdeal.main_arg5)
      ∧ r.2.mem ((c.tc : Thread Cert.GmlpInRefIdeal.nD Cert.GmlpInRefIdeal.τ).loc Cert.GmlpInRefIdeal.main_arg6) = m ((c.tc : Thread Cert.GmlpInRefIdeal.nD Cert.GmlpInRefIdeal.τ).loc Cert.GmlpInRefIdeal.main_arg6)
      ∧ r.2.mem ((c.tc : Thread Cert.GmlpInRefIdeal.nD Cert.GmlpInRefIdeal.τ).loc Cert.GmlpInRefIdeal.main_arg7) = m ((c.tc : Thread Cert.GmlpInRefIdeal.nD Cert.GmlpInRefIdeal.τ).loc Cert.GmlpInRefIdeal.main_arg7)
      ∧ r.2.mem ((c.tc : Thread Cert.GmlpInRefIdeal.nD Cert.GmlpInRefIdeal.τ).loc Cert.GmlpInRefIdeal.main_arg8) = m ((c.tc : Thread Cert.GmlpInRefIdeal.nD Cert.GmlpInRefIdeal.τ).loc Cert.GmlpInRefIdeal.main_arg8)
      ∧ r.2.mem ((c.tc : Thread Cert.GmlpInRefIdeal.nD Cert.GmlpInRefIdeal.τ).loc Cert.GmlpInRefIdeal.main_arg9) = m ((c.tc : Thread Cert.GmlpInRefIdeal.nD Cert.GmlpInRefIdeal.τ).loc Cert.GmlpInRefIdeal.main_arg9))
      ∧ r.2.sem = fun _ => 0)

def quiescent_AttnQ [hAttnQ : Cert.AttnQ.Facts] : Prop :=
  ∀ (m : (ℓ : Loc Cert.AttnQ.nD Cert.AttnQ.τ Cert.AttnQ.sig) → Buf (Elt Bits) ℓ) (g : Dev Cert.AttnQ.nD → PrngReg), Pre_AttnQ m →
    θ_run (Cert.AttnQ.defs (F := Bits)) (onTc (τ := Cert.AttnQ.τ) (Cert.AttnQ.main (F := Bits))) ⟨m, fun _ => 0, g⟩ (fun r => (∀ c : Dev Cert.AttnQ.nD,
      r.2.mem ((c.tc : Thread Cert.AttnQ.nD Cert.AttnQ.τ).loc Cert.AttnQ.main_arg0) = m ((c.tc : Thread Cert.AttnQ.nD Cert.AttnQ.τ).loc Cert.AttnQ.main_arg0)
      ∧ r.2.mem ((c.tc : Thread Cert.AttnQ.nD Cert.AttnQ.τ).loc Cert.AttnQ.main_arg1) = m ((c.tc : Thread Cert.AttnQ.nD Cert.AttnQ.τ).loc Cert.AttnQ.main_arg1)
      ∧ r.2.mem ((c.tc : Thread Cert.AttnQ.nD Cert.AttnQ.τ).loc Cert.AttnQ.main_arg2) = m ((c.tc : Thread Cert.AttnQ.nD Cert.AttnQ.τ).loc Cert.AttnQ.main_arg2)
      ∧ r.2.mem ((c.tc : Thread Cert.AttnQ.nD Cert.AttnQ.τ).loc Cert.AttnQ.main_arg3) = m ((c.tc : Thread Cert.AttnQ.nD Cert.AttnQ.τ).loc Cert.AttnQ.main_arg3)
      ∧ r.2.mem ((c.tc : Thread Cert.AttnQ.nD Cert.AttnQ.τ).loc Cert.AttnQ.main_arg4) = m ((c.tc : Thread Cert.AttnQ.nD Cert.AttnQ.τ).loc Cert.AttnQ.main_arg4)
      ∧ r.2.mem ((c.tc : Thread Cert.AttnQ.nD Cert.AttnQ.τ).loc Cert.AttnQ.main_arg5) = m ((c.tc : Thread Cert.AttnQ.nD Cert.AttnQ.τ).loc Cert.AttnQ.main_arg5)
      ∧ r.2.mem ((c.tc : Thread Cert.AttnQ.nD Cert.AttnQ.τ).loc Cert.AttnQ.main_arg6) = m ((c.tc : Thread Cert.AttnQ.nD Cert.AttnQ.τ).loc Cert.AttnQ.main_arg6)
      ∧ r.2.mem ((c.tc : Thread Cert.AttnQ.nD Cert.AttnQ.τ).loc Cert.AttnQ.main_arg7) = m ((c.tc : Thread Cert.AttnQ.nD Cert.AttnQ.τ).loc Cert.AttnQ.main_arg7)
      ∧ r.2.mem ((c.tc : Thread Cert.AttnQ.nD Cert.AttnQ.τ).loc Cert.AttnQ.main_arg8) = m ((c.tc : Thread Cert.AttnQ.nD Cert.AttnQ.τ).loc Cert.AttnQ.main_arg8)
      ∧ r.2.mem ((c.tc : Thread Cert.AttnQ.nD Cert.AttnQ.τ).loc Cert.AttnQ.main_arg9) = m ((c.tc : Thread Cert.AttnQ.nD Cert.AttnQ.τ).loc Cert.AttnQ.main_arg9))
      ∧ r.2.sem = fun _ => 0)

def quiescent_AttnQIdeal [hAttnQIdeal : Cert.AttnQIdeal.Facts] : Prop :=
  ∀ (m : (ℓ : Loc Cert.AttnQIdeal.nD Cert.AttnQIdeal.τ Cert.AttnQIdeal.sig) → Buf (Elt Ideal) ℓ) (g : Dev Cert.AttnQIdeal.nD → PrngReg), Pre_AttnQIdeal m →
    θ_run (Cert.AttnQIdeal.defs (F := Ideal)) (onTc (τ := Cert.AttnQIdeal.τ) (Cert.AttnQIdeal.main (F := Ideal))) ⟨m, fun _ => 0, g⟩ (fun r => (∀ c : Dev Cert.AttnQIdeal.nD,
      r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
      ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1)
      ∧ r.2.mem ((c.tc : Thread Cert.AttnQIdeal.nD Cert.AttnQIdeal.τ).loc Cert.AttnQIdeal.main_arg2) = m ((c.tc : Thread Cert.AttnQIdeal.nD Cert.AttnQIdeal.τ).loc Cert.AttnQIdeal.main_arg2)
      ∧ r.2.mem ((c.tc : Thread Cert.AttnQIdeal.nD Cert.AttnQIdeal.τ).loc Cert.AttnQIdeal.main_arg3) = m ((c.tc : Thread Cert.AttnQIdeal.nD Cert.AttnQIdeal.τ).loc Cert.AttnQIdeal.main_arg3)
      ∧ r.2.mem ((c.tc : Thread Cert.AttnQIdeal.nD Cert.AttnQIdeal.τ).loc Cert.AttnQIdeal.main_arg4) = m ((c.tc : Thread Cert.AttnQIdeal.nD Cert.AttnQIdeal.τ).loc Cert.AttnQIdeal.main_arg4)
      ∧ r.2.mem ((c.tc : Thread Cert.AttnQIdeal.nD Cert.AttnQIdeal.τ).loc Cert.AttnQIdeal.main_arg5) = m ((c.tc : Thread Cert.AttnQIdeal.nD Cert.AttnQIdeal.τ).loc Cert.AttnQIdeal.main_arg5)
      ∧ r.2.mem ((c.tc : Thread Cert.AttnQIdeal.nD Cert.AttnQIdeal.τ).loc Cert.AttnQIdeal.main_arg6) = m ((c.tc : Thread Cert.AttnQIdeal.nD Cert.AttnQIdeal.τ).loc Cert.AttnQIdeal.main_arg6)
      ∧ r.2.mem ((c.tc : Thread Cert.AttnQIdeal.nD Cert.AttnQIdeal.τ).loc Cert.AttnQIdeal.main_arg7) = m ((c.tc : Thread Cert.AttnQIdeal.nD Cert.AttnQIdeal.τ).loc Cert.AttnQIdeal.main_arg7)
      ∧ r.2.mem ((c.tc : Thread Cert.AttnQIdeal.nD Cert.AttnQIdeal.τ).loc Cert.AttnQIdeal.main_arg8) = m ((c.tc : Thread Cert.AttnQIdeal.nD Cert.AttnQIdeal.τ).loc Cert.AttnQIdeal.main_arg8)
      ∧ r.2.mem ((c.tc : Thread Cert.AttnQIdeal.nD Cert.AttnQIdeal.τ).loc Cert.AttnQIdeal.main_arg9) = m ((c.tc : Thread Cert.AttnQIdeal.nD Cert.AttnQIdeal.τ).loc Cert.AttnQIdeal.main_arg9))
      ∧ r.2.sem = fun _ => 0)

def quiescent_AttnQIdeal_pre_attnq_finite [hAttnQIdeal : Cert.AttnQIdeal.Facts] [hPre_attnq_finite : Cert.Pre_attnq_finite.Facts] : Prop :=
  ∀ (m : (ℓ : Loc Cert.AttnQIdeal.nD Cert.AttnQIdeal.τ Cert.AttnQIdeal.sig) → Buf (Elt Ideal) ℓ) (g : Dev Cert.AttnQIdeal.nD → PrngReg), Pre_AttnQIdeal_attnq_finite m →
    θ_run (Cert.AttnQIdeal.defs (F := Ideal)) (onTc (τ := Cert.AttnQIdeal.τ) (Cert.AttnQIdeal.main (F := Ideal))) ⟨m, fun _ => 0, g⟩ (fun r => (∀ c : Dev Cert.AttnQIdeal.nD,
      r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
      ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1)
      ∧ r.2.mem ((c.tc : Thread Cert.AttnQIdeal.nD Cert.AttnQIdeal.τ).loc Cert.AttnQIdeal.main_arg2) = m ((c.tc : Thread Cert.AttnQIdeal.nD Cert.AttnQIdeal.τ).loc Cert.AttnQIdeal.main_arg2)
      ∧ r.2.mem ((c.tc : Thread Cert.AttnQIdeal.nD Cert.AttnQIdeal.τ).loc Cert.AttnQIdeal.main_arg3) = m ((c.tc : Thread Cert.AttnQIdeal.nD Cert.AttnQIdeal.τ).loc Cert.AttnQIdeal.main_arg3)
      ∧ r.2.mem ((c.tc : Thread Cert.AttnQIdeal.nD Cert.AttnQIdeal.τ).loc Cert.AttnQIdeal.main_arg4) = m ((c.tc : Thread Cert.AttnQIdeal.nD Cert.AttnQIdeal.τ).loc Cert.AttnQIdeal.main_arg4)
      ∧ r.2.mem ((c.tc : Thread Cert.AttnQIdeal.nD Cert.AttnQIdeal.τ).loc Cert.AttnQIdeal.main_arg5) = m ((c.tc : Thread Cert.AttnQIdeal.nD Cert.AttnQIdeal.τ).loc Cert.AttnQIdeal.main_arg5)
      ∧ r.2.mem ((c.tc : Thread Cert.AttnQIdeal.nD Cert.AttnQIdeal.τ).loc Cert.AttnQIdeal.main_arg6) = m ((c.tc : Thread Cert.AttnQIdeal.nD Cert.AttnQIdeal.τ).loc Cert.AttnQIdeal.main_arg6)
      ∧ r.2.mem ((c.tc : Thread Cert.AttnQIdeal.nD Cert.AttnQIdeal.τ).loc Cert.AttnQIdeal.main_arg7) = m ((c.tc : Thread Cert.AttnQIdeal.nD Cert.AttnQIdeal.τ).loc Cert.AttnQIdeal.main_arg7)
      ∧ r.2.mem ((c.tc : Thread Cert.AttnQIdeal.nD Cert.AttnQIdeal.τ).loc Cert.AttnQIdeal.main_arg8) = m ((c.tc : Thread Cert.AttnQIdeal.nD Cert.AttnQIdeal.τ).loc Cert.AttnQIdeal.main_arg8)
      ∧ r.2.mem ((c.tc : Thread Cert.AttnQIdeal.nD Cert.AttnQIdeal.τ).loc Cert.AttnQIdeal.main_arg9) = m ((c.tc : Thread Cert.AttnQIdeal.nD Cert.AttnQIdeal.τ).loc Cert.AttnQIdeal.main_arg9))
      ∧ r.2.sem = fun _ => 0)

def quiescent_AttnQRefIdeal [hAttnQRefIdeal : Cert.AttnQRefIdeal.Facts] : Prop :=
  ∀ (m : (ℓ : Loc Cert.AttnQRefIdeal.nD Cert.AttnQRefIdeal.τ Cert.AttnQRefIdeal.sig) → Buf (Elt Ideal) ℓ) (g : Dev Cert.AttnQRefIdeal.nD → PrngReg), Pre_AttnQRefIdeal m →
    θ_run (Cert.AttnQRefIdeal.defs (F := Ideal)) (onTc (τ := Cert.AttnQRefIdeal.τ) (Cert.AttnQRefIdeal.main (F := Ideal))) ⟨m, fun _ => 0, g⟩ (fun r => (∀ c : Dev Cert.AttnQRefIdeal.nD,
      r.2.mem ((c.tc : Thread Cert.AttnQRefIdeal.nD Cert.AttnQRefIdeal.τ).loc Cert.AttnQRefIdeal.main_arg0) = m ((c.tc : Thread Cert.AttnQRefIdeal.nD Cert.AttnQRefIdeal.τ).loc Cert.AttnQRefIdeal.main_arg0)
      ∧ r.2.mem ((c.tc : Thread Cert.AttnQRefIdeal.nD Cert.AttnQRefIdeal.τ).loc Cert.AttnQRefIdeal.main_arg1) = m ((c.tc : Thread Cert.AttnQRefIdeal.nD Cert.AttnQRefIdeal.τ).loc Cert.AttnQRefIdeal.main_arg1)
      ∧ r.2.mem ((c.tc : Thread Cert.AttnQRefIdeal.nD Cert.AttnQRefIdeal.τ).loc Cert.AttnQRefIdeal.main_arg2) = m ((c.tc : Thread Cert.AttnQRefIdeal.nD Cert.AttnQRefIdeal.τ).loc Cert.AttnQRefIdeal.main_arg2)
      ∧ r.2.mem ((c.tc : Thread Cert.AttnQRefIdeal.nD Cert.AttnQRefIdeal.τ).loc Cert.AttnQRefIdeal.main_arg3) = m ((c.tc : Thread Cert.AttnQRefIdeal.nD Cert.AttnQRefIdeal.τ).loc Cert.AttnQRefIdeal.main_arg3)
      ∧ r.2.mem ((c.tc : Thread Cert.AttnQRefIdeal.nD Cert.AttnQRefIdeal.τ).loc Cert.AttnQRefIdeal.main_arg4) = m ((c.tc : Thread Cert.AttnQRefIdeal.nD Cert.AttnQRefIdeal.τ).loc Cert.AttnQRefIdeal.main_arg4)
      ∧ r.2.mem ((c.tc : Thread Cert.AttnQRefIdeal.nD Cert.AttnQRefIdeal.τ).loc Cert.AttnQRefIdeal.main_arg5) = m ((c.tc : Thread Cert.AttnQRefIdeal.nD Cert.AttnQRefIdeal.τ).loc Cert.AttnQRefIdeal.main_arg5)
      ∧ r.2.mem ((c.tc : Thread Cert.AttnQRefIdeal.nD Cert.AttnQRefIdeal.τ).loc Cert.AttnQRefIdeal.main_arg6) = m ((c.tc : Thread Cert.AttnQRefIdeal.nD Cert.AttnQRefIdeal.τ).loc Cert.AttnQRefIdeal.main_arg6)
      ∧ r.2.mem ((c.tc : Thread Cert.AttnQRefIdeal.nD Cert.AttnQRefIdeal.τ).loc Cert.AttnQRefIdeal.main_arg7) = m ((c.tc : Thread Cert.AttnQRefIdeal.nD Cert.AttnQRefIdeal.τ).loc Cert.AttnQRefIdeal.main_arg7)
      ∧ r.2.mem ((c.tc : Thread Cert.AttnQRefIdeal.nD Cert.AttnQRefIdeal.τ).loc Cert.AttnQRefIdeal.main_arg8) = m ((c.tc : Thread Cert.AttnQRefIdeal.nD Cert.AttnQRefIdeal.τ).loc Cert.AttnQRefIdeal.main_arg8)
      ∧ r.2.mem ((c.tc : Thread Cert.AttnQRefIdeal.nD Cert.AttnQRefIdeal.τ).loc Cert.AttnQRefIdeal.main_arg9) = m ((c.tc : Thread Cert.AttnQRefIdeal.nD Cert.AttnQRefIdeal.τ).loc Cert.AttnQRefIdeal.main_arg9))
      ∧ r.2.sem = fun _ => 0)

def quiescent_AttnQRefIdeal_pre_attnq_finite [hAttnQRefIdeal : Cert.AttnQRefIdeal.Facts] [hPre_attnq_finite : Cert.Pre_attnq_finite.Facts] : Prop :=
  ∀ (m : (ℓ : Loc Cert.AttnQRefIdeal.nD Cert.AttnQRefIdeal.τ Cert.AttnQRefIdeal.sig) → Buf (Elt Ideal) ℓ) (g : Dev Cert.AttnQRefIdeal.nD → PrngReg), Pre_AttnQRefIdeal_attnq_finite m →
    θ_run (Cert.AttnQRefIdeal.defs (F := Ideal)) (onTc (τ := Cert.AttnQRefIdeal.τ) (Cert.AttnQRefIdeal.main (F := Ideal))) ⟨m, fun _ => 0, g⟩ (fun r => (∀ c : Dev Cert.AttnQRefIdeal.nD,
      r.2.mem ((c.tc : Thread Cert.AttnQRefIdeal.nD Cert.AttnQRefIdeal.τ).loc Cert.AttnQRefIdeal.main_arg0) = m ((c.tc : Thread Cert.AttnQRefIdeal.nD Cert.AttnQRefIdeal.τ).loc Cert.AttnQRefIdeal.main_arg0)
      ∧ r.2.mem ((c.tc : Thread Cert.AttnQRefIdeal.nD Cert.AttnQRefIdeal.τ).loc Cert.AttnQRefIdeal.main_arg1) = m ((c.tc : Thread Cert.AttnQRefIdeal.nD Cert.AttnQRefIdeal.τ).loc Cert.AttnQRefIdeal.main_arg1)
      ∧ r.2.mem ((c.tc : Thread Cert.AttnQRefIdeal.nD Cert.AttnQRefIdeal.τ).loc Cert.AttnQRefIdeal.main_arg2) = m ((c.tc : Thread Cert.AttnQRefIdeal.nD Cert.AttnQRefIdeal.τ).loc Cert.AttnQRefIdeal.main_arg2)
      ∧ r.2.mem ((c.tc : Thread Cert.AttnQRefIdeal.nD Cert.AttnQRefIdeal.τ).loc Cert.AttnQRefIdeal.main_arg3) = m ((c.tc : Thread Cert.AttnQRefIdeal.nD Cert.AttnQRefIdeal.τ).loc Cert.AttnQRefIdeal.main_arg3)
      ∧ r.2.mem ((c.tc : Thread Cert.AttnQRefIdeal.nD Cert.AttnQRefIdeal.τ).loc Cert.AttnQRefIdeal.main_arg4) = m ((c.tc : Thread Cert.AttnQRefIdeal.nD Cert.AttnQRefIdeal.τ).loc Cert.AttnQRefIdeal.main_arg4)
      ∧ r.2.mem ((c.tc : Thread Cert.AttnQRefIdeal.nD Cert.AttnQRefIdeal.τ).loc Cert.AttnQRefIdeal.main_arg5) = m ((c.tc : Thread Cert.AttnQRefIdeal.nD Cert.AttnQRefIdeal.τ).loc Cert.AttnQRefIdeal.main_arg5)
      ∧ r.2.mem ((c.tc : Thread Cert.AttnQRefIdeal.nD Cert.AttnQRefIdeal.τ).loc Cert.AttnQRefIdeal.main_arg6) = m ((c.tc : Thread Cert.AttnQRefIdeal.nD Cert.AttnQRefIdeal.τ).loc Cert.AttnQRefIdeal.main_arg6)
      ∧ r.2.mem ((c.tc : Thread Cert.AttnQRefIdeal.nD Cert.AttnQRefIdeal.τ).loc Cert.AttnQRefIdeal.main_arg7) = m ((c.tc : Thread Cert.AttnQRefIdeal.nD Cert.AttnQRefIdeal.τ).loc Cert.AttnQRefIdeal.main_arg7)
      ∧ r.2.mem ((c.tc : Thread Cert.AttnQRefIdeal.nD Cert.AttnQRefIdeal.τ).loc Cert.AttnQRefIdeal.main_arg8) = m ((c.tc : Thread Cert.AttnQRefIdeal.nD Cert.AttnQRefIdeal.τ).loc Cert.AttnQRefIdeal.main_arg8)
      ∧ r.2.mem ((c.tc : Thread Cert.AttnQRefIdeal.nD Cert.AttnQRefIdeal.τ).loc Cert.AttnQRefIdeal.main_arg9) = m ((c.tc : Thread Cert.AttnQRefIdeal.nD Cert.AttnQRefIdeal.τ).loc Cert.AttnQRefIdeal.main_arg9))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5)
      ∧ r.2.mem ((c.tc : Thread Cert.Kv.nD Cert.Kv.τ).loc Cert.Kv.main_arg6) = m ((c.tc : Thread Cert.Kv.nD Cert.Kv.τ).loc Cert.Kv.main_arg6)
      ∧ r.2.mem ((c.tc : Thread Cert.Kv.nD Cert.Kv.τ).loc Cert.Kv.main_arg7) = m ((c.tc : Thread Cert.Kv.nD Cert.Kv.τ).loc Cert.Kv.main_arg7)
      ∧ r.2.mem ((c.tc : Thread Cert.Kv.nD Cert.Kv.τ).loc Cert.Kv.main_arg8) = m ((c.tc : Thread Cert.Kv.nD Cert.Kv.τ).loc Cert.Kv.main_arg8)
      ∧ r.2.mem ((c.tc : Thread Cert.Kv.nD Cert.Kv.τ).loc Cert.Kv.main_arg9) = m ((c.tc : Thread Cert.Kv.nD Cert.Kv.τ).loc Cert.Kv.main_arg9))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
      ∧ r.2.mem ((c.tc : Thread Cert.KvIdeal.nD Cert.KvIdeal.τ).loc Cert.KvIdeal.main_arg6) = m ((c.tc : Thread Cert.KvIdeal.nD Cert.KvIdeal.τ).loc Cert.KvIdeal.main_arg6)
      ∧ r.2.mem ((c.tc : Thread Cert.KvIdeal.nD Cert.KvIdeal.τ).loc Cert.KvIdeal.main_arg7) = m ((c.tc : Thread Cert.KvIdeal.nD Cert.KvIdeal.τ).loc Cert.KvIdeal.main_arg7)
      ∧ r.2.mem ((c.tc : Thread Cert.KvIdeal.nD Cert.KvIdeal.τ).loc Cert.KvIdeal.main_arg8) = m ((c.tc : Thread Cert.KvIdeal.nD Cert.KvIdeal.τ).loc Cert.KvIdeal.main_arg8)
      ∧ r.2.mem ((c.tc : Thread Cert.KvIdeal.nD Cert.KvIdeal.τ).loc Cert.KvIdeal.main_arg9) = m ((c.tc : Thread Cert.KvIdeal.nD Cert.KvIdeal.τ).loc Cert.KvIdeal.main_arg9))
      ∧ r.2.sem = fun _ => 0)

def quiescent_KvIdeal_pre_kv_finite [hKvIdeal : Cert.KvIdeal.Facts] [hPre_kv_finite : Cert.Pre_kv_finite.Facts] : Prop :=
  ∀ (m : (ℓ : Loc Cert.KvIdeal.nD Cert.KvIdeal.τ Cert.KvIdeal.sig) → Buf (Elt Ideal) ℓ) (g : Dev Cert.KvIdeal.nD → PrngReg), Pre_KvIdeal_kv_finite m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
      ∧ r.2.mem ((c.tc : Thread Cert.KvIdeal.nD Cert.KvIdeal.τ).loc Cert.KvIdeal.main_arg6) = m ((c.tc : Thread Cert.KvIdeal.nD Cert.KvIdeal.τ).loc Cert.KvIdeal.main_arg6)
      ∧ r.2.mem ((c.tc : Thread Cert.KvIdeal.nD Cert.KvIdeal.τ).loc Cert.KvIdeal.main_arg7) = m ((c.tc : Thread Cert.KvIdeal.nD Cert.KvIdeal.τ).loc Cert.KvIdeal.main_arg7)
      ∧ r.2.mem ((c.tc : Thread Cert.KvIdeal.nD Cert.KvIdeal.τ).loc Cert.KvIdeal.main_arg8) = m ((c.tc : Thread Cert.KvIdeal.nD Cert.KvIdeal.τ).loc Cert.KvIdeal.main_arg8)
      ∧ r.2.mem ((c.tc : Thread Cert.KvIdeal.nD Cert.KvIdeal.τ).loc Cert.KvIdeal.main_arg9) = m ((c.tc : Thread Cert.KvIdeal.nD Cert.KvIdeal.τ).loc Cert.KvIdeal.main_arg9))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6)
      ∧ r.2.mem ((c.tc : Thread Cert.KvRefIdeal.nD Cert.KvRefIdeal.τ).loc Cert.KvRefIdeal.main_arg7) = m ((c.tc : Thread Cert.KvRefIdeal.nD Cert.KvRefIdeal.τ).loc Cert.KvRefIdeal.main_arg7)
      ∧ r.2.mem ((c.tc : Thread Cert.KvRefIdeal.nD Cert.KvRefIdeal.τ).loc Cert.KvRefIdeal.main_arg8) = m ((c.tc : Thread Cert.KvRefIdeal.nD Cert.KvRefIdeal.τ).loc Cert.KvRefIdeal.main_arg8)
      ∧ r.2.mem ((c.tc : Thread Cert.KvRefIdeal.nD Cert.KvRefIdeal.τ).loc Cert.KvRefIdeal.main_arg9) = m ((c.tc : Thread Cert.KvRefIdeal.nD Cert.KvRefIdeal.τ).loc Cert.KvRefIdeal.main_arg9))
      ∧ r.2.sem = fun _ => 0)

def quiescent_KvRefIdeal_pre_kv_finite [hKvRefIdeal : Cert.KvRefIdeal.Facts] [hPre_kv_finite : Cert.Pre_kv_finite.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_kv_finite m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6)
      ∧ r.2.mem ((c.tc : Thread Cert.KvRefIdeal.nD Cert.KvRefIdeal.τ).loc Cert.KvRefIdeal.main_arg7) = m ((c.tc : Thread Cert.KvRefIdeal.nD Cert.KvRefIdeal.τ).loc Cert.KvRefIdeal.main_arg7)
      ∧ r.2.mem ((c.tc : Thread Cert.KvRefIdeal.nD Cert.KvRefIdeal.τ).loc Cert.KvRefIdeal.main_arg8) = m ((c.tc : Thread Cert.KvRefIdeal.nD Cert.KvRefIdeal.τ).loc Cert.KvRefIdeal.main_arg8)
      ∧ r.2.mem ((c.tc : Thread Cert.KvRefIdeal.nD Cert.KvRefIdeal.τ).loc Cert.KvRefIdeal.main_arg9) = m ((c.tc : Thread Cert.KvRefIdeal.nD Cert.KvRefIdeal.τ).loc Cert.KvRefIdeal.main_arg9))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0))
      ∧ r.2.sem = fun _ => 0)

def quiescent_BiasGradIdeal_pre_bias_finite [hBiasGradIdeal : Cert.BiasGradIdeal.Facts] [hPre_bias_finite : Cert.Pre_bias_finite.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal_bias_finite m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0))
      ∧ r.2.sem = fun _ => 0)

def quiescent_BiasGradRefIdeal [hBiasGradRefIdeal : Cert.BiasGradRefIdeal.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0))
      ∧ r.2.sem = fun _ => 0)

def quiescent_BiasGradRefIdeal_pre_bias_finite [hBiasGradRefIdeal : Cert.BiasGradRefIdeal.Facts] [hPre_bias_finite : Cert.Pre_bias_finite.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal_bias_finite m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguIdeal_pre_sgu_finite [hSguIdeal : Cert.SguIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg), Pre_SguIdeal_sgu_finite m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_SguRefIdeal_pre_sgu_finite [hSguRefIdeal : Cert.SguRefIdeal.Facts] [hPre_sgu_finite : Cert.Pre_sgu_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_FfnLn [hFfnLn : Cert.FfnLn.Facts] : Prop :=
  ∀ (m : (ℓ : Loc Cert.FfnLn.nD Cert.FfnLn.τ Cert.FfnLn.sig) → Buf (Elt Bits) ℓ) (g : Dev Cert.FfnLn.nD → PrngReg), Pre_FfnLn m →
    θ_run (Cert.FfnLn.defs (F := Bits)) (onTc (τ := Cert.FfnLn.τ) (Cert.FfnLn.main (F := Bits))) ⟨m, fun _ => 0, g⟩ (fun r => (∀ c : Dev Cert.FfnLn.nD,
      r.2.mem ((c.tc : Thread Cert.FfnLn.nD Cert.FfnLn.τ).loc Cert.FfnLn.main_arg0) = m ((c.tc : Thread Cert.FfnLn.nD Cert.FfnLn.τ).loc Cert.FfnLn.main_arg0)
      ∧ r.2.mem ((c.tc : Thread Cert.FfnLn.nD Cert.FfnLn.τ).loc Cert.FfnLn.main_arg1) = m ((c.tc : Thread Cert.FfnLn.nD Cert.FfnLn.τ).loc Cert.FfnLn.main_arg1)
      ∧ r.2.mem ((c.tc : Thread Cert.FfnLn.nD Cert.FfnLn.τ).loc Cert.FfnLn.main_arg2) = m ((c.tc : Thread Cert.FfnLn.nD Cert.FfnLn.τ).loc Cert.FfnLn.main_arg2)
      ∧ r.2.mem ((c.tc : Thread Cert.FfnLn.nD Cert.FfnLn.τ).loc Cert.FfnLn.main_arg3) = m ((c.tc : Thread Cert.FfnLn.nD Cert.FfnLn.τ).loc Cert.FfnLn.main_arg3)
      ∧ r.2.mem ((c.tc : Thread Cert.FfnLn.nD Cert.FfnLn.τ).loc Cert.FfnLn.main_arg4) = m ((c.tc : Thread Cert.FfnLn.nD Cert.FfnLn.τ).loc Cert.FfnLn.main_arg4)
      ∧ r.2.mem ((c.tc : Thread Cert.FfnLn.nD Cert.FfnLn.τ).loc Cert.FfnLn.main_arg5) = m ((c.tc : Thread Cert.FfnLn.nD Cert.FfnLn.τ).loc Cert.FfnLn.main_arg5))
      ∧ r.2.sem = fun _ => 0)

def quiescent_FfnLnIdeal [hFfnLnIdeal : Cert.FfnLnIdeal.Facts] : Prop :=
  ∀ (m : (ℓ : Loc Cert.FfnLnIdeal.nD Cert.FfnLnIdeal.τ Cert.FfnLnIdeal.sig) → Buf (Elt Ideal) ℓ) (g : Dev Cert.FfnLnIdeal.nD → PrngReg), Pre_FfnLnIdeal m →
    θ_run (Cert.FfnLnIdeal.defs (F := Ideal)) (onTc (τ := Cert.FfnLnIdeal.τ) (Cert.FfnLnIdeal.main (F := Ideal))) ⟨m, fun _ => 0, g⟩ (fun r => (∀ c : Dev Cert.FfnLnIdeal.nD,
      r.2.mem ((c.tc : Thread Cert.FfnLnIdeal.nD Cert.FfnLnIdeal.τ).loc Cert.FfnLnIdeal.main_arg0) = m ((c.tc : Thread Cert.FfnLnIdeal.nD Cert.FfnLnIdeal.τ).loc Cert.FfnLnIdeal.main_arg0)
      ∧ r.2.mem ((c.tc : Thread Cert.FfnLnIdeal.nD Cert.FfnLnIdeal.τ).loc Cert.FfnLnIdeal.main_arg1) = m ((c.tc : Thread Cert.FfnLnIdeal.nD Cert.FfnLnIdeal.τ).loc Cert.FfnLnIdeal.main_arg1)
      ∧ r.2.mem ((c.tc : Thread Cert.FfnLnIdeal.nD Cert.FfnLnIdeal.τ).loc Cert.FfnLnIdeal.main_arg2) = m ((c.tc : Thread Cert.FfnLnIdeal.nD Cert.FfnLnIdeal.τ).loc Cert.FfnLnIdeal.main_arg2)
      ∧ r.2.mem ((c.tc : Thread Cert.FfnLnIdeal.nD Cert.FfnLnIdeal.τ).loc Cert.FfnLnIdeal.main_arg3) = m ((c.tc : Thread Cert.FfnLnIdeal.nD Cert.FfnLnIdeal.τ).loc Cert.FfnLnIdeal.main_arg3)
      ∧ r.2.mem ((c.tc : Thread Cert.FfnLnIdeal.nD Cert.FfnLnIdeal.τ).loc Cert.FfnLnIdeal.main_arg4) = m ((c.tc : Thread Cert.FfnLnIdeal.nD Cert.FfnLnIdeal.τ).loc Cert.FfnLnIdeal.main_arg4)
      ∧ r.2.mem ((c.tc : Thread Cert.FfnLnIdeal.nD Cert.FfnLnIdeal.τ).loc Cert.FfnLnIdeal.main_arg5) = m ((c.tc : Thread Cert.FfnLnIdeal.nD Cert.FfnLnIdeal.τ).loc Cert.FfnLnIdeal.main_arg5))
      ∧ r.2.sem = fun _ => 0)

def quiescent_FfnLnRefIdeal [hFfnLnRefIdeal : Cert.FfnLnRefIdeal.Facts] : Prop :=
  ∀ (m : (ℓ : Loc Cert.FfnLnRefIdeal.nD Cert.FfnLnRefIdeal.τ Cert.FfnLnRefIdeal.sig) → Buf (Elt Ideal) ℓ) (g : Dev Cert.FfnLnRefIdeal.nD → PrngReg), Pre_FfnLnRefIdeal m →
    θ_run (Cert.FfnLnRefIdeal.defs (F := Ideal)) (onTc (τ := Cert.FfnLnRefIdeal.τ) (Cert.FfnLnRefIdeal.main (F := Ideal))) ⟨m, fun _ => 0, g⟩ (fun r => (∀ c : Dev Cert.FfnLnRefIdeal.nD,
      r.2.mem ((c.tc : Thread Cert.FfnLnRefIdeal.nD Cert.FfnLnRefIdeal.τ).loc Cert.FfnLnRefIdeal.main_arg0) = m ((c.tc : Thread Cert.FfnLnRefIdeal.nD Cert.FfnLnRefIdeal.τ).loc Cert.FfnLnRefIdeal.main_arg0)
      ∧ r.2.mem ((c.tc : Thread Cert.FfnLnRefIdeal.nD Cert.FfnLnRefIdeal.τ).loc Cert.FfnLnRefIdeal.main_arg1) = m ((c.tc : Thread Cert.FfnLnRefIdeal.nD Cert.FfnLnRefIdeal.τ).loc Cert.FfnLnRefIdeal.main_arg1)
      ∧ r.2.mem ((c.tc : Thread Cert.FfnLnRefIdeal.nD Cert.FfnLnRefIdeal.τ).loc Cert.FfnLnRefIdeal.main_arg2) = m ((c.tc : Thread Cert.FfnLnRefIdeal.nD Cert.FfnLnRefIdeal.τ).loc Cert.FfnLnRefIdeal.main_arg2)
      ∧ r.2.mem ((c.tc : Thread Cert.FfnLnRefIdeal.nD Cert.FfnLnRefIdeal.τ).loc Cert.FfnLnRefIdeal.main_arg3) = m ((c.tc : Thread Cert.FfnLnRefIdeal.nD Cert.FfnLnRefIdeal.τ).loc Cert.FfnLnRefIdeal.main_arg3)
      ∧ r.2.mem ((c.tc : Thread Cert.FfnLnRefIdeal.nD Cert.FfnLnRefIdeal.τ).loc Cert.FfnLnRefIdeal.main_arg4) = m ((c.tc : Thread Cert.FfnLnRefIdeal.nD Cert.FfnLnRefIdeal.τ).loc Cert.FfnLnRefIdeal.main_arg4)
      ∧ r.2.mem ((c.tc : Thread Cert.FfnLnRefIdeal.nD Cert.FfnLnRefIdeal.τ).loc Cert.FfnLnRefIdeal.main_arg5) = m ((c.tc : Thread Cert.FfnLnRefIdeal.nD Cert.FfnLnRefIdeal.τ).loc Cert.FfnLnRefIdeal.main_arg5))
      ∧ r.2.sem = fun _ => 0)

def quiescent_MixLn [hMixLn : Cert.MixLn.Facts] : Prop :=
  ∀ (m : (ℓ : Loc Cert.MixLn.nD Cert.MixLn.τ Cert.MixLn.sig) → Buf (Elt Bits) ℓ) (g : Dev Cert.MixLn.nD → PrngReg), Pre_MixLn m →
    θ_run (Cert.MixLn.defs (F := Bits)) (onTc (τ := Cert.MixLn.τ) (Cert.MixLn.main (F := Bits))) ⟨m, fun _ => 0, g⟩ (fun r => (∀ c : Dev Cert.MixLn.nD,
      r.2.mem ((c.tc : Thread Cert.MixLn.nD Cert.MixLn.τ).loc Cert.MixLn.main_arg0) = m ((c.tc : Thread Cert.MixLn.nD Cert.MixLn.τ).loc Cert.MixLn.main_arg0)
      ∧ r.2.mem ((c.tc : Thread Cert.MixLn.nD Cert.MixLn.τ).loc Cert.MixLn.main_arg1) = m ((c.tc : Thread Cert.MixLn.nD Cert.MixLn.τ).loc Cert.MixLn.main_arg1)
      ∧ r.2.mem ((c.tc : Thread Cert.MixLn.nD Cert.MixLn.τ).loc Cert.MixLn.main_arg2) = m ((c.tc : Thread Cert.MixLn.nD Cert.MixLn.τ).loc Cert.MixLn.main_arg2)
      ∧ r.2.mem ((c.tc : Thread Cert.MixLn.nD Cert.MixLn.τ).loc Cert.MixLn.main_arg3) = m ((c.tc : Thread Cert.MixLn.nD Cert.MixLn.τ).loc Cert.MixLn.main_arg3)
      ∧ r.2.mem ((c.tc : Thread Cert.MixLn.nD Cert.MixLn.τ).loc Cert.MixLn.main_arg4) = m ((c.tc : Thread Cert.MixLn.nD Cert.MixLn.τ).loc Cert.MixLn.main_arg4)
      ∧ r.2.mem ((c.tc : Thread Cert.MixLn.nD Cert.MixLn.τ).loc Cert.MixLn.main_arg5) = m ((c.tc : Thread Cert.MixLn.nD Cert.MixLn.τ).loc Cert.MixLn.main_arg5))
      ∧ r.2.sem = fun _ => 0)

def quiescent_MixLnIdeal [hMixLnIdeal : Cert.MixLnIdeal.Facts] : Prop :=
  ∀ (m : (ℓ : Loc Cert.MixLnIdeal.nD Cert.MixLnIdeal.τ Cert.MixLnIdeal.sig) → Buf (Elt Ideal) ℓ) (g : Dev Cert.MixLnIdeal.nD → PrngReg), Pre_MixLnIdeal m →
    θ_run (Cert.MixLnIdeal.defs (F := Ideal)) (onTc (τ := Cert.MixLnIdeal.τ) (Cert.MixLnIdeal.main (F := Ideal))) ⟨m, fun _ => 0, g⟩ (fun r => (∀ c : Dev Cert.MixLnIdeal.nD,
      r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
      ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
      ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
      ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
      ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4)
      ∧ r.2.mem ((c.tc : Thread Cert.MixLnIdeal.nD Cert.MixLnIdeal.τ).loc Cert.MixLnIdeal.main_arg5) = m ((c.tc : Thread Cert.MixLnIdeal.nD Cert.MixLnIdeal.τ).loc Cert.MixLnIdeal.main_arg5))
      ∧ r.2.sem = fun _ => 0)

def quiescent_MixLnRefIdeal [hMixLnRefIdeal : Cert.MixLnRefIdeal.Facts] : Prop :=
  ∀ (m : (ℓ : Loc Cert.MixLnRefIdeal.nD Cert.MixLnRefIdeal.τ Cert.MixLnRefIdeal.sig) → Buf (Elt Ideal) ℓ) (g : Dev Cert.MixLnRefIdeal.nD → PrngReg), Pre_MixLnRefIdeal m →
    θ_run (Cert.MixLnRefIdeal.defs (F := Ideal)) (onTc (τ := Cert.MixLnRefIdeal.τ) (Cert.MixLnRefIdeal.main (F := Ideal))) ⟨m, fun _ => 0, g⟩ (fun r => (∀ c : Dev Cert.MixLnRefIdeal.nD,
      r.2.mem ((c.tc : Thread Cert.MixLnRefIdeal.nD Cert.MixLnRefIdeal.τ).loc Cert.MixLnRefIdeal.main_arg0) = m ((c.tc : Thread Cert.MixLnRefIdeal.nD Cert.MixLnRefIdeal.τ).loc Cert.MixLnRefIdeal.main_arg0)
      ∧ r.2.mem ((c.tc : Thread Cert.MixLnRefIdeal.nD Cert.MixLnRefIdeal.τ).loc Cert.MixLnRefIdeal.main_arg1) = m ((c.tc : Thread Cert.MixLnRefIdeal.nD Cert.MixLnRefIdeal.τ).loc Cert.MixLnRefIdeal.main_arg1)
      ∧ r.2.mem ((c.tc : Thread Cert.MixLnRefIdeal.nD Cert.MixLnRefIdeal.τ).loc Cert.MixLnRefIdeal.main_arg2) = m ((c.tc : Thread Cert.MixLnRefIdeal.nD Cert.MixLnRefIdeal.τ).loc Cert.MixLnRefIdeal.main_arg2)
      ∧ r.2.mem ((c.tc : Thread Cert.MixLnRefIdeal.nD Cert.MixLnRefIdeal.τ).loc Cert.MixLnRefIdeal.main_arg3) = m ((c.tc : Thread Cert.MixLnRefIdeal.nD Cert.MixLnRefIdeal.τ).loc Cert.MixLnRefIdeal.main_arg3)
      ∧ r.2.mem ((c.tc : Thread Cert.MixLnRefIdeal.nD Cert.MixLnRefIdeal.τ).loc Cert.MixLnRefIdeal.main_arg4) = m ((c.tc : Thread Cert.MixLnRefIdeal.nD Cert.MixLnRefIdeal.τ).loc Cert.MixLnRefIdeal.main_arg4)
      ∧ r.2.mem ((c.tc : Thread Cert.MixLnRefIdeal.nD Cert.MixLnRefIdeal.τ).loc Cert.MixLnRefIdeal.main_arg5) = m ((c.tc : Thread Cert.MixLnRefIdeal.nD Cert.MixLnRefIdeal.τ).loc Cert.MixLnRefIdeal.main_arg5))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_GmlpUp [hGmlpUp : Cert.GmlpUp.Facts] : Prop :=
  ∀ (m : (ℓ : Loc Cert.GmlpUp.nD Cert.GmlpUp.τ Cert.GmlpUp.sig) → Buf (Elt Bits) ℓ) (g : Dev Cert.GmlpUp.nD → PrngReg), Pre_GmlpUp m →
    θ_run (Cert.GmlpUp.defs (F := Bits)) (onTc (τ := Cert.GmlpUp.τ) (Cert.GmlpUp.main (F := Bits))) ⟨m, fun _ => 0, g⟩ (fun r => (∀ c : Dev Cert.GmlpUp.nD,
      r.2.mem ((c.tc : Thread Cert.GmlpUp.nD Cert.GmlpUp.τ).loc Cert.GmlpUp.main_arg0) = m ((c.tc : Thread Cert.GmlpUp.nD Cert.GmlpUp.τ).loc Cert.GmlpUp.main_arg0)
      ∧ r.2.mem ((c.tc : Thread Cert.GmlpUp.nD Cert.GmlpUp.τ).loc Cert.GmlpUp.main_arg1) = m ((c.tc : Thread Cert.GmlpUp.nD Cert.GmlpUp.τ).loc Cert.GmlpUp.main_arg1)
      ∧ r.2.mem ((c.tc : Thread Cert.GmlpUp.nD Cert.GmlpUp.τ).loc Cert.GmlpUp.main_arg2) = m ((c.tc : Thread Cert.GmlpUp.nD Cert.GmlpUp.τ).loc Cert.GmlpUp.main_arg2)
      ∧ r.2.mem ((c.tc : Thread Cert.GmlpUp.nD Cert.GmlpUp.τ).loc Cert.GmlpUp.main_arg3) = m ((c.tc : Thread Cert.GmlpUp.nD Cert.GmlpUp.τ).loc Cert.GmlpUp.main_arg3)
      ∧ r.2.mem ((c.tc : Thread Cert.GmlpUp.nD Cert.GmlpUp.τ).loc Cert.GmlpUp.main_arg4) = m ((c.tc : Thread Cert.GmlpUp.nD Cert.GmlpUp.τ).loc Cert.GmlpUp.main_arg4))
      ∧ r.2.sem = fun _ => 0)

def quiescent_GmlpUpIdeal [hGmlpUpIdeal : Cert.GmlpUpIdeal.Facts] : Prop :=
  ∀ (m : (ℓ : Loc Cert.GmlpUpIdeal.nD Cert.GmlpUpIdeal.τ Cert.GmlpUpIdeal.sig) → Buf (Elt Ideal) ℓ) (g : Dev Cert.GmlpUpIdeal.nD → PrngReg), Pre_GmlpUpIdeal m →
    θ_run (Cert.GmlpUpIdeal.defs (F := Ideal)) (onTc (τ := Cert.GmlpUpIdeal.τ) (Cert.GmlpUpIdeal.main (F := Ideal))) ⟨m, fun _ => 0, g⟩ (fun r => (∀ c : Dev Cert.GmlpUpIdeal.nD,
      r.2.mem ((c.tc : Thread Cert.GmlpUpIdeal.nD Cert.GmlpUpIdeal.τ).loc Cert.GmlpUpIdeal.main_arg0) = m ((c.tc : Thread Cert.GmlpUpIdeal.nD Cert.GmlpUpIdeal.τ).loc Cert.GmlpUpIdeal.main_arg0)
      ∧ r.2.mem ((c.tc : Thread Cert.GmlpUpIdeal.nD Cert.GmlpUpIdeal.τ).loc Cert.GmlpUpIdeal.main_arg1) = m ((c.tc : Thread Cert.GmlpUpIdeal.nD Cert.GmlpUpIdeal.τ).loc Cert.GmlpUpIdeal.main_arg1)
      ∧ r.2.mem ((c.tc : Thread Cert.GmlpUpIdeal.nD Cert.GmlpUpIdeal.τ).loc Cert.GmlpUpIdeal.main_arg2) = m ((c.tc : Thread Cert.GmlpUpIdeal.nD Cert.GmlpUpIdeal.τ).loc Cert.GmlpUpIdeal.main_arg2)
      ∧ r.2.mem ((c.tc : Thread Cert.GmlpUpIdeal.nD Cert.GmlpUpIdeal.τ).loc Cert.GmlpUpIdeal.main_arg3) = m ((c.tc : Thread Cert.GmlpUpIdeal.nD Cert.GmlpUpIdeal.τ).loc Cert.GmlpUpIdeal.main_arg3)
      ∧ r.2.mem ((c.tc : Thread Cert.GmlpUpIdeal.nD Cert.GmlpUpIdeal.τ).loc Cert.GmlpUpIdeal.main_arg4) = m ((c.tc : Thread Cert.GmlpUpIdeal.nD Cert.GmlpUpIdeal.τ).loc Cert.GmlpUpIdeal.main_arg4))
      ∧ r.2.sem = fun _ => 0)

def quiescent_GmlpUpRefIdeal [hGmlpUpRefIdeal : Cert.GmlpUpRefIdeal.Facts] : Prop :=
  ∀ (m : (ℓ : Loc Cert.GmlpUpRefIdeal.nD Cert.GmlpUpRefIdeal.τ Cert.GmlpUpRefIdeal.sig) → Buf (Elt Ideal) ℓ) (g : Dev Cert.GmlpUpRefIdeal.nD → PrngReg), Pre_GmlpUpRefIdeal m →
    θ_run (Cert.GmlpUpRefIdeal.defs (F := Ideal)) (onTc (τ := Cert.GmlpUpRefIdeal.τ) (Cert.GmlpUpRefIdeal.main (F := Ideal))) ⟨m, fun _ => 0, g⟩ (fun r => (∀ c : Dev Cert.GmlpUpRefIdeal.nD,
      r.2.mem ((c.tc : Thread Cert.GmlpUpRefIdeal.nD Cert.GmlpUpRefIdeal.τ).loc Cert.GmlpUpRefIdeal.main_arg0) = m ((c.tc : Thread Cert.GmlpUpRefIdeal.nD Cert.GmlpUpRefIdeal.τ).loc Cert.GmlpUpRefIdeal.main_arg0)
      ∧ r.2.mem ((c.tc : Thread Cert.GmlpUpRefIdeal.nD Cert.GmlpUpRefIdeal.τ).loc Cert.GmlpUpRefIdeal.main_arg1) = m ((c.tc : Thread Cert.GmlpUpRefIdeal.nD Cert.GmlpUpRefIdeal.τ).loc Cert.GmlpUpRefIdeal.main_arg1)
      ∧ r.2.mem ((c.tc : Thread Cert.GmlpUpRefIdeal.nD Cert.GmlpUpRefIdeal.τ).loc Cert.GmlpUpRefIdeal.main_arg2) = m ((c.tc : Thread Cert.GmlpUpRefIdeal.nD Cert.GmlpUpRefIdeal.τ).loc Cert.GmlpUpRefIdeal.main_arg2)
      ∧ r.2.mem ((c.tc : Thread Cert.GmlpUpRefIdeal.nD Cert.GmlpUpRefIdeal.τ).loc Cert.GmlpUpRefIdeal.main_arg3) = m ((c.tc : Thread Cert.GmlpUpRefIdeal.nD Cert.GmlpUpRefIdeal.τ).loc Cert.GmlpUpRefIdeal.main_arg3)
      ∧ r.2.mem ((c.tc : Thread Cert.GmlpUpRefIdeal.nD Cert.GmlpUpRefIdeal.τ).loc Cert.GmlpUpRefIdeal.main_arg4) = m ((c.tc : Thread Cert.GmlpUpRefIdeal.nD Cert.GmlpUpRefIdeal.τ).loc Cert.GmlpUpRefIdeal.main_arg4))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4)
      ∧ r.2.mem ((c.tc : Thread Cert.SguFwd.nD Cert.SguFwd.τ).loc Cert.SguFwd.main_arg5) = m ((c.tc : Thread Cert.SguFwd.nD Cert.SguFwd.τ).loc Cert.SguFwd.main_arg5))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_LaneSum_LaneSumIdeal : Prop :=
  True

def algebraic_LaneSumIdeal_LaneSumRefIdeal [hLaneSumIdeal : Cert.LaneSumIdeal.Facts] [hLaneSumRefIdeal : Cert.LaneSumRefIdeal.Facts] : Prop :=
  ∀ (m : (ℓ : Loc Cert.LaneSumIdeal.nD Cert.LaneSumIdeal.τ Cert.LaneSumIdeal.sig) → Buf (Elt Ideal) ℓ) (g : Dev Cert.LaneSumIdeal.nD → PrngReg)
    (m' : (ℓ : Loc Cert.LaneSumRefIdeal.nD Cert.LaneSumRefIdeal.τ Cert.LaneSumRefIdeal.sig) → Buf (Elt Ideal) ℓ) (g' : Dev Cert.LaneSumRefIdeal.nD → PrngReg), Pre_LaneSumIdeal m →
    (∀ c : Dev Cert.LaneSumIdeal.nD,
      m' ((c.tc : Thread Cert.LaneSumRefIdeal.nD Cert.LaneSumRefIdeal.τ).loc Cert.LaneSumRefIdeal.main_arg0) = m ((c.tc : Thread Cert.LaneSumIdeal.nD Cert.LaneSumIdeal.τ).loc Cert.LaneSumIdeal.main_arg0)) →
    ∃ (v0 : (c : Dev Cert.LaneSumIdeal.nD) → Buf (Elt Ideal) ((c.tc : Thread Cert.LaneSumIdeal.nD Cert.LaneSumIdeal.τ).loc Cert.LaneSumIdeal.main_v0)),
      θ_run (Cert.LaneSumIdeal.defs (F := Ideal)) (onTc (τ := Cert.LaneSumIdeal.τ) (Cert.LaneSumIdeal.main (F := Ideal))) ⟨m, fun _ => 0, g⟩ (fun r => ∀ c : Dev Cert.LaneSumIdeal.nD,
          r.2.mem ((c.tc : Thread Cert.LaneSumIdeal.nD Cert.LaneSumIdeal.τ).loc Cert.LaneSumIdeal.main_v0) = v0 c
          ∧ r.2.mem ((c.tc : Thread Cert.LaneSumIdeal.nD Cert.LaneSumIdeal.τ).loc Cert.LaneSumIdeal.main_arg0) = m ((c.tc : Thread Cert.LaneSumIdeal.nD Cert.LaneSumIdeal.τ).loc Cert.LaneSumIdeal.main_arg0))
      ∧ θ_run (Cert.LaneSumRefIdeal.defs (F := Ideal)) (onTc (τ := Cert.LaneSumRefIdeal.τ) (Cert.LaneSumRefIdeal.main (F := Ideal))) ⟨m', fun _ => 0, g'⟩ (fun r => ∀ c : Dev Cert.LaneSumRefIdeal.nD,
          r.2.mem ((c.tc : Thread Cert.LaneSumRefIdeal.nD Cert.LaneSumRefIdeal.τ).loc Cert.LaneSumRefIdeal.main_v11) = v0 c
          ∧ r.2.mem ((c.tc : Thread Cert.LaneSumRefIdeal.nD Cert.LaneSumRefIdeal.τ).loc Cert.LaneSumRefIdeal.main_arg0) = m' ((c.tc : Thread Cert.LaneSumRefIdeal.nD Cert.LaneSumRefIdeal.τ).loc Cert.LaneSumRefIdeal.main_arg0))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v1)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v1) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v6) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def preserves_FfnAct_FfnActIdeal : Prop :=
  True

def algebraic_FfnActIdeal_FfnActRefIdeal_pre_ffn_finite [hFfnActIdeal : Cert.FfnActIdeal.Facts] [hFfnActRefIdeal : Cert.FfnActRefIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_ffn_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v6)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v6) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v11) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def preserves_UpFirst_UpFirstIdeal : Prop :=
  True

def algebraic_UpFirstIdeal_UpFirstRefIdeal [hUpFirstIdeal : Cert.UpFirstIdeal.Facts] [hUpFirstRefIdeal : Cert.UpFirstRefIdeal.Facts] : Prop :=
  ∀ (m : (ℓ : Loc Cert.UpFirstIdeal.nD Cert.UpFirstIdeal.τ Cert.UpFirstIdeal.sig) → Buf (Elt Ideal) ℓ) (g : Dev Cert.UpFirstIdeal.nD → PrngReg)
    (m' : (ℓ : Loc Cert.UpFirstRefIdeal.nD Cert.UpFirstRefIdeal.τ Cert.UpFirstRefIdeal.sig) → Buf (Elt Ideal) ℓ) (g' : Dev Cert.UpFirstRefIdeal.nD → PrngReg), Pre_UpFirstIdeal m →
    (∀ c : Dev Cert.UpFirstIdeal.nD,
      m' ((c.tc : Thread Cert.UpFirstRefIdeal.nD Cert.UpFirstRefIdeal.τ).loc Cert.UpFirstRefIdeal.main_arg0) = m ((c.tc : Thread Cert.UpFirstIdeal.nD Cert.UpFirstIdeal.τ).loc Cert.UpFirstIdeal.main_arg0)
      ∧ m' ((c.tc : Thread Cert.UpFirstRefIdeal.nD Cert.UpFirstRefIdeal.τ).loc Cert.UpFirstRefIdeal.main_arg1) = m ((c.tc : Thread Cert.UpFirstIdeal.nD Cert.UpFirstIdeal.τ).loc Cert.UpFirstIdeal.main_arg1)
      ∧ m' ((c.tc : Thread Cert.UpFirstRefIdeal.nD Cert.UpFirstRefIdeal.τ).loc Cert.UpFirstRefIdeal.main_arg2) = m ((c.tc : Thread Cert.UpFirstIdeal.nD Cert.UpFirstIdeal.τ).loc Cert.UpFirstIdeal.main_arg2)
      ∧ m' ((c.tc : Thread Cert.UpFirstRefIdeal.nD Cert.UpFirstRefIdeal.τ).loc Cert.UpFirstRefIdeal.main_arg3) = m ((c.tc : Thread Cert.UpFirstIdeal.nD Cert.UpFirstIdeal.τ).loc Cert.UpFirstIdeal.main_arg3)
      ∧ m' ((c.tc : Thread Cert.UpFirstRefIdeal.nD Cert.UpFirstRefIdeal.τ).loc Cert.UpFirstRefIdeal.main_arg4) = m ((c.tc : Thread Cert.UpFirstIdeal.nD Cert.UpFirstIdeal.τ).loc Cert.UpFirstIdeal.main_arg4)
      ∧ m' ((c.tc : Thread Cert.UpFirstRefIdeal.nD Cert.UpFirstRefIdeal.τ).loc Cert.UpFirstRefIdeal.main_arg5) = m ((c.tc : Thread Cert.UpFirstIdeal.nD Cert.UpFirstIdeal.τ).loc Cert.UpFirstIdeal.main_arg5)) →
    ∃ (v0 : (c : Dev Cert.UpFirstIdeal.nD) → Buf (Elt Ideal) ((c.tc : Thread Cert.UpFirstIdeal.nD Cert.UpFirstIdeal.τ).loc Cert.UpFirstIdeal.main_v8_0)) (v1 : (c : Dev Cert.UpFirstIdeal.nD) → Buf (Elt Ideal) ((c.tc : Thread Cert.UpFirstIdeal.nD Cert.UpFirstIdeal.τ).loc Cert.UpFirstIdeal.main_v8_1)),
      θ_run (Cert.UpFirstIdeal.defs (F := Ideal)) (onTc (τ := Cert.UpFirstIdeal.τ) (Cert.UpFirstIdeal.main (F := Ideal))) ⟨m, fun _ => 0, g⟩ (fun r => ∀ c : Dev Cert.UpFirstIdeal.nD,
          r.2.mem ((c.tc : Thread Cert.UpFirstIdeal.nD Cert.UpFirstIdeal.τ).loc Cert.UpFirstIdeal.main_v8_0) = v0 c
          ∧ r.2.mem ((c.tc : Thread Cert.UpFirstIdeal.nD Cert.UpFirstIdeal.τ).loc Cert.UpFirstIdeal.main_v8_1) = v1 c
          ∧ r.2.mem ((c.tc : Thread Cert.UpFirstIdeal.nD Cert.UpFirstIdeal.τ).loc Cert.UpFirstIdeal.main_arg0) = m ((c.tc : Thread Cert.UpFirstIdeal.nD Cert.UpFirstIdeal.τ).loc Cert.UpFirstIdeal.main_arg0)
          ∧ r.2.mem ((c.tc : Thread Cert.UpFirstIdeal.nD Cert.UpFirstIdeal.τ).loc Cert.UpFirstIdeal.main_arg1) = m ((c.tc : Thread Cert.UpFirstIdeal.nD Cert.UpFirstIdeal.τ).loc Cert.UpFirstIdeal.main_arg1)
          ∧ r.2.mem ((c.tc : Thread Cert.UpFirstIdeal.nD Cert.UpFirstIdeal.τ).loc Cert.UpFirstIdeal.main_arg2) = m ((c.tc : Thread Cert.UpFirstIdeal.nD Cert.UpFirstIdeal.τ).loc Cert.UpFirstIdeal.main_arg2)
          ∧ r.2.mem ((c.tc : Thread Cert.UpFirstIdeal.nD Cert.UpFirstIdeal.τ).loc Cert.UpFirstIdeal.main_arg3) = m ((c.tc : Thread Cert.UpFirstIdeal.nD Cert.UpFirstIdeal.τ).loc Cert.UpFirstIdeal.main_arg3)
          ∧ r.2.mem ((c.tc : Thread Cert.UpFirstIdeal.nD Cert.UpFirstIdeal.τ).loc Cert.UpFirstIdeal.main_arg4) = m ((c.tc : Thread Cert.UpFirstIdeal.nD Cert.UpFirstIdeal.τ).loc Cert.UpFirstIdeal.main_arg4)
          ∧ r.2.mem ((c.tc : Thread Cert.UpFirstIdeal.nD Cert.UpFirstIdeal.τ).loc Cert.UpFirstIdeal.main_arg5) = m ((c.tc : Thread Cert.UpFirstIdeal.nD Cert.UpFirstIdeal.τ).loc Cert.UpFirstIdeal.main_arg5))
      ∧ θ_run (Cert.UpFirstRefIdeal.defs (F := Ideal)) (onTc (τ := Cert.UpFirstRefIdeal.τ) (Cert.UpFirstRefIdeal.main (F := Ideal))) ⟨m', fun _ => 0, g'⟩ (fun r => ∀ c : Dev Cert.UpFirstRefIdeal.nD,
          r.2.mem ((c.tc : Thread Cert.UpFirstRefIdeal.nD Cert.UpFirstRefIdeal.τ).loc Cert.UpFirstRefIdeal.main_v20) = v0 c
          ∧ r.2.mem ((c.tc : Thread Cert.UpFirstRefIdeal.nD Cert.UpFirstRefIdeal.τ).loc Cert.UpFirstRefIdeal.main_v18) = v1 c
          ∧ r.2.mem ((c.tc : Thread Cert.UpFirstRefIdeal.nD Cert.UpFirstRefIdeal.τ).loc Cert.UpFirstRefIdeal.main_arg0) = m' ((c.tc : Thread Cert.UpFirstRefIdeal.nD Cert.UpFirstRefIdeal.τ).loc Cert.UpFirstRefIdeal.main_arg0)
          ∧ r.2.mem ((c.tc : Thread Cert.UpFirstRefIdeal.nD Cert.UpFirstRefIdeal.τ).loc Cert.UpFirstRefIdeal.main_arg1) = m' ((c.tc : Thread Cert.UpFirstRefIdeal.nD Cert.UpFirstRefIdeal.τ).loc Cert.UpFirstRefIdeal.main_arg1)
          ∧ r.2.mem ((c.tc : Thread Cert.UpFirstRefIdeal.nD Cert.UpFirstRefIdeal.τ).loc Cert.UpFirstRefIdeal.main_arg2) = m' ((c.tc : Thread Cert.UpFirstRefIdeal.nD Cert.UpFirstRefIdeal.τ).loc Cert.UpFirstRefIdeal.main_arg2)
          ∧ r.2.mem ((c.tc : Thread Cert.UpFirstRefIdeal.nD Cert.UpFirstRefIdeal.τ).loc Cert.UpFirstRefIdeal.main_arg3) = m' ((c.tc : Thread Cert.UpFirstRefIdeal.nD Cert.UpFirstRefIdeal.τ).loc Cert.UpFirstRefIdeal.main_arg3)
          ∧ r.2.mem ((c.tc : Thread Cert.UpFirstRefIdeal.nD Cert.UpFirstRefIdeal.τ).loc Cert.UpFirstRefIdeal.main_arg4) = m' ((c.tc : Thread Cert.UpFirstRefIdeal.nD Cert.UpFirstRefIdeal.τ).loc Cert.UpFirstRefIdeal.main_arg4)
          ∧ r.2.mem ((c.tc : Thread Cert.UpFirstRefIdeal.nD Cert.UpFirstRefIdeal.τ).loc Cert.UpFirstRefIdeal.main_arg5) = m' ((c.tc : Thread Cert.UpFirstRefIdeal.nD Cert.UpFirstRefIdeal.τ).loc Cert.UpFirstRefIdeal.main_arg5))

def preserves_UpMixer_UpMixerIdeal : Prop :=
  True

def algebraic_UpMixerIdeal_UpMixerRefIdeal_pre_up1_finite [hUpMixerIdeal : Cert.UpMixerIdeal.Facts] [hUpMixerRefIdeal : Cert.UpMixerRefIdeal.Facts] [hPre_up1_finite : Cert.Pre_up1_finite.Facts] : Prop :=
  ∀ (m : (ℓ : Loc Cert.UpMixerIdeal.nD Cert.UpMixerIdeal.τ Cert.UpMixerIdeal.sig) → Buf (Elt Ideal) ℓ) (g : Dev Cert.UpMixerIdeal.nD → PrngReg)
    (m' : (ℓ : Loc Cert.UpMixerRefIdeal.nD Cert.UpMixerRefIdeal.τ Cert.UpMixerRefIdeal.sig) → Buf (Elt Ideal) ℓ) (g' : Dev Cert.UpMixerRefIdeal.nD → PrngReg), Pre_UpMixerIdeal_up1_finite m →
    (∀ c : Dev Cert.UpMixerIdeal.nD,
      m' ((c.tc : Thread Cert.UpMixerRefIdeal.nD Cert.UpMixerRefIdeal.τ).loc Cert.UpMixerRefIdeal.main_arg0) = m ((c.tc : Thread Cert.UpMixerIdeal.nD Cert.UpMixerIdeal.τ).loc Cert.UpMixerIdeal.main_arg0)
      ∧ m' ((c.tc : Thread Cert.UpMixerRefIdeal.nD Cert.UpMixerRefIdeal.τ).loc Cert.UpMixerRefIdeal.main_arg1) = m ((c.tc : Thread Cert.UpMixerIdeal.nD Cert.UpMixerIdeal.τ).loc Cert.UpMixerIdeal.main_arg1)
      ∧ m' ((c.tc : Thread Cert.UpMixerRefIdeal.nD Cert.UpMixerRefIdeal.τ).loc Cert.UpMixerRefIdeal.main_arg2) = m ((c.tc : Thread Cert.UpMixerIdeal.nD Cert.UpMixerIdeal.τ).loc Cert.UpMixerIdeal.main_arg2)
      ∧ m' ((c.tc : Thread Cert.UpMixerRefIdeal.nD Cert.UpMixerRefIdeal.τ).loc Cert.UpMixerRefIdeal.main_arg3) = m ((c.tc : Thread Cert.UpMixerIdeal.nD Cert.UpMixerIdeal.τ).loc Cert.UpMixerIdeal.main_arg3)
      ∧ m' ((c.tc : Thread Cert.UpMixerRefIdeal.nD Cert.UpMixerRefIdeal.τ).loc Cert.UpMixerRefIdeal.main_arg4) = m ((c.tc : Thread Cert.UpMixerIdeal.nD Cert.UpMixerIdeal.τ).loc Cert.UpMixerIdeal.main_arg4)
      ∧ m' ((c.tc : Thread Cert.UpMixerRefIdeal.nD Cert.UpMixerRefIdeal.τ).loc Cert.UpMixerRefIdeal.main_arg5) = m ((c.tc : Thread Cert.UpMixerIdeal.nD Cert.UpMixerIdeal.τ).loc Cert.UpMixerIdeal.main_arg5)
      ∧ m' ((c.tc : Thread Cert.UpMixerRefIdeal.nD Cert.UpMixerRefIdeal.τ).loc Cert.UpMixerRefIdeal.main_arg6) = m ((c.tc : Thread Cert.UpMixerIdeal.nD Cert.UpMixerIdeal.τ).loc Cert.UpMixerIdeal.main_arg6)
      ∧ m' ((c.tc : Thread Cert.UpMixerRefIdeal.nD Cert.UpMixerRefIdeal.τ).loc Cert.UpMixerRefIdeal.main_arg7) = m ((c.tc : Thread Cert.UpMixerIdeal.nD Cert.UpMixerIdeal.τ).loc Cert.UpMixerIdeal.main_arg7)
      ∧ m' ((c.tc : Thread Cert.UpMixerRefIdeal.nD Cert.UpMixerRefIdeal.τ).loc Cert.UpMixerRefIdeal.main_arg8) = m ((c.tc : Thread Cert.UpMixerIdeal.nD Cert.UpMixerIdeal.τ).loc Cert.UpMixerIdeal.main_arg8)
      ∧ m' ((c.tc : Thread Cert.UpMixerRefIdeal.nD Cert.UpMixerRefIdeal.τ).loc Cert.UpMixerRefIdeal.main_arg9) = m ((c.tc : Thread Cert.UpMixerIdeal.nD Cert.UpMixerIdeal.τ).loc Cert.UpMixerIdeal.main_arg9)) →
    ∃ (v0 : (c : Dev Cert.UpMixerIdeal.nD) → Buf (Elt Ideal) ((c.tc : Thread Cert.UpMixerIdeal.nD Cert.UpMixerIdeal.τ).loc Cert.UpMixerIdeal.main_v40_0)) (v1 : (c : Dev Cert.UpMixerIdeal.nD) → Buf (Elt Ideal) ((c.tc : Thread Cert.UpMixerIdeal.nD Cert.UpMixerIdeal.τ).loc Cert.UpMixerIdeal.main_v40_1)) (v2 : (c : Dev Cert.UpMixerIdeal.nD) → Buf (Elt Ideal) ((c.tc : Thread Cert.UpMixerIdeal.nD Cert.UpMixerIdeal.τ).loc Cert.UpMixerIdeal.main_v40_2)),
      θ_run (Cert.UpMixerIdeal.defs (F := Ideal)) (onTc (τ := Cert.UpMixerIdeal.τ) (Cert.UpMixerIdeal.main (F := Ideal))) ⟨m, fun _ => 0, g⟩ (fun r => ∀ c : Dev Cert.UpMixerIdeal.nD,
          r.2.mem ((c.tc : Thread Cert.UpMixerIdeal.nD Cert.UpMixerIdeal.τ).loc Cert.UpMixerIdeal.main_v40_0) = v0 c
          ∧ r.2.mem ((c.tc : Thread Cert.UpMixerIdeal.nD Cert.UpMixerIdeal.τ).loc Cert.UpMixerIdeal.main_v40_1) = v1 c
          ∧ r.2.mem ((c.tc : Thread Cert.UpMixerIdeal.nD Cert.UpMixerIdeal.τ).loc Cert.UpMixerIdeal.main_v40_2) = v2 c
          ∧ r.2.mem ((c.tc : Thread Cert.UpMixerIdeal.nD Cert.UpMixerIdeal.τ).loc Cert.UpMixerIdeal.main_arg0) = m ((c.tc : Thread Cert.UpMixerIdeal.nD Cert.UpMixerIdeal.τ).loc Cert.UpMixerIdeal.main_arg0)
          ∧ r.2.mem ((c.tc : Thread Cert.UpMixerIdeal.nD Cert.UpMixerIdeal.τ).loc Cert.UpMixerIdeal.main_arg1) = m ((c.tc : Thread Cert.UpMixerIdeal.nD Cert.UpMixerIdeal.τ).loc Cert.UpMixerIdeal.main_arg1)
          ∧ r.2.mem ((c.tc : Thread Cert.UpMixerIdeal.nD Cert.UpMixerIdeal.τ).loc Cert.UpMixerIdeal.main_arg2) = m ((c.tc : Thread Cert.UpMixerIdeal.nD Cert.UpMixerIdeal.τ).loc Cert.UpMixerIdeal.main_arg2)
          ∧ r.2.mem ((c.tc : Thread Cert.UpMixerIdeal.nD Cert.UpMixerIdeal.τ).loc Cert.UpMixerIdeal.main_arg3) = m ((c.tc : Thread Cert.UpMixerIdeal.nD Cert.UpMixerIdeal.τ).loc Cert.UpMixerIdeal.main_arg3)
          ∧ r.2.mem ((c.tc : Thread Cert.UpMixerIdeal.nD Cert.UpMixerIdeal.τ).loc Cert.UpMixerIdeal.main_arg4) = m ((c.tc : Thread Cert.UpMixerIdeal.nD Cert.UpMixerIdeal.τ).loc Cert.UpMixerIdeal.main_arg4)
          ∧ r.2.mem ((c.tc : Thread Cert.UpMixerIdeal.nD Cert.UpMixerIdeal.τ).loc Cert.UpMixerIdeal.main_arg5) = m ((c.tc : Thread Cert.UpMixerIdeal.nD Cert.UpMixerIdeal.τ).loc Cert.UpMixerIdeal.main_arg5)
          ∧ r.2.mem ((c.tc : Thread Cert.UpMixerIdeal.nD Cert.UpMixerIdeal.τ).loc Cert.UpMixerIdeal.main_arg6) = m ((c.tc : Thread Cert.UpMixerIdeal.nD Cert.UpMixerIdeal.τ).loc Cert.UpMixerIdeal.main_arg6)
          ∧ r.2.mem ((c.tc : Thread Cert.UpMixerIdeal.nD Cert.UpMixerIdeal.τ).loc Cert.UpMixerIdeal.main_arg7) = m ((c.tc : Thread Cert.UpMixerIdeal.nD Cert.UpMixerIdeal.τ).loc Cert.UpMixerIdeal.main_arg7)
          ∧ r.2.mem ((c.tc : Thread Cert.UpMixerIdeal.nD Cert.UpMixerIdeal.τ).loc Cert.UpMixerIdeal.main_arg8) = m ((c.tc : Thread Cert.UpMixerIdeal.nD Cert.UpMixerIdeal.τ).loc Cert.UpMixerIdeal.main_arg8)
          ∧ r.2.mem ((c.tc : Thread Cert.UpMixerIdeal.nD Cert.UpMixerIdeal.τ).loc Cert.UpMixerIdeal.main_arg9) = m ((c.tc : Thread Cert.UpMixerIdeal.nD Cert.UpMixerIdeal.τ).loc Cert.UpMixerIdeal.main_arg9))
      ∧ θ_run (Cert.UpMixerRefIdeal.defs (F := Ideal)) (onTc (τ := Cert.UpMixerRefIdeal.τ) (Cert.UpMixerRefIdeal.main (F := Ideal))) ⟨m', fun _ => 0, g'⟩ (fun r => ∀ c : Dev Cert.UpMixerRefIdeal.nD,
          r.2.mem ((c.tc : Thread Cert.UpMixerRefIdeal.nD Cert.UpMixerRefIdeal.τ).loc Cert.UpMixerRefIdeal.main_v102) = v0 c
          ∧ r.2.mem ((c.tc : Thread Cert.UpMixerRefIdeal.nD Cert.UpMixerRefIdeal.τ).loc Cert.UpMixerRefIdeal.main_v104) = v1 c
          ∧ r.2.mem ((c.tc : Thread Cert.UpMixerRefIdeal.nD Cert.UpMixerRefIdeal.τ).loc Cert.UpMixerRefIdeal.main_v101) = v2 c
          ∧ r.2.mem ((c.tc : Thread Cert.UpMixerRefIdeal.nD Cert.UpMixerRefIdeal.τ).loc Cert.UpMixerRefIdeal.main_arg0) = m' ((c.tc : Thread Cert.UpMixerRefIdeal.nD Cert.UpMixerRefIdeal.τ).loc Cert.UpMixerRefIdeal.main_arg0)
          ∧ r.2.mem ((c.tc : Thread Cert.UpMixerRefIdeal.nD Cert.UpMixerRefIdeal.τ).loc Cert.UpMixerRefIdeal.main_arg1) = m' ((c.tc : Thread Cert.UpMixerRefIdeal.nD Cert.UpMixerRefIdeal.τ).loc Cert.UpMixerRefIdeal.main_arg1)
          ∧ r.2.mem ((c.tc : Thread Cert.UpMixerRefIdeal.nD Cert.UpMixerRefIdeal.τ).loc Cert.UpMixerRefIdeal.main_arg2) = m' ((c.tc : Thread Cert.UpMixerRefIdeal.nD Cert.UpMixerRefIdeal.τ).loc Cert.UpMixerRefIdeal.main_arg2)
          ∧ r.2.mem ((c.tc : Thread Cert.UpMixerRefIdeal.nD Cert.UpMixerRefIdeal.τ).loc Cert.UpMixerRefIdeal.main_arg3) = m' ((c.tc : Thread Cert.UpMixerRefIdeal.nD Cert.UpMixerRefIdeal.τ).loc Cert.UpMixerRefIdeal.main_arg3)
          ∧ r.2.mem ((c.tc : Thread Cert.UpMixerRefIdeal.nD Cert.UpMixerRefIdeal.τ).loc Cert.UpMixerRefIdeal.main_arg4) = m' ((c.tc : Thread Cert.UpMixerRefIdeal.nD Cert.UpMixerRefIdeal.τ).loc Cert.UpMixerRefIdeal.main_arg4)
          ∧ r.2.mem ((c.tc : Thread Cert.UpMixerRefIdeal.nD Cert.UpMixerRefIdeal.τ).loc Cert.UpMixerRefIdeal.main_arg5) = m' ((c.tc : Thread Cert.UpMixerRefIdeal.nD Cert.UpMixerRefIdeal.τ).loc Cert.UpMixerRefIdeal.main_arg5)
          ∧ r.2.mem ((c.tc : Thread Cert.UpMixerRefIdeal.nD Cert.UpMixerRefIdeal.τ).loc Cert.UpMixerRefIdeal.main_arg6) = m' ((c.tc : Thread Cert.UpMixerRefIdeal.nD Cert.UpMixerRefIdeal.τ).loc Cert.UpMixerRefIdeal.main_arg6)
          ∧ r.2.mem ((c.tc : Thread Cert.UpMixerRefIdeal.nD Cert.UpMixerRefIdeal.τ).loc Cert.UpMixerRefIdeal.main_arg7) = m' ((c.tc : Thread Cert.UpMixerRefIdeal.nD Cert.UpMixerRefIdeal.τ).loc Cert.UpMixerRefIdeal.main_arg7)
          ∧ r.2.mem ((c.tc : Thread Cert.UpMixerRefIdeal.nD Cert.UpMixerRefIdeal.τ).loc Cert.UpMixerRefIdeal.main_arg8) = m' ((c.tc : Thread Cert.UpMixerRefIdeal.nD Cert.UpMixerRefIdeal.τ).loc Cert.UpMixerRefIdeal.main_arg8)
          ∧ r.2.mem ((c.tc : Thread Cert.UpMixerRefIdeal.nD Cert.UpMixerRefIdeal.τ).loc Cert.UpMixerRefIdeal.main_arg9) = m' ((c.tc : Thread Cert.UpMixerRefIdeal.nD Cert.UpMixerRefIdeal.τ).loc Cert.UpMixerRefIdeal.main_arg9))

def preserves_LossLn_LossLnIdeal : Prop :=
  True

def algebraic_LossLnIdeal_LossLnRefIdeal_pre_loss_finite [hLossLnIdeal : Cert.LossLnIdeal.Facts] [hLossLnRefIdeal : Cert.LossLnRefIdeal.Facts] [hPre_loss_finite : Cert.Pre_loss_finite.Facts] : Prop :=
  ∀ (m : (ℓ : Loc Cert.LossLnIdeal.nD Cert.LossLnIdeal.τ Cert.LossLnIdeal.sig) → Buf (Elt Ideal) ℓ) (g : Dev Cert.LossLnIdeal.nD → PrngReg)
    (m' : (ℓ : Loc Cert.LossLnRefIdeal.nD Cert.LossLnRefIdeal.τ Cert.LossLnRefIdeal.sig) → Buf (Elt Ideal) ℓ) (g' : Dev Cert.LossLnRefIdeal.nD → PrngReg), Pre_LossLnIdeal_loss_finite m →
    (∀ c : Dev Cert.LossLnIdeal.nD,
      m' ((c.tc : Thread Cert.LossLnRefIdeal.nD Cert.LossLnRefIdeal.τ).loc Cert.LossLnRefIdeal.main_arg0) = m ((c.tc : Thread Cert.LossLnIdeal.nD Cert.LossLnIdeal.τ).loc Cert.LossLnIdeal.main_arg0)
      ∧ m' ((c.tc : Thread Cert.LossLnRefIdeal.nD Cert.LossLnRefIdeal.τ).loc Cert.LossLnRefIdeal.main_arg1) = m ((c.tc : Thread Cert.LossLnIdeal.nD Cert.LossLnIdeal.τ).loc Cert.LossLnIdeal.main_arg1)
      ∧ m' ((c.tc : Thread Cert.LossLnRefIdeal.nD Cert.LossLnRefIdeal.τ).loc Cert.LossLnRefIdeal.main_arg2) = m ((c.tc : Thread Cert.LossLnIdeal.nD Cert.LossLnIdeal.τ).loc Cert.LossLnIdeal.main_arg2)
      ∧ m' ((c.tc : Thread Cert.LossLnRefIdeal.nD Cert.LossLnRefIdeal.τ).loc Cert.LossLnRefIdeal.main_arg3) = m ((c.tc : Thread Cert.LossLnIdeal.nD Cert.LossLnIdeal.τ).loc Cert.LossLnIdeal.main_arg3)
      ∧ m' ((c.tc : Thread Cert.LossLnRefIdeal.nD Cert.LossLnRefIdeal.τ).loc Cert.LossLnRefIdeal.main_arg4) = m ((c.tc : Thread Cert.LossLnIdeal.nD Cert.LossLnIdeal.τ).loc Cert.LossLnIdeal.main_arg4)
      ∧ m' ((c.tc : Thread Cert.LossLnRefIdeal.nD Cert.LossLnRefIdeal.τ).loc Cert.LossLnRefIdeal.main_arg5) = m ((c.tc : Thread Cert.LossLnIdeal.nD Cert.LossLnIdeal.τ).loc Cert.LossLnIdeal.main_arg5)) →
    ∃ (v0 : (c : Dev Cert.LossLnIdeal.nD) → Buf (Elt Ideal) ((c.tc : Thread Cert.LossLnIdeal.nD Cert.LossLnIdeal.τ).loc Cert.LossLnIdeal.main_v36_0)) (v1 : (c : Dev Cert.LossLnIdeal.nD) → Buf (Elt Ideal) ((c.tc : Thread Cert.LossLnIdeal.nD Cert.LossLnIdeal.τ).loc Cert.LossLnIdeal.main_v36_1)) (v2 : (c : Dev Cert.LossLnIdeal.nD) → Buf (Elt Ideal) ((c.tc : Thread Cert.LossLnIdeal.nD Cert.LossLnIdeal.τ).loc Cert.LossLnIdeal.main_v36_2)),
      θ_run (Cert.LossLnIdeal.defs (F := Ideal)) (onTc (τ := Cert.LossLnIdeal.τ) (Cert.LossLnIdeal.main (F := Ideal))) ⟨m, fun _ => 0, g⟩ (fun r => ∀ c : Dev Cert.LossLnIdeal.nD,
          r.2.mem ((c.tc : Thread Cert.LossLnIdeal.nD Cert.LossLnIdeal.τ).loc Cert.LossLnIdeal.main_v36_0) = v0 c
          ∧ r.2.mem ((c.tc : Thread Cert.LossLnIdeal.nD Cert.LossLnIdeal.τ).loc Cert.LossLnIdeal.main_v36_1) = v1 c
          ∧ r.2.mem ((c.tc : Thread Cert.LossLnIdeal.nD Cert.LossLnIdeal.τ).loc Cert.LossLnIdeal.main_v36_2) = v2 c
          ∧ r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
          ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
          ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
          ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
          ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
          ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5))
      ∧ θ_run (Cert.LossLnRefIdeal.defs (F := Ideal)) (onTc (τ := Cert.LossLnRefIdeal.τ) (Cert.LossLnRefIdeal.main (F := Ideal))) ⟨m', fun _ => 0, g'⟩ (fun r => ∀ c : Dev Cert.LossLnRefIdeal.nD,
          r.2.mem ((c.tc : Thread Cert.LossLnRefIdeal.nD Cert.LossLnRefIdeal.τ).loc Cert.LossLnRefIdeal.main_v140) = v0 c
          ∧ r.2.mem ((c.tc : Thread Cert.LossLnRefIdeal.nD Cert.LossLnRefIdeal.τ).loc Cert.LossLnRefIdeal.main_v142) = v1 c
          ∧ r.2.mem ((c.tc : Thread Cert.LossLnRefIdeal.nD Cert.LossLnRefIdeal.τ).loc Cert.LossLnRefIdeal.main_v139) = v2 c
          ∧ r.2.mem ((c.tc : Thread Cert.LossLnRefIdeal.nD Cert.LossLnRefIdeal.τ).loc Cert.LossLnRefIdeal.main_arg0) = m' ((c.tc : Thread Cert.LossLnRefIdeal.nD Cert.LossLnRefIdeal.τ).loc Cert.LossLnRefIdeal.main_arg0)
          ∧ r.2.mem ((c.tc : Thread Cert.LossLnRefIdeal.nD Cert.LossLnRefIdeal.τ).loc Cert.LossLnRefIdeal.main_arg1) = m' ((c.tc : Thread Cert.LossLnRefIdeal.nD Cert.LossLnRefIdeal.τ).loc Cert.LossLnRefIdeal.main_arg1)
          ∧ r.2.mem ((c.tc : Thread Cert.LossLnRefIdeal.nD Cert.LossLnRefIdeal.τ).loc Cert.LossLnRefIdeal.main_arg2) = m' ((c.tc : Thread Cert.LossLnRefIdeal.nD Cert.LossLnRefIdeal.τ).loc Cert.LossLnRefIdeal.main_arg2)
          ∧ r.2.mem ((c.tc : Thread Cert.LossLnRefIdeal.nD Cert.LossLnRefIdeal.τ).loc Cert.LossLnRefIdeal.main_arg3) = m' ((c.tc : Thread Cert.LossLnRefIdeal.nD Cert.LossLnRefIdeal.τ).loc Cert.LossLnRefIdeal.main_arg3)
          ∧ r.2.mem ((c.tc : Thread Cert.LossLnRefIdeal.nD Cert.LossLnRefIdeal.τ).loc Cert.LossLnRefIdeal.main_arg4) = m' ((c.tc : Thread Cert.LossLnRefIdeal.nD Cert.LossLnRefIdeal.τ).loc Cert.LossLnRefIdeal.main_arg4)
          ∧ r.2.mem ((c.tc : Thread Cert.LossLnRefIdeal.nD Cert.LossLnRefIdeal.τ).loc Cert.LossLnRefIdeal.main_arg5) = m' ((c.tc : Thread Cert.LossLnRefIdeal.nD Cert.LossLnRefIdeal.τ).loc Cert.LossLnRefIdeal.main_arg5))

def preserves_UpFfn_UpFfnIdeal : Prop :=
  True

def algebraic_UpFfnIdeal_UpFfnRefIdeal_pre_up2_finite [hUpFfnIdeal : Cert.UpFfnIdeal.Facts] [hUpFfnRefIdeal : Cert.UpFfnRefIdeal.Facts] [hPre_up2_finite : Cert.Pre_up2_finite.Facts] : Prop :=
  ∀ (m : (ℓ : Loc Cert.UpFfnIdeal.nD Cert.UpFfnIdeal.τ Cert.UpFfnIdeal.sig) → Buf (Elt Ideal) ℓ) (g : Dev Cert.UpFfnIdeal.nD → PrngReg)
    (m' : (ℓ : Loc Cert.UpFfnRefIdeal.nD Cert.UpFfnRefIdeal.τ Cert.UpFfnRefIdeal.sig) → Buf (Elt Ideal) ℓ) (g' : Dev Cert.UpFfnRefIdeal.nD → PrngReg), Pre_UpFfnIdeal_up2_finite m →
    (∀ c : Dev Cert.UpFfnIdeal.nD,
      m' ((c.tc : Thread Cert.UpFfnRefIdeal.nD Cert.UpFfnRefIdeal.τ).loc Cert.UpFfnRefIdeal.main_arg0) = m ((c.tc : Thread Cert.UpFfnIdeal.nD Cert.UpFfnIdeal.τ).loc Cert.UpFfnIdeal.main_arg0)
      ∧ m' ((c.tc : Thread Cert.UpFfnRefIdeal.nD Cert.UpFfnRefIdeal.τ).loc Cert.UpFfnRefIdeal.main_arg1) = m ((c.tc : Thread Cert.UpFfnIdeal.nD Cert.UpFfnIdeal.τ).loc Cert.UpFfnIdeal.main_arg1)
      ∧ m' ((c.tc : Thread Cert.UpFfnRefIdeal.nD Cert.UpFfnRefIdeal.τ).loc Cert.UpFfnRefIdeal.main_arg2) = m ((c.tc : Thread Cert.UpFfnIdeal.nD Cert.UpFfnIdeal.τ).loc Cert.UpFfnIdeal.main_arg2)
      ∧ m' ((c.tc : Thread Cert.UpFfnRefIdeal.nD Cert.UpFfnRefIdeal.τ).loc Cert.UpFfnRefIdeal.main_arg3) = m ((c.tc : Thread Cert.UpFfnIdeal.nD Cert.UpFfnIdeal.τ).loc Cert.UpFfnIdeal.main_arg3)
      ∧ m' ((c.tc : Thread Cert.UpFfnRefIdeal.nD Cert.UpFfnRefIdeal.τ).loc Cert.UpFfnRefIdeal.main_arg4) = m ((c.tc : Thread Cert.UpFfnIdeal.nD Cert.UpFfnIdeal.τ).loc Cert.UpFfnIdeal.main_arg4)
      ∧ m' ((c.tc : Thread Cert.UpFfnRefIdeal.nD Cert.UpFfnRefIdeal.τ).loc Cert.UpFfnRefIdeal.main_arg5) = m ((c.tc : Thread Cert.UpFfnIdeal.nD Cert.UpFfnIdeal.τ).loc Cert.UpFfnIdeal.main_arg5)
      ∧ m' ((c.tc : Thread Cert.UpFfnRefIdeal.nD Cert.UpFfnRefIdeal.τ).loc Cert.UpFfnRefIdeal.main_arg6) = m ((c.tc : Thread Cert.UpFfnIdeal.nD Cert.UpFfnIdeal.τ).loc Cert.UpFfnIdeal.main_arg6)
      ∧ m' ((c.tc : Thread Cert.UpFfnRefIdeal.nD Cert.UpFfnRefIdeal.τ).loc Cert.UpFfnRefIdeal.main_arg7) = m ((c.tc : Thread Cert.UpFfnIdeal.nD Cert.UpFfnIdeal.τ).loc Cert.UpFfnIdeal.main_arg7)
      ∧ m' ((c.tc : Thread Cert.UpFfnRefIdeal.nD Cert.UpFfnRefIdeal.τ).loc Cert.UpFfnRefIdeal.main_arg8) = m ((c.tc : Thread Cert.UpFfnIdeal.nD Cert.UpFfnIdeal.τ).loc Cert.UpFfnIdeal.main_arg8)
      ∧ m' ((c.tc : Thread Cert.UpFfnRefIdeal.nD Cert.UpFfnRefIdeal.τ).loc Cert.UpFfnRefIdeal.main_arg9) = m ((c.tc : Thread Cert.UpFfnIdeal.nD Cert.UpFfnIdeal.τ).loc Cert.UpFfnIdeal.main_arg9)) →
    ∃ (v0 : (c : Dev Cert.UpFfnIdeal.nD) → Buf (Elt Ideal) ((c.tc : Thread Cert.UpFfnIdeal.nD Cert.UpFfnIdeal.τ).loc Cert.UpFfnIdeal.main_v42_0)) (v1 : (c : Dev Cert.UpFfnIdeal.nD) → Buf (Elt Ideal) ((c.tc : Thread Cert.UpFfnIdeal.nD Cert.UpFfnIdeal.τ).loc Cert.UpFfnIdeal.main_v42_1)) (v2 : (c : Dev Cert.UpFfnIdeal.nD) → Buf (Elt Ideal) ((c.tc : Thread Cert.UpFfnIdeal.nD Cert.UpFfnIdeal.τ).loc Cert.UpFfnIdeal.main_v42_2)),
      θ_run (Cert.UpFfnIdeal.defs (F := Ideal)) (onTc (τ := Cert.UpFfnIdeal.τ) (Cert.UpFfnIdeal.main (F := Ideal))) ⟨m, fun _ => 0, g⟩ (fun r => ∀ c : Dev Cert.UpFfnIdeal.nD,
          r.2.mem ((c.tc : Thread Cert.UpFfnIdeal.nD Cert.UpFfnIdeal.τ).loc Cert.UpFfnIdeal.main_v42_0) = v0 c
          ∧ r.2.mem ((c.tc : Thread Cert.UpFfnIdeal.nD Cert.UpFfnIdeal.τ).loc Cert.UpFfnIdeal.main_v42_1) = v1 c
          ∧ r.2.mem ((c.tc : Thread Cert.UpFfnIdeal.nD Cert.UpFfnIdeal.τ).loc Cert.UpFfnIdeal.main_v42_2) = v2 c
          ∧ r.2.mem ((c.tc : Thread Cert.UpFfnIdeal.nD Cert.UpFfnIdeal.τ).loc Cert.UpFfnIdeal.main_arg0) = m ((c.tc : Thread Cert.UpFfnIdeal.nD Cert.UpFfnIdeal.τ).loc Cert.UpFfnIdeal.main_arg0)
          ∧ r.2.mem ((c.tc : Thread Cert.UpFfnIdeal.nD Cert.UpFfnIdeal.τ).loc Cert.UpFfnIdeal.main_arg1) = m ((c.tc : Thread Cert.UpFfnIdeal.nD Cert.UpFfnIdeal.τ).loc Cert.UpFfnIdeal.main_arg1)
          ∧ r.2.mem ((c.tc : Thread Cert.UpFfnIdeal.nD Cert.UpFfnIdeal.τ).loc Cert.UpFfnIdeal.main_arg2) = m ((c.tc : Thread Cert.UpFfnIdeal.nD Cert.UpFfnIdeal.τ).loc Cert.UpFfnIdeal.main_arg2)
          ∧ r.2.mem ((c.tc : Thread Cert.UpFfnIdeal.nD Cert.UpFfnIdeal.τ).loc Cert.UpFfnIdeal.main_arg3) = m ((c.tc : Thread Cert.UpFfnIdeal.nD Cert.UpFfnIdeal.τ).loc Cert.UpFfnIdeal.main_arg3)
          ∧ r.2.mem ((c.tc : Thread Cert.UpFfnIdeal.nD Cert.UpFfnIdeal.τ).loc Cert.UpFfnIdeal.main_arg4) = m ((c.tc : Thread Cert.UpFfnIdeal.nD Cert.UpFfnIdeal.τ).loc Cert.UpFfnIdeal.main_arg4)
          ∧ r.2.mem ((c.tc : Thread Cert.UpFfnIdeal.nD Cert.UpFfnIdeal.τ).loc Cert.UpFfnIdeal.main_arg5) = m ((c.tc : Thread Cert.UpFfnIdeal.nD Cert.UpFfnIdeal.τ).loc Cert.UpFfnIdeal.main_arg5)
          ∧ r.2.mem ((c.tc : Thread Cert.UpFfnIdeal.nD Cert.UpFfnIdeal.τ).loc Cert.UpFfnIdeal.main_arg6) = m ((c.tc : Thread Cert.UpFfnIdeal.nD Cert.UpFfnIdeal.τ).loc Cert.UpFfnIdeal.main_arg6)
          ∧ r.2.mem ((c.tc : Thread Cert.UpFfnIdeal.nD Cert.UpFfnIdeal.τ).loc Cert.UpFfnIdeal.main_arg7) = m ((c.tc : Thread Cert.UpFfnIdeal.nD Cert.UpFfnIdeal.τ).loc Cert.UpFfnIdeal.main_arg7)
          ∧ r.2.mem ((c.tc : Thread Cert.UpFfnIdeal.nD Cert.UpFfnIdeal.τ).loc Cert.UpFfnIdeal.main_arg8) = m ((c.tc : Thread Cert.UpFfnIdeal.nD Cert.UpFfnIdeal.τ).loc Cert.UpFfnIdeal.main_arg8)
          ∧ r.2.mem ((c.tc : Thread Cert.UpFfnIdeal.nD Cert.UpFfnIdeal.τ).loc Cert.UpFfnIdeal.main_arg9) = m ((c.tc : Thread Cert.UpFfnIdeal.nD Cert.UpFfnIdeal.τ).loc Cert.UpFfnIdeal.main_arg9))
      ∧ θ_run (Cert.UpFfnRefIdeal.defs (F := Ideal)) (onTc (τ := Cert.UpFfnRefIdeal.τ) (Cert.UpFfnRefIdeal.main (F := Ideal))) ⟨m', fun _ => 0, g'⟩ (fun r => ∀ c : Dev Cert.UpFfnRefIdeal.nD,
          r.2.mem ((c.tc : Thread Cert.UpFfnRefIdeal.nD Cert.UpFfnRefIdeal.τ).loc Cert.UpFfnRefIdeal.main_v106) = v0 c
          ∧ r.2.mem ((c.tc : Thread Cert.UpFfnRefIdeal.nD Cert.UpFfnRefIdeal.τ).loc Cert.UpFfnRefIdeal.main_v108) = v1 c
          ∧ r.2.mem ((c.tc : Thread Cert.UpFfnRefIdeal.nD Cert.UpFfnRefIdeal.τ).loc Cert.UpFfnRefIdeal.main_v105) = v2 c
          ∧ r.2.mem ((c.tc : Thread Cert.UpFfnRefIdeal.nD Cert.UpFfnRefIdeal.τ).loc Cert.UpFfnRefIdeal.main_arg0) = m' ((c.tc : Thread Cert.UpFfnRefIdeal.nD Cert.UpFfnRefIdeal.τ).loc Cert.UpFfnRefIdeal.main_arg0)
          ∧ r.2.mem ((c.tc : Thread Cert.UpFfnRefIdeal.nD Cert.UpFfnRefIdeal.τ).loc Cert.UpFfnRefIdeal.main_arg1) = m' ((c.tc : Thread Cert.UpFfnRefIdeal.nD Cert.UpFfnRefIdeal.τ).loc Cert.UpFfnRefIdeal.main_arg1)
          ∧ r.2.mem ((c.tc : Thread Cert.UpFfnRefIdeal.nD Cert.UpFfnRefIdeal.τ).loc Cert.UpFfnRefIdeal.main_arg2) = m' ((c.tc : Thread Cert.UpFfnRefIdeal.nD Cert.UpFfnRefIdeal.τ).loc Cert.UpFfnRefIdeal.main_arg2)
          ∧ r.2.mem ((c.tc : Thread Cert.UpFfnRefIdeal.nD Cert.UpFfnRefIdeal.τ).loc Cert.UpFfnRefIdeal.main_arg3) = m' ((c.tc : Thread Cert.UpFfnRefIdeal.nD Cert.UpFfnRefIdeal.τ).loc Cert.UpFfnRefIdeal.main_arg3)
          ∧ r.2.mem ((c.tc : Thread Cert.UpFfnRefIdeal.nD Cert.UpFfnRefIdeal.τ).loc Cert.UpFfnRefIdeal.main_arg4) = m' ((c.tc : Thread Cert.UpFfnRefIdeal.nD Cert.UpFfnRefIdeal.τ).loc Cert.UpFfnRefIdeal.main_arg4)
          ∧ r.2.mem ((c.tc : Thread Cert.UpFfnRefIdeal.nD Cert.UpFfnRefIdeal.τ).loc Cert.UpFfnRefIdeal.main_arg5) = m' ((c.tc : Thread Cert.UpFfnRefIdeal.nD Cert.UpFfnRefIdeal.τ).loc Cert.UpFfnRefIdeal.main_arg5)
          ∧ r.2.mem ((c.tc : Thread Cert.UpFfnRefIdeal.nD Cert.UpFfnRefIdeal.τ).loc Cert.UpFfnRefIdeal.main_arg6) = m' ((c.tc : Thread Cert.UpFfnRefIdeal.nD Cert.UpFfnRefIdeal.τ).loc Cert.UpFfnRefIdeal.main_arg6)
          ∧ r.2.mem ((c.tc : Thread Cert.UpFfnRefIdeal.nD Cert.UpFfnRefIdeal.τ).loc Cert.UpFfnRefIdeal.main_arg7) = m' ((c.tc : Thread Cert.UpFfnRefIdeal.nD Cert.UpFfnRefIdeal.τ).loc Cert.UpFfnRefIdeal.main_arg7)
          ∧ r.2.mem ((c.tc : Thread Cert.UpFfnRefIdeal.nD Cert.UpFfnRefIdeal.τ).loc Cert.UpFfnRefIdeal.main_arg8) = m' ((c.tc : Thread Cert.UpFfnRefIdeal.nD Cert.UpFfnRefIdeal.τ).loc Cert.UpFfnRefIdeal.main_arg8)
          ∧ r.2.mem ((c.tc : Thread Cert.UpFfnRefIdeal.nD Cert.UpFfnRefIdeal.τ).loc Cert.UpFfnRefIdeal.main_arg9) = m' ((c.tc : Thread Cert.UpFfnRefIdeal.nD Cert.UpFfnRefIdeal.τ).loc Cert.UpFfnRefIdeal.main_arg9))

def preserves_GmlpIn_GmlpInIdeal : Prop :=
  True

def algebraic_GmlpInIdeal_GmlpInRefIdeal_pre_gmlp_finite [hGmlpInIdeal : Cert.GmlpInIdeal.Facts] [hGmlpInRefIdeal : Cert.GmlpInRefIdeal.Facts] [hPre_gmlp_finite : Cert.Pre_gmlp_finite.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInRefIdeal.nD Cert.GmlpInRefIdeal.τ Cert.GmlpInRefIdeal.sig) → Buf (Elt Ideal) ℓ) (g' : Dev Cert.GmlpInRefIdeal.nD → PrngReg), Pre_GmlpInIdeal_gmlp_finite m →
    (∀ c : Dev Cert.GmlpInIdeal.nD,
      m' ((c.tc : Thread Cert.GmlpInRefIdeal.nD Cert.GmlpInRefIdeal.τ).loc Cert.GmlpInRefIdeal.main_arg0) = m ((c.tc : Thread Cert.GmlpInIdeal.nD Cert.GmlpInIdeal.τ).loc Cert.GmlpInIdeal.main_arg0)
      ∧ m' ((c.tc : Thread Cert.GmlpInRefIdeal.nD Cert.GmlpInRefIdeal.τ).loc Cert.GmlpInRefIdeal.main_arg1) = m ((c.tc : Thread Cert.GmlpInIdeal.nD Cert.GmlpInIdeal.τ).loc Cert.GmlpInIdeal.main_arg1)
      ∧ m' ((c.tc : Thread Cert.GmlpInRefIdeal.nD Cert.GmlpInRefIdeal.τ).loc Cert.GmlpInRefIdeal.main_arg2) = m ((c.tc : Thread Cert.GmlpInIdeal.nD Cert.GmlpInIdeal.τ).loc Cert.GmlpInIdeal.main_arg2)
      ∧ m' ((c.tc : Thread Cert.GmlpInRefIdeal.nD Cert.GmlpInRefIdeal.τ).loc Cert.GmlpInRefIdeal.main_arg3) = m ((c.tc : Thread Cert.GmlpInIdeal.nD Cert.GmlpInIdeal.τ).loc Cert.GmlpInIdeal.main_arg3)
      ∧ m' ((c.tc : Thread Cert.GmlpInRefIdeal.nD Cert.GmlpInRefIdeal.τ).loc Cert.GmlpInRefIdeal.main_arg4) = m ((c.tc : Thread Cert.GmlpInIdeal.nD Cert.GmlpInIdeal.τ).loc Cert.GmlpInIdeal.main_arg4)
      ∧ m' ((c.tc : Thread Cert.GmlpInRefIdeal.nD Cert.GmlpInRefIdeal.τ).loc Cert.GmlpInRefIdeal.main_arg5) = m ((c.tc : Thread Cert.GmlpInIdeal.nD Cert.GmlpInIdeal.τ).loc Cert.GmlpInIdeal.main_arg5)
      ∧ m' ((c.tc : Thread Cert.GmlpInRefIdeal.nD Cert.GmlpInRefIdeal.τ).loc Cert.GmlpInRefIdeal.main_arg6) = m ((c.tc : Thread Cert.GmlpInIdeal.nD Cert.GmlpInIdeal.τ).loc Cert.GmlpInIdeal.main_arg6)
      ∧ m' ((c.tc : Thread Cert.GmlpInRefIdeal.nD Cert.GmlpInRefIdeal.τ).loc Cert.GmlpInRefIdeal.main_arg7) = m ((c.tc : Thread Cert.GmlpInIdeal.nD Cert.GmlpInIdeal.τ).loc Cert.GmlpInIdeal.main_arg7)
      ∧ m' ((c.tc : Thread Cert.GmlpInRefIdeal.nD Cert.GmlpInRefIdeal.τ).loc Cert.GmlpInRefIdeal.main_arg8) = m ((c.tc : Thread Cert.GmlpInIdeal.nD Cert.GmlpInIdeal.τ).loc Cert.GmlpInIdeal.main_arg8)
      ∧ m' ((c.tc : Thread Cert.GmlpInRefIdeal.nD Cert.GmlpInRefIdeal.τ).loc Cert.GmlpInRefIdeal.main_arg9) = m ((c.tc : Thread Cert.GmlpInIdeal.nD Cert.GmlpInIdeal.τ).loc Cert.GmlpInIdeal.main_arg9)) →
    ∃ (v0 : (c : Dev Cert.GmlpInIdeal.nD) → Buf (Elt Ideal) ((c.tc : Thread Cert.GmlpInIdeal.nD Cert.GmlpInIdeal.τ).loc Cert.GmlpInIdeal.main_v42_0)) (v1 : (c : Dev Cert.GmlpInIdeal.nD) → Buf (Elt Ideal) ((c.tc : Thread Cert.GmlpInIdeal.nD Cert.GmlpInIdeal.τ).loc Cert.GmlpInIdeal.main_v42_1)) (v2 : (c : Dev Cert.GmlpInIdeal.nD) → Buf (Elt Ideal) ((c.tc : Thread Cert.GmlpInIdeal.nD Cert.GmlpInIdeal.τ).loc Cert.GmlpInIdeal.main_v42_2)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v42_0) = v0 c
          ∧ r.2.mem ((c.tc : Thread Cert.GmlpInIdeal.nD Cert.GmlpInIdeal.τ).loc Cert.GmlpInIdeal.main_v42_1) = v1 c
          ∧ r.2.mem ((c.tc : Thread Cert.GmlpInIdeal.nD Cert.GmlpInIdeal.τ).loc Cert.GmlpInIdeal.main_v42_2) = v2 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
          ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2)
          ∧ r.2.mem ((c.tc : Thread Cert.GmlpInIdeal.nD Cert.GmlpInIdeal.τ).loc Cert.GmlpInIdeal.main_arg3) = m ((c.tc : Thread Cert.GmlpInIdeal.nD Cert.GmlpInIdeal.τ).loc Cert.GmlpInIdeal.main_arg3)
          ∧ r.2.mem ((c.tc : Thread Cert.GmlpInIdeal.nD Cert.GmlpInIdeal.τ).loc Cert.GmlpInIdeal.main_arg4) = m ((c.tc : Thread Cert.GmlpInIdeal.nD Cert.GmlpInIdeal.τ).loc Cert.GmlpInIdeal.main_arg4)
          ∧ r.2.mem ((c.tc : Thread Cert.GmlpInIdeal.nD Cert.GmlpInIdeal.τ).loc Cert.GmlpInIdeal.main_arg5) = m ((c.tc : Thread Cert.GmlpInIdeal.nD Cert.GmlpInIdeal.τ).loc Cert.GmlpInIdeal.main_arg5)
          ∧ r.2.mem ((c.tc : Thread Cert.GmlpInIdeal.nD Cert.GmlpInIdeal.τ).loc Cert.GmlpInIdeal.main_arg6) = m ((c.tc : Thread Cert.GmlpInIdeal.nD Cert.GmlpInIdeal.τ).loc Cert.GmlpInIdeal.main_arg6)
          ∧ r.2.mem ((c.tc : Thread Cert.GmlpInIdeal.nD Cert.GmlpInIdeal.τ).loc Cert.GmlpInIdeal.main_arg7) = m ((c.tc : Thread Cert.GmlpInIdeal.nD Cert.GmlpInIdeal.τ).loc Cert.GmlpInIdeal.main_arg7)
          ∧ r.2.mem ((c.tc : Thread Cert.GmlpInIdeal.nD Cert.GmlpInIdeal.τ).loc Cert.GmlpInIdeal.main_arg8) = m ((c.tc : Thread Cert.GmlpInIdeal.nD Cert.GmlpInIdeal.τ).loc Cert.GmlpInIdeal.main_arg8)
          ∧ r.2.mem ((c.tc : Thread Cert.GmlpInIdeal.nD Cert.GmlpInIdeal.τ).loc Cert.GmlpInIdeal.main_arg9) = m ((c.tc : Thread Cert.GmlpInIdeal.nD Cert.GmlpInIdeal.τ).loc Cert.GmlpInIdeal.main_arg9))
      ∧ θ_run (Cert.GmlpInRefIdeal.defs (F := Ideal)) (onTc (τ := Cert.GmlpInRefIdeal.τ) (Cert.GmlpInRefIdeal.main (F := Ideal))) ⟨m', fun _ => 0, g'⟩ (fun r => ∀ c : Dev Cert.GmlpInRefIdeal.nD,
          r.2.mem ((c.tc : Thread Cert.GmlpInRefIdeal.nD Cert.GmlpInRefIdeal.τ).loc Cert.GmlpInRefIdeal.main_v106) = v0 c
          ∧ r.2.mem ((c.tc : Thread Cert.GmlpInRefIdeal.nD Cert.GmlpInRefIdeal.τ).loc Cert.GmlpInRefIdeal.main_v108) = v1 c
          ∧ r.2.mem ((c.tc : Thread Cert.GmlpInRefIdeal.nD Cert.GmlpInRefIdeal.τ).loc Cert.GmlpInRefIdeal.main_v105) = v2 c
          ∧ r.2.mem ((c.tc : Thread Cert.GmlpInRefIdeal.nD Cert.GmlpInRefIdeal.τ).loc Cert.GmlpInRefIdeal.main_arg0) = m' ((c.tc : Thread Cert.GmlpInRefIdeal.nD Cert.GmlpInRefIdeal.τ).loc Cert.GmlpInRefIdeal.main_arg0)
          ∧ r.2.mem ((c.tc : Thread Cert.GmlpInRefIdeal.nD Cert.GmlpInRefIdeal.τ).loc Cert.GmlpInRefIdeal.main_arg1) = m' ((c.tc : Thread Cert.GmlpInRefIdeal.nD Cert.GmlpInRefIdeal.τ).loc Cert.GmlpInRefIdeal.main_arg1)
          ∧ r.2.mem ((c.tc : Thread Cert.GmlpInRefIdeal.nD Cert.GmlpInRefIdeal.τ).loc Cert.GmlpInRefIdeal.main_arg2) = m' ((c.tc : Thread Cert.GmlpInRefIdeal.nD Cert.GmlpInRefIdeal.τ).loc Cert.GmlpInRefIdeal.main_arg2)
          ∧ r.2.mem ((c.tc : Thread Cert.GmlpInRefIdeal.nD Cert.GmlpInRefIdeal.τ).loc Cert.GmlpInRefIdeal.main_arg3) = m' ((c.tc : Thread Cert.GmlpInRefIdeal.nD Cert.GmlpInRefIdeal.τ).loc Cert.GmlpInRefIdeal.main_arg3)
          ∧ r.2.mem ((c.tc : Thread Cert.GmlpInRefIdeal.nD Cert.GmlpInRefIdeal.τ).loc Cert.GmlpInRefIdeal.main_arg4) = m' ((c.tc : Thread Cert.GmlpInRefIdeal.nD Cert.GmlpInRefIdeal.τ).loc Cert.GmlpInRefIdeal.main_arg4)
          ∧ r.2.mem ((c.tc : Thread Cert.GmlpInRefIdeal.nD Cert.GmlpInRefIdeal.τ).loc Cert.GmlpInRefIdeal.main_arg5) = m' ((c.tc : Thread Cert.GmlpInRefIdeal.nD Cert.GmlpInRefIdeal.τ).loc Cert.GmlpInRefIdeal.main_arg5)
          ∧ r.2.mem ((c.tc : Thread Cert.GmlpInRefIdeal.nD Cert.GmlpInRefIdeal.τ).loc Cert.GmlpInRefIdeal.main_arg6) = m' ((c.tc : Thread Cert.GmlpInRefIdeal.nD Cert.GmlpInRefIdeal.τ).loc Cert.GmlpInRefIdeal.main_arg6)
          ∧ r.2.mem ((c.tc : Thread Cert.GmlpInRefIdeal.nD Cert.GmlpInRefIdeal.τ).loc Cert.GmlpInRefIdeal.main_arg7) = m' ((c.tc : Thread Cert.GmlpInRefIdeal.nD Cert.GmlpInRefIdeal.τ).loc Cert.GmlpInRefIdeal.main_arg7)
          ∧ r.2.mem ((c.tc : Thread Cert.GmlpInRefIdeal.nD Cert.GmlpInRefIdeal.τ).loc Cert.GmlpInRefIdeal.main_arg8) = m' ((c.tc : Thread Cert.GmlpInRefIdeal.nD Cert.GmlpInRefIdeal.τ).loc Cert.GmlpInRefIdeal.main_arg8)
          ∧ r.2.mem ((c.tc : Thread Cert.GmlpInRefIdeal.nD Cert.GmlpInRefIdeal.τ).loc Cert.GmlpInRefIdeal.main_arg9) = m' ((c.tc : Thread Cert.GmlpInRefIdeal.nD Cert.GmlpInRefIdeal.τ).loc Cert.GmlpInRefIdeal.main_arg9))

def preserves_AttnQ_AttnQIdeal : Prop :=
  True

def algebraic_AttnQIdeal_AttnQRefIdeal_pre_attnq_finite [hAttnQIdeal : Cert.AttnQIdeal.Facts] [hAttnQRefIdeal : Cert.AttnQRefIdeal.Facts] [hPre_attnq_finite : Cert.Pre_attnq_finite.Facts] : Prop :=
  ∀ (m : (ℓ : Loc Cert.AttnQIdeal.nD Cert.AttnQIdeal.τ Cert.AttnQIdeal.sig) → Buf (Elt Ideal) ℓ) (g : Dev Cert.AttnQIdeal.nD → PrngReg)
    (m' : (ℓ : Loc Cert.AttnQRefIdeal.nD Cert.AttnQRefIdeal.τ Cert.AttnQRefIdeal.sig) → Buf (Elt Ideal) ℓ) (g' : Dev Cert.AttnQRefIdeal.nD → PrngReg), Pre_AttnQIdeal_attnq_finite m →
    (∀ c : Dev Cert.AttnQIdeal.nD,
      m' ((c.tc : Thread Cert.AttnQRefIdeal.nD Cert.AttnQRefIdeal.τ).loc Cert.AttnQRefIdeal.main_arg0) = m ((c.tc : Thread Cert.AttnQIdeal.nD Cert.AttnQIdeal.τ).loc Cert.AttnQIdeal.main_arg0)
      ∧ m' ((c.tc : Thread Cert.AttnQRefIdeal.nD Cert.AttnQRefIdeal.τ).loc Cert.AttnQRefIdeal.main_arg1) = m ((c.tc : Thread Cert.AttnQIdeal.nD Cert.AttnQIdeal.τ).loc Cert.AttnQIdeal.main_arg1)
      ∧ m' ((c.tc : Thread Cert.AttnQRefIdeal.nD Cert.AttnQRefIdeal.τ).loc Cert.AttnQRefIdeal.main_arg2) = m ((c.tc : Thread Cert.AttnQIdeal.nD Cert.AttnQIdeal.τ).loc Cert.AttnQIdeal.main_arg2)
      ∧ m' ((c.tc : Thread Cert.AttnQRefIdeal.nD Cert.AttnQRefIdeal.τ).loc Cert.AttnQRefIdeal.main_arg3) = m ((c.tc : Thread Cert.AttnQIdeal.nD Cert.AttnQIdeal.τ).loc Cert.AttnQIdeal.main_arg3)
      ∧ m' ((c.tc : Thread Cert.AttnQRefIdeal.nD Cert.AttnQRefIdeal.τ).loc Cert.AttnQRefIdeal.main_arg4) = m ((c.tc : Thread Cert.AttnQIdeal.nD Cert.AttnQIdeal.τ).loc Cert.AttnQIdeal.main_arg4)
      ∧ m' ((c.tc : Thread Cert.AttnQRefIdeal.nD Cert.AttnQRefIdeal.τ).loc Cert.AttnQRefIdeal.main_arg5) = m ((c.tc : Thread Cert.AttnQIdeal.nD Cert.AttnQIdeal.τ).loc Cert.AttnQIdeal.main_arg5)
      ∧ m' ((c.tc : Thread Cert.AttnQRefIdeal.nD Cert.AttnQRefIdeal.τ).loc Cert.AttnQRefIdeal.main_arg6) = m ((c.tc : Thread Cert.AttnQIdeal.nD Cert.AttnQIdeal.τ).loc Cert.AttnQIdeal.main_arg6)
      ∧ m' ((c.tc : Thread Cert.AttnQRefIdeal.nD Cert.AttnQRefIdeal.τ).loc Cert.AttnQRefIdeal.main_arg7) = m ((c.tc : Thread Cert.AttnQIdeal.nD Cert.AttnQIdeal.τ).loc Cert.AttnQIdeal.main_arg7)
      ∧ m' ((c.tc : Thread Cert.AttnQRefIdeal.nD Cert.AttnQRefIdeal.τ).loc Cert.AttnQRefIdeal.main_arg8) = m ((c.tc : Thread Cert.AttnQIdeal.nD Cert.AttnQIdeal.τ).loc Cert.AttnQIdeal.main_arg8)
      ∧ m' ((c.tc : Thread Cert.AttnQRefIdeal.nD Cert.AttnQRefIdeal.τ).loc Cert.AttnQRefIdeal.main_arg9) = m ((c.tc : Thread Cert.AttnQIdeal.nD Cert.AttnQIdeal.τ).loc Cert.AttnQIdeal.main_arg9)) →
    ∃ (v0 : (c : Dev Cert.AttnQIdeal.nD) → Buf (Elt Ideal) ((c.tc : Thread Cert.AttnQIdeal.nD Cert.AttnQIdeal.τ).loc Cert.AttnQIdeal.main_v41_0)) (v1 : (c : Dev Cert.AttnQIdeal.nD) → Buf (Elt Ideal) ((c.tc : Thread Cert.AttnQIdeal.nD Cert.AttnQIdeal.τ).loc Cert.AttnQIdeal.main_v41_1)) (v2 : (c : Dev Cert.AttnQIdeal.nD) → Buf (Elt Ideal) ((c.tc : Thread Cert.AttnQIdeal.nD Cert.AttnQIdeal.τ).loc Cert.AttnQIdeal.main_v41_2)),
      θ_run (Cert.AttnQIdeal.defs (F := Ideal)) (onTc (τ := Cert.AttnQIdeal.τ) (Cert.AttnQIdeal.main (F := Ideal))) ⟨m, fun _ => 0, g⟩ (fun r => ∀ c : Dev Cert.AttnQIdeal.nD,
          r.2.mem ((c.tc : Thread Cert.AttnQIdeal.nD Cert.AttnQIdeal.τ).loc Cert.AttnQIdeal.main_v41_0) = v0 c
          ∧ r.2.mem ((c.tc : Thread Cert.AttnQIdeal.nD Cert.AttnQIdeal.τ).loc Cert.AttnQIdeal.main_v41_1) = v1 c
          ∧ r.2.mem ((c.tc : Thread Cert.AttnQIdeal.nD Cert.AttnQIdeal.τ).loc Cert.AttnQIdeal.main_v41_2) = v2 c
          ∧ r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
          ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1)
          ∧ r.2.mem ((c.tc : Thread Cert.AttnQIdeal.nD Cert.AttnQIdeal.τ).loc Cert.AttnQIdeal.main_arg2) = m ((c.tc : Thread Cert.AttnQIdeal.nD Cert.AttnQIdeal.τ).loc Cert.AttnQIdeal.main_arg2)
          ∧ r.2.mem ((c.tc : Thread Cert.AttnQIdeal.nD Cert.AttnQIdeal.τ).loc Cert.AttnQIdeal.main_arg3) = m ((c.tc : Thread Cert.AttnQIdeal.nD Cert.AttnQIdeal.τ).loc Cert.AttnQIdeal.main_arg3)
          ∧ r.2.mem ((c.tc : Thread Cert.AttnQIdeal.nD Cert.AttnQIdeal.τ).loc Cert.AttnQIdeal.main_arg4) = m ((c.tc : Thread Cert.AttnQIdeal.nD Cert.AttnQIdeal.τ).loc Cert.AttnQIdeal.main_arg4)
          ∧ r.2.mem ((c.tc : Thread Cert.AttnQIdeal.nD Cert.AttnQIdeal.τ).loc Cert.AttnQIdeal.main_arg5) = m ((c.tc : Thread Cert.AttnQIdeal.nD Cert.AttnQIdeal.τ).loc Cert.AttnQIdeal.main_arg5)
          ∧ r.2.mem ((c.tc : Thread Cert.AttnQIdeal.nD Cert.AttnQIdeal.τ).loc Cert.AttnQIdeal.main_arg6) = m ((c.tc : Thread Cert.AttnQIdeal.nD Cert.AttnQIdeal.τ).loc Cert.AttnQIdeal.main_arg6)
          ∧ r.2.mem ((c.tc : Thread Cert.AttnQIdeal.nD Cert.AttnQIdeal.τ).loc Cert.AttnQIdeal.main_arg7) = m ((c.tc : Thread Cert.AttnQIdeal.nD Cert.AttnQIdeal.τ).loc Cert.AttnQIdeal.main_arg7)
          ∧ r.2.mem ((c.tc : Thread Cert.AttnQIdeal.nD Cert.AttnQIdeal.τ).loc Cert.AttnQIdeal.main_arg8) = m ((c.tc : Thread Cert.AttnQIdeal.nD Cert.AttnQIdeal.τ).loc Cert.AttnQIdeal.main_arg8)
          ∧ r.2.mem ((c.tc : Thread Cert.AttnQIdeal.nD Cert.AttnQIdeal.τ).loc Cert.AttnQIdeal.main_arg9) = m ((c.tc : Thread Cert.AttnQIdeal.nD Cert.AttnQIdeal.τ).loc Cert.AttnQIdeal.main_arg9))
      ∧ θ_run (Cert.AttnQRefIdeal.defs (F := Ideal)) (onTc (τ := Cert.AttnQRefIdeal.τ) (Cert.AttnQRefIdeal.main (F := Ideal))) ⟨m', fun _ => 0, g'⟩ (fun r => ∀ c : Dev Cert.AttnQRefIdeal.nD,
          r.2.mem ((c.tc : Thread Cert.AttnQRefIdeal.nD Cert.AttnQRefIdeal.τ).loc Cert.AttnQRefIdeal.main_v106) = v0 c
          ∧ r.2.mem ((c.tc : Thread Cert.AttnQRefIdeal.nD Cert.AttnQRefIdeal.τ).loc Cert.AttnQRefIdeal.main_v108) = v1 c
          ∧ r.2.mem ((c.tc : Thread Cert.AttnQRefIdeal.nD Cert.AttnQRefIdeal.τ).loc Cert.AttnQRefIdeal.main_v105) = v2 c
          ∧ r.2.mem ((c.tc : Thread Cert.AttnQRefIdeal.nD Cert.AttnQRefIdeal.τ).loc Cert.AttnQRefIdeal.main_arg0) = m' ((c.tc : Thread Cert.AttnQRefIdeal.nD Cert.AttnQRefIdeal.τ).loc Cert.AttnQRefIdeal.main_arg0)
          ∧ r.2.mem ((c.tc : Thread Cert.AttnQRefIdeal.nD Cert.AttnQRefIdeal.τ).loc Cert.AttnQRefIdeal.main_arg1) = m' ((c.tc : Thread Cert.AttnQRefIdeal.nD Cert.AttnQRefIdeal.τ).loc Cert.AttnQRefIdeal.main_arg1)
          ∧ r.2.mem ((c.tc : Thread Cert.AttnQRefIdeal.nD Cert.AttnQRefIdeal.τ).loc Cert.AttnQRefIdeal.main_arg2) = m' ((c.tc : Thread Cert.AttnQRefIdeal.nD Cert.AttnQRefIdeal.τ).loc Cert.AttnQRefIdeal.main_arg2)
          ∧ r.2.mem ((c.tc : Thread Cert.AttnQRefIdeal.nD Cert.AttnQRefIdeal.τ).loc Cert.AttnQRefIdeal.main_arg3) = m' ((c.tc : Thread Cert.AttnQRefIdeal.nD Cert.AttnQRefIdeal.τ).loc Cert.AttnQRefIdeal.main_arg3)
          ∧ r.2.mem ((c.tc : Thread Cert.AttnQRefIdeal.nD Cert.AttnQRefIdeal.τ).loc Cert.AttnQRefIdeal.main_arg4) = m' ((c.tc : Thread Cert.AttnQRefIdeal.nD Cert.AttnQRefIdeal.τ).loc Cert.AttnQRefIdeal.main_arg4)
          ∧ r.2.mem ((c.tc : Thread Cert.AttnQRefIdeal.nD Cert.AttnQRefIdeal.τ).loc Cert.AttnQRefIdeal.main_arg5) = m' ((c.tc : Thread Cert.AttnQRefIdeal.nD Cert.AttnQRefIdeal.τ).loc Cert.AttnQRefIdeal.main_arg5)
          ∧ r.2.mem ((c.tc : Thread Cert.AttnQRefIdeal.nD Cert.AttnQRefIdeal.τ).loc Cert.AttnQRefIdeal.main_arg6) = m' ((c.tc : Thread Cert.AttnQRefIdeal.nD Cert.AttnQRefIdeal.τ).loc Cert.AttnQRefIdeal.main_arg6)
          ∧ r.2.mem ((c.tc : Thread Cert.AttnQRefIdeal.nD Cert.AttnQRefIdeal.τ).loc Cert.AttnQRefIdeal.main_arg7) = m' ((c.tc : Thread Cert.AttnQRefIdeal.nD Cert.AttnQRefIdeal.τ).loc Cert.AttnQRefIdeal.main_arg7)
          ∧ r.2.mem ((c.tc : Thread Cert.AttnQRefIdeal.nD Cert.AttnQRefIdeal.τ).loc Cert.AttnQRefIdeal.main_arg8) = m' ((c.tc : Thread Cert.AttnQRefIdeal.nD Cert.AttnQRefIdeal.τ).loc Cert.AttnQRefIdeal.main_arg8)
          ∧ r.2.mem ((c.tc : Thread Cert.AttnQRefIdeal.nD Cert.AttnQRefIdeal.τ).loc Cert.AttnQRefIdeal.main_arg9) = m' ((c.tc : Thread Cert.AttnQRefIdeal.nD Cert.AttnQRefIdeal.τ).loc Cert.AttnQRefIdeal.main_arg9))

def preserves_Kv_KvIdeal : Prop :=
  True

def algebraic_KvIdeal_KvRefIdeal_pre_kv_finite [hKvIdeal : Cert.KvIdeal.Facts] [hKvRefIdeal : Cert.KvRefIdeal.Facts] [hPre_kv_finite : Cert.Pre_kv_finite.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal_kv_finite m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)
      ∧ m' ((c.tc : Thread Cert.KvRefIdeal.nD Cert.KvRefIdeal.τ).loc Cert.KvRefIdeal.main_arg6) = m ((c.tc : Thread Cert.KvIdeal.nD Cert.KvIdeal.τ).loc Cert.KvIdeal.main_arg6)
      ∧ m' ((c.tc : Thread Cert.KvRefIdeal.nD Cert.KvRefIdeal.τ).loc Cert.KvRefIdeal.main_arg7) = m ((c.tc : Thread Cert.KvIdeal.nD Cert.KvIdeal.τ).loc Cert.KvIdeal.main_arg7)
      ∧ m' ((c.tc : Thread Cert.KvRefIdeal.nD Cert.KvRefIdeal.τ).loc Cert.KvRefIdeal.main_arg8) = m ((c.tc : Thread Cert.KvIdeal.nD Cert.KvIdeal.τ).loc Cert.KvIdeal.main_arg8)
      ∧ m' ((c.tc : Thread Cert.KvRefIdeal.nD Cert.KvRefIdeal.τ).loc Cert.KvRefIdeal.main_arg9) = m ((c.tc : Thread Cert.KvIdeal.nD Cert.KvIdeal.τ).loc Cert.KvIdeal.main_arg9)) →
    ∃ (v0 : (c : Dev Cert.KvIdeal.nD) → Buf (Elt Ideal) ((c.tc : Thread Cert.KvIdeal.nD Cert.KvIdeal.τ).loc Cert.KvIdeal.main_v41_0)) (v1 : (c : Dev Cert.KvIdeal.nD) → Buf (Elt Ideal) ((c.tc : Thread Cert.KvIdeal.nD Cert.KvIdeal.τ).loc Cert.KvIdeal.main_v41_1)) (v2 : (c : Dev Cert.KvIdeal.nD) → Buf (Elt Ideal) ((c.tc : Thread Cert.KvIdeal.nD Cert.KvIdeal.τ).loc Cert.KvIdeal.main_v41_2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v41_0) = v0 c
          ∧ r.2.mem ((c.tc : Thread Cert.KvIdeal.nD Cert.KvIdeal.τ).loc Cert.KvIdeal.main_v41_1) = v1 c
          ∧ r.2.mem ((c.tc : Thread Cert.KvIdeal.nD Cert.KvIdeal.τ).loc Cert.KvIdeal.main_v41_2) = v2 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
          ∧ r.2.mem ((c.tc : Thread Cert.KvIdeal.nD Cert.KvIdeal.τ).loc Cert.KvIdeal.main_arg6) = m ((c.tc : Thread Cert.KvIdeal.nD Cert.KvIdeal.τ).loc Cert.KvIdeal.main_arg6)
          ∧ r.2.mem ((c.tc : Thread Cert.KvIdeal.nD Cert.KvIdeal.τ).loc Cert.KvIdeal.main_arg7) = m ((c.tc : Thread Cert.KvIdeal.nD Cert.KvIdeal.τ).loc Cert.KvIdeal.main_arg7)
          ∧ r.2.mem ((c.tc : Thread Cert.KvIdeal.nD Cert.KvIdeal.τ).loc Cert.KvIdeal.main_arg8) = m ((c.tc : Thread Cert.KvIdeal.nD Cert.KvIdeal.τ).loc Cert.KvIdeal.main_arg8)
          ∧ r.2.mem ((c.tc : Thread Cert.KvIdeal.nD Cert.KvIdeal.τ).loc Cert.KvIdeal.main_arg9) = m ((c.tc : Thread Cert.KvIdeal.nD Cert.KvIdeal.τ).loc Cert.KvIdeal.main_arg9))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v106) = v0 c
          ∧ r.2.mem ((c.tc : Thread Cert.KvRefIdeal.nD Cert.KvRefIdeal.τ).loc Cert.KvRefIdeal.main_v108) = v1 c
          ∧ r.2.mem ((c.tc : Thread Cert.KvRefIdeal.nD Cert.KvRefIdeal.τ).loc Cert.KvRefIdeal.main_v105) = v2 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5)
          ∧ r.2.mem ((c.tc : Thread Cert.KvRefIdeal.nD Cert.KvRefIdeal.τ).loc Cert.KvRefIdeal.main_arg6) = m' ((c.tc : Thread Cert.KvRefIdeal.nD Cert.KvRefIdeal.τ).loc Cert.KvRefIdeal.main_arg6)
          ∧ r.2.mem ((c.tc : Thread Cert.KvRefIdeal.nD Cert.KvRefIdeal.τ).loc Cert.KvRefIdeal.main_arg7) = m' ((c.tc : Thread Cert.KvRefIdeal.nD Cert.KvRefIdeal.τ).loc Cert.KvRefIdeal.main_arg7)
          ∧ r.2.mem ((c.tc : Thread Cert.KvRefIdeal.nD Cert.KvRefIdeal.τ).loc Cert.KvRefIdeal.main_arg8) = m' ((c.tc : Thread Cert.KvRefIdeal.nD Cert.KvRefIdeal.τ).loc Cert.KvRefIdeal.main_arg8)
          ∧ r.2.mem ((c.tc : Thread Cert.KvRefIdeal.nD Cert.KvRefIdeal.τ).loc Cert.KvRefIdeal.main_arg9) = m' ((c.tc : Thread Cert.KvRefIdeal.nD Cert.KvRefIdeal.τ).loc Cert.KvRefIdeal.main_arg9))

def preserves_BiasGrad_BiasGradIdeal : Prop :=
  True

def algebraic_BiasGradIdeal_BiasGradRefIdeal_pre_bias_finite [hBiasGradIdeal : Cert.BiasGradIdeal.Facts] [hBiasGradRefIdeal : Cert.BiasGradRefIdeal.Facts] [hPre_bias_finite : Cert.Pre_bias_finite.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradRefIdeal.nD Cert.BiasGradRefIdeal.τ Cert.BiasGradRefIdeal.sig) → Buf (Elt Ideal) ℓ) (g' : Dev Cert.BiasGradRefIdeal.nD → PrngReg), Pre_BiasGradIdeal_bias_finite m →
    (∀ c : Dev Cert.BiasGradIdeal.nD,
      m' ((c.tc : Thread Cert.BiasGradRefIdeal.nD Cert.BiasGradRefIdeal.τ).loc Cert.BiasGradRefIdeal.main_arg0) = m ((c.tc : Thread Cert.BiasGradIdeal.nD Cert.BiasGradIdeal.τ).loc Cert.BiasGradIdeal.main_arg0)) →
    ∃ (v0 : (c : Dev Cert.BiasGradIdeal.nD) → Buf (Elt Ideal) ((c.tc : Thread Cert.BiasGradIdeal.nD Cert.BiasGradIdeal.τ).loc Cert.BiasGradIdeal.main_v1)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v1) = v0 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0))
      ∧ θ_run (Cert.BiasGradRefIdeal.defs (F := Ideal)) (onTc (τ := Cert.BiasGradRefIdeal.τ) (Cert.BiasGradRefIdeal.main (F := Ideal))) ⟨m', fun _ => 0, g'⟩ (fun r => ∀ c : Dev Cert.BiasGradRefIdeal.nD,
          r.2.mem ((c.tc : Thread Cert.BiasGradRefIdeal.nD Cert.BiasGradRefIdeal.τ).loc Cert.BiasGradRefIdeal.main_v21) = v0 c
          ∧ r.2.mem ((c.tc : Thread Cert.BiasGradRefIdeal.nD Cert.BiasGradRefIdeal.τ).loc Cert.BiasGradRefIdeal.main_arg0) = m' ((c.tc : Thread Cert.BiasGradRefIdeal.nD Cert.BiasGradRefIdeal.τ).loc Cert.BiasGradRefIdeal.main_arg0))

def preserves_Sgu_SguIdeal : Prop :=
  IdealRules.named_const.Statement Cert.SguIdeal.κ "root_half" .f32 0x3F3504F3#32 (((Real.sqrt 2)⁻¹ : ℝ) : EReal)
  ∧ IdealRules.named_const.Statement Cert.SguIdeal.κ "gauss" .f32 0x3ECC422A#32 (((Real.sqrt (2 * Real.pi))⁻¹ : ℝ) : EReal)

def algebraic_SguIdeal_SguRefIdeal_pre_sgu_finite [hSguIdeal : Cert.SguIdeal.Facts] [hSguRefIdeal : Cert.SguRefIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_sgu_finite m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)) →
    ∃ (v0 : (c : Dev Cert.SguIdeal.nD) → Buf (Elt Ideal) ((c.tc : Thread Cert.SguIdeal.nD Cert.SguIdeal.τ).loc Cert.SguIdeal.main_v9_0)) (v1 : (c : Dev Cert.SguIdeal.nD) → Buf (Elt Ideal) ((c.tc : Thread Cert.SguIdeal.nD Cert.SguIdeal.τ).loc Cert.SguIdeal.main_v9_1)) (v2 : (c : Dev Cert.SguIdeal.nD) → Buf (Elt Ideal) ((c.tc : Thread Cert.SguIdeal.nD Cert.SguIdeal.τ).loc Cert.SguIdeal.main_v9_2)) (v3 : (c : Dev Cert.SguIdeal.nD) → Buf (Elt Ideal) ((c.tc : Thread Cert.SguIdeal.nD Cert.SguIdeal.τ).loc Cert.SguIdeal.main_v9_3)) (v4 : (c : Dev Cert.SguIdeal.nD) → Buf (Elt Ideal) ((c.tc : Thread Cert.SguIdeal.nD Cert.SguIdeal.τ).loc Cert.SguIdeal.main_v9_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v9_0) = v0 c
          ∧ r.2.mem ((c.tc : Thread Cert.SguIdeal.nD Cert.SguIdeal.τ).loc Cert.SguIdeal.main_v9_1) = v1 c
          ∧ r.2.mem ((c.tc : Thread Cert.SguIdeal.nD Cert.SguIdeal.τ).loc Cert.SguIdeal.main_v9_2) = v2 c
          ∧ r.2.mem ((c.tc : Thread Cert.SguIdeal.nD Cert.SguIdeal.τ).loc Cert.SguIdeal.main_v9_3) = v3 c
          ∧ r.2.mem ((c.tc : Thread Cert.SguIdeal.nD Cert.SguIdeal.τ).loc Cert.SguIdeal.main_v9_4) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v144) = v0 c
          ∧ r.2.mem ((c.tc : Thread Cert.SguRefIdeal.nD Cert.SguRefIdeal.τ).loc Cert.SguRefIdeal.main_v87) = v1 c
          ∧ r.2.mem ((c.tc : Thread Cert.SguRefIdeal.nD Cert.SguRefIdeal.τ).loc Cert.SguRefIdeal.main_v81) = v2 c
          ∧ r.2.mem ((c.tc : Thread Cert.SguRefIdeal.nD Cert.SguRefIdeal.τ).loc Cert.SguRefIdeal.main_v139) = v3 c
          ∧ r.2.mem ((c.tc : Thread Cert.SguRefIdeal.nD Cert.SguRefIdeal.τ).loc Cert.SguRefIdeal.main_v142) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_FfnLn_FfnLnIdeal : Prop :=
  True

def algebraic_FfnLnIdeal_FfnLnRefIdeal [hFfnLnIdeal : Cert.FfnLnIdeal.Facts] [hFfnLnRefIdeal : Cert.FfnLnRefIdeal.Facts] : Prop :=
  ∀ (m : (ℓ : Loc Cert.FfnLnIdeal.nD Cert.FfnLnIdeal.τ Cert.FfnLnIdeal.sig) → Buf (Elt Ideal) ℓ) (g : Dev Cert.FfnLnIdeal.nD → PrngReg)
    (m' : (ℓ : Loc Cert.FfnLnRefIdeal.nD Cert.FfnLnRefIdeal.τ Cert.FfnLnRefIdeal.sig) → Buf (Elt Ideal) ℓ) (g' : Dev Cert.FfnLnRefIdeal.nD → PrngReg), Pre_FfnLnIdeal m →
    (∀ c : Dev Cert.FfnLnIdeal.nD,
      m' ((c.tc : Thread Cert.FfnLnRefIdeal.nD Cert.FfnLnRefIdeal.τ).loc Cert.FfnLnRefIdeal.main_arg0) = m ((c.tc : Thread Cert.FfnLnIdeal.nD Cert.FfnLnIdeal.τ).loc Cert.FfnLnIdeal.main_arg0)
      ∧ m' ((c.tc : Thread Cert.FfnLnRefIdeal.nD Cert.FfnLnRefIdeal.τ).loc Cert.FfnLnRefIdeal.main_arg1) = m ((c.tc : Thread Cert.FfnLnIdeal.nD Cert.FfnLnIdeal.τ).loc Cert.FfnLnIdeal.main_arg1)
      ∧ m' ((c.tc : Thread Cert.FfnLnRefIdeal.nD Cert.FfnLnRefIdeal.τ).loc Cert.FfnLnRefIdeal.main_arg2) = m ((c.tc : Thread Cert.FfnLnIdeal.nD Cert.FfnLnIdeal.τ).loc Cert.FfnLnIdeal.main_arg2)
      ∧ m' ((c.tc : Thread Cert.FfnLnRefIdeal.nD Cert.FfnLnRefIdeal.τ).loc Cert.FfnLnRefIdeal.main_arg3) = m ((c.tc : Thread Cert.FfnLnIdeal.nD Cert.FfnLnIdeal.τ).loc Cert.FfnLnIdeal.main_arg3)
      ∧ m' ((c.tc : Thread Cert.FfnLnRefIdeal.nD Cert.FfnLnRefIdeal.τ).loc Cert.FfnLnRefIdeal.main_arg4) = m ((c.tc : Thread Cert.FfnLnIdeal.nD Cert.FfnLnIdeal.τ).loc Cert.FfnLnIdeal.main_arg4)
      ∧ m' ((c.tc : Thread Cert.FfnLnRefIdeal.nD Cert.FfnLnRefIdeal.τ).loc Cert.FfnLnRefIdeal.main_arg5) = m ((c.tc : Thread Cert.FfnLnIdeal.nD Cert.FfnLnIdeal.τ).loc Cert.FfnLnIdeal.main_arg5)) →
    ∃ (v0 : (c : Dev Cert.FfnLnIdeal.nD) → Buf (Elt Ideal) ((c.tc : Thread Cert.FfnLnIdeal.nD Cert.FfnLnIdeal.τ).loc Cert.FfnLnIdeal.main_v11_0)) (v1 : (c : Dev Cert.FfnLnIdeal.nD) → Buf (Elt Ideal) ((c.tc : Thread Cert.FfnLnIdeal.nD Cert.FfnLnIdeal.τ).loc Cert.FfnLnIdeal.main_v11_1)) (v2 : (c : Dev Cert.FfnLnIdeal.nD) → Buf (Elt Ideal) ((c.tc : Thread Cert.FfnLnIdeal.nD Cert.FfnLnIdeal.τ).loc Cert.FfnLnIdeal.main_v11_2)) (v3 : (c : Dev Cert.FfnLnIdeal.nD) → Buf (Elt Ideal) ((c.tc : Thread Cert.FfnLnIdeal.nD Cert.FfnLnIdeal.τ).loc Cert.FfnLnIdeal.main_v11_3)) (v4 : (c : Dev Cert.FfnLnIdeal.nD) → Buf (Elt Ideal) ((c.tc : Thread Cert.FfnLnIdeal.nD Cert.FfnLnIdeal.τ).loc Cert.FfnLnIdeal.main_v11_4)),
      θ_run (Cert.FfnLnIdeal.defs (F := Ideal)) (onTc (τ := Cert.FfnLnIdeal.τ) (Cert.FfnLnIdeal.main (F := Ideal))) ⟨m, fun _ => 0, g⟩ (fun r => ∀ c : Dev Cert.FfnLnIdeal.nD,
          r.2.mem ((c.tc : Thread Cert.FfnLnIdeal.nD Cert.FfnLnIdeal.τ).loc Cert.FfnLnIdeal.main_v11_0) = v0 c
          ∧ r.2.mem ((c.tc : Thread Cert.FfnLnIdeal.nD Cert.FfnLnIdeal.τ).loc Cert.FfnLnIdeal.main_v11_1) = v1 c
          ∧ r.2.mem ((c.tc : Thread Cert.FfnLnIdeal.nD Cert.FfnLnIdeal.τ).loc Cert.FfnLnIdeal.main_v11_2) = v2 c
          ∧ r.2.mem ((c.tc : Thread Cert.FfnLnIdeal.nD Cert.FfnLnIdeal.τ).loc Cert.FfnLnIdeal.main_v11_3) = v3 c
          ∧ r.2.mem ((c.tc : Thread Cert.FfnLnIdeal.nD Cert.FfnLnIdeal.τ).loc Cert.FfnLnIdeal.main_v11_4) = v4 c
          ∧ r.2.mem ((c.tc : Thread Cert.FfnLnIdeal.nD Cert.FfnLnIdeal.τ).loc Cert.FfnLnIdeal.main_arg0) = m ((c.tc : Thread Cert.FfnLnIdeal.nD Cert.FfnLnIdeal.τ).loc Cert.FfnLnIdeal.main_arg0)
          ∧ r.2.mem ((c.tc : Thread Cert.FfnLnIdeal.nD Cert.FfnLnIdeal.τ).loc Cert.FfnLnIdeal.main_arg1) = m ((c.tc : Thread Cert.FfnLnIdeal.nD Cert.FfnLnIdeal.τ).loc Cert.FfnLnIdeal.main_arg1)
          ∧ r.2.mem ((c.tc : Thread Cert.FfnLnIdeal.nD Cert.FfnLnIdeal.τ).loc Cert.FfnLnIdeal.main_arg2) = m ((c.tc : Thread Cert.FfnLnIdeal.nD Cert.FfnLnIdeal.τ).loc Cert.FfnLnIdeal.main_arg2)
          ∧ r.2.mem ((c.tc : Thread Cert.FfnLnIdeal.nD Cert.FfnLnIdeal.τ).loc Cert.FfnLnIdeal.main_arg3) = m ((c.tc : Thread Cert.FfnLnIdeal.nD Cert.FfnLnIdeal.τ).loc Cert.FfnLnIdeal.main_arg3)
          ∧ r.2.mem ((c.tc : Thread Cert.FfnLnIdeal.nD Cert.FfnLnIdeal.τ).loc Cert.FfnLnIdeal.main_arg4) = m ((c.tc : Thread Cert.FfnLnIdeal.nD Cert.FfnLnIdeal.τ).loc Cert.FfnLnIdeal.main_arg4)
          ∧ r.2.mem ((c.tc : Thread Cert.FfnLnIdeal.nD Cert.FfnLnIdeal.τ).loc Cert.FfnLnIdeal.main_arg5) = m ((c.tc : Thread Cert.FfnLnIdeal.nD Cert.FfnLnIdeal.τ).loc Cert.FfnLnIdeal.main_arg5))
      ∧ θ_run (Cert.FfnLnRefIdeal.defs (F := Ideal)) (onTc (τ := Cert.FfnLnRefIdeal.τ) (Cert.FfnLnRefIdeal.main (F := Ideal))) ⟨m', fun _ => 0, g'⟩ (fun r => ∀ c : Dev Cert.FfnLnRefIdeal.nD,
          r.2.mem ((c.tc : Thread Cert.FfnLnRefIdeal.nD Cert.FfnLnRefIdeal.τ).loc Cert.FfnLnRefIdeal.main_v52) = v0 c
          ∧ r.2.mem ((c.tc : Thread Cert.FfnLnRefIdeal.nD Cert.FfnLnRefIdeal.τ).loc Cert.FfnLnRefIdeal.main_v57) = v1 c
          ∧ r.2.mem ((c.tc : Thread Cert.FfnLnRefIdeal.nD Cert.FfnLnRefIdeal.τ).loc Cert.FfnLnRefIdeal.main_v58) = v2 c
          ∧ r.2.mem ((c.tc : Thread Cert.FfnLnRefIdeal.nD Cert.FfnLnRefIdeal.τ).loc Cert.FfnLnRefIdeal.main_v60) = v3 c
          ∧ r.2.mem ((c.tc : Thread Cert.FfnLnRefIdeal.nD Cert.FfnLnRefIdeal.τ).loc Cert.FfnLnRefIdeal.main_v62) = v4 c
          ∧ r.2.mem ((c.tc : Thread Cert.FfnLnRefIdeal.nD Cert.FfnLnRefIdeal.τ).loc Cert.FfnLnRefIdeal.main_arg0) = m' ((c.tc : Thread Cert.FfnLnRefIdeal.nD Cert.FfnLnRefIdeal.τ).loc Cert.FfnLnRefIdeal.main_arg0)
          ∧ r.2.mem ((c.tc : Thread Cert.FfnLnRefIdeal.nD Cert.FfnLnRefIdeal.τ).loc Cert.FfnLnRefIdeal.main_arg1) = m' ((c.tc : Thread Cert.FfnLnRefIdeal.nD Cert.FfnLnRefIdeal.τ).loc Cert.FfnLnRefIdeal.main_arg1)
          ∧ r.2.mem ((c.tc : Thread Cert.FfnLnRefIdeal.nD Cert.FfnLnRefIdeal.τ).loc Cert.FfnLnRefIdeal.main_arg2) = m' ((c.tc : Thread Cert.FfnLnRefIdeal.nD Cert.FfnLnRefIdeal.τ).loc Cert.FfnLnRefIdeal.main_arg2)
          ∧ r.2.mem ((c.tc : Thread Cert.FfnLnRefIdeal.nD Cert.FfnLnRefIdeal.τ).loc Cert.FfnLnRefIdeal.main_arg3) = m' ((c.tc : Thread Cert.FfnLnRefIdeal.nD Cert.FfnLnRefIdeal.τ).loc Cert.FfnLnRefIdeal.main_arg3)
          ∧ r.2.mem ((c.tc : Thread Cert.FfnLnRefIdeal.nD Cert.FfnLnRefIdeal.τ).loc Cert.FfnLnRefIdeal.main_arg4) = m' ((c.tc : Thread Cert.FfnLnRefIdeal.nD Cert.FfnLnRefIdeal.τ).loc Cert.FfnLnRefIdeal.main_arg4)
          ∧ r.2.mem ((c.tc : Thread Cert.FfnLnRefIdeal.nD Cert.FfnLnRefIdeal.τ).loc Cert.FfnLnRefIdeal.main_arg5) = m' ((c.tc : Thread Cert.FfnLnRefIdeal.nD Cert.FfnLnRefIdeal.τ).loc Cert.FfnLnRefIdeal.main_arg5))

def preserves_MixLn_MixLnIdeal : Prop :=
  True

def algebraic_MixLnIdeal_MixLnRefIdeal [hMixLnIdeal : Cert.MixLnIdeal.Facts] [hMixLnRefIdeal : Cert.MixLnRefIdeal.Facts] : Prop :=
  ∀ (m : (ℓ : Loc Cert.MixLnIdeal.nD Cert.MixLnIdeal.τ Cert.MixLnIdeal.sig) → Buf (Elt Ideal) ℓ) (g : Dev Cert.MixLnIdeal.nD → PrngReg)
    (m' : (ℓ : Loc Cert.MixLnRefIdeal.nD Cert.MixLnRefIdeal.τ Cert.MixLnRefIdeal.sig) → Buf (Elt Ideal) ℓ) (g' : Dev Cert.MixLnRefIdeal.nD → PrngReg), Pre_MixLnIdeal m →
    (∀ c : Dev Cert.MixLnIdeal.nD,
      m' ((c.tc : Thread Cert.MixLnRefIdeal.nD Cert.MixLnRefIdeal.τ).loc Cert.MixLnRefIdeal.main_arg0) = m ((c.tc : Thread Cert.MixLnIdeal.nD Cert.MixLnIdeal.τ).loc Cert.MixLnIdeal.main_arg0)
      ∧ m' ((c.tc : Thread Cert.MixLnRefIdeal.nD Cert.MixLnRefIdeal.τ).loc Cert.MixLnRefIdeal.main_arg1) = m ((c.tc : Thread Cert.MixLnIdeal.nD Cert.MixLnIdeal.τ).loc Cert.MixLnIdeal.main_arg1)
      ∧ m' ((c.tc : Thread Cert.MixLnRefIdeal.nD Cert.MixLnRefIdeal.τ).loc Cert.MixLnRefIdeal.main_arg2) = m ((c.tc : Thread Cert.MixLnIdeal.nD Cert.MixLnIdeal.τ).loc Cert.MixLnIdeal.main_arg2)
      ∧ m' ((c.tc : Thread Cert.MixLnRefIdeal.nD Cert.MixLnRefIdeal.τ).loc Cert.MixLnRefIdeal.main_arg3) = m ((c.tc : Thread Cert.MixLnIdeal.nD Cert.MixLnIdeal.τ).loc Cert.MixLnIdeal.main_arg3)
      ∧ m' ((c.tc : Thread Cert.MixLnRefIdeal.nD Cert.MixLnRefIdeal.τ).loc Cert.MixLnRefIdeal.main_arg4) = m ((c.tc : Thread Cert.MixLnIdeal.nD Cert.MixLnIdeal.τ).loc Cert.MixLnIdeal.main_arg4)
      ∧ m' ((c.tc : Thread Cert.MixLnRefIdeal.nD Cert.MixLnRefIdeal.τ).loc Cert.MixLnRefIdeal.main_arg5) = m ((c.tc : Thread Cert.MixLnIdeal.nD Cert.MixLnIdeal.τ).loc Cert.MixLnIdeal.main_arg5)) →
    ∃ (v0 : (c : Dev Cert.MixLnIdeal.nD) → Buf (Elt Ideal) ((c.tc : Thread Cert.MixLnIdeal.nD Cert.MixLnIdeal.τ).loc Cert.MixLnIdeal.main_v9_0)) (v1 : (c : Dev Cert.MixLnIdeal.nD) → Buf (Elt Ideal) ((c.tc : Thread Cert.MixLnIdeal.nD Cert.MixLnIdeal.τ).loc Cert.MixLnIdeal.main_v9_1)) (v2 : (c : Dev Cert.MixLnIdeal.nD) → Buf (Elt Ideal) ((c.tc : Thread Cert.MixLnIdeal.nD Cert.MixLnIdeal.τ).loc Cert.MixLnIdeal.main_v9_2)) (v3 : (c : Dev Cert.MixLnIdeal.nD) → Buf (Elt Ideal) ((c.tc : Thread Cert.MixLnIdeal.nD Cert.MixLnIdeal.τ).loc Cert.MixLnIdeal.main_v9_3)),
      θ_run (Cert.MixLnIdeal.defs (F := Ideal)) (onTc (τ := Cert.MixLnIdeal.τ) (Cert.MixLnIdeal.main (F := Ideal))) ⟨m, fun _ => 0, g⟩ (fun r => ∀ c : Dev Cert.MixLnIdeal.nD,
          r.2.mem ((c.tc : Thread Cert.MixLnIdeal.nD Cert.MixLnIdeal.τ).loc Cert.MixLnIdeal.main_v9_0) = v0 c
          ∧ r.2.mem ((c.tc : Thread Cert.MixLnIdeal.nD Cert.MixLnIdeal.τ).loc Cert.MixLnIdeal.main_v9_1) = v1 c
          ∧ r.2.mem ((c.tc : Thread Cert.MixLnIdeal.nD Cert.MixLnIdeal.τ).loc Cert.MixLnIdeal.main_v9_2) = v2 c
          ∧ r.2.mem ((c.tc : Thread Cert.MixLnIdeal.nD Cert.MixLnIdeal.τ).loc Cert.MixLnIdeal.main_v9_3) = v3 c
          ∧ r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
          ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
          ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
          ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
          ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4)
          ∧ r.2.mem ((c.tc : Thread Cert.MixLnIdeal.nD Cert.MixLnIdeal.τ).loc Cert.MixLnIdeal.main_arg5) = m ((c.tc : Thread Cert.MixLnIdeal.nD Cert.MixLnIdeal.τ).loc Cert.MixLnIdeal.main_arg5))
      ∧ θ_run (Cert.MixLnRefIdeal.defs (F := Ideal)) (onTc (τ := Cert.MixLnRefIdeal.τ) (Cert.MixLnRefIdeal.main (F := Ideal))) ⟨m', fun _ => 0, g'⟩ (fun r => ∀ c : Dev Cert.MixLnRefIdeal.nD,
          r.2.mem ((c.tc : Thread Cert.MixLnRefIdeal.nD Cert.MixLnRefIdeal.τ).loc Cert.MixLnRefIdeal.main_v46) = v0 c
          ∧ r.2.mem ((c.tc : Thread Cert.MixLnRefIdeal.nD Cert.MixLnRefIdeal.τ).loc Cert.MixLnRefIdeal.main_v51) = v1 c
          ∧ r.2.mem ((c.tc : Thread Cert.MixLnRefIdeal.nD Cert.MixLnRefIdeal.τ).loc Cert.MixLnRefIdeal.main_v52) = v2 c
          ∧ r.2.mem ((c.tc : Thread Cert.MixLnRefIdeal.nD Cert.MixLnRefIdeal.τ).loc Cert.MixLnRefIdeal.main_v54) = v3 c
          ∧ r.2.mem ((c.tc : Thread Cert.MixLnRefIdeal.nD Cert.MixLnRefIdeal.τ).loc Cert.MixLnRefIdeal.main_arg0) = m' ((c.tc : Thread Cert.MixLnRefIdeal.nD Cert.MixLnRefIdeal.τ).loc Cert.MixLnRefIdeal.main_arg0)
          ∧ r.2.mem ((c.tc : Thread Cert.MixLnRefIdeal.nD Cert.MixLnRefIdeal.τ).loc Cert.MixLnRefIdeal.main_arg1) = m' ((c.tc : Thread Cert.MixLnRefIdeal.nD Cert.MixLnRefIdeal.τ).loc Cert.MixLnRefIdeal.main_arg1)
          ∧ r.2.mem ((c.tc : Thread Cert.MixLnRefIdeal.nD Cert.MixLnRefIdeal.τ).loc Cert.MixLnRefIdeal.main_arg2) = m' ((c.tc : Thread Cert.MixLnRefIdeal.nD Cert.MixLnRefIdeal.τ).loc Cert.MixLnRefIdeal.main_arg2)
          ∧ r.2.mem ((c.tc : Thread Cert.MixLnRefIdeal.nD Cert.MixLnRefIdeal.τ).loc Cert.MixLnRefIdeal.main_arg3) = m' ((c.tc : Thread Cert.MixLnRefIdeal.nD Cert.MixLnRefIdeal.τ).loc Cert.MixLnRefIdeal.main_arg3)
          ∧ r.2.mem ((c.tc : Thread Cert.MixLnRefIdeal.nD Cert.MixLnRefIdeal.τ).loc Cert.MixLnRefIdeal.main_arg4) = m' ((c.tc : Thread Cert.MixLnRefIdeal.nD Cert.MixLnRefIdeal.τ).loc Cert.MixLnRefIdeal.main_arg4)
          ∧ r.2.mem ((c.tc : Thread Cert.MixLnRefIdeal.nD Cert.MixLnRefIdeal.τ).loc Cert.MixLnRefIdeal.main_arg5) = m' ((c.tc : Thread Cert.MixLnRefIdeal.nD Cert.MixLnRefIdeal.τ).loc Cert.MixLnRefIdeal.main_arg5))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v6_0)) (v1 : (c : Dev Cert.FfnUpIdeal.nD) → Buf (Elt Ideal) ((c.tc : Thread Cert.FfnUpIdeal.nD Cert.FfnUpIdeal.τ).loc Cert.FfnUpIdeal.main_v6_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v6_0) = v0 c
          ∧ r.2.mem ((c.tc : Thread Cert.FfnUpIdeal.nD Cert.FfnUpIdeal.τ).loc Cert.FfnUpIdeal.main_v6_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_v10) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_GmlpUp_GmlpUpIdeal : Prop :=
  True

def algebraic_GmlpUpIdeal_GmlpUpRefIdeal [hGmlpUpIdeal : Cert.GmlpUpIdeal.Facts] [hGmlpUpRefIdeal : Cert.GmlpUpRefIdeal.Facts] : Prop :=
  ∀ (m : (ℓ : Loc Cert.GmlpUpIdeal.nD Cert.GmlpUpIdeal.τ Cert.GmlpUpIdeal.sig) → Buf (Elt Ideal) ℓ) (g : Dev Cert.GmlpUpIdeal.nD → PrngReg)
    (m' : (ℓ : Loc Cert.GmlpUpRefIdeal.nD Cert.GmlpUpRefIdeal.τ Cert.GmlpUpRefIdeal.sig) → Buf (Elt Ideal) ℓ) (g' : Dev Cert.GmlpUpRefIdeal.nD → PrngReg), Pre_GmlpUpIdeal m →
    (∀ c : Dev Cert.GmlpUpIdeal.nD,
      m' ((c.tc : Thread Cert.GmlpUpRefIdeal.nD Cert.GmlpUpRefIdeal.τ).loc Cert.GmlpUpRefIdeal.main_arg0) = m ((c.tc : Thread Cert.GmlpUpIdeal.nD Cert.GmlpUpIdeal.τ).loc Cert.GmlpUpIdeal.main_arg0)
      ∧ m' ((c.tc : Thread Cert.GmlpUpRefIdeal.nD Cert.GmlpUpRefIdeal.τ).loc Cert.GmlpUpRefIdeal.main_arg1) = m ((c.tc : Thread Cert.GmlpUpIdeal.nD Cert.GmlpUpIdeal.τ).loc Cert.GmlpUpIdeal.main_arg1)
      ∧ m' ((c.tc : Thread Cert.GmlpUpRefIdeal.nD Cert.GmlpUpRefIdeal.τ).loc Cert.GmlpUpRefIdeal.main_arg2) = m ((c.tc : Thread Cert.GmlpUpIdeal.nD Cert.GmlpUpIdeal.τ).loc Cert.GmlpUpIdeal.main_arg2)
      ∧ m' ((c.tc : Thread Cert.GmlpUpRefIdeal.nD Cert.GmlpUpRefIdeal.τ).loc Cert.GmlpUpRefIdeal.main_arg3) = m ((c.tc : Thread Cert.GmlpUpIdeal.nD Cert.GmlpUpIdeal.τ).loc Cert.GmlpUpIdeal.main_arg3)
      ∧ m' ((c.tc : Thread Cert.GmlpUpRefIdeal.nD Cert.GmlpUpRefIdeal.τ).loc Cert.GmlpUpRefIdeal.main_arg4) = m ((c.tc : Thread Cert.GmlpUpIdeal.nD Cert.GmlpUpIdeal.τ).loc Cert.GmlpUpIdeal.main_arg4)) →
    ∃ (v0 : (c : Dev Cert.GmlpUpIdeal.nD) → Buf (Elt Ideal) ((c.tc : Thread Cert.GmlpUpIdeal.nD Cert.GmlpUpIdeal.τ).loc Cert.GmlpUpIdeal.main_v7_0)) (v1 : (c : Dev Cert.GmlpUpIdeal.nD) → Buf (Elt Ideal) ((c.tc : Thread Cert.GmlpUpIdeal.nD Cert.GmlpUpIdeal.τ).loc Cert.GmlpUpIdeal.main_v7_1)),
      θ_run (Cert.GmlpUpIdeal.defs (F := Ideal)) (onTc (τ := Cert.GmlpUpIdeal.τ) (Cert.GmlpUpIdeal.main (F := Ideal))) ⟨m, fun _ => 0, g⟩ (fun r => ∀ c : Dev Cert.GmlpUpIdeal.nD,
          r.2.mem ((c.tc : Thread Cert.GmlpUpIdeal.nD Cert.GmlpUpIdeal.τ).loc Cert.GmlpUpIdeal.main_v7_0) = v0 c
          ∧ r.2.mem ((c.tc : Thread Cert.GmlpUpIdeal.nD Cert.GmlpUpIdeal.τ).loc Cert.GmlpUpIdeal.main_v7_1) = v1 c
          ∧ r.2.mem ((c.tc : Thread Cert.GmlpUpIdeal.nD Cert.GmlpUpIdeal.τ).loc Cert.GmlpUpIdeal.main_arg0) = m ((c.tc : Thread Cert.GmlpUpIdeal.nD Cert.GmlpUpIdeal.τ).loc Cert.GmlpUpIdeal.main_arg0)
          ∧ r.2.mem ((c.tc : Thread Cert.GmlpUpIdeal.nD Cert.GmlpUpIdeal.τ).loc Cert.GmlpUpIdeal.main_arg1) = m ((c.tc : Thread Cert.GmlpUpIdeal.nD Cert.GmlpUpIdeal.τ).loc Cert.GmlpUpIdeal.main_arg1)
          ∧ r.2.mem ((c.tc : Thread Cert.GmlpUpIdeal.nD Cert.GmlpUpIdeal.τ).loc Cert.GmlpUpIdeal.main_arg2) = m ((c.tc : Thread Cert.GmlpUpIdeal.nD Cert.GmlpUpIdeal.τ).loc Cert.GmlpUpIdeal.main_arg2)
          ∧ r.2.mem ((c.tc : Thread Cert.GmlpUpIdeal.nD Cert.GmlpUpIdeal.τ).loc Cert.GmlpUpIdeal.main_arg3) = m ((c.tc : Thread Cert.GmlpUpIdeal.nD Cert.GmlpUpIdeal.τ).loc Cert.GmlpUpIdeal.main_arg3)
          ∧ r.2.mem ((c.tc : Thread Cert.GmlpUpIdeal.nD Cert.GmlpUpIdeal.τ).loc Cert.GmlpUpIdeal.main_arg4) = m ((c.tc : Thread Cert.GmlpUpIdeal.nD Cert.GmlpUpIdeal.τ).loc Cert.GmlpUpIdeal.main_arg4))
      ∧ θ_run (Cert.GmlpUpRefIdeal.defs (F := Ideal)) (onTc (τ := Cert.GmlpUpRefIdeal.τ) (Cert.GmlpUpRefIdeal.main (F := Ideal))) ⟨m', fun _ => 0, g'⟩ (fun r => ∀ c : Dev Cert.GmlpUpRefIdeal.nD,
          r.2.mem ((c.tc : Thread Cert.GmlpUpRefIdeal.nD Cert.GmlpUpRefIdeal.τ).loc Cert.GmlpUpRefIdeal.main_v10) = v0 c
          ∧ r.2.mem ((c.tc : Thread Cert.GmlpUpRefIdeal.nD Cert.GmlpUpRefIdeal.τ).loc Cert.GmlpUpRefIdeal.main_v12) = v1 c
          ∧ r.2.mem ((c.tc : Thread Cert.GmlpUpRefIdeal.nD Cert.GmlpUpRefIdeal.τ).loc Cert.GmlpUpRefIdeal.main_arg0) = m' ((c.tc : Thread Cert.GmlpUpRefIdeal.nD Cert.GmlpUpRefIdeal.τ).loc Cert.GmlpUpRefIdeal.main_arg0)
          ∧ r.2.mem ((c.tc : Thread Cert.GmlpUpRefIdeal.nD Cert.GmlpUpRefIdeal.τ).loc Cert.GmlpUpRefIdeal.main_arg1) = m' ((c.tc : Thread Cert.GmlpUpRefIdeal.nD Cert.GmlpUpRefIdeal.τ).loc Cert.GmlpUpRefIdeal.main_arg1)
          ∧ r.2.mem ((c.tc : Thread Cert.GmlpUpRefIdeal.nD Cert.GmlpUpRefIdeal.τ).loc Cert.GmlpUpRefIdeal.main_arg2) = m' ((c.tc : Thread Cert.GmlpUpRefIdeal.nD Cert.GmlpUpRefIdeal.τ).loc Cert.GmlpUpRefIdeal.main_arg2)
          ∧ r.2.mem ((c.tc : Thread Cert.GmlpUpRefIdeal.nD Cert.GmlpUpRefIdeal.τ).loc Cert.GmlpUpRefIdeal.main_arg3) = m' ((c.tc : Thread Cert.GmlpUpRefIdeal.nD Cert.GmlpUpRefIdeal.τ).loc Cert.GmlpUpRefIdeal.main_arg3)
          ∧ r.2.mem ((c.tc : Thread Cert.GmlpUpRefIdeal.nD Cert.GmlpUpRefIdeal.τ).loc Cert.GmlpUpRefIdeal.main_arg4) = m' ((c.tc : Thread Cert.GmlpUpRefIdeal.nD Cert.GmlpUpRefIdeal.τ).loc Cert.GmlpUpRefIdeal.main_arg4))

def preserves_SguFwd_SguFwdIdeal : Prop :=
  IdealRules.named_const.Statement Cert.SguFwdIdeal.κ "root_half" .f32 0x3F3504F3#32 (((Real.sqrt 2)⁻¹ : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)
      ∧ m' ((c.tc : Thread Cert.SguFwdRefIdeal.nD Cert.SguFwdRefIdeal.τ).loc Cert.SguFwdRefIdeal.main_arg5) = m ((c.tc : Thread Cert.SguFwdIdeal.nD Cert.SguFwdIdeal.τ).loc Cert.SguFwdIdeal.main_arg5)) →
    ∃ (v0 : (c : Dev Cert.SguFwdIdeal.nD) → Buf (Elt Ideal) ((c.tc : Thread Cert.SguFwdIdeal.nD Cert.SguFwdIdeal.τ).loc Cert.SguFwdIdeal.main_v7)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v7) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
          ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v63) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4)
          ∧ r.2.mem ((c.tc : Thread Cert.SguFwdRefIdeal.nD Cert.SguFwdRefIdeal.τ).loc Cert.SguFwdRefIdeal.main_arg5) = m' ((c.tc : Thread Cert.SguFwdRefIdeal.nD Cert.SguFwdRefIdeal.τ).loc Cert.SguFwdRefIdeal.main_arg5))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v1)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v1) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v5) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v8)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v8) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v63) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def Claim : Prop :=
  ∃ (hLaneSum : Cert.LaneSum.Facts) (hLaneSumIdeal : Cert.LaneSumIdeal.Facts) (hLaneSumRefIdeal : Cert.LaneSumRefIdeal.Facts) (hAdaGrad : Cert.AdaGrad.Facts) (hAdaGradIdeal : Cert.AdaGradIdeal.Facts) (hAdaGradRefIdeal : Cert.AdaGradRefIdeal.Facts) (hFfnAct : Cert.FfnAct.Facts) (hFfnActIdeal : Cert.FfnActIdeal.Facts) (hFfnActRefIdeal : Cert.FfnActRefIdeal.Facts) (hUpFirst : Cert.UpFirst.Facts) (hUpFirstIdeal : Cert.UpFirstIdeal.Facts) (hUpFirstRefIdeal : Cert.UpFirstRefIdeal.Facts) (hUpMixer : Cert.UpMixer.Facts) (hUpMixerIdeal : Cert.UpMixerIdeal.Facts) (hUpMixerRefIdeal : Cert.UpMixerRefIdeal.Facts) (hLossLn : Cert.LossLn.Facts) (hLossLnIdeal : Cert.LossLnIdeal.Facts) (hLossLnRefIdeal : Cert.LossLnRefIdeal.Facts) (hUpFfn : Cert.UpFfn.Facts) (hUpFfnIdeal : Cert.UpFfnIdeal.Facts) (hUpFfnRefIdeal : Cert.UpFfnRefIdeal.Facts) (hGmlpIn : Cert.GmlpIn.Facts) (hGmlpInIdeal : Cert.GmlpInIdeal.Facts) (hGmlpInRefIdeal : Cert.GmlpInRefIdeal.Facts) (hAttnQ : Cert.AttnQ.Facts) (hAttnQIdeal : Cert.AttnQIdeal.Facts) (hAttnQRefIdeal : Cert.AttnQRefIdeal.Facts) (hKv : Cert.Kv.Facts) (hKvIdeal : Cert.KvIdeal.Facts) (hKvRefIdeal : Cert.KvRefIdeal.Facts) (hBiasGrad : Cert.BiasGrad.Facts) (hBiasGradIdeal : Cert.BiasGradIdeal.Facts) (hBiasGradRefIdeal : Cert.BiasGradRefIdeal.Facts) (hSgu : Cert.Sgu.Facts) (hSguIdeal : Cert.SguIdeal.Facts) (hSguRefIdeal : Cert.SguRefIdeal.Facts) (hFfnLn : Cert.FfnLn.Facts) (hFfnLnIdeal : Cert.FfnLnIdeal.Facts) (hFfnLnRefIdeal : Cert.FfnLnRefIdeal.Facts) (hMixLn : Cert.MixLn.Facts) (hMixLnIdeal : Cert.MixLnIdeal.Facts) (hMixLnRefIdeal : Cert.MixLnRefIdeal.Facts) (hFfnUp : Cert.FfnUp.Facts) (hFfnUpIdeal : Cert.FfnUpIdeal.Facts) (hFfnUpRefIdeal : Cert.FfnUpRefIdeal.Facts) (hGmlpUp : Cert.GmlpUp.Facts) (hGmlpUpIdeal : Cert.GmlpUpIdeal.Facts) (hGmlpUpRefIdeal : Cert.GmlpUpRefIdeal.Facts) (hSguFwd : Cert.SguFwd.Facts) (hSguFwdIdeal : Cert.SguFwdIdeal.Facts) (hSguFwdRefIdeal : Cert.SguFwdRefIdeal.Facts) (hAdaMod : Cert.AdaMod.Facts) (hAdaModIdeal : Cert.AdaModIdeal.Facts) (hAdaModRefIdeal : Cert.AdaModRefIdeal.Facts) (hAttnFwd : Cert.AttnFwd.Facts) (hAttnFwdIdeal : Cert.AttnFwdIdeal.Facts) (hAttnFwdRefIdeal : Cert.AttnFwdRefIdeal.Facts) (hPre_ffn_finite : Cert.Pre_ffn_finite.Facts) (hPre_up1_finite : Cert.Pre_up1_finite.Facts) (hPre_loss_finite : Cert.Pre_loss_finite.Facts) (hPre_up2_finite : Cert.Pre_up2_finite.Facts) (hPre_gmlp_finite : Cert.Pre_gmlp_finite.Facts) (hPre_attnq_finite : Cert.Pre_attnq_finite.Facts) (hPre_kv_finite : Cert.Pre_kv_finite.Facts) (hPre_bias_finite : Cert.Pre_bias_finite.Facts) (hPre_sgu_finite : Cert.Pre_sgu_finite.Facts),
    quiescent_LaneSum (hLaneSum := hLaneSum)
    ∧ quiescent_LaneSumIdeal (hLaneSumIdeal := hLaneSumIdeal)
    ∧ quiescent_LaneSumRefIdeal (hLaneSumRefIdeal := hLaneSumRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_FfnAct (hFfnAct := hFfnAct)
    ∧ quiescent_FfnActIdeal (hFfnActIdeal := hFfnActIdeal)
    ∧ quiescent_FfnActIdeal_pre_ffn_finite (hFfnActIdeal := hFfnActIdeal) (hPre_ffn_finite := hPre_ffn_finite)
    ∧ quiescent_FfnActRefIdeal (hFfnActRefIdeal := hFfnActRefIdeal)
    ∧ quiescent_FfnActRefIdeal_pre_ffn_finite (hFfnActRefIdeal := hFfnActRefIdeal) (hPre_ffn_finite := hPre_ffn_finite)
    ∧ quiescent_UpFirst (hUpFirst := hUpFirst)
    ∧ quiescent_UpFirstIdeal (hUpFirstIdeal := hUpFirstIdeal)
    ∧ quiescent_UpFirstRefIdeal (hUpFirstRefIdeal := hUpFirstRefIdeal)
    ∧ quiescent_UpMixer (hUpMixer := hUpMixer)
    ∧ quiescent_UpMixerIdeal (hUpMixerIdeal := hUpMixerIdeal)
    ∧ quiescent_UpMixerIdeal_pre_up1_finite (hUpMixerIdeal := hUpMixerIdeal) (hPre_up1_finite := hPre_up1_finite)
    ∧ quiescent_UpMixerRefIdeal (hUpMixerRefIdeal := hUpMixerRefIdeal)
    ∧ quiescent_UpMixerRefIdeal_pre_up1_finite (hUpMixerRefIdeal := hUpMixerRefIdeal) (hPre_up1_finite := hPre_up1_finite)
    ∧ quiescent_LossLn (hLossLn := hLossLn)
    ∧ quiescent_LossLnIdeal (hLossLnIdeal := hLossLnIdeal)
    ∧ quiescent_LossLnIdeal_pre_loss_finite (hLossLnIdeal := hLossLnIdeal) (hPre_loss_finite := hPre_loss_finite)
    ∧ quiescent_LossLnRefIdeal (hLossLnRefIdeal := hLossLnRefIdeal)
    ∧ quiescent_LossLnRefIdeal_pre_loss_finite (hLossLnRefIdeal := hLossLnRefIdeal) (hPre_loss_finite := hPre_loss_finite)
    ∧ quiescent_UpFfn (hUpFfn := hUpFfn)
    ∧ quiescent_UpFfnIdeal (hUpFfnIdeal := hUpFfnIdeal)
    ∧ quiescent_UpFfnIdeal_pre_up2_finite (hUpFfnIdeal := hUpFfnIdeal) (hPre_up2_finite := hPre_up2_finite)
    ∧ quiescent_UpFfnRefIdeal (hUpFfnRefIdeal := hUpFfnRefIdeal)
    ∧ quiescent_UpFfnRefIdeal_pre_up2_finite (hUpFfnRefIdeal := hUpFfnRefIdeal) (hPre_up2_finite := hPre_up2_finite)
    ∧ quiescent_GmlpIn (hGmlpIn := hGmlpIn)
    ∧ quiescent_GmlpInIdeal (hGmlpInIdeal := hGmlpInIdeal)
    ∧ quiescent_GmlpInIdeal_pre_gmlp_finite (hGmlpInIdeal := hGmlpInIdeal) (hPre_gmlp_finite := hPre_gmlp_finite)
    ∧ quiescent_GmlpInRefIdeal (hGmlpInRefIdeal := hGmlpInRefIdeal)
    ∧ quiescent_GmlpInRefIdeal_pre_gmlp_finite (hGmlpInRefIdeal := hGmlpInRefIdeal) (hPre_gmlp_finite := hPre_gmlp_finite)
    ∧ quiescent_AttnQ (hAttnQ := hAttnQ)
    ∧ quiescent_AttnQIdeal (hAttnQIdeal := hAttnQIdeal)
    ∧ quiescent_AttnQIdeal_pre_attnq_finite (hAttnQIdeal := hAttnQIdeal) (hPre_attnq_finite := hPre_attnq_finite)
    ∧ quiescent_AttnQRefIdeal (hAttnQRefIdeal := hAttnQRefIdeal)
    ∧ quiescent_AttnQRefIdeal_pre_attnq_finite (hAttnQRefIdeal := hAttnQRefIdeal) (hPre_attnq_finite := hPre_attnq_finite)
    ∧ quiescent_Kv (hKv := hKv)
    ∧ quiescent_KvIdeal (hKvIdeal := hKvIdeal)
    ∧ quiescent_KvIdeal_pre_kv_finite (hKvIdeal := hKvIdeal) (hPre_kv_finite := hPre_kv_finite)
    ∧ quiescent_KvRefIdeal (hKvRefIdeal := hKvRefIdeal)
    ∧ quiescent_KvRefIdeal_pre_kv_finite (hKvRefIdeal := hKvRefIdeal) (hPre_kv_finite := hPre_kv_finite)
    ∧ quiescent_BiasGrad (hBiasGrad := hBiasGrad)
    ∧ quiescent_BiasGradIdeal (hBiasGradIdeal := hBiasGradIdeal)
    ∧ quiescent_BiasGradIdeal_pre_bias_finite (hBiasGradIdeal := hBiasGradIdeal) (hPre_bias_finite := hPre_bias_finite)
    ∧ quiescent_BiasGradRefIdeal (hBiasGradRefIdeal := hBiasGradRefIdeal)
    ∧ quiescent_BiasGradRefIdeal_pre_bias_finite (hBiasGradRefIdeal := hBiasGradRefIdeal) (hPre_bias_finite := hPre_bias_finite)
    ∧ quiescent_Sgu (hSgu := hSgu)
    ∧ quiescent_SguIdeal (hSguIdeal := hSguIdeal)
    ∧ quiescent_SguIdeal_pre_sgu_finite (hSguIdeal := hSguIdeal) (hPre_sgu_finite := hPre_sgu_finite)
    ∧ quiescent_SguRefIdeal (hSguRefIdeal := hSguRefIdeal)
    ∧ quiescent_SguRefIdeal_pre_sgu_finite (hSguRefIdeal := hSguRefIdeal) (hPre_sgu_finite := hPre_sgu_finite)
    ∧ quiescent_FfnLn (hFfnLn := hFfnLn)
    ∧ quiescent_FfnLnIdeal (hFfnLnIdeal := hFfnLnIdeal)
    ∧ quiescent_FfnLnRefIdeal (hFfnLnRefIdeal := hFfnLnRefIdeal)
    ∧ quiescent_MixLn (hMixLn := hMixLn)
    ∧ quiescent_MixLnIdeal (hMixLnIdeal := hMixLnIdeal)
    ∧ quiescent_MixLnRefIdeal (hMixLnRefIdeal := hMixLnRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_GmlpUp (hGmlpUp := hGmlpUp)
    ∧ quiescent_GmlpUpIdeal (hGmlpUpIdeal := hGmlpUpIdeal)
    ∧ quiescent_GmlpUpRefIdeal (hGmlpUpRefIdeal := hGmlpUpRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ preserves_LaneSum_LaneSumIdeal
    ∧ algebraic_LaneSumIdeal_LaneSumRefIdeal (hLaneSumIdeal := hLaneSumIdeal) (hLaneSumRefIdeal := hLaneSumRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_FfnAct_FfnActIdeal
    ∧ algebraic_FfnActIdeal_FfnActRefIdeal_pre_ffn_finite (hFfnActIdeal := hFfnActIdeal) (hFfnActRefIdeal := hFfnActRefIdeal) (hPre_ffn_finite := hPre_ffn_finite)
    ∧ preserves_UpFirst_UpFirstIdeal
    ∧ algebraic_UpFirstIdeal_UpFirstRefIdeal (hUpFirstIdeal := hUpFirstIdeal) (hUpFirstRefIdeal := hUpFirstRefIdeal)
    ∧ preserves_UpMixer_UpMixerIdeal
    ∧ algebraic_UpMixerIdeal_UpMixerRefIdeal_pre_up1_finite (hUpMixerIdeal := hUpMixerIdeal) (hUpMixerRefIdeal := hUpMixerRefIdeal) (hPre_up1_finite := hPre_up1_finite)
    ∧ preserves_LossLn_LossLnIdeal
    ∧ algebraic_LossLnIdeal_LossLnRefIdeal_pre_loss_finite (hLossLnIdeal := hLossLnIdeal) (hLossLnRefIdeal := hLossLnRefIdeal) (hPre_loss_finite := hPre_loss_finite)
    ∧ preserves_UpFfn_UpFfnIdeal
    ∧ algebraic_UpFfnIdeal_UpFfnRefIdeal_pre_up2_finite (hUpFfnIdeal := hUpFfnIdeal) (hUpFfnRefIdeal := hUpFfnRefIdeal) (hPre_up2_finite := hPre_up2_finite)
    ∧ preserves_GmlpIn_GmlpInIdeal
    ∧ algebraic_GmlpInIdeal_GmlpInRefIdeal_pre_gmlp_finite (hGmlpInIdeal := hGmlpInIdeal) (hGmlpInRefIdeal := hGmlpInRefIdeal) (hPre_gmlp_finite := hPre_gmlp_finite)
    ∧ preserves_AttnQ_AttnQIdeal
    ∧ algebraic_AttnQIdeal_AttnQRefIdeal_pre_attnq_finite (hAttnQIdeal := hAttnQIdeal) (hAttnQRefIdeal := hAttnQRefIdeal) (hPre_attnq_finite := hPre_attnq_finite)
    ∧ preserves_Kv_KvIdeal
    ∧ algebraic_KvIdeal_KvRefIdeal_pre_kv_finite (hKvIdeal := hKvIdeal) (hKvRefIdeal := hKvRefIdeal) (hPre_kv_finite := hPre_kv_finite)
    ∧ preserves_BiasGrad_BiasGradIdeal
    ∧ algebraic_BiasGradIdeal_BiasGradRefIdeal_pre_bias_finite (hBiasGradIdeal := hBiasGradIdeal) (hBiasGradRefIdeal := hBiasGradRefIdeal) (hPre_bias_finite := hPre_bias_finite)
    ∧ preserves_Sgu_SguIdeal
    ∧ algebraic_SguIdeal_SguRefIdeal_pre_sgu_finite (hSguIdeal := hSguIdeal) (hSguRefIdeal := hSguRefIdeal) (hPre_sgu_finite := hPre_sgu_finite)
    ∧ preserves_FfnLn_FfnLnIdeal
    ∧ algebraic_FfnLnIdeal_FfnLnRefIdeal (hFfnLnIdeal := hFfnLnIdeal) (hFfnLnRefIdeal := hFfnLnRefIdeal)
    ∧ preserves_MixLn_MixLnIdeal
    ∧ algebraic_MixLnIdeal_MixLnRefIdeal (hMixLnIdeal := hMixLnIdeal) (hMixLnRefIdeal := hMixLnRefIdeal)
    ∧ preserves_FfnUp_FfnUpIdeal
    ∧ algebraic_FfnUpIdeal_FfnUpRefIdeal (hFfnUpIdeal := hFfnUpIdeal) (hFfnUpRefIdeal := hFfnUpRefIdeal)
    ∧ preserves_GmlpUp_GmlpUpIdeal
    ∧ algebraic_GmlpUpIdeal_GmlpUpRefIdeal (hGmlpUpIdeal := hGmlpUpIdeal) (hGmlpUpRefIdeal := hGmlpUpRefIdeal)
    ∧ preserves_SguFwd_SguFwdIdeal
    ∧ algebraic_SguFwdIdeal_SguFwdRefIdeal (hSguFwdIdeal := hSguFwdIdeal) (hSguFwdRefIdeal := hSguFwdRefIdeal)
    ∧ preserves_AdaMod_AdaModIdeal
    ∧ algebraic_AdaModIdeal_AdaModRefIdeal (hAdaModIdeal := hAdaModIdeal) (hAdaModRefIdeal := hAdaModRefIdeal)
    ∧ preserves_AttnFwd_AttnFwdIdeal
    ∧ algebraic_AttnFwdIdeal_AttnFwdRefIdeal (hAttnFwdIdeal := hAttnFwdIdeal) (hAttnFwdRefIdeal := hAttnFwdRefIdeal)
-- ==== Pre_attnq_finite.lean ====
abbrev S1x2048x1024 : Shape := ⟨3, ![1, 2048, 1024]⟩
abbrev S1x1x1024 : Shape := ⟨3, ![1, 1, 1024]⟩
abbrev S1024 : Shape := ⟨1, ![1024]⟩
abbrev S1024x1024 : Shape := ⟨2, ![1024, 1024]⟩
abbrev S_ : Shape := ⟨0, ![]⟩

class Facts : Prop where
  bcast_S_S1x2048x1024 : S_.BroadcastsInDim S1x2048x1024 (![] : Fin 0 → Fin S1x2048x1024.rank)
  bcast_S_S1x1x1024 : S_.BroadcastsInDim S1x1x1024 (![] : Fin 0 → Fin S1x1x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg8 : FVec F S1x2048x1024 .f32) (main_arg9 : FVec F S1x2048x1024 .f32) (main_v2 : IVec S1x2048x1024 1) (main_v5 : IVec S1x2048x1024 1) (main_v8 : IVec S1x1x1024 1) (main_v11 : IVec S1024 1) (main_v14 : IVec S1x1x1024 1) (main_v17 : IVec S1024x1024 1) : IVec S1x2048x1024 1 × IVec S1x2048x1024 1 × IVec S1x1x1024 1 × IVec S1024 1 × IVec S1x1x1024 1 × IVec S1024x1024 1 × IVec S1x2048x1024 1 × IVec S1x2048x1024 1 :=
  let main_v18 : FVec F S1x2048x1024 .f32 := Host.absf main_arg8
  let main_cst_5 : FVec F S_ .f32 := constant S_ .f32 0x7F800000#32
  let main_v19 : FVec F S1x2048x1024 .f32 := broadcastInDim S1x2048x1024 ![] bcast_S_S1x2048x1024 main_cst_5
  let main_v20 : IVec S1x2048x1024 1 := cmpf .olt main_v18 main_v19
  let main_v21 : FVec F S1x2048x1024 .f32 := Host.absf main_arg9
  let main_cst_6 : FVec F S_ .f32 := constant S_ .f32 0x7F800000#32
  let main_v22 : FVec F S1x2048x1024 .f32 := broadcastInDim S1x2048x1024 ![] bcast_S_S1x2048x1024 main_cst_6
  let main_v23 : IVec S1x2048x1024 1 := cmpf .olt main_v21 main_v22
  (main_v2, main_v5, main_v8, main_v11, main_v14, main_v17, main_v20, main_v23)

def fn {F : FTy → Type} [FloatOps F] (main_arg0 : FVec F S1x2048x1024 .f32) (main_arg1 : FVec F S1x2048x1024 .f32) (main_arg2 : FVec F S1x1x1024 .f32) (main_arg3 : FVec F S1024 .f32) (main_arg4 : FVec F S1024 .f32) (main_arg5 : FVec F S1x1x1024 .f32) (main_arg6 : FVec F S1x1x1024 .f32) (main_arg7 : FVec F S1024x1024 .f32) (main_arg8 : FVec F S1x2048x1024 .f32) (main_arg9 : FVec F S1x2048x1024 .f32) : IVec S1x2048x1024 1 × IVec S1x2048x1024 1 × IVec S1x1x1024 1 × IVec S1024 1 × IVec S1x1x1024 1 × IVec S1024x1024 1 × IVec S1x2048x1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x1x1024 .f32 := Host.absf main_arg2
  let main_cst_1 : FVec F S_ .f32 := constant S_ .f32 0x7F800000#32
  let main_v7 : FVec F S1x1x1024 .f32 := broadcastInDim S1x1x1024 ![] bcast_S_S1x1x1024 main_cst_1
  let main_v8 : IVec S1x1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1x1024 .f32 := Host.absf main_arg5
  let main_cst_3 : FVec F S_ .f32 := constant S_ .f32 0x7F800000#32
  let main_v13 : FVec F S1x1x1024 .f32 := broadcastInDim S1x1x1024 ![] bcast_S_S1x1x1024 main_cst_3
  let main_v14 : IVec S1x1x1024 1 := cmpf .olt main_v12 main_v13
  let main_v15 : FVec F S1024x1024 .f32 := Host.absf main_arg7
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg8 main_arg9 main_v2 main_v5 main_v8 main_v11 main_v14 main_v17
-- ==== Pre_bias_finite.lean ====
abbrev S16x64x576 : Shape := ⟨3, ![16, 64, 576]⟩
abbrev S_ : Shape := ⟨0, ![]⟩

class Facts : Prop where
  bcast_S_S16x64x576 : S_.BroadcastsInDim S16x64x576 (![] : Fin 0 → Fin S16x64x576.rank)

variable [Facts]

def fn {F : FTy → Type} [FloatOps F] (main_arg0 : FVec F S16x64x576 .f32) : IVec S16x64x576 1 :=
  let main_v0 : FVec F S16x64x576 .f32 := Host.absf main_arg0
  let main_cst : FVec F S_ .f32 := constant S_ .f32 0x7F800000#32
  let main_v1 : FVec F S16x64x576 .f32 := broadcastInDim S16x64x576 ![] bcast_S_S16x64x576 main_cst
  let main_v2 : IVec S16x64x576 1 := cmpf .olt main_v0 main_v1
  main_v2
-- ==== Pre_ffn_finite.lean ====
abbrev S1x2048x5632 : Shape := ⟨3, ![1, 2048, 5632]⟩
abbrev S2816x1024 : Shape := ⟨2, ![2816, 1024]⟩
abbrev S1x2048x1024 : Shape := ⟨3, ![1, 2048, 1024]⟩
abbrev S_ : Shape := ⟨0, ![]⟩

class Facts : Prop where
  bcast_S_S1x2048x5632 : S_.BroadcastsInDim S1x2048x5632 (![] : Fin 0 → Fin S1x2048x5632.rank)
  bcast_S_S2816x1024 : S_.BroadcastsInDim S2816x1024 (![] : Fin 0 → Fin S2816x1024.rank)
  bcast_S_S1x2048x1024 : S_.BroadcastsInDim S1x2048x1024 (![] : Fin 0 → Fin S1x2048x1024.rank)

variable [Facts]

def fn {F : FTy → Type} [FloatOps F] (main_arg0 : FVec F S1x2048x5632 .f32) (main_arg1 : FVec F S2816x1024 .f32) (main_arg2 : FVec F S1x2048x1024 .f32) : IVec S1x2048x5632 1 × IVec S2816x1024 1 × IVec S1x2048x1024 1 :=
  let main_v0 : FVec F S1x2048x5632 .f32 := Host.absf main_arg0
  let main_cst : FVec F S_ .f32 := constant S_ .f32 0x7F800000#32
  let main_v1 : FVec F S1x2048x5632 .f32 := broadcastInDim S1x2048x5632 ![] bcast_S_S1x2048x5632 main_cst
  let main_v2 : IVec S1x2048x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  (main_v2, main_v5, main_v8)
-- ==== Pre_gmlp_finite.lean ====
abbrev S1x2048x1024 : Shape := ⟨3, ![1, 2048, 1024]⟩
abbrev S1x1x1024 : Shape := ⟨3, ![1, 1, 1024]⟩
abbrev S1024 : Shape := ⟨1, ![1024]⟩
abbrev S1024x4096 : Shape := ⟨2, ![1024, 4096]⟩
abbrev S1x2048x4096 : Shape := ⟨3, ![1, 2048, 4096]⟩
abbrev S_ : Shape := ⟨0, ![]⟩

class Facts : Prop where
  bcast_S_S1x2048x1024 : S_.BroadcastsInDim S1x2048x1024 (![] : Fin 0 → Fin S1x2048x1024.rank)
  bcast_S_S1x1x1024 : S_.BroadcastsInDim S1x1x1024 (![] : Fin 0 → Fin S1x1x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S1x2048x4096 : S_.BroadcastsInDim S1x2048x4096 (![] : Fin 0 → Fin S1x2048x4096.rank)

variable [Facts]

def fn_part1 {F : FTy → Type} [FloatOps F] (main_arg8 : FVec F S1x2048x1024 .f32) (main_arg9 : FVec F S1x2048x4096 .f32) (main_v2 : IVec S1x2048x1024 1) (main_v5 : IVec S1x2048x1024 1) (main_v8 : IVec S1x1x1024 1) (main_v11 : IVec S1024 1) (main_v14 : IVec S1x1x1024 1) (main_v17 : IVec S1024x4096 1) : IVec S1x2048x1024 1 × IVec S1x2048x1024 1 × IVec S1x1x1024 1 × IVec S1024 1 × IVec S1x1x1024 1 × IVec S1024x4096 1 × IVec S1x2048x1024 1 × IVec S1x2048x4096 1 :=
  let main_v18 : FVec F S1x2048x1024 .f32 := Host.absf main_arg8
  let main_cst_5 : FVec F S_ .f32 := constant S_ .f32 0x7F800000#32
  let main_v19 : FVec F S1x2048x1024 .f32 := broadcastInDim S1x2048x1024 ![] bcast_S_S1x2048x1024 main_cst_5
  let main_v20 : IVec S1x2048x1024 1 := cmpf .olt main_v18 main_v19
  let main_v21 : FVec F S1x2048x4096 .f32 := Host.absf main_arg9
  let main_cst_6 : FVec F S_ .f32 := constant S_ .f32 0x7F800000#32
  let main_v22 : FVec F S1x2048x4096 .f32 := broadcastInDim S1x2048x4096 ![] bcast_S_S1x2048x4096 main_cst_6
  let main_v23 : IVec S1x2048x4096 1 := cmpf .olt main_v21 main_v22
  (main_v2, main_v5, main_v8, main_v11, main_v14, main_v17, main_v20, main_v23)

def fn {F : FTy → Type} [FloatOps F] (main_arg0 : FVec F S1x2048x1024 .f32) (main_arg1 : FVec F S1x2048x1024 .f32) (main_arg2 : FVec F S1x1x1024 .f32) (main_arg3 : FVec F S1024 .f32) (main_arg4 : FVec F S1024 .f32) (main_arg5 : FVec F S1x1x1024 .f32) (main_arg6 : FVec F S1x1x1024 .f32) (main_arg7 : FVec F S1024x4096 .f32) (main_arg8 : FVec F S1x2048x1024 .f32) (main_arg9 : FVec F S1x2048x4096 .f32) : IVec S1x2048x1024 1 × IVec S1x2048x1024 1 × IVec S1x1x1024 1 × IVec S1024 1 × IVec S1x1x1024 1 × IVec S1024x4096 1 × IVec S1x2048x1024 1 × IVec S1x2048x4096 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x1x1024 .f32 := Host.absf main_arg2
  let main_cst_1 : FVec F S_ .f32 := constant S_ .f32 0x7F800000#32
  let main_v7 : FVec F S1x1x1024 .f32 := broadcastInDim S1x1x1024 ![] bcast_S_S1x1x1024 main_cst_1
  let main_v8 : IVec S1x1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1x1024 .f32 := Host.absf main_arg5
  let main_cst_3 : FVec F S_ .f32 := constant S_ .f32 0x7F800000#32
  let main_v13 : FVec F S1x1x1024 .f32 := broadcastInDim S1x1x1024 ![] bcast_S_S1x1x1024 main_cst_3
  let main_v14 : IVec S1x1x1024 1 := cmpf .olt main_v12 main_v13
  let main_v15 : FVec F S1024x4096 .f32 := Host.absf main_arg7
  let main_cst_4 : FVec F S_ .f32 := constant S_ .f32 0x7F800000#32
  let main_v16 : FVec F S1024x4096 .f32 := broadcastInDim S1024x4096 ![] bcast_S_S1024x4096 main_cst_4
  let main_v17 : IVec S1024x4096 1 := cmpf .olt main_v15 main_v16
  fn_part1 (F := F) main_arg8 main_arg9 main_v2 main_v5 main_v8 main_v11 main_v14 main_v17
-- ==== Pre_kv_finite.lean ====
abbrev S1x2048x1024 : Shape := ⟨3, ![1, 2048, 1024]⟩
abbrev S1x1x1024 : Shape := ⟨3, ![1, 1, 1024]⟩
abbrev S1024 : Shape := ⟨1, ![1024]⟩
abbrev S1024x2048 : Shape := ⟨2, ![1024, 2048]⟩
abbrev S1x2048x2048 : Shape := ⟨3, ![1, 2048, 2048]⟩
abbrev S_ : Shape := ⟨0, ![]⟩

class Facts : Prop where
  bcast_S_S1x2048x1024 : S_.BroadcastsInDim S1x2048x1024 (![] : Fin 0 → Fin S1x2048x1024.rank)
  bcast_S_S1x1x1024 : S_.BroadcastsInDim S1x1x1024 (![] : Fin 0 → Fin S1x1x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S1x2048x2048 : S_.BroadcastsInDim S1x2048x2048 (![] : Fin 0 → Fin S1x2048x2048.rank)

variable [Facts]

def fn_part1 {F : FTy → Type} [FloatOps F] (main_arg8 : FVec F S1x2048x1024 .f32) (main_arg9 : FVec F S1x2048x2048 .f32) (main_v2 : IVec S1x2048x1024 1) (main_v5 : IVec S1x2048x1024 1) (main_v8 : IVec S1x1x1024 1) (main_v11 : IVec S1024 1) (main_v14 : IVec S1x1x1024 1) (main_v17 : IVec S1024x2048 1) : IVec S1x2048x1024 1 × IVec S1x2048x1024 1 × IVec S1x1x1024 1 × IVec S1024 1 × IVec S1x1x1024 1 × IVec S1024x2048 1 × IVec S1x2048x1024 1 × IVec S1x2048x2048 1 :=
  let main_v18 : FVec F S1x2048x1024 .f32 := Host.absf main_arg8
  let main_cst_5 : FVec F S_ .f32 := constant S_ .f32 0x7F800000#32
  let main_v19 : FVec F S1x2048x1024 .f32 := broadcastInDim S1x2048x1024 ![] bcast_S_S1x2048x1024 main_cst_5
  let main_v20 : IVec S1x2048x1024 1 := cmpf .olt main_v18 main_v19
  let main_v21 : FVec F S1x2048x2048 .f32 := Host.absf main_arg9
  let main_cst_6 : FVec F S_ .f32 := constant S_ .f32 0x7F800000#32
  let main_v22 : FVec F S1x2048x2048 .f32 := broadcastInDim S1x2048x2048 ![] bcast_S_S1x2048x2048 main_cst_6
  let main_v23 : IVec S1x2048x2048 1 := cmpf .olt main_v21 main_v22
  (main_v2, main_v5, main_v8, main_v11, main_v14, main_v17, main_v20, main_v23)

def fn {F : FTy → Type} [FloatOps F] (main_arg0 : FVec F S1x2048x1024 .f32) (main_arg1 : FVec F S1x2048x1024 .f32) (main_arg2 : FVec F S1x1x1024 .f32) (main_arg3 : FVec F S1024 .f32) (main_arg4 : FVec F S1024 .f32) (main_arg5 : FVec F S1x1x1024 .f32) (main_arg6 : FVec F S1x1x1024 .f32) (main_arg7 : FVec F S1024x2048 .f32) (main_arg8 : FVec F S1x2048x1024 .f32) (main_arg9 : FVec F S1x2048x2048 .f32) : IVec S1x2048x1024 1 × IVec S1x2048x1024 1 × IVec S1x1x1024 1 × IVec S1024 1 × IVec S1x1x1024 1 × IVec S1024x2048 1 × IVec S1x2048x1024 1 × IVec S1x2048x2048 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x1x1024 .f32 := Host.absf main_arg2
  let main_cst_1 : FVec F S_ .f32 := constant S_ .f32 0x7F800000#32
  let main_v7 : FVec F S1x1x1024 .f32 := broadcastInDim S1x1x1024 ![] bcast_S_S1x1x1024 main_cst_1
  let main_v8 : IVec S1x1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1x1024 .f32 := Host.absf main_arg5
  let main_cst_3 : FVec F S_ .f32 := constant S_ .f32 0x7F800000#32
  let main_v13 : FVec F S1x1x1024 .f32 := broadcastInDim S1x1x1024 ![] bcast_S_S1x1x1024 main_cst_3
  let main_v14 : IVec S1x1x1024 1 := cmpf .olt main_v12 main_v13
  let main_v15 : FVec F S1024x2048 .f32 := Host.absf main_arg7
  let main_cst_4 : FVec F S_ .f32 := constant S_ .f32 0x7F800000#32
  let main_v16 : FVec F S1024x2048 .f32 := broadcastInDim S1024x2048 ![] bcast_S_S1024x2048 main_cst_4
  let main_v17 : IVec S1024x2048 1 := cmpf .olt main_v15 main_v16
  fn_part1 (F := F) main_arg8 main_arg9 main_v2 main_v5 main_v8 main_v11 main_v14 main_v17
-- ==== Pre_loss_finite.lean ====
abbrev S1x2048x1024 : Shape := ⟨3, ![1, 2048, 1024]⟩
abbrev S1x1x1024 : Shape := ⟨3, ![1, 1, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S1x1x1024 : S_.BroadcastsInDim S1x1x1024 (![] : Fin 0 → Fin S1x1x1024.rank)
  bcast_S_S1024 : S_.BroadcastsInDim S1024 (![] : Fin 0 → Fin S1024.rank)

variable [Facts]

def fn {F : FTy → Type} [FloatOps F] (main_arg0 : FVec F S1x2048x1024 .f32) (main_arg1 : FVec F S1x2048x1024 .f32) (main_arg2 : FVec F S1x1x1024 .f32) (main_arg3 : FVec F S1024 .f32) (main_arg4 : FVec F S1024 .f32) (main_arg5 : FVec F S1x2048x1024 .f32) : IVec S1x2048x1024 1 × IVec S1x2048x1024 1 × IVec S1x1x1024 1 × IVec S1024 1 × IVec S1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x1x1024 .f32 := Host.absf main_arg2
  let main_cst_1 : FVec F S_ .f32 := constant S_ .f32 0x7F800000#32
  let main_v7 : FVec F S1x1x1024 .f32 := broadcastInDim S1x1x1024 ![] bcast_S_S1x1x1024 main_cst_1
  let main_v8 : IVec S1x1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x2048x1024 .f32 := Host.absf main_arg5
  let main_cst_4 : FVec F S_ .f32 := constant S_ .f32 0x7F800000#32
  let main_v16 : FVec F S1x2048x1024 .f32 := broadcastInDim S1x2048x1024 ![] bcast_S_S1x2048x1024 main_cst_4
  let main_v17 : IVec S1x2048x1024 1 := cmpf .olt main_v15 main_v16
  (main_v2, main_v5, main_v8, main_v11, main_v14, main_v17)
-- ==== Pre_sgu_finite.lean ====
abbrev S1x2048x4096 : Shape := ⟨3, ![1, 2048, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S1x2048x2048 : Shape := ⟨3, ![1, 2048, 2048]⟩
abbrev S_ : Shape := ⟨0, ![]⟩

class Facts : Prop where
  bcast_S_S1x2048x4096 : S_.BroadcastsInDim S1x2048x4096 (![] : Fin 0 → Fin S1x2048x4096.rank)
  bcast_S_S4096 : S_.BroadcastsInDim S4096 (![] : Fin 0 → Fin S4096.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1x2048x2048 : S_.BroadcastsInDim S1x2048x2048 (![] : Fin 0 → Fin S1x2048x2048.rank)

variable [Facts]

def fn_part1 {F : FTy → Type} [FloatOps F] (main_arg6 : FVec F S1x2048x2048 .f32) (main_v2 : IVec S1x2048x4096 1) (main_v5 : IVec S4096 1) (main_v8 : IVec S2048 1) (main_v11 : IVec S2048 1) (main_v14 : IVec S8x128x128 1) (main_v17 : IVec S8x128 1) : IVec S1x2048x4096 1 × IVec S4096 1 × IVec S2048 1 × IVec S2048 1 × IVec S8x128x128 1 × IVec S8x128 1 × IVec S1x2048x2048 1 :=
  let main_v18 : FVec F S1x2048x2048 .f32 := Host.absf main_arg6
  let main_cst_5 : FVec F S_ .f32 := constant S_ .f32 0x7F800000#32
  let main_v19 : FVec F S1x2048x2048 .f32 := broadcastInDim S1x2048x2048 ![] bcast_S_S1x2048x2048 main_cst_5
  let main_v20 : IVec S1x2048x2048 1 := cmpf .olt main_v18 main_v19
  (main_v2, main_v5, main_v8, main_v11, main_v14, main_v17, main_v20)

def fn {F : FTy → Type} [FloatOps F] (main_arg0 : FVec F S1x2048x4096 .f32) (main_arg1 : FVec F S4096 .f32) (main_arg2 : FVec F S2048 .f32) (main_arg3 : FVec F S2048 .f32) (main_arg4 : FVec F S8x128x128 .f32) (main_arg5 : FVec F S8x128 .f32) (main_arg6 : FVec F S1x2048x2048 .f32) : IVec S1x2048x4096 1 × IVec S4096 1 × IVec S2048 1 × IVec S2048 1 × IVec S8x128x128 1 × IVec S8x128 1 × IVec S1x2048x2048 1 :=
  let main_v0 : FVec F S1x2048x4096 .f32 := Host.absf main_arg0
  let main_cst : FVec F S_ .f32 := constant S_ .f32 0x7F800000#32
  let main_v1 : FVec F S1x2048x4096 .f32 := broadcastInDim S1x2048x4096 ![] bcast_S_S1x2048x4096 main_cst
  let main_v2 : IVec S1x2048x4096 1 := cmpf .olt main_v0 main_v1
  let main_v3 : FVec F S4096 .f32 := Host.absf main_arg1
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  fn_part1 (F := F) main_arg6 main_v2 main_v5 main_v8 main_v11 main_v14 main_v17
-- ==== Pre_up1_finite.lean ====
abbrev S1x2048x1024 : Shape := ⟨3, ![1, 2048, 1024]⟩
abbrev S1x1x1024 : Shape := ⟨3, ![1, 1, 1024]⟩
abbrev S1024 : Shape := ⟨1, ![1024]⟩
abbrev S1024x5632 : Shape := ⟨2, ![1024, 5632]⟩
abbrev S1x2048x5632 : Shape := ⟨3, ![1, 2048, 5632]⟩
abbrev S_ : Shape := ⟨0, ![]⟩

class Facts : Prop where
  bcast_S_S1x2048x1024 : S_.BroadcastsInDim S1x2048x1024 (![] : Fin 0 → Fin S1x2048x1024.rank)
  bcast_S_S1x1x1024 : S_.BroadcastsInDim S1x1x1024 (![] : Fin 0 → Fin S1x1x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S1x2048x5632 : S_.BroadcastsInDim S1x2048x5632 (![] : Fin 0 → Fin S1x2048x5632.rank)

variable [Facts]

def fn_part1 {F : FTy → Type} [FloatOps F] (main_arg8 : FVec F S1x2048x1024 .f32) (main_arg9 : FVec F S1x2048x5632 .f32) (main_v2 : IVec S1x2048x1024 1) (main_v5 : IVec S1x2048x1024 1) (main_v8 : IVec S1x1x1024 1) (main_v11 : IVec S1024 1) (main_v14 : IVec S1x1x1024 1) (main_v17 : IVec S1024x5632 1) : IVec S1x2048x1024 1 × IVec S1x2048x1024 1 × IVec S1x1x1024 1 × IVec S1024 1 × IVec S1x1x1024 1 × IVec S1024x5632 1 × IVec S1x2048x1024 1 × IVec S1x2048x5632 1 :=
  let main_v18 : FVec F S1x2048x1024 .f32 := Host.absf main_arg8
  let main_cst_5 : FVec F S_ .f32 := constant S_ .f32 0x7F800000#32
  let main_v19 : FVec F S1x2048x1024 .f32 := broadcastInDim S1x2048x1024 ![] bcast_S_S1x2048x1024 main_cst_5
  let main_v20 : IVec S1x2048x1024 1 := cmpf .olt main_v18 main_v19
  let main_v21 : FVec F S1x2048x5632 .f32 := Host.absf main_arg9
  let main_cst_6 : FVec F S_ .f32 := constant S_ .f32 0x7F800000#32
  let main_v22 : FVec F S1x2048x5632 .f32 := broadcastInDim S1x2048x5632 ![] bcast_S_S1x2048x5632 main_cst_6
  let main_v23 : IVec S1x2048x5632 1 := cmpf .olt main_v21 main_v22
  (main_v2, main_v5, main_v8, main_v11, main_v14, main_v17, main_v20, main_v23)

def fn {F : FTy → Type} [FloatOps F] (main_arg0 : FVec F S1x2048x1024 .f32) (main_arg1 : FVec F S1x2048x1024 .f32) (main_arg2 : FVec F S1x1x1024 .f32) (main_arg3 : FVec F S1024 .f32) (main_arg4 : FVec F S1024 .f32) (main_arg5 : FVec F S1x1x1024 .f32) (main_arg6 : FVec F S1x1x1024 .f32) (main_arg7 : FVec F S1024x5632 .f32) (main_arg8 : FVec F S1x2048x1024 .f32) (main_arg9 : FVec F S1x2048x5632 .f32) : IVec S1x2048x1024 1 × IVec S1x2048x1024 1 × IVec S1x1x1024 1 × IVec S1024 1 × IVec S1x1x1024 1 × IVec S1024x5632 1 × IVec S1x2048x1024 1 × IVec S1x2048x5632 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x1x1024 .f32 := Host.absf main_arg2
  let main_cst_1 : FVec F S_ .f32 := constant S_ .f32 0x7F800000#32
  let main_v7 : FVec F S1x1x1024 .f32 := broadcastInDim S1x1x1024 ![] bcast_S_S1x1x1024 main_cst_1
  let main_v8 : IVec S1x1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1x1024 .f32 := Host.absf main_arg5
  let main_cst_3 : FVec F S_ .f32 := constant S_ .f32 0x7F800000#32
  let main_v13 : FVec F S1x1x1024 .f32 := broadcastInDim S1x1x1024 ![] bcast_S_S1x1x1024 main_cst_3
  let main_v14 : IVec S1x1x1024 1 := cmpf .olt main_v12 main_v13
  let main_v15 : FVec F S1024x5632 .f32 := Host.absf main_arg7
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg8 main_arg9 main_v2 main_v5 main_v8 main_v11 main_v14 main_v17
-- ==== Pre_up2_finite.lean ====
abbrev S1x2048x1024 : Shape := ⟨3, ![1, 2048, 1024]⟩
abbrev S1x1x1024 : Shape := ⟨3, ![1, 1, 1024]⟩
abbrev S1024 : Shape := ⟨1, ![1024]⟩
abbrev S1024x5632 : Shape := ⟨2, ![1024, 5632]⟩
abbrev S1x2048x5632 : Shape := ⟨3, ![1, 2048, 5632]⟩
abbrev S_ : Shape := ⟨0, ![]⟩

class Facts : Prop where
  bcast_S_S1x2048x1024 : S_.BroadcastsInDim S1x2048x1024 (![] : Fin 0 → Fin S1x2048x1024.rank)
  bcast_S_S1x1x1024 : S_.BroadcastsInDim S1x1x1024 (![] : Fin 0 → Fin S1x1x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S1x2048x5632 : S_.BroadcastsInDim S1x2048x5632 (![] : Fin 0 → Fin S1x2048x5632.rank)

variable [Facts]

def fn_part1 {F : FTy → Type} [FloatOps F] (main_arg8 : FVec F S1x2048x1024 .f32) (main_arg9 : FVec F S1x2048x5632 .f32) (main_v2 : IVec S1x2048x1024 1) (main_v5 : IVec S1x2048x1024 1) (main_v8 : IVec S1x1x1024 1) (main_v11 : IVec S1024 1) (main_v14 : IVec S1x1x1024 1) (main_v17 : IVec S1024x5632 1) : IVec S1x2048x1024 1 × IVec S1x2048x1024 1 × IVec S1x1x1024 1 × IVec S1024 1 × IVec S1x1x1024 1 × IVec S1024x5632 1 × IVec S1x2048x1024 1 × IVec S1x2048x5632 1 :=
  let main_v18 : FVec F S1x2048x1024 .f32 := Host.absf main_arg8
  let main_cst_5 : FVec F S_ .f32 := constant S_ .f32 0x7F800000#32
  let main_v19 : FVec F S1x2048x1024 .f32 := broadcastInDim S1x2048x1024 ![] bcast_S_S1x2048x1024 main_cst_5
  let main_v20 : IVec S1x2048x1024 1 := cmpf .olt main_v18 main_v19
  let main_v21 : FVec F S1x2048x5632 .f32 := Host.absf main_arg9
  let main_cst_6 : FVec F S_ .f32 := constant S_ .f32 0x7F800000#32
  let main_v22 : FVec F S1x2048x5632 .f32 := broadcastInDim S1x2048x5632 ![] bcast_S_S1x2048x5632 main_cst_6
  let main_v23 : IVec S1x2048x5632 1 := cmpf .olt main_v21 main_v22
  (main_v2, main_v5, main_v8, main_v11, main_v14, main_v17, main_v20, main_v23)

def fn {F : FTy → Type} [FloatOps F] (main_arg0 : FVec F S1x2048x1024 .f32) (main_arg1 : FVec F S1x2048x1024 .f32) (main_arg2 : FVec F S1x1x1024 .f32) (main_arg3 : FVec F S1024 .f32) (main_arg4 : FVec F S1024 .f32) (main_arg5 : FVec F S1x1x1024 .f32) (main_arg6 : FVec F S1x1x1024 .f32) (main_arg7 : FVec F S1024x5632 .f32) (main_arg8 : FVec F S1x2048x1024 .f32) (main_arg9 : FVec F S1x2048x5632 .f32) : IVec S1x2048x1024 1 × IVec S1x2048x1024 1 × IVec S1x1x1024 1 × IVec S1024 1 × IVec S1x1x1024 1 × IVec S1024x5632 1 × IVec S1x2048x1024 1 × IVec S1x2048x5632 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x1x1024 .f32 := Host.absf main_arg2
  let main_cst_1 : FVec F S_ .f32 := constant S_ .f32 0x7F800000#32
  let main_v7 : FVec F S1x1x1024 .f32 := broadcastInDim S1x1x1024 ![] bcast_S_S1x1x1024 main_cst_1
  let main_v8 : IVec S1x1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1x1024 .f32 := Host.absf main_arg5
  let main_cst_3 : FVec F S_ .f32 := constant S_ .f32 0x7F800000#32
  let main_v13 : FVec F S1x1x1024 .f32 := broadcastInDim S1x1x1024 ![] bcast_S_S1x1x1024 main_cst_3
  let main_v14 : IVec S1x1x1024 1 := cmpf .olt main_v12 main_v13
  let main_v15 : FVec F S1024x5632 .f32 := Host.absf main_arg7
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg8 main_arg9 main_v2 main_v5 main_v8 main_v11 main_v14 main_v17
-- ==== LaneSum.lean ====
abbrev S128x2048 : Shape := ⟨2, ![128, 2048]⟩
abbrev S128x128 : Shape := ⟨2, ![128, 128]⟩
abbrev S2048x128 : Shape := ⟨2, ![2048, 128]⟩

abbrev nBuf : Space → Nat
  | .hbm => 2
  | .vmem => 2
  | .smem => 0
  | _ => 0

abbrev bufTy : (tb : Table) → Fin (tcTables nBuf tb) → BufTy
  | .hbm, ⟨0, _⟩ => ⟨S128x2048, .f32⟩
  | .hbm, ⟨1, _⟩ => ⟨S128x128, .f32⟩
  | .local _ .vmem, ⟨0, _⟩ => ⟨S128x2048, .f32⟩
  | .local _ .vmem, ⟨1, _⟩ => ⟨S128x128, .f32⟩
  | _, _ => ⟨S128x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LaneSumRefIdeal.lean ====
abbrev S128x2048 : Shape := ⟨2, ![128, 2048]⟩
abbrev S_ : Shape := ⟨0, ![]⟩
abbrev S8x128 : Shape := ⟨2, ![8, 128]⟩
abbrev S128x8 : Shape := ⟨2, ![128, 8]⟩
abbrev S128x8x1 : Shape := ⟨3, ![128, 8, 1]⟩
abbrev S128x8x256 : Shape := ⟨3, ![128, 8, 256]⟩
abbrev S128x120 : Shape := ⟨2, ![128, 120]⟩
abbrev S128x128 : Shape := ⟨2, ![128, 128]⟩

abbrev nBuf : Space → Nat
  | .hbm => 17
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S_, .f32⟩
  | .hbm, ⟨2, _⟩ => ⟨S8x128, .f32⟩
  | .hbm, ⟨3, _⟩ => ⟨S128x8, .f32⟩
  | .hbm, ⟨4, _⟩ => ⟨S128x8x1, .f32⟩
  | .hbm, ⟨5, _⟩ => ⟨S128x8x256, .f32⟩
  | .hbm, ⟨6, _⟩ => ⟨S128x8x256, .f32⟩
  | .hbm, ⟨7, _⟩ => ⟨S_, .f32⟩
  | .hbm, ⟨8, _⟩ => ⟨S128x8, .f32⟩
  | .hbm, ⟨9, _⟩ => ⟨S128x8x1, .f32⟩
  | .hbm, ⟨10, _⟩ => ⟨S_, .f32⟩
  | .hbm, ⟨11, _⟩ => ⟨S128x8, .f32⟩
  | .hbm, ⟨12, _⟩ => ⟨S8x128, .f32⟩
  | .hbm, ⟨13, _⟩ => ⟨S128x8, .f32⟩
  | .hbm, ⟨14, _⟩ => ⟨S_, .f32⟩
  | .hbm, ⟨15, _⟩ => ⟨S128x120, .f32⟩
  | .hbm, ⟨16, _⟩ => ⟨S128x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== AdaGrad.lean ====
abbrev S8x1024 : Shape := ⟨2, ![8, 1024]⟩
abbrev S4x8x2304 : Shape := ⟨3, ![4, 8, 2304]⟩
abbrev S1024x8 : Shape := ⟨2, ![1024, 8]⟩
abbrev S4x1024x2304 : Shape := ⟨3, ![4, 1024, 2304]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x2304, .f32⟩
  | .hbm, ⟨2, _⟩ => ⟨S1024x8, .f32⟩
  | .hbm, ⟨3, _⟩ => ⟨S4x1024x2304, .f32⟩
  | .local _ .vmem, ⟨0, _⟩ => ⟨S1024x8, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaGradRefIdeal.lean ====
abbrev S8x1024 : Shape := ⟨2, ![8, 1024]⟩
abbrev S4x8x2304 : Shape := ⟨3, ![4, 8, 2304]⟩
abbrev S_ : Shape := ⟨0, ![]⟩
abbrev S4x1024x2304 : Shape := ⟨3, ![4, 1024, 2304]⟩
abbrev S4x2304x8 : Shape := ⟨3, ![4, 2304, 8]⟩
abbrev S4x2304x1024 : Shape := ⟨3, ![4, 2304, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x2304, .f32⟩
  | .hbm, ⟨2, _⟩ => ⟨S_, .f32⟩
  | .hbm, ⟨3, _⟩ => ⟨S4x1024x2304, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S4x2304x8, .f32⟩
  | .hbm, ⟨14, _⟩ => ⟨S4x8x2304, .f32⟩
  | .hbm, ⟨15, _⟩ => ⟨S4x2304x8, .f32⟩
  | .hbm, ⟨16, _⟩ => ⟨S4x2304x1024, .f32⟩
  | .hbm, ⟨17, _⟩ => ⟨S4x1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== FfnAct.lean ====
abbrev S1x2048x5632 : Shape := ⟨3, ![1, 2048, 5632]⟩
abbrev S2816x1024 : Shape := ⟨2, ![2816, 1024]⟩
abbrev S1x2048x1024 : Shape := ⟨3, ![1, 2048, 1024]⟩
abbrev S2048x1024 : Shape := ⟨2, ![2048, 1024]⟩
abbrev S2048x5632 : Shape := ⟨2, ![2048, 5632]⟩
abbrev S_ : Shape := ⟨0, ![]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 11
  | .vmem => 7
  | .smem => 0
  | _ => 0

abbrev bufTy : (tb : Table) → Fin (tcTables nBuf tb) → BufTy
  | .hbm, ⟨0, _⟩ => ⟨S1x2048x5632, .f32⟩
  | .hbm, ⟨1, _⟩ => ⟨S2816x1024, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S2816x1024, .bf16⟩
  | .hbm, ⟨6, _⟩ => ⟨S2048x5632, .f32⟩
  | .hbm, ⟨7, _⟩ => ⟨S2048x5632, .bf16⟩
  | .hbm, ⟨8, _⟩ => ⟨S_, .f32⟩
  | .hbm, ⟨9, _⟩ => ⟨S8x128, .f32⟩
  | .hbm, ⟨10, _⟩ => ⟨S2048x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnActRefIdeal.lean ====
abbrev S1x2048x5632 : Shape := ⟨3, ![1, 2048, 5632]⟩
abbrev S2816x1024 : Shape := ⟨2, ![2816, 1024]⟩
abbrev S1x2048x1024 : Shape := ⟨3, ![1, 2048, 1024]⟩
abbrev S1x2048x2816 : Shape := ⟨3, ![1, 2048, 2816]⟩
abbrev S_ : Shape := ⟨0, ![]⟩
abbrev S2048x5632 : Shape := ⟨2, ![2048, 5632]⟩

abbrev nBuf : Space → Nat
  | .hbm => 30
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S2816x1024, .f32⟩
  | .hbm, ⟨2, _⟩ => ⟨S1x2048x1024, .f32⟩
  | .hbm, ⟨3, _⟩ => ⟨S1x2048x2816, .f32⟩
  | .hbm, ⟨4, _⟩ => ⟨S1x2048x2816, .f32⟩
  | .hbm, ⟨5, _⟩ => ⟨S1x2048x2816, .f32⟩
  | .hbm, ⟨6, _⟩ => ⟨S1x2048x2816, .f32⟩
  | .hbm, ⟨7, _⟩ => ⟨S_, .f32⟩
  | .hbm, ⟨8, _⟩ => ⟨S1x2048x2816, .f32⟩
  | .hbm, ⟨9, _⟩ => ⟨S1x2048x2816, .f32⟩
  | .hbm, ⟨10, _⟩ => ⟨S_, .f32⟩
  | .hbm, ⟨11, _⟩ => ⟨S1x2048x2816, .f32⟩
  | .hbm, ⟨12, _⟩ => ⟨S1x2048x2816, .f32⟩
  | .hbm, ⟨13, _⟩ => ⟨S_, .f32⟩
  | .hbm, ⟨14, _⟩ => ⟨S1x2048x2816, .f32⟩
  | .hbm, ⟨15, _⟩ => ⟨S1x2048x2816, .f32⟩
  | .hbm, ⟨16, _⟩ => ⟨S1x2048x2816, .f32⟩
  | .hbm, ⟨17, _⟩ => ⟨S1x2048x2816, .f32⟩
  | .hbm, ⟨18, _⟩ => ⟨S1x2048x2816, .f32⟩
  | .hbm, ⟨19, _⟩ => ⟨S1x2048x1024, .f32⟩
  | .hbm, ⟨20, _⟩ => ⟨S1x2048x2816, .f32⟩
  | .hbm, ⟨21, _⟩ => ⟨S1x2048x2816, .f32⟩
  | .hbm, ⟨22, _⟩ => ⟨S1x2048x2816, .f32⟩
  | .hbm, ⟨23, _⟩ => ⟨S1x2048x2816, .f32⟩
  | .hbm, ⟨24, _⟩ => ⟨S1x2048x2816, .f32⟩
  | .hbm, ⟨25, _⟩ => ⟨S1x2048x2816, .f32⟩
  | .hbm, ⟨26, _⟩ => ⟨S1x2048x2816, .f32⟩
  | .hbm, ⟨27, _⟩ => ⟨S1x2048x5632, .f32⟩
  | .hbm, ⟨28, _⟩ => ⟨S2048x5632, .f32⟩
  | .hbm, ⟨29, _⟩ => ⟨S2048x5632, .bf16⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== UpFirst.lean ====
abbrev S1x2048x1024 : Shape := ⟨3, ![1, 2048, 1024]⟩
abbrev S1x1x1024 : Shape := ⟨3, ![1, 1, 1024]⟩
abbrev S1024x5632 : Shape := ⟨2, ![1024, 5632]⟩
abbrev S1x2048x5632 : Shape := ⟨3, ![1, 2048, 5632]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S2048x1024 : Shape := ⟨2, ![2048, 1024]⟩
abbrev S1x1024 : Shape := ⟨2, ![1, 1024]⟩
abbrev S8x1024 : Shape := ⟨2, ![8, 1024]⟩
abbrev S256x5632 : Shape := ⟨2, ![256, 5632]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩
abbrev S1024 : Shape := ⟨1, ![1024]⟩

abbrev nBuf : Space → Nat
  | .hbm => 16
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1024x5632, .f32⟩
  | .hbm, ⟨4, _⟩ => ⟨S1x2048x1024, .f32⟩
  | .hbm, ⟨5, _⟩ => ⟨S1x2048x5632, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2048x5632, .f32⟩
  | .hbm, ⟨10, _⟩ => ⟨S2048x5632, .bf16⟩
  | .hbm, ⟨11, _⟩ => ⟨S2048x1024, .f32⟩
  | .hbm, ⟨12, _⟩ => ⟨S2048x1024, .f32⟩
  | .hbm, ⟨13, _⟩ => ⟨S1x1024, .f32⟩
  | .hbm, ⟨14, _⟩ => ⟨S2048x1024, .f32⟩
  | .hbm, ⟨15, _⟩ => ⟨S8x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== UpFirstRefIdeal.lean ====
abbrev S1x2048x1024 : Shape := ⟨3, ![1, 2048, 1024]⟩
abbrev S1x1x1024 : Shape := ⟨3, ![1, 1, 1024]⟩
abbrev S1024x5632 : Shape := ⟨2, ![1024, 5632]⟩
abbrev S1x2048x5632 : Shape := ⟨3, ![1, 2048, 5632]⟩
abbrev S_ : Shape := ⟨0, ![]⟩
abbrev S1x1024 : Shape := ⟨2, ![1, 1024]⟩
abbrev S6x1024 : Shape := ⟨2, ![6, 1024]⟩
abbrev S8x1024 : Shape := ⟨2, ![8, 1024]⟩
abbrev S2048x1024 : Shape := ⟨2, ![2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1024x5632, .f32⟩
  | .hbm, ⟨4, _⟩ => ⟨S1x2048x1024, .f32⟩
  | .hbm, ⟨5, _⟩ => ⟨S1x2048x5632, .f32⟩
  | .hbm, ⟨6, _⟩ => ⟨S_, .f32⟩
  | .hbm, ⟨7, _⟩ => ⟨S1x1x1024, .f32⟩
  | .hbm, ⟨8, _⟩ => ⟨S1x1x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S1x2048x5632, .f32⟩
  | .hbm, ⟨14, _⟩ => ⟨S1x2048x1024, .f32⟩
  | .hbm, ⟨15, _⟩ => ⟨S_, .f32⟩
  | .hbm, ⟨16, _⟩ => ⟨S1x1024, .f32⟩
  | .hbm, ⟨17, _⟩ => ⟨S1x1x1024, .f32⟩
  | .hbm, ⟨18, _⟩ => ⟨S1x2048x1024, .f32⟩
  | .hbm, ⟨19, _⟩ => ⟨S_, .f32⟩
  | .hbm, ⟨20, _⟩ => ⟨S1x1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S6x1024, .f32⟩
  | .hbm, ⟨28, _⟩ => ⟨S8x1024, .f32⟩
  | .hbm, ⟨29, _⟩ => ⟨S1x2048x1024, .f32⟩
  | .hbm, ⟨30, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== UpMixer.lean ====
abbrev S1x2048x1024 : Shape := ⟨3, ![1, 2048, 1024]⟩
abbrev S1x1x1024 : Shape := ⟨3, ![1, 1, 1024]⟩
abbrev S1024 : Shape := ⟨1, ![1024]⟩
abbrev S1024x5632 : Shape := ⟨2, ![1024, 5632]⟩
abbrev S1x2048x5632 : Shape := ⟨3, ![1, 2048, 5632]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S8x1024 : Shape := ⟨2, ![8, 1024]⟩
abbrev S256x5632 : Shape := ⟨2, ![256, 5632]⟩
abbrev S256x1024 : Shape := ⟨2, ![256, 1024]⟩
abbrev S256x1 : Shape := ⟨2, ![256, 1]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩

abbrev nBuf : Space → Nat
  | .hbm => 60
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1x1024, .f32⟩
  | .hbm, ⟨3, _⟩ => ⟨S1024, .f32⟩
  | .hbm, ⟨4, _⟩ => ⟨S1024, .f32⟩
  | .hbm, ⟨5, _⟩ => ⟨S1x1x1024, .f32⟩
  | .hbm, ⟨6, _⟩ => ⟨S1x1x1024, .f32⟩
  | .hbm, ⟨7, _⟩ => ⟨S1024x5632, .f32⟩
  | .hbm, ⟨8, _⟩ => ⟨S1x2048x1024, .f32⟩
  | .hbm, ⟨9, _⟩ => ⟨S1x2048x5632, .f32⟩
  | .hbm, ⟨10, _⟩ => ⟨S2048x1024, .f32⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | .hbm, ⟨50, _⟩ => ⟨S1024x4x1408, .f32⟩
  | .hbm, ⟨51, _⟩ => ⟨S4x1024x1408, .f32⟩
  | .hbm, ⟨52, _⟩ => ⟨S4x1024x1408, .bf16⟩
  | .hbm, ⟨53, _⟩ => ⟨S2048x5632, .f32⟩
  | .hbm, ⟨54, _⟩ => ⟨S2048x5632, .bf16⟩
  | .hbm, ⟨55, _⟩ => ⟨S2048x1024, .f32⟩
  | .hbm, ⟨56, _⟩ => ⟨S1x1024, .f32⟩
  | .hbm, ⟨57, _⟩ => ⟨S2048x1024, .f32⟩
  | .hbm, ⟨58, _⟩ => ⟨S2048x1024, .bf16⟩
  | .hbm, ⟨59, _⟩ => ⟨S8x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== UpMixerRefIdeal.lean ====
abbrev S1x2048x1024 : Shape := ⟨3, ![1, 2048, 1024]⟩
abbrev S1x1x1024 : Shape := ⟨3, ![1, 1, 1024]⟩
abbrev S1024 : Shape := ⟨1, ![1024]⟩
abbrev S1024x5632 : Shape := ⟨2, ![1024, 5632]⟩
abbrev S1x2048x5632 : Shape := ⟨3, ![1, 2048, 5632]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩
abbrev S3x1024 : Shape := ⟨2, ![3, 1024]⟩
abbrev S8x1024 : Shape := ⟨2, ![8, 1024]⟩
abbrev S2048x1024 : Shape := ⟨2, ![2048, 1024]⟩

abbrev nBuf : Space → Nat
  | .hbm => 141
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x1x1024, .f32⟩
  | 3 => ⟨S1024, .f32⟩
  | 4 => ⟨S1024, .f32⟩
  | 5 => ⟨S1x1x1024, .f32⟩
  | 6 => ⟨S1x1x1024, .f32⟩
  | 7 => ⟨S1024x5632, .f32⟩
  | 8 => ⟨S1x2048x1024, .f32⟩
  | 9 => ⟨S1x2048x5632, .f32⟩
  | 10 => ⟨S_, .f32⟩
  | 11 => ⟨S1x1x1024, .f32⟩
  | 12 => ⟨S1x1x1024, .f32⟩
  | 13 => ⟨S_, .f32⟩
  | 14 => ⟨S1x2048x1024, .f32⟩
  | 15 => ⟨S1x2048x1024, .f32⟩
  | 16 => ⟨S1x2048x1024, .f32⟩
  | 17 => ⟨S1x2048x1024, .f32⟩
  | 18 => ⟨S1x2048x1024, .f32⟩
  | 19 => ⟨S_, .f32⟩
  | 20 => ⟨S1x2048, .f32⟩
  | 21 => ⟨S1x2048x1, .f32⟩
  | 22 => ⟨S_, .f32⟩
  | 23 => ⟨S1x2048x1, .f32⟩
  | 24 => ⟨S1x2048x1, .f32⟩
  | 25 => ⟨S1x2048x1024, .f32⟩
  | 26 => ⟨S1x2048x1024, .f32⟩
  | 27 => ⟨S1x2048x1024, .f32⟩
  | 28 => ⟨S_, .f32⟩
  | 29 => ⟨S1x2048x1024, .f32⟩
  | 30 => ⟨S1x2048x1024, .f32⟩
  | 31 => ⟨S_, .f32⟩
  | 32 => ⟨S1x2048, .f32⟩
  | 33 => ⟨S1x2048x1, .f32⟩
  | 34 => ⟨S_, .f32⟩
  | 35 => ⟨S1x2048x1, .f32⟩
  | 36 => ⟨S1x2048x1, .f32⟩
  | 37 => ⟨S1x2048x1024, .f32⟩
  | 38 => ⟨S1x2048x1024, .f32⟩
  | 39 => ⟨S_, .f32⟩
  | 40 => ⟨S1x2048x1, .f32⟩
  | 41 => ⟨S1x2048x1, .f32⟩
  | 42 => ⟨S1x2048x1, .f32⟩
  | 43 => ⟨S1x2048x1, .f32⟩
  | 44 => ⟨S_, .f32⟩
  | 45 => ⟨S1x2048x1, .f32⟩
  | 46 => ⟨S1x2048x1, .f32⟩
  | 47 => ⟨S1x2048x1024, .f32⟩
  | 48 => ⟨S1x2048x1024, .f32⟩
  | 49 => ⟨S1x1x1024, .f32⟩
  | 50 => ⟨S1x2048x1024, .f32⟩
  | 51 => ⟨S1x2048x1024, .f32⟩
  | 52 => ⟨S1x1x1024, .f32⟩
  | 53 => ⟨S1x2048x1024, .f32⟩
  | 54 => ⟨S1x2048x1024, .f32⟩
  | 55 => ⟨S_, .f32⟩
  | 56 => ⟨S1x1x1024, .f32⟩
  | 57 => ⟨S1x1x1024, .f32⟩
  | 58 => ⟨S1x2048x1024, .f32⟩
  | 59 => ⟨S1x2048x1024, .f32⟩
  | 60 => ⟨S1x2048x1024, .f32⟩
  | 61 => ⟨S1x2048x1024, .f32⟩
  | 62 => ⟨S1x2048x5632, .f32⟩
  | 63 => ⟨S1x2048x1024, .f32⟩
  | 64 => ⟨S_, .f32⟩
  | 65 => ⟨S1x1024, .f32⟩
  | 66 => ⟨S1x1x1024, .f32⟩
  | 67 => ⟨S1x2048x1024, .f32⟩
  | 68 => ⟨S_, .f32⟩
  | 69 => ⟨S1x1024, .f32⟩
  | 70 => ⟨S1x1x1024, .f32⟩
  | 71 => ⟨S1x2048x1024, .f32⟩
  | 72 => ⟨S1x2048x1024, .f32⟩
  | 73 => ⟨S1x2048x1024, .f32⟩
  | 74 => ⟨S1x2048x1024, .f32⟩
  | 75 => ⟨S_, .f32⟩
  | 76 => ⟨S1x1024, .f32⟩
  | 77 => ⟨S1x1x1024, .f32⟩
  | 78 => ⟨S_, .f32⟩
  | 79 => ⟨S1024, .f32⟩
  | 80 => ⟨S1x2048x1024, .f32⟩
  | 81 => ⟨S_, .f32⟩
  | 82 => ⟨S1x1024, .f32⟩
  | 83 => ⟨S1x1x1024, .f32⟩
  | 84 => ⟨S1x2048x1024, .f32⟩
  | 85 => ⟨S1x2048x1024, .f32⟩
  | 86 => ⟨S_, .f32⟩
  | 87 => ⟨S1024, .f32⟩
  | 88 => ⟨S1x2048x1024, .f32⟩
  | 89 => ⟨S_, .f32⟩
  | 90 => ⟨S1x2048, .f32⟩
  | 91 => ⟨S1x2048x1, .f32⟩
  | 92 => ⟨S1x2048x1024, .f32⟩
  | 93 => ⟨S1x2048x1024, .f32⟩
  | 94 => ⟨S1x2048x1, .f32⟩
  | 95 => ⟨S1x2048x1024, .f32⟩
  | 96 => ⟨S_, .f32⟩
  | 97 => ⟨S1x2048, .f32⟩
  | 98 => ⟨S1x2048x1, .f32⟩
  | 99 => ⟨S_, .f32⟩
  | 100 => ⟨S1x2048x1, .f32⟩
  | 101 => ⟨S1x2048x1, .f32⟩
  | 102 => ⟨S_, .f32⟩
  | 103 => ⟨S2048, .f32⟩
  | 104 => ⟨S1x2048, .f32⟩
  | 105 => ⟨S1x2048x1024, .f32⟩
  | 106 => ⟨S1x2048x1024, .f32⟩
  | 107 => ⟨S1x2048x1024, .f32⟩
  | 108 => ⟨S_, .f32⟩
  | 109 => ⟨S1x2048, .f32⟩
  | 110 => ⟨S1x2048x1, .f32⟩
  | 111 => ⟨S1x2048x1024, .f32⟩
  | 112 => ⟨S1x2048x1, .f32⟩
  | 113 => ⟨S_, .f32⟩
  | 114 => ⟨S1x2048x1, .f32⟩
  | 115 => ⟨S1x2048x1, .f32⟩
  | 116 => ⟨S_, .f32⟩
  | 117 => ⟨S2048, .f32⟩
  | 118 => ⟨S1x2048, .f32⟩
  | 119 => ⟨S1x2048x1024, .f32⟩
  | 120 => ⟨S1x2048x1024, .f32⟩
  | 121 => ⟨S1x2048x1024, .f32⟩
  | 122 => ⟨S1x2048x1024, .f32⟩
  | 123 => ⟨S1x2048x1024, .f32⟩
  | 124 => ⟨S_, .f32⟩
  | 125 => ⟨S1x1024, .f32⟩
  | 126 => ⟨S1x1x1024, .f32⟩
  | 127 => ⟨S_, .f32⟩
  | _ => ⟨S1x2048x1024, .f32⟩

abbrev hbmTy0_1 (i : Nat) : BufTy := match i % 128 with
  | 0 => ⟨S1x2048x1024, .f32⟩
  | 1 => ⟨S1x2048x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S_, .f32⟩
  | 8 => ⟨S3x1024, .f32⟩
  | 9 => ⟨S8x1024, .f32⟩
  | 10 => ⟨S2048x1024, .f32⟩
  | 11 => ⟨S2048x1024, .f32⟩
  | 12 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_19 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_20 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_22 : Ref sig .tc := ⟨.hbm, 124, rfl⟩
abbrev main_v91 : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_24 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩

abbrev nD : Nat := 1
abbrev τ : Topo := Topo.v7x

variable {F : FTy → Type} [FloatOps F]
-- ==== LossLn.lean ====
abbrev S1x2048x1024 : Shape := ⟨3, ![1, 2048, 1024]⟩
abbrev S1x1x1024 : Shape := ⟨3, ![1, 1, 1024]⟩
abbrev S1024 : Shape := ⟨1, ![1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S8x1024 : Shape := ⟨2, ![8, 1024]⟩
abbrev S512x1024 : Shape := ⟨2, ![512, 1024]⟩
abbrev S512x1 : Shape := ⟨2, ![512, 1]⟩
abbrev S512 : Shape := ⟨1, ![512]⟩

abbrev nBuf : Space → Nat
  | .hbm => 53
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1x1024, .f32⟩
  | .hbm, ⟨3, _⟩ => ⟨S1024, .f32⟩
  | .hbm, ⟨4, _⟩ => ⟨S1024, .f32⟩
  | .hbm, ⟨5, _⟩ => ⟨S1x2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | .hbm, ⟨50, _⟩ => ⟨S2048x1024, .f32⟩
  | .hbm, ⟨51, _⟩ => ⟨S2048x1024, .bf16⟩
  | .hbm, ⟨52, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossLnRefIdeal.lean ====
abbrev S1x2048x1024 : Shape := ⟨3, ![1, 2048, 1024]⟩
abbrev S1x1x1024 : Shape := ⟨3, ![1, 1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩
abbrev S2048x1024 : Shape := ⟨2, ![2048, 1024]⟩
abbrev S4x1024 : Shape := ⟨2, ![4, 1024]⟩
abbrev S8x1024 : Shape := ⟨2, ![8, 1024]⟩

abbrev nBuf : Space → Nat
  | .hbm => 191
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x1x1024, .f32⟩
  | 3 => ⟨S1024, .f32⟩
  | 4 => ⟨S1024, .f32⟩
  | 5 => ⟨S1x2048x1024, .f32⟩
  | 6 => ⟨S_, .f32⟩
  | 7 => ⟨S1x1x1024, .f32⟩
  | 8 => ⟨S1x1x1024, .f32⟩
  | 9 => ⟨S_, .f32⟩
  | 10 => ⟨S1x2048x1024, .f32⟩
  | 11 => ⟨S1x2048x1024, .f32⟩
  | 12 => ⟨S_, .f32⟩
  | 13 => ⟨S1x1x1024, .f32⟩
  | 14 => ⟨S1x1x1024, .f32⟩
  | 15 => ⟨S1x2048x1024, .f32⟩
  | 16 => ⟨S1x2048x1024, .f32⟩
  | 17 => ⟨S1x2048x1024, .f32⟩
  | 18 => ⟨S_, .f32⟩
  | 19 => ⟨S1x2048, .f32⟩
  | 20 => ⟨S1x2048x1, .f32⟩
  | 21 => ⟨S_, .f32⟩
  | 22 => ⟨S1x2048x1, .f32⟩
  | 23 => ⟨S1x2048x1, .f32⟩
  | 24 => ⟨S1x2048x1024, .f32⟩
  | 25 => ⟨S1x2048x1024, .f32⟩
  | 26 => ⟨S1x2048x1024, .f32⟩
  | 27 => ⟨S_, .f32⟩
  | 28 => ⟨S1x2048x1024, .f32⟩
  | 29 => ⟨S1x2048x1024, .f32⟩
  | 30 => ⟨S_, .f32⟩
  | 31 => ⟨S1x2048, .f32⟩
  | 32 => ⟨S1x2048x1, .f32⟩
  | 33 => ⟨S_, .f32⟩
  | 34 => ⟨S1x2048x1, .f32⟩
  | 35 => ⟨S1x2048x1, .f32⟩
  | 36 => ⟨S1x2048x1024, .f32⟩
  | 37 => ⟨S1x2048x1024, .f32⟩
  | 38 => ⟨S_, .f32⟩
  | 39 => ⟨S1x2048x1, .f32⟩
  | 40 => ⟨S1x2048x1, .f32⟩
  | 41 => ⟨S1x2048x1, .f32⟩
  | 42 => ⟨S1x2048x1, .f32⟩
  | 43 => ⟨S_, .f32⟩
  | 44 => ⟨S1x2048x1, .f32⟩
  | 45 => ⟨S1x2048x1, .f32⟩
  | 46 => ⟨S1x2048x1024, .f32⟩
  | 47 => ⟨S1x2048x1024, .f32⟩
  | 48 => ⟨S1x1x1024, .f32⟩
  | 49 => ⟨S1x2048x1024, .f32⟩
  | 50 => ⟨S1x2048x1024, .f32⟩
  | 51 => ⟨S1x1x1024, .f32⟩
  | 52 => ⟨S1x2048x1024, .f32⟩
  | 53 => ⟨S1x2048x1024, .f32⟩
  | 54 => ⟨S1x2048x1024, .f32⟩
  | 55 => ⟨S1x2048x1024, .f32⟩
  | 56 => ⟨S_, .f32⟩
  | 57 => ⟨S1x2048x1024, .f32⟩
  | 58 => ⟨S1x2048x1024, .f32⟩
  | 59 => ⟨S_, .f32⟩
  | 60 => ⟨S1x2048, .f32⟩
  | 61 => ⟨S_, .f32⟩
  | 62 => ⟨S1x2048, .f32⟩
  | 63 => ⟨S1x2048, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S1x2048, .f32⟩
  | 72 => ⟨S_, .f32⟩
  | 73 => ⟨S1x2048, .f32⟩
  | 74 => ⟨S1x2048, .f32⟩
  | 75 => ⟨S1x2048x1024, .f32⟩
  | 76 => ⟨S1x2048x1024, .f32⟩
  | 77 => ⟨S_, .f32⟩
  | 78 => ⟨S1x1024, .f32⟩
  | 79 => ⟨S1x1x1024, .f32⟩
  | 80 => ⟨S_, .f32⟩
  | 81 => ⟨S1024, .f32⟩
  | 82 => ⟨S1x2048x1024, .f32⟩
  | 83 => ⟨S_, .f32⟩
  | 84 => ⟨S1x1024, .f32⟩
  | 85 => ⟨S1x1x1024, .f32⟩
  | 86 => ⟨S1x2048x1024, .f32⟩
  | 87 => ⟨S1x2048x1024, .f32⟩
  | 88 => ⟨S_, .f32⟩
  | 89 => ⟨S1024, .f32⟩
  | 90 => ⟨S1x2048x1024, .f32⟩
  | 91 => ⟨S_, .f32⟩
  | 92 => ⟨S1x2048, .f32⟩
  | 93 => ⟨S1x2048x1, .f32⟩
  | 94 => ⟨S1x2048x1024, .f32⟩
  | 95 => ⟨S1x2048x1024, .f32⟩
  | 96 => ⟨S1x2048x1, .f32⟩
  | 97 => ⟨S1x2048x1024, .f32⟩
  | 98 => ⟨S_, .f32⟩
  | 99 => ⟨S1x2048, .f32⟩
  | 100 => ⟨S1x2048x1, .f32⟩
  | 101 => ⟨S_, .f32⟩
  | 102 => ⟨S1x2048x1, .f32⟩
  | 103 => ⟨S1x2048x1, .f32⟩
  | 104 => ⟨S_, .f32⟩
  | 105 => ⟨S2048, .f32⟩
  | 106 => ⟨S1x2048, .f32⟩
  | 107 => ⟨S1x2048x1024, .f32⟩
  | 108 => ⟨S1x2048x1024, .f32⟩
  | 109 => ⟨S1x2048x1024, .f32⟩
  | 110 => ⟨S_, .f32⟩
  | 111 => ⟨S1x2048, .f32⟩
  | 112 => ⟨S1x2048x1, .f32⟩
  | 113 => ⟨S1x2048x1024, .f32⟩
  | 114 => ⟨S1x2048x1, .f32⟩
  | 115 => ⟨S_, .f32⟩
  | 116 => ⟨S1x2048x1, .f32⟩
  | 117 => ⟨S1x2048x1, .f32⟩
  | 118 => ⟨S_, .f32⟩
  | 119 => ⟨S2048, .f32⟩
  | 120 => ⟨S1x2048, .f32⟩
  | 121 => ⟨S1x2048x1024, .f32⟩
  | 122 => ⟨S1x2048x1024, .f32⟩
  | 123 => ⟨S1x2048x1024, .f32⟩
  | 124 => ⟨S1x2048x1024, .f32⟩
  | 125 => ⟨S1x2048x1024, .f32⟩
  | 126 => ⟨S_, .f32⟩
  | 127 => ⟨S1x1024, .f32⟩
  | _ => ⟨S1x2048x1024, .f32⟩

abbrev hbmTy0_1 (i : Nat) : BufTy := match i % 128 with
  | 0 => ⟨S1x1x1024, .f32⟩
  | 1 => ⟨S_, .f32⟩
  | 2 => ⟨S1x1x1024, .f32⟩
  | 3 => ⟨S1x1x1024, .f32⟩
  | 4 => ⟨S_, .f32⟩
  | 5 => ⟨S1x2048x1024, .f32⟩
  | 6 => ⟨S1x2048x1024, .f32⟩
  | 7 => ⟨S_, .f32⟩
  | 8 => ⟨S1x1x1024, .f32⟩
  | 9 => ⟨S1x1x1024, .f32⟩
  | 10 => ⟨S_, .f32⟩
  | 11 => ⟨S1x2048x1024, .f32⟩
  | 12 => ⟨S1x2048x1024, .f32⟩
  | 13 => ⟨S_, .f32⟩
  | 14 => ⟨S1x1x1024, .f32⟩
  | 15 => ⟨S1x1x1024, .f32⟩
  | 16 => ⟨S1x2048x1024, .f32⟩
  | 17 => ⟨S1x2048x1024, .f32⟩
  | 18 => ⟨S1x2048x1024, .f32⟩
  | 19 => ⟨S_, .f32⟩
  | 20 => ⟨S1x2048, .f32⟩
  | 21 => ⟨S1x2048x1, .f32⟩
  | 22 => ⟨S_, .f32⟩
  | 23 => ⟨S1x2048x1, .f32⟩
  | 24 => ⟨S1x2048x1, .f32⟩
  | 25 => ⟨S1x2048x1024, .f32⟩
  | 26 => ⟨S1x2048x1024, .f32⟩
  | 27 => ⟨S1x2048x1024, .f32⟩
  | 28 => ⟨S_, .f32⟩
  | 29 => ⟨S1x2048, .f32⟩
  | 30 => ⟨S1x2048x1, .f32⟩
  | 31 => ⟨S_, .f32⟩
  | 32 => ⟨S1x2048x1, .f32⟩
  | 33 => ⟨S1x2048x1, .f32⟩
  | 34 => ⟨S1x2048x1024, .f32⟩
  | 35 => ⟨S1x2048x1024, .f32⟩
  | 36 => ⟨S_, .f32⟩
  | 37 => ⟨S1x2048x1, .f32⟩
  | 38 => ⟨S1x2048x1, .f32⟩
  | 39 => ⟨S1x2048x1, .f32⟩
  | 40 => ⟨S1x2048x1024, .f32⟩
  | 41 => ⟨S1x2048x1024, .f32⟩
  | 42 => ⟨S1x1x1024, .f32⟩
  | 43 => ⟨S1x2048x1024, .f32⟩
  | 44 => ⟨S1x2048x1024, .f32⟩
  | 45 => ⟨S1x1x1024, .f32⟩
  | 46 => ⟨S1x2048x1024, .f32⟩
  | 47 => ⟨S1x2048x1024, .f32⟩
  | 48 => ⟨S1x2048x1024, .f32⟩
  | 49 => ⟨S2048x1024, .f32⟩
  | 50 => ⟨S2048x1024, .f32⟩
  | 51 => ⟨S_, .f32⟩
  | 52 => ⟨S1024, .f32⟩
  | 53 => ⟨S1x1024, .f32⟩
  | 54 => ⟨S1x1024, .f32⟩
  | 55 => ⟨S1x1024, .f32⟩
  | 56 => ⟨S1x1024, .f32⟩
  | 57 => ⟨S_, .f32⟩
  | 58 => ⟨S4x1024, .f32⟩
  | 59 => ⟨S8x1024, .f32⟩
  | 60 => ⟨S2048x1024, .f32⟩
  | 61 => ⟨S2048x1024, .f32⟩
  | 62 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_cst_14 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_v54 : Ref sig .tc := ⟨.hbm, 79, rfl⟩
abbrev main_cst_18 : Ref sig .tc := ⟨.hbm, 80, rfl⟩
abbrev main_v55 : Ref sig .tc := ⟨.hbm, 81, rfl⟩
abbrev main_v56 : Ref sig .tc := ⟨.hbm, 82, rfl⟩
abbrev main_cst_19 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_20 : Ref sig .tc := ⟨.hbm, 88, rfl⟩
abbrev main_v61 : Ref sig .tc := ⟨.hbm, 89, rfl⟩
abbrev main_v62 : Ref sig .tc := ⟨.hbm, 90, rfl⟩
abbrev main_cst_21 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_22 : Ref sig .tc := ⟨.hbm, 98, rfl⟩
abbrev main_v69 : Ref sig .tc := ⟨.hbm, 99, rfl⟩
abbrev main_v70 : Ref sig .tc := ⟨.hbm, 100, rfl⟩
abbrev main_cst_23 : Ref sig .tc := ⟨.hbm, 101, rfl⟩
abbrev main_v71 : Ref sig .tc := ⟨.hbm, 102, rfl⟩
abbrev main_v72 : Ref sig .tc := ⟨.hbm, 103, rfl⟩
abbrev main_cst_24 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_26 : Ref sig .tc := ⟨.hbm, 115, rfl⟩
abbrev main_v82 : Ref sig .tc := ⟨.hbm, 116, rfl⟩
abbrev main_v83 : Ref sig .tc := ⟨.hbm, 117, rfl⟩
abbrev main_cst_27 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_28 : Ref sig .tc := ⟨.hbm, 126, rfl⟩
abbrev main_v91 : Ref sig .tc := ⟨.hbm, 127, rfl⟩
abbrev main_v92 : Ref sig .tc := ⟨.hbm, 128, rfl⟩
abbrev main_cst_29 : Ref sig .tc := ⟨.hbm, 129, rfl⟩
abbrev main_v93 : Ref sig .tc := ⟨.hbm, 130, rfl⟩
abbrev main_v94 : Ref sig .tc := ⟨.hbm, 131, rfl⟩
abbrev main_cst_30 : Ref sig .tc := ⟨.hbm, 132, rfl⟩
abbrev main_v95 : Ref sig .tc := ⟨.hbm, 133, rfl⟩
abbrev main_v96 : Ref sig .tc := ⟨.hbm, 134, rfl⟩
abbrev main_cst_31 : Ref sig .tc := ⟨.hbm, 135, rfl⟩
abbrev main_v97 : Ref sig .tc := ⟨.hbm, 136, rfl⟩
abbrev main_v98 : Ref sig .tc := ⟨.hbm, 137, rfl⟩
abbrev main_cst_32 : Ref sig .tc := ⟨.hbm, 138, rfl⟩
abbrev main_v99 : Ref sig .tc := ⟨.hbm, 139, rfl⟩
abbrev main_v100 : Ref sig .tc := ⟨.hbm, 140, rfl⟩
abbrev main_cst_33 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_34 : Ref sig .tc := ⟨.hbm, 147, rfl⟩
abbrev main_v106 : Ref sig .tc := ⟨.hbm, 148, rfl⟩
abbrev main_v107 : Ref sig .tc := ⟨.hbm, 149, rfl⟩
abbrev main_cst_35 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_36 : Ref sig .tc := ⟨.hbm, 156, rfl⟩
abbrev main_v113 : Ref sig .tc := ⟨.hbm, 157, rfl⟩
abbrev main_v114 : Ref sig .tc := ⟨.hbm, 158, rfl⟩
abbrev main_cst_37 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_38 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_39 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_40 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩

abbrev nD : Nat := 1
abbrev τ : Topo := Topo.v7x

variable {F : FTy → Type} [FloatOps F]
-- ==== UpFfn.lean ====
abbrev S1x2048x1024 : Shape := ⟨3, ![1, 2048, 1024]⟩
abbrev S1x1x1024 : Shape := ⟨3, ![1, 1, 1024]⟩
abbrev S1024 : Shape := ⟨1, ![1024]⟩
abbrev S1024x5632 : Shape := ⟨2, ![1024, 5632]⟩
abbrev S1x2048x5632 : Shape := ⟨3, ![1, 2048, 5632]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S8x1024 : Shape := ⟨2, ![8, 1024]⟩
abbrev S256x5632 : Shape := ⟨2, ![256, 5632]⟩
abbrev S256x1024 : Shape := ⟨2, ![256, 1024]⟩
abbrev S256x1 : Shape := ⟨2, ![256, 1]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩

abbrev nBuf : Space → Nat
  | .hbm => 63
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1x1024, .f32⟩
  | .hbm, ⟨3, _⟩ => ⟨S1024, .f32⟩
  | .hbm, ⟨4, _⟩ => ⟨S1024, .f32⟩
  | .hbm, ⟨5, _⟩ => ⟨S1x1x1024, .f32⟩
  | .hbm, ⟨6, _⟩ => ⟨S1x1x1024, .f32⟩
  | .hbm, ⟨7, _⟩ => ⟨S1024x5632, .f32⟩
  | .hbm, ⟨8, _⟩ => ⟨S1x2048x1024, .f32⟩
  | .hbm, ⟨9, _⟩ => ⟨S1x2048x5632, .f32⟩
  | .hbm, ⟨10, _⟩ => ⟨S2048x1024, .f32⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S1024x4x1408, .f32⟩
  | .hbm, ⟨54, _⟩ => ⟨S4x1024x1408, .f32⟩
  | .hbm, ⟨55, _⟩ => ⟨S4x1024x1408, .bf16⟩
  | .hbm, ⟨56, _⟩ => ⟨S2048x5632, .f32⟩
  | .hbm, ⟨57, _⟩ => ⟨S2048x5632, .bf16⟩
  | .hbm, ⟨58, _⟩ => ⟨S2048x1024, .f32⟩
  | .hbm, ⟨59, _⟩ => ⟨S1x1024, .f32⟩
  | .hbm, ⟨60, _⟩ => ⟨S2048x1024, .f32⟩
  | .hbm, ⟨61, _⟩ => ⟨S2048x1024, .bf16⟩
  | .hbm, ⟨62, _⟩ => ⟨S8x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v42_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== UpFfnRefIdeal.lean ====
abbrev S1x2048x1024 : Shape := ⟨3, ![1, 2048, 1024]⟩
abbrev S1x1x1024 : Shape := ⟨3, ![1, 1, 1024]⟩
abbrev S1024 : Shape := ⟨1, ![1024]⟩
abbrev S1024x5632 : Shape := ⟨2, ![1024, 5632]⟩
abbrev S1x2048x5632 : Shape := ⟨3, ![1, 2048, 5632]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩
abbrev S3x1024 : Shape := ⟨2, ![3, 1024]⟩
abbrev S8x1024 : Shape := ⟨2, ![8, 1024]⟩
abbrev S2048x1024 : Shape := ⟨2, ![2048, 1024]⟩

abbrev nBuf : Space → Nat
  | .hbm => 147
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x1x1024, .f32⟩
  | 3 => ⟨S1024, .f32⟩
  | 4 => ⟨S1024, .f32⟩
  | 5 => ⟨S1x1x1024, .f32⟩
  | 6 => ⟨S1x1x1024, .f32⟩
  | 7 => ⟨S1024x5632, .f32⟩
  | 8 => ⟨S1x2048x1024, .f32⟩
  | 9 => ⟨S1x2048x5632, .f32⟩
  | 10 => ⟨S_, .f32⟩
  | 11 => ⟨S1x1x1024, .f32⟩
  | 12 => ⟨S1x1x1024, .f32⟩
  | 13 => ⟨S_, .f32⟩
  | 14 => ⟨S1x2048x1024, .f32⟩
  | 15 => ⟨S1x2048x1024, .f32⟩
  | 16 => ⟨S_, .f32⟩
  | 17 => ⟨S1x1x1024, .f32⟩
  | 18 => ⟨S1x1x1024, .f32⟩
  | 19 => ⟨S1x2048x1024, .f32⟩
  | 20 => ⟨S1x2048x1024, .f32⟩
  | 21 => ⟨S1x2048x1024, .f32⟩
  | 22 => ⟨S_, .f32⟩
  | 23 => ⟨S1x2048, .f32⟩
  | 24 => ⟨S1x2048x1, .f32⟩
  | 25 => ⟨S_, .f32⟩
  | 26 => ⟨S1x2048x1, .f32⟩
  | 27 => ⟨S1x2048x1, .f32⟩
  | 28 => ⟨S1x2048x1024, .f32⟩
  | 29 => ⟨S1x2048x1024, .f32⟩
  | 30 => ⟨S1x2048x1024, .f32⟩
  | 31 => ⟨S_, .f32⟩
  | 32 => ⟨S1x2048x1024, .f32⟩
  | 33 => ⟨S1x2048x1024, .f32⟩
  | 34 => ⟨S_, .f32⟩
  | 35 => ⟨S1x2048, .f32⟩
  | 36 => ⟨S1x2048x1, .f32⟩
  | 37 => ⟨S_, .f32⟩
  | 38 => ⟨S1x2048x1, .f32⟩
  | 39 => ⟨S1x2048x1, .f32⟩
  | 40 => ⟨S1x2048x1024, .f32⟩
  | 41 => ⟨S1x2048x1024, .f32⟩
  | 42 => ⟨S_, .f32⟩
  | 43 => ⟨S1x2048x1, .f32⟩
  | 44 => ⟨S1x2048x1, .f32⟩
  | 45 => ⟨S1x2048x1, .f32⟩
  | 46 => ⟨S1x2048x1, .f32⟩
  | 47 => ⟨S_, .f32⟩
  | 48 => ⟨S1x2048x1, .f32⟩
  | 49 => ⟨S1x2048x1, .f32⟩
  | 50 => ⟨S1x2048x1024, .f32⟩
  | 51 => ⟨S1x2048x1024, .f32⟩
  | 52 => ⟨S1x1x1024, .f32⟩
  | 53 => ⟨S1x2048x1024, .f32⟩
  | 54 => ⟨S1x2048x1024, .f32⟩
  | 55 => ⟨S1x1x1024, .f32⟩
  | 56 => ⟨S1x2048x1024, .f32⟩
  | 57 => ⟨S1x2048x1024, .f32⟩
  | 58 => ⟨S_, .f32⟩
  | 59 => ⟨S1x1x1024, .f32⟩
  | 60 => ⟨S1x1x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S1x2048x5632, .f32⟩
  | 66 => ⟨S1x2048x1024, .f32⟩
  | 67 => ⟨S_, .f32⟩
  | 68 => ⟨S1x1024, .f32⟩
  | 69 => ⟨S1x1x1024, .f32⟩
  | 70 => ⟨S1x2048x1024, .f32⟩
  | 71 => ⟨S_, .f32⟩
  | 72 => ⟨S1x1024, .f32⟩
  | 73 => ⟨S1x1x1024, .f32⟩
  | 74 => ⟨S1x2048x1024, .f32⟩
  | 75 => ⟨S1x2048x1024, .f32⟩
  | 76 => ⟨S1x2048x1024, .f32⟩
  | 77 => ⟨S1x2048x1024, .f32⟩
  | 78 => ⟨S_, .f32⟩
  | 79 => ⟨S1x1024, .f32⟩
  | 80 => ⟨S1x1x1024, .f32⟩
  | 81 => ⟨S_, .f32⟩
  | 82 => ⟨S1024, .f32⟩
  | 83 => ⟨S1x2048x1024, .f32⟩
  | 84 => ⟨S_, .f32⟩
  | 85 => ⟨S1x1024, .f32⟩
  | 86 => ⟨S1x1x1024, .f32⟩
  | 87 => ⟨S1x2048x1024, .f32⟩
  | 88 => ⟨S1x2048x1024, .f32⟩
  | 89 => ⟨S_, .f32⟩
  | 90 => ⟨S1024, .f32⟩
  | 91 => ⟨S1x2048x1024, .f32⟩
  | 92 => ⟨S_, .f32⟩
  | 93 => ⟨S1x2048, .f32⟩
  | 94 => ⟨S1x2048x1, .f32⟩
  | 95 => ⟨S1x2048x1024, .f32⟩
  | 96 => ⟨S1x2048x1024, .f32⟩
  | 97 => ⟨S1x2048x1, .f32⟩
  | 98 => ⟨S1x2048x1024, .f32⟩
  | 99 => ⟨S_, .f32⟩
  | 100 => ⟨S1x2048, .f32⟩
  | 101 => ⟨S1x2048x1, .f32⟩
  | 102 => ⟨S_, .f32⟩
  | 103 => ⟨S1x2048x1, .f32⟩
  | 104 => ⟨S1x2048x1, .f32⟩
  | 105 => ⟨S_, .f32⟩
  | 106 => ⟨S2048, .f32⟩
  | 107 => ⟨S1x2048, .f32⟩
  | 108 => ⟨S1x2048x1024, .f32⟩
  | 109 => ⟨S1x2048x1024, .f32⟩
  | 110 => ⟨S1x2048x1024, .f32⟩
  | 111 => ⟨S_, .f32⟩
  | 112 => ⟨S1x2048, .f32⟩
  | 113 => ⟨S1x2048x1, .f32⟩
  | 114 => ⟨S1x2048x1024, .f32⟩
  | 115 => ⟨S1x2048x1, .f32⟩
  | 116 => ⟨S_, .f32⟩
  | 117 => ⟨S1x2048x1, .f32⟩
  | 118 => ⟨S1x2048x1, .f32⟩
  | 119 => ⟨S_, .f32⟩
  | 120 => ⟨S2048, .f32⟩
  | 121 => ⟨S1x2048, .f32⟩
  | 122 => ⟨S1x2048x1024, .f32⟩
  | 123 => ⟨S1x2048x1024, .f32⟩
  | 124 => ⟨S1x2048x1024, .f32⟩
  | 125 => ⟨S1x2048x1024, .f32⟩
  | 126 => ⟨S1x2048x1024, .f32⟩
  | 127 => ⟨S_, .f32⟩
  | _ => ⟨S1x2048x1024, .f32⟩

abbrev hbmTy0_1 (i : Nat) : BufTy := match i % 128 with
  | 0 => ⟨S1x1024, .f32⟩
  | 1 => ⟨S1x1x1024, .f32⟩
  | 2 => ⟨S_, .f32⟩
  | 3 => ⟨S1x1x1024, .f32⟩
  | 4 => ⟨S1x1x1024, .f32⟩
  | 5 => ⟨S_, .f32⟩
  | 6 => ⟨S1x2048x1024, .f32⟩
  | 7 => ⟨S1x2048x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S_, .f32⟩
  | 14 => ⟨S3x1024, .f32⟩
  | 15 => ⟨S8x1024, .f32⟩
  | 16 => ⟨S2048x1024, .f32⟩
  | 17 => ⟨S2048x1024, .f32⟩
  | 18 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_cst_19 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_20 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_cst_22 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩

abbrev nD : Nat := 1
abbrev τ : Topo := Topo.v7x

variable {F : FTy → Type} [FloatOps F]
-- ==== GmlpIn.lean ====
abbrev S1x2048x1024 : Shape := ⟨3, ![1, 2048, 1024]⟩
abbrev S1x1x1024 : Shape := ⟨3, ![1, 1, 1024]⟩
abbrev S1024 : Shape := ⟨1, ![1024]⟩
abbrev S1024x4096 : Shape := ⟨2, ![1024, 4096]⟩
abbrev S1x2048x4096 : Shape := ⟨3, ![1, 2048, 4096]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S8x1024 : Shape := ⟨2, ![8, 1024]⟩
abbrev S256x4096 : Shape := ⟨2, ![256, 4096]⟩
abbrev S256x1024 : Shape := ⟨2, ![256, 1024]⟩
abbrev S256x1 : Shape := ⟨2, ![256, 1]⟩
abbrev S1x1024x1024 : Shape := ⟨3, ![1, 1024, 1024]⟩
abbrev S1024x1024 : Shape := ⟨2, ![1024, 1024]⟩
abbrev S256 : Shape := ⟨1, ![256]⟩

abbrev nBuf : Space → Nat
  | .hbm => 63
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1x1024, .f32⟩
  | .hbm, ⟨3, _⟩ => ⟨S1024, .f32⟩
  | .hbm, ⟨4, _⟩ => ⟨S1024, .f32⟩
  | .hbm, ⟨5, _⟩ => ⟨S1x1x1024, .f32⟩
  | .hbm, ⟨6, _⟩ => ⟨S1x1x1024, .f32⟩
  | .hbm, ⟨7, _⟩ => ⟨S1024x4096, .f32⟩
  | .hbm, ⟨8, _⟩ => ⟨S1x2048x1024, .f32⟩
  | .hbm, ⟨9, _⟩ => ⟨S1x2048x4096, .f32⟩
  | .hbm, ⟨10, _⟩ => ⟨S2048x1024, .f32⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S1024x4x1024, .f32⟩
  | .hbm, ⟨54, _⟩ => ⟨S4x1024x1024, .f32⟩
  | .hbm, ⟨55, _⟩ => ⟨S4x1024x1024, .bf16⟩
  | .hbm, ⟨56, _⟩ => ⟨S2048x4096, .f32⟩
  | .hbm, ⟨57, _⟩ => ⟨S2048x4096, .bf16⟩
  | .hbm, ⟨58, _⟩ => ⟨S2048x1024, .f32⟩
  | .hbm, ⟨59, _⟩ => ⟨S1x1024, .f32⟩
  | .hbm, ⟨60, _⟩ => ⟨S2048x1024, .f32⟩
  | .hbm, ⟨61, _⟩ => ⟨S2048x1024, .bf16⟩
  | .hbm, ⟨62, _⟩ => ⟨S8x1024, .f32⟩
  | .local _ .vmem, ⟨0, _⟩ => ⟨S256x4096, .bf16⟩
  | .local _ .vmem, ⟨1, _⟩ => ⟨S256x4096, .bf16⟩
  | .local _ .vmem, ⟨2, _⟩ => ⟨S4x1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v42_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GmlpInRefIdeal.lean ====
abbrev S1x2048x1024 : Shape := ⟨3, ![1, 2048, 1024]⟩
abbrev S1x1x1024 : Shape := ⟨3, ![1, 1, 1024]⟩
abbrev S1024 : Shape := ⟨1, ![1024]⟩
abbrev S1024x4096 : Shape := ⟨2, ![1024, 4096]⟩
abbrev S1x2048x4096 : Shape := ⟨3, ![1, 2048, 4096]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩
abbrev S3x1024 : Shape := ⟨2, ![3, 1024]⟩
abbrev S8x1024 : Shape := ⟨2, ![8, 1024]⟩
abbrev S2048x1024 : Shape := ⟨2, ![2048, 1024]⟩

abbrev nBuf : Space → Nat
  | .hbm => 147
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x1x1024, .f32⟩
  | 3 => ⟨S1024, .f32⟩
  | 4 => ⟨S1024, .f32⟩
  | 5 => ⟨S1x1x1024, .f32⟩
  | 6 => ⟨S1x1x1024, .f32⟩
  | 7 => ⟨S1024x4096, .f32⟩
  | 8 => ⟨S1x2048x1024, .f32⟩
  | 9 => ⟨S1x2048x4096, .f32⟩
  | 10 => ⟨S_, .f32⟩
  | 11 => ⟨S1x1x1024, .f32⟩
  | 12 => ⟨S1x1x1024, .f32⟩
  | 13 => ⟨S_, .f32⟩
  | 14 => ⟨S1x2048x1024, .f32⟩
  | 15 => ⟨S1x2048x1024, .f32⟩
  | 16 => ⟨S_, .f32⟩
  | 17 => ⟨S1x1x1024, .f32⟩
  | 18 => ⟨S1x1x1024, .f32⟩
  | 19 => ⟨S1x2048x1024, .f32⟩
  | 20 => ⟨S1x2048x1024, .f32⟩
  | 21 => ⟨S1x2048x1024, .f32⟩
  | 22 => ⟨S_, .f32⟩
  | 23 => ⟨S1x2048, .f32⟩
  | 24 => ⟨S1x2048x1, .f32⟩
  | 25 => ⟨S_, .f32⟩
  | 26 => ⟨S1x2048x1, .f32⟩
  | 27 => ⟨S1x2048x1, .f32⟩
  | 28 => ⟨S1x2048x1024, .f32⟩
  | 29 => ⟨S1x2048x1024, .f32⟩
  | 30 => ⟨S1x2048x1024, .f32⟩
  | 31 => ⟨S_, .f32⟩
  | 32 => ⟨S1x2048x1024, .f32⟩
  | 33 => ⟨S1x2048x1024, .f32⟩
  | 34 => ⟨S_, .f32⟩
  | 35 => ⟨S1x2048, .f32⟩
  | 36 => ⟨S1x2048x1, .f32⟩
  | 37 => ⟨S_, .f32⟩
  | 38 => ⟨S1x2048x1, .f32⟩
  | 39 => ⟨S1x2048x1, .f32⟩
  | 40 => ⟨S1x2048x1024, .f32⟩
  | 41 => ⟨S1x2048x1024, .f32⟩
  | 42 => ⟨S_, .f32⟩
  | 43 => ⟨S1x2048x1, .f32⟩
  | 44 => ⟨S1x2048x1, .f32⟩
  | 45 => ⟨S1x2048x1, .f32⟩
  | 46 => ⟨S1x2048x1, .f32⟩
  | 47 => ⟨S_, .f32⟩
  | 48 => ⟨S1x2048x1, .f32⟩
  | 49 => ⟨S1x2048x1, .f32⟩
  | 50 => ⟨S1x2048x1024, .f32⟩
  | 51 => ⟨S1x2048x1024, .f32⟩
  | 52 => ⟨S1x1x1024, .f32⟩
  | 53 => ⟨S1x2048x1024, .f32⟩
  | 54 => ⟨S1x2048x1024, .f32⟩
  | 55 => ⟨S1x1x1024, .f32⟩
  | 56 => ⟨S1x2048x1024, .f32⟩
  | 57 => ⟨S1x2048x1024, .f32⟩
  | 58 => ⟨S_, .f32⟩
  | 59 => ⟨S1x1x1024, .f32⟩
  | 60 => ⟨S1x1x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S1x2048x4096, .f32⟩
  | 66 => ⟨S1x2048x1024, .f32⟩
  | 67 => ⟨S_, .f32⟩
  | 68 => ⟨S1x1024, .f32⟩
  | 69 => ⟨S1x1x1024, .f32⟩
  | 70 => ⟨S1x2048x1024, .f32⟩
  | 71 => ⟨S_, .f32⟩
  | 72 => ⟨S1x1024, .f32⟩
  | 73 => ⟨S1x1x1024, .f32⟩
  | 74 => ⟨S1x2048x1024, .f32⟩
  | 75 => ⟨S1x2048x1024, .f32⟩
  | 76 => ⟨S1x2048x1024, .f32⟩
  | 77 => ⟨S1x2048x1024, .f32⟩
  | 78 => ⟨S_, .f32⟩
  | 79 => ⟨S1x1024, .f32⟩
  | 80 => ⟨S1x1x1024, .f32⟩
  | 81 => ⟨S_, .f32⟩
  | 82 => ⟨S1024, .f32⟩
  | 83 => ⟨S1x2048x1024, .f32⟩
  | 84 => ⟨S_, .f32⟩
  | 85 => ⟨S1x1024, .f32⟩
  | 86 => ⟨S1x1x1024, .f32⟩
  | 87 => ⟨S1x2048x1024, .f32⟩
  | 88 => ⟨S1x2048x1024, .f32⟩
  | 89 => ⟨S_, .f32⟩
  | 90 => ⟨S1024, .f32⟩
  | 91 => ⟨S1x2048x1024, .f32⟩
  | 92 => ⟨S_, .f32⟩
  | 93 => ⟨S1x2048, .f32⟩
  | 94 => ⟨S1x2048x1, .f32⟩
  | 95 => ⟨S1x2048x1024, .f32⟩
  | 96 => ⟨S1x2048x1024, .f32⟩
  | 97 => ⟨S1x2048x1, .f32⟩
  | 98 => ⟨S1x2048x1024, .f32⟩
  | 99 => ⟨S_, .f32⟩
  | 100 => ⟨S1x2048, .f32⟩
  | 101 => ⟨S1x2048x1, .f32⟩
  | 102 => ⟨S_, .f32⟩
  | 103 => ⟨S1x2048x1, .f32⟩
  | 104 => ⟨S1x2048x1, .f32⟩
  | 105 => ⟨S_, .f32⟩
  | 106 => ⟨S2048, .f32⟩
  | 107 => ⟨S1x2048, .f32⟩
  | 108 => ⟨S1x2048x1024, .f32⟩
  | 109 => ⟨S1x2048x1024, .f32⟩
  | 110 => ⟨S1x2048x1024, .f32⟩
  | 111 => ⟨S_, .f32⟩
  | 112 => ⟨S1x2048, .f32⟩
  | 113 => ⟨S1x2048x1, .f32⟩
  | 114 => ⟨S1x2048x1024, .f32⟩
  | 115 => ⟨S1x2048x1, .f32⟩
  | 116 => ⟨S_, .f32⟩
  | 117 => ⟨S1x2048x1, .f32⟩
  | 118 => ⟨S1x2048x1, .f32⟩
  | 119 => ⟨S_, .f32⟩
  | 120 => ⟨S2048, .f32⟩
  | 121 => ⟨S1x2048, .f32⟩
  | 122 => ⟨S1x2048x1024, .f32⟩
  | 123 => ⟨S1x2048x1024, .f32⟩
  | 124 => ⟨S1x2048x1024, .f32⟩
  | 125 => ⟨S1x2048x1024, .f32⟩
  | 126 => ⟨S1x2048x1024, .f32⟩
  | 127 => ⟨S_, .f32⟩
  | _ => ⟨S1x2048x1024, .f32⟩

abbrev hbmTy0_1 (i : Nat) : BufTy := match i % 128 with
  | 0 => ⟨S1x1024, .f32⟩
  | 1 => ⟨S1x1x1024, .f32⟩
  | 2 => ⟨S_, .f32⟩
  | 3 => ⟨S1x1x1024, .f32⟩
  | 4 => ⟨S1x1x1024, .f32⟩
  | 5 => ⟨S_, .f32⟩
  | 6 => ⟨S1x2048x1024, .f32⟩
  | 7 => ⟨S1x2048x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S_, .f32⟩
  | 14 => ⟨S3x1024, .f32⟩
  | 15 => ⟨S8x1024, .f32⟩
  | 16 => ⟨S2048x1024, .f32⟩
  | 17 => ⟨S2048x1024, .f32⟩
  | 18 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_cst_19 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_20 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_cst_22 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩

abbrev nD : Nat := 1
abbrev τ : Topo := Topo.v7x

variable {F : FTy → Type} [FloatOps F]
-- ==== AttnQ.lean ====
abbrev S1x2048x1024 : Shape := ⟨3, ![1, 2048, 1024]⟩
abbrev S1x1x1024 : Shape := ⟨3, ![1, 1, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x1024x1024 : Shape := ⟨3, ![1, 1024, 1024]⟩
abbrev S8x1024 : Shape := ⟨2, ![8, 1024]⟩
abbrev S256x1024 : Shape := ⟨2, ![256, 1024]⟩
abbrev S256x1 : Shape := ⟨2, ![256, 1]⟩
abbrev S256 : Shape := ⟨1, ![256]⟩

abbrev nBuf : Space → Nat
  | .hbm => 62
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1x1024, .f32⟩
  | .hbm, ⟨3, _⟩ => ⟨S1024, .f32⟩
  | .hbm, ⟨4, _⟩ => ⟨S1024, .f32⟩
  | .hbm, ⟨5, _⟩ => ⟨S1x1x1024, .f32⟩
  | .hbm, ⟨6, _⟩ => ⟨S1x1x1024, .f32⟩
  | .hbm, ⟨7, _⟩ => ⟨S1024x1024, .f32⟩
  | .hbm, ⟨8, _⟩ => ⟨S1x2048x1024, .f32⟩
  | .hbm, ⟨9, _⟩ => ⟨S1x2048x1024, .f32⟩
  | .hbm, ⟨10, _⟩ => ⟨S2048x1024, .f32⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S1024x1024, .bf16⟩
  | .hbm, ⟨54, _⟩ => ⟨S1x1024x1024, .bf16⟩
  | .hbm, ⟨55, _⟩ => ⟨S2048x1024, .f32⟩
  | .hbm, ⟨56, _⟩ => ⟨S2048x1024, .bf16⟩
  | .hbm, ⟨57, _⟩ => ⟨S2048x1024, .f32⟩
  | .hbm, ⟨58, _⟩ => ⟨S1x1024, .f32⟩
  | .hbm, ⟨59, _⟩ => ⟨S2048x1024, .f32⟩
  | .hbm, ⟨60, _⟩ => ⟨S2048x1024, .bf16⟩
  | .hbm, ⟨61, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41_0 : Ref sig .tc := ⟨.hbm, 59, rfl⟩
abbrev main_v41_1 : Ref sig .tc := ⟨.hbm, 60, rfl⟩
abbrev main_v41_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnQRefIdeal.lean ====
abbrev S1x2048x1024 : Shape := ⟨3, ![1, 2048, 1024]⟩
abbrev S1x1x1024 : Shape := ⟨3, ![1, 1, 1024]⟩
abbrev S1024 : Shape := ⟨1, ![1024]⟩
abbrev S1024x1024 : Shape := ⟨2, ![1024, 1024]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩
abbrev S3x1024 : Shape := ⟨2, ![3, 1024]⟩
abbrev S8x1024 : Shape := ⟨2, ![8, 1024]⟩
abbrev S2048x1024 : Shape := ⟨2, ![2048, 1024]⟩

abbrev nBuf : Space → Nat
  | .hbm => 147
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x1x1024, .f32⟩
  | 3 => ⟨S1024, .f32⟩
  | 4 => ⟨S1024, .f32⟩
  | 5 => ⟨S1x1x1024, .f32⟩
  | 6 => ⟨S1x1x1024, .f32⟩
  | 7 => ⟨S1024x1024, .f32⟩
  | 8 => ⟨S1x2048x1024, .f32⟩
  | 9 => ⟨S1x2048x1024, .f32⟩
  | 10 => ⟨S_, .f32⟩
  | 11 => ⟨S1x1x1024, .f32⟩
  | 12 => ⟨S1x1x1024, .f32⟩
  | 13 => ⟨S_, .f32⟩
  | 14 => ⟨S1x2048x1024, .f32⟩
  | 15 => ⟨S1x2048x1024, .f32⟩
  | 16 => ⟨S_, .f32⟩
  | 17 => ⟨S1x1x1024, .f32⟩
  | 18 => ⟨S1x1x1024, .f32⟩
  | 19 => ⟨S1x2048x1024, .f32⟩
  | 20 => ⟨S1x2048x1024, .f32⟩
  | 21 => ⟨S1x2048x1024, .f32⟩
  | 22 => ⟨S_, .f32⟩
  | 23 => ⟨S1x2048, .f32⟩
  | 24 => ⟨S1x2048x1, .f32⟩
  | 25 => ⟨S_, .f32⟩
  | 26 => ⟨S1x2048x1, .f32⟩
  | 27 => ⟨S1x2048x1, .f32⟩
  | 28 => ⟨S1x2048x1024, .f32⟩
  | 29 => ⟨S1x2048x1024, .f32⟩
  | 30 => ⟨S1x2048x1024, .f32⟩
  | 31 => ⟨S_, .f32⟩
  | 32 => ⟨S1x2048x1024, .f32⟩
  | 33 => ⟨S1x2048x1024, .f32⟩
  | 34 => ⟨S_, .f32⟩
  | 35 => ⟨S1x2048, .f32⟩
  | 36 => ⟨S1x2048x1, .f32⟩
  | 37 => ⟨S_, .f32⟩
  | 38 => ⟨S1x2048x1, .f32⟩
  | 39 => ⟨S1x2048x1, .f32⟩
  | 40 => ⟨S1x2048x1024, .f32⟩
  | 41 => ⟨S1x2048x1024, .f32⟩
  | 42 => ⟨S_, .f32⟩
  | 43 => ⟨S1x2048x1, .f32⟩
  | 44 => ⟨S1x2048x1, .f32⟩
  | 45 => ⟨S1x2048x1, .f32⟩
  | 46 => ⟨S1x2048x1, .f32⟩
  | 47 => ⟨S_, .f32⟩
  | 48 => ⟨S1x2048x1, .f32⟩
  | 49 => ⟨S1x2048x1, .f32⟩
  | 50 => ⟨S1x2048x1024, .f32⟩
  | 51 => ⟨S1x2048x1024, .f32⟩
  | 52 => ⟨S1x1x1024, .f32⟩
  | 53 => ⟨S1x2048x1024, .f32⟩
  | 54 => ⟨S1x2048x1024, .f32⟩
  | 55 => ⟨S1x1x1024, .f32⟩
  | 56 => ⟨S1x2048x1024, .f32⟩
  | 57 => ⟨S1x2048x1024, .f32⟩
  | 58 => ⟨S_, .f32⟩
  | 59 => ⟨S1x1x1024, .f32⟩
  | 60 => ⟨S1x1x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S1x2048x1024, .f32⟩
  | 66 => ⟨S1x2048x1024, .f32⟩
  | 67 => ⟨S_, .f32⟩
  | 68 => ⟨S1x1024, .f32⟩
  | 69 => ⟨S1x1x1024, .f32⟩
  | 70 => ⟨S1x2048x1024, .f32⟩
  | 71 => ⟨S_, .f32⟩
  | 72 => ⟨S1x1024, .f32⟩
  | 73 => ⟨S1x1x1024, .f32⟩
  | 74 => ⟨S1x2048x1024, .f32⟩
  | 75 => ⟨S1x2048x1024, .f32⟩
  | 76 => ⟨S1x2048x1024, .f32⟩
  | 77 => ⟨S1x2048x1024, .f32⟩
  | 78 => ⟨S_, .f32⟩
  | 79 => ⟨S1x1024, .f32⟩
  | 80 => ⟨S1x1x1024, .f32⟩
  | 81 => ⟨S_, .f32⟩
  | 82 => ⟨S1024, .f32⟩
  | 83 => ⟨S1x2048x1024, .f32⟩
  | 84 => ⟨S_, .f32⟩
  | 85 => ⟨S1x1024, .f32⟩
  | 86 => ⟨S1x1x1024, .f32⟩
  | 87 => ⟨S1x2048x1024, .f32⟩
  | 88 => ⟨S1x2048x1024, .f32⟩
  | 89 => ⟨S_, .f32⟩
  | 90 => ⟨S1024, .f32⟩
  | 91 => ⟨S1x2048x1024, .f32⟩
  | 92 => ⟨S_, .f32⟩
  | 93 => ⟨S1x2048, .f32⟩
  | 94 => ⟨S1x2048x1, .f32⟩
  | 95 => ⟨S1x2048x1024, .f32⟩
  | 96 => ⟨S1x2048x1024, .f32⟩
  | 97 => ⟨S1x2048x1, .f32⟩
  | 98 => ⟨S1x2048x1024, .f32⟩
  | 99 => ⟨S_, .f32⟩
  | 100 => ⟨S1x2048, .f32⟩
  | 101 => ⟨S1x2048x1, .f32⟩
  | 102 => ⟨S_, .f32⟩
  | 103 => ⟨S1x2048x1, .f32⟩
  | 104 => ⟨S1x2048x1, .f32⟩
  | 105 => ⟨S_, .f32⟩
  | 106 => ⟨S2048, .f32⟩
  | 107 => ⟨S1x2048, .f32⟩
  | 108 => ⟨S1x2048x1024, .f32⟩
  | 109 => ⟨S1x2048x1024, .f32⟩
  | 110 => ⟨S1x2048x1024, .f32⟩
  | 111 => ⟨S_, .f32⟩
  | 112 => ⟨S1x2048, .f32⟩
  | 113 => ⟨S1x2048x1, .f32⟩
  | 114 => ⟨S1x2048x1024, .f32⟩
  | 115 => ⟨S1x2048x1, .f32⟩
  | 116 => ⟨S_, .f32⟩
  | 117 => ⟨S1x2048x1, .f32⟩
  | 118 => ⟨S1x2048x1, .f32⟩
  | 119 => ⟨S_, .f32⟩
  | 120 => ⟨S2048, .f32⟩
  | 121 => ⟨S1x2048, .f32⟩
  | 122 => ⟨S1x2048x1024, .f32⟩
  | 123 => ⟨S1x2048x1024, .f32⟩
  | 124 => ⟨S1x2048x1024, .f32⟩
  | 125 => ⟨S1x2048x1024, .f32⟩
  | 126 => ⟨S1x2048x1024, .f32⟩
  | 127 => ⟨S_, .f32⟩
  | _ => ⟨S1x2048x1024, .f32⟩

abbrev hbmTy0_1 (i : Nat) : BufTy := match i % 128 with
  | 0 => ⟨S1x1024, .f32⟩
  | 1 => ⟨S1x1x1024, .f32⟩
  | 2 => ⟨S_, .f32⟩
  | 3 => ⟨S1x1x1024, .f32⟩
  | 4 => ⟨S1x1x1024, .f32⟩
  | 5 => ⟨S_, .f32⟩
  | 6 => ⟨S1x2048x1024, .f32⟩
  | 7 => ⟨S1x2048x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S_, .f32⟩
  | 14 => ⟨S3x1024, .f32⟩
  | 15 => ⟨S8x1024, .f32⟩
  | 16 => ⟨S2048x1024, .f32⟩
  | 17 => ⟨S2048x1024, .f32⟩
  | 18 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_cst_19 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_20 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_cst_22 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩

abbrev nD : Nat := 1
abbrev τ : Topo := Topo.v7x

variable {F : FTy → Type} [FloatOps F]
-- ==== Kv.lean ====
abbrev S1x2048x1024 : Shape := ⟨3, ![1, 2048, 1024]⟩
abbrev S1x1x1024 : Shape := ⟨3, ![1, 1, 1024]⟩
abbrev S1024 : Shape := ⟨1, ![1024]⟩
abbrev S1024x2048 : Shape := ⟨2, ![1024, 2048]⟩
abbrev S1x2048x2048 : Shape := ⟨3, ![1, 2048, 2048]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x4x512 : Shape := ⟨3, ![1024, 4, 512]⟩
abbrev S4x1024x512 : Shape := ⟨3, ![4, 1024, 512]⟩
abbrev S2048x2048 : Shape := ⟨2, ![2048, 2048]⟩
abbrev S8x1024 : Shape := ⟨2, ![8, 1024]⟩
abbrev S256x2048 : Shape := ⟨2, ![256, 2048]⟩
abbrev S256x1024 : Shape := ⟨2, ![256, 1024]⟩
abbrev S256x1 : Shape := ⟨2, ![256, 1]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩

abbrev nBuf : Space → Nat
  | .hbm => 62
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1x1024, .f32⟩
  | .hbm, ⟨3, _⟩ => ⟨S1024, .f32⟩
  | .hbm, ⟨4, _⟩ => ⟨S1024, .f32⟩
  | .hbm, ⟨5, _⟩ => ⟨S1x1x1024, .f32⟩
  | .hbm, ⟨6, _⟩ => ⟨S1x1x1024, .f32⟩
  | .hbm, ⟨7, _⟩ => ⟨S1024x2048, .f32⟩
  | .hbm, ⟨8, _⟩ => ⟨S1x2048x1024, .f32⟩
  | .hbm, ⟨9, _⟩ => ⟨S1x2048x2048, .f32⟩
  | .hbm, ⟨10, _⟩ => ⟨S2048x1024, .f32⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S1024x4x512, .f32⟩
  | .hbm, ⟨54, _⟩ => ⟨S4x1024x512, .f32⟩
  | .hbm, ⟨55, _⟩ => ⟨S4x1024x512, .bf16⟩
  | .hbm, ⟨56, _⟩ => ⟨S2048x2048, .f32⟩
  | .hbm, ⟨57, _⟩ => ⟨S2048x1024, .f32⟩
  | .hbm, ⟨58, _⟩ => ⟨S1x1024, .f32⟩
  | .hbm, ⟨59, _⟩ => ⟨S2048x1024, .f32⟩
  | .hbm, ⟨60, _⟩ => ⟨S2048x1024, .bf16⟩
  | .hbm, ⟨61, _⟩ => ⟨S8x1024, .f32⟩
  | .local _ .vmem, ⟨0, _⟩ => ⟨S256x2048, .f32⟩
  | .local _ .vmem, ⟨1, _⟩ => ⟨S256x2048, .f32⟩
  | .local _ .vmem, ⟨2, _⟩ => ⟨S4x1024x512, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41_0 : Ref sig .tc := ⟨.hbm, 59, rfl⟩
abbrev main_v41_1 : Ref sig .tc := ⟨.hbm, 60, rfl⟩
abbrev main_v41_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KvRefIdeal.lean ====
abbrev S1x2048x1024 : Shape := ⟨3, ![1, 2048, 1024]⟩
abbrev S1x1x1024 : Shape := ⟨3, ![1, 1, 1024]⟩
abbrev S1024 : Shape := ⟨1, ![1024]⟩
abbrev S1024x2048 : Shape := ⟨2, ![1024, 2048]⟩
abbrev S1x2048x2048 : Shape := ⟨3, ![1, 2048, 2048]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩
abbrev S3x1024 : Shape := ⟨2, ![3, 1024]⟩
abbrev S8x1024 : Shape := ⟨2, ![8, 1024]⟩
abbrev S2048x1024 : Shape := ⟨2, ![2048, 1024]⟩

abbrev nBuf : Space → Nat
  | .hbm => 147
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x1x1024, .f32⟩
  | 3 => ⟨S1024, .f32⟩
  | 4 => ⟨S1024, .f32⟩
  | 5 => ⟨S1x1x1024, .f32⟩
  | 6 => ⟨S1x1x1024, .f32⟩
  | 7 => ⟨S1024x2048, .f32⟩
  | 8 => ⟨S1x2048x1024, .f32⟩
  | 9 => ⟨S1x2048x2048, .f32⟩
  | 10 => ⟨S_, .f32⟩
  | 11 => ⟨S1x1x1024, .f32⟩
  | 12 => ⟨S1x1x1024, .f32⟩
  | 13 => ⟨S_, .f32⟩
  | 14 => ⟨S1x2048x1024, .f32⟩
  | 15 => ⟨S1x2048x1024, .f32⟩
  | 16 => ⟨S_, .f32⟩
  | 17 => ⟨S1x1x1024, .f32⟩
  | 18 => ⟨S1x1x1024, .f32⟩
  | 19 => ⟨S1x2048x1024, .f32⟩
  | 20 => ⟨S1x2048x1024, .f32⟩
  | 21 => ⟨S1x2048x1024, .f32⟩
  | 22 => ⟨S_, .f32⟩
  | 23 => ⟨S1x2048, .f32⟩
  | 24 => ⟨S1x2048x1, .f32⟩
  | 25 => ⟨S_, .f32⟩
  | 26 => ⟨S1x2048x1, .f32⟩
  | 27 => ⟨S1x2048x1, .f32⟩
  | 28 => ⟨S1x2048x1024, .f32⟩
  | 29 => ⟨S1x2048x1024, .f32⟩
  | 30 => ⟨S1x2048x1024, .f32⟩
  | 31 => ⟨S_, .f32⟩
  | 32 => ⟨S1x2048x1024, .f32⟩
  | 33 => ⟨S1x2048x1024, .f32⟩
  | 34 => ⟨S_, .f32⟩
  | 35 => ⟨S1x2048, .f32⟩
  | 36 => ⟨S1x2048x1, .f32⟩
  | 37 => ⟨S_, .f32⟩
  | 38 => ⟨S1x2048x1, .f32⟩
  | 39 => ⟨S1x2048x1, .f32⟩
  | 40 => ⟨S1x2048x1024, .f32⟩
  | 41 => ⟨S1x2048x1024, .f32⟩
  | 42 => ⟨S_, .f32⟩
  | 43 => ⟨S1x2048x1, .f32⟩
  | 44 => ⟨S1x2048x1, .f32⟩
  | 45 => ⟨S1x2048x1, .f32⟩
  | 46 => ⟨S1x2048x1, .f32⟩
  | 47 => ⟨S_, .f32⟩
  | 48 => ⟨S1x2048x1, .f32⟩
  | 49 => ⟨S1x2048x1, .f32⟩
  | 50 => ⟨S1x2048x1024, .f32⟩
  | 51 => ⟨S1x2048x1024, .f32⟩
  | 52 => ⟨S1x1x1024, .f32⟩
  | 53 => ⟨S1x2048x1024, .f32⟩
  | 54 => ⟨S1x2048x1024, .f32⟩
  | 55 => ⟨S1x1x1024, .f32⟩
  | 56 => ⟨S1x2048x1024, .f32⟩
  | 57 => ⟨S1x2048x1024, .f32⟩
  | 58 => ⟨S_, .f32⟩
  | 59 => ⟨S1x1x1024, .f32⟩
  | 60 => ⟨S1x1x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S1x2048x2048, .f32⟩
  | 66 => ⟨S1x2048x1024, .f32⟩
  | 67 => ⟨S_, .f32⟩
  | 68 => ⟨S1x1024, .f32⟩
  | 69 => ⟨S1x1x1024, .f32⟩
  | 70 => ⟨S1x2048x1024, .f32⟩
  | 71 => ⟨S_, .f32⟩
  | 72 => ⟨S1x1024, .f32⟩
  | 73 => ⟨S1x1x1024, .f32⟩
  | 74 => ⟨S1x2048x1024, .f32⟩
  | 75 => ⟨S1x2048x1024, .f32⟩
  | 76 => ⟨S1x2048x1024, .f32⟩
  | 77 => ⟨S1x2048x1024, .f32⟩
  | 78 => ⟨S_, .f32⟩
  | 79 => ⟨S1x1024, .f32⟩
  | 80 => ⟨S1x1x1024, .f32⟩
  | 81 => ⟨S_, .f32⟩
  | 82 => ⟨S1024, .f32⟩
  | 83 => ⟨S1x2048x1024, .f32⟩
  | 84 => ⟨S_, .f32⟩
  | 85 => ⟨S1x1024, .f32⟩
  | 86 => ⟨S1x1x1024, .f32⟩
  | 87 => ⟨S1x2048x1024, .f32⟩
  | 88 => ⟨S1x2048x1024, .f32⟩
  | 89 => ⟨S_, .f32⟩
  | 90 => ⟨S1024, .f32⟩
  | 91 => ⟨S1x2048x1024, .f32⟩
  | 92 => ⟨S_, .f32⟩
  | 93 => ⟨S1x2048, .f32⟩
  | 94 => ⟨S1x2048x1, .f32⟩
  | 95 => ⟨S1x2048x1024, .f32⟩
  | 96 => ⟨S1x2048x1024, .f32⟩
  | 97 => ⟨S1x2048x1, .f32⟩
  | 98 => ⟨S1x2048x1024, .f32⟩
  | 99 => ⟨S_, .f32⟩
  | 100 => ⟨S1x2048, .f32⟩
  | 101 => ⟨S1x2048x1, .f32⟩
  | 102 => ⟨S_, .f32⟩
  | 103 => ⟨S1x2048x1, .f32⟩
  | 104 => ⟨S1x2048x1, .f32⟩
  | 105 => ⟨S_, .f32⟩
  | 106 => ⟨S2048, .f32⟩
  | 107 => ⟨S1x2048, .f32⟩
  | 108 => ⟨S1x2048x1024, .f32⟩
  | 109 => ⟨S1x2048x1024, .f32⟩
  | 110 => ⟨S1x2048x1024, .f32⟩
  | 111 => ⟨S_, .f32⟩
  | 112 => ⟨S1x2048, .f32⟩
  | 113 => ⟨S1x2048x1, .f32⟩
  | 114 => ⟨S1x2048x1024, .f32⟩
  | 115 => ⟨S1x2048x1, .f32⟩
  | 116 => ⟨S_, .f32⟩
  | 117 => ⟨S1x2048x1, .f32⟩
  | 118 => ⟨S1x2048x1, .f32⟩
  | 119 => ⟨S_, .f32⟩
  | 120 => ⟨S2048, .f32⟩
  | 121 => ⟨S1x2048, .f32⟩
  | 122 => ⟨S1x2048x1024, .f32⟩
  | 123 => ⟨S1x2048x1024, .f32⟩
  | 124 => ⟨S1x2048x1024, .f32⟩
  | 125 => ⟨S1x2048x1024, .f32⟩
  | 126 => ⟨S1x2048x1024, .f32⟩
  | 127 => ⟨S_, .f32⟩
  | _ => ⟨S1x2048x1024, .f32⟩

abbrev hbmTy0_1 (i : Nat) : BufTy := match i % 128 with
  | 0 => ⟨S1x1024, .f32⟩
  | 1 => ⟨S1x1x1024, .f32⟩
  | 2 => ⟨S_, .f32⟩
  | 3 => ⟨S1x1x1024, .f32⟩
  | 4 => ⟨S1x1x1024, .f32⟩
  | 5 => ⟨S_, .f32⟩
  | 6 => ⟨S1x2048x1024, .f32⟩
  | 7 => ⟨S1x2048x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S_, .f32⟩
  | 14 => ⟨S3x1024, .f32⟩
  | 15 => ⟨S8x1024, .f32⟩
  | 16 => ⟨S2048x1024, .f32⟩
  | 17 => ⟨S2048x1024, .f32⟩
  | 18 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_cst_19 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_20 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_cst_22 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩

abbrev nD : Nat := 1
abbrev τ : Topo := Topo.v7x

variable {F : FTy → Type} [FloatOps F]
-- ==== BiasGrad.lean ====
abbrev S16x64x576 : Shape := ⟨3, ![16, 64, 576]⟩
abbrev S64x16x576 : Shape := ⟨3, ![64, 16, 576]⟩
abbrev S16x320 : Shape := ⟨2, ![16, 320]⟩
abbrev S1x16x576 : Shape := ⟨3, ![1, 16, 576]⟩
abbrev S16x576 : Shape := ⟨2, ![16, 576]⟩
abbrev S576x320 : Shape := ⟨2, ![576, 320]⟩

abbrev nBuf : Space → Nat
  | .hbm => 3
  | .vmem => 2
  | .smem => 0
  | _ => 0

abbrev bufTy : (tb : Table) → Fin (tcTables nBuf tb) → BufTy
  | .hbm, ⟨0, _⟩ => ⟨S16x64x576, .f32⟩
  | .hbm, ⟨1, _⟩ => ⟨S64x16x576, .f32⟩
  | .hbm, ⟨2, _⟩ => ⟨S16x320, .f32⟩
  | .local _ .vmem, ⟨0, _⟩ => ⟨S64x16x576, .f32⟩
  | .local _ .vmem, ⟨1, _⟩ => ⟨S16x320, .f32⟩
  | _, _ => ⟨S16x64x576, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_off1 (k0_t1 : Fin k0_t1_loop.trips) : Fin 3 → Nat :=
  let c0_i32 : BitVec 32 := 0#32
  let c1_i32 : BitVec 32 := 1#32
  let arg2 : BitVec 32 := Scf.iv c0_i32 c1_i32 k0_t1
  let v4 : Index := Scalar.indexCast arg2
  let c0_2 : Index := 0#32
  let c0_3 : Index := 0#32
  ![v4.toNat, 0, 0]
abbrev stage0_0 : Fin 1 → Memref sig .tc .vmem S64x16x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BiasGradRefIdeal.lean ====
abbrev S16x64x576 : Shape := ⟨3, ![16, 64, 576]⟩
abbrev S_ : Shape := ⟨0, ![]⟩
abbrev S16x320 : Shape := ⟨2, ![16, 320]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x64x576, .f32⟩
  | .hbm, ⟨1, _⟩ => ⟨S_, .f32⟩
  | .hbm, ⟨2, _⟩ => ⟨S16x320, .f32⟩
  | .hbm, ⟨3, _⟩ => ⟨S64, .i32⟩
  | .hbm, ⟨4, _⟩ => ⟨S64x1, .i32⟩
  | .hbm, ⟨5, _⟩ => ⟨S_, .i32⟩
  | .hbm, ⟨6, _⟩ => ⟨S64x1, .i32⟩
  | .hbm, ⟨7, _⟩ => ⟨S64x1, .i32⟩
  | .hbm, ⟨8, _⟩ => ⟨S576, .i32⟩
  | .hbm, ⟨9, _⟩ => ⟨S1x576, .i32⟩
  | .hbm, ⟨10, _⟩ => ⟨S64x576, .i32⟩
  | .hbm, ⟨11, _⟩ => ⟨S64x576, .i32⟩
  | .hbm, ⟨12, _⟩ => ⟨S64x576, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x576, .i32⟩
  | .hbm, ⟨17, _⟩ => ⟨S64x576, .i32⟩
  | .hbm, ⟨18, _⟩ => ⟨S_, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S64x576, .i32⟩
  | .hbm, ⟨23, _⟩ => ⟨S64x576, .i32⟩
  | .hbm, ⟨24, _⟩ => ⟨S_, .i32⟩
  | .hbm, ⟨25, _⟩ => ⟨S64x576, .i32⟩
  | .hbm, ⟨26, _⟩ => ⟨S64x576, .i1⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S64x576, .i32⟩
  | .hbm, ⟨31, _⟩ => ⟨S64x576x1, .i32⟩
  | .hbm, ⟨32, _⟩ => ⟨S16x64x576, .f32⟩
  | .hbm, ⟨33, _⟩ => ⟨S_, .f32⟩
  | .hbm, ⟨34, _⟩ => ⟨S16x320, .f32⟩
  | .hbm, ⟨35, _⟩ => ⟨S16x320, .f32⟩
  | _, _ => ⟨S16x64x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Sgu.lean ====
abbrev S1x2048x4096 : Shape := ⟨3, ![1, 2048, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S1x2048x2048 : Shape := ⟨3, ![1, 2048, 2048]⟩
abbrev S2048x2048 : Shape := ⟨2, ![2048, 2048]⟩
abbrev S2048x4096 : Shape := ⟨2, ![2048, 4096]⟩
abbrev S1x4096 : Shape := ⟨2, ![1, 4096]⟩
abbrev S1x2048 : Shape := ⟨2, ![1, 2048]⟩
abbrev S128x8 : Shape := ⟨2, ![128, 8]⟩
abbrev S128x2048 : Shape := ⟨2, ![128, 2048]⟩
abbrev S8x2048 : Shape := ⟨2, ![8, 2048]⟩
abbrev S8x4096 : Shape := ⟨2, ![8, 4096]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 21
  | .vmem => 16
  | .smem => 0
  | _ => 0

abbrev bufTy : (tb : Table) → Fin (tcTables nBuf tb) → BufTy
  | .hbm, ⟨0, _⟩ => ⟨S1x2048x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S1x2048x2048, .f32⟩
  | .hbm, ⟨7, _⟩ => ⟨S2048x2048, .f32⟩
  | .hbm, ⟨8, _⟩ => ⟨S2048x2048, .bf16⟩
  | .hbm, ⟨9, _⟩ => ⟨S2048x4096, .f32⟩
  | .hbm, ⟨10, _⟩ => ⟨S1x4096, .f32⟩
  | .hbm, ⟨11, _⟩ => ⟨S2048x4096, .f32⟩
  | .hbm, ⟨12, _⟩ => ⟨S2048x4096, .f32⟩
  | .hbm, ⟨13, _⟩ => ⟨S1x2048, .f32⟩
  | .hbm, ⟨14, _⟩ => ⟨S1x2048, .f32⟩
  | .hbm, ⟨15, _⟩ => ⟨S128x8, .f32⟩
  | .hbm, ⟨16, _⟩ => ⟨S2048x4096, .bf16⟩
  | .hbm, ⟨17, _⟩ => ⟨S8x128x128, .f32⟩
  | .hbm, ⟨18, _⟩ => ⟨S128x2048, .f32⟩
  | .hbm, ⟨19, _⟩ => ⟨S8x2048, .f32⟩
  | .hbm, ⟨20, _⟩ => ⟨S8x4096, .f32⟩
  | .local _ .vmem, ⟨0, _⟩ => ⟨S256x2048, .bf16⟩
  | .local _ .vmem, ⟨1, _⟩ => ⟨S256x2048, .bf16⟩
  | .local _ .vmem, ⟨2, _⟩ => ⟨S256x4096, .f32⟩
  | .local _ .vmem, ⟨3, _⟩ => ⟨S256x4096, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S256x4096, .bf16⟩
  | .local _ .vmem, ⟨9, _⟩ => ⟨S256x4096, .bf16⟩
  | .local _ .vmem, ⟨10, _⟩ => ⟨S8x128x128, .f32⟩
  | .local _ .vmem, ⟨11, _⟩ => ⟨S128x2048, .f32⟩
  | .local _ .vmem, ⟨12, _⟩ => ⟨S8x2048, .f32⟩
  | .local _ .vmem, ⟨13, _⟩ => ⟨S8x4096, .f32⟩
  | .local _ .vmem, ⟨14, _⟩ => ⟨S256x2048, .f32⟩
  | .local _ .vmem, ⟨15, _⟩ => ⟨S256x2048, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguIdeal.lean ====
variable {F : FTy → Type} [FloatOps F] [Named F]
def κ : String → Option EReal := fun
  | "gauss" => some (((Real.sqrt (2 * Real.pi))⁻¹ : ℝ) : EReal)
  | "root_half" => some (((Real.sqrt 2)⁻¹ : ℝ) : EReal)
  | _ => none
-- ==== SguRefIdeal.lean ====
abbrev S1x2048x4096 : Shape := ⟨3, ![1, 2048, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S1x2048x2048 : Shape := ⟨3, ![1, 2048, 2048]⟩
abbrev S128x8 : Shape := ⟨2, ![128, 8]⟩
abbrev S128x8x256 : Shape := ⟨3, ![128, 8, 256]⟩
abbrev S128x2048 : Shape := ⟨2, ![128, 2048]⟩
abbrev S1x1x4096 : Shape := ⟨3, ![1, 1, 4096]⟩
abbrev S_ : Shape := ⟨0, ![]⟩
abbrev S1x2048 : Shape := ⟨2, ![1, 2048]⟩
abbrev S1x2048x1 : Shape := ⟨3, ![1, 2048, 1]⟩
abbrev S1x1x2048 : Shape := ⟨3, ![1, 1, 2048]⟩
abbrev S1x16x128x8x256 : Shape := ⟨5, ![1, 16, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x1x16x256x128 : Shape := ⟨5, ![8, 1, 16, 256, 128]⟩
abbrev S1x1x128x8x256 : Shape := ⟨5, ![1, 1, 128, 8, 256]⟩
abbrev S1x128x8x256 : Shape := ⟨4, ![1, 128, 8, 256]⟩
abbrev S1x4096 : Shape := ⟨2, ![1, 4096]⟩
abbrev S6x2048 : Shape := ⟨2, ![6, 2048]⟩
abbrev S8x2048 : Shape := ⟨2, ![8, 2048]⟩
abbrev S7x4096 : Shape := ⟨2, ![7, 4096]⟩
abbrev S8x4096 : Shape := ⟨2, ![8, 4096]⟩
abbrev S2048x4096 : Shape := ⟨2, ![2048, 4096]⟩

abbrev nBuf : Space → Nat
  | .hbm => 216
  | .vmem => 0
  | .smem => 0
  | _ => 0

abbrev hbmTy0_0 (i : Nat) : BufTy := match i % 128 with
  | 0 => ⟨S1x2048x4096, .f32⟩
  | 1 => ⟨S4096, .f32⟩
  | 2 => ⟨S2048, .f32⟩
  | 3 => ⟨S2048, .f32⟩
  | 4 => ⟨S8x128x128, .f32⟩
  | 5 => ⟨S8x128, .f32⟩
  | 6 => ⟨S1x2048x2048, .f32⟩
  | 7 => ⟨S128x8, .f32⟩
  | 8 => ⟨S128x8x256, .f32⟩
  | 9 => ⟨S128x2048, .f32⟩
  | 10 => ⟨S1x1x4096, .f32⟩
  | 11 => ⟨S1x2048x4096, .f32⟩
  | 12 => ⟨S1x2048x4096, .f32⟩
  | 13 => ⟨S_, .f32⟩
  | 14 => ⟨S1x2048x4096, .f32⟩
  | 15 => ⟨S1x2048x4096, .f32⟩
  | 16 => ⟨S_, .f32⟩
  | 17 => ⟨S_, .f32⟩
  | 18 => ⟨S1x2048x4096, .f32⟩
  | 19 => ⟨S1x2048x4096, .f32⟩
  | 20 => ⟨S_, .f32⟩
  | 21 => ⟨S_, .f32⟩
  | 22 => ⟨S_, .f32⟩
  | 23 => ⟨S1x2048x4096, .f32⟩
  | 24 => ⟨S_, .f32⟩
  | 25 => ⟨S_, .f32⟩
  | 26 => ⟨S1x2048x4096, .f32⟩
  | 27 => ⟨S1x2048x4096, .f32⟩
  | 28 => ⟨S1x2048x4096, .f32⟩
  | 29 => ⟨S1x2048x4096, .f32⟩
  | 30 => ⟨S1x2048x4096, .f32⟩
  | 31 => ⟨S_, .f32⟩
  | 32 => ⟨S1x2048x4096, .f32⟩
  | 33 => ⟨S1x2048x4096, .f32⟩
  | 34 => ⟨S1x2048x4096, .f32⟩
  | 35 => ⟨S1x2048x2048, .f32⟩
  | 36 => ⟨S1x2048x2048, .f32⟩
  | 37 => ⟨S_, .f32⟩
  | 38 => ⟨S1x2048, .f32⟩
  | 39 => ⟨S1x2048x1, .f32⟩
  | 40 => ⟨S_, .f32⟩
  | 41 => ⟨S1x2048x1, .f32⟩
  | 42 => ⟨S1x2048x1, .f32⟩
  | 43 => ⟨S1x2048x2048, .f32⟩
  | 44 => ⟨S1x2048x2048, .f32⟩
  | 45 => ⟨S1x2048x2048, .f32⟩
  | 46 => ⟨S_, .f32⟩
  | 47 => ⟨S1x2048x2048, .f32⟩
  | 48 => ⟨S1x2048x2048, .f32⟩
  | 49 => ⟨S_, .f32⟩
  | 50 => ⟨S1x2048, .f32⟩
  | 51 => ⟨S1x2048x1, .f32⟩
  | 52 => ⟨S_, .f32⟩
  | 53 => ⟨S1x2048x1, .f32⟩
  | 54 => ⟨S1x2048x1, .f32⟩
  | 55 => ⟨S1x2048x2048, .f32⟩
  | 56 => ⟨S1x2048x2048, .f32⟩
  | 57 => ⟨S_, .f32⟩
  | 58 => ⟨S1x2048x1, .f32⟩
  | 59 => ⟨S1x2048x1, .f32⟩
  | 60 => ⟨S1x2048x1, .f32⟩
  | 61 => ⟨S1x2048x1, .f32⟩
  | 62 => ⟨S_, .f32⟩
  | 63 => ⟨S1x2048x1, .f32⟩
  | 64 => ⟨S1x2048x1, .f32⟩
  | 65 => ⟨S1x2048x2048, .f32⟩
  | 66 => ⟨S1x2048x2048, .f32⟩
  | 67 => ⟨S1x1x2048, .f32⟩
  | 68 => ⟨S1x2048x2048, .f32⟩
  | 69 => ⟨S1x2048x2048, .f32⟩
  | 70 => ⟨S1x1x2048, .f32⟩
  | 71 => ⟨S1x2048x2048, .f32⟩
  | 72 => ⟨S1x2048x2048, .f32⟩
  | 73 => ⟨S1x16x128x8x256, .f32⟩
  | 74 => ⟨S128, .i32⟩
  | 75 => ⟨S1x128, .i32⟩
  | 76 => ⟨S_, .i32⟩
  | 77 => ⟨S_, .i32⟩
  | 78 => ⟨S1x128, .i32⟩
  | 79 => ⟨S1x128, .i32⟩
  | 80 => ⟨S1x128, .i32⟩
  | 81 => ⟨S_, .i32⟩
  | 82 => ⟨S1x128, .i32⟩
  | 83 => ⟨S1x128, .i1⟩
  | 84 => ⟨S1x128, .i32⟩
  | 85 => ⟨S1x128, .i32⟩
  | 86 => ⟨S_, .i32⟩
  | 87 => ⟨S1x128, .i32⟩
  | 88 => ⟨S1x128, .i1⟩
  | 89 => ⟨S1x128, .i1⟩
  | 90 => ⟨S_, .i32⟩
  | 91 => ⟨S1x128, .i32⟩
  | 92 => ⟨S1x128, .i32⟩
  | 93 => ⟨S1x128, .i32⟩
  | 94 => ⟨S128x1, .i32⟩
  | 95 => ⟨S_, .i32⟩
  | 96 => ⟨S_, .i32⟩
  | 97 => ⟨S128x1, .i32⟩
  | 98 => ⟨S128x1, .i32⟩
  | 99 => ⟨S128x1, .i32⟩
  | 100 => ⟨S_, .i32⟩
  | 101 => ⟨S128x1, .i32⟩
  | 102 => ⟨S128x1, .i1⟩
  | 103 => ⟨S128x1, .i32⟩
  | 104 => ⟨S128x1, .i32⟩
  | 105 => ⟨S_, .i32⟩
  | 106 => ⟨S128x1, .i32⟩
  | 107 => ⟨S128x1, .i1⟩
  | 108 => ⟨S128x1, .i1⟩
  | 109 => ⟨S_, .i32⟩
  | 110 => ⟨S128x1, .i32⟩
  | 111 => ⟨S128x1, .i32⟩
  | 112 => ⟨S128x1, .i32⟩
  | 113 => ⟨S128x128, .i32⟩
  | 114 => ⟨S128x128, .i32⟩
  | 115 => ⟨S128x128, .i1⟩
  | 116 => ⟨S128x128, .f32⟩
  | 117 => ⟨S1x128x128, .f32⟩
  | 118 => ⟨S8x128x128, .f32⟩
  | 119 => ⟨S8x128x128, .f32⟩
  | 120 => ⟨S8x1x16x256x128, .f32⟩
  | 121 => ⟨S1x16x128x8x256, .f32⟩
  | 122 => ⟨S128x8x256, .f32⟩
  | 123 => ⟨S1x1x128x8x256, .f32⟩
  | 124 => ⟨S1x16x128x8x256, .f32⟩
  | 125 => ⟨S1x16x128x8x256, .f32⟩
  | 126 => ⟨S1x2048x2048, .f32⟩
  | 127 => ⟨S1x2048x2048, .f32⟩
  | _ => ⟨S1x2048x4096, .f32⟩

abbrev hbmTy0_1 (i : Nat) : BufTy := match i % 128 with
  | 0 => ⟨S1x2048x2048, .f32⟩
  | 1 => ⟨S1x2048x2048, .f32⟩
  | 2 => ⟨S1x16x128x8x256, .f32⟩
  | 3 => ⟨S_, .f32⟩
  | 4 => ⟨S1x128x8x256, .f32⟩
  | 5 => ⟨S1x1x128x8x256, .f32⟩
  | 6 => ⟨S_, .f32⟩
  | 7 => ⟨S128x8x256, .f32⟩
  | 8 => ⟨S128x2048, .f32⟩
  | 9 => ⟨S8x1x16x256x128, .f32⟩
  | 10 => ⟨S8x128x128, .f32⟩
  | 11 => ⟨S8x1x16x256x128, .f32⟩
  | 12 => ⟨S1x16x128x8x256, .f32⟩
  | 13 => ⟨S8x128x128, .f32⟩
  | 14 => ⟨S8x128x128, .f32⟩
  | 15 => ⟨S1x2048x2048, .f32⟩
  | 16 => ⟨S_, .f32⟩
  | 17 => ⟨S1x2048, .f32⟩
  | 18 => ⟨S1x1x2048, .f32⟩
  | 19 => ⟨S_, .f32⟩
  | 20 => ⟨S2048, .f32⟩
  | 21 => ⟨S1x2048x2048, .f32⟩
  | 22 => ⟨S_, .f32⟩
  | 23 => ⟨S1x2048, .f32⟩
  | 24 => ⟨S1x1x2048, .f32⟩
  | 25 => ⟨S1x2048x2048, .f32⟩
  | 26 => ⟨S1x2048x2048, .f32⟩
  | 27 => ⟨S_, .f32⟩
  | 28 => ⟨S2048, .f32⟩
  | 29 => ⟨S1x2048x2048, .f32⟩
  | 30 => ⟨S_, .f32⟩
  | 31 => ⟨S1x2048, .f32⟩
  | 32 => ⟨S1x2048x1, .f32⟩
  | 33 => ⟨S1x2048x2048, .f32⟩
  | 34 => ⟨S1x2048x2048, .f32⟩
  | 35 => ⟨S1x2048x1, .f32⟩
  | 36 => ⟨S1x2048x2048, .f32⟩
  | 37 => ⟨S_, .f32⟩
  | 38 => ⟨S1x2048, .f32⟩
  | 39 => ⟨S1x2048x1, .f32⟩
  | 40 => ⟨S_, .f32⟩
  | 41 => ⟨S1x2048x1, .f32⟩
  | 42 => ⟨S1x2048x1, .f32⟩
  | 43 => ⟨S_, .f32⟩
  | 44 => ⟨S2048, .f32⟩
  | 45 => ⟨S1x2048, .f32⟩
  | 46 => ⟨S1x2048x2048, .f32⟩
  | 47 => ⟨S1x2048x2048, .f32⟩
  | 48 => ⟨S1x2048x2048, .f32⟩
  | 49 => ⟨S_, .f32⟩
  | 50 => ⟨S1x2048, .f32⟩
  | 51 => ⟨S1x2048x1, .f32⟩
  | 52 => ⟨S1x2048x2048, .f32⟩
  | 53 => ⟨S1x2048x1, .f32⟩
  | 54 => ⟨S_, .f32⟩
  | 55 => ⟨S1x2048x1, .f32⟩
  | 56 => ⟨S1x2048x1, .f32⟩
  | 57 => ⟨S_, .f32⟩
  | 58 => ⟨S2048, .f32⟩
  | 59 => ⟨S1x2048, .f32⟩
  | 60 => ⟨S1x2048x2048, .f32⟩
  | 61 => ⟨S1x2048x2048, .f32⟩
  | 62 => ⟨S1x2048x4096, .f32⟩
  | 63 => ⟨S1x2048x4096, .f32⟩
  | 64 => ⟨S1x2048x4096, .f32⟩
  | 65 => ⟨S1x2048x4096, .f32⟩
  | 66 => ⟨S1x2048x4096, .f32⟩
  | 67 => ⟨S1x2048x4096, .f32⟩
  | 68 => ⟨S_, .f32⟩
  | 69 => ⟨S1x2048x4096, .f32⟩
  | 70 => ⟨S1x2048x4096, .f32⟩
  | 71 => ⟨S1x2048x4096, .f32⟩
  | 72 => ⟨S_, .f32⟩
  | 73 => ⟨S1x4096, .f32⟩
  | 74 => ⟨S1x1x4096, .f32⟩
  | 75 => ⟨S_, .f32⟩
  | 76 => ⟨S4096, .f32⟩
  | 77 => ⟨S1x2048, .f32⟩
  | 78 => ⟨S1x2048, .f32⟩
  | 79 => ⟨S_, .f32⟩
  | 80 => ⟨S6x2048, .f32⟩
  | 81 => ⟨S8x2048, .f32⟩
  | 82 => ⟨S1x4096, .f32⟩
  | 83 => ⟨S_, .f32⟩
  | 84 => ⟨S7x4096, .f32⟩
  | 85 => ⟨S8x4096, .f32⟩
  | 86 => ⟨S2048x4096, .f32⟩
  | 87 => ⟨S2048x4096, .bf16⟩
  | _ => ⟨S1x2048x4096, .f32⟩

abbrev hbmTy (i : Nat) : BufTy := match i / 128 with
  | 0 => hbmTy0_0 i
  | 1 => hbmTy0_1 i
  | _ => ⟨S1x2048x4096, .f32⟩

abbrev bufTy : (tb : Table) → Fin (tcTables nBuf tb) → BufTy
  | .hbm, ⟨i, _⟩ => hbmTy i
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_c : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_c_0 : Ref sig .tc := ⟨.hbm, 90, rfl⟩
abbrev main_call0_v12 : Ref sig .tc := ⟨.hbm, 91, rfl⟩
abbrev main_call0_v13 : Ref sig .tc := ⟨.hbm, 92, rfl⟩
abbrev main_v57 : Ref sig .tc := ⟨.hbm, 93, rfl⟩
abbrev main_v58 : Ref sig .tc := ⟨.hbm, 94, rfl⟩
abbrev main_c_11 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_c : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_0 : Ref sig .tc := ⟨.hbm, 109, rfl⟩
abbrev main_call1_v12 : Ref sig .tc := ⟨.hbm, 110, rfl⟩
abbrev main_call1_v13 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_12 : Ref sig .tc := ⟨.hbm, 131, rfl⟩
abbrev main_v78 : Ref sig .tc := ⟨.hbm, 132, rfl⟩
abbrev main_v79 : Ref sig .tc := ⟨.hbm, 133, rfl⟩
abbrev main_cst_13 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_14 : Ref sig .tc := ⟨.hbm, 144, rfl⟩
abbrev main_v89 : Ref sig .tc := ⟨.hbm, 145, rfl⟩
abbrev main_v90 : Ref sig .tc := ⟨.hbm, 146, rfl⟩
abbrev main_cst_15 : Ref sig .tc := ⟨.hbm, 147, rfl⟩
abbrev main_v91 : Ref sig .tc := ⟨.hbm, 148, rfl⟩
abbrev main_v92 : Ref sig .tc := ⟨.hbm, 149, rfl⟩
abbrev main_cst_16 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_17 : Ref sig .tc := ⟨.hbm, 155, rfl⟩
abbrev main_v97 : Ref sig .tc := ⟨.hbm, 156, rfl⟩
abbrev main_v98 : Ref sig .tc := ⟨.hbm, 157, rfl⟩
abbrev main_cst_18 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_19 : Ref sig .tc := ⟨.hbm, 165, rfl⟩
abbrev main_v105 : Ref sig .tc := ⟨.hbm, 166, rfl⟩
abbrev main_v106 : Ref sig .tc := ⟨.hbm, 167, rfl⟩
abbrev main_cst_20 : Ref sig .tc := ⟨.hbm, 168, rfl⟩
abbrev main_v107 : Ref sig .tc := ⟨.hbm, 169, rfl⟩
abbrev main_v108 : Ref sig .tc := ⟨.hbm, 170, rfl⟩
abbrev main_cst_21 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_22 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_23 : Ref sig .tc := ⟨.hbm, 182, rfl⟩
abbrev main_v118 : Ref sig .tc := ⟨.hbm, 183, rfl⟩
abbrev main_v119 : Ref sig .tc := ⟨.hbm, 184, rfl⟩
abbrev main_cst_24 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_cst_25 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_26 : Ref sig .tc := ⟨.hbm, 200, rfl⟩
abbrev main_v133 : Ref sig .tc := ⟨.hbm, 201, rfl⟩
abbrev main_v134 : Ref sig .tc := ⟨.hbm, 202, rfl⟩
abbrev main_cst_27 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_28 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_cst_29 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩

abbrev nD : Nat := 1
abbrev τ : Topo := Topo.v7x

variable {F : FTy → Type} [FloatOps F]
-- ==== FfnLn.lean ====
abbrev S1x2048x5632 : Shape := ⟨3, ![1, 2048, 5632]⟩
abbrev S2816x1024 : Shape := ⟨2, ![2816, 1024]⟩
abbrev S1x2048x1024 : Shape := ⟨3, ![1, 2048, 1024]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S2048x5632 : Shape := ⟨2, ![2048, 5632]⟩
abbrev S2048x1024 : Shape := ⟨2, ![2048, 1024]⟩
abbrev S2048x1 : Shape := ⟨2, ![2048, 1]⟩
abbrev S2048x2816 : Shape := ⟨2, ![2048, 2816]⟩
abbrev S256x5632 : Shape := ⟨2, ![256, 5632]⟩
abbrev S256x1024 : Shape := ⟨2, ![256, 1024]⟩
abbrev S256x1 : Shape := ⟨2, ![256, 1]⟩
abbrev S256x2816 : Shape := ⟨2, ![256, 2816]⟩
abbrev S256 : Shape := ⟨1, ![256]⟩

abbrev nBuf : Space → Nat
  | .hbm => 24
  | .vmem => 18
  | .smem => 0
  | _ => 0

abbrev bufTy : (tb : Table) → Fin (tcTables nBuf tb) → BufTy
  | .hbm, ⟨0, _⟩ => ⟨S1x2048x5632, .f32⟩
  | .hbm, ⟨1, _⟩ => ⟨S2816x1024, .f32⟩
  | .hbm, ⟨2, _⟩ => ⟨S1x2048x1024, .f32⟩
  | .hbm, ⟨3, _⟩ => ⟨S1x1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S2048x5632, .f32⟩
  | .hbm, ⟨14, _⟩ => ⟨S2048x5632, .bf16⟩
  | .hbm, ⟨15, _⟩ => ⟨S2816x1024, .bf16⟩
  | .hbm, ⟨16, _⟩ => ⟨S2048x1024, .f32⟩
  | .hbm, ⟨17, _⟩ => ⟨S1x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1, .f32⟩
  | .hbm, ⟨22, _⟩ => ⟨S2048x1024, .bf16⟩
  | .hbm, ⟨23, _⟩ => ⟨S2048x2816, .bf16⟩
  | .local _ .vmem, ⟨0, _⟩ => ⟨S256x5632, .bf16⟩
  | .local _ .vmem, ⟨1, _⟩ => ⟨S256x5632, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnLnRefIdeal.lean ====
abbrev S1x2048x5632 : Shape := ⟨3, ![1, 2048, 5632]⟩
abbrev S2816x1024 : Shape := ⟨2, ![2816, 1024]⟩
abbrev S1x2048x1024 : Shape := ⟨3, ![1, 2048, 1024]⟩
abbrev S1x1x1024 : Shape := ⟨3, ![1, 1, 1024]⟩
abbrev S1024 : Shape := ⟨1, ![1024]⟩
abbrev S_ : Shape := ⟨0, ![]⟩
abbrev S1x2048x2816 : Shape := ⟨3, ![1, 2048, 2816]⟩
abbrev S1x2048 : Shape := ⟨2, ![1, 2048]⟩
abbrev S1x2048x1 : Shape := ⟨3, ![1, 2048, 1]⟩
abbrev S2048x1024 : Shape := ⟨2, ![2048, 1024]⟩
abbrev S2048x1 : Shape := ⟨2, ![2048, 1]⟩
abbrev S2048x2816 : Shape := ⟨2, ![2048, 2816]⟩

abbrev nBuf : Space → Nat
  | .hbm => 90
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S2816x1024, .f32⟩
  | .hbm, ⟨2, _⟩ => ⟨S1x2048x1024, .f32⟩
  | .hbm, ⟨3, _⟩ => ⟨S1x1x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1x1x1024, .f32⟩
  | .hbm, ⟨8, _⟩ => ⟨S1x1x1024, .f32⟩
  | .hbm, ⟨9, _⟩ => ⟨S1x2048x2816, .f32⟩
  | .hbm, ⟨10, _⟩ => ⟨S1x2048x2816, .f32⟩
  | .hbm, ⟨11, _⟩ => ⟨S1x2048x2816, .f32⟩
  | .hbm, ⟨12, _⟩ => ⟨S1x2048x2816, .f32⟩
  | .hbm, ⟨13, _⟩ => ⟨S_, .f32⟩
  | .hbm, ⟨14, _⟩ => ⟨S1x2048x2816, .f32⟩
  | .hbm, ⟨15, _⟩ => ⟨S1x2048x2816, .f32⟩
  | .hbm, ⟨16, _⟩ => ⟨S_, .f32⟩
  | .hbm, ⟨17, _⟩ => ⟨S1x2048x2816, .f32⟩
  | .hbm, ⟨18, _⟩ => ⟨S1x2048x2816, .f32⟩
  | .hbm, ⟨19, _⟩ => ⟨S1x2048x2816, .f32⟩
  | .hbm, ⟨20, _⟩ => ⟨S1x2048x2816, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S_, .f32⟩
  | .hbm, ⟨32, _⟩ => ⟨S1x2048, .f32⟩
  | .hbm, ⟨33, _⟩ => ⟨S1x2048x1, .f32⟩
  | .hbm, ⟨34, _⟩ => ⟨S_, .f32⟩
  | .hbm, ⟨35, _⟩ => ⟨S1x2048x1, .f32⟩
  | .hbm, ⟨36, _⟩ => ⟨S1x2048x1, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | .hbm, ⟨40, _⟩ => ⟨S_, .f32⟩
  | .hbm, ⟨41, _⟩ => ⟨S1x2048, .f32⟩
  | .hbm, ⟨42, _⟩ => ⟨S1x2048x1, .f32⟩
  | .hbm, ⟨43, _⟩ => ⟨S_, .f32⟩
  | .hbm, ⟨44, _⟩ => ⟨S1x2048x1, .f32⟩
  | .hbm, ⟨45, _⟩ => ⟨S1x2048x1, .f32⟩
  | .hbm, ⟨46, _⟩ => ⟨S_, .f32⟩
  | .hbm, ⟨47, _⟩ => ⟨S1x2048x1, .f32⟩
  | .hbm, ⟨48, _⟩ => ⟨S1x2048x1, .f32⟩
  | .hbm, ⟨49, _⟩ => ⟨S1x2048x1, .f32⟩
  | .hbm, ⟨50, _⟩ => ⟨S_, .f32⟩
  | .hbm, ⟨51, _⟩ => ⟨S1x2048, .f32⟩
  | .hbm, ⟨52, _⟩ => ⟨S1x2048x1, .f32⟩
  | .hbm, ⟨53, _⟩ => ⟨S_, .f32⟩
  | .hbm, ⟨54, _⟩ => ⟨S1x2048x1, .f32⟩
  | .hbm, ⟨55, _⟩ => ⟨S1x2048x1, .f32⟩
  | .hbm, ⟨56, _⟩ => ⟨S1x2048x1024, .f32⟩
  | .hbm, ⟨57, _⟩ => ⟨S1x2048x1024, .f32⟩
  | .hbm, ⟨58, _⟩ => ⟨S1x2048x1024, .f32⟩
  | .hbm, ⟨59, _⟩ => ⟨S_, .f32⟩
  | .hbm, ⟨60, _⟩ => ⟨S1x2048, .f32⟩
  | .hbm, ⟨61, _⟩ => ⟨S1x2048x1, .f32⟩
  | .hbm, ⟨62, _⟩ => ⟨S_, .f32⟩
  | .hbm, ⟨63, _⟩ => ⟨S1x2048x1, .f32⟩
  | .hbm, ⟨64, _⟩ => ⟨S1x2048x1, .f32⟩
  | .hbm, ⟨65, _⟩ => ⟨S1x2048x1024, .f32⟩
  | .hbm, ⟨66, _⟩ => ⟨S1x2048x1024, .f32⟩
  | .hbm, ⟨67, _⟩ => ⟨S_, .f32⟩
  | .hbm, ⟨68, _⟩ => ⟨S1x2048x1, .f32⟩
  | .hbm, ⟨69, _⟩ => ⟨S1x2048x1, .f32⟩
  | .hbm, ⟨70, _⟩ => ⟨S1x2048x1, .f32⟩
  | .hbm, ⟨71, _⟩ => ⟨S1x2048x1024, .f32⟩
  | .hbm, ⟨72, _⟩ => ⟨S1x2048x1024, .f32⟩
  | .hbm, ⟨73, _⟩ => ⟨S1x1x1024, .f32⟩
  | .hbm, ⟨74, _⟩ => ⟨S1x2048x1024, .f32⟩
  | .hbm, ⟨75, _⟩ => ⟨S1x2048x1024, .f32⟩
  | .hbm, ⟨76, _⟩ => ⟨S1x1x1024, .f32⟩
  | .hbm, ⟨77, _⟩ => ⟨S1x2048x1024, .f32⟩
  | .hbm, ⟨78, _⟩ => ⟨S1x2048x1024, .f32⟩
  | .hbm, ⟨79, _⟩ => ⟨S2048x1024, .f32⟩
  | .hbm, ⟨80, _⟩ => ⟨S1x2048x1024, .f32⟩
  | .hbm, ⟨81, _⟩ => ⟨S1x2048x1024, .f32⟩
  | .hbm, ⟨82, _⟩ => ⟨S1x2048x1024, .f32⟩
  | .hbm, ⟨83, _⟩ => ⟨S1x2048x1024, .f32⟩
  | .hbm, ⟨84, _⟩ => ⟨S2048x1024, .f32⟩
  | .hbm, ⟨85, _⟩ => ⟨S2048x1, .f32⟩
  | .hbm, ⟨86, _⟩ => ⟨S2048x1024, .f32⟩
  | .hbm, ⟨87, _⟩ => ⟨S2048x1024, .bf16⟩
  | .hbm, ⟨88, _⟩ => ⟨S2048x2816, .f32⟩
  | .hbm, ⟨89, _⟩ => ⟨S2048x2816, .bf16⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]
-- ==== MixLn.lean ====
abbrev S1x2048x2048 : Shape := ⟨3, ![1, 2048, 2048]⟩
abbrev S2048x1024 : Shape := ⟨2, ![2048, 1024]⟩
abbrev S1x2048x1024 : Shape := ⟨3, ![1, 2048, 1024]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S2048x2048 : Shape := ⟨2, ![2048, 2048]⟩
abbrev S2048x1 : Shape := ⟨2, ![2048, 1]⟩
abbrev S256x2048 : Shape := ⟨2, ![256, 2048]⟩
abbrev S256x1024 : Shape := ⟨2, ![256, 1024]⟩
abbrev S256x1 : Shape := ⟨2, ![256, 1]⟩
abbrev S256 : Shape := ⟨1, ![256]⟩

abbrev nBuf : Space → Nat
  | .hbm => 20
  | .vmem => 16
  | .smem => 0
  | _ => 0

abbrev bufTy : (tb : Table) → Fin (tcTables nBuf tb) → BufTy
  | .hbm, ⟨0, _⟩ => ⟨S1x2048x2048, .f32⟩
  | .hbm, ⟨1, _⟩ => ⟨S2048x1024, .f32⟩
  | .hbm, ⟨2, _⟩ => ⟨S1x2048x1024, .f32⟩
  | .hbm, ⟨3, _⟩ => ⟨S1x1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S2048x2048, .f32⟩
  | .hbm, ⟨11, _⟩ => ⟨S2048x2048, .bf16⟩
  | .hbm, ⟨12, _⟩ => ⟨S2048x1024, .bf16⟩
  | .hbm, ⟨13, _⟩ => ⟨S2048x1024, .f32⟩
  | .hbm, ⟨14, _⟩ => ⟨S1x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1, .f32⟩
  | .hbm, ⟨19, _⟩ => ⟨S2048x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | .local _ .vmem, ⟨14, _⟩ => ⟨S256x1024, .bf16⟩
  | .local _ .vmem, ⟨15, _⟩ => ⟨S256x1024, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixLnRefIdeal.lean ====
abbrev S1x2048x2048 : Shape := ⟨3, ![1, 2048, 2048]⟩
abbrev S2048x1024 : Shape := ⟨2, ![2048, 1024]⟩
abbrev S1x2048x1024 : Shape := ⟨3, ![1, 2048, 1024]⟩
abbrev S1x1x1024 : Shape := ⟨3, ![1, 1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S2048x1 : Shape := ⟨2, ![2048, 1]⟩

abbrev nBuf : Space → Nat
  | .hbm => 73
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x1024, .f32⟩
  | .hbm, ⟨2, _⟩ => ⟨S1x2048x1024, .f32⟩
  | .hbm, ⟨3, _⟩ => ⟨S1x1x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1x1x1024, .f32⟩
  | .hbm, ⟨8, _⟩ => ⟨S1x1x1024, .f32⟩
  | .hbm, ⟨9, _⟩ => ⟨S1x2048x1024, .f32⟩
  | .hbm, ⟨10, _⟩ => ⟨S_, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S1x2048x1024, .f32⟩
  | .hbm, ⟨16, _⟩ => ⟨S_, .f32⟩
  | .hbm, ⟨17, _⟩ => ⟨S1x2048, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048, .f32⟩
  | .hbm, ⟨27, _⟩ => ⟨S1x2048x1, .f32⟩
  | .hbm, ⟨28, _⟩ => ⟨S_, .f32⟩
  | .hbm, ⟨29, _⟩ => ⟨S1x2048x1, .f32⟩
  | .hbm, ⟨30, _⟩ => ⟨S1x2048x1, .f32⟩
  | .hbm, ⟨31, _⟩ => ⟨S_, .f32⟩
  | .hbm, ⟨32, _⟩ => ⟨S1x2048x1, .f32⟩
  | .hbm, ⟨33, _⟩ => ⟨S1x2048x1, .f32⟩
  | .hbm, ⟨34, _⟩ => ⟨S1x2048x1, .f32⟩
  | .hbm, ⟨35, _⟩ => ⟨S_, .f32⟩
  | .hbm, ⟨36, _⟩ => ⟨S1x2048, .f32⟩
  | .hbm, ⟨37, _⟩ => ⟨S1x2048x1, .f32⟩
  | .hbm, ⟨38, _⟩ => ⟨S_, .f32⟩
  | .hbm, ⟨39, _⟩ => ⟨S1x2048x1, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S_, .f32⟩
  | .hbm, ⟨45, _⟩ => ⟨S1x2048, .f32⟩
  | .hbm, ⟨46, _⟩ => ⟨S1x2048x1, .f32⟩
  | .hbm, ⟨47, _⟩ => ⟨S_, .f32⟩
  | .hbm, ⟨48, _⟩ => ⟨S1x2048x1, .f32⟩
  | .hbm, ⟨49, _⟩ => ⟨S1x2048x1, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1x2048x1, .f32⟩
  | .hbm, ⟨54, _⟩ => ⟨S1x2048x1, .f32⟩
  | .hbm, ⟨55, _⟩ => ⟨S1x2048x1, .f32⟩
  | .hbm, ⟨56, _⟩ => ⟨S1x2048x1024, .f32⟩
  | .hbm, ⟨57, _⟩ => ⟨S1x2048x1024, .f32⟩
  | .hbm, ⟨58, _⟩ => ⟨S1x1x1024, .f32⟩
  | .hbm, ⟨59, _⟩ => ⟨S1x2048x1024, .f32⟩
  | .hbm, ⟨60, _⟩ => ⟨S1x2048x1024, .f32⟩
  | .hbm, ⟨61, _⟩ => ⟨S1x1x1024, .f32⟩
  | .hbm, ⟨62, _⟩ => ⟨S1x2048x1024, .f32⟩
  | .hbm, ⟨63, _⟩ => ⟨S1x2048x1024, .f32⟩
  | .hbm, ⟨64, _⟩ => ⟨S2048x1024, .f32⟩
  | .hbm, ⟨65, _⟩ => ⟨S1x2048x1024, .f32⟩
  | .hbm, ⟨66, _⟩ => ⟨S1x2048x1024, .f32⟩
  | .hbm, ⟨67, _⟩ => ⟨S1x2048x1024, .f32⟩
  | .hbm, ⟨68, _⟩ => ⟨S1x2048x1024, .f32⟩
  | .hbm, ⟨69, _⟩ => ⟨S2048x1024, .f32⟩
  | .hbm, ⟨70, _⟩ => ⟨S2048x1, .f32⟩
  | .hbm, ⟨71, _⟩ => ⟨S2048x1024, .f32⟩
  | .hbm, ⟨72, _⟩ => ⟨S2048x1024, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== FfnUp.lean ====
abbrev S1x2048x1024 : Shape := ⟨3, ![1, 2048, 1024]⟩
abbrev S1x1x1024 : Shape := ⟨3, ![1, 1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x1024 : Shape := ⟨2, ![2048, 1024]⟩
abbrev S1x1024 : Shape := ⟨2, ![1, 1024]⟩
abbrev S2048x5632 : Shape := ⟨2, ![2048, 5632]⟩
abbrev S512x1024 : Shape := ⟨2, ![512, 1024]⟩
abbrev S512x5632 : Shape := ⟨2, ![512, 5632]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 12
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1024x5632, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S2048x1024, .f32⟩
  | .hbm, ⟨8, _⟩ => ⟨S1x1024, .f32⟩
  | .hbm, ⟨9, _⟩ => ⟨S1x1024, .f32⟩
  | .hbm, ⟨10, _⟩ => ⟨S2048x5632, .bf16⟩
  | .hbm, ⟨11, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S4x1024x1408, .bf16⟩
  | .local _ .vmem, ⟨5, _⟩ => ⟨S512x5632, .bf16⟩
  | .local _ .vmem, ⟨6, _⟩ => ⟨S512x5632, .bf16⟩
  | .local _ .vmem, ⟨7, _⟩ => ⟨S512x1024, .bf16⟩
  | .local _ .vmem, ⟨8, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnUpRefIdeal.lean ====
abbrev S1x2048x1024 : Shape := ⟨3, ![1, 2048, 1024]⟩
abbrev S1x1x1024 : Shape := ⟨3, ![1, 1, 1024]⟩
abbrev S1024x5632 : Shape := ⟨2, ![1024, 5632]⟩
abbrev S_ : Shape := ⟨0, ![]⟩
abbrev S1x2048x5632 : Shape := ⟨3, ![1, 2048, 5632]⟩
abbrev S2048x5632 : Shape := ⟨2, ![2048, 5632]⟩
abbrev S2048x1024 : Shape := ⟨2, ![2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1024x5632, .f32⟩
  | .hbm, ⟨4, _⟩ => ⟨S_, .f32⟩
  | .hbm, ⟨5, _⟩ => ⟨S1x1x1024, .f32⟩
  | .hbm, ⟨6, _⟩ => ⟨S1x1x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x5632, .f32⟩
  | .hbm, ⟨12, _⟩ => ⟨S2048x5632, .f32⟩
  | .hbm, ⟨13, _⟩ => ⟨S2048x5632, .bf16⟩
  | .hbm, ⟨14, _⟩ => ⟨S2048x1024, .f32⟩
  | .hbm, ⟨15, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== GmlpUp.lean ====
abbrev S1x2048x1024 : Shape := ⟨3, ![1, 2048, 1024]⟩
abbrev S1x1x1024 : Shape := ⟨3, ![1, 1, 1024]⟩
abbrev S1024x4096 : Shape := ⟨2, ![1024, 4096]⟩
abbrev S4096 : Shape := ⟨1, ![4096]⟩
abbrev S1024x4x1024 : Shape := ⟨3, ![1024, 4, 1024]⟩
abbrev S4x1024x1024 : Shape := ⟨3, ![4, 1024, 1024]⟩
abbrev S2048x1024 : Shape := ⟨2, ![2048, 1024]⟩
abbrev S1x1024 : Shape := ⟨2, ![1, 1024]⟩
abbrev S1x4096 : Shape := ⟨2, ![1, 4096]⟩
abbrev S2048x4096 : Shape := ⟨2, ![2048, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 14
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1024x4096, .f32⟩
  | .hbm, ⟨4, _⟩ => ⟨S4096, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x4096, .f32⟩
  | .hbm, ⟨12, _⟩ => ⟨S2048x4096, .f32⟩
  | .hbm, ⟨13, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S4x1024x1024, .bf16⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | .local _ .vmem, ⟨8, _⟩ => ⟨S512x1024, .bf16⟩
  | .local _ .vmem, ⟨9, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpUpRefIdeal.lean ====
abbrev S1x2048x1024 : Shape := ⟨3, ![1, 2048, 1024]⟩
abbrev S1x1x1024 : Shape := ⟨3, ![1, 1, 1024]⟩
abbrev S1024x4096 : Shape := ⟨2, ![1024, 4096]⟩
abbrev S4096 : Shape := ⟨1, ![4096]⟩
abbrev S_ : Shape := ⟨0, ![]⟩
abbrev S1x2048x4096 : Shape := ⟨3, ![1, 2048, 4096]⟩
abbrev S1x1x4096 : Shape := ⟨3, ![1, 1, 4096]⟩
abbrev S2048x4096 : Shape := ⟨2, ![2048, 4096]⟩
abbrev S2048x1024 : Shape := ⟨2, ![2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1024x4096, .f32⟩
  | .hbm, ⟨4, _⟩ => ⟨S4096, .f32⟩
  | .hbm, ⟨5, _⟩ => ⟨S_, .f32⟩
  | .hbm, ⟨6, _⟩ => ⟨S1x1x1024, .f32⟩
  | .hbm, ⟨7, _⟩ => ⟨S1x1x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S1x2048x4096, .f32⟩
  | .hbm, ⟨13, _⟩ => ⟨S1x1x4096, .f32⟩
  | .hbm, ⟨14, _⟩ => ⟨S1x2048x4096, .f32⟩
  | .hbm, ⟨15, _⟩ => ⟨S1x2048x4096, .f32⟩
  | .hbm, ⟨16, _⟩ => ⟨S2048x4096, .f32⟩
  | .hbm, ⟨17, _⟩ => ⟨S2048x1024, .f32⟩
  | .hbm, ⟨18, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== SguFwd.lean ====
abbrev S1x2048x4096 : Shape := ⟨3, ![1, 2048, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S2048x4096 : Shape := ⟨2, ![2048, 4096]⟩
abbrev S1x4096 : Shape := ⟨2, ![1, 4096]⟩
abbrev S1x2048 : Shape := ⟨2, ![1, 2048]⟩
abbrev S128x8 : Shape := ⟨2, ![128, 8]⟩
abbrev S2048x2048 : Shape := ⟨2, ![2048, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 14
  | .vmem => 8
  | .smem => 0
  | _ => 0

abbrev bufTy : (tb : Table) → Fin (tcTables nBuf tb) → BufTy
  | .hbm, ⟨0, _⟩ => ⟨S1x2048x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x4096, .f32⟩
  | .hbm, ⟨7, _⟩ => ⟨S1x4096, .f32⟩
  | .hbm, ⟨8, _⟩ => ⟨S2048x4096, .f32⟩
  | .hbm, ⟨9, _⟩ => ⟨S2048x4096, .f32⟩
  | .hbm, ⟨10, _⟩ => ⟨S1x2048, .f32⟩
  | .hbm, ⟨11, _⟩ => ⟨S1x2048, .f32⟩
  | .hbm, ⟨12, _⟩ => ⟨S128x8, .f32⟩
  | .hbm, ⟨13, _⟩ => ⟨S2048x2048, .bf16⟩
  | .local _ .vmem, ⟨0, _⟩ => ⟨S256x4096, .f32⟩
  | .local _ .vmem, ⟨1, _⟩ => ⟨S256x4096, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x8, .f32⟩
  | .local _ .vmem, ⟨6, _⟩ => ⟨S256x2048, .bf16⟩
  | .local _ .vmem, ⟨7, _⟩ => ⟨S256x2048, .bf16⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdIdeal.lean ====
variable {F : FTy → Type} [FloatOps F] [Named F]
def κ : String → Option EReal := fun
  | "root_half" => some (((Real.sqrt 2)⁻¹ : ℝ) : EReal)
  | _ => none
-- ==== SguFwdRefIdeal.lean ====
abbrev S1x2048x4096 : Shape := ⟨3, ![1, 2048, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S128x8x256 : Shape := ⟨3, ![128, 8, 256]⟩
abbrev S128x2048 : Shape := ⟨2, ![128, 2048]⟩
abbrev S1x1x4096 : Shape := ⟨3, ![1, 1, 4096]⟩
abbrev S_ : Shape := ⟨0, ![]⟩
abbrev S1x2048x2048 : Shape := ⟨3, ![1, 2048, 2048]⟩
abbrev S1x2048 : Shape := ⟨2, ![1, 2048]⟩
abbrev S1x2048x1 : Shape := ⟨3, ![1, 2048, 1]⟩
abbrev S1x1x2048 : Shape := ⟨3, ![1, 1, 2048]⟩
abbrev S1x16x128x8x256 : Shape := ⟨5, ![1, 16, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x1x16x256x128 : Shape := ⟨5, ![8, 1, 16, 256, 128]⟩
abbrev S1x1x128x8x256 : Shape := ⟨5, ![1, 1, 128, 8, 256]⟩
abbrev S2048x2048 : Shape := ⟨2, ![2048, 2048]⟩

abbrev nBuf : Space → Nat
  | .hbm => 112
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S128x8x256, .f32⟩
  | .hbm, ⟨8, _⟩ => ⟨S128x2048, .f32⟩
  | .hbm, ⟨9, _⟩ => ⟨S1x1x4096, .f32⟩
  | .hbm, ⟨10, _⟩ => ⟨S1x2048x4096, .f32⟩
  | .hbm, ⟨11, _⟩ => ⟨S1x2048x4096, .f32⟩
  | .hbm, ⟨12, _⟩ => ⟨S_, .f32⟩
  | .hbm, ⟨13, _⟩ => ⟨S1x2048x4096, .f32⟩
  | .hbm, ⟨14, _⟩ => ⟨S1x2048x4096, .f32⟩
  | .hbm, ⟨15, _⟩ => ⟨S_, .f32⟩
  | .hbm, ⟨16, _⟩ => ⟨S_, .f32⟩
  | .hbm, ⟨17, _⟩ => ⟨S1x2048x4096, .f32⟩
  | .hbm, ⟨18, _⟩ => ⟨S1x2048x4096, .f32⟩
  | .hbm, ⟨19, _⟩ => ⟨S1x2048x4096, .f32⟩
  | .hbm, ⟨20, _⟩ => ⟨S_, .f32⟩
  | .hbm, ⟨21, _⟩ => ⟨S1x2048x4096, .f32⟩
  | .hbm, ⟨22, _⟩ => ⟨S1x2048x4096, .f32⟩
  | .hbm, ⟨23, _⟩ => ⟨S1x2048x4096, .f32⟩
  | .hbm, ⟨24, _⟩ => ⟨S1x2048x2048, .f32⟩
  | .hbm, ⟨25, _⟩ => ⟨S1x2048x2048, .f32⟩
  | .hbm, ⟨26, _⟩ => ⟨S_, .f32⟩
  | .hbm, ⟨27, _⟩ => ⟨S1x2048, .f32⟩
  | .hbm, ⟨28, _⟩ => ⟨S1x2048x1, .f32⟩
  | .hbm, ⟨29, _⟩ => ⟨S_, .f32⟩
  | .hbm, ⟨30, _⟩ => ⟨S1x2048x1, .f32⟩
  | .hbm, ⟨31, _⟩ => ⟨S1x2048x1, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S1x2048, .f32⟩
  | .hbm, ⟨37, _⟩ => ⟨S1x2048x1, .f32⟩
  | .hbm, ⟨38, _⟩ => ⟨S_, .f32⟩
  | .hbm, ⟨39, _⟩ => ⟨S1x2048x1, .f32⟩
  | .hbm, ⟨40, _⟩ => ⟨S1x2048x1, .f32⟩
  | .hbm, ⟨41, _⟩ => ⟨S1x2048x2048, .f32⟩
  | .hbm, ⟨42, _⟩ => ⟨S1x2048x2048, .f32⟩
  | .hbm, ⟨43, _⟩ => ⟨S_, .f32⟩
  | .hbm, ⟨44, _⟩ => ⟨S1x2048x1, .f32⟩
  | .hbm, ⟨45, _⟩ => ⟨S1x2048x1, .f32⟩
  | .hbm, ⟨46, _⟩ => ⟨S1x2048x1, .f32⟩
  | .hbm, ⟨47, _⟩ => ⟨S1x2048x2048, .f32⟩
  | .hbm, ⟨48, _⟩ => ⟨S1x2048x2048, .f32⟩
  | .hbm, ⟨49, _⟩ => ⟨S1x1x2048, .f32⟩
  | .hbm, ⟨50, _⟩ => ⟨S1x2048x2048, .f32⟩
  | .hbm, ⟨51, _⟩ => ⟨S1x2048x2048, .f32⟩
  | .hbm, ⟨52, _⟩ => ⟨S1x1x2048, .f32⟩
  | .hbm, ⟨53, _⟩ => ⟨S1x2048x2048, .f32⟩
  | .hbm, ⟨54, _⟩ => ⟨S1x2048x2048, .f32⟩
  | .hbm, ⟨55, _⟩ => ⟨S1x16x128x8x256, .f32⟩
  | .hbm, ⟨56, _⟩ => ⟨S128, .i32⟩
  | .hbm, ⟨57, _⟩ => ⟨S1x128, .i32⟩
  | .hbm, ⟨58, _⟩ => ⟨S_, .i32⟩
  | .hbm, ⟨59, _⟩ => ⟨S_, .i32⟩
  | .hbm, ⟨60, _⟩ => ⟨S1x128, .i32⟩
  | .hbm, ⟨61, _⟩ => ⟨S1x128, .i32⟩
  | .hbm, ⟨62, _⟩ => ⟨S1x128, .i32⟩
  | .hbm, ⟨63, _⟩ => ⟨S_, .i32⟩
  | .hbm, ⟨64, _⟩ => ⟨S1x128, .i32⟩
  | .hbm, ⟨65, _⟩ => ⟨S1x128, .i1⟩
  | .hbm, ⟨66, _⟩ => ⟨S1x128, .i32⟩
  | .hbm, ⟨67, _⟩ => ⟨S1x128, .i32⟩
  | .hbm, ⟨68, _⟩ => ⟨S_, .i32⟩
  | .hbm, ⟨69, _⟩ => ⟨S1x128, .i32⟩
  | .hbm, ⟨70, _⟩ => ⟨S1x128, .i1⟩
  | .hbm, ⟨71, _⟩ => ⟨S1x128, .i1⟩
  | .hbm, ⟨72, _⟩ => ⟨S_, .i32⟩
  | .hbm, ⟨73, _⟩ => ⟨S1x128, .i32⟩
  | .hbm, ⟨74, _⟩ => ⟨S1x128, .i32⟩
  | .hbm, ⟨75, _⟩ => ⟨S1x128, .i32⟩
  | .hbm, ⟨76, _⟩ => ⟨S128x1, .i32⟩
  | .hbm, ⟨77, _⟩ => ⟨S_, .i32⟩
  | .hbm, ⟨78, _⟩ => ⟨S_, .i32⟩
  | .hbm, ⟨79, _⟩ => ⟨S128x1, .i32⟩
  | .hbm, ⟨80, _⟩ => ⟨S128x1, .i32⟩
  | .hbm, ⟨81, _⟩ => ⟨S128x1, .i32⟩
  | .hbm, ⟨82, _⟩ => ⟨S_, .i32⟩
  | .hbm, ⟨83, _⟩ => ⟨S128x1, .i32⟩
  | .hbm, ⟨84, _⟩ => ⟨S128x1, .i1⟩
  | .hbm, ⟨85, _⟩ => ⟨S128x1, .i32⟩
  | .hbm, ⟨86, _⟩ => ⟨S128x1, .i32⟩
  | .hbm, ⟨87, _⟩ => ⟨S_, .i32⟩
  | .hbm, ⟨88, _⟩ => ⟨S128x1, .i32⟩
  | .hbm, ⟨89, _⟩ => ⟨S128x1, .i1⟩
  | .hbm, ⟨90, _⟩ => ⟨S128x1, .i1⟩
  | .hbm, ⟨91, _⟩ => ⟨S_, .i32⟩
  | .hbm, ⟨92, _⟩ => ⟨S128x1, .i32⟩
  | .hbm, ⟨93, _⟩ => ⟨S128x1, .i32⟩
  | .hbm, ⟨94, _⟩ => ⟨S128x1, .i32⟩
  | .hbm, ⟨95, _⟩ => ⟨S128x128, .i32⟩
  | .hbm, ⟨96, _⟩ => ⟨S128x128, .i32⟩
  | .hbm, ⟨97, _⟩ => ⟨S128x128, .i1⟩
  | .hbm, ⟨98, _⟩ => ⟨S128x128, .f32⟩
  | .hbm, ⟨99, _⟩ => ⟨S1x128x128, .f32⟩
  | .hbm, ⟨100, _⟩ => ⟨S8x128x128, .f32⟩
  | .hbm, ⟨101, _⟩ => ⟨S8x128x128, .f32⟩
  | .hbm, ⟨102, _⟩ => ⟨S8x1x16x256x128, .f32⟩
  | .hbm, ⟨103, _⟩ => ⟨S1x16x128x8x256, .f32⟩
  | .hbm, ⟨104, _⟩ => ⟨S128x8x256, .f32⟩
  | .hbm, ⟨105, _⟩ => ⟨S1x1x128x8x256, .f32⟩
  | .hbm, ⟨106, _⟩ => ⟨S1x16x128x8x256, .f32⟩
  | .hbm, ⟨107, _⟩ => ⟨S1x16x128x8x256, .f32⟩
  | .hbm, ⟨108, _⟩ => ⟨S1x2048x2048, .f32⟩
  | .hbm, ⟨109, _⟩ => ⟨S1x2048x2048, .f32⟩
  | .hbm, ⟨110, _⟩ => ⟨S2048x2048, .f32⟩
  | .hbm, ⟨111, _⟩ => ⟨S2048x2048, .bf16⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_c : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_0 : Ref sig .tc := ⟨.hbm, 72, rfl⟩
abbrev main_call0_v12 : Ref sig .tc := ⟨.hbm, 73, rfl⟩
abbrev main_call0_v13 : Ref sig .tc := ⟨.hbm, 74, rfl⟩
abbrev main_v44 : Ref sig .tc := ⟨.hbm, 75, rfl⟩
abbrev main_v45 : Ref sig .tc := ⟨.hbm, 76, rfl⟩
abbrev main_c_7 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_c : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_0 : Ref sig .tc := ⟨.hbm, 91, rfl⟩
abbrev main_call1_v12 : Ref sig .tc := ⟨.hbm, 92, rfl⟩
abbrev main_call1_v13 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩

abbrev nD : Nat := 1
abbrev τ : Topo := Topo.v7x

variable {F : FTy → Type} [FloatOps F]
-- ==== AdaMod.lean ====
abbrev S8x1024 : Shape := ⟨2, ![8, 1024]⟩
abbrev S4x1024x2304 : Shape := ⟨3, ![4, 1024, 2304]⟩
abbrev S4x2304 : Shape := ⟨2, ![4, 2304]⟩
abbrev S4x1x2304 : Shape := ⟨3, ![4, 1, 2304]⟩
abbrev S4x8x2304 : Shape := ⟨3, ![4, 8, 2304]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x2304, .f32⟩
  | .hbm, ⟨2, _⟩ => ⟨S4x2304, .f32⟩
  | .hbm, ⟨3, _⟩ => ⟨S4x1x2304, .f32⟩
  | .hbm, ⟨4, _⟩ => ⟨S4x8x2304, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaModRefIdeal.lean ====
abbrev S8x1024 : Shape := ⟨2, ![8, 1024]⟩
abbrev S4x1024x2304 : Shape := ⟨3, ![4, 1024, 2304]⟩
abbrev S4x2304 : Shape := ⟨2, ![4, 2304]⟩
abbrev S_ : Shape := ⟨0, ![]⟩
abbrev S4x2304x8 : Shape := ⟨3, ![4, 2304, 8]⟩
abbrev S4x8x2304 : Shape := ⟨3, ![4, 8, 2304]⟩
abbrev S4x1x2304 : Shape := ⟨3, ![4, 1, 2304]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x2304, .f32⟩
  | .hbm, ⟨2, _⟩ => ⟨S4x2304, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x2304x8, .f32⟩
  | .hbm, ⟨13, _⟩ => ⟨S4x8x2304, .f32⟩
  | .hbm, ⟨14, _⟩ => ⟨S4x1x2304, .f32⟩
  | .hbm, ⟨15, _⟩ => ⟨S4x8x2304, .f32⟩
  | .hbm, ⟨16, _⟩ => ⟨S4x8x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AttnFwd.lean ====
abbrev S1x2048x1024 : Shape := ⟨3, ![1, 2048, 1024]⟩
abbrev S16x64x576 : Shape := ⟨3, ![16, 64, 576]⟩
abbrev S2048x1024 : Shape := ⟨2, ![2048, 1024]⟩
abbrev S_ : Shape := ⟨0, ![]⟩
abbrev S2560x1024 : Shape := ⟨2, ![2560, 1024]⟩
abbrev S1024x128 : Shape := ⟨2, ![1024, 128]⟩
abbrev S2560x128 : Shape := ⟨2, ![2560, 128]⟩
abbrev S2x64x576 : Shape := ⟨3, ![2, 64, 576]⟩
abbrev S64x128 : Shape := ⟨2, ![64, 128]⟩
abbrev S64x576 : Shape := ⟨2, ![64, 576]⟩
abbrev S576x128 : Shape := ⟨2, ![576, 128]⟩
abbrev S1x64x576 : Shape := ⟨3, ![1, 64, 576]⟩
abbrev S64 : Shape := ⟨1, ![64]⟩
abbrev S64x1 : Shape := ⟨2, ![64, 1]⟩

abbrev nBuf : Space → Nat
  | .hbm => 17
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S16x64x576, .f32⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S2048x1024, .bf16⟩
  | .hbm, ⟨8, _⟩ => ⟨S_, .i32⟩
  | .hbm, ⟨9, _⟩ => ⟨S_, .bf16⟩
  | .hbm, ⟨10, _⟩ => ⟨S2560x1024, .bf16⟩
  | .hbm, ⟨11, _⟩ => ⟨S2048x1024, .f32⟩
  | .hbm, ⟨12, _⟩ => ⟨S2048x1024, .bf16⟩
  | .hbm, ⟨13, _⟩ => ⟨S_, .i32⟩
  | .hbm, ⟨14, _⟩ => ⟨S_, .bf16⟩
  | .hbm, ⟨15, _⟩ => ⟨S2560x1024, .bf16⟩
  | .hbm, ⟨16, _⟩ => ⟨S2048x1024, .bf16⟩
  | .local _ .vmem, ⟨0, _⟩ => ⟨S1024x128, .bf16⟩
  | .local _ .vmem, ⟨1, _⟩ => ⟨S1024x128, .bf16⟩
  | .local _ .vmem, ⟨2, _⟩ => ⟨S2560x128, .bf16⟩
  | .local _ .vmem, ⟨3, _⟩ => ⟨S2560x128, .bf16⟩
  | .local _ .vmem, ⟨4, _⟩ => ⟨S2560x128, .bf16⟩
  | .local _ .vmem, ⟨5, _⟩ => ⟨S2560x128, .bf16⟩
  | .local _ .vmem, ⟨6, _⟩ => ⟨S2x64x576, .f32⟩
  | .local _ .vmem, ⟨7, _⟩ => ⟨S2x64x576, .f32⟩
  | .local _ .vmem, ⟨8, _⟩ => ⟨S1024x128, .bf16⟩
  | .local _ .vmem, ⟨9, _⟩ => ⟨S1024x128, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c16_i32 : BitVec 32 := 16#32
  let v4 : BitVec 32 := Scalar.muli arg1 c16_i32
  let c0_i32 : BitVec 32 := 0#32
  let v5 : BitVec 32 := Scalar.addi v4 c0_i32
  let c64_i32_0 : BitVec 32 := 64#32
  let v6 : BitVec 32 := Scalar.muli v5 c64_i32_0
  v6
def k0_off1 (i : grid0.Coords) (c0_i32 : BitVec 32) : Fin 2 → Nat :=
  let arg1 : BitVec 32 := BitVec.ofNat 32 (i 1).val
  let c16_i32 : BitVec 32 := 16#32
  let v4 : BitVec 32 := Scalar.muli arg1 c16_i32
  let v5 : BitVec 32 := Scalar.addi v4 c0_i32
  let c64_i32_0 : BitVec 32 := 64#32
  let v6 : BitVec 32 := Scalar.muli v5 c64_i32_0
  let v7 : BitVec 32 := v6
  let v10 : Index := Scalar.indexCast v7
  let c0_2 : Index := 0#32
  ![v10.toNat, 0]
def k0_mult2 (i : grid0.Coords) : BitVec 32 :=
  let arg1 : BitVec 32 := BitVec.ofNat 32 (i 1).val
  let c16_i32_4 : BitVec 32 := 16#32
  let v20 : BitVec 32 := Scalar.muli arg1 c16_i32_4
  let c1_i32 : BitVec 32 := 1#32
  let v21 : BitVec 32 := Scalar.addi v20 c1_i32
  let c64_i32_5 : BitVec 32 := 64#32
  let v22 : BitVec 32 := Scalar.muli v21 c64_i32_5
  v22
def k0_mult3 (i : grid0.Coords) : BitVec 32 :=
  let arg1 : BitVec 32 := BitVec.ofNat 32 (i 1).val
  let c16_i32_10 : BitVec 32 := 16#32
  let v36 : BitVec 32 := Scalar.muli arg1 c16_i32_10
  let c2_i32 : BitVec 32 := 2#32
  let v37 : BitVec 32 := Scalar.addi v36 c2_i32
  let c64_i32_11 : BitVec 32 := 64#32
  let v38 : BitVec 32 := Scalar.muli v37 c64_i32_11
  v38
def k0_mult4 (i : grid0.Coords) : BitVec 32 :=
  let arg1 : BitVec 32 := BitVec.ofNat 32 (i 1).val
  let c16_i32_16 : BitVec 32 := 16#32
  let v52 : BitVec 32 := Scalar.muli arg1 c16_i32_16
  let c3_i32 : BitVec 32 := 3#32
  let v53 : BitVec 32 := Scalar.addi v52 c3_i32
  let c64_i32_17 : BitVec 32 := 64#32
  let v54 : BitVec 32 := Scalar.muli v53 c64_i32_17
  v54
def k0_mult5 (i : grid0.Coords) : BitVec 32 :=
  let arg1 : BitVec 32 := BitVec.ofNat 32 (i 1).val
  let c16_i32_22 : BitVec 32 := 16#32
  let v68 : BitVec 32 := Scalar.muli arg1 c16_i32_22
  let c4_i32 : BitVec 32 := 4#32
  let v69 : BitVec 32 := Scalar.addi v68 c4_i32
  let c64_i32_23 : BitVec 32 := 64#32
  let v70 : BitVec 32 := Scalar.muli v69 c64_i32_23
  v70
def k0_mult6 (i : grid0.Coords) : BitVec 32 :=
  let arg1 : BitVec 32 := BitVec.ofNat 32 (i 1).val
  let c16_i32_28 : BitVec 32 := 16#32
  let v84 : BitVec 32 := Scalar.muli arg1 c16_i32_28
  let c5_i32 : BitVec 32 := 5#32
  let v85 : BitVec 32 := Scalar.addi v84 c5_i32
  let c64_i32_29 : BitVec 32 := 64#32
  let v86 : BitVec 32 := Scalar.muli v85 c64_i32_29
  v86
def k0_mult7 (i : grid0.Coords) : BitVec 32 :=
  let arg1 : BitVec 32 := BitVec.ofNat 32 (i 1).val
  let c16_i32_34 : BitVec 32 := 16#32
  let v100 : BitVec 32 := Scalar.muli arg1 c16_i32_34
  let c6_i32 : BitVec 32 := 6#32
  let v101 : BitVec 32 := Scalar.addi v100 c6_i32
  let c64_i32_35 : BitVec 32 := 64#32
  let v102 : BitVec 32 := Scalar.muli v101 c64_i32_35
  v102
def k0_mult8 (i : grid0.Coords) : BitVec 32 :=
  let arg1 : BitVec 32 := BitVec.ofNat 32 (i 1).val
  let c16_i32_40 : BitVec 32 := 16#32
  let v116 : BitVec 32 := Scalar.muli arg1 c16_i32_40
  let c7_i32 : BitVec 32 := 7#32
  let v117 : BitVec 32 := Scalar.addi v116 c7_i32
  let c64_i32_41 : BitVec 32 := 64#32
  let v118 : BitVec 32 := Scalar.muli v117 c64_i32_41
  v118
def k0_mult9 (i : grid0.Coords) : BitVec 32 :=
  let arg1 : BitVec 32 := BitVec.ofNat 32 (i 1).val
  let c16_i32_46 : BitVec 32 := 16#32
  let v132 : BitVec 32 := Scalar.muli arg1 c16_i32_46
  let c8_i32 : BitVec 32 := 8#32
  let v133 : BitVec 32 := Scalar.addi v132 c8_i32
  let c64_i32_47 : BitVec 32 := 64#32
  let v134 : BitVec 32 := Scalar.muli v133 c64_i32_47
  v134
def k0_mult10 (i : grid0.Coords) : BitVec 32 :=
  let arg1 : BitVec 32 := BitVec.ofNat 32 (i 1).val
  let c16_i32_52 : BitVec 32 := 16#32
  let v148 : BitVec 32 := Scalar.muli arg1 c16_i32_52
  let c9_i32 : BitVec 32 := 9#32
  let v149 : BitVec 32 := Scalar.addi v148 c9_i32
  let c64_i32_53 : BitVec 32 := 64#32
  let v150 : BitVec 32 := Scalar.muli v149 c64_i32_53
  v150
def k0_mult11 (i : grid0.Coords) : BitVec 32 :=
  let arg1 : BitVec 32 := BitVec.ofNat 32 (i 1).val
  let c16_i32_58 : BitVec 32 := 16#32
  let v164 : BitVec 32 := Scalar.muli arg1 c16_i32_58
  let c10_i32 : BitVec 32 := 10#32
  let v165 : BitVec 32 := Scalar.addi v164 c10_i32
  let c64_i32_59 : BitVec 32 := 64#32
  let v166 : BitVec 32 := Scalar.muli v165 c64_i32_59
  v166
def k0_mult12 (i : grid0.Coords) : BitVec 32 :=
  let arg1 : BitVec 32 := BitVec.ofNat 32 (i 1).val
  let c16_i32_64 : BitVec 32 := 16#32
  let v180 : BitVec 32 := Scalar.muli arg1 c16_i32_64
  let c11_i32 : BitVec 32 := 11#32
  let v181 : BitVec 32 := Scalar.addi v180 c11_i32
  let c64_i32_65 : BitVec 32 := 64#32
  let v182 : BitVec 32 := Scalar.muli v181 c64_i32_65
  v182
def k0_mult13 (i : grid0.Coords) : BitVec 32 :=
  let arg1 : BitVec 32 := BitVec.ofNat 32 (i 1).val
  let c16_i32_70 : BitVec 32 := 16#32
  let v196 : BitVec 32 := Scalar.muli arg1 c16_i32_70
  let c12_i32 : BitVec 32 := 12#32
  let v197 : BitVec 32 := Scalar.addi v196 c12_i32
  let c64_i32_71 : BitVec 32 := 64#32
  let v198 : BitVec 32 := Scalar.muli v197 c64_i32_71
  v198
def k0_mult14 (i : grid0.Coords) : BitVec 32 :=
  let arg1 : BitVec 32 := BitVec.ofNat 32 (i 1).val
  let c16_i32_76 : BitVec 32 := 16#32
  let v212 : BitVec 32 := Scalar.muli arg1 c16_i32_76
  let c13_i32 : BitVec 32 := 13#32
  let v213 : BitVec 32 := Scalar.addi v212 c13_i32
  let c64_i32_77 : BitVec 32 := 64#32
  let v214 : BitVec 32 := Scalar.muli v213 c64_i32_77
  v214
def k0_mult15 (i : grid0.Coords) : BitVec 32 :=
  let arg1 : BitVec 32 := BitVec.ofNat 32 (i 1).val
  let c16_i32_82 : BitVec 32 := 16#32
  let v228 : BitVec 32 := Scalar.muli arg1 c16_i32_82
  let c14_i32 : BitVec 32 := 14#32
  let v229 : BitVec 32 := Scalar.addi v228 c14_i32
  let c64_i32_83 : BitVec 32 := 64#32
  let v230 : BitVec 32 := Scalar.muli v229 c64_i32_83
  v230
def k0_mult16 (i : grid0.Coords) : BitVec 32 :=
  let arg1 : BitVec 32 := BitVec.ofNat 32 (i 1).val
  let c16_i32_88 : BitVec 32 := 16#32
  let v244 : BitVec 32 := Scalar.muli arg1 c16_i32_88
  let c15_i32 : BitVec 32 := 15#32
  let v245 : BitVec 32 := Scalar.addi v244 c15_i32
  let c64_i32_89 : BitVec 32 := 64#32
  let v246 : BitVec 32 := Scalar.muli v245 c64_i32_89
  v246
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdRefIdeal.lean ====
abbrev S1x2048x1024 : Shape := ⟨3, ![1, 2048, 1024]⟩
abbrev S16x64x576 : Shape := ⟨3, ![16, 64, 576]⟩
abbrev S32x64x16x64 : Shape := ⟨4, ![32, 64, 16, 64]⟩
abbrev S_ : Shape := ⟨0, ![]⟩
abbrev S512x1024 : Shape := ⟨2, ![512, 1024]⟩
abbrev S2048x1024 : Shape := ⟨2, ![2048, 1024]⟩
abbrev S2560x1024 : Shape := ⟨2, ![2560, 1024]⟩
abbrev S40x64x16x64 : Shape := ⟨4, ![40, 64, 16, 64]⟩
abbrev S32x576x16x64 : Shape := ⟨4, ![32, 576, 16, 64]⟩
abbrev S32 : Shape := ⟨1, ![32]⟩
abbrev S32x1 : Shape := ⟨2, ![32, 1]⟩
abbrev S576 : Shape := ⟨1, ![576]⟩
abbrev S1x576 : Shape := ⟨2, ![1, 576]⟩
abbrev S32x576 : Shape := ⟨2, ![32, 576]⟩
abbrev S32x16x64x576 : Shape := ⟨4, ![32, 16, 64, 576]⟩
abbrev S1x16x64x576 : Shape := ⟨4, ![1, 16, 64, 576]⟩
abbrev S32x1x1x576 : Shape := ⟨4, ![32, 1, 1, 576]⟩
abbrev S32x16x64 : Shape := ⟨3, ![32, 16, 64]⟩
abbrev S32x16x64x1 : Shape := ⟨4, ![32, 16, 64, 1]⟩
abbrev S32x16x64x64 : Shape := ⟨4, ![32, 16, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S16x64x576, .f32⟩
  | .hbm, ⟨4, _⟩ => ⟨S32x64x16x64, .f32⟩
  | .hbm, ⟨5, _⟩ => ⟨S_, .f32⟩
  | .hbm, ⟨6, _⟩ => ⟨S512x1024, .f32⟩
  | .hbm, ⟨7, _⟩ => ⟨S2048x1024, .f32⟩
  | .hbm, ⟨8, _⟩ => ⟨S2560x1024, .f32⟩
  | .hbm, ⟨9, _⟩ => ⟨S40x64x16x64, .f32⟩
  | .hbm, ⟨10, _⟩ => ⟨S2048x1024, .f32⟩
  | .hbm, ⟨11, _⟩ => ⟨S2560x1024, .f32⟩
  | .hbm, ⟨12, _⟩ => ⟨S40x64x16x64, .f32⟩
  | .hbm, ⟨13, _⟩ => ⟨S32x64x16x64, .f32⟩
  | .hbm, ⟨14, _⟩ => ⟨S32x64x16x64, .f32⟩
  | .hbm, ⟨15, _⟩ => ⟨S32x64x16x64, .f32⟩
  | .hbm, ⟨16, _⟩ => ⟨S32x64x16x64, .f32⟩
  | .hbm, ⟨17, _⟩ => ⟨S32x64x16x64, .f32⟩
  | .hbm, ⟨18, _⟩ => ⟨S32x64x16x64, .f32⟩
  | .hbm, ⟨19, _⟩ => ⟨S32x64x16x64, .f32⟩
  | .hbm, ⟨20, _⟩ => ⟨S32x64x16x64, .f32⟩
  | .hbm, ⟨21, _⟩ => ⟨S32x64x16x64, .f32⟩
  | .hbm, ⟨22, _⟩ => ⟨S32x576x16x64, .f32⟩
  | .hbm, ⟨23, _⟩ => ⟨S32x64x16x64, .f32⟩
  | .hbm, ⟨24, _⟩ => ⟨S32x64x16x64, .f32⟩
  | .hbm, ⟨25, _⟩ => ⟨S32x64x16x64, .f32⟩
  | .hbm, ⟨26, _⟩ => ⟨S32x64x16x64, .f32⟩
  | .hbm, ⟨27, _⟩ => ⟨S32x64x16x64, .f32⟩
  | .hbm, ⟨28, _⟩ => ⟨S32x64x16x64, .f32⟩
  | .hbm, ⟨29, _⟩ => ⟨S32x64x16x64, .f32⟩
  | .hbm, ⟨30, _⟩ => ⟨S32x64x16x64, .f32⟩
  | .hbm, ⟨31, _⟩ => ⟨S32x64x16x64, .f32⟩
  | .hbm, ⟨32, _⟩ => ⟨S32x576x16x64, .f32⟩
  | .hbm, ⟨33, _⟩ => ⟨S32, .i32⟩
  | .hbm, ⟨34, _⟩ => ⟨S32x1, .i32⟩
  | .hbm, ⟨35, _⟩ => ⟨S_, .i32⟩
  | .hbm, ⟨36, _⟩ => ⟨S32x1, .i32⟩
  | .hbm, ⟨37, _⟩ => ⟨S32x1, .i32⟩
  | .hbm, ⟨38, _⟩ => ⟨S_, .i32⟩
  | .hbm, ⟨39, _⟩ => ⟨S32x1, .i32⟩
  | .hbm, ⟨40, _⟩ => ⟨S32x1, .i32⟩
  | .hbm, ⟨41, _⟩ => ⟨S576, .i32⟩
  | .hbm, ⟨42, _⟩ => ⟨S1x576, .i32⟩
  | .hbm, ⟨43, _⟩ => ⟨S32x576, .i32⟩
  | .hbm, ⟨44, _⟩ => ⟨S32x576, .i32⟩
  | .hbm, ⟨45, _⟩ => ⟨S32x576, .i32⟩
  | .hbm, ⟨46, _⟩ => ⟨S_, .i32⟩
  | .hbm, ⟨47, _⟩ => ⟨S32x576, .i32⟩
  | .hbm, ⟨48, _⟩ => ⟨S32x576, .i1⟩
  | .hbm, ⟨49, _⟩ => ⟨S32x16x64x576, .f32⟩
  | .hbm, ⟨50, _⟩ => ⟨S_, .f32⟩
  | .hbm, ⟨51, _⟩ => ⟨S32x16x64x576, .f32⟩
  | .hbm, ⟨52, _⟩ => ⟨S32x16x64x576, .f32⟩
  | .hbm, ⟨53, _⟩ => ⟨S1x16x64x576, .f32⟩
  | .hbm, ⟨54, _⟩ => ⟨S32x16x64x576, .f32⟩
  | .hbm, ⟨55, _⟩ => ⟨S32x16x64x576, .f32⟩
  | .hbm, ⟨56, _⟩ => ⟨S32x1x1x576, .i1⟩
  | .hbm, ⟨57, _⟩ => ⟨S_, .f32⟩
  | .hbm, ⟨58, _⟩ => ⟨S_, .f32⟩
  | .hbm, ⟨59, _⟩ => ⟨S32x16x64x576, .i1⟩
  | .hbm, ⟨60, _⟩ => ⟨S32x16x64x576, .f32⟩
  | .hbm, ⟨61, _⟩ => ⟨S32x16x64x576, .f32⟩
  | .hbm, ⟨62, _⟩ => ⟨S_, .f32⟩
  | .hbm, ⟨63, _⟩ => ⟨S32x16x64, .f32⟩
  | .hbm, ⟨64, _⟩ => ⟨S_, .f32⟩
  | .hbm, ⟨65, _⟩ => ⟨S32x16x64, .f32⟩
  | .hbm, ⟨66, _⟩ => ⟨S32x16x64, .f32⟩
  | .hbm, ⟨67, _⟩ => ⟨S32x16x64x1, .f32⟩
  | .hbm, ⟨68, _⟩ => ⟨S32x16x64x576, .f32⟩
  | .hbm, ⟨69, _⟩ => ⟨S32x16x64x576, .f32⟩
  | .hbm, ⟨70, _⟩ => ⟨S32x16x64x576, .f32⟩
  | .hbm, ⟨71, _⟩ => ⟨S_, .f32⟩
  | .hbm, ⟨72, _⟩ => ⟨S32x16x64, .f32⟩
  | .hbm, ⟨73, _⟩ => ⟨S32x16x64x1, .f32⟩
  | .hbm, ⟨74, _⟩ => ⟨S32x16x64x576, .f32⟩
  | .hbm, ⟨75, _⟩ => ⟨S32x16x64x576, .f32⟩
  | .hbm, ⟨76, _⟩ => ⟨S32x16x64x64, .f32⟩
  | .hbm, ⟨77, _⟩ => ⟨S32x64x16x64, .f32⟩
  | .hbm, ⟨78, _⟩ => ⟨S2048x1024, .f32⟩
  | .hbm, ⟨79, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_v30 : Ref sig .tc := ⟨.hbm, 36, rfl⟩
abbrev main_v31 : Ref sig .tc := ⟨.hbm, 37, rfl⟩
abbrev main_c_0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Proof.Lane.lean ====
module

public import proofs.«01_k».proof.Proof.Gen.LaneSumIdeal.Value
public import proofs.«01_k».proof.Proof.Gen.LaneSumRefIdeal.Run
public import proofs.«01_k».proof.Proof.Gen.LaneSumRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Lane

open Cert.LaneSumIdeal in
/-- The column `x` of the array belongs to group `x / 256`, as the program's integer arithmetic finds it. -/
theorem group_word (x : Fin 2048) : Scalar.select
                (IntOp.andi
                  (IntOp.cmpi CmpIPredicate.ne
                    (IntOp.subi (BitVec.setWidth 32 (IntOp.cmpi CmpIPredicate.sgt (BitVec.ofNat 32 ↑x) 0#32))
                      (BitVec.setWidth 32 (IntOp.cmpi CmpIPredicate.slt (BitVec.ofNat 32 ↑x) 0#32)))
                    (Scalar.subi (Scalar.extui (Scalar.cmpi CmpIPredicate.sgt 256#32 0#32))
                      (Scalar.extui (Scalar.cmpi CmpIPredicate.slt 256#32 0#32))))
                  (IntOp.cmpi CmpIPredicate.ne (IntOp.remsi ArithUnit.vector (BitVec.ofNat 32 ↑x) 256#32) 0#32))
                (IntOp.subi (IntOp.divsi ArithUnit.vector (BitVec.ofNat 32 ↑x) 256#32) 1#32)
                (IntOp.divsi ArithUnit.vector (BitVec.ofNat 32 ↑x) 256#32) = BitVec.ofNat 32 (x.val / 256) := by
  revert x; decide +kernel

theorem eq_word (a : Fin 8) (l : Fin 128) : BitVec.setWidth 32 (IntOp.cmpi CmpIPredicate.eq (BitVec.ofNat 32 a.val) (BitVec.ofNat 32 l.val)) = if a.val = l.val then 1#32 else 0#32 := by
  revert a l; decide +kernel

/-- The indicator of the groups: one where the column lies in the group, zero elsewhere. -/
theorem mask_at (a : Fin 8) (t : Fin 256) (l : Fin 128) : (FloatOps.sitofp (F := Ideal) FTy.f32 (BitVec.setWidth 32 (IntOp.cmpi CmpIPredicate.eq (BitVec.ofNat 32 ((a.val * 256 + t.val) / 256)) (BitVec.ofNat 32 l.val))) : EReal) = if a.val = l.val then 1 else 0 := by
  rw [show (a.val * 256 + t.val) / 256 = a.val by omega, eq_word]
  split
  · simp [FloatOps.sitofp]
  · simp [FloatOps.sitofp]

theorem kernel_at (X : FVec Ideal LaneSumRefIdeal.S128x2048 .f32) (r : Fin 128) (l : Fin 128) :
    Cert.LaneSumIdeal.Value.G1 (F := Ideal) X (ix2 r l) = (∑ a : Fin 8, if a.val = l.val then ∑ t : Fin 256, (X (ix2 r ⟨a.val * 256 + t.val, by omega⟩) : EReal) else 0 : EReal) := by
  pointwise [Cert.LaneSumIdeal.Value.G1, Cert.LaneSumIdeal.Gen.k0_pay1]
  simp only [group_word]
  rw [Fin.sum_univ_tiles 8 256 rfl]
  refine Finset.sum_congr rfl fun a _ => ?_
  split
  · next hl =>
    refine Finset.sum_congr rfl fun t _ => ?_
    rw [mask_at, if_pos hl, mul_one]
  · next hl =>
    refine Finset.sum_eq_zero fun t _ => ?_
    rw [mask_at, if_neg hl, mul_zero]

open Cert.LaneSumRefIdeal.Read in
theorem ref_at (X : FVec Ideal LaneSumRefIdeal.S128x2048 .f32) (r : Fin 128) (l : Fin 128) :
    Cert.LaneSumIdeal.Value.G1 (F := Ideal) X (ix2 r l) = Cert.LaneSumRefIdeal.Read.val_main_v11 (F := Ideal) X (ix2 r l) := by
  rw [kernel_at]
  pointwise [val_main_v11, val_main_v10, val_main_v9, val_main_v8, val_main_v7, val_main_v6, val_main_v5, val_main_v4, val_main_cst, val_main_cst_0, val_main_cst_1, val_main_cst_2]
  by_cases h : l.val < 8
  · rw [dif_pos h, Finset.sum_eq_single (⟨l.val, h⟩ : Fin 8)]
    · simp
    · intro a _ ha; rw [if_neg fun e => ha (Fin.ext e)]
    · intro ha; exact absurd (Finset.mem_univ _) ha
  · rw [dif_neg h]
    exact Finset.sum_eq_zero fun a _ => if_neg (by omega)
end Cert.Lane

end
-- ==== Proof.Scalars.lean ====
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Sc

/-! Extended reals that are real: sums, constants, and the sigmoid by two roads. -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem half : Ideal.ofBits .f32 0x3F000000#32 = ((1 / 2 : ℝ) : EReal) := by
  simp [Ideal.ofBits, Ideal.ieee, -EReal.coe_mul]; norm_num

theorem one_eq : (1 : EReal) = ((1 : ℝ) : EReal) := rfl
theorem zero_eq : (0 : EReal) = ((0 : ℝ) : EReal) := rfl

/-- The sigmoid, by the hyperbolic tangent and by the exponential. -/
theorem tanh_half (r : ℝ) : (1 / 2 : ℝ) * (1 + Real.tanh (1 / 2 * r)) = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = a at *
  generalize Real.exp (-(1 / 2 * r)) = b at *
  field_simp
  linear_combination (2 * b) * h2

theorem sigmoid (x : EReal) : Ideal.ofBits .f32 0x3F000000#32 * (1 + Ideal.tanh (Ideal.ofBits .f32 0x3F000000#32 * x)) = Ideal.div 1 (1 + Ideal.exp (-x)) := by
  rw [half]
  induction x with
  | bot =>
    rw [EReal.coe_mul_bot_of_pos (by norm_num), Ideal.tanh_bot, EReal.neg_bot]
    show ((1 / 2 : ℝ) : EReal) * (1 + -1) = Ideal.div 1 (1 + ⊤)
    have : (1 : EReal) + -1 = 0 := by rw [one_eq, ← EReal.coe_neg, ← EReal.coe_add]; simp
    rw [this, mul_zero, EReal.add_top_of_ne_bot (by decide)]
    simp [Ideal.div]
  | top =>
    rw [EReal.coe_mul_top_of_pos (by norm_num), Ideal.tanh_top, EReal.neg_top]
    show ((1 / 2 : ℝ) : EReal) * (1 + 1) = Ideal.div 1 (1 + 0)
    rw [add_zero, one_eq, Ideal.div_coe one_ne_zero, ← EReal.coe_add, ← EReal.coe_mul, ← EReal.coe_mul]
    norm_num
  | coe r =>
    rw [← EReal.coe_mul, Ideal.tanh_coe, ← EReal.coe_neg, Ideal.exp_coe, one_eq, ← EReal.coe_add, ← EReal.coe_add, ← EReal.coe_mul, tanh_half,
      Ideal.div_coe (by have := Real.exp_pos (-r); positivity), ← EReal.coe_mul]
    simp

theorem half_bf16 : Ideal.ofBits .bf16 0x3F00#16 = ((1 / 2 : ℝ) : EReal) := by
  simp [Ideal.ofBits, Ideal.ieee, -EReal.coe_mul]; norm_num

theorem one_bf16 : Ideal.ofBits .bf16 0x3F80#16 = ((1 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem inf_f32 : Ideal.ofBits .f32 0x7F800000#32 = ⊤ := by
  simp [Ideal.ofBits, Ideal.ieee, -EReal.coe_mul]

/-- The sigmoid of a real number. -/
def sg (x : ℝ) : ℝ := (1 + Real.exp (-x))⁻¹

theorem div_sg (x : ℝ) : Ideal.div 1 (1 + Ideal.exp (-(x : EReal))) = ((sg x : ℝ) : EReal) := by
  rw [← EReal.coe_neg, Ideal.exp_coe, one_eq, ← EReal.coe_add, Ideal.div_coe (by have := Real.exp_pos (-x); positivity), ← EReal.coe_mul]
  simp [sg]

theorem tanh_sg (x : ℝ) : ((1 / 2 : ℝ) : EReal) * (((1 : ℝ) : EReal) + Ideal.tanh (((1 / 2 : ℝ) : EReal) * (x : EReal))) = ((sg x : ℝ) : EReal) := by
  rw [← EReal.coe_mul, Ideal.tanh_coe, ← EReal.coe_add, ← EReal.coe_mul, tanh_half]; rfl

theorem tanh_sg_bf16 (x : ℝ) : Ideal.ofBits .bf16 0x3F00#16 * (1 + Ideal.tanh (Ideal.ofBits .bf16 0x3F00#16 * (x : EReal))) = ((sg x : ℝ) : EReal) := by
  rw [half_bf16]; exact tanh_sg x

theorem neg_half_f32 : Ideal.ofBits .f32 0xBF000000#32 = ((-(1 / 2) : ℝ) : EReal) := by
  simp [Ideal.ofBits, Ideal.ieee, -EReal.coe_mul]; norm_num

theorem neg_one_f32 : Ideal.ofBits .f32 0xBF800000#32 = ((-1 : ℝ) : EReal) := by
  simp [Ideal.ofBits, Ideal.ieee, -EReal.coe_mul, -EReal.coe_neg]; norm_num

theorem two_f32 : Ideal.ofBits .f32 0x40000000#32 = ((2 : ℝ) : EReal) := by
  simp [Ideal.ofBits, Ideal.ieee, -EReal.coe_mul]; norm_num

theorem len_f32 : Ideal.ofBits .f32 0x44800000#32 = ((1024 : ℝ) : EReal) := by
  simp [Ideal.ofBits, Ideal.ieee, -EReal.coe_mul]; norm_num

theorem long_f32 : Ideal.ofBits .f32 0x45000000#32 = ((2048 : ℝ) : EReal) := by
  simp [Ideal.ofBits, Ideal.ieee, -EReal.coe_mul]; norm_num

theorem inv_len_f32 : Ideal.ofBits .f32 0x3A800000#32 = ((1 / 1024 : ℝ) : EReal) := by
  simp [Ideal.ofBits, Ideal.ieee, -EReal.coe_mul]; norm_num

/-- The residual's factor, the rational of its word. -/
def al : ℝ := 14107901 / 8388608
theorem al_f32 : Ideal.ofBits .f32 0x3FD744FD#32 = ((al : ℝ) : EReal) := by
  simp [Ideal.ofBits, Ideal.ieee, -EReal.coe_mul, al]; norm_num

/-- The layer norm's small constant, the rational of its word. -/
def eps : ℝ := 10995116 / 1099511627776
theorem eps_f32 : Ideal.ofBits .f32 0x3727C5AC#32 = ((eps : ℝ) : EReal) := by
  simp [Ideal.ofBits, Ideal.ieee, -EReal.coe_mul, eps]; norm_num
theorem eps_pos : 0 < eps := by unfold eps; norm_num

theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- An array whose entries are all smaller than infinity in size is an array of real numbers. -/
theorem real_of_finite {s : Shape} (x : FVec Ideal s .f32) (b : (⟨0, ![]⟩ : Shape).BroadcastsInDim s ![])
    (h : cmpf .olt (Host.absf x) (broadcastInDim s ![] b (constant (F := Ideal) ⟨0, ![]⟩ .f32 0x7F800000#32)) = fun _ => 1#1) :
    ∃ X : s.Idx → ℝ, x = fun i => ((X i : ℝ) : EReal) := by
  have key : ∀ i, ∃ r : ℝ, x i = (r : EReal) := fun i => by
    have h := congrFun h i
    pointwise at h
    rw [inf_f32] at h
    have h : FloatOps.absf (x i) < (⊤ : EReal) := by
      by_contra hn
      rw [decide_eq_false hn] at h
      exact absurd h (by decide)
    rw [Ideal.absf_def] at h
    exact ⟨(x i : EReal).toReal, (EReal.coe_toReal (ne_of_lt (lt_of_le_of_lt (le_max_left _ _) h)) fun e => by
      rw [e] at h; exact absurd h (by simp)).symm⟩
  choose X hX using key
  exact ⟨X, funext hX⟩

end Cert.Sc

end
-- ==== Proof.Ada.lean ====
module

public import proofs.«01_k».proof.Proof.Gen.AdaGradIdeal.Value
public import proofs.«01_k».proof.Proof.Gen.AdaGradRefIdeal.Run
public import proofs.«01_k».proof.Proof.Gen.AdaGradRefIdeal.Read
public import proofs.«01_k».proof.Proof.Scalars
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Ada
open Cert.AdaGradIdeal Cert.AdaGradIdeal.Gen

open Cert.AdaGradRefIdeal.Read in
theorem ref_at (C : FVec Ideal AdaGradRefIdeal.S8x1024 .f32) (D : FVec Ideal AdaGradRefIdeal.S4x8x2304 .f32) (l : Fin 4) (d : Fin 1024) (n : Fin 2304) :
    val_main_v6 (F := Ideal) C D (ix3 l d n) = ∑ b : Fin 8, (C (ix2 b d) : EReal) * Ideal.div 1 (1 + Ideal.exp (-(C (ix2 b d) : EReal))) * (D (ix3 l b n) : EReal) := by
  pointwise [val_main_v6, val_main_v5, val_main_v4, val_main_v1, val_main_call0_v5, val_main_call0_v4, val_main_call0_v3, val_main_call0_v2, val_main_call0_v1, val_main_call0_v0, val_main_call0_cst, val_main_call0_cst_0]
  refine Finset.sum_congr rfl fun b _ => mul_comm _ _

theorem idx : ∀ t : Fin cfg0.N, win0_0.index t = ![0, 0] ∧ win0_1.index t = ![(grid0.coords t 0).val, 0, (grid0.coords t 1).val] ∧ win0_2.index t = ![(grid0.coords t 0).val, 0, (grid0.coords t 1).val] :=
  (by decide +kernel : ∀ t : Fin grid0.N, _)

variable (m : (ℓ : Loc nD τ sig) → Buf (Elt Ideal) ℓ)

theorem final (c : Dev nD) : (dats m 0 c).arrAt 2 (cfgs 0).N = Cert.AdaGradRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  rw [eq_ix3 (((cfg0.win 2).blk t).view.emb y)]
  refine Eq.trans ?_ (ref_at _ _ _ _ _).symm
  pointwise [k0_pay1]
  simp only [Cert.Sc.sigmoid]
  blk_point [iblk, V, idx t]

end Cert.Ada

end
-- ==== Proof.Ffn.lean ====
module

public import proofs.«01_k».proof.Proof.Gen.FfnActIdeal.Value
public import proofs.«01_k».proof.Proof.Gen.FfnActRefIdeal.Run
public import proofs.«01_k».proof.Proof.Gen.FfnActRefIdeal.Read
public import proofs.«01_k».proof.Proof.Scalars
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Ffn
open Cert.FfnActIdeal Cert.FfnActIdeal.Gen Cert.Sc

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

def row (t : Fin cfg0.N) (i : Fin 256) : Fin 2048 := ⟨t.val * 256 + i.val, by have := t.isLt; change t.val < 8 at this; omega⟩
def left (n : Fin 2816) : Fin 5632 := ⟨n.val, by omega⟩
def right (n : Fin 2816) : Fin 5632 := ⟨2816 + n.val, by omega⟩

/-- The gradient of the hidden row, a real number. -/
def dh (W : S2816x1024.Idx → ℝ) (C : FfnActRefIdeal.S1x2048x1024.Idx → ℝ) (r : Fin 2048) (n : Fin 2816) : ℝ := ∑ x : Fin 1024, C (ix3 0 r x) * W (ix2 n x)

/-- The two halves of the result, side by side. -/
def out (X : FfnActRefIdeal.S1x2048x5632.Idx → ℝ) (W : S2816x1024.Idx → ℝ) (C : FfnActRefIdeal.S1x2048x1024.Idx → ℝ) (r : Fin 2048) (n : Fin 5632) : ℝ :=
  if h : n.val < 2816 then
    dh W C r ⟨n, h⟩ * X (ix3 0 r ⟨2816 + n, by omega⟩) * (sg (X (ix3 0 r n)) * (1 + X (ix3 0 r n) * (1 - sg (X (ix3 0 r n)))))
  else dh W C r ⟨n - 2816, by omega⟩ * (X (ix3 0 r ⟨n - 2816, by omega⟩) * sg (X (ix3 0 r ⟨n - 2816, by omega⟩)))

open Cert.FfnActRefIdeal.Read in
theorem ref_eq (X : FfnActRefIdeal.S1x2048x5632.Idx → ℝ) (W : S2816x1024.Idx → ℝ) (C : FfnActRefIdeal.S1x2048x1024.Idx → ℝ) :
    val_main_v11 (F := Ideal) (fun i => ((X i : ℝ) : EReal)) (fun i => ((W i : ℝ) : EReal)) (fun i => ((C i : ℝ) : EReal))
      = fun j : S2048x5632.Idx => ((out X W C (j 0) (j 1) : ℝ) : EReal) := by
  funext j
  obtain ⟨r, n, rfl⟩ : ∃ (r : Fin 2048) (n : Fin 5632), j = ix2 r n := ⟨j 0, j 1, eq_ix2 j⟩
  pointwise [val_main_v11, val_main_v10, val_main_v9, val_main_v8, val_main_call1_v2, val_main_call1_v1, val_main_call1_v0, val_main_v7, val_main_v6, val_main_v5, val_main_v3, val_main_v2_0, val_main_v2_1, val_main_v2_2, val_main_call0_v7, val_main_call0_v6, val_main_call0_cst_1, val_main_call0_v4, val_main_call0_cst_0, val_main_call0_v3, val_main_call0_v2, val_main_call0_cst, val_main_call0_v1, val_main_call0_v0, val_main_v1, val_main_v0]
  simp only [div_sg]
  simp only [one_eq, ← EReal.coe_mul, sum_coe, ← EReal.coe_sub, ← EReal.coe_add]
  unfold out
  split
  · congr 1
    simp only [dh]
    ring
  · congr 1
    simp only [dh]
    ring

theorem pay4_at (A : S256x1024.Idx → ℝ) (B : S2816x1024.Idx → ℝ) (G U : S256x2816.Idx → ℝ) :
    k0_pay4 (F := Ideal) (fun i => ((A i : ℝ) : EReal)) (fun i => ((B i : ℝ) : EReal)) (fun i => ((G i : ℝ) : EReal)) (fun i => ((U i : ℝ) : EReal))
      = fun j : S256x2816.Idx => (((∑ k : Fin 1024, A (ix2 (j 0) k) * B (ix2 (j 1) k)) * U j * (sg (G j) * (1 + G j * (1 - sg (G j)))) : ℝ) : EReal) := by
  funext j
  pointwise [k0_pay4, k0_pay3, k0_pay2, k0_pay1]
  simp only [tanh_sg_bf16]
  simp only [one_eq, ← EReal.coe_mul, sum_coe, ← EReal.coe_sub, ← EReal.coe_add]

theorem pay5_at (A : S256x1024.Idx → ℝ) (B : S2816x1024.Idx → ℝ) (G : S256x2816.Idx → ℝ) :
    k0_pay5 (F := Ideal) (fun i => ((A i : ℝ) : EReal)) (fun i => ((B i : ℝ) : EReal)) (fun i => ((G i : ℝ) : EReal))
      = fun j : S256x2816.Idx => (((∑ k : Fin 1024, A (ix2 (j 0) k) * B (ix2 (j 1) k)) * (G j * sg (G j)) : ℝ) : EReal) := by
  funext j
  pointwise [k0_pay5, k0_pay3, k0_pay2, k0_pay1]
  simp only [tanh_sg_bf16]
  simp only [one_eq, ← EReal.coe_mul, sum_coe, ← EReal.coe_sub, ← EReal.coe_add]

variable (m : (ℓ : Loc nD τ sig) → Buf (Elt Ideal) ℓ)

theorem final (c : Dev nD) (X : FfnActRefIdeal.S1x2048x5632.Idx → ℝ) (W : S2816x1024.Idx → ℝ) (C : FfnActRefIdeal.S1x2048x1024.Idx → ℝ)
    (hX : m ((c : Thread nD τ).loc main_arg0) = fun i => ((X i : ℝ) : EReal)) (hW : m ((c : Thread nD τ).loc main_arg1) = fun i => ((W i : ℝ) : EReal))
    (hC : m ((c : Thread nD τ).loc main_arg2) = fun i => ((C i : ℝ) : EReal)) :
    (dats m 0 c).arrAt 3 (cfgs 0).N = fun j : S2048x5632.Idx => ((out X W C (j 0) (j 1) : ℝ) : EReal) := by
  refine (dats m 0 c).arrAt_eq_of_covers 3 _ (by decide +kernel) fun t _ y => ?_
  have h0 : iblk m c 0 t = fun i : S256x1024.Idx => ((C (ix3 0 (row t (i 0)) (i 1)) : ℝ) : EReal) := by
    funext i
    refine Eq.trans (b := m ((c : Thread nD τ).loc main_arg2) (ix3 0 (row t (i 0)) (i 1))) ?_ (congrFun hC _)
    unfold row
    blk_point [iblk, V, idx t]
  have h1 : iblk m c 1 t = fun i : S2816x1024.Idx => ((W i : ℝ) : EReal) := by
    funext i
    refine Eq.trans (b := m ((c : Thread nD τ).loc main_arg1) i) ?_ (congrFun hW _)
    blk_point [iblk, V, idx t]
  have h2 : iblk m c 2 t = fun i : S256x5632.Idx => ((X (ix3 0 (row t (i 0)) (i 1)) : ℝ) : EReal) := by
    funext i
    refine Eq.trans (b := m ((c : Thread nD τ).loc main_arg0) (ix3 0 (row t (i 0)) (i 1))) ?_ (congrFun hX _)
    unfold row
    blk_point [iblk, V, idx t]
  have hG : View.ld (iblk m c 2 t) (Rect.unit (s := S256x5632) ![0, 0] S256x2816.size inb_S256x5632_S256x2816_0_0)
      = fun i : S256x2816.Idx => ((X (ix3 0 (row t (i 0)) (left (i 1))) : ℝ) : EReal) := by
    funext i
    refine (congrFun h2 _).trans (congrArg (fun z => ((X z : ℝ) : EReal)) ?_)
    unfold row left
    blk_ext <;> simp [LoadRect.idx, Rect.unit]
  have hU : View.ld (iblk m c 2 t) (Rect.unit (s := S256x5632) ![0, 2816] S256x2816.size inb_S256x5632_S256x2816_0_2816)
      = fun i : S256x2816.Idx => ((X (ix3 0 (row t (i 0)) (right (i 1))) : ℝ) : EReal) := by
    funext i
    refine (congrFun h2 _).trans (congrArg (fun z => ((X z : ℝ) : EReal)) ?_)
    unfold row right
    blk_ext <;> simp [LoadRect.idx, Rect.unit]
  blk_simp
  rw [after0_3]; unfold Gen.outsAt0; frame_out
  have e4 := pay4_at (fun i => C (ix3 0 (row t (i 0)) (i 1))) W (fun i => X (ix3 0 (row t (i 0)) (left (i 1)))) (fun i => X (ix3 0 (row t (i 0)) (right (i 1))))
  have e5 := pay5_at (fun i => C (ix3 0 (row t (i 0)) (i 1))) W (fun i => X (ix3 0 (row t (i 0)) (left (i 1))))
  rw [← h0, ← h1, ← hG] at e4 e5
  rw [← hU] at e4
  canon_tiles x h
  · refine (congrFun e5 x).trans (congrArg _ ?_)
    have key : ∀ (a : Fin 2048) (b : Fin 5632), a = row t (x 0) → b = right (x 1) → out X W C a b
        = (∑ k : Fin 1024, C (ix3 0 (row t (x 0)) k) * W (ix2 (x 1) k)) * (X (ix3 0 (row t (x 0)) (left (x 1))) * sg (X (ix3 0 (row t (x 0)) (left (x 1))))) := by
      rintro _ _ rfl rfl
      simp [out, dh, right, left]
    exact (key _ _ (Fin.ext (by blk_simp [idx t]; show _ = t.val * 256 + (x 0).val; omega)) (Fin.ext (by unfold right; blk_simp [idx t] <;> try omega))).symm
  · refine (congrFun e4 x).trans (congrArg _ ?_)
    have key : ∀ (a : Fin 2048) (b : Fin 5632), a = row t (x 0) → b = left (x 1) → out X W C a b
        = (∑ k : Fin 1024, C (ix3 0 (row t (x 0)) k) * W (ix2 (x 1) k)) * X (ix3 0 (row t (x 0)) (right (x 1))) * (sg (X (ix3 0 (row t (x 0)) (left (x 1)))) * (1 + X (ix3 0 (row t (x 0)) (left (x 1))) * (1 - sg (X (ix3 0 (row t (x 0)) (left (x 1))))))) := by
      rintro _ _ rfl rfl
      simp [out, dh, right, left, x1_lt]
    exact (key _ _ (Fin.ext (by blk_simp [idx t]; show _ = t.val * 256 + (x 0).val; omega)) (Fin.ext (by unfold left; blk_simp [idx t] <;> try omega))).symm

end Cert.Ffn

end
-- ==== Proof.Rows.lean ====
module

public import Idealize.ShloMosaic.Lib.Pipeline.ValueKit
public import Idealize.ShloMosaic.Lib.WritesUnit
public import Idealize.ShloMosaic.Lib.Pointwise
public import Idealize.ShloMosaic.Lib.Pipeline.FrameBody

@[expose] public section

noncomputable section

open Idealize.ShloMosaic Idealize.ShloMosaic.TcCoe Idealize.SL.Sem

/-! A block of eight rows, of which a point stores some one at a time. -/

namespace Cert.Rows

variable {Val : EltTy → Type} {e : EltTy} {n w : ℕ}

/-- One row of the block. -/
abbrev Row (n w k : ℕ) (inb : ∀ a : Fin 2, (![k, 0] : Fin 2 → ℕ) a + (![1, w] : Fin 2 → ℕ) a ≤ (![n, w] : Fin 2 → ℕ) a) : Rect (⟨2, ![n, w]⟩ : Shape) :=
  Rect.unit (s := ⟨2, ![n, w]⟩) ![k, 0] ![1, w] inb

theorem canon_row [∀ e, Nonempty (Val e)] {k : ℕ} (inb) (p : (Row n w k inb).shape.Idx → Val e) (L : List (View.Piece Val (⟨2, ![n, w]⟩ : Shape) e)) (i : Fin n) (d : Fin w) :
    View.canon ((⟨Row n w k inb, p⟩ : View.Piece Val (⟨2, ![n, w]⟩ : Shape) e) :: L) (ix2 i d)
      = if i.val = k then p (ix2 0 d) else View.canon L (ix2 i d) := by
  split
  · rename_i h
    have : (Row n w k inb).emb (ix2 0 d) = ix2 i d := by
      funext a; refine Fin.ext ?_
      fin_cases a
      · simp [Row, Rect.unit, Rect.emb, ix2]; omega
      · simp [Row, Rect.unit, Rect.emb, ix2]
    rw [← this]
    exact View.canon_cons_emb _ _ _ _
  · rename_i h
    refine View.canon_cons_of_not_mem _ _ ?_
    rw [Rect.mem_set_unit]
    intro hall
    obtain ⟨h1, h2⟩ := hall 0
    change k ≤ i.val at h1
    change i.val < k + 1 at h2
    omega

theorem read_row {sig : RefSig} {κ : Kind} {sp : Space} (v : View sig κ sp (⟨2, ![n, w]⟩ : Shape) e) (f : v.ty.Contents Val) {k : ℕ} (inb)
    (p : (Row n w k inb).shape.Idx → Val e) (L : List (View.Piece Val (⟨2, ![n, w]⟩ : Shape) e)) (i : Fin n) (d : Fin w) :
    v.read Val (v.writes Val f ((⟨Row n w k inb, p⟩ : View.Piece Val (⟨2, ![n, w]⟩ : Shape) e) :: L)) (ix2 i d)
      = if i.val = k then p (ix2 0 d) else v.read Val (v.writes Val f L) (ix2 i d) := by
  split
  · rename_i h
    exact View.read_writes_cons_rows_of_mem v f inb p L (ix2 i d) (ix2 0 d) rfl (by simp [ix2, h]) (by simp [ix2])
  · rename_i h
    exact View.read_writes_cons_rows_of_not_mem (W := 1) v f inb p L (ix2 i d) rfl rfl (by simp [ix2]; omega)

theorem readCov_row [∀ e, Nonempty (Val e)] {sig : RefSig} {κ : Kind} {sp : Space} (v : View sig κ sp (⟨2, ![n, w]⟩ : Shape) e) {k : ℕ} (hk : k < n) (inb)
    (L : List (View.Piece Val (⟨2, ![n, w]⟩ : Shape) e)) (d : Fin w) :
    v.readCov L (Row n w k inb).toLoadRect (ix2 0 d) = View.canon L (ix2 ⟨k, hk⟩ d) := by
  rw [View.readCov_eq_canon']
  refine congrArg _ (funext fun a => Fin.ext ?_)
  fin_cases a <;> simp [Row, Rect.unit, LoadRect.idx, ix2]

theorem ld_row {k : ℕ} (hk : k < n) (inb) (X : (⟨2, ![n, w]⟩ : Shape).Idx → Val e) (d : Fin w) :
    View.ld (Val := Val) (e' := e) X (Row n w k inb) (ix2 0 d) = X (ix2 ⟨k, hk⟩ d) := by
  refine congrArg X (funext fun a => Fin.ext ?_)
  fin_cases a <;> simp [Row, Rect.unit, LoadRect.idx, ix2]

/-! Row after row replaced by what an update makes of it. -/

section update
variable {N W : ℕ}

theorem inb_row {k : ℕ} (hk : k < N) : ∀ a : Fin 2, (![k, 0] : Fin 2 → ℕ) a + (![1, W] : Fin 2 → ℕ) a ≤ (![N, W] : Fin 2 → ℕ) a := by
  intro a
  fin_cases a
  · exact hk
  · exact (Nat.zero_add W).le

theorem inb_all : ∀ a : Fin 2, (![0, 0] : Fin 2 → ℕ) a + (![N, W] : Fin 2 → ℕ) a ≤ (![N, W] : Fin 2 → ℕ) a := by
  intro a
  fin_cases a <;> exact (Nat.zero_add _).le

variable (f : (k : ℕ) → ((⟨2, ![1, W]⟩ : Shape).Idx → EReal) → ((⟨2, ![1, W]⟩ : Shape).Idx → EReal)) (T : ℕ → Fin W → EReal)
  (hf : ∀ k acc d, f k acc (ix2 0 d) = acc (ix2 0 d) + T k d)

/-- A value at the listed rows, zero at the others. -/
def only {n : ℕ} (L : List (Fin n)) (i : Fin n) (x : EReal) : EReal := if i ∈ L then x else 0

/-- The stores of a first point: a fill, and then each listed row updated, the last of the list first. -/
def firsts {sig : RefSig} {κ : Kind} {sp : Space} (v : View sig κ sp (⟨2, ![N, W]⟩ : Shape) .f32) (Z : (⟨2, ![N, W]⟩ : Shape).Idx → EReal) :
    List (Fin N) → List (View.Piece (Elt Ideal) (⟨2, ![N, W]⟩ : Shape) .f32)
  | [] => [⟨Rect.unit ![0, 0] ![N, W] inb_all, Z⟩]
  | k :: L => ⟨Row N W k.val (inb_row k.isLt), f k.val (v.readCov (firsts v Z L) (Row N W k.val (inb_row k.isLt)).toLoadRect)⟩ :: firsts v Z L

/-- The stores of a later point: each listed row of what was there updated. -/
def laters (P : (⟨2, ![N, W]⟩ : Shape).Idx → EReal) : List (Fin N) → List (View.Piece (Elt Ideal) (⟨2, ![N, W]⟩ : Shape) .f32)
  | [] => []
  | k :: L => ⟨Row N W k.val (inb_row k.isLt), f k.val (View.ld (Val := Elt Ideal) (e' := .f32) P (Row N W k.val (inb_row k.isLt)))⟩ :: laters P L

include hf in
theorem firsts_at {sig : RefSig} {κ : Kind} {sp : Space} (v : View sig κ sp (⟨2, ![N, W]⟩ : Shape) .f32) (Z : (⟨2, ![N, W]⟩ : Shape).Idx → EReal)
    (L : List (Fin N)) (hL : L.Nodup) (i : Fin N) (d : Fin W) :
    View.canon (firsts f v Z L) (ix2 i d) = Z (ix2 i d) + if i ∈ L then T i.val d else 0 := by
  induction L generalizing i with
  | nil =>
    refine (congrFun (View.canon_cons_unit_lit (Val := Elt Ideal) (e := .f32) (S := (⟨2, ![N, W]⟩ : Shape)) inb_all Z [] (fun a => by fin_cases a <;> rfl)) _).trans ?_
    simp
  | cons k L ih =>
    obtain ⟨hk, hL'⟩ := List.nodup_cons.mp hL
    refine (canon_row (inb_row k.isLt) _ _ i d).trans ?_
    split
    · rename_i h
      obtain rfl : i = k := Fin.ext h
      rw [hf, readCov_row v i.isLt, ih hL', if_neg hk, add_zero, if_pos (List.mem_cons_self)]
    · rename_i h
      have hne : i ≠ k := fun e => h (congrArg _ e)
      rw [ih hL']
      congr 1
      exact if_congr ⟨fun h => List.mem_cons_of_mem _ h, fun h => (List.mem_cons.mp h).resolve_left hne⟩ rfl rfl

include hf in
theorem laters_at {sig : RefSig} {κ : Kind} {sp : Space} (v : View sig κ sp (⟨2, ![N, W]⟩ : Shape) .f32) (g : v.ty.Contents (Elt Ideal))
    (P : (⟨2, ![N, W]⟩ : Shape).Idx → EReal) (hP : v.read (Elt Ideal) g = P) (L : List (Fin N)) (i : Fin N) (d : Fin W) :
    v.read (Elt Ideal) (v.writes (Elt Ideal) g (laters f P L)) (ix2 i d) = P (ix2 i d) + if i ∈ L then T i.val d else 0 := by
  induction L generalizing i with
  | nil =>
    refine (congrFun hP _).trans ?_
    simp
  | cons k L ih =>
    refine (read_row v g (inb_row k.isLt) _ _ i d).trans ?_
    split
    · rename_i h
      obtain rfl : i = k := Fin.ext h
      rw [hf, ld_row i.isLt, if_pos (List.mem_cons_self)]
    · rename_i h
      have hne : i ≠ k := fun e => h (congrArg _ e)
      rw [ih]
      congr 1
      exact if_congr ⟨fun h => List.mem_cons_of_mem _ h, fun h => (List.mem_cons.mp h).resolve_left hne⟩ rfl rfl
end update

end Cert.Rows

end
-- ==== Proof.UpFirst.lean ====
module

public import proofs.«01_k».proof.Proof.Gen.UpFirstIdeal.Value
public import proofs.«01_k».proof.Proof.Gen.UpFirstRefIdeal.Run
public import proofs.«01_k».proof.Proof.Gen.UpFirstRefIdeal.Read
public import proofs.«01_k».proof.Proof.Scalars
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpFirst
open Cert.UpFirstIdeal Cert.UpFirstIdeal.Gen Cert.Sc

theorem idx : ∀ t : Fin cfg0.N, win0_0.index t = ![t.val, 0] ∧ win0_1.index t = ![0, 0, 0] ∧ win0_2.index t = ![t.val, 0] ∧ win0_3.index t = ![t.val, 0] ∧ win0_4.index t = ![0, 0] ∧ win0_5.index t = ![t.val, 0] ∧ win0_6.index t = ![0, 0] :=
  (by decide +kernel : ∀ t : Fin grid0.N, _)

def row (t : Fin cfg0.N) (i : Fin 256) : Fin 2048 := ⟨t.val * 256 + i.val, by have := t.isLt; change t.val < 8 at this; omega⟩

section
variable (X A : FVec Ideal UpFirstRefIdeal.S1x2048x1024 .f32) (L H : FVec Ideal UpFirstRefIdeal.S1x1x1024 .f32) (W : FVec Ideal UpFirstRefIdeal.S1024x5632 .f32) (C : FVec Ideal UpFirstRefIdeal.S1x2048x5632 .f32)

/-- The gradient of the modulated row. -/
def dh (r : Fin 2048) (d : Fin 1024) : EReal := ∑ n : Fin 5632, C (ix3 0 r n) * W (ix2 d n)

/-- The gradient of the row before the modulation, with what reaches it past the product. -/
def dx (r : Fin 2048) (d : Fin 1024) : EReal := A (ix3 0 r d) + dh W C r d * (1 + L (ix3 0 0 d))

/-- The gradients of the scale and of the shift, in the first two of eight rows. -/
def rows (i : Fin 8) (d : Fin 1024) : EReal :=
  if i.val = 1 then ∑ r, dh W C r d else if i.val = 0 then ∑ r, dh W C r d * X (ix3 0 r d) else 0

open Cert.UpFirstRefIdeal.Read in
theorem ref_dx : val_main_v20 (F := Ideal) L W A C = fun j : S2048x1024.Idx => dx A L W C (j 0) (j 1) := by
  funext j
  obtain ⟨r, d, rfl⟩ : ∃ (r : Fin 2048) (d : Fin 1024), j = ix2 r d := ⟨j 0, j 1, eq_ix2 j⟩
  pointwise [val_main_v20,val_main_cst,val_main_v0,val_main_v1,val_main_v2,val_main_v3,val_main_v4,val_main_v5,val_main_v6,val_main_v7,val_main_cst_0,val_main_v8,val_main_v9,val_main_v10,val_main_cst_1,val_main_v11,val_main_v12,val_main_v13,val_main_v14,val_main_v15,val_main_v16,val_main_cst_2,val_main_v17,val_main_v18,val_main_v19,val_main_v20]
  rfl

open Cert.UpFirstRefIdeal.Read in
theorem ref_rows : val_main_v18 (F := Ideal) X W C = fun j : S8x1024.Idx => rows X W C (j 0) (j 1) := by
  funext j
  obtain ⟨i, d, rfl⟩ : ∃ (i : Fin 8) (d : Fin 1024), j = ix2 i d := ⟨j 0, j 1, eq_ix2 j⟩
  pointwise [val_main_v20,val_main_cst,val_main_v0,val_main_v1,val_main_v2,val_main_v3,val_main_v4,val_main_v5,val_main_v6,val_main_v7,val_main_cst_0,val_main_v8,val_main_v9,val_main_v10,val_main_cst_1,val_main_v11,val_main_v12,val_main_v13,val_main_v14,val_main_v15,val_main_v16,val_main_cst_2,val_main_v17,val_main_v18,val_main_v19,val_main_v20]
  show _ = rows X W C i d
  unfold rows dh
  obtain ⟨i, hi⟩ := i
  rcases i with _ | _ | i
  · simp [mul_comm]
  · simp
  · simp
end

variable (m : (ℓ : Loc nD τ sig) → Buf (Elt Ideal) ℓ)

/-- What a point computes of the product's gradient: its rows of it. -/
theorem dh_at (c : Dev nD) (t : Fin cfg0.N) :
    k0_pay5 (View.ld (Val := Elt Ideal) (e' := .bf16) (iblk m c 0 t) (Rect.unit (s := S256x5632) ![0, 0] ![256, 1408] inb_S256x5632_S256x1408_0_0))
      (View.ld (Val := Elt Ideal) (e' := .bf16) (iblk m c 1 t) (Rect.unit (s := S4x1024x1408) ![0, 0, 0] ![1, 1024, 1408] inb_S4x1024x1408_S1x1024x1408_0_0_0))
      (View.ld (Val := Elt Ideal) (e' := .bf16) (iblk m c 0 t) (Rect.unit (s := S256x5632) ![0, 1408] ![256, 1408] inb_S256x5632_S256x1408_0_1408))
      (View.ld (Val := Elt Ideal) (e' := .bf16) (iblk m c 1 t) (Rect.unit (s := S4x1024x1408) ![1, 0, 0] ![1, 1024, 1408] inb_S4x1024x1408_S1x1024x1408_1_0_0))
      (View.ld (Val := Elt Ideal) (e' := .bf16) (iblk m c 0 t) (Rect.unit (s := S256x5632) ![0, 2816] ![256, 1408] inb_S256x5632_S256x1408_0_2816))
      (View.ld (Val := Elt Ideal) (e' := .bf16) (iblk m c 1 t) (Rect.unit (s := S4x1024x1408) ![2, 0, 0] ![1, 1024, 1408] inb_S4x1024x1408_S1x1024x1408_2_0_0))
      (View.ld (Val := Elt Ideal) (e' := .bf16) (iblk m c 0 t) (Rect.unit (s := S256x5632) ![0, 4224] ![256, 1408] inb_S256x5632_S256x1408_0_4224))
      (View.ld (Val := Elt Ideal) (e' := .bf16) (iblk m c 1 t) (Rect.unit (s := S4x1024x1408) ![3, 0, 0] ![1, 1024, 1408] inb_S4x1024x1408_S1x1024x1408_3_0_0))
      = fun j : S256x1024.Idx => dh (m ((c : Thread nD τ).loc main_arg3)) (m ((c : Thread nD τ).loc main_arg5)) (row t (j 0)) (j 1) := by
  funext j
  obtain ⟨r, d, rfl⟩ : ∃ (r : Fin 256) (d : Fin 1024), j = ix2 r d := ⟨j 0, j 1, eq_ix2 j⟩
  have hP : ∀ (r : Fin 256) (n : Fin 5632), iblk m c 0 t (ix2 r n) = m ((c : Thread nD τ).loc main_arg5) (ix3 0 (row t r) n) := fun r n => by
    unfold row
    blk_point [iblk, V, idx t]
  have hW : ∀ (s : Fin 4) (d : Fin 1024) (n : Fin 1408), iblk m c 1 t (ix3 s d n) = m ((c : Thread nD τ).loc main_arg3) (ix2 d ⟨s.val * 1408 + n.val, by omega⟩) := fun s d n => by
    blk_point [iblk, V, idx t]
  pointwise [k0_pay5]
  simp only [hP, hW]
  unfold dh
  rw [Fin.sum_univ_tiles 4 1408 rfl]
  simp only [Fin.sum_univ_four]
  simp

/-- What a point adds to the eight rows. -/
def add (D x : FVec Ideal S256x1024 .f32) (i : Fin 8) (d : Fin 1024) : EReal :=
  if i.val = 1 then ∑ r : Fin 256, D (ix2 r d) else if i.val = 0 then ∑ r : Fin 256, D (ix2 r d) * x (ix2 r d) else 0

theorem first_at {sig : RefSig} {κ : Kind} {sp : Space} (v : View sig κ sp S8x1024 .f32) (D x : FVec Ideal S256x1024 .f32) (j : S8x1024.Idx) :
    View.canon (Val := Elt Ideal) (s := S8x1024) (e := .f32)
      [⟨Rect.unit ![1, 0] ![1, 1024] inb_S8x1024_S1x1024_1_0, k0_pay3 D (v.readCov
          [⟨Rect.unit ![0, 0] ![1, 1024] inb_S8x1024_S1x1024_0_0, k0_pay2 D (v.readCov [⟨Rect.unit ![0, 0] ![8, 1024] inb_S8x1024_S8x1024_0_0, k0_pay4 (F := Ideal)⟩] (Rect.unit ![0, 0] ![1, 1024] inb_S8x1024_S1x1024_0_0).toLoadRect) x⟩,
           ⟨Rect.unit ![0, 0] ![8, 1024] inb_S8x1024_S8x1024_0_0, k0_pay4 (F := Ideal)⟩] (Rect.unit ![1, 0] ![1, 1024] inb_S8x1024_S1x1024_1_0).toLoadRect)⟩,
       ⟨Rect.unit ![0, 0] ![1, 1024] inb_S8x1024_S1x1024_0_0, k0_pay2 D (v.readCov [⟨Rect.unit ![0, 0] ![8, 1024] inb_S8x1024_S8x1024_0_0, k0_pay4 (F := Ideal)⟩] (Rect.unit ![0, 0] ![1, 1024] inb_S8x1024_S1x1024_0_0).toLoadRect) x⟩,
       ⟨Rect.unit ![0, 0] ![8, 1024] inb_S8x1024_S8x1024_0_0, k0_pay4 (F := Ideal)⟩] j = 0 + add D x (j 0) (j 1) := by
  obtain ⟨i, d, rfl⟩ : ∃ (i : Fin 8) (d : Fin 1024), j = ix2 i d := ⟨j 0, j 1, eq_ix2 j⟩
  show _ = 0 + add D x i d
  have hz : ∀ i d, View.canon (Val := Elt Ideal) (s := S8x1024) (e := .f32) [⟨Rect.unit ![0, 0] ![8, 1024] inb_S8x1024_S8x1024_0_0, k0_pay4 (F := Ideal)⟩] (ix2 i d) = 0 := fun i d =>
by
    have e : k0_pay4 (F := Ideal) (ix2 i d) = 0 := by pointwise [k0_pay4]
    exact (congrFun (View.canon_cons_unit_lit (Val := Elt Ideal) (e := .f32) (S := S8x1024) inb_S8x1024_S8x1024_0_0 (k0_pay4 (F := Ideal)) [] (by decide)) _).trans e
  rw [Cert.Rows.canon_row, Cert.Rows.canon_row]
  unfold add
  pointwise [k0_pay3, k0_pay2]
  simp only [Cert.Rows.readCov_row (n := 8) (w := 1024) v (by decide : 0 < 8), Cert.Rows.readCov_row (n := 8) (w := 1024) v (by decide : 1 < 8), Cert.Rows.canon_row, hz]
  simp

theorem later_at {sig : RefSig} {κ : Kind} {sp : Space} (v : View sig κ sp S8x1024 .f32) (f) (P : FVec Ideal S8x1024 .f32) (hP : View.read (Elt Ideal) v f = P) (D x : FVec Ideal S256x1024 .f32) (j : S8x1024.Idx) :
    View.read (Elt Ideal) v (v.writes (Elt Ideal) f
      [⟨Rect.unit ![1, 0] ![1, 1024] inb_S8x1024_S1x1024_1_0, k0_pay3 D (View.ld (Val := Elt Ideal) (e' := .f32) P (Rect.unit (s := S8x1024) ![1, 0] ![1, 1024] inb_S8x1024_S1x1024_1_0))⟩,
       ⟨Rect.unit ![0, 0] ![1, 1024] inb_S8x1024_S1x1024_0_0, k0_pay2 D (View.ld (Val := Elt Ideal) (e' := .f32) P (Rect.unit (s := S8x1024) ![0, 0] ![1, 1024] inb_S8x1024_S1x1024_0_0)) x⟩]) j
      = P j + add D x (j 0) (j 1) := by
  obtain ⟨i, d, rfl⟩ : ∃ (i : Fin 8) (d : Fin 1024), j = ix2 i d := ⟨j 0, j 1, eq_ix2 j⟩
  show _ = P (ix2 i d) + add D x i d
  rw [Cert.Rows.read_row, Cert.Rows.read_row]
  unfold add
  pointwise [k0_pay3, k0_pay2]
  have h0 : View.read (Elt Ideal) v (v.writes (Elt Ideal) f []) (ix2 i d) = P (ix2 i d) := congrFun hP _
  simp only [Cert.Rows.ld_row (n := 8) (w := 1024) (by decide : 0 < 8), Cert.Rows.ld_row (n := 8) (w := 1024) (by decide : 1 < 8), h0]
  by_cases h1 : i.val = 1
  · obtain rfl : i = 1 := Fin.ext h1
    simp
  · by_cases h0 : i.val = 0
    · obtain rfl : i = 0 := Fin.ext h0
      simp
    · simp [h0, h1]

theorem final5 (c : Dev nD) : (dats m 0 c).arrAt 5 (cfgs 0).N
    = fun j : S2048x1024.Idx => dx (m ((c : Thread nD τ).loc main_arg4)) (m ((c : Thread nD τ).loc main_arg1)) (m ((c : Thread nD τ).loc main_arg3)) (m ((c : Thread nD τ).loc main_arg5)) (j 0) (j 1) := by
  refine (dats m 0 c).arrAt_eq_of_covers 5 _ (by decide +kernel) fun t _ y => ?_
  have key : ∀ (a : Fin 2048) (b : Fin 1024), a = row t (y 0) → b = y 1 →
      k0_pay1 (F := Ideal) (fun j : S256x1024.Idx => dh (m ((c : Thread nD τ).loc main_arg3)) (m ((c : Thread nD τ).loc main_arg5)) (row t (j 0)) (j 1)) (iblk m c 2 t) (iblk m c 4 t) y
      = dx (m ((c : Thread nD τ).loc main_arg4)) (m ((c : Thread nD τ).loc main_arg1)) (m ((c : Thread nD τ).loc main_arg3)) (m ((c : Thread nD τ).loc main_arg5)) a b := by
    rintro _ _ rfl rfl
    obtain ⟨r, d, rfl⟩ : ∃ (r : Fin 256) (d : Fin 1024), y = ix2 r d := ⟨y 0, y 1, eq_ix2 y⟩
    have hA : ∀ (r : Fin 256) (n : Fin 1024), iblk m c 2 t (ix2 r n) = m ((c : Thread nD τ).loc main_arg4) (ix3 0 (row t r) n) := fun r n => by
      unfold row
      blk_point [iblk, V, idx t]
    have hL : ∀ (n : Fin 1024), iblk m c 4 t (ix2 0 n) = m ((c : Thread nD τ).loc main_arg1) (ix3 0 0 n) := fun n => by
      blk_point [iblk, V, idx t]
    pointwise [k0_pay1]
    simp only [hA, hL]
    rfl
  refine Eq.trans ?_ (key _ _ (Fin.ext (by blk_simp [idx t]; show _ = t.val * 256 + (y 0).val; omega)) (Fin.ext (by blk_simp [idx t])))
  rw [after0_5]
  by_cases h0 : t.val % 8 = 0
  · rw [outsAt0_A m c t h0]; frame_out
    exact congrFun (congrArg (fun z => k0_pay1 z (iblk m c 2 t) (iblk m c 4 t)) (dh_at m c t)) y
  · rw [outsAt0_B m c t h0]; frame_out
    exact congrFun (congrArg (fun z => k0_pay1 z (iblk m c 2 t) (iblk m c 4 t)) (dh_at m c t)) y

/-- What point `t` adds. -/
def term (c : Dev nD) (t : Fin cfg0.N) : S8x1024.Idx → EReal := fun j =>
  add (fun j : S256x1024.Idx => dh (m ((c : Thread nD τ).loc main_arg3)) (m ((c : Thread nD τ).loc main_arg5)) (row t (j 0)) (j 1)) (iblk m c 3 t) (j 0) (j 1)

theorem final6 (c : Dev nD) : (dats m 0 c).arrAt 6 (cfgs 0).N
    = fun j : S8x1024.Idx => rows (m ((c : Thread nD τ).loc main_arg0)) (m ((c : Thread nD τ).loc main_arg3)) (m ((c : Thread nD τ).loc main_arg5)) (j 0) (j 1) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) (term m c)
    (fun t h j => by
      rw [outsAt0_A m c t h]; frame_out
      exact (first_at _ _ _ j).trans (congrArg (fun z => 0 + add z (iblk m c 3 t) (j 0) (j 1)) (dh_at m c t)))
    (fun t h j => by
      rw [outsAt0_B m c t h]; frame_out
      exact (later_at _ _ _ (by frame_out) _ _ j).trans (congrArg (fun z => _ + add z (iblk m c 3 t) (j 0) (j 1)) (dh_at m c t)))
    (le_of_eq N_0) t0_7 rfl j]
  have hX : ∀ (t : Fin cfg0.N) (r : Fin 256) (n : Fin 1024), iblk m c 3 t (ix2 r n) = m ((c : Thread nD τ).loc main_arg0) (ix3 0 (row t r) n) := fun t r n => by
    unfold row
    blk_point [iblk, V, idx t]
  obtain ⟨i, d, rfl⟩ : ∃ (i : Fin 8) (d : Fin 1024), j = ix2 i d := ⟨j 0, j 1, eq_ix2 j⟩
  have hs : ∀ f : Fin 2048 → EReal, ∑ r, f r = ∑ t : Fin 8, ∑ r : Fin 256, f (row t r) := fun f => Fin.sum_univ_tiles 8 256 rfl f
  show 0 + ∑ t : Fin 8, add (fun j : S256x1024.Idx => dh (m ((c : Thread nD τ).loc main_arg3)) (m ((c : Thread nD τ).loc main_arg5)) (row t (j 0)) (j 1)) (iblk m c 3 t) i d = rows _ _ _ i d
  unfold rows add
  rw [hs, hs]
  by_cases h1 : i.val = 1
  · simp [h1]
  · by_cases h0 : i.val = 0
    · simp [h0]
      exact Finset.sum_congr rfl fun t _ => Finset.sum_congr rfl fun r _ => congrArg (_ * ·) (hX t r d)
    · simp [h0, h1]

end Cert.UpFirst

end
-- ==== Proof.LN.lean ====
module

public import proofs.«01_k».proof.Proof.Scalars
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The layer norm of a row and its gradient, over the real numbers. -/

namespace Cert.LN
open Cert.Sc

/-- A length of rows, with the reciprocal that the mean multiplies by; and the float word of the length. -/
class Len (n : ℕ) where
  w : ℝ
  pos : 0 < w
  one : (n : ℝ) * w = 1
instance : Len 1024 := ⟨1 / 1024, by norm_num, by norm_num⟩
instance : Len 2048 := ⟨1 / 2048, by norm_num, by norm_num⟩
class LenWord (n : ℕ) [Len n] (b : BitVec 32) : Prop where
  eq : Ideal.ofBits .f32 b = (((1 / Len.w n : ℝ) : ℝ) : EReal)
instance : LenWord 1024 0x44800000#32 := ⟨by rw [len_f32, show Len.w 1024 = 1 / 1024 from rfl]; norm_num⟩
instance : LenWord 2048 0x45000000#32 := ⟨by rw [long_f32, show Len.w 2048 = 1 / 2048 from rfl]; norm_num⟩

section row
variable {n : ℕ} [Len n] (u e : Fin n → ℝ)

def mean : ℝ := (∑ k, u k) * Len.w n
def var : ℝ := (∑ k, (u k - mean u) * (u k - mean u)) * Len.w n
def rs : ℝ := (Real.sqrt (var u + eps))⁻¹
def xh (d : Fin n) : ℝ := (u d - mean u) * rs u

/-- The gradient of the row, from the gradient `e` of its normalised entries. -/
def dz (d : Fin n) : ℝ := rs u * (e d - (∑ k, e k) * Len.w n - xh u d * ((∑ k, e k * xh u k) * Len.w n))

/-- The same by the chain rule, one operation of the norm at a time. -/
def through : ℝ := (∑ k, (u k - mean u) * e k) * (-(1 / 2) * (rs u * (1 / (var u + eps)))) * Len.w n
def chain (d : Fin n) : ℝ :=
  e d * rs u + through u e * (2 * (u d - mean u)) + ((∑ k, -(e k * rs u)) + (∑ k, -(through u e * (2 * (u k - mean u))))) * Len.w n

theorem var_pos : 0 < var u + eps := by
  have h : 0 ≤ ∑ k, (u k - mean u) * (u k - mean u) := Finset.sum_nonneg fun k _ => mul_self_nonneg _
  have := eps_pos
  unfold var
  linarith [mul_nonneg h (Len.pos (n := n)).le]

theorem sum_centred : ∑ k, (u k - mean u) = 0 := by
  rw [Finset.sum_sub_distrib]
  simp only [mean, Finset.sum_const, Finset.card_univ, Fintype.card_fin, nsmul_eq_mul]
  linear_combination (-(∑ k, u k)) * Len.one (n := n)

theorem rs_mul : 1 / (var u + eps) = rs u * rs u := by
  unfold rs
  rw [← mul_inv, Real.mul_self_sqrt (var_pos u).le, one_div]

theorem chain_eq (d : Fin n) : chain u e d = dz u e d := by
  have h1 : ∑ k, -(through u e * (2 * (u k - mean u))) = 0 := by
    rw [Finset.sum_neg_distrib, ← Finset.mul_sum, ← Finset.mul_sum, sum_centred]; ring
  have h2 : ∑ k, -(e k * rs u) = -((∑ k, e k) * rs u) := by
    rw [Finset.sum_neg_distrib, ← Finset.sum_mul]
  have h3 : ∑ k, e k * xh u k = (∑ k, (u k - mean u) * e k) * rs u := by
    rw [Finset.sum_mul]
    exact Finset.sum_congr rfl fun k _ => by unfold xh; ring
  unfold chain dz
  rw [h1, h2, h3]
  unfold through xh
  rw [rs_mul]
  ring
end row

section reduce
theorem reduce_02 {n : ℕ} (h : (⟨3, ![1, n, 1]⟩ : Shape).ReducesTo [0, 2] (⟨1, ![n]⟩ : Shape)) (v : (⟨3, ![1, n, 1]⟩ : Shape).Idx → EReal) (init : EReal) (r : Fin n) :
    Ideal.hostReduceAdd h v init (ix1 r) = init + v (ix3 0 r 0) := by
  have key : ∀ i : (⟨3, ![1, n, 1]⟩ : Shape).Idx, h.drop i = ix1 r ↔ ∃ k : Fin 1, ix3 k r 0 = i := by
    intro i
    constructor
    · intro e
      refine ⟨0, ?_⟩
      funext a; apply Fin.ext
      match a with
      | ⟨0, _⟩ => exact (Nat.lt_one_iff.mp (i 0).isLt).symm
      | ⟨1, _⟩ => exact (congrArg Fin.val (congrFun e ⟨0, Nat.one_pos⟩)).symm
      | ⟨2, _⟩ => exact (Nat.lt_one_iff.mp (i 2).isLt).symm
    · rintro ⟨k, rfl⟩
      funext b; apply Fin.ext
      match b with
      | ⟨0, _⟩ => rfl
  refine congrArg (init + ·) ((Finset.sum_filter_eq_sum_of_fiber _ (fun k : Fin 1 => ix3 k r 0) (fun _ _ _ => Subsingleton.elim _ _) key v).trans ?_)
  simp

theorem reduce_01 {n : ℕ} (h : (⟨3, ![1, 1, n]⟩ : Shape).ReducesTo [0, 1] (⟨1, ![n]⟩ : Shape)) (v : (⟨3, ![1, 1, n]⟩ : Shape).Idx → EReal) (init : EReal) (r : Fin n) :
    Ideal.hostReduceAdd h v init (ix1 r) = init + v (ix3 0 0 r) := by
  have key : ∀ i : (⟨3, ![1, 1, n]⟩ : Shape).Idx, h.drop i = ix1 r ↔ ∃ k : Fin 1, ix3 k 0 r = i := by
    intro i
    constructor
    · intro e
      refine ⟨0, ?_⟩
      funext a; apply Fin.ext
      match a with
      | ⟨0, _⟩ => exact (Nat.lt_one_iff.mp (i 0).isLt).symm
      | ⟨1, _⟩ => exact (Nat.lt_one_iff.mp (i 1).isLt).symm
      | ⟨2, _⟩ => exact (congrArg Fin.val (congrFun e ⟨0, Nat.one_pos⟩)).symm
    · rintro ⟨k, rfl⟩
      funext b; apply Fin.ext
      match b with
      | ⟨0, _⟩ => rfl
  refine congrArg (init + ·) ((Finset.sum_filter_eq_sum_of_fiber _ (fun k : Fin 1 => ix3 k 0 r) (fun _ _ _ => Subsingleton.elim _ _) key v).trans ?_)
  simp
end reduce

/-! The same row read out of the operations that compute it. -/

section read
variable {n : ℕ} [Len n] {b : BitVec 32} [LenWord n b] (f : Fin n → EReal) (u : Fin n → ℝ) (h : ∀ k, f k = ((u k : ℝ) : EReal))

include h in
theorem mean_read : Ideal.div (∑ k, f k) (Ideal.ofBits .f32 b) = ((mean u : ℝ) : EReal) := by
  simp only [h, sum_coe, LenWord.eq (n := n) (b := b)]
  rw [Ideal.div_coe (one_div_ne_zero (Len.pos (n := n)).ne'), ← EReal.coe_mul, one_div_one_div]
  rfl

include h in
theorem rs_read : Ideal.rsqrt (Ideal.div (∑ x, (f x - Ideal.div (∑ k, f k) (Ideal.ofBits .f32 b)) * (f x - Ideal.div (∑ k, f k) (Ideal.ofBits .f32 b))) (Ideal.ofBits .f32 b)
    + Ideal.ofBits .f32 0x3727C5AC#32) = ((rs u : ℝ) : EReal) := by
  rw [mean_read f u h]
  simp only [h, ← EReal.coe_sub, ← EReal.coe_mul, sum_coe, LenWord.eq (n := n) (b := b), eps_f32]
  rw [Ideal.div_coe (one_div_ne_zero (Len.pos (n := n)).ne'), one_div_one_div, ← EReal.coe_mul, ← EReal.coe_add]
  exact rsqrt_pos (var_pos u)

include h in
theorem xh_read (d : Fin n) : (f d - Ideal.div (∑ k, f k) (Ideal.ofBits .f32 b)) * Ideal.rsqrt (Ideal.div (∑ x, (f x - Ideal.div (∑ k, f k) (Ideal.ofBits .f32 b)) * (f x - Ideal.div (∑ k, f k) (Ideal.ofBits .f32 b))) (Ideal.ofBits .f32 b)
    + Ideal.ofBits .f32 0x3727C5AC#32) = ((xh u d : ℝ) : EReal) := by
  rw [rs_read f u h, mean_read f u h, h, ← EReal.coe_sub, ← EReal.coe_mul]
  rfl
end read

end Cert.LN

end
-- ==== Proof.UpMixerRef.lean ====
module

public import proofs.«01_k».proof.Proof.Gen.UpMixerRefIdeal.Run
public import proofs.«01_k».proof.Proof.Gen.UpMixerRefIdeal.Read
public import proofs.«01_k».proof.Proof.Scalars
public import proofs.«01_k».proof.Proof.LN
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpMixer
open Cert.UpMixerRefIdeal.Read Cert.UpMixerRefIdeal Cert.Sc Cert.LN
section
variable (X Y CX : S1x2048x1024.Idx → ℝ) (M L : S1x1x1024.Idx → ℝ) (G : S1024.Idx → ℝ) (B : FVec Ideal S1024 .f32) (W : S1024x5632.Idx → ℝ) (C : S1x2048x5632.Idx → ℝ)

/-- The row that the layer norm takes. -/
def z (r : Fin 2048) (d : Fin 1024) : ℝ := al * X (ix3 0 r d) + (1 + M (ix3 0 0 d)) * Y (ix3 0 r d)
/-- The gradient of the modulated row. -/
def dh (r : Fin 2048) (d : Fin 1024) : ℝ := ∑ n : Fin 5632, C (ix3 0 r n) * W (ix2 d n)
/-- The gradient of the layer norm's result. -/
def dn (r : Fin 2048) (d : Fin 1024) : ℝ := CX (ix3 0 r d) + dh W C r d * (1 + L (ix3 0 0 d))
def dxh (r : Fin 2048) (d : Fin 1024) : ℝ := dn CX L W C r d * G (ix1 d)

theorem v6_at (r : Fin 2048) (d : Fin 1024) : val_main_v6 (F := Ideal) (fun i => ((X i : ℝ) : EReal)) (fun i => ((Y i : ℝ) : EReal)) (fun i => ((M i : ℝ) : EReal)) (ix3 0 r d) = ((z X Y M r d : ℝ) : EReal) := by
  pointwise [val_main_cst,val_main_v0,val_main_v1,val_main_cst_0,val_main_v2,val_main_v3,val_main_v4,val_main_v5,val_main_v6]
  simp only [al_f32, one_eq, ← EReal.coe_mul, ← EReal.coe_add]
  rfl
theorem v21_at (r : Fin 2048) (d : Fin 1024) : val_main_v21 (F := Ideal) (fun i => ((X i : ℝ) : EReal)) (fun i => ((Y i : ℝ) : EReal)) (fun i => ((M i : ℝ) : EReal)) (ix3 0 r d) = ((z X Y M r d - mean (z X Y M r) : ℝ) : EReal) := by
  pointwise [val_main_cst,val_main_v0,val_main_v1,val_main_cst_0,val_main_v2,val_main_v3,val_main_v4,val_main_v5,val_main_cst_1,val_main_v7,val_main_v8,val_main_cst_2,val_main_v9,val_main_v10,val_main_v11,val_main_v12,val_main_v13,val_main_cst_3,val_main_v14,val_main_v15,val_main_cst_4,val_main_v16,val_main_v17,val_main_cst_5,val_main_v18,val_main_v19,val_main_v20,val_main_v21]
  simp only [v6_at, sum_coe, len_f32]
  rw [Ideal.div_coe (by norm_num), ← EReal.coe_mul, ← EReal.coe_sub]
  rfl
theorem v12_at (r : Fin 2048) (d : Fin 1024) : val_main_v12 (F := Ideal) (fun i => ((X i : ℝ) : EReal)) (fun i => ((Y i : ℝ) : EReal)) (fun i => ((M i : ℝ) : EReal)) (ix3 0 r d) = ((z X Y M r d - mean (z X Y M r) : ℝ) : EReal) := by
  pointwise [val_main_cst,val_main_v0,val_main_v1,val_main_cst_0,val_main_v2,val_main_v3,val_main_v4,val_main_v5,val_main_cst_1,val_main_v7,val_main_v8,val_main_cst_2,val_main_v9,val_main_v10,val_main_v11,val_main_v12]
  simp only [v6_at, sum_coe, len_f32]
  rw [Ideal.div_coe (by norm_num), ← EReal.coe_mul, ← EReal.coe_sub]
  rfl
theorem v23_at (r : Fin 2048) : val_main_v23 (F := Ideal) (fun i => ((X i : ℝ) : EReal)) (fun i => ((Y i : ℝ) : EReal)) (fun i => ((M i : ℝ) : EReal)) (ix3 0 r 0) = ((var (z X Y M r) + eps : ℝ) : EReal) := by
  pointwise [val_main_cst,val_main_v0,val_main_v1,val_main_cst_0,val_main_v2,val_main_v3,val_main_v4,val_main_v5,val_main_cst_1,val_main_v7,val_main_v8,val_main_cst_2,val_main_v9,val_main_v10,val_main_v11,val_main_v13,val_main_cst_3,val_main_v14,val_main_v15,val_main_cst_4,val_main_v16,val_main_v17,val_main_cst_5,val_main_v18,val_main_v19,val_main_v20,val_main_v21,val_main_cst_6,val_main_v22,val_main_v23]
  simp only [v12_at, ← EReal.coe_mul, sum_coe, len_f32, eps_f32]
  rw [Ideal.div_coe (by norm_num), ← EReal.coe_mul, ← EReal.coe_add]
  rfl
theorem v24_at (r : Fin 2048) : val_main_v24 (F := Ideal) (fun i => ((X i : ℝ) : EReal)) (fun i => ((Y i : ℝ) : EReal)) (fun i => ((M i : ℝ) : EReal)) (ix3 0 r 0) = ((rs (z X Y M r) : ℝ) : EReal) := by
  pointwise [val_main_v24]
  rw [v23_at, rsqrt_pos (var_pos _)]
  rfl
theorem v29_at (r : Fin 2048) (d : Fin 1024) : val_main_v29 (F := Ideal) (fun i => ((X i : ℝ) : EReal)) (fun i => ((Y i : ℝ) : EReal)) (fun i => ((M i : ℝ) : EReal)) (ix3 0 r d) = ((xh (z X Y M r) d : ℝ) : EReal) := by
  pointwise [val_main_v29, val_main_v28]
  simp only [v21_at, v24_at, ← EReal.coe_mul]
  rfl
theorem v51_at (r : Fin 2048) (d : Fin 1024) : val_main_v51 (F := Ideal) (fun i => ((L i : ℝ) : EReal)) (fun i => ((W i : ℝ) : EReal)) (fun i => ((CX i : ℝ) : EReal)) (fun i => ((C i : ℝ) : EReal)) (ix3 0 r d) = ((dn CX L W C r d : ℝ) : EReal) := by
  pointwise [val_main_cst,val_main_v0,val_main_v1,val_main_cst_0,val_main_v2,val_main_v3,val_main_v4,val_main_v5,val_main_v6,val_main_cst_1,val_main_v7,val_main_v8,val_main_cst_2,val_main_v9,val_main_v10,val_main_v11,val_main_v12,val_main_v13,val_main_cst_3,val_main_v14,val_main_v15,val_main_cst_4,val_main_v16,val_main_v17,val_main_cst_5,val_main_v18,val_main_v19,val_main_v20,val_main_v21,val_main_cst_6,val_main_v22,val_main_v23,val_main_v24,val_main_v25,val_main_cst_7,val_main_v26,val_main_v27,val_main_v28,val_main_v29,val_main_v30,val_main_v31,val_main_v32,val_main_v33,val_main_v34,val_main_v35,val_main_cst_8,val_main_v36,val_main_v37,val_main_v38,val_main_v39,val_main_v40,val_main_v41,val_main_v42,val_main_v43,val_main_cst_9,val_main_v44,val_main_v45,val_main_v46,val_main_cst_10,val_main_v47,val_main_v48,val_main_v49,val_main_v50,val_main_v51]
  simp only [one_eq, ← EReal.coe_mul, sum_coe, ← EReal.coe_add]
  rfl
theorem v60_at (r : Fin 2048) (d : Fin 1024) : val_main_v60 (F := Ideal) (fun i => ((G i : ℝ) : EReal)) (fun i => ((L i : ℝ) : EReal)) (fun i => ((W i : ℝ) : EReal)) (fun i => ((CX i : ℝ) : EReal)) (fun i => ((C i : ℝ) : EReal)) (ix3 0 r d) = ((dxh CX L G W C r d : ℝ) : EReal) := by
  pointwise [val_main_v60,val_main_v59,val_main_v52,val_main_v30]
  simp only [v51_at, ← EReal.coe_mul]
  rfl
theorem v73_at (r : Fin 2048) : val_main_v73 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) (ix1 r) = ((through (z X Y M r) (dxh CX L G W C r) : ℝ) : EReal) := by
  pointwise [val_main_v73,val_main_cst_18]
  rw [reduce_02]
  pointwise [val_main_v72,val_main_v71,val_main_cst_17,val_main_v67,val_main_v64,val_main_v63,val_main_cst_15,val_main_v62,val_main_v27,val_main_v26,val_main_cst_7,val_main_v25]
  simp only [v21_at, v23_at, v24_at, v60_at, neg_half_f32, len_f32]
  rw [Ideal.div_coe (var_pos _).ne', Ideal.div_coe (by norm_num)]
  simp only [← EReal.coe_mul, sum_coe]
  rfl
theorem v87_at (r : Fin 2048) (d : Fin 1024) : val_main_v87 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) (ix3 0 r d) = ((dz (z X Y M r) (dxh CX L G W C r) d : ℝ) : EReal) := by
  rw [← chain_eq]
  pointwise [val_main_v87,val_main_v86,val_main_v85,val_main_v84,val_main_cst_21]
  rw [reduce_02]
  pointwise [val_main_cst,val_main_v0,val_main_v1,val_main_cst_0,val_main_v2,val_main_v3,val_main_v4,val_main_v5,val_main_cst_1,val_main_v7,val_main_v8,val_main_cst_2,val_main_v9,val_main_v10,val_main_v11,val_main_v13,val_main_cst_3,val_main_v14,val_main_v15,val_main_cst_4,val_main_v16,val_main_v17,val_main_cst_5,val_main_v18,val_main_v19,val_main_v20,val_main_cst_6,val_main_v22,val_main_v25,val_main_cst_7,val_main_v26,val_main_v27,val_main_v28,val_main_v29,val_main_v30,val_main_v31,val_main_v32,val_main_v33,val_main_v34,val_main_v35,val_main_cst_8,val_main_v36,val_main_v37,val_main_v38,val_main_v39,val_main_v40,val_main_v41,val_main_v42,val_main_v43,val_main_cst_9,val_main_v44,val_main_v45,val_main_v46,val_main_cst_10,val_main_v47,val_main_v48,val_main_v49,val_main_v50,val_main_v51,val_main_v52,val_main_cst_11,val_main_v53,val_main_v54,val_main_cst_12,val_main_v55,val_main_v56,val_main_cst_13,val_main_v57,val_main_v58,val_main_v59,val_main_cst_14,val_main_v61,val_main_v62,val_main_cst_15,val_main_v63,val_main_v64,val_main_v65,val_main_v66,val_main_v67,val_main_v68,val_main_cst_16,val_main_v69,val_main_v70,val_main_cst_17,val_main_v71,val_main_v72,val_main_cst_18,val_main_v74,val_main_v75,val_main_v76,val_main_v77,val_main_cst_19,val_main_v78,val_main_v79,val_main_v80,val_main_v81,val_main_cst_20,val_main_v82,val_main_v83]
  simp only [v12_at, v21_at, v23_at, v24_at, v60_at, v73_at, two_f32, len_f32]
  rw [Ideal.div_coe (by norm_num)]
  simp only [← EReal.coe_mul, ← EReal.coe_neg, sum_coe, ← EReal.coe_add]
  rfl

/-- The eight rows of gradients of vectors. -/
def rows (i : Fin 8) (d : Fin 1024) : EReal :=
  if i.val = 4 then ((∑ r, dz (z X Y M r) (dxh CX L G W C r) d * Y (ix3 0 r d) : ℝ) : EReal)
  else if i.val = 3 then ((∑ r, dn CX L W C r d : ℝ) : EReal)
  else if i.val = 2 then ((∑ r, dn CX L W C r d * xh (z X Y M r) d : ℝ) : EReal)
  else if i.val = 1 then ((∑ r, dh W C r d : ℝ) : EReal)
  else if i.val = 0 then ∑ r, ((dh W C r d : ℝ) : EReal) * (((xh (z X Y M r) d * G (ix1 d) : ℝ) : EReal) + B (ix1 d))
  else 0

theorem ref_dx : val_main_v102 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) = fun j : S2048x1024.Idx => ((al * dz (z X Y M (j 0)) (dxh CX L G W C (j 0)) (j 1) : ℝ) : EReal) := by
  funext j
  obtain ⟨r, d, rfl⟩ : ∃ (r : Fin 2048) (d : Fin 1024), j = ix2 r d := ⟨j 0, j 1, eq_ix2 j⟩
  pointwise [val_main_v102,val_main_v94,val_main_v93,val_main_cst_23]
  simp only [v87_at, al_f32, ← EReal.coe_mul]
theorem ref_dy : val_main_v104 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) = fun j : S2048x1024.Idx => (((1 + M (ix3 0 0 (j 1))) * dz (z X Y M (j 0)) (dxh CX L G W C (j 0)) (j 1) : ℝ) : EReal) := by
  funext j
  obtain ⟨r, d, rfl⟩ : ∃ (r : Fin 2048) (d : Fin 1024), j = ix2 r d := ⟨j 0, j 1, eq_ix2 j⟩
  pointwise [val_main_v104,val_main_v103,val_main_v89,val_main_v88,val_main_v1,val_main_v0,val_main_cst]
  simp only [v87_at, one_eq, ← EReal.coe_mul, ← EReal.coe_add]
theorem ref_rows : val_main_v101 (F := Ideal) (fun i => ((X i : ℝ) : EReal)) (fun i => ((Y i : ℝ) : EReal)) (fun i => ((M i : ℝ) : EReal)) (fun i => ((G i : ℝ) : EReal)) B (fun i => ((L i : ℝ) : EReal)) (fun i => ((W i : ℝ) : EReal)) (fun i => ((CX i : ℝ) : EReal)) (fun i => ((C i : ℝ) : EReal)) = fun j : S8x1024.Idx => rows X Y CX M L G B W C (j 0) (j 1) := by
  funext j
  obtain ⟨i, d, rfl⟩ : ∃ (i : Fin 8) (d : Fin 1024), j = ix2 i d := ⟨j 0, j 1, eq_ix2 j⟩
  show _ = rows X Y CX M L G B W C i d
  pointwise [val_main_v101,val_main_v100,val_main_cst_24,val_main_v99,val_main_v98,val_main_v97,val_main_v96,val_main_v95,val_main_v92,val_main_v91,val_main_cst_22,val_main_v90,val_main_v61,val_main_cst_14,val_main_v55,val_main_cst_12,val_main_v48,val_main_v47,val_main_cst_10,val_main_v46,val_main_v45,val_main_v44,val_main_cst_9,val_main_v43]
  simp only [reduce_01]
  pointwise [val_main_v58,val_main_v57,val_main_cst_13,val_main_v56,val_main_v52,val_main_v54,val_main_v53,val_main_cst_11,val_main_v35,val_main_v34,val_main_v33,val_main_v32,val_main_v31,val_main_v30]
  unfold rows
  have zo : ∀ h : 0 < 1, (⟨0, h⟩ : Fin 1) = 0 := fun _ => rfl
  obtain ⟨i, hi⟩ := i
  rcases i with _ | _ | _ | _ | _ | i
  · simp only [v29_at, ← EReal.coe_mul, sum_coe, zo]
    simp [mul_comm, dh]
  · simp only [← EReal.coe_mul, sum_coe]
    simp [dh]
  · simp only [v29_at, v51_at, ← EReal.coe_mul, sum_coe]
    simp [mul_comm]
  · simp only [v51_at, sum_coe]
    simp
  · simp [v87_at, ← EReal.coe_mul, sum_coe]
  · simp
end
end Cert.UpMixer

end
-- ==== Proof.UpMixerBlk.lean ====
module

public import proofs.«01_k».proof.Proof.Gen.UpMixerIdeal.Value
public import proofs.«01_k».proof.Proof.UpMixerRef
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpMixer
open Cert.UpMixerIdeal Cert.UpMixerIdeal.Gen Cert.Sc Cert.LN

theorem idx : ∀ t : Fin cfg0.N, win0_0.index t = ![t.val, 0] ∧ win0_1.index t = ![0, 0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, _)

def row (t : Fin cfg0.N) (i : Fin 256) : Fin 2048 := ⟨t.val * 256 + i.val, by have := t.isLt; change t.val < 8 at this; omega⟩
variable (m : (ℓ : Loc nD τ sig) → Buf (Elt Ideal) ℓ) (c : Dev nD)

section
variable (X Y CX : S1x2048x1024.Idx → ℝ) (M L : S1x1x1024.Idx → ℝ) (G : S1024.Idx → ℝ) (W : S1024x5632.Idx → ℝ) (C : S1x2048x5632.Idx → ℝ)
  (hX : m ((c : Thread nD τ).loc main_arg0) = fun i => ((X i : ℝ) : EReal)) (hY : m ((c : Thread nD τ).loc main_arg1) = fun i => ((Y i : ℝ) : EReal))
  (hM : m ((c : Thread nD τ).loc main_arg2) = fun i => ((M i : ℝ) : EReal)) (hG : m ((c : Thread nD τ).loc main_arg3) = fun i => ((G i : ℝ) : EReal))
  (hL : m ((c : Thread nD τ).loc main_arg5) = fun i => ((L i : ℝ) : EReal)) (hW : m ((c : Thread nD τ).loc main_arg7) = fun i => ((W i : ℝ) : EReal))
  (hCX : m ((c : Thread nD τ).loc main_arg8) = fun i => ((CX i : ℝ) : EReal)) (hC : m ((c : Thread nD τ).loc main_arg9) = fun i => ((C i : ℝ) : EReal))

/-! The blocks that a point reads. -/

include hC in
theorem b0 (t : Fin cfg0.N) (r : Fin 256) (n : Fin 5632) : iblk m c 0 t (ix2 r n) = ((C (ix3 0 (row t r) n) : ℝ) : EReal) := by
  refine Eq.trans (b := m ((c : Thread nD τ).loc main_arg9) (ix3 0 (row t r) n)) ?_ (congrFun hC _)
  unfold row
  blk_point [iblk, V, idx t]

include hW in
theorem b1 (t : Fin cfg0.N) (s : Fin 4) (d : Fin 1024) (n : Fin 1408) : iblk m c 1 t (ix3 s d n) = ((W (ix2 d ⟨s.val * 1408 + n.val, by omega⟩) : ℝ) : EReal) := by
  refine Eq.trans (b := m ((c : Thread nD τ).loc main_arg7) (ix2 d ⟨s.val * 1408 + n.val, by omega⟩)) ?_ (congrFun hW _)
  blk_point [iblk, V, idx t]

include hCX in
theorem b2 (t : Fin cfg0.N) (r : Fin 256) (d : Fin 1024) : iblk m c 2 t (ix2 r d) = ((CX (ix3 0 (row t r) d) : ℝ) : EReal) := by
  refine Eq.trans (b := m ((c : Thread nD τ).loc main_arg8) (ix3 0 (row t r) d)) ?_ (congrFun hCX _)
  unfold row
  blk_point [iblk, V, idx t]

include hL in
theorem b4 (t : Fin cfg0.N) (d : Fin 1024) : iblk m c 4 t (ix2 0 d) = ((L (ix3 0 0 d) : ℝ) : EReal) := by
  refine Eq.trans (b := m ((c : Thread nD τ).loc main_arg5) (ix3 0 0 d)) ?_ (congrFun hL _)
  blk_point [iblk, V, idx t]

include hG in
theorem b7 (t : Fin cfg0.N) (d : Fin 1024) : iblk m c 7 t (ix2 0 d) = ((G (ix1 d) : ℝ) : EReal) := by
  refine Eq.trans (b := m ((c : Thread nD τ).loc main_arg3) (ix1 d)) ?_ (congrFun hG _)
  blk_point [iblk, V, idx t]

include hY in
theorem b8 (t : Fin cfg0.N) (r : Fin 256) (d : Fin 1024) : iblk m c 8 t (ix2 r d) = ((Y (ix3 0 (row t r) d) : ℝ) : EReal) := by
  refine Eq.trans (b := m ((c : Thread nD τ).loc main_arg1) (ix3 0 (row t r) d)) ?_ (congrFun hY _)
  unfold row
  blk_point [iblk, V, idx t]

include hX hY hM in
theorem b5 (t : Fin cfg0.N) (r : Fin 256) (d : Fin 1024) : iblk m c 5 t (ix2 r d) = ((xh (z X Y M (row t r)) d : ℝ) : EReal) := by
  refine Eq.trans (b := V m c main_v27 (ix2 (row t r) d)) ?_ ?_
  · unfold row
    blk_point [iblk, idx t]
  · entry_read
    pointwise
    simp only [hX, hY, hM]
    refine xh_read (fun d => Ideal.ofBits .f32 0x3FD744FD#32 * (X (ix3 0 (row t r) d) : EReal) + (1 + (M (ix3 0 0 d) : EReal)) * (Y (ix3 0 (row t r) d) : EReal)) (z X Y M (row t r)) (fun k => ?_) d
    simp only [al_f32, one_eq, ← EReal.coe_mul, ← EReal.coe_add]
    rfl

include hX hY hM in
theorem b6 (t : Fin cfg0.N) (r : Fin 256) : iblk m c 6 t (ix2 r 0) = ((rs (z X Y M (row t r)) : ℝ) : EReal) := by
  refine Eq.trans (b := V m c main_v25 (ix2 (row t r) 0)) ?_ ?_
  · unfold row
    blk_point [iblk, idx t]
  · entry_read
    pointwise
    simp only [hX, hY, hM]
    refine rs_read _ (z X Y M (row t r)) (fun k => ?_)
    simp only [al_f32, one_eq, ← EReal.coe_mul, ← EReal.coe_add]
    rfl

include hX hY hM hG in
theorem b3 (t : Fin cfg0.N) (r : Fin 256) (d : Fin 1024) : iblk m c 3 t (ix2 r d) = ((xh (z X Y M (row t r)) d * G (ix1 d) : ℝ) : EReal) + m ((c : Thread nD τ).loc main_arg4) (ix1 d) := by
  refine Eq.trans (b := V m c main_v31 (ix2 (row t r) d)) ?_ ?_
  · unfold row
    blk_point [iblk, idx t]
  · entry_read
    pointwise
    simp only [hX, hY, hM, hG]
    rw [EReal.coe_mul]
    congr 2
    refine xh_read (fun d => Ideal.ofBits .f32 0x3FD744FD#32 * (X (ix3 0 (row t r) d) : EReal) + (1 + (M (ix3 0 0 d) : EReal)) * (Y (ix3 0 (row t r) d) : EReal)) (z X Y M (row t r)) (fun k => ?_) d
    simp only [al_f32, one_eq, ← EReal.coe_mul, ← EReal.coe_add]
    rfl

include hM in
theorem b9 (t : Fin cfg0.N) (d : Fin 1024) : iblk m c 9 t (ix2 0 d) = ((1 + M (ix3 0 0 d) : ℝ) : EReal) := by
  refine Eq.trans (b := V m c main_v6 (ix2 0 d)) ?_ ?_
  · blk_point [iblk, idx t]
  · entry_read
    pointwise
    simp only [hM]
    rfl
end

end Cert.UpMixer

end
-- ==== Proof.UpMixer.lean ====
module

public import proofs.«01_k».proof.Proof.UpMixerBlk
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpMixer
open Cert.UpMixerIdeal Cert.UpMixerIdeal.Gen Cert.Sc Cert.LN

variable (m : (ℓ : Loc nD τ sig) → Buf (Elt Ideal) ℓ) (c : Dev nD)

/-! What a point computes, a tile at a time. -/

def dhT (t : Fin cfg0.N) : FVec Ideal S256x1024 .f32 :=
  k0_pay3 (View.ld (Val := Elt Ideal) (e' := .bf16) (iblk m c 0 t) (Rect.unit (s := S256x5632) ![0, 0] ![256, 1408] inb_S256x5632_S256x1408_0_0))
    (View.ld (Val := Elt Ideal) (e' := .bf16) (iblk m c 1 t) (Rect.unit (s := S4x1024x1408) ![0, 0, 0] ![1, 1024, 1408] inb_S4x1024x1408_S1x1024x1408_0_0_0))
    (View.ld (Val := Elt Ideal) (e' := .bf16) (iblk m c 0 t) (Rect.unit (s := S256x5632) ![0, 1408] ![256, 1408] inb_S256x5632_S256x1408_0_1408))
    (View.ld (Val := Elt Ideal) (e' := .bf16) (iblk m c 1 t) (Rect.unit (s := S4x1024x1408) ![1, 0, 0] ![1, 1024, 1408] inb_S4x1024x1408_S1x1024x1408_1_0_0))
    (View.ld (Val := Elt Ideal) (e' := .bf16) (iblk m c 0 t) (Rect.unit (s := S256x5632) ![0, 2816] ![256, 1408] inb_S256x5632_S256x1408_0_2816))
    (View.ld (Val := Elt Ideal) (e' := .bf16) (iblk m c 1 t) (Rect.unit (s := S4x1024x1408) ![2, 0, 0] ![1, 1024, 1408] inb_S4x1024x1408_S1x1024x1408_2_0_0))
    (View.ld (Val := Elt Ideal) (e' := .bf16) (iblk m c 0 t) (Rect.unit (s := S256x5632) ![0, 4224] ![256, 1408] inb_S256x5632_S256x1408_0_4224))
    (View.ld (Val := Elt Ideal) (e' := .bf16) (iblk m c 1 t) (Rect.unit (s := S4x1024x1408) ![3, 0, 0] ![1, 1024, 1408] inb_S4x1024x1408_S1x1024x1408_3_0_0))

def dzT (t : Fin cfg0.N) : FVec Ideal S256x1024 .f32 :=
  k0_pay11 (k0_pay7 (iblk m c 5 t)) (k0_pay8 (dhT m c t) (iblk m c 2 t) (iblk m c 4 t) (iblk m c 7 t)) (k0_pay9 (dhT m c t) (iblk m c 2 t) (iblk m c 4 t) (iblk m c 7 t))
    (k0_pay10 (dhT m c t) (iblk m c 2 t) (iblk m c 4 t) (iblk m c 5 t) (iblk m c 7 t)) (iblk m c 6 t)

/-- How a point updates a row of the sums. -/
def upd (t : Fin cfg0.N) : ℕ → (S1x1024.Idx → EReal) → (S1x1024.Idx → EReal)
  | 0, acc => k0_pay5 (dhT m c t) acc (iblk m c 3 t)
  | 1, acc => k0_pay6 (dhT m c t) acc
  | 2, acc => k0_pay14 (k0_pay4 (dhT m c t) (iblk m c 2 t) (iblk m c 4 t)) (k0_pay7 (iblk m c 5 t)) acc
  | 3, acc => k0_pay15 (k0_pay4 (dhT m c t) (iblk m c 2 t) (iblk m c 4 t)) acc
  | 4, acc => k0_pay1 (dzT m c t) acc (iblk m c 8 t)
  | _, acc => acc

section
variable (X Y CX : S1x2048x1024.Idx → ℝ) (M L : S1x1x1024.Idx → ℝ) (G : S1024.Idx → ℝ) (W : S1024x5632.Idx → ℝ) (C : S1x2048x5632.Idx → ℝ)
  (hX : m ((c : Thread nD τ).loc main_arg0) = fun i => ((X i : ℝ) : EReal)) (hY : m ((c : Thread nD τ).loc main_arg1) = fun i => ((Y i : ℝ) : EReal))
  (hM : m ((c : Thread nD τ).loc main_arg2) = fun i => ((M i : ℝ) : EReal)) (hG : m ((c : Thread nD τ).loc main_arg3) = fun i => ((G i : ℝ) : EReal))
  (hL : m ((c : Thread nD τ).loc main_arg5) = fun i => ((L i : ℝ) : EReal)) (hW : m ((c : Thread nD τ).loc main_arg7) = fun i => ((W i : ℝ) : EReal))
  (hCX : m ((c : Thread nD τ).loc main_arg8) = fun i => ((CX i : ℝ) : EReal)) (hC : m ((c : Thread nD τ).loc main_arg9) = fun i => ((C i : ℝ) : EReal))

include hW hC in
theorem dh_at (t : Fin cfg0.N) (r : Fin 256) (d : Fin 1024) : dhT m c t (ix2 r d) = ((dh W C (row t r) d : ℝ) : EReal) := by
  unfold dhT
  pointwise [k0_pay3]
  simp only [b0 m c C hC, b1 m c W hW, ← EReal.coe_mul, sum_coe]
  unfold dh
  rw [Fin.sum_univ_tiles 4 1408 rfl]
  simp only [Fin.sum_univ_four, EReal.coe_add]
  simp

include hW hC hCX hL in
theorem dn_at (t : Fin cfg0.N) (r : Fin 256) (d : Fin 1024) : k0_pay4 (dhT m c t) (iblk m c 2 t) (iblk m c 4 t) (ix2 r d) = ((dn CX L W C (row t r) d : ℝ) : EReal) := by
  pointwise [k0_pay4]
  simp only [dh_at m c W C hW hC, b2 m c CX hCX, b4 m c L hL, one_eq, ← EReal.coe_mul, ← EReal.coe_add]
  rfl

include hW hC hCX hL hG in
theorem dxh_at (t : Fin cfg0.N) (r : Fin 256) (d : Fin 1024) : k0_pay8 (dhT m c t) (iblk m c 2 t) (iblk m c 4 t) (iblk m c 7 t) (ix2 r d) = ((dxh CX L G W C (row t r) d : ℝ) : EReal) := by
  pointwise [k0_pay8]
  simp only [dn_at m c CX L W C hL hW hCX hC, b7 m c G hG, ← EReal.coe_mul]
  rfl

include hX hY hM hG hL hW hCX hC in
theorem dz_at (t : Fin cfg0.N) (r : Fin 256) (d : Fin 1024) : dzT m c t (ix2 r d) = ((dz (z X Y M (row t r)) (dxh CX L G W C (row t r)) d : ℝ) : EReal) := by
  unfold dzT
  pointwise [k0_pay11, k0_pay9, k0_pay10, k0_pay7]
  simp only [dxh_at m c CX L G W C hG hL hW hCX hC, b5 m c X Y M hX hY hM, b6 m c X Y M hX hY hM, len_f32, ← EReal.coe_mul, sum_coe]
  rw [Ideal.div_coe (by norm_num), Ideal.div_coe (by norm_num)]
  simp only [← EReal.coe_mul, ← EReal.coe_sub]
  rfl

/-- What a point adds to the rows. -/
def T (B : FVec Ideal S1024 .f32) (t : Fin cfg0.N) : ℕ → Fin 1024 → EReal
  | 0, d => ∑ r : Fin 256, ((dh W C (row t r) d : ℝ) : EReal) * (((xh (z X Y M (row t r)) d * G (ix1 d) : ℝ) : EReal) + B (ix1 d))
  | 1, d => ∑ r : Fin 256, ((dh W C (row t r) d : ℝ) : EReal)
  | 2, d => ∑ r : Fin 256, ((dn CX L W C (row t r) d * xh (z X Y M (row t r)) d : ℝ) : EReal)
  | 3, d => ∑ r : Fin 256, ((dn CX L W C (row t r) d : ℝ) : EReal)
  | 4, d => ∑ r : Fin 256, ((dz (z X Y M (row t r)) (dxh CX L G W C (row t r)) d * Y (ix3 0 (row t r) d) : ℝ) : EReal)
  | _, _ => 0

include hX hY hM hG hL hW hCX hC in
theorem upd_at (t : Fin cfg0.N) (k : ℕ) (acc : S1x1024.Idx → EReal) (d : Fin 1024) :
    upd m c t k acc (ix2 0 d) = acc (ix2 0 d) + T X Y CX M L G W C (m ((c : Thread nD τ).loc main_arg4)) t k d := by
  match k with
  | 0 =>
    unfold upd T
    pointwise [k0_pay5]
    simp only [dh_at m c W C hW hC, b3 m c X Y M G hX hY hM hG]
  | 1 =>
    unfold upd T
    pointwise [k0_pay6]
    simp only [dh_at m c W C hW hC]
  | 2 =>
    unfold upd T
    pointwise [k0_pay14, k0_pay7]
    simp only [dn_at m c CX L W C hL hW hCX hC, b5 m c X Y M hX hY hM, ← EReal.coe_mul]
  | 3 =>
    unfold upd T
    pointwise [k0_pay15]
    simp only [dn_at m c CX L W C hL hW hCX hC]
  | 4 =>
    unfold upd T
    pointwise [k0_pay1]
    simp only [dz_at m c X Y CX M L G W C hX hY hM hG hL hW hCX hC, b8 m c Y hY, ← EReal.coe_mul]
  | k + 5 => exact (add_zero _).symm

include hX hY hM hG hL hW hCX hC in
theorem final10 : (dats m 0 c).arrAt 10 (cfgs 0).N = fun j : S2048x1024.Idx => ((al * dz (z X Y M (j 0)) (dxh CX L G W C (j 0)) (j 1) : ℝ) : EReal) := by
  refine (dats m 0 c).arrAt_eq_of_covers 10 _ (by decide +kernel) fun t _ y => ?_
  have key : ∀ (a : Fin 2048) (b : Fin 1024), a = row t (y 0) → b = y 1 →
      k0_pay12 (k0_pay7 (iblk m c 5 t)) (k0_pay8 (dhT m c t) (iblk m c 2 t) (iblk m c 4 t) (iblk m c 7 t)) (k0_pay9 (dhT m c t) (iblk m c 2 t) (iblk m c 4 t) (iblk m c 7 t))
        (k0_pay10 (dhT m c t) (iblk m c 2 t) (iblk m c 4 t) (iblk m c 5 t) (iblk m c 7 t)) (iblk m c 6 t) y = ((al * dz (z X Y M a) (dxh CX L G W C a) b : ℝ) : EReal) := by
    rintro _ _ rfl rfl
    obtain ⟨r, d, rfl⟩ : ∃ (r : Fin 256) (d : Fin 1024), y = ix2 r d := ⟨y 0, y 1, eq_ix2 y⟩
    have := dz_at m c X Y CX M L G W C hX hY hM hG hL hW hCX hC t r d
    unfold dzT at this
    pointwise [k0_pay12]
    rw [this, al_f32, ← EReal.coe_mul]
  refine Eq.trans ?_ (key _ _ (Fin.ext (by blk_simp [idx t]; show _ = t.val * 256 + (y 0).val; omega)) (Fin.ext (by blk_simp [idx t])))
  rw [after0_10]
  by_cases h0 : t.val % 8 = 0
  · rw [outsAt0_A m c t h0]; frame_out
    rfl
  · rw [outsAt0_B m c t h0]; frame_out
    rfl

include hX hY hM hG hL hW hCX hC in
theorem final11 : (dats m 0 c).arrAt 11 (cfgs 0).N = fun j : S2048x1024.Idx => (((1 + M (ix3 0 0 (j 1))) * dz (z X Y M (j 0)) (dxh CX L G W C (j 0)) (j 1) : ℝ) : EReal) := by
  refine (dats m 0 c).arrAt_eq_of_covers 11 _ (by decide +kernel) fun t _ y => ?_
  have key : ∀ (a : Fin 2048) (b : Fin 1024), a = row t (y 0) → b = y 1 →
      k0_pay13 (k0_pay7 (iblk m c 5 t)) (k0_pay8 (dhT m c t) (iblk m c 2 t) (iblk m c 4 t) (iblk m c 7 t)) (k0_pay9 (dhT m c t) (iblk m c 2 t) (iblk m c 4 t) (iblk m c 7 t))
        (k0_pay10 (dhT m c t) (iblk m c 2 t) (iblk m c 4 t) (iblk m c 5 t) (iblk m c 7 t)) (iblk m c 6 t) (iblk m c 9 t) y = (((1 + M (ix3 0 0 b)) * dz (z X Y M a) (dxh CX L G W C a) b : ℝ) : EReal) := by
    rintro _ _ rfl rfl
    obtain ⟨r, d, rfl⟩ : ∃ (r : Fin 256) (d : Fin 1024), y = ix2 r d := ⟨y 0, y 1, eq_ix2 y⟩
    have := dz_at m c X Y CX M L G W C hX hY hM hG hL hW hCX hC t r d
    unfold dzT at this
    pointwise [k0_pay13]
    rw [this, b9 m c M hM, ← EReal.coe_mul]
  refine Eq.trans ?_ (key _ _ (Fin.ext (by blk_simp [idx t]; show _ = t.val * 256 + (y 0).val; omega)) (Fin.ext (by blk_simp [idx t])))
  rw [after0_11]
  by_cases h0 : t.val % 8 = 0
  · rw [outsAt0_A m c t h0]; frame_out
    rfl
  · rw [outsAt0_B m c t h0]; frame_out
    rfl

/-- What point `t` adds. -/
def term (B : FVec Ideal S1024 .f32) (t : Fin cfg0.N) : S8x1024.Idx → EReal := fun j => Cert.Rows.only (n := 8) [4, 3, 2, 1, 0] (j 0) (T X Y CX M L G W C B t (j 0).val (j 1))

include hX hY hM hG hL hW hCX hC in
theorem final12 : (dats m 0 c).arrAt 12 (cfgs 0).N = fun j : S8x1024.Idx => rows X Y CX M L G (m ((c : Thread nD τ).loc main_arg4)) W C (j 0) (j 1) := by
  refine (dats m 0 c).arrAt_eq_of_after_last 12 t0_7 (by decide +kernel) _ fun j => ?_
  blk_simp
  rw [after0_12, Pipeline.eq_sum_fin_of_reset_step_apply_last (fun n h => (outsAt0 m c n h).2.2) 8 (fun _ => 0) (term X Y CX M L G W C (m ((c : Thread nD τ).loc main_arg4)))
    (fun t h j => by
      have e : ∀ i d, k0_pay2 (F := Ideal) (ix2 i d) = 0 := fun i d => by pointwise [k0_pay2]
      obtain ⟨i, d, rfl⟩ : ∃ (i : Fin 8) (d : Fin 1024), j = ix2 i d := ⟨j 0, j 1, eq_ix2 j⟩
      rw [outsAt0_A m c t h]; frame_out
      exact (Cert.Rows.firsts_at (upd m c t) _ (upd_at m c X Y CX M L G W C hX hY hM hG hL hW hCX hC t) _ (k0_pay2 (F := Ideal)) [4, 3, 2, 1, 0] (by decide) i d).trans (congrArg (· + _) (e i d)))
    (fun t h j => by
      obtain ⟨i, d, rfl⟩ : ∃ (i : Fin 8) (d : Fin 1024), j = ix2 i d := ⟨j 0, j 1, eq_ix2 j⟩
      rw [outsAt0_B m c t h]; frame_out
      exact Cert.Rows.laters_at (upd m c t) _ (upd_at m c X Y CX M L G W C hX hY hM hG hL hW hCX hC t) _ _ _ (by frame_out) [4, 3, 2, 1, 0] i d)
    (le_of_eq N_0) t0_7 rfl j]
  obtain ⟨i, d, rfl⟩ : ∃ (i : Fin 8) (d : Fin 1024), j = ix2 i d := ⟨j 0, j 1, eq_ix2 j⟩
  have hs : ∀ f : Fin 2048 → EReal, ∑ r, f r = ∑ t : Fin 8, ∑ r : Fin 256, f (row t r) := fun f => Fin.sum_univ_tiles 8 256 rfl f
  show 0 + ∑ t : Fin 8, (if i ∈ [4, 3, 2, 1, 0] then T X Y CX M L G W C (m ((c : Thread nD τ).loc main_arg4)) t i.val d else 0) = rows X Y CX M L G (m ((c : Thread nD τ).loc main_arg4)) W C i d
  rw [zero_add]
  unfold rows
  simp only [← sum_coe, hs]
  fin_cases i <;> first | rfl | exact Finset.sum_const_zero
end

end Cert.UpMixer

end
-- ==== Proof.LossRef.lean ====
module

public import proofs.«01_k».proof.Proof.Gen.LossLnRefIdeal.Run
public import proofs.«01_k».proof.Proof.Gen.LossLnRefIdeal.Read
public import proofs.«01_k».proof.Proof.Scalars
public import proofs.«01_k».proof.Proof.LN
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossLn
open Cert.LossLnRefIdeal.Read Cert.LossLnRefIdeal Cert.Sc Cert.LN
section
variable (X Y TG : S1x2048x1024.Idx → ℝ) (M : S1x1x1024.Idx → ℝ) (G B : S1024.Idx → ℝ)

/-- The row that the layer norm takes. -/
def z (r : Fin 2048) (d : Fin 1024) : ℝ := al * X (ix3 0 r d) + 1 / 2 * (1 + M (ix3 0 0 d)) * Y (ix3 0 r d)
/-- The error that is squared. -/
def err (r : Fin 2048) (d : Fin 1024) : ℝ := xh (z X Y M r) d * G (ix1 d) + B (ix1 d) - TG (ix3 0 r d)
/-- The gradient of the layer norm's result. -/
def dn (r : Fin 2048) (d : Fin 1024) : ℝ := err X Y TG M G B r d * (1 / 1024)
def dxh (r : Fin 2048) (d : Fin 1024) : ℝ := dn X Y TG M G B r d * G (ix1 d)

theorem v8_at (r : Fin 2048) (d : Fin 1024) : val_main_v8 (F := Ideal) (fun i => ((X i : ℝ) : EReal)) (fun i => ((Y i : ℝ) : EReal)) (fun i => ((M i : ℝ) : EReal)) (ix3 0 r d) = ((z X Y M r d : ℝ) : EReal) := by
  pointwise [val_main_cst,val_main_v0,val_main_v1,val_main_cst_0,val_main_v2,val_main_v3,val_main_cst_1,val_main_v4,val_main_v5,val_main_v6,val_main_v7,val_main_v8]
  simp only [al_f32, half, one_eq, ← EReal.coe_mul, ← EReal.coe_add]
  rfl
theorem v23_at (r : Fin 2048) (d : Fin 1024) : val_main_v23 (F := Ideal) (fun i => ((X i : ℝ) : EReal)) (fun i => ((Y i : ℝ) : EReal)) (fun i => ((M i : ℝ) : EReal)) (ix3 0 r d) = ((z X Y M r d - mean (z X Y M r) : ℝ) : EReal) := by
  pointwise [val_main_cst_2,val_main_v9,val_main_v10,val_main_cst_3,val_main_v11,val_main_v12,val_main_v13,val_main_cst_4,val_main_v16,val_main_v17,val_main_cst_5,val_main_v19,val_main_cst_6,val_main_v20,val_main_v21,val_main_v22,val_main_v23]
  simp only [v8_at, sum_coe, len_f32]
  rw [Ideal.div_coe (by norm_num), ← EReal.coe_mul, ← EReal.coe_sub]
  rfl
theorem v14_at (r : Fin 2048) (d : Fin 1024) : val_main_v14 (F := Ideal) (fun i => ((X i : ℝ) : EReal)) (fun i => ((Y i : ℝ) : EReal)) (fun i => ((M i : ℝ) : EReal)) (ix3 0 r d) = ((z X Y M r d - mean (z X Y M r) : ℝ) : EReal) := by
  pointwise [val_main_cst_2,val_main_v9,val_main_v10,val_main_cst_3,val_main_v11,val_main_v12,val_main_v13,val_main_v14]
  simp only [v8_at, sum_coe, len_f32]
  rw [Ideal.div_coe (by norm_num), ← EReal.coe_mul, ← EReal.coe_sub]
  rfl
theorem v25_at (r : Fin 2048) : val_main_v25 (F := Ideal) (fun i => ((X i : ℝ) : EReal)) (fun i => ((Y i : ℝ) : EReal)) (fun i => ((M i : ℝ) : EReal)) (ix3 0 r 0) = ((var (z X Y M r) + eps : ℝ) : EReal) := by
  pointwise [val_main_v15,val_main_cst_5,val_main_v18,val_main_v19,val_main_cst_6,val_main_v20,val_main_v21,val_main_cst_7,val_main_v24,val_main_v25]
  simp only [v14_at, ← EReal.coe_mul, sum_coe, len_f32, eps_f32]
  rw [Ideal.div_coe (by norm_num), ← EReal.coe_mul, ← EReal.coe_add]
  rfl
theorem v26_at (r : Fin 2048) : val_main_v26 (F := Ideal) (fun i => ((X i : ℝ) : EReal)) (fun i => ((Y i : ℝ) : EReal)) (fun i => ((M i : ℝ) : EReal)) (ix3 0 r 0) = ((rs (z X Y M r) : ℝ) : EReal) := by
  pointwise [val_main_v26]
  rw [v25_at, rsqrt_pos (var_pos _)]
  rfl
theorem v31_at (r : Fin 2048) (d : Fin 1024) : val_main_v31 (F := Ideal) (fun i => ((X i : ℝ) : EReal)) (fun i => ((Y i : ℝ) : EReal)) (fun i => ((M i : ℝ) : EReal)) (ix3 0 r d) = ((xh (z X Y M r) d : ℝ) : EReal) := by
  pointwise [val_main_v31, val_main_v30]
  simp only [v23_at, v26_at, ← EReal.coe_mul]
  rfl
theorem v38_at (r : Fin 2048) (d : Fin 1024) : val_main_v38 (F := Ideal) (fun i => ((X i : ℝ) : EReal)) (fun i => ((Y i : ℝ) : EReal)) (fun i => ((M i : ℝ) : EReal)) (fun i => ((G i : ℝ) : EReal)) (fun i => ((B i : ℝ) : EReal)) (fun i => ((TG i : ℝ) : EReal)) (ix3 0 r d) = ((err X Y TG M G B r d : ℝ) : EReal) := by
  pointwise [val_main_v32,val_main_v33,val_main_v34,val_main_v35,val_main_v36,val_main_v37,val_main_v38]
  simp only [v31_at, ← EReal.coe_mul, ← EReal.coe_add, ← EReal.coe_sub]
  rfl
theorem v52_at (r : Fin 2048) (d : Fin 1024) : val_main_v52 (F := Ideal) (fun i => ((X i : ℝ) : EReal)) (fun i => ((Y i : ℝ) : EReal)) (fun i => ((M i : ℝ) : EReal)) (fun i => ((G i : ℝ) : EReal)) (fun i => ((B i : ℝ) : EReal)) (fun i => ((TG i : ℝ) : EReal)) (ix3 0 r d) = ((dn X Y TG M G B r d : ℝ) : EReal) := by
  pointwise [val_main_cst_9,val_main_v40,val_main_v41,val_main_cst_14,val_main_cst_15,val_main_v47,val_main_v48,val_main_cst_16,val_main_v49,val_main_v50,val_main_v51,val_main_v52]
  simp only [v38_at, half, two_f32, len_f32, one_eq, ← EReal.coe_mul]
  rw [Ideal.div_coe (by norm_num), ← EReal.coe_mul, ← EReal.coe_mul, EReal.coe_eq_coe_iff]
  unfold dn
  ring
theorem v60_at (r : Fin 2048) (d : Fin 1024) : val_main_v60 (F := Ideal) (fun i => ((X i : ℝ) : EReal)) (fun i => ((Y i : ℝ) : EReal)) (fun i => ((M i : ℝ) : EReal)) (fun i => ((G i : ℝ) : EReal)) (fun i => ((B i : ℝ) : EReal)) (fun i => ((TG i : ℝ) : EReal)) (ix3 0 r d) = ((dxh X Y TG M G B r d : ℝ) : EReal) := by
  pointwise [val_main_v60,val_main_v59,val_main_v32]
  simp only [v52_at, ← EReal.coe_mul]
  rfl
theorem v73_at (r : Fin 2048) : val_main_v73 (F := Ideal) (fun i => ((X i : ℝ) : EReal)) (fun i => ((Y i : ℝ) : EReal)) (fun i => ((M i : ℝ) : EReal)) (fun i => ((G i : ℝ) : EReal)) (fun i => ((B i : ℝ) : EReal)) (fun i => ((TG i : ℝ) : EReal)) (ix1 r) = ((through (z X Y M r) (dxh X Y TG M G B r) : ℝ) : EReal) := by
  pointwise [val_main_v73,val_main_cst_24]
  rw [reduce_02]
  pointwise [val_main_v72,val_main_v71,val_main_cst_23,val_main_v67,val_main_v64,val_main_v63,val_main_cst_21,val_main_v62,val_main_v29,val_main_v28,val_main_cst_8,val_main_v27]
  simp only [v23_at, v25_at, v26_at, v60_at, neg_half_f32, len_f32]
  rw [Ideal.div_coe (var_pos _).ne', Ideal.div_coe (by norm_num)]
  simp only [← EReal.coe_mul, sum_coe]
  rfl
theorem v87_at (r : Fin 2048) (d : Fin 1024) : val_main_v87 (F := Ideal) (fun i => ((X i : ℝ) : EReal)) (fun i => ((Y i : ℝ) : EReal)) (fun i => ((M i : ℝ) : EReal)) (fun i => ((G i : ℝ) : EReal)) (fun i => ((B i : ℝ) : EReal)) (fun i => ((TG i : ℝ) : EReal)) (ix3 0 r d) = ((dz (z X Y M r) (dxh X Y TG M G B r) d : ℝ) : EReal) := by
  rw [← chain_eq]
  pointwise [val_main_v87,val_main_v86,val_main_v85,val_main_v84,val_main_cst_27]
  rw [reduce_02]
  pointwise [val_main_cst_4,val_main_v16,val_main_v17,val_main_v65,val_main_v66,val_main_v68,val_main_cst_22,val_main_v69,val_main_v70,val_main_v74,val_main_v75,val_main_v76,val_main_v77,val_main_cst_25,val_main_v78,val_main_v79,val_main_v80,val_main_v81,val_main_cst_26,val_main_v82,val_main_v83]
  simp only [v14_at, v26_at, v60_at, v73_at, two_f32, len_f32]
  rw [Ideal.div_coe (by norm_num)]
  simp only [← EReal.coe_mul, ← EReal.coe_neg, sum_coe, ← EReal.coe_add]
  rfl

/-- The eight rows of gradients of vectors, and of squared errors. -/
def rows (i : Fin 8) (d : Fin 1024) : EReal :=
  if i.val = 3 then ((∑ r, err X Y TG M G B r d * err X Y TG M G B r d : ℝ) : EReal)
  else if i.val = 2 then ((∑ r, 1 / 2 * dz (z X Y M r) (dxh X Y TG M G B r) d * Y (ix3 0 r d) : ℝ) : EReal)
  else if i.val = 1 then ((∑ r, dn X Y TG M G B r d : ℝ) : EReal)
  else if i.val = 0 then ((∑ r, dn X Y TG M G B r d * xh (z X Y M r) d : ℝ) : EReal)
  else 0

theorem ref_dx : val_main_v140 (F := Ideal) (fun i => ((X i : ℝ) : EReal)) (fun i => ((Y i : ℝ) : EReal)) (fun i => ((M i : ℝ) : EReal)) (fun i => ((G i : ℝ) : EReal)) (fun i => ((B i : ℝ) : EReal)) (fun i => ((TG i : ℝ) : EReal)) = fun j : S2048x1024.Idx => ((al * dz (z X Y M (j 0)) (dxh X Y TG M G B (j 0)) (j 1) : ℝ) : EReal) := by
  funext j
  obtain ⟨r, d, rfl⟩ : ∃ (r : Fin 2048) (d : Fin 1024), j = ix2 r d := ⟨j 0, j 1, eq_ix2 j⟩
  pointwise [val_main_v140,val_main_v96,val_main_v95,val_main_cst_30]
  simp only [v87_at, al_f32, ← EReal.coe_mul]
theorem ref_dy : val_main_v142 (F := Ideal) (fun i => ((X i : ℝ) : EReal)) (fun i => ((Y i : ℝ) : EReal)) (fun i => ((M i : ℝ) : EReal)) (fun i => ((G i : ℝ) : EReal)) (fun i => ((B i : ℝ) : EReal)) (fun i => ((TG i : ℝ) : EReal)) = fun j : S2048x1024.Idx => ((1 / 2 * (1 + M (ix3 0 0 (j 1))) * dz (z X Y M (j 0)) (dxh X Y TG M G B (j 0)) (j 1) : ℝ) : EReal) := by
  funext j
  obtain ⟨r, d, rfl⟩ : ∃ (r : Fin 2048) (d : Fin 1024), j = ix2 r d := ⟨j 0, j 1, eq_ix2 j⟩
  pointwise [val_main_v142,val_main_v141,val_main_v89,val_main_v88,val_main_v5,val_main_v4,val_main_cst_1,val_main_v1,val_main_v0,val_main_cst]
  simp only [v87_at, half, one_eq, ← EReal.coe_mul, ← EReal.coe_add]
theorem v130_at (r : Fin 2048) (d : Fin 1024) : val_main_v130 (F := Ideal) (fun i => ((X i : ℝ) : EReal)) (fun i => ((Y i : ℝ) : EReal)) (fun i => ((M i : ℝ) : EReal)) (fun i => ((G i : ℝ) : EReal)) (fun i => ((B i : ℝ) : EReal)) (fun i => ((TG i : ℝ) : EReal)) (ix3 0 r d) = ((err X Y TG M G B r d : ℝ) : EReal) :=
  (v38_at X Y TG M G B r d).symm ▸ rfl
theorem ref_rows : val_main_v139 (F := Ideal) (fun i => ((X i : ℝ) : EReal)) (fun i => ((Y i : ℝ) : EReal)) (fun i => ((M i : ℝ) : EReal)) (fun i => ((G i : ℝ) : EReal)) (fun i => ((B i : ℝ) : EReal)) (fun i => ((TG i : ℝ) : EReal)) = fun j : S8x1024.Idx => rows X Y TG M G B (j 0) (j 1) := by
  funext j
  obtain ⟨i, d, rfl⟩ : ∃ (i : Fin 8) (d : Fin 1024), j = ix2 i d := ⟨j 0, j 1, eq_ix2 j⟩
  show _ = rows X Y TG M G B i d
  pointwise [val_main_v139,val_main_v138,val_main_cst_40,val_main_v137,val_main_v136,val_main_v135,val_main_v134,val_main_v133,val_main_cst_39,val_main_v132,val_main_v131,val_main_v94,val_main_v93,val_main_cst_29,val_main_v92,val_main_v91,val_main_cst_28,val_main_v90,val_main_v61,val_main_cst_20,val_main_v55,val_main_cst_18]
  simp only [reduce_01]
  pointwise [val_main_v58,val_main_v57,val_main_cst_19,val_main_v56,val_main_v54,val_main_v53,val_main_cst_17]
  unfold rows
  have zo : ∀ h : 0 < 1, (⟨0, h⟩ : Fin 1) = 0 := fun _ => rfl
  obtain ⟨i, hi⟩ := i
  rcases i with _ | _ | _ | _ | i
  · simp only [v31_at, v52_at, ← EReal.coe_mul, sum_coe, zo]
    simp [mul_comm]
  · simp only [v52_at, ← EReal.coe_mul, sum_coe]
    simp
  · simp only [v87_at, half, ← EReal.coe_mul, sum_coe]
    simp [Finset.mul_sum, mul_assoc]
  · simp only [v130_at, ← EReal.coe_mul, sum_coe]
    simp
  · simp
end
end Cert.LossLn

end
-- ==== Proof.Loss.lean ====
module

public import proofs.«01_k».proof.Proof.Gen.LossLnIdeal.Value
public import proofs.«01_k».proof.Proof.LossRef
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossLn
open Cert.LossLnIdeal Cert.LossLnIdeal.Gen Cert.Sc Cert.LN

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![0, 0] ∧ win0_7.index t = ![t.val, 0] ∧ win0_8.index t = ![t.val, 0] ∧ win0_9.index t = ![0, 0] :=
  (by decide +kernel : ∀ t : Fin grid0.N, _)

def row (t : Fin cfg0.N) (i : Fin 512) : Fin 2048 := ⟨t.val * 512 + i.val, by have := t.isLt; change t.val < 4 at this; omega⟩
variable (m : (ℓ : Loc nD τ sig) → Buf (Elt Ideal) ℓ) (c : Dev nD)

/-! What a point computes, a tile at a time. -/

def dnT (t : Fin cfg0.N) : FVec Ideal S512x1024 .f32 := k0_pay5 (iblk m c 0 t) (iblk m c 1 t)
def dxhT (t : Fin cfg0.N) : FVec Ideal S512x1024 .f32 := k0_pay7 (iblk m c 0 t) (iblk m c 1 t) (iblk m c 4 t)
def m1T (t : Fin cfg0.N) : FVec Ideal S512x1024 .f32 := k0_pay10 (iblk m c 0 t) (iblk m c 1 t) (iblk m c 4 t)
def m2T (t : Fin cfg0.N) : FVec Ideal S512x1 .f32 := k0_pay8 (iblk m c 0 t) (iblk m c 1 t) (iblk m c 2 t) (iblk m c 4 t)
def dzT (t : Fin cfg0.N) : FVec Ideal S512x1024 .f32 := k0_pay11 (k0_pay6 (iblk m c 2 t)) (dxhT m c t) (m2T m c t) (k0_pay9 (iblk m c 3 t)) (m1T m c t)

/-- How a point updates a row of the sums. -/
def upd (t : Fin cfg0.N) : ℕ → (S1x1024.Idx → EReal) → (S1x1024.Idx → EReal)
  | 0, acc => k0_pay14 (dnT m c t) (k0_pay6 (iblk m c 2 t)) acc
  | 1, acc => k0_pay15 (dnT m c t) acc
  | 2, acc => k0_pay1 (k0_pay16 acc) (k0_pay17 (k0_pay6 (iblk m c 2 t)) (dxhT m c t) (m2T m c t) (k0_pay9 (iblk m c 3 t)) (m1T m c t)) (k0_pay18 (iblk m c 5 t))
  | 3, acc => k0_pay4 (iblk m c 0 t) (iblk m c 1 t) acc
  | _, acc => acc

section
variable (X Y TG : S1x2048x1024.Idx → ℝ) (M : S1x1x1024.Idx → ℝ) (G B : S1024.Idx → ℝ)
  (hX : m ((c : Thread nD τ).loc main_arg0) = fun i => ((X i : ℝ) : EReal)) (hY : m ((c : Thread nD τ).loc main_arg1) = fun i => ((Y i : ℝ) : EReal))
  (hM : m ((c : Thread nD τ).loc main_arg2) = fun i => ((M i : ℝ) : EReal)) (hG : m ((c : Thread nD τ).loc main_arg3) = fun i => ((G i : ℝ) : EReal))
  (hB : m ((c : Thread nD τ).loc main_arg4) = fun i => ((B i : ℝ) : EReal)) (hT : m ((c : Thread nD τ).loc main_arg5) = fun i => ((TG i : ℝ) : EReal))

/-! The blocks that a point reads. -/

include hT in
theorem b1 (t : Fin cfg0.N) (r : Fin 512) (d : Fin 1024) : iblk m c 1 t (ix2 r d) = ((TG (ix3 0 (row t r) d) : ℝ) : EReal) := by
  refine Eq.trans (b := m ((c : Thread nD τ).loc main_arg5) (ix3 0 (row t r) d)) ?_ (congrFun hT _)
  unfold row
  blk_point [iblk, V, idx t]

include hG in
theorem b4 (t : Fin cfg0.N) (d : Fin 1024) : iblk m c 4 t (ix2 0 d) = ((G (ix1 d) : ℝ) : EReal) := by
  refine Eq.trans (b := m ((c : Thread nD τ).loc main_arg3) (ix1 d)) ?_ (congrFun hG _)
  blk_point [iblk, V, idx t]

include hY in
theorem b5 (t : Fin cfg0.N) (r : Fin 512) (d : Fin 1024) : iblk m c 5 t (ix2 r d) = ((Y (ix3 0 (row t r) d) : ℝ) : EReal) := by
  refine Eq.trans (b := m ((c : Thread nD τ).loc main_arg1) (ix3 0 (row t r) d)) ?_ (congrFun hY _)
  unfold row
  blk_point [iblk, V, idx t]

/-- The layer norm's row as the host reads it. -/
theorem z_read (r : Fin 2048) (d : Fin 1024) : Ideal.ofBits .f32 0x3FD744FD#32 * (X (ix3 0 r d) : EReal) + Ideal.ofBits .f32 0x3F000000#32 * (1 + (M (ix3 0 0 d) : EReal)) * (Y (ix3 0 r d) : EReal) = ((z X Y M r d : ℝ) : EReal) := by
  simp only [al_f32, half, one_eq, ← EReal.coe_mul, ← EReal.coe_add]
  rfl

include hX hY hM in
theorem b2 (t : Fin cfg0.N) (r : Fin 512) (d : Fin 1024) : iblk m c 2 t (ix2 r d) = ((xh (z X Y M (row t r)) d : ℝ) : EReal) := by
  refine Eq.trans (b := V m c main_v30 (ix2 (row t r) d)) ?_ ?_
  · unfold row
    blk_point [iblk, idx t]
  · entry_read
    pointwise
    simp only [hX, hY, hM]
    exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d

include hX hY hM in
theorem b3 (t : Fin cfg0.N) (r : Fin 512) : iblk m c 3 t (ix2 r 0) = ((rs (z X Y M (row t r)) : ℝ) : EReal) := by
  refine Eq.trans (b := V m c main_v28 (ix2 (row t r) 0)) ?_ ?_
  · unfold row
    blk_point [iblk, idx t]
  · entry_read
    pointwise
    simp only [hX, hY, hM]
    exact rs_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _)

include hX hY hM hG hB in
theorem b0 (t : Fin cfg0.N) (r : Fin 512) (d : Fin 1024) : iblk m c 0 t (ix2 r d) = ((xh (z X Y M (row t r)) d * G (ix1 d) + B (ix1 d) : ℝ) : EReal) := by
  refine Eq.trans (b := V m c main_v34 (ix2 (row t r) d)) ?_ ?_
  · unfold row
    blk_point [iblk, idx t]
  · entry_read
    pointwise
    simp only [hX, hY, hM, hG, hB]
    rw [EReal.coe_add, EReal.coe_mul]
    congr 2
    exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d

include hM in
theorem b6 (t : Fin cfg0.N) (d : Fin 1024) : iblk m c 6 t (ix2 0 d) = ((1 / 2 * (1 + M (ix3 0 0 d)) : ℝ) : EReal) := by
  refine Eq.trans (b := V m c main_v9 (ix2 0 d)) ?_ ?_
  · blk_point [iblk, idx t]
  · entry_read
    pointwise
    simp only [hM, half, one_eq, ← EReal.coe_add, ← EReal.coe_mul]

include hX hY hM hG hB hT in
theorem err_at (t : Fin cfg0.N) (r : Fin 512) (d : Fin 1024) : k0_pay3 (iblk m c 0 t) (iblk m c 1 t) (ix2 r d) = ((err X Y TG M G B (row t r) d : ℝ) : EReal) := by
  pointwise [k0_pay3]
  rw [b0 m c X Y M G B hX hY hM hG hB, b1 m c TG hT, ← EReal.coe_sub]
  rfl

include hX hY hM hG hB hT in
theorem dn_at (t : Fin cfg0.N) (r : Fin 512) (d : Fin 1024) : dnT m c t (ix2 r d) = ((dn X Y TG M G B (row t r) d : ℝ) : EReal) := by
  unfold dnT
  pointwise [k0_pay5]
  rw [err_at m c X Y TG M G B hX hY hM hG hB hT, inv_len_f32, ← EReal.coe_mul]
  rfl

include hX hY hM hG hB hT in
theorem dxh_at (t : Fin cfg0.N) (r : Fin 512) (d : Fin 1024) : dxhT m c t (ix2 r d) = ((dxh X Y TG M G B (row t r) d : ℝ) : EReal) := by
  have h := dn_at m c X Y TG M G B hX hY hM hG hB hT t r d
  unfold dnT at h
  unfold dxhT
  pointwise [k0_pay7]
  rw [h, b4 m c G hG, ← EReal.coe_mul]
  rfl

include hX hY hM hG hB hT in
theorem dz_at (t : Fin cfg0.N) (r : Fin 512) (d : Fin 1024) : dzT m c t (ix2 r d) = ((dz (z X Y M (row t r)) (dxh X Y TG M G B (row t r)) d : ℝ) : EReal) := by
  have h := dxh_at m c X Y TG M G B hX hY hM hG hB hT t
  unfold dxhT at h
  unfold dzT m1T m2T dxhT
  pointwise [k0_pay11, k0_pay8, k0_pay10, k0_pay6, k0_pay9]
  simp only [h, b2 m c X Y M hX hY hM, b3 m c X Y M hX hY hM, len_f32, ← EReal.coe_mul, sum_coe]
  rw [Ideal.div_coe (by norm_num), Ideal.div_coe (by norm_num)]
  simp only [← EReal.coe_mul, ← EReal.coe_sub]
  rfl

/-- What a point adds to the rows. -/
def T (t : Fin cfg0.N) : ℕ → Fin 1024 → EReal
  | 0, d => ∑ r : Fin 512, ((dn X Y TG M G B (row t r) d * xh (z X Y M (row t r)) d : ℝ) : EReal)
  | 1, d => ∑ r : Fin 512, ((dn X Y TG M G B (row t r) d : ℝ) : EReal)
  | 2, d => ∑ r : Fin 512, ((1 / 2 * dz (z X Y M (row t r)) (dxh X Y TG M G B (row t r)) d * Y (ix3 0 (row t r) d) : ℝ) : EReal)
  | 3, d => ∑ r : Fin 512, ((err X Y TG M G B (row t r) d * err X Y TG M G B (row t r) d : ℝ) : EReal)
  | _, _ => 0

include hX hY hM hG hB hT in
theorem upd_at (t : Fin cfg0.N) (k : ℕ) (acc : S1x1024.Idx → EReal) (d : Fin 1024) :
    upd m c t k acc (ix2 0 d) = acc (ix2 0 d) + T X Y TG M G B t k d := by
  match k with
  | 0 =>
    unfold upd T
    pointwise [k0_pay14, k0_pay6]
    simp only [dn_at m c X Y TG M G B hX hY hM hG hB hT, b2 m c X Y M hX hY hM, ← EReal.coe_mul]
  | 1 =>
    unfold upd T
    pointwise [k0_pay15]
    simp only [dn_at m c X Y TG M G B hX hY hM hG hB hT]
  | 2 =>
    have h := dz_at m c X Y TG M G B hX hY hM hG hB hT t
    unfold dzT at h
    unfold upd T
    pointwise [k0_pay1, k0_pay16, k0_pay17, k0_pay18]
    simp only [h, b5 m c Y hY, half, ← EReal.coe_mul]
  | 3 =>
    unfold upd T
    pointwise [k0_pay4]
    simp only [err_at m c X Y TG M G B hX hY hM hG hB hT, ← EReal.coe_mul]
  | k + 4 => exact (add_zero _).symm

include hX hY hM hG hB hT in
theorem final7 : (dats m 0 c).arrAt 7 (cfgs 0).N = fun j : S2048x1024.Idx => ((al * dz (z X Y M (j 0)) (dxh X Y TG M G B (j 0)) (j 1) : ℝ) : EReal) := by
  refine (dats m 0 c).arrAt_eq_of_covers 7 _ (by decide +kernel) fun t _ y => ?_
  have key : ∀ (a : Fin 2048) (b : Fin 1024), a = row t (y 0) → b = y 1 →
      k0_pay12 (k0_pay6 (iblk m c 2 t)) (dxhT m c t) (m2T m c t) (k0_pay9 (iblk m c 3 t)) (m1T m c t) y = ((al * dz (z X Y M a) (dxh X Y TG M G B a) b : ℝ) : EReal) := by
    rintro _ _ rfl rfl
    obtain ⟨r, d, rfl⟩ : ∃ (r : Fin 512) (d : Fin 1024), y = ix2 r d := ⟨y 0, y 1, eq_ix2 y⟩
    have h := dz_at m c X Y TG M G B hX hY hM hG hB hT t r d
    unfold dzT at h
    pointwise [k0_pay12]
    rw [h, al_f32, ← EReal.coe_mul]
  refine Eq.trans ?_ (key _ _ (Fin.ext (by blk_simp [idx t]; show _ = t.val * 512 + (y 0).val; omega)) (Fin.ext (by blk_simp [idx t])))
  rw [after0_7]
  by_cases h0 : t.val % 4 = 0
  · rw [outsAt0_A m c t h0]; frame_out
    rfl
  · rw [outsAt0_B m c t h0]; frame_out
    rfl

include hX hY hM hG hB hT in
theorem final8 : (dats m 0 c).arrAt 8 (cfgs 0).N = fun j : S2048x1024.Idx => ((1 / 2 * (1 + M (ix3 0 0 (j 1))) * dz (z X Y M (j 0)) (dxh X Y TG M G B (j 0)) (j 1) : ℝ) : EReal) := by
  refine (dats m 0 c).arrAt_eq_of_covers 8 _ (by decide +kernel) fun t _ y => ?_
  have key : ∀ (a : Fin 2048) (b : Fin 1024), a = row t (y 0) → b = y 1 →
      k0_pay13 (k0_pay6 (iblk m c 2 t)) (dxhT m c t) (m2T m c t) (k0_pay9 (iblk m c 3 t)) (m1T m c t) (iblk m c 6 t) y = ((1 / 2 * (1 + M (ix3 0 0 b)) * dz (z X Y M a) (dxh X Y TG M G B a) b : ℝ) : EReal) := by
    rintro _ _ rfl rfl
    obtain ⟨r, d, rfl⟩ : ∃ (r : Fin 512) (d : Fin 1024), y = ix2 r d := ⟨y 0, y 1, eq_ix2 y⟩
    have h := dz_at m c X Y TG M G B hX hY hM hG hB hT t r d
    unfold dzT at h
    pointwise [k0_pay13]
    rw [h, b6 m c M hM, ← EReal.coe_mul]
  refine Eq.trans ?_ (key _ _ (Fin.ext (by blk_simp [idx t]; show _ = t.val * 512 + (y 0).val; omega)) (Fin.ext (by blk_simp [idx t])))
  rw [after0_8]
  by_cases h0 : t.val % 4 = 0
  · rw [outsAt0_A m c t h0]; frame_out
    rfl
  · rw [outsAt0_B m c t h0]; frame_out
    rfl

/-- What point `t` adds. -/
def term (t : Fin cfg0.N) : S8x1024.Idx → EReal := fun j => Cert.Rows.only (n := 8) [2, 1, 0, 3] (j 0) (T X Y TG M G B t (j 0).val (j 1))

include hX hY hM hG hB hT in
theorem final9 : (dats m 0 c).arrAt 9 (cfgs 0).N = fun j : S8x1024.Idx => rows X Y TG M G B (j 0) (j 1) := by
  refine (dats m 0 c).arrAt_eq_of_after_last 9 t0_3 (by decide +kernel) _ fun j => ?_
  blk_simp
  rw [after0_9, Pipeline.eq_sum_fin_of_reset_step_apply_last (fun n h => (outsAt0 m c n h).2.2) 4 (fun _ => 0) (term X Y TG M G B)
    (fun t h j => by
      have e : ∀ i d, k0_pay2 (F := Ideal) (ix2 i d) = 0 := fun i d => by pointwise [k0_pay2]
      obtain ⟨i, d, rfl⟩ : ∃ (i : Fin 8) (d : Fin 1024), j = ix2 i d := ⟨j 0, j 1, eq_ix2 j⟩
      rw [outsAt0_A m c t h]; frame_out
      exact (Cert.Rows.firsts_at (upd m c t) _ (upd_at m c X Y TG M G B hX hY hM hG hB hT t) _ (k0_pay2 (F := Ideal)) [2, 1, 0, 3] (by decide) i d).trans (congrArg (· + _) (e i d)))
    (fun t h j => by
      obtain ⟨i, d, rfl⟩ : ∃ (i : Fin 8) (d : Fin 1024), j = ix2 i d := ⟨j 0, j 1, eq_ix2 j⟩
      rw [outsAt0_B m c t h]; frame_out
      exact Cert.Rows.laters_at (upd m c t) _ (upd_at m c X Y TG M G B hX hY hM hG hB hT t) _ _ _ (by frame_out) [2, 1, 0, 3] i d)
    (le_of_eq N_0) t0_3 rfl j]
  obtain ⟨i, d, rfl⟩ : ∃ (i : Fin 8) (d : Fin 1024), j = ix2 i d := ⟨j 0, j 1, eq_ix2 j⟩
  have hs : ∀ f : Fin 2048 → EReal, ∑ r, f r = ∑ t : Fin 4, ∑ r : Fin 512, f (row t r) := fun f => Fin.sum_univ_tiles 4 512 rfl f
  show 0 + ∑ t : Fin 4, (if i ∈ [2, 1, 0, 3] then T X Y TG M G B t i.val d else 0) = rows X Y TG M G B i d
  rw [zero_add]
  unfold rows
  simp only [← sum_coe, hs]
  fin_cases i <;> first | rfl | exact Finset.sum_const_zero
end

end Cert.LossLn

end
-- ==== Proof.DgradRef.lean ====
module

public import proofs.«01_k».proof.Proof.Gen.UpFfnRefIdeal.Run
public import proofs.«01_k».proof.Proof.Gen.UpFfnRefIdeal.Read
public import proofs.«01_k».proof.Proof.Scalars
public import proofs.«01_k».proof.Proof.LN
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dgrad
open Cert.UpFfnRefIdeal.Read Cert.UpFfnRefIdeal Cert.Sc Cert.LN
section
variable (X Y CX : S1x2048x1024.Idx → ℝ) (M L : S1x1x1024.Idx → ℝ) (G : S1024.Idx → ℝ) (B : FVec Ideal S1024 .f32) (W : FVec Ideal S1024x5632 .f32) (C : FVec Ideal S1x2048x5632 .f32)
  (H : Fin 2048 → Fin 1024 → ℝ) (hH : ∀ r d, val_main_v45 (F := Ideal) W C (ix3 0 r d) = ((H r d : ℝ) : EReal))

/-- The row that the layer norm takes. -/
def z (r : Fin 2048) (d : Fin 1024) : ℝ := al * X (ix3 0 r d) + 1 / 2 * (1 + M (ix3 0 0 d)) * Y (ix3 0 r d)
/-- The gradient of the layer norm's result, where `H` is the gradient of the modulated row. -/
def dn (r : Fin 2048) (d : Fin 1024) : ℝ := CX (ix3 0 r d) + H r d * (1 + L (ix3 0 0 d))
def dxh (r : Fin 2048) (d : Fin 1024) : ℝ := dn CX L H r d * G (ix1 d)

theorem v8_at (r : Fin 2048) (d : Fin 1024) : val_main_v8 (F := Ideal) (fun i => ((X i : ℝ) : EReal)) (fun i => ((Y i : ℝ) : EReal)) (fun i => ((M i : ℝ) : EReal)) (ix3 0 r d) = ((z X Y M r d : ℝ) : EReal) := by
  pointwise [val_main_cst,val_main_v0,val_main_v1,val_main_cst_0,val_main_v2,val_main_v3,val_main_cst_1,val_main_v4,val_main_v5,val_main_v6,val_main_v7,val_main_v8]
  simp only [al_f32, half, one_eq, ← EReal.coe_mul, ← EReal.coe_add]
  rfl
theorem v23_at (r : Fin 2048) (d : Fin 1024) : val_main_v23 (F := Ideal) (fun i => ((X i : ℝ) : EReal)) (fun i => ((Y i : ℝ) : EReal)) (fun i => ((M i : ℝ) : EReal)) (ix3 0 r d) = ((z X Y M r d - mean (z X Y M r) : ℝ) : EReal) := by
  pointwise [val_main_cst_2,val_main_v9,val_main_v10,val_main_cst_3,val_main_v11,val_main_v12,val_main_v13,val_main_cst_4,val_main_v16,val_main_v17,val_main_cst_5,val_main_v19,val_main_cst_6,val_main_v20,val_main_v21,val_main_v22,val_main_v23]
  simp only [v8_at, sum_coe, len_f32]
  rw [Ideal.div_coe (by norm_num), ← EReal.coe_mul, ← EReal.coe_sub]
  rfl
theorem v14_at (r : Fin 2048) (d : Fin 1024) : val_main_v14 (F := Ideal) (fun i => ((X i : ℝ) : EReal)) (fun i => ((Y i : ℝ) : EReal)) (fun i => ((M i : ℝ) : EReal)) (ix3 0 r d) = ((z X Y M r d - mean (z X Y M r) : ℝ) : EReal) := by
  pointwise [val_main_cst_2,val_main_v9,val_main_v10,val_main_cst_3,val_main_v11,val_main_v12,val_main_v13,val_main_v14]
  simp only [v8_at, sum_coe, len_f32]
  rw [Ideal.div_coe (by norm_num), ← EReal.coe_mul, ← EReal.coe_sub]
  rfl
theorem v25_at (r : Fin 2048) : val_main_v25 (F := Ideal) (fun i => ((X i : ℝ) : EReal)) (fun i => ((Y i : ℝ) : EReal)) (fun i => ((M i : ℝ) : EReal)) (ix3 0 r 0) = ((var (z X Y M r) + eps : ℝ) : EReal) := by
  pointwise [val_main_v15,val_main_cst_5,val_main_v18,val_main_v19,val_main_cst_6,val_main_v20,val_main_v21,val_main_cst_7,val_main_v24,val_main_v25]
  simp only [v14_at, ← EReal.coe_mul, sum_coe, len_f32, eps_f32]
  rw [Ideal.div_coe (by norm_num), ← EReal.coe_mul, ← EReal.coe_add]
  rfl
theorem v26_at (r : Fin 2048) : val_main_v26 (F := Ideal) (fun i => ((X i : ℝ) : EReal)) (fun i => ((Y i : ℝ) : EReal)) (fun i => ((M i : ℝ) : EReal)) (ix3 0 r 0) = ((rs (z X Y M r) : ℝ) : EReal) := by
  pointwise [val_main_v26]
  rw [v25_at, rsqrt_pos (var_pos _)]
  rfl
theorem v31_at (r : Fin 2048) (d : Fin 1024) : val_main_v31 (F := Ideal) (fun i => ((X i : ℝ) : EReal)) (fun i => ((Y i : ℝ) : EReal)) (fun i => ((M i : ℝ) : EReal)) (ix3 0 r d) = ((xh (z X Y M r) d : ℝ) : EReal) := by
  pointwise [val_main_v31, val_main_v30]
  simp only [v23_at, v26_at, ← EReal.coe_mul]
  rfl
include hH
theorem v53_at (r : Fin 2048) (d : Fin 1024) : val_main_v53 (F := Ideal) (fun i => ((L i : ℝ) : EReal)) W (fun i => ((CX i : ℝ) : EReal)) C (ix3 0 r d) = ((dn CX L H r d : ℝ) : EReal) := by
  pointwise [val_main_v53,val_main_v52,val_main_v51,val_main_v39,val_main_v38,val_main_cst_9]
  simp only [hH, one_eq, ← EReal.coe_mul, ← EReal.coe_add]
  rfl
theorem v62_at (r : Fin 2048) (d : Fin 1024) : val_main_v62 (F := Ideal) (fun i => ((G i : ℝ) : EReal)) (fun i => ((L i : ℝ) : EReal)) W (fun i => ((CX i : ℝ) : EReal)) C (ix3 0 r d) = ((dxh CX L G H r d : ℝ) : EReal) := by
  pointwise [val_main_v62,val_main_v61,val_main_v54,val_main_v32]
  simp only [v53_at CX L W C H hH, ← EReal.coe_mul]
  rfl
theorem v75_at (r : Fin 2048) : val_main_v75 (F := Ideal) (fun i => ((X i : ℝ) : EReal)) (fun i => ((Y i : ℝ) : EReal)) (fun i => ((M i : ℝ) : EReal)) (fun i => ((G i : ℝ) : EReal)) (fun i => ((L i : ℝ) : EReal)) W (fun i => ((CX i : ℝ) : EReal)) C (ix1 r) = ((through (z X Y M r) (dxh CX L G H r) : ℝ) : EReal) := by
  pointwise [val_main_v75,val_main_cst_19]
  rw [reduce_02]
  pointwise [val_main_v74,val_main_v73,val_main_cst_18,val_main_v69,val_main_v66,val_main_v65,val_main_cst_16,val_main_v64,val_main_v29,val_main_v28,val_main_cst_8,val_main_v27]
  simp only [v23_at, v25_at, v26_at, v62_at CX L G W C H hH, neg_half_f32, len_f32]
  rw [Ideal.div_coe (var_pos _).ne', Ideal.div_coe (by norm_num)]
  simp only [← EReal.coe_mul, sum_coe]
  rfl
theorem v89_at (r : Fin 2048) (d : Fin 1024) : val_main_v89 (F := Ideal) (fun i => ((X i : ℝ) : EReal)) (fun i => ((Y i : ℝ) : EReal)) (fun i => ((M i : ℝ) : EReal)) (fun i => ((G i : ℝ) : EReal)) (fun i => ((L i : ℝ) : EReal)) W (fun i => ((CX i : ℝ) : EReal)) C (ix3 0 r d) = ((dz (z X Y M r) (dxh CX L G H r) d : ℝ) : EReal) := by
  rw [← chain_eq]
  pointwise [val_main_v89,val_main_v88,val_main_v87,val_main_v86,val_main_cst_22]
  rw [reduce_02]
  pointwise [val_main_cst_4,val_main_v16,val_main_v17,val_main_v67,val_main_v68,val_main_v70,val_main_cst_17,val_main_v71,val_main_v72,val_main_v76,val_main_v77,val_main_v78,val_main_v79,val_main_cst_20,val_main_v80,val_main_v81,val_main_v82,val_main_v83,val_main_cst_21,val_main_v84,val_main_v85]
  simp only [v14_at, v26_at, v62_at CX L G W C H hH, v75_at X Y CX M L G W C H hH, two_f32, len_f32]
  rw [Ideal.div_coe (by norm_num)]
  simp only [← EReal.coe_mul, ← EReal.coe_neg, sum_coe, ← EReal.coe_add]
  rfl
omit hH

/-- The eight rows of gradients of vectors. -/
def rows (i : Fin 8) (d : Fin 1024) : EReal :=
  if i.val = 4 then ((∑ r, 1 / 2 * dz (z X Y M r) (dxh CX L G H r) d * Y (ix3 0 r d) : ℝ) : EReal)
  else if i.val = 3 then ((∑ r, dn CX L H r d : ℝ) : EReal)
  else if i.val = 2 then ((∑ r, dn CX L H r d * xh (z X Y M r) d : ℝ) : EReal)
  else if i.val = 1 then ((∑ r, H r d : ℝ) : EReal)
  else if i.val = 0 then ∑ r, ((H r d : ℝ) : EReal) * (((xh (z X Y M r) d * G (ix1 d) : ℝ) : EReal) + B (ix1 d))
  else 0

include hH
theorem ref_dx : val_main_v106 (F := Ideal) (fun i => ((X i : ℝ) : EReal)) (fun i => ((Y i : ℝ) : EReal)) (fun i => ((M i : ℝ) : EReal)) (fun i => ((G i : ℝ) : EReal)) (fun i => ((L i : ℝ) : EReal)) W (fun i => ((CX i : ℝ) : EReal)) C = fun j : S2048x1024.Idx => ((al * dz (z X Y M (j 0)) (dxh CX L G H (j 0)) (j 1) : ℝ) : EReal) := by
  funext j
  obtain ⟨r, d, rfl⟩ : ∃ (r : Fin 2048) (d : Fin 1024), j = ix2 r d := ⟨j 0, j 1, eq_ix2 j⟩
  pointwise [val_main_v106,val_main_v98,val_main_v97,val_main_cst_25]
  simp only [v89_at X Y CX M L G W C H hH, al_f32, ← EReal.coe_mul]
theorem ref_dy : val_main_v108 (F := Ideal) (fun i => ((X i : ℝ) : EReal)) (fun i => ((Y i : ℝ) : EReal)) (fun i => ((M i : ℝ) : EReal)) (fun i => ((G i : ℝ) : EReal)) (fun i => ((L i : ℝ) : EReal)) W (fun i => ((CX i : ℝ) : EReal)) C = fun j : S2048x1024.Idx => ((1 / 2 * (1 + M (ix3 0 0 (j 1))) * dz (z X Y M (j 0)) (dxh CX L G H (j 0)) (j 1) : ℝ) : EReal) := by
  funext j
  obtain ⟨r, d, rfl⟩ : ∃ (r : Fin 2048) (d : Fin 1024), j = ix2 r d := ⟨j 0, j 1, eq_ix2 j⟩
  pointwise [val_main_v108,val_main_v107,val_main_v91,val_main_v90,val_main_v5,val_main_v4,val_main_cst_1,val_main_v1,val_main_v0,val_main_cst]
  simp only [v89_at X Y CX M L G W C H hH, half, one_eq, ← EReal.coe_mul, ← EReal.coe_add]
theorem ref_rows : val_main_v105 (F := Ideal) (fun i => ((X i : ℝ) : EReal)) (fun i => ((Y i : ℝ) : EReal)) (fun i => ((M i : ℝ) : EReal)) (fun i => ((G i : ℝ) : EReal)) B (fun i => ((L i : ℝ) : EReal)) W (fun i => ((CX i : ℝ) : EReal)) C = fun j : S8x1024.Idx => rows X Y CX M L G B H (j 0) (j 1) := by
  funext j
  obtain ⟨i, d, rfl⟩ : ∃ (i : Fin 8) (d : Fin 1024), j = ix2 i d := ⟨j 0, j 1, eq_ix2 j⟩
  show _ = rows X Y CX M L G B H i d
  pointwise [val_main_v105,val_main_v104,val_main_cst_26,val_main_v103,val_main_v102,val_main_v101,val_main_v100,val_main_v99,val_main_v96,val_main_v95,val_main_cst_24,val_main_v94,val_main_v93,val_main_cst_23,val_main_v92,val_main_v63,val_main_cst_15,val_main_v57,val_main_cst_13,val_main_v50,val_main_v49,val_main_cst_11,val_main_v48,val_main_v47,val_main_v46,val_main_cst_10]
  simp only [reduce_01]
  pointwise [val_main_v60,val_main_v59,val_main_cst_14,val_main_v58,val_main_v54,val_main_v56,val_main_v55,val_main_cst_12,val_main_v37,val_main_v36,val_main_v35,val_main_v34,val_main_v33,val_main_v32]
  unfold rows
  have zo : ∀ h : 0 < 1, (⟨0, h⟩ : Fin 1) = 0 := fun _ => rfl
  obtain ⟨i, hi⟩ := i
  rcases i with _ | _ | _ | _ | _ | i
  · simp only [v31_at, hH, ← EReal.coe_mul, sum_coe, zo]
    simp [mul_comm]
  · simp [hH, sum_coe]
  · simp only [v31_at, v53_at CX L W C H hH, ← EReal.coe_mul, sum_coe]
    simp [mul_comm]
  · simp only [v53_at CX L W C H hH, sum_coe]
    simp
  · simp only [v89_at X Y CX M L G W C H hH, half, ← EReal.coe_mul, sum_coe]
    simp [Finset.mul_sum, mul_assoc]
  · simp
end

/-! The stages take the product only through its value: a program of another width gives what this one gives of the two arrays below. -/

theorem eq_row (j : S1x2048x1024.Idx) : ∃ (r : Fin 2048) (d : Fin 1024), j = ix3 0 r d :=
  ⟨j 1, j 2, (eq_ix3 j).trans (congrArg (fun i : Fin 1 => ix3 i (j 1) (j 2)) (Subsingleton.elim (α := Fin 1) _ _))⟩

def pick : FVec Ideal S1024x5632 .f32 := fun i => if (i 1).val = (i 0).val then 1 else 0
def spread (H : Fin 2048 → Fin 1024 → ℝ) : FVec Ideal S1x2048x5632 .f32 := fun i => if h : (i 2).val < 1024 then ((H (i 1) ⟨(i 2).val, h⟩ : ℝ) : EReal) else 0

theorem spread_at (H : Fin 2048 → Fin 1024 → ℝ) (r : Fin 2048) (d : Fin 1024) : val_main_v45 (F := Ideal) pick (spread H) (ix3 0 r d) = ((H r d : ℝ) : EReal) := by
  pointwise [val_main_v45]
  rw [Finset.sum_eq_single (⟨d.val, by omega⟩ : Fin 5632)]
  · simp [pick, spread, ix2, ix3]
  · intro n _ hn
    have : n.val ≠ d.val := fun h => hn (Fin.ext h)
    simp [pick, ix2, this]
  · simp

end Cert.Dgrad

end
-- ==== Proof.Dgrad.lean ====
module

public import proofs.«01_k».proof.Proof.Gen.UpFfnIdeal.Value
public import proofs.«01_k».proof.Proof.DgradRef
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dgrad
open Cert.UpFfnIdeal Cert.UpFfnIdeal.Gen Cert.Sc Cert.LN

/-! What a point computes of its blocks, a tile at a time. -/

section
variable (D CXt XHt OUTt : FVec Ideal S256x1024 .f32) (Lt Gt MPt : FVec Ideal S1x1024 .f32) (RSt : FVec Ideal S256x1 .f32) (Yt : FVec Ideal S256x1024 .bf16)

def dnT : FVec Ideal S256x1024 .f32 := k0_pay4 D CXt Lt
def dxhT : FVec Ideal S256x1024 .f32 := k0_pay8 D CXt Lt Gt
def dzT : FVec Ideal S256x1024 .f32 := k0_pay11 (k0_pay7 XHt) (dxhT D CXt Lt Gt) (k0_pay9 D CXt Lt Gt) (k0_pay10 D CXt Lt XHt Gt) RSt
def dxT : FVec Ideal S256x1024 .f32 := k0_pay12 (k0_pay7 XHt) (dxhT D CXt Lt Gt) (k0_pay9 D CXt Lt Gt) (k0_pay10 D CXt Lt XHt Gt) RSt
def dyT : FVec Ideal S256x1024 .bf16 := k0_pay13 (k0_pay7 XHt) (dxhT D CXt Lt Gt) (k0_pay9 D CXt Lt Gt) (k0_pay10 D CXt Lt XHt Gt) RSt MPt

/-- How a point updates a row of the sums. -/
def upd : ℕ → (S1x1024.Idx → EReal) → (S1x1024.Idx → EReal)
  | 0, acc => k0_pay5 D acc OUTt
  | 1, acc => k0_pay6 D acc
  | 2, acc => k0_pay14 (dnT D CXt Lt) (k0_pay7 XHt) acc
  | 3, acc => k0_pay15 (dnT D CXt Lt) acc
  | 4, acc => k0_pay1 (dzT D CXt XHt Lt Gt RSt) acc Yt
  | _, acc => acc

variable (X Y CX : S1x2048x1024.Idx → ℝ) (M L : S1x1x1024.Idx → ℝ) (G : S1024.Idx → ℝ) (B : FVec Ideal S1024 .f32) (H : Fin 2048 → Fin 1024 → ℝ) (ρ : Fin 256 → Fin 2048)

/-- What the blocks of the rows `ρ` hold. -/
structure Reads : Prop where
  d : ∀ r d, D (ix2 r d) = ((H (ρ r) d : ℝ) : EReal)
  cx : ∀ r d, CXt (ix2 r d) = ((CX (ix3 0 (ρ r) d) : ℝ) : EReal)
  xhat : ∀ r d, XHt (ix2 r d) = ((xh (z X Y M (ρ r)) d : ℝ) : EReal)
  out : ∀ r d, OUTt (ix2 r d) = ((xh (z X Y M (ρ r)) d * G (ix1 d) : ℝ) : EReal) + B (ix1 d)
  l : ∀ d, Lt (ix2 0 d) = ((L (ix3 0 0 d) : ℝ) : EReal)
  g : ∀ d, Gt (ix2 0 d) = ((G (ix1 d) : ℝ) : EReal)
  mp : ∀ d, MPt (ix2 0 d) = ((1 / 2 * (1 + M (ix3 0 0 d)) : ℝ) : EReal)
  rstd : ∀ r, RSt (ix2 r 0) = ((rs (z X Y M (ρ r)) : ℝ) : EReal)
  y : ∀ r d, Yt (ix2 r d) = ((Y (ix3 0 (ρ r) d) : ℝ) : EReal)

variable {D CXt XHt OUTt Lt Gt MPt RSt Yt X Y CX M L G B H ρ} (R : Reads D CXt XHt OUTt Lt Gt MPt RSt Yt X Y CX M L G B H ρ)

/-- The layer norm's row as the host reads it. -/
theorem z_read (X Y : S1x2048x1024.Idx → ℝ) (M : S1x1x1024.Idx → ℝ) (r : Fin 2048) (d : Fin 1024) : Ideal.ofBits .f32 0x3FD744FD#32 * (X (ix3 0 r d) : EReal) + Ideal.ofBits .f32 0x3F000000#32 * (1 + (M (ix3 0 0 d) : EReal)) * (Y (ix3 0 r d) : EReal) = ((z X Y M r d : ℝ) : EReal) := by
  simp only [al_f32, half, one_eq, ← EReal.coe_mul, ← EReal.coe_add]
  rfl

include R
theorem dn_at (r : Fin 256) (d : Fin 1024) : dnT D CXt Lt (ix2 r d) = ((dn CX L H (ρ r) d : ℝ) : EReal) := by
  unfold dnT
  pointwise [k0_pay4]
  simp only [R.d, R.cx, R.l, one_eq, ← EReal.coe_mul, ← EReal.coe_add]
  rfl
theorem dxh_at (r : Fin 256) (d : Fin 1024) : dxhT D CXt Lt Gt (ix2 r d) = ((dxh CX L G H (ρ r) d : ℝ) : EReal) := by
  have h := dn_at R r d
  unfold dnT at h
  unfold dxhT
  pointwise [k0_pay8]
  rw [h, R.g, ← EReal.coe_mul]
  rfl
theorem dz_at (r : Fin 256) (d : Fin 1024) : dzT D CXt XHt Lt Gt RSt (ix2 r d) = ((dz (z X Y M (ρ r)) (dxh CX L G H (ρ r)) d : ℝ) : EReal) := by
  have h := dxh_at R
  unfold dxhT at h
  unfold dzT dxhT
  pointwise [k0_pay11, k0_pay9, k0_pay10, k0_pay7]
  simp only [h, R.xhat, R.rstd, len_f32, ← EReal.coe_mul, sum_coe]
  rw [Ideal.div_coe (by norm_num), Ideal.div_coe (by norm_num)]
  simp only [← EReal.coe_mul, ← EReal.coe_sub]
  rfl
theorem dx_at (r : Fin 256) (d : Fin 1024) : dxT D CXt XHt Lt Gt RSt (ix2 r d) = ((al * dz (z X Y M (ρ r)) (dxh CX L G H (ρ r)) d : ℝ) : EReal) := by
  have h := dz_at R r d
  unfold dzT at h
  unfold dxT
  pointwise [k0_pay12]
  rw [h, al_f32, ← EReal.coe_mul]
theorem dy_at (r : Fin 256) (d : Fin 1024) : dyT D CXt XHt Lt Gt MPt RSt (ix2 r d) = ((1 / 2 * (1 + M (ix3 0 0 d)) * dz (z X Y M (ρ r)) (dxh CX L G H (ρ r)) d : ℝ) : EReal) := by
  have h := dz_at R r d
  unfold dzT at h
  unfold dyT
  pointwise [k0_pay13]
  rw [h, R.mp, ← EReal.coe_mul]
omit R

variable (X Y CX M L G B H ρ) in
/-- What a point adds to the rows. -/
def T : ℕ → Fin 1024 → EReal
  | 0, d => ∑ r : Fin 256, ((H (ρ r) d : ℝ) : EReal) * (((xh (z X Y M (ρ r)) d * G (ix1 d) : ℝ) : EReal) + B (ix1 d))
  | 1, d => ∑ r : Fin 256, ((H (ρ r) d : ℝ) : EReal)
  | 2, d => ∑ r : Fin 256, ((dn CX L H (ρ r) d * xh (z X Y M (ρ r)) d : ℝ) : EReal)
  | 3, d => ∑ r : Fin 256, ((dn CX L H (ρ r) d : ℝ) : EReal)
  | 4, d => ∑ r : Fin 256, ((1 / 2 * dz (z X Y M (ρ r)) (dxh CX L G H (ρ r)) d * Y (ix3 0 (ρ r) d) : ℝ) : EReal)
  | _, _ => 0

include R in
theorem upd_at (k : ℕ) (acc : S1x1024.Idx → EReal) (d : Fin 1024) :
    upd D CXt XHt OUTt Lt Gt RSt Yt k acc (ix2 0 d) = acc (ix2 0 d) + T X Y CX M L G B H ρ k d := by
  match k with
  | 0 =>
    unfold upd T
    pointwise [k0_pay5]
    simp only [R.d, R.out]
  | 1 =>
    unfold upd T
    pointwise [k0_pay6]
    simp only [R.d]
  | 2 =>
    unfold upd T
    pointwise [k0_pay14, k0_pay7]
    simp only [dn_at R, R.xhat, ← EReal.coe_mul]
  | 3 =>
    unfold upd T
    pointwise [k0_pay15]
    simp only [dn_at R]
  | 4 =>
    unfold upd T
    pointwise [k0_pay1]
    simp only [dz_at R, R.y, half, ← EReal.coe_mul]
  | k + 5 => exact (add_zero _).symm

variable (X Y CX M L G B H) in
/-- What the points of the blocks `ρ t` add, summed. -/
theorem total (ρ : Fin 8 → Fin 256 → Fin 2048) (hρ : ∀ t r, (ρ t r).val = t.val * 256 + r.val) (i : Fin 8) (d : Fin 1024) :
    0 + ∑ t : Fin 8, Cert.Rows.only (n := 8) [4, 3, 2, 1, 0] i (T X Y CX M L G B H (ρ t) i.val d) = rows X Y CX M L G B H i d := by
  have hs : ∀ f : Fin 2048 → EReal, ∑ r, f r = ∑ t : Fin 8, ∑ r : Fin 256, f (ρ t r) := fun f => by
    rw [Fin.sum_univ_tiles 8 256 rfl f]
    exact Finset.sum_congr rfl fun t _ => Finset.sum_congr rfl fun r _ => congrArg f (Fin.ext (hρ t r).symm)
  rw [zero_add]
  unfold rows
  simp only [← sum_coe, hs]
  fin_cases i <;> first | rfl | exact Finset.sum_const_zero
end

end Cert.Dgrad

end
-- ==== Proof.UpFfn.lean ====
module

public import proofs.«01_k».proof.Proof.Dgrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpFfn
open Cert.UpFfnRefIdeal Cert.Sc Cert.LN Cert.Dgrad
section
variable (X Y CX : S1x2048x1024.Idx → ℝ) (M L : S1x1x1024.Idx → ℝ) (G : S1024.Idx → ℝ) (B : FVec Ideal S1024 .f32) (W : S1024x5632.Idx → ℝ) (C : S1x2048x5632.Idx → ℝ)

/-- The gradient of the modulated row. -/
def H (r : Fin 2048) (d : Fin 1024) : ℝ := ∑ n : Fin 5632, C (ix3 0 r n) * W (ix2 d n)

theorem product (r : Fin 2048) (d : Fin 1024) : UpFfnRefIdeal.Read.val_main_v45 (F := Ideal) (fun i => ((W i : ℝ) : EReal)) (fun i => ((C i : ℝ) : EReal)) (ix3 0 r d) = ((H W C r d : ℝ) : EReal) := by
  pointwise [UpFfnRefIdeal.Read.val_main_v45]
  simp only [← EReal.coe_mul, sum_coe]
  rfl

end
end Cert.UpFfn

namespace Cert.UpFfn
open Cert.UpFfnIdeal Cert.UpFfnIdeal.Gen Cert.Sc Cert.LN Cert.Dgrad

theorem idx : ∀ t : Fin cfg0.N, win0_0.index t = ![t.val, 0] ∧ win0_1.index t = ![0, 0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, _)

def row (t : Fin cfg0.N) (i : Fin 256) : Fin 2048 := ⟨t.val * 256 + i.val, by have := t.isLt; change t.val < 8 at this; omega⟩
variable (m : (ℓ : Loc nD τ sig) → Buf (Elt Ideal) ℓ) (c : Dev nD)

/-- The gradient of the modulated rows of a point. -/
def dhT (t : Fin cfg0.N) : FVec Ideal S256x1024 .f32 :=
  k0_pay3 (View.ld (Val := Elt Ideal) (e' := .bf16) (iblk m c 0 t) (Rect.unit (s := S256x5632) ![0, 0] ![256, 1408] inb_S256x5632_S256x1408_0_0)) (View.ld (Val := Elt Ideal) (e' := .bf16) (iblk m c 1 t) (Rect.unit (s := S4x1024x1408) ![0, 0, 0] ![1, 1024, 1408] inb_S4x1024x1408_S1x1024x1408_0_0_0))
    (View.ld (Val := Elt Ideal) (e' := .bf16) (iblk m c 0 t) (Rect.unit (s := S256x5632) ![0, 1408] ![256, 1408] inb_S256x5632_S256x1408_0_1408)) (View.ld (Val := Elt Ideal) (e' := .bf16) (iblk m c 1 t) (Rect.unit (s := S4x1024x1408) ![1, 0, 0] ![1, 1024, 1408] inb_S4x1024x1408_S1x1024x1408_1_0_0))
    (View.ld (Val := Elt Ideal) (e' := .bf16) (iblk m c 0 t) (Rect.unit (s := S256x5632) ![0, 2816] ![256, 1408] inb_S256x5632_S256x1408_0_2816)) (View.ld (Val := Elt Ideal) (e' := .bf16) (iblk m c 1 t) (Rect.unit (s := S4x1024x1408) ![2, 0, 0] ![1, 1024, 1408] inb_S4x1024x1408_S1x1024x1408_2_0_0))
    (View.ld (Val := Elt Ideal) (e' := .bf16) (iblk m c 0 t) (Rect.unit (s := S256x5632) ![0, 4224] ![256, 1408] inb_S256x5632_S256x1408_0_4224)) (View.ld (Val := Elt Ideal) (e' := .bf16) (iblk m c 1 t) (Rect.unit (s := S4x1024x1408) ![3, 0, 0] ![1, 1024, 1408] inb_S4x1024x1408_S1x1024x1408_3_0_0))

/-- How a point updates a row of the sums. -/
def step (t : Fin cfg0.N) : ℕ → (S1x1024.Idx → EReal) → (S1x1024.Idx → EReal) :=
  upd (dhT m c t) (iblk m c 2 t) (iblk m c 5 t) (iblk m c 3 t) (iblk m c 4 t) (iblk m c 7 t) (iblk m c 6 t) (iblk m c 8 t)

section
variable (X Y CX : S1x2048x1024.Idx → ℝ) (M L : S1x1x1024.Idx → ℝ) (G : S1024.Idx → ℝ) (W : S1024x5632.Idx → ℝ) (C : S1x2048x5632.Idx → ℝ)
  (hX : m ((c : Thread nD τ).loc main_arg0) = fun i => ((X i : ℝ) : EReal)) (hY : m ((c : Thread nD τ).loc main_arg1) = fun i => ((Y i : ℝ) : EReal))
  (hM : m ((c : Thread nD τ).loc main_arg2) = fun i => ((M i : ℝ) : EReal)) (hG : m ((c : Thread nD τ).loc main_arg3) = fun i => ((G i : ℝ) : EReal))
  (hL : m ((c : Thread nD τ).loc main_arg5) = fun i => ((L i : ℝ) : EReal)) (hW : m ((c : Thread nD τ).loc main_arg7) = fun i => ((W i : ℝ) : EReal))
  (hCX : m ((c : Thread nD τ).loc main_arg8) = fun i => ((CX i : ℝ) : EReal)) (hC : m ((c : Thread nD τ).loc main_arg9) = fun i => ((C i : ℝ) : EReal))

include hW hC in
set_option maxHeartbeats 1000000 in
theorem dh_at (t : Fin cfg0.N) (r : Fin 256) (d : Fin 1024) : dhT m c t (ix2 r d) = ((H W C (row t r) d : ℝ) : EReal) := by
  have b0 : ∀ (r : Fin 256) (n : Fin 5632), iblk m c 0 t (ix2 r n) = ((C (ix3 0 (row t r) n) : ℝ) : EReal) := fun r n => by
    refine Eq.trans (b := m ((c : Thread nD τ).loc main_arg9) (ix3 0 (row t r) n)) ?_ (congrFun hC _)
    unfold row
    blk_point [iblk, V, idx t]
  have b1 : ∀ (s : Fin 4) (d : Fin 1024) (n : Fin 1408), iblk m c 1 t (ix3 s d n) = ((W (ix2 d ⟨s.val * 1408 + n.val, by omega⟩) : ℝ) : EReal) := fun s d n => by
    refine Eq.trans (b := m ((c : Thread nD τ).loc main_arg7) (ix2 d ⟨s.val * 1408 + n.val, by omega⟩)) ?_ (congrFun hW _)
    blk_point [iblk, V, idx t]
  unfold dhT
  pointwise [k0_pay3]
  simp only [b0, b1, ← EReal.coe_mul, sum_coe]
  unfold H
  rw [Fin.sum_univ_tiles 4 1408 rfl]
  simp only [Fin.sum_univ_four, EReal.coe_add]
  simp

include hX hY hM hG hL hW hCX hC in
set_option maxHeartbeats 2000000 in
theorem reads (t : Fin cfg0.N) : Reads (dhT m c t) (iblk m c 2 t) (iblk m c 5 t) (iblk m c 3 t) (iblk m c 4 t) (iblk m c 7 t) (iblk m c 9 t) (iblk m c 6 t) (iblk m c 8 t)
    X Y CX M L G (m ((c : Thread nD τ).loc main_arg4)) (H W C) (row t) where
  d := dh_at m c W C hW hC t
  cx r d := by
    refine Eq.trans (b := m ((c : Thread nD τ).loc main_arg8) (ix3 0 (row t r) d)) ?_ (congrFun hCX _)
    unfold row
    blk_point [iblk, V, idx t]
  y r d := by
    refine Eq.trans (b := m ((c : Thread nD τ).loc main_arg1) (ix3 0 (row t r) d)) ?_ (congrFun hY _)
    unfold row
    blk_point [iblk, V, idx t]
  l d := by
    refine Eq.trans (b := m ((c : Thread nD τ).loc main_arg5) (ix3 0 0 d)) ?_ (congrFun hL _)
    blk_point [iblk, V, idx t]
  g d := by
    refine Eq.trans (b := m ((c : Thread nD τ).loc main_arg3) (ix1 d)) ?_ (congrFun hG _)
    blk_point [iblk, V, idx t]
  mp d := by
    refine Eq.trans (b := V m c main_v8 (ix2 0 d)) ?_ ?_
    · blk_point [iblk, idx t]
    · entry_read
      pointwise
      simp only [hM, half, one_eq, ← EReal.coe_add, ← EReal.coe_mul]
  xhat r d := by
    refine Eq.trans (b := V m c main_v29 (ix2 (row t r) d)) ?_ ?_
    · unfold row
      blk_point [iblk, idx t]
    · entry_read
      pointwise
      simp only [hX, hY, hM]
      exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d
  rstd r := by
    refine Eq.trans (b := V m c main_v27 (ix2 (row t r) 0)) ?_ ?_
    · unfold row
      blk_point [iblk, idx t]
    · entry_read
      pointwise
      simp only [hX, hY, hM]
      exact rs_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _)
  out r d := by
    refine Eq.trans (b := V m c main_v33 (ix2 (row t r) d)) ?_ ?_
    · unfold row
      blk_point [iblk, idx t]
    · entry_read
      pointwise
      simp only [hX, hY, hM, hG]
      rw [EReal.coe_mul]
      congr 2
      exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d

include hX hY hM hG hL hW hCX hC in
theorem final10 : (dats m 0 c).arrAt 10 (cfgs 0).N = fun j : S2048x1024.Idx => ((al * dz (z X Y M (j 0)) (dxh CX L G (H W C) (j 0)) (j 1) : ℝ) : EReal) := by
  refine (dats m 0 c).arrAt_eq_of_covers 10 _ (by decide +kernel) fun t _ y => ?_
  have key : ∀ (a : Fin 2048) (b : Fin 1024), a = row t (y 0) → b = y 1 → dxT (dhT m c t) (iblk m c 2 t) (iblk m c 5 t) (iblk m c 4 t) (iblk m c 7 t) (iblk m c 6 t) y = ((al * dz (z X Y M a) (dxh CX L G (H W C) a) b : ℝ) : EReal) := by
    rintro _ _ rfl rfl
    obtain ⟨r, d, rfl⟩ : ∃ (r : Fin 256) (d : Fin 1024), y = ix2 r d := ⟨y 0, y 1, eq_ix2 y⟩
    exact dx_at (reads m c X Y CX M L G W C hX hY hM hG hL hW hCX hC t) r d
  refine Eq.trans ?_ (key _ _ (Fin.ext (by blk_simp [idx t]; show _ = t.val * 256 + (y 0).val; omega)) (Fin.ext (by blk_simp [idx t])))
  rw [after0_10]
  by_cases h0 : t.val % 8 = 0
  · rw [outsAt0_A m c t h0]; frame_out
    rfl
  · rw [outsAt0_B m c t h0]; frame_out
    rfl

include hX hY hM hG hL hW hCX hC in
theorem final11 : (dats m 0 c).arrAt 11 (cfgs 0).N = fun j : S2048x1024.Idx => ((1 / 2 * (1 + M (ix3 0 0 (j 1))) * dz (z X Y M (j 0)) (dxh CX L G (H W C) (j 0)) (j 1) : ℝ) : EReal) := by
  refine (dats m 0 c).arrAt_eq_of_covers 11 _ (by decide +kernel) fun t _ y => ?_
  have key : ∀ (a : Fin 2048) (b : Fin 1024), a = row t (y 0) → b = y 1 → dyT (dhT m c t) (iblk m c 2 t) (iblk m c 5 t) (iblk m c 4 t) (iblk m c 7 t) (iblk m c 9 t) (iblk m c 6 t) y = ((1 / 2 * (1 + M (ix3 0 0 b)) * dz (z X Y M a) (dxh CX L G (H W C) a) b : ℝ) : EReal) := by
    rintro _ _ rfl rfl
    obtain ⟨r, d, rfl⟩ : ∃ (r : Fin 256) (d : Fin 1024), y = ix2 r d := ⟨y 0, y 1, eq_ix2 y⟩
    exact dy_at (reads m c X Y CX M L G W C hX hY hM hG hL hW hCX hC t) r d
  refine Eq.trans ?_ (key _ _ (Fin.ext (by blk_simp [idx t]; show _ = t.val * 256 + (y 0).val; omega)) (Fin.ext (by blk_simp [idx t])))
  rw [after0_11]
  by_cases h0 : t.val % 8 = 0
  · rw [outsAt0_A m c t h0]; frame_out
    rfl
  · rw [outsAt0_B m c t h0]; frame_out
    rfl

/-- What point `t` adds. -/
def term (t : Fin cfg0.N) : S8x1024.Idx → EReal := fun j => Cert.Rows.only (n := 8) [4, 3, 2, 1, 0] (j 0) (T X Y CX M L G (m ((c : Thread nD τ).loc main_arg4)) (H W C) (row t) (j 0).val (j 1))

include hX hY hM hG hL hW hCX hC in
theorem final12 : (dats m 0 c).arrAt 12 (cfgs 0).N = fun j : S8x1024.Idx => rows X Y CX M L G (m ((c : Thread nD τ).loc main_arg4)) (H W C) (j 0) (j 1) := by
  refine (dats m 0 c).arrAt_eq_of_after_last 12 t0_7 (by decide +kernel) _ fun j => ?_
  blk_simp
  rw [after0_12, Pipeline.eq_sum_fin_of_reset_step_apply_last (fun n h => (outsAt0 m c n h).2.2) 8 (fun _ => 0) (term m c X Y CX M L G W C)
    (fun t h j => by
      have e : ∀ i d, k0_pay2 (F := Ideal) (ix2 i d) = 0 := fun i d => by pointwise [k0_pay2]
      obtain ⟨i, d, rfl⟩ : ∃ (i : Fin 8) (d : Fin 1024), j = ix2 i d := ⟨j 0, j 1, eq_ix2 j⟩
      rw [outsAt0_A m c t h]; frame_out
      exact (Cert.Rows.firsts_at (step m c t) _ (upd_at (reads m c X Y CX M L G W C hX hY hM hG hL hW hCX hC t)) _ (k0_pay2 (F := Ideal)) [4, 3, 2, 1, 0] (by decide) i d).trans (congrArg (· + _) (e i d)))
    (fun t h j => by
      obtain ⟨i, d, rfl⟩ : ∃ (i : Fin 8) (d : Fin 1024), j = ix2 i d := ⟨j 0, j 1, eq_ix2 j⟩
      rw [outsAt0_B m c t h]; frame_out
      exact Cert.Rows.laters_at (step m c t) _ (upd_at (reads m c X Y CX M L G W C hX hY hM hG hL hW hCX hC t)) _ _ _ (by frame_out) [4, 3, 2, 1, 0] i d)
    (le_of_eq N_0) t0_7 rfl j]
  obtain ⟨i, d, rfl⟩ : ∃ (i : Fin 8) (d : Fin 1024), j = ix2 i d := ⟨j 0, j 1, eq_ix2 j⟩
  exact total X Y CX M L G _ (H W C) row (fun _ _ => rfl) i d
end

end Cert.UpFfn

end
-- ==== Proof.GmlpInRef.lean ====
module

public import proofs.«01_k».proof.Proof.Gen.GmlpInRefIdeal.Run
public import proofs.«01_k».proof.Proof.Gen.GmlpInRefIdeal.Read
public import proofs.«01_k».proof.Proof.DgradRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GmlpIn
open Cert.GmlpInRefIdeal Cert.Sc Cert.LN Cert.Dgrad
section
variable (X Y CX : S1x2048x1024.Idx → ℝ) (M L : S1x1x1024.Idx → ℝ) (G : S1024.Idx → ℝ) (B : FVec Ideal S1024 .f32) (W : S1024x4096.Idx → ℝ) (C : S1x2048x4096.Idx → ℝ)

/-- The gradient of the modulated row. -/
def H (r : Fin 2048) (d : Fin 1024) : ℝ := ∑ n : Fin 4096, C (ix3 0 r n) * W (ix2 d n)

theorem product : GmlpInRefIdeal.Read.val_main_v45 (F := Ideal) (fun i => ((W i : ℝ) : EReal)) (fun i => ((C i : ℝ) : EReal)) = UpFfnRefIdeal.Read.val_main_v45 (F := Ideal) pick (spread (H W C)) := by
  funext j
  obtain ⟨r, d, rfl⟩ : ∃ (r : Fin 2048) (d : Fin 1024), j = ix3 0 r d := eq_row j
  refine Eq.trans ?_ (spread_at (H W C) r d).symm
  pointwise [GmlpInRefIdeal.Read.val_main_v45]
  simp only [← EReal.coe_mul, sum_coe]
  rfl

theorem ref_dx : GmlpInRefIdeal.Read.val_main_v106 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) = fun j : S2048x1024.Idx => ((al * dz (z X Y M (j 0)) (dxh CX L G (H W C) (j 0)) (j 1) : ℝ) : EReal) := by
  refine Eq.trans ?_ (Cert.Dgrad.ref_dx X Y CX M L G pick (spread (H W C)) (H W C) (spread_at _))
  unfold GmlpInRefIdeal.Read.val_main_v106 GmlpInRefIdeal.Read.val_main_v98 GmlpInRefIdeal.Read.val_main_v89 GmlpInRefIdeal.Read.val_main_v88 GmlpInRefIdeal.Read.val_main_v87 GmlpInRefIdeal.Read.val_main_v86 GmlpInRefIdeal.Read.val_main_v85 GmlpInRefIdeal.Read.val_main_v83 GmlpInRefIdeal.Read.val_main_v82 GmlpInRefIdeal.Read.val_main_v81 GmlpInRefIdeal.Read.val_main_v80 GmlpInRefIdeal.Read.val_main_v79 GmlpInRefIdeal.Read.val_main_v78 GmlpInRefIdeal.Read.val_main_v77 GmlpInRefIdeal.Read.val_main_v76 GmlpInRefIdeal.Read.val_main_v75 GmlpInRefIdeal.Read.val_main_v74 GmlpInRefIdeal.Read.val_main_v72 GmlpInRefIdeal.Read.val_main_v71 GmlpInRefIdeal.Read.val_main_v70 GmlpInRefIdeal.Read.val_main_v69 GmlpInRefIdeal.Read.val_main_v68 GmlpInRefIdeal.Read.val_main_v66 GmlpInRefIdeal.Read.val_main_v65 GmlpInRefIdeal.Read.val_main_v64 GmlpInRefIdeal.Read.val_main_v62 GmlpInRefIdeal.Read.val_main_v54 GmlpInRefIdeal.Read.val_main_v53 GmlpInRefIdeal.Read.val_main_v52
  rw [product]
  rfl

theorem ref_dy : GmlpInRefIdeal.Read.val_main_v108 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) = fun j : S2048x1024.Idx => ((1 / 2 * (1 + M (ix3 0 0 (j 1))) * dz (z X Y M (j 0)) (dxh CX L G (H W C) (j 0)) (j 1) : ℝ) : EReal) := by
  refine Eq.trans ?_ (Cert.Dgrad.ref_dy X Y CX M L G pick (spread (H W C)) (H W C) (spread_at _))
  unfold GmlpInRefIdeal.Read.val_main_v108 GmlpInRefIdeal.Read.val_main_v107 GmlpInRefIdeal.Read.val_main_v91 GmlpInRefIdeal.Read.val_main_v89 GmlpInRefIdeal.Read.val_main_v88 GmlpInRefIdeal.Read.val_main_v87 GmlpInRefIdeal.Read.val_main_v86 GmlpInRefIdeal.Read.val_main_v85 GmlpInRefIdeal.Read.val_main_v83 GmlpInRefIdeal.Read.val_main_v82 GmlpInRefIdeal.Read.val_main_v81 GmlpInRefIdeal.Read.val_main_v80 GmlpInRefIdeal.Read.val_main_v79 GmlpInRefIdeal.Read.val_main_v78 GmlpInRefIdeal.Read.val_main_v77 GmlpInRefIdeal.Read.val_main_v76 GmlpInRefIdeal.Read.val_main_v75 GmlpInRefIdeal.Read.val_main_v74 GmlpInRefIdeal.Read.val_main_v72 GmlpInRefIdeal.Read.val_main_v71 GmlpInRefIdeal.Read.val_main_v70 GmlpInRefIdeal.Read.val_main_v69 GmlpInRefIdeal.Read.val_main_v68 GmlpInRefIdeal.Read.val_main_v66 GmlpInRefIdeal.Read.val_main_v65 GmlpInRefIdeal.Read.val_main_v64 GmlpInRefIdeal.Read.val_main_v62 GmlpInRefIdeal.Read.val_main_v54 GmlpInRefIdeal.Read.val_main_v53 GmlpInRefIdeal.Read.val_main_v52
  rw [product]
  rfl

theorem ref_rows : GmlpInRefIdeal.Read.val_main_v105 (F := Ideal) (fun i => ((X i : ℝ) : EReal)) (fun i => ((Y i : ℝ) : EReal)) (fun i => ((M i : ℝ) : EReal)) (fun i => ((G i : ℝ) : EReal)) B (fun i => ((L i : ℝ) : EReal)) (fun i => ((W i : ℝ) : EReal)) (fun i => ((CX i : ℝ) : EReal)) (fun i => ((C i : ℝ) : EReal)) = fun j : S8x1024.Idx => rows X Y CX M L G B (H W C) (j 0) (j 1) := by
  refine Eq.trans ?_ (Cert.Dgrad.ref_rows X Y CX M L G B pick (spread (H W C)) (H W C) (spread_at _))
  unfold GmlpInRefIdeal.Read.val_main_v105 GmlpInRefIdeal.Read.val_main_v103 GmlpInRefIdeal.Read.val_main_v102 GmlpInRefIdeal.Read.val_main_v101 GmlpInRefIdeal.Read.val_main_v100 GmlpInRefIdeal.Read.val_main_v99 GmlpInRefIdeal.Read.val_main_v96 GmlpInRefIdeal.Read.val_main_v94 GmlpInRefIdeal.Read.val_main_v93 GmlpInRefIdeal.Read.val_main_v92 GmlpInRefIdeal.Read.val_main_v89 GmlpInRefIdeal.Read.val_main_v88 GmlpInRefIdeal.Read.val_main_v87 GmlpInRefIdeal.Read.val_main_v86 GmlpInRefIdeal.Read.val_main_v85 GmlpInRefIdeal.Read.val_main_v83 GmlpInRefIdeal.Read.val_main_v82 GmlpInRefIdeal.Read.val_main_v81 GmlpInRefIdeal.Read.val_main_v80 GmlpInRefIdeal.Read.val_main_v79 GmlpInRefIdeal.Read.val_main_v78 GmlpInRefIdeal.Read.val_main_v77 GmlpInRefIdeal.Read.val_main_v76 GmlpInRefIdeal.Read.val_main_v75 GmlpInRefIdeal.Read.val_main_v74 GmlpInRefIdeal.Read.val_main_v72 GmlpInRefIdeal.Read.val_main_v71 GmlpInRefIdeal.Read.val_main_v70 GmlpInRefIdeal.Read.val_main_v69 GmlpInRefIdeal.Read.val_main_v68 GmlpInRefIdeal.Read.val_main_v66 GmlpInRefIdeal.Read.val_main_v65 GmlpInRefIdeal.Read.val_main_v64 GmlpInRefIdeal.Read.val_main_v63 GmlpInRefIdeal.Read.val_main_v62 GmlpInRefIdeal.Read.val_main_v60 GmlpInRefIdeal.Read.val_main_v59 GmlpInRefIdeal.Read.val_main_v58 GmlpInRefIdeal.Read.val_main_v57 GmlpInRefIdeal.Read.val_main_v56 GmlpInRefIdeal.Read.val_main_v55 GmlpInRefIdeal.Read.val_main_v54 GmlpInRefIdeal.Read.val_main_v53 GmlpInRefIdeal.Read.val_main_v52 GmlpInRefIdeal.Read.val_main_v50 GmlpInRefIdeal.Read.val_main_v49 GmlpInRefIdeal.Read.val_main_v48 GmlpInRefIdeal.Read.val_main_v47 GmlpInRefIdeal.Read.val_main_v46
  rw [product]
  rfl

end
end Cert.GmlpIn

end
-- ==== Proof.GmlpIn.lean ====
module

public import proofs.«01_k».proof.Proof.Gen.GmlpInIdeal.Value
public import proofs.«01_k».proof.Proof.GmlpInRef
public import proofs.«01_k».proof.Proof.Dgrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GmlpIn
open Cert.GmlpInIdeal Cert.GmlpInIdeal.Gen Cert.Sc Cert.LN Cert.Dgrad

theorem idx : ∀ t : Fin cfg0.N, win0_0.index t = ![t.val, 0] ∧ win0_1.index t = ![0, 0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, _)

def row (t : Fin cfg0.N) (i : Fin 256) : Fin 2048 := ⟨t.val * 256 + i.val, by have := t.isLt; change t.val < 8 at this; omega⟩
variable (m : (ℓ : Loc nD τ sig) → Buf (Elt Ideal) ℓ) (c : Dev nD)

/-- The gradient of the modulated rows of a point. -/
def dhT (t : Fin cfg0.N) : FVec Ideal S256x1024 .f32 :=
  k0_pay3 (View.ld (Val := Elt Ideal) (e' := .bf16) (iblk m c 0 t) (Rect.unit (s := S256x4096) ![0, 0] ![256, 1024] inb_S256x4096_S256x1024_0_0)) (View.ld (Val := Elt Ideal) (e' := .bf16) (iblk m c 1 t) (Rect.unit (s := S4x1024x1024) ![0, 0, 0] ![1, 1024, 1024] inb_S4x1024x1024_S1x1024x1024_0_0_0))
    (View.ld (Val := Elt Ideal) (e' := .bf16) (iblk m c 0 t) (Rect.unit (s := S256x4096) ![0, 1024] ![256, 1024] inb_S256x4096_S256x1024_0_1024)) (View.ld (Val := Elt Ideal) (e' := .bf16) (iblk m c 1 t) (Rect.unit (s := S4x1024x1024) ![1, 0, 0] ![1, 1024, 1024] inb_S4x1024x1024_S1x1024x1024_1_0_0))
    (View.ld (Val := Elt Ideal) (e' := .bf16) (iblk m c 0 t) (Rect.unit (s := S256x4096) ![0, 2048] ![256, 1024] inb_S256x4096_S256x1024_0_2048)) (View.ld (Val := Elt Ideal) (e' := .bf16) (iblk m c 1 t) (Rect.unit (s := S4x1024x1024) ![2, 0, 0] ![1, 1024, 1024] inb_S4x1024x1024_S1x1024x1024_2_0_0))
    (View.ld (Val := Elt Ideal) (e' := .bf16) (iblk m c 0 t) (Rect.unit (s := S256x4096) ![0, 3072] ![256, 1024] inb_S256x4096_S256x1024_0_3072)) (View.ld (Val := Elt Ideal) (e' := .bf16) (iblk m c 1 t) (Rect.unit (s := S4x1024x1024) ![3, 0, 0] ![1, 1024, 1024] inb_S4x1024x1024_S1x1024x1024_3_0_0))

/-- How a point updates a row of the sums. -/
def step (t : Fin cfg0.N) : ℕ → (S1x1024.Idx → EReal) → (S1x1024.Idx → EReal) :=
  upd (dhT m c t) (iblk m c 2 t) (iblk m c 5 t) (iblk m c 3 t) (iblk m c 4 t) (iblk m c 7 t) (iblk m c 6 t) (iblk m c 8 t)

section
variable (X Y CX : S1x2048x1024.Idx → ℝ) (M L : S1x1x1024.Idx → ℝ) (G : S1024.Idx → ℝ) (W : S1024x4096.Idx → ℝ) (C : S1x2048x4096.Idx → ℝ)
  (hX : m ((c : Thread nD τ).loc main_arg0) = fun i => ((X i : ℝ) : EReal)) (hY : m ((c : Thread nD τ).loc main_arg1) = fun i => ((Y i : ℝ) : EReal))
  (hM : m ((c : Thread nD τ).loc main_arg2) = fun i => ((M i : ℝ) : EReal)) (hG : m ((c : Thread nD τ).loc main_arg3) = fun i => ((G i : ℝ) : EReal))
  (hL : m ((c : Thread nD τ).loc main_arg5) = fun i => ((L i : ℝ) : EReal)) (hW : m ((c : Thread nD τ).loc main_arg7) = fun i => ((W i : ℝ) : EReal))
  (hCX : m ((c : Thread nD τ).loc main_arg8) = fun i => ((CX i : ℝ) : EReal)) (hC : m ((c : Thread nD τ).loc main_arg9) = fun i => ((C i : ℝ) : EReal))

include hW hC in
set_option maxHeartbeats 1000000 in
theorem dh_at (t : Fin cfg0.N) (r : Fin 256) (d : Fin 1024) : dhT m c t (ix2 r d) = ((H W C (row t r) d : ℝ) : EReal) := by
  have b0 : ∀ (r : Fin 256) (n : Fin 4096), iblk m c 0 t (ix2 r n) = ((C (ix3 0 (row t r) n) : ℝ) : EReal) := fun r n => by
    refine Eq.trans (b := m ((c : Thread nD τ).loc main_arg9) (ix3 0 (row t r) n)) ?_ (congrFun hC _)
    unfold row
    blk_point [iblk, V, idx t]
  have b1 : ∀ (s : Fin 4) (d : Fin 1024) (n : Fin 1024), iblk m c 1 t (ix3 s d n) = ((W (ix2 d ⟨s.val * 1024 + n.val, by omega⟩) : ℝ) : EReal) := fun s d n => by
    refine Eq.trans (b := m ((c : Thread nD τ).loc main_arg7) (ix2 d ⟨s.val * 1024 + n.val, by omega⟩)) ?_ (congrFun hW _)
    blk_point [iblk, V, idx t]
  unfold dhT
  pointwise [k0_pay3]
  simp only [b0, b1, ← EReal.coe_mul, sum_coe]
  unfold H
  rw [Fin.sum_univ_tiles 4 1024 rfl]
  simp only [Fin.sum_univ_four, EReal.coe_add]
  simp

include hX hY hM hG hL hW hCX hC in
set_option maxHeartbeats 2000000 in
theorem reads (t : Fin cfg0.N) : Reads (dhT m c t) (iblk m c 2 t) (iblk m c 5 t) (iblk m c 3 t) (iblk m c 4 t) (iblk m c 7 t) (iblk m c 9 t) (iblk m c 6 t) (iblk m c 8 t)
    X Y CX M L G (m ((c : Thread nD τ).loc main_arg4)) (H W C) (row t) where
  d := dh_at m c W C hW hC t
  cx r d := by
    refine Eq.trans (b := m ((c : Thread nD τ).loc main_arg8) (ix3 0 (row t r) d)) ?_ (congrFun hCX _)
    unfold row
    blk_point [iblk, V, idx t]
  y r d := by
    refine Eq.trans (b := m ((c : Thread nD τ).loc main_arg1) (ix3 0 (row t r) d)) ?_ (congrFun hY _)
    unfold row
    blk_point [iblk, V, idx t]
  l d := by
    refine Eq.trans (b := m ((c : Thread nD τ).loc main_arg5) (ix3 0 0 d)) ?_ (congrFun hL _)
    blk_point [iblk, V, idx t]
  g d := by
    refine Eq.trans (b := m ((c : Thread nD τ).loc main_arg3) (ix1 d)) ?_ (congrFun hG _)
    blk_point [iblk, V, idx t]
  mp d := by
    refine Eq.trans (b := V m c main_v8 (ix2 0 d)) ?_ ?_
    · blk_point [iblk, idx t]
    · entry_read
      pointwise
      simp only [hM, half, one_eq, ← EReal.coe_add, ← EReal.coe_mul]
  xhat r d := by
    refine Eq.trans (b := V m c main_v29 (ix2 (row t r) d)) ?_ ?_
    · unfold row
      blk_point [iblk, idx t]
    · entry_read
      pointwise
      simp only [hX, hY, hM]
      exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d
  rstd r := by
    refine Eq.trans (b := V m c main_v27 (ix2 (row t r) 0)) ?_ ?_
    · unfold row
      blk_point [iblk, idx t]
    · entry_read
      pointwise
      simp only [hX, hY, hM]
      exact rs_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _)
  out r d := by
    refine Eq.trans (b := V m c main_v33 (ix2 (row t r) d)) ?_ ?_
    · unfold row
      blk_point [iblk, idx t]
    · entry_read
      pointwise
      simp only [hX, hY, hM, hG]
      rw [EReal.coe_mul]
      congr 2
      exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d

include hX hY hM hG hL hW hCX hC in
theorem final10 : (dats m 0 c).arrAt 10 (cfgs 0).N = fun j : S2048x1024.Idx => ((al * dz (z X Y M (j 0)) (dxh CX L G (H W C) (j 0)) (j 1) : ℝ) : EReal) := by
  refine (dats m 0 c).arrAt_eq_of_covers 10 _ (by decide +kernel) fun t _ y => ?_
  have key : ∀ (a : Fin 2048) (b : Fin 1024), a = row t (y 0) → b = y 1 → dxT (dhT m c t) (iblk m c 2 t) (iblk m c 5 t) (iblk m c 4 t) (iblk m c 7 t) (iblk m c 6 t) y = ((al * dz (z X Y M a) (dxh CX L G (H W C) a) b : ℝ) : EReal) := by
    rintro _ _ rfl rfl
    obtain ⟨r, d, rfl⟩ : ∃ (r : Fin 256) (d : Fin 1024), y = ix2 r d := ⟨y 0, y 1, eq_ix2 y⟩
    exact dx_at (reads m c X Y CX M L G W C hX hY hM hG hL hW hCX hC t) r d
  refine Eq.trans ?_ (key _ _ (Fin.ext (by blk_simp [idx t]; show _ = t.val * 256 + (y 0).val; omega)) (Fin.ext (by blk_simp [idx t])))
  rw [after0_10]
  by_cases h0 : t.val % 8 = 0
  · rw [outsAt0_A m c t h0]; frame_out
    rfl
  · rw [outsAt0_B m c t h0]; frame_out
    rfl

include hX hY hM hG hL hW hCX hC in
theorem final11 : (dats m 0 c).arrAt 11 (cfgs 0).N = fun j : S2048x1024.Idx => ((1 / 2 * (1 + M (ix3 0 0 (j 1))) * dz (z X Y M (j 0)) (dxh CX L G (H W C) (j 0)) (j 1) : ℝ) : EReal) := by
  refine (dats m 0 c).arrAt_eq_of_covers 11 _ (by decide +kernel) fun t _ y => ?_
  have key : ∀ (a : Fin 2048) (b : Fin 1024), a = row t (y 0) → b = y 1 → dyT (dhT m c t) (iblk m c 2 t) (iblk m c 5 t) (iblk m c 4 t) (iblk m c 7 t) (iblk m c 9 t) (iblk m c 6 t) y = ((1 / 2 * (1 + M (ix3 0 0 b)) * dz (z X Y M a) (dxh CX L G (H W C) a) b : ℝ) : EReal) := by
    rintro _ _ rfl rfl
    obtain ⟨r, d, rfl⟩ : ∃ (r : Fin 256) (d : Fin 1024), y = ix2 r d := ⟨y 0, y 1, eq_ix2 y⟩
    exact dy_at (reads m c X Y CX M L G W C hX hY hM hG hL hW hCX hC t) r d
  refine Eq.trans ?_ (key _ _ (Fin.ext (by blk_simp [idx t]; show _ = t.val * 256 + (y 0).val; omega)) (Fin.ext (by blk_simp [idx t])))
  rw [after0_11]
  by_cases h0 : t.val % 8 = 0
  · rw [outsAt0_A m c t h0]; frame_out
    rfl
  · rw [outsAt0_B m c t h0]; frame_out
    rfl

/-- What point `t` adds. -/
def term (t : Fin cfg0.N) : S8x1024.Idx → EReal := fun j => Cert.Rows.only (n := 8) [4, 3, 2, 1, 0] (j 0) (T X Y CX M L G (m ((c : Thread nD τ).loc main_arg4)) (H W C) (row t) (j 0).val (j 1))

include hX hY hM hG hL hW hCX hC in
theorem final12 : (dats m 0 c).arrAt 12 (cfgs 0).N = fun j : S8x1024.Idx => rows X Y CX M L G (m ((c : Thread nD τ).loc main_arg4)) (H W C) (j 0) (j 1) := by
  refine (dats m 0 c).arrAt_eq_of_after_last 12 t0_7 (by decide +kernel) _ fun j => ?_
  blk_simp
  rw [after0_12, Pipeline.eq_sum_fin_of_reset_step_apply_last (fun n h => (outsAt0 m c n h).2.2) 8 (fun _ => 0) (term m c X Y CX M L G W C)
    (fun t h j => by
      have e : ∀ i d, k0_pay2 (F := Ideal) (ix2 i d) = 0 := fun i d => by pointwise [k0_pay2]
      obtain ⟨i, d, rfl⟩ : ∃ (i : Fin 8) (d : Fin 1024), j = ix2 i d := ⟨j 0, j 1, eq_ix2 j⟩
      rw [outsAt0_A m c t h]; frame_out
      exact (Cert.Rows.firsts_at (step m c t) _ (upd_at (reads m c X Y CX M L G W C hX hY hM hG hL hW hCX hC t)) _ (k0_pay2 (F := Ideal)) [4, 3, 2, 1, 0] (by decide) i d).trans (congrArg (· + _) (e i d)))
    (fun t h j => by
      obtain ⟨i, d, rfl⟩ : ∃ (i : Fin 8) (d : Fin 1024), j = ix2 i d := ⟨j 0, j 1, eq_ix2 j⟩
      rw [outsAt0_B m c t h]; frame_out
      exact Cert.Rows.laters_at (step m c t) _ (upd_at (reads m c X Y CX M L G W C hX hY hM hG hL hW hCX hC t)) _ _ _ (by frame_out) [4, 3, 2, 1, 0] i d)
    (le_of_eq N_0) t0_7 rfl j]
  obtain ⟨i, d, rfl⟩ : ∃ (i : Fin 8) (d : Fin 1024), j = ix2 i d := ⟨j 0, j 1, eq_ix2 j⟩
  exact total X Y CX M L G _ (H W C) row (fun _ _ => rfl) i d
end

end Cert.GmlpIn

end
-- ==== Proof.AttnQRef.lean ====
module

public import proofs.«01_k».proof.Proof.Gen.AttnQRefIdeal.Run
public import proofs.«01_k».proof.Proof.Gen.AttnQRefIdeal.Read
public import proofs.«01_k».proof.Proof.DgradRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnQ
open Cert.AttnQRefIdeal Cert.Sc Cert.LN Cert.Dgrad
section
variable (X Y CX : S1x2048x1024.Idx → ℝ) (M L : S1x1x1024.Idx → ℝ) (G : S1024.Idx → ℝ) (B : FVec Ideal S1024 .f32) (W : S1024x1024.Idx → ℝ) (C : S1x2048x1024.Idx → ℝ)

/-- The gradient of the modulated row. -/
def H (r : Fin 2048) (d : Fin 1024) : ℝ := ∑ n : Fin 1024, C (ix3 0 r n) * W (ix2 d n)

theorem product : AttnQRefIdeal.Read.val_main_v45 (F := Ideal) (fun i => ((W i : ℝ) : EReal)) (fun i => ((C i : ℝ) : EReal)) = UpFfnRefIdeal.Read.val_main_v45 (F := Ideal) pick (spread (H W C)) := by
  funext j
  obtain ⟨r, d, rfl⟩ : ∃ (r : Fin 2048) (d : Fin 1024), j = ix3 0 r d := eq_row j
  refine Eq.trans ?_ (spread_at (H W C) r d).symm
  pointwise [AttnQRefIdeal.Read.val_main_v45]
  simp only [← EReal.coe_mul, sum_coe]
  rfl

theorem ref_dx : AttnQRefIdeal.Read.val_main_v106 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) = fun j : S2048x1024.Idx => ((al * dz (z X Y M (j 0)) (dxh CX L G (H W C) (j 0)) (j 1) : ℝ) : EReal) := by
  refine Eq.trans ?_ (Cert.Dgrad.ref_dx X Y CX M L G pick (spread (H W C)) (H W C) (spread_at _))
  unfold AttnQRefIdeal.Read.val_main_v106 AttnQRefIdeal.Read.val_main_v98 AttnQRefIdeal.Read.val_main_v89 AttnQRefIdeal.Read.val_main_v88 AttnQRefIdeal.Read.val_main_v87 AttnQRefIdeal.Read.val_main_v86 AttnQRefIdeal.Read.val_main_v85 AttnQRefIdeal.Read.val_main_v83 AttnQRefIdeal.Read.val_main_v82 AttnQRefIdeal.Read.val_main_v81 AttnQRefIdeal.Read.val_main_v80 AttnQRefIdeal.Read.val_main_v79 AttnQRefIdeal.Read.val_main_v78 AttnQRefIdeal.Read.val_main_v77 AttnQRefIdeal.Read.val_main_v76 AttnQRefIdeal.Read.val_main_v75 AttnQRefIdeal.Read.val_main_v74 AttnQRefIdeal.Read.val_main_v72 AttnQRefIdeal.Read.val_main_v71 AttnQRefIdeal.Read.val_main_v70 AttnQRefIdeal.Read.val_main_v69 AttnQRefIdeal.Read.val_main_v68 AttnQRefIdeal.Read.val_main_v66 AttnQRefIdeal.Read.val_main_v65 AttnQRefIdeal.Read.val_main_v64 AttnQRefIdeal.Read.val_main_v62 AttnQRefIdeal.Read.val_main_v54 AttnQRefIdeal.Read.val_main_v53 AttnQRefIdeal.Read.val_main_v52
  rw [product]
  rfl

theorem ref_dy : AttnQRefIdeal.Read.val_main_v108 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) = fun j : S2048x1024.Idx => ((1 / 2 * (1 + M (ix3 0 0 (j 1))) * dz (z X Y M (j 0)) (dxh CX L G (H W C) (j 0)) (j 1) : ℝ) : EReal) := by
  refine Eq.trans ?_ (Cert.Dgrad.ref_dy X Y CX M L G pick (spread (H W C)) (H W C) (spread_at _))
  unfold AttnQRefIdeal.Read.val_main_v108 AttnQRefIdeal.Read.val_main_v107 AttnQRefIdeal.Read.val_main_v91 AttnQRefIdeal.Read.val_main_v89 AttnQRefIdeal.Read.val_main_v88 AttnQRefIdeal.Read.val_main_v87 AttnQRefIdeal.Read.val_main_v86 AttnQRefIdeal.Read.val_main_v85 AttnQRefIdeal.Read.val_main_v83 AttnQRefIdeal.Read.val_main_v82 AttnQRefIdeal.Read.val_main_v81 AttnQRefIdeal.Read.val_main_v80 AttnQRefIdeal.Read.val_main_v79 AttnQRefIdeal.Read.val_main_v78 AttnQRefIdeal.Read.val_main_v77 AttnQRefIdeal.Read.val_main_v76 AttnQRefIdeal.Read.val_main_v75 AttnQRefIdeal.Read.val_main_v74 AttnQRefIdeal.Read.val_main_v72 AttnQRefIdeal.Read.val_main_v71 AttnQRefIdeal.Read.val_main_v70 AttnQRefIdeal.Read.val_main_v69 AttnQRefIdeal.Read.val_main_v68 AttnQRefIdeal.Read.val_main_v66 AttnQRefIdeal.Read.val_main_v65 AttnQRefIdeal.Read.val_main_v64 AttnQRefIdeal.Read.val_main_v62 AttnQRefIdeal.Read.val_main_v54 AttnQRefIdeal.Read.val_main_v53 AttnQRefIdeal.Read.val_main_v52
  rw [product]
  rfl

theorem ref_rows : AttnQRefIdeal.Read.val_main_v105 (F := Ideal) (fun i => ((X i : ℝ) : EReal)) (fun i => ((Y i : ℝ) : EReal)) (fun i => ((M i : ℝ) : EReal)) (fun i => ((G i : ℝ) : EReal)) B (fun i => ((L i : ℝ) : EReal)) (fun i => ((W i : ℝ) : EReal)) (fun i => ((CX i : ℝ) : EReal)) (fun i => ((C i : ℝ) : EReal)) = fun j : S8x1024.Idx => rows X Y CX M L G B (H W C) (j 0) (j 1) := by
  refine Eq.trans ?_ (Cert.Dgrad.ref_rows X Y CX M L G B pick (spread (H W C)) (H W C) (spread_at _))
  unfold AttnQRefIdeal.Read.val_main_v105 AttnQRefIdeal.Read.val_main_v103 AttnQRefIdeal.Read.val_main_v102 AttnQRefIdeal.Read.val_main_v101 AttnQRefIdeal.Read.val_main_v100 AttnQRefIdeal.Read.val_main_v99 AttnQRefIdeal.Read.val_main_v96 AttnQRefIdeal.Read.val_main_v94 AttnQRefIdeal.Read.val_main_v93 AttnQRefIdeal.Read.val_main_v92 AttnQRefIdeal.Read.val_main_v89 AttnQRefIdeal.Read.val_main_v88 AttnQRefIdeal.Read.val_main_v87 AttnQRefIdeal.Read.val_main_v86 AttnQRefIdeal.Read.val_main_v85 AttnQRefIdeal.Read.val_main_v83 AttnQRefIdeal.Read.val_main_v82 AttnQRefIdeal.Read.val_main_v81 AttnQRefIdeal.Read.val_main_v80 AttnQRefIdeal.Read.val_main_v79 AttnQRefIdeal.Read.val_main_v78 AttnQRefIdeal.Read.val_main_v77 AttnQRefIdeal.Read.val_main_v76 AttnQRefIdeal.Read.val_main_v75 AttnQRefIdeal.Read.val_main_v74 AttnQRefIdeal.Read.val_main_v72 AttnQRefIdeal.Read.val_main_v71 AttnQRefIdeal.Read.val_main_v70 AttnQRefIdeal.Read.val_main_v69 AttnQRefIdeal.Read.val_main_v68 AttnQRefIdeal.Read.val_main_v66 AttnQRefIdeal.Read.val_main_v65 AttnQRefIdeal.Read.val_main_v64 AttnQRefIdeal.Read.val_main_v63 AttnQRefIdeal.Read.val_main_v62 AttnQRefIdeal.Read.val_main_v60 AttnQRefIdeal.Read.val_main_v59 AttnQRefIdeal.Read.val_main_v58 AttnQRefIdeal.Read.val_main_v57 AttnQRefIdeal.Read.val_main_v56 AttnQRefIdeal.Read.val_main_v55 AttnQRefIdeal.Read.val_main_v54 AttnQRefIdeal.Read.val_main_v53 AttnQRefIdeal.Read.val_main_v52 AttnQRefIdeal.Read.val_main_v50 AttnQRefIdeal.Read.val_main_v49 AttnQRefIdeal.Read.val_main_v48 AttnQRefIdeal.Read.val_main_v47 AttnQRefIdeal.Read.val_main_v46
  rw [product]
  rfl

end
end Cert.AttnQ

end
-- ==== Proof.AttnQ.lean ====
module

public import proofs.«01_k».proof.Proof.Gen.AttnQIdeal.Value
public import proofs.«01_k».proof.Proof.AttnQRef
public import proofs.«01_k».proof.Proof.Dgrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnQ
open Cert.AttnQIdeal Cert.AttnQIdeal.Gen Cert.Sc Cert.LN Cert.Dgrad

theorem idx : ∀ t : Fin cfg0.N, win0_0.index t = ![t.val, 0] ∧ win0_1.index t = ![0, 0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, _)

def row (t : Fin cfg0.N) (i : Fin 256) : Fin 2048 := ⟨t.val * 256 + i.val, by have := t.isLt; change t.val < 8 at this; omega⟩
variable (m : (ℓ : Loc nD τ sig) → Buf (Elt Ideal) ℓ) (c : Dev nD)

/-- The gradient of the modulated rows of a point. -/
def dhT (t : Fin cfg0.N) : FVec Ideal S256x1024 .f32 :=
  k0_pay5 (iblk m c 0 t) (iblk m c 1 t)

/-- How a point updates a row of the sums. -/
def step (t : Fin cfg0.N) : ℕ → (S1x1024.Idx → EReal) → (S1x1024.Idx → EReal) :=
  upd (dhT m c t) (iblk m c 2 t) (iblk m c 5 t) (iblk m c 3 t) (iblk m c 4 t) (iblk m c 7 t) (iblk m c 6 t) (iblk m c 8 t)

section
variable (X Y CX : S1x2048x1024.Idx → ℝ) (M L : S1x1x1024.Idx → ℝ) (G : S1024.Idx → ℝ) (W : S1024x1024.Idx → ℝ) (C : S1x2048x1024.Idx → ℝ)
  (hX : m ((c : Thread nD τ).loc main_arg0) = fun i => ((X i : ℝ) : EReal)) (hY : m ((c : Thread nD τ).loc main_arg1) = fun i => ((Y i : ℝ) : EReal))
  (hM : m ((c : Thread nD τ).loc main_arg2) = fun i => ((M i : ℝ) : EReal)) (hG : m ((c : Thread nD τ).loc main_arg3) = fun i => ((G i : ℝ) : EReal))
  (hL : m ((c : Thread nD τ).loc main_arg5) = fun i => ((L i : ℝ) : EReal)) (hW : m ((c : Thread nD τ).loc main_arg7) = fun i => ((W i : ℝ) : EReal))
  (hCX : m ((c : Thread nD τ).loc main_arg8) = fun i => ((CX i : ℝ) : EReal)) (hC : m ((c : Thread nD τ).loc main_arg9) = fun i => ((C i : ℝ) : EReal))

include hW hC in
set_option maxHeartbeats 1000000 in
theorem dh_at (t : Fin cfg0.N) (r : Fin 256) (d : Fin 1024) : dhT m c t (ix2 r d) = ((H W C (row t r) d : ℝ) : EReal) := by
  have b0 : ∀ (r : Fin 256) (n : Fin 1024), iblk m c 0 t (ix2 r n) = ((C (ix3 0 (row t r) n) : ℝ) : EReal) := fun r n => by
    refine Eq.trans (b := m ((c : Thread nD τ).loc main_arg9) (ix3 0 (row t r) n)) ?_ (congrFun hC _)
    unfold row
    blk_point [iblk, V, idx t]
  have b1 : ∀ (s : Fin 1) (d : Fin 1024) (n : Fin 1024), iblk m c 1 t (ix3 s d n) = ((W (ix2 d n) : ℝ) : EReal) := fun s d n => by
    refine Eq.trans (b := m ((c : Thread nD τ).loc main_arg7) (ix2 d n)) ?_ (congrFun hW _)
    blk_point [iblk, V, idx t]
  unfold dhT
  pointwise [k0_pay5]
  simp only [b0, b1, ← EReal.coe_mul, sum_coe]
  unfold H
  simp

include hX hY hM hG hL hW hCX hC in
set_option maxHeartbeats 2000000 in
theorem reads (t : Fin cfg0.N) : Reads (dhT m c t) (iblk m c 2 t) (iblk m c 5 t) (iblk m c 3 t) (iblk m c 4 t) (iblk m c 7 t) (iblk m c 9 t) (iblk m c 6 t) (iblk m c 8 t)
    X Y CX M L G (m ((c : Thread nD τ).loc main_arg4)) (H W C) (row t) where
  d := dh_at m c W C hW hC t
  cx r d := by
    refine Eq.trans (b := m ((c : Thread nD τ).loc main_arg8) (ix3 0 (row t r) d)) ?_ (congrFun hCX _)
    unfold row
    blk_point [iblk, V, idx t]
  y r d := by
    refine Eq.trans (b := m ((c : Thread nD τ).loc main_arg1) (ix3 0 (row t r) d)) ?_ (congrFun hY _)
    unfold row
    blk_point [iblk, V, idx t]
  l d := by
    refine Eq.trans (b := m ((c : Thread nD τ).loc main_arg5) (ix3 0 0 d)) ?_ (congrFun hL _)
    blk_point [iblk, V, idx t]
  g d := by
    refine Eq.trans (b := m ((c : Thread nD τ).loc main_arg3) (ix1 d)) ?_ (congrFun hG _)
    blk_point [iblk, V, idx t]
  mp d := by
    refine Eq.trans (b := V m c main_v8 (ix2 0 d)) ?_ ?_
    · blk_point [iblk, idx t]
    · entry_read
      pointwise
      simp only [hM, half, one_eq, ← EReal.coe_add, ← EReal.coe_mul]
  xhat r d := by
    refine Eq.trans (b := V m c main_v29 (ix2 (row t r) d)) ?_ ?_
    · unfold row
      blk_point [iblk, idx t]
    · entry_read
      pointwise
      simp only [hX, hY, hM]
      exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d
  rstd r := by
    refine Eq.trans (b := V m c main_v27 (ix2 (row t r) 0)) ?_ ?_
    · unfold row
      blk_point [iblk, idx t]
    · entry_read
      pointwise
      simp only [hX, hY, hM]
      exact rs_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _)
  out r d := by
    refine Eq.trans (b := V m c main_v33 (ix2 (row t r) d)) ?_ ?_
    · unfold row
      blk_point [iblk, idx t]
    · entry_read
      pointwise
      simp only [hX, hY, hM, hG]
      rw [EReal.coe_mul]
      congr 2
      exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d

include hX hY hM hG hL hW hCX hC in
theorem final10 : (dats m 0 c).arrAt 10 (cfgs 0).N = fun j : S2048x1024.Idx => ((al * dz (z X Y M (j 0)) (dxh CX L G (H W C) (j 0)) (j 1) : ℝ) : EReal) := by
  refine (dats m 0 c).arrAt_eq_of_covers 10 _ (by decide +kernel) fun t _ y => ?_
  have key : ∀ (a : Fin 2048) (b : Fin 1024), a = row t (y 0) → b = y 1 → dxT (dhT m c t) (iblk m c 2 t) (iblk m c 5 t) (iblk m c 4 t) (iblk m c 7 t) (iblk m c 6 t) y = ((al * dz (z X Y M a) (dxh CX L G (H W C) a) b : ℝ) : EReal) := by
    rintro _ _ rfl rfl
    obtain ⟨r, d, rfl⟩ : ∃ (r : Fin 256) (d : Fin 1024), y = ix2 r d := ⟨y 0, y 1, eq_ix2 y⟩
    exact dx_at (reads m c X Y CX M L G W C hX hY hM hG hL hW hCX hC t) r d
  refine Eq.trans ?_ (key _ _ (Fin.ext (by blk_simp [idx t]; show _ = t.val * 256 + (y 0).val; omega)) (Fin.ext (by blk_simp [idx t])))
  rw [after0_10]
  by_cases h0 : t.val % 8 = 0
  · rw [outsAt0_A m c t h0]; frame_out
    rfl
  · rw [outsAt0_B m c t h0]; frame_out
    rfl

include hX hY hM hG hL hW hCX hC in
theorem final11 : (dats m 0 c).arrAt 11 (cfgs 0).N = fun j : S2048x1024.Idx => ((1 / 2 * (1 + M (ix3 0 0 (j 1))) * dz (z X Y M (j 0)) (dxh CX L G (H W C) (j 0)) (j 1) : ℝ) : EReal) := by
  refine (dats m 0 c).arrAt_eq_of_covers 11 _ (by decide +kernel) fun t _ y => ?_
  have key : ∀ (a : Fin 2048) (b : Fin 1024), a = row t (y 0) → b = y 1 → dyT (dhT m c t) (iblk m c 2 t) (iblk m c 5 t) (iblk m c 4 t) (iblk m c 7 t) (iblk m c 9 t) (iblk m c 6 t) y = ((1 / 2 * (1 + M (ix3 0 0 b)) * dz (z X Y M a) (dxh CX L G (H W C) a) b : ℝ) : EReal) := by
    rintro _ _ rfl rfl
    obtain ⟨r, d, rfl⟩ : ∃ (r : Fin 256) (d : Fin 1024), y = ix2 r d := ⟨y 0, y 1, eq_ix2 y⟩
    exact dy_at (reads m c X Y CX M L G W C hX hY hM hG hL hW hCX hC t) r d
  refine Eq.trans ?_ (key _ _ (Fin.ext (by blk_simp [idx t]; show _ = t.val * 256 + (y 0).val; omega)) (Fin.ext (by blk_simp [idx t])))
  rw [after0_11]
  by_cases h0 : t.val % 8 = 0
  · rw [outsAt0_A m c t h0]; frame_out
    rfl
  · rw [outsAt0_B m c t h0]; frame_out
    rfl

/-- What point `t` adds. -/
def term (t : Fin cfg0.N) : S8x1024.Idx → EReal := fun j => Cert.Rows.only (n := 8) [4, 3, 2, 1, 0] (j 0) (T X Y CX M L G (m ((c : Thread nD τ).loc main_arg4)) (H W C) (row t) (j 0).val (j 1))

include hX hY hM hG hL hW hCX hC in
theorem final12 : (dats m 0 c).arrAt 12 (cfgs 0).N = fun j : S8x1024.Idx => rows X Y CX M L G (m ((c : Thread nD τ).loc main_arg4)) (H W C) (j 0) (j 1) := by
  refine (dats m 0 c).arrAt_eq_of_after_last 12 t0_7 (by decide +kernel) _ fun j => ?_
  blk_simp
  rw [after0_12, Pipeline.eq_sum_fin_of_reset_step_apply_last (fun n h => (outsAt0 m c n h).2.2) 8 (fun _ => 0) (term m c X Y CX M L G W C)
    (fun t h j => by
      have e : ∀ i d, k0_pay4 (F := Ideal) (ix2 i d) = 0 := fun i d => by pointwise [k0_pay4]
      obtain ⟨i, d, rfl⟩ : ∃ (i : Fin 8) (d : Fin 1024), j = ix2 i d := ⟨j 0, j 1, eq_ix2 j⟩
      rw [outsAt0_A m c t h]; frame_out
      exact (Cert.Rows.firsts_at (step m c t) _ (upd_at (reads m c X Y CX M L G W C hX hY hM hG hL hW hCX hC t)) _ (k0_pay4 (F := Ideal)) [4, 3, 2, 1, 0] (by decide) i d).trans (congrArg (· + _) (e i d)))
    (fun t h j => by
      obtain ⟨i, d, rfl⟩ : ∃ (i : Fin 8) (d : Fin 1024), j = ix2 i d := ⟨j 0, j 1, eq_ix2 j⟩
      rw [outsAt0_B m c t h]; frame_out
      exact Cert.Rows.laters_at (step m c t) _ (upd_at (reads m c X Y CX M L G W C hX hY hM hG hL hW hCX hC t)) _ _ _ (by frame_out) [4, 3, 2, 1, 0] i d)
    (le_of_eq N_0) t0_7 rfl j]
  obtain ⟨i, d, rfl⟩ : ∃ (i : Fin 8) (d : Fin 1024), j = ix2 i d := ⟨j 0, j 1, eq_ix2 j⟩
  exact total X Y CX M L G _ (H W C) row (fun _ _ => rfl) i d
end

end Cert.AttnQ

end
-- ==== Proof.KvRef.lean ====
module

public import proofs.«01_k».proof.Proof.Gen.KvRefIdeal.Run
public import proofs.«01_k».proof.Proof.Gen.KvRefIdeal.Read
public import proofs.«01_k».proof.Proof.DgradRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kv
open Cert.KvRefIdeal Cert.Sc Cert.LN Cert.Dgrad
section
variable (X Y CX : S1x2048x1024.Idx → ℝ) (M L : S1x1x1024.Idx → ℝ) (G : S1024.Idx → ℝ) (B : FVec Ideal S1024 .f32) (W : S1024x2048.Idx → ℝ) (C : S1x2048x2048.Idx → ℝ)

/-- The gradient of the modulated row. -/
def H (r : Fin 2048) (d : Fin 1024) : ℝ := ∑ n : Fin 2048, C (ix3 0 r n) * W (ix2 d n)

theorem product : KvRefIdeal.Read.val_main_v45 (F := Ideal) (fun i => ((W i : ℝ) : EReal)) (fun i => ((C i : ℝ) : EReal)) = UpFfnRefIdeal.Read.val_main_v45 (F := Ideal) pick (spread (H W C)) := by
  funext j
  obtain ⟨r, d, rfl⟩ : ∃ (r : Fin 2048) (d : Fin 1024), j = ix3 0 r d := eq_row j
  refine Eq.trans ?_ (spread_at (H W C) r d).symm
  pointwise [KvRefIdeal.Read.val_main_v45]
  simp only [← EReal.coe_mul, sum_coe]
  rfl

theorem ref_dx : KvRefIdeal.Read.val_main_v106 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) = fun j : S2048x1024.Idx => ((al * dz (z X Y M (j 0)) (dxh CX L G (H W C) (j 0)) (j 1) : ℝ) : EReal) := by
  refine Eq.trans ?_ (Cert.Dgrad.ref_dx X Y CX M L G pick (spread (H W C)) (H W C) (spread_at _))
  unfold KvRefIdeal.Read.val_main_v106 KvRefIdeal.Read.val_main_v98 KvRefIdeal.Read.val_main_v89 KvRefIdeal.Read.val_main_v88 KvRefIdeal.Read.val_main_v87 KvRefIdeal.Read.val_main_v86 KvRefIdeal.Read.val_main_v85 KvRefIdeal.Read.val_main_v83 KvRefIdeal.Read.val_main_v82 KvRefIdeal.Read.val_main_v81 KvRefIdeal.Read.val_main_v80 KvRefIdeal.Read.val_main_v79 KvRefIdeal.Read.val_main_v78 KvRefIdeal.Read.val_main_v77 KvRefIdeal.Read.val_main_v76 KvRefIdeal.Read.val_main_v75 KvRefIdeal.Read.val_main_v74 KvRefIdeal.Read.val_main_v72 KvRefIdeal.Read.val_main_v71 KvRefIdeal.Read.val_main_v70 KvRefIdeal.Read.val_main_v69 KvRefIdeal.Read.val_main_v68 KvRefIdeal.Read.val_main_v66 KvRefIdeal.Read.val_main_v65 KvRefIdeal.Read.val_main_v64 KvRefIdeal.Read.val_main_v62 KvRefIdeal.Read.val_main_v54 KvRefIdeal.Read.val_main_v53 KvRefIdeal.Read.val_main_v52
  rw [product]
  rfl

theorem ref_dy : KvRefIdeal.Read.val_main_v108 (F := Ideal) (fun i => ((X i : ℝ) : EReal)) (fun i => ((Y i : ℝ) : EReal)) (fun i => ((M i : ℝ) : EReal)) (fun i => ((G i : ℝ) : EReal)) (fun i => ((L i : ℝ) : EReal)) (fun i => ((W i : ℝ) : EReal)) (fun i => ((CX i : ℝ) : EReal)) (fun i => ((C i : ℝ) : EReal)) = fun j : S2048x1024.Idx => ((1 / 2 * (1 + M (ix3 0 0 (j 1))) * dz (z X Y M (j 0)) (dxh CX L G (H W C) (j 0)) (j 1) : ℝ) : EReal) := by
  refine Eq.trans ?_ (Cert.Dgrad.ref_dy X Y CX M L G pick (spread (H W C)) (H W C) (spread_at _))
  unfold KvRefIdeal.Read.val_main_v108 KvRefIdeal.Read.val_main_v107 KvRefIdeal.Read.val_main_v91 KvRefIdeal.Read.val_main_v89 KvRefIdeal.Read.val_main_v88 KvRefIdeal.Read.val_main_v87 KvRefIdeal.Read.val_main_v86 KvRefIdeal.Read.val_main_v85 KvRefIdeal.Read.val_main_v83 KvRefIdeal.Read.val_main_v82 KvRefIdeal.Read.val_main_v81 KvRefIdeal.Read.val_main_v80 KvRefIdeal.Read.val_main_v79 KvRefIdeal.Read.val_main_v78 KvRefIdeal.Read.val_main_v77 KvRefIdeal.Read.val_main_v76 KvRefIdeal.Read.val_main_v75 KvRefIdeal.Read.val_main_v74 KvRefIdeal.Read.val_main_v72 KvRefIdeal.Read.val_main_v71 KvRefIdeal.Read.val_main_v70 KvRefIdeal.Read.val_main_v69 KvRefIdeal.Read.val_main_v68 KvRefIdeal.Read.val_main_v66 KvRefIdeal.Read.val_main_v65 KvRefIdeal.Read.val_main_v64 KvRefIdeal.Read.val_main_v62 KvRefIdeal.Read.val_main_v54 KvRefIdeal.Read.val_main_v53 KvRefIdeal.Read.val_main_v52
  rw [product]
  rfl

theorem ref_rows : KvRefIdeal.Read.val_main_v105 (F := Ideal) (fun i => ((X i : ℝ) : EReal)) (fun i => ((Y i : ℝ) : EReal)) (fun i => ((M i : ℝ) : EReal)) (fun i => ((G i : ℝ) : EReal)) B (fun i => ((L i : ℝ) : EReal)) (fun i => ((W i : ℝ) : EReal)) (fun i => ((CX i : ℝ) : EReal)) (fun i => ((C i : ℝ) : EReal)) = fun j : S8x1024.Idx => rows X Y CX M L G B (H W C) (j 0) (j 1) := by
  refine Eq.trans ?_ (Cert.Dgrad.ref_rows X Y CX M L G B pick (spread (H W C)) (H W C) (spread_at _))
  unfold KvRefIdeal.Read.val_main_v105 KvRefIdeal.Read.val_main_v103 KvRefIdeal.Read.val_main_v102 KvRefIdeal.Read.val_main_v101 KvRefIdeal.Read.val_main_v100 KvRefIdeal.Read.val_main_v99 KvRefIdeal.Read.val_main_v96 KvRefIdeal.Read.val_main_v94 KvRefIdeal.Read.val_main_v93 KvRefIdeal.Read.val_main_v92 KvRefIdeal.Read.val_main_v89 KvRefIdeal.Read.val_main_v88 KvRefIdeal.Read.val_main_v87 KvRefIdeal.Read.val_main_v86 KvRefIdeal.Read.val_main_v85 KvRefIdeal.Read.val_main_v83 KvRefIdeal.Read.val_main_v82 KvRefIdeal.Read.val_main_v81 KvRefIdeal.Read.val_main_v80 KvRefIdeal.Read.val_main_v79 KvRefIdeal.Read.val_main_v78 KvRefIdeal.Read.val_main_v77 KvRefIdeal.Read.val_main_v76 KvRefIdeal.Read.val_main_v75 KvRefIdeal.Read.val_main_v74 KvRefIdeal.Read.val_main_v72 KvRefIdeal.Read.val_main_v71 KvRefIdeal.Read.val_main_v70 KvRefIdeal.Read.val_main_v69 KvRefIdeal.Read.val_main_v68 KvRefIdeal.Read.val_main_v66 KvRefIdeal.Read.val_main_v65 KvRefIdeal.Read.val_main_v64 KvRefIdeal.Read.val_main_v63 KvRefIdeal.Read.val_main_v62 KvRefIdeal.Read.val_main_v60 KvRefIdeal.Read.val_main_v59 KvRefIdeal.Read.val_main_v58 KvRefIdeal.Read.val_main_v57 KvRefIdeal.Read.val_main_v56 KvRefIdeal.Read.val_main_v55 KvRefIdeal.Read.val_main_v54 KvRefIdeal.Read.val_main_v53 KvRefIdeal.Read.val_main_v52 KvRefIdeal.Read.val_main_v50 KvRefIdeal.Read.val_main_v49 KvRefIdeal.Read.val_main_v48 KvRefIdeal.Read.val_main_v47 KvRefIdeal.Read.val_main_v46
  rw [product]
  rfl

end
end Cert.Kv

end
-- ==== Proof.Kv.lean ====
module

public import proofs.«01_k».proof.Proof.Gen.KvIdeal.Value
public import proofs.«01_k».proof.Proof.KvRef
public import proofs.«01_k».proof.Proof.Dgrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kv
open Cert.KvIdeal Cert.KvIdeal.Gen Cert.Sc Cert.LN Cert.Dgrad

theorem idx : ∀ t : Fin cfg0.N, win0_0.index t = ![t.val, 0] ∧ win0_1.index t = ![0, 0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, _)

def row (t : Fin cfg0.N) (i : Fin 256) : Fin 2048 := ⟨t.val * 256 + i.val, by have := t.isLt; change t.val < 8 at this; omega⟩
variable (m : (ℓ : Loc nD τ sig) → Buf (Elt Ideal) ℓ) (c : Dev nD)

/-- The gradient of the modulated rows of a point. -/
def dhT (t : Fin cfg0.N) : FVec Ideal S256x1024 .f32 :=
  k0_pay5 (k0_pay3 (View.ld (Val := Elt Ideal) (e' := .f32) (iblk m c 0 t) (Rect.unit (s := S256x2048) ![0, 0] ![256, 512] inb_S256x2048_S256x512_0_0)) (View.ld (Val := Elt Ideal) (e' := .bf16) (iblk m c 1 t) (Rect.unit (s := S4x1024x512) ![0, 0, 0] ![1, 1024, 512] inb_S4x1024x512_S1x1024x512_0_0_0))
    (View.ld (Val := Elt Ideal) (e' := .f32) (iblk m c 0 t) (Rect.unit (s := S256x2048) ![0, 512] ![256, 512] inb_S256x2048_S256x512_0_512)) (View.ld (Val := Elt Ideal) (e' := .bf16) (iblk m c 1 t) (Rect.unit (s := S4x1024x512) ![1, 0, 0] ![1, 1024, 512] inb_S4x1024x512_S1x1024x512_1_0_0))
    (View.ld (Val := Elt Ideal) (e' := .f32) (iblk m c 0 t) (Rect.unit (s := S256x2048) ![0, 1024] ![256, 512] inb_S256x2048_S256x512_0_1024)) (View.ld (Val := Elt Ideal) (e' := .bf16) (iblk m c 1 t) (Rect.unit (s := S4x1024x512) ![2, 0, 0] ![1, 1024, 512] inb_S4x1024x512_S1x1024x512_2_0_0)))
    (k0_pay4 (View.ld (Val := Elt Ideal) (e' := .f32) (iblk m c 0 t) (Rect.unit (s := S256x2048) ![0, 1536] ![256, 512] inb_S256x2048_S256x512_0_1536)) (View.ld (Val := Elt Ideal) (e' := .bf16) (iblk m c 1 t) (Rect.unit (s := S4x1024x512) ![3, 0, 0] ![1, 1024, 512] inb_S4x1024x512_S1x1024x512_3_0_0)))

/-- How a point updates a row of the sums. -/
def step (t : Fin cfg0.N) : ℕ → (S1x1024.Idx → EReal) → (S1x1024.Idx → EReal) :=
  upd (dhT m c t) (iblk m c 2 t) (iblk m c 5 t) (iblk m c 3 t) (iblk m c 4 t) (iblk m c 7 t) (iblk m c 6 t) (iblk m c 8 t)

section
variable (X Y CX : S1x2048x1024.Idx → ℝ) (M L : S1x1x1024.Idx → ℝ) (G : S1024.Idx → ℝ) (W : S1024x2048.Idx → ℝ) (C : S1x2048x2048.Idx → ℝ)
  (hX : m ((c : Thread nD τ).loc main_arg0) = fun i => ((X i : ℝ) : EReal)) (hY : m ((c : Thread nD τ).loc main_arg1) = fun i => ((Y i : ℝ) : EReal))
  (hM : m ((c : Thread nD τ).loc main_arg2) = fun i => ((M i : ℝ) : EReal)) (hG : m ((c : Thread nD τ).loc main_arg3) = fun i => ((G i : ℝ) : EReal))
  (hL : m ((c : Thread nD τ).loc main_arg5) = fun i => ((L i : ℝ) : EReal)) (hW : m ((c : Thread nD τ).loc main_arg7) = fun i => ((W i : ℝ) : EReal))
  (hCX : m ((c : Thread nD τ).loc main_arg8) = fun i => ((CX i : ℝ) : EReal)) (hC : m ((c : Thread nD τ).loc main_arg9) = fun i => ((C i : ℝ) : EReal))

include hW hC in
set_option maxHeartbeats 1000000 in
theorem dh_at (t : Fin cfg0.N) (r : Fin 256) (d : Fin 1024) : dhT m c t (ix2 r d) = ((H W C (row t r) d : ℝ) : EReal) := by
  have b0 : ∀ (r : Fin 256) (n : Fin 2048), iblk m c 0 t (ix2 r n) = ((C (ix3 0 (row t r) n) : ℝ) : EReal) := fun r n => by
    refine Eq.trans (b := m ((c : Thread nD τ).loc main_arg9) (ix3 0 (row t r) n)) ?_ (congrFun hC _)
    unfold row
    blk_point [iblk, V, idx t]
  have b1 : ∀ (s : Fin 4) (d : Fin 1024) (n : Fin 512), iblk m c 1 t (ix3 s d n) = ((W (ix2 d ⟨s.val * 512 + n.val, by omega⟩) : ℝ) : EReal) := fun s d n => by
    refine Eq.trans (b := m ((c : Thread nD τ).loc main_arg7) (ix2 d ⟨s.val * 512 + n.val, by omega⟩)) ?_ (congrFun hW _)
    blk_point [iblk, V, idx t]
  unfold dhT
  pointwise [k0_pay5, k0_pay3, k0_pay4]
  simp only [b0, b1, ← EReal.coe_mul, sum_coe]
  unfold H
  rw [Fin.sum_univ_tiles 4 512 rfl]
  simp only [Fin.sum_univ_four, EReal.coe_add]
  simp

include hX hY hM hG hL hW hCX hC in
set_option maxHeartbeats 2000000 in
theorem reads (t : Fin cfg0.N) : Reads (dhT m c t) (iblk m c 2 t) (iblk m c 5 t) (iblk m c 3 t) (iblk m c 4 t) (iblk m c 7 t) (iblk m c 9 t) (iblk m c 6 t) (iblk m c 8 t)
    X Y CX M L G (m ((c : Thread nD τ).loc main_arg4)) (H W C) (row t) where
  d := dh_at m c W C hW hC t
  cx r d := by
    refine Eq.trans (b := m ((c : Thread nD τ).loc main_arg8) (ix3 0 (row t r) d)) ?_ (congrFun hCX _)
    unfold row
    blk_point [iblk, V, idx t]
  y r d := by
    refine Eq.trans (b := m ((c : Thread nD τ).loc main_arg1) (ix3 0 (row t r) d)) ?_ (congrFun hY _)
    unfold row
    blk_point [iblk, V, idx t]
  l d := by
    refine Eq.trans (b := m ((c : Thread nD τ).loc main_arg5) (ix3 0 0 d)) ?_ (congrFun hL _)
    blk_point [iblk, V, idx t]
  g d := by
    refine Eq.trans (b := m ((c : Thread nD τ).loc main_arg3) (ix1 d)) ?_ (congrFun hG _)
    blk_point [iblk, V, idx t]
  mp d := by
    refine Eq.trans (b := V m c main_v8 (ix2 0 d)) ?_ ?_
    · blk_point [iblk, idx t]
    · entry_read
      pointwise
      simp only [hM, half, one_eq, ← EReal.coe_add, ← EReal.coe_mul]
  xhat r d := by
    refine Eq.trans (b := V m c main_v29 (ix2 (row t r) d)) ?_ ?_
    · unfold row
      blk_point [iblk, idx t]
    · entry_read
      pointwise
      simp only [hX, hY, hM]
      exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d
  rstd r := by
    refine Eq.trans (b := V m c main_v27 (ix2 (row t r) 0)) ?_ ?_
    · unfold row
      blk_point [iblk, idx t]
    · entry_read
      pointwise
      simp only [hX, hY, hM]
      exact rs_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _)
  out r d := by
    refine Eq.trans (b := V m c main_v33 (ix2 (row t r) d)) ?_ ?_
    · unfold row
      blk_point [iblk, idx t]
    · entry_read
      pointwise
      simp only [hX, hY, hM, hG]
      rw [EReal.coe_mul]
      congr 2
      exact xh_read (fun d => Ideal.ofBits .f32 0x3FD744FD#32 * (X (ix3 0 (row t r) d) : EReal) + Ideal.ofBits .f32 0x3F000000#32 * (1 + (M (ix3 0 0 d) : EReal)) * (Y (ix3 0 (row t r) d) : EReal)) (z X Y M (row t r)) (z_read X Y M _) d

include hX hY hM hG hL hW hCX hC in
theorem final10 : (dats m 0 c).arrAt 10 (cfgs 0).N = fun j : S2048x1024.Idx => ((al * dz (z X Y M (j 0)) (dxh CX L G (H W C) (j 0)) (j 1) : ℝ) : EReal) := by
  refine (dats m 0 c).arrAt_eq_of_covers 10 _ (by decide +kernel) fun t _ y => ?_
  have key : ∀ (a : Fin 2048) (b : Fin 1024), a = row t (y 0) → b = y 1 → dxT (dhT m c t) (iblk m c 2 t) (iblk m c 5 t) (iblk m c 4 t) (iblk m c 7 t) (iblk m c 6 t) y = ((al * dz (z X Y M a) (dxh CX L G (H W C) a) b : ℝ) : EReal) := by
    rintro _ _ rfl rfl
    obtain ⟨r, d, rfl⟩ : ∃ (r : Fin 256) (d : Fin 1024), y = ix2 r d := ⟨y 0, y 1, eq_ix2 y⟩
    exact dx_at (reads m c X Y CX M L G W C hX hY hM hG hL hW hCX hC t) r d
  refine Eq.trans ?_ (key _ _ (Fin.ext (by blk_simp [idx t]; show _ = t.val * 256 + (y 0).val; omega)) (Fin.ext (by blk_simp [idx t])))
  rw [after0_10]
  by_cases h0 : t.val % 8 = 0
  · rw [outsAt0_A m c t h0]; frame_out
    rfl
  · rw [outsAt0_B m c t h0]; frame_out
    rfl

include hX hY hM hG hL hW hCX hC in
theorem final11 : (dats m 0 c).arrAt 11 (cfgs 0).N = fun j : S2048x1024.Idx => ((1 / 2 * (1 + M (ix3 0 0 (j 1))) * dz (z X Y M (j 0)) (dxh CX L G (H W C) (j 0)) (j 1) : ℝ) : EReal) := by
  refine (dats m 0 c).arrAt_eq_of_covers 11 _ (by decide +kernel) fun t _ y => ?_
  have key : ∀ (a : Fin 2048) (b : Fin 1024), a = row t (y 0) → b = y 1 → dyT (dhT m c t) (iblk m c 2 t) (iblk m c 5 t) (iblk m c 4 t) (iblk m c 7 t) (iblk m c 9 t) (iblk m c 6 t) y = ((1 / 2 * (1 + M (ix3 0 0 b)) * dz (z X Y M a) (dxh CX L G (H W C) a) b : ℝ) : EReal) := by
    rintro _ _ rfl rfl
    obtain ⟨r, d, rfl⟩ : ∃ (r : Fin 256) (d : Fin 1024), y = ix2 r d := ⟨y 0, y 1, eq_ix2 y⟩
    exact dy_at (reads m c X Y CX M L G W C hX hY hM hG hL hW hCX hC t) r d
  refine Eq.trans ?_ (key _ _ (Fin.ext (by blk_simp [idx t]; show _ = t.val * 256 + (y 0).val; omega)) (Fin.ext (by blk_simp [idx t])))
  rw [after0_11]
  by_cases h0 : t.val % 8 = 0
  · rw [outsAt0_A m c t h0]; frame_out
    rfl
  · rw [outsAt0_B m c t h0]; frame_out
    rfl

/-- What point `t` adds. -/
def term (t : Fin cfg0.N) : S8x1024.Idx → EReal := fun j => Cert.Rows.only (n := 8) [4, 3, 2, 1, 0] (j 0) (T X Y CX M L G (m ((c : Thread nD τ).loc main_arg4)) (H W C) (row t) (j 0).val (j 1))

include hX hY hM hG hL hW hCX hC in
theorem final12 : (dats m 0 c).arrAt 12 (cfgs 0).N = fun j : S8x1024.Idx => rows X Y CX M L G (m ((c : Thread nD τ).loc main_arg4)) (H W C) (j 0) (j 1) := by
  refine (dats m 0 c).arrAt_eq_of_after_last 12 t0_7 (by decide +kernel) _ fun j => ?_
  blk_simp
  rw [after0_12, Pipeline.eq_sum_fin_of_reset_step_apply_last (fun n h => (outsAt0 m c n h).2.2) 8 (fun _ => 0) (term m c X Y CX M L G W C)
    (fun t h j => by
      have e : ∀ i d, k0_pay2 (F := Ideal) (ix2 i d) = 0 := fun i d => by pointwise [k0_pay2]
      obtain ⟨i, d, rfl⟩ : ∃ (i : Fin 8) (d : Fin 1024), j = ix2 i d := ⟨j 0, j 1, eq_ix2 j⟩
      rw [outsAt0_A m c t h]; frame_out
      exact (Cert.Rows.firsts_at (step m c t) _ (upd_at (reads m c X Y CX M L G W C hX hY hM hG hL hW hCX hC t)) _ (k0_pay2 (F := Ideal)) [4, 3, 2, 1, 0] (by decide) i d).trans (congrArg (· + _) (e i d)))
    (fun t h j => by
      obtain ⟨i, d, rfl⟩ : ∃ (i : Fin 8) (d : Fin 1024), j = ix2 i d := ⟨j 0, j 1, eq_ix2 j⟩
      rw [outsAt0_B m c t h]; frame_out
      exact Cert.Rows.laters_at (step m c t) _ (upd_at (reads m c X Y CX M L G W C hX hY hM hG hL hW hCX hC t)) _ _ _ (by frame_out) [4, 3, 2, 1, 0] i d)
    (le_of_eq N_0) t0_7 rfl j]
  obtain ⟨i, d, rfl⟩ : ∃ (i : Fin 8) (d : Fin 1024), j = ix2 i d := ⟨j 0, j 1, eq_ix2 j⟩
  exact total X Y CX M L G _ (H W C) row (fun _ _ => rfl) i d
end

end Cert.Kv

end
-- ==== Proof.Bias.lean ====
module

public import proofs.«01_k».proof.Proof.Gen.BiasGradIdeal.Value
public import proofs.«01_k».proof.Proof.Gen.BiasGradRefIdeal.Read
public import proofs.«01_k».proof.Proof.Scalars
public import Idealize.ShloMosaic.Lib.Routing.OpsPair
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BiasGrad
open Cert.BiasGradIdeal Cert.BiasGradIdeal.Gen Cert.Sc

/-- The column a pair of a frame and a place in its band reads: the clipped distance, counted from nought. -/
def bucket (t : Fin 64) (r : Fin 576) : Fin 320 := ⟨min (t.val + 575 - r.val) 319, by omega⟩

theorem word : ∀ (t : Fin 64) (r : Fin 576), IntOp.addi (IntOp.minsi 256#32 (IntOp.maxsi 4294967233#32 (IntOp.subi (Scalar.addi (Scf.iv 0#32 1#32 t.val) 512#32) (BitVec.ofNat 32 r.val)))) 63#32
    = BitVec.ofNat 32 (bucket t r).val := by
  decide +kernel

theorem word' : ∀ (t : Fin 64) (r : Fin 576), IntOp.addi (IntOp.minsi 256#32 (IntOp.maxsi 4294967233#32 (IntOp.subi (IntOp.addi (BitVec.ofNat 32 t.val) 512#32) (BitVec.ofNat 32 r.val)))) 63#32
    = BitVec.ofNat 32 (bucket t r).val := by
  decide +kernel

/-- A test between two small counts, as a number. -/
theorem hot (a b : Fin 320) : FloatOps.sitofp (F := Ideal) FTy.f32 (BitVec.setWidth 32 (IntOp.cmpi CmpIPredicate.eq (BitVec.ofNat 32 a.val) (BitVec.ofNat 32 b.val))) = ((if a = b then 1 else 0 : ℝ) : EReal) := by
  have e : BitVec.ofNat 32 a.val = BitVec.ofNat 32 b.val ↔ a = b := by
    rw [← BitVec.toNat_inj, BitVec.toNat_ofNat, BitVec.toNat_ofNat, Nat.mod_eq_of_lt (by omega), Nat.mod_eq_of_lt (by omega), Fin.ext_iff]
  by_cases h : a = b
  · subst h
    simp [IntOp.cmpi, FloatOps.sitofp]
  · have h' : (BitVec.ofNat 32 a.val == BitVec.ofNat 32 b.val) = false := beq_eq_false_iff_ne.2 (mt e.1 h)
    simp only [IntOp.cmpi, FloatOps.sitofp, h', if_neg h]
    simp

theorem pay (d : Fin 16 → Fin 576 → ℝ) (k : Fin k0_t1_loop.trips) (acc : FVec Ideal S16x320 .f32) (v5 : Vec Ideal S1x16x576 .f32) (hv : ∀ h r, v5 (ix3 0 h r) = (d h r : EReal)) (h : Fin 16) (i : Fin 320) :
    k0_pay2 (F := Ideal) k acc v5 (ix2 h i) = acc (ix2 h i) + ((∑ r, if bucket k r = i then d h r else 0 : ℝ) : EReal) := by
  pointwise [k0_pay2]
  have w : ∀ r : Fin 576, _ := word k
  simp only [hv, w, hot, ← EReal.coe_sub, sub_self, ← EReal.coe_mul, sum_coe, ← EReal.coe_add]
  simp

theorem off : ∀ k : Fin k0_t1_loop.trips, k0_off1 k = ![k.val, 0, 0] := by decide +kernel

/-- A sum over the first frames and the next frame. -/
theorem next (f : Fin 64 → ℝ) (n : Nat) (hn : n < 64) : (∑ t, if t.val < n then f t else 0) + f ⟨n, hn⟩ = ∑ t, if t.val < n + 1 then f t else 0 := by
  have e : f ⟨n, hn⟩ = ∑ t, if t = ⟨n, hn⟩ then f t else 0 := by simp
  rw [e, ← Finset.sum_add_distrib]
  refine Finset.sum_congr rfl fun t _ => ?_
  rcases lt_trichotomy t.val n with q | q | q
  · rw [if_pos q, if_neg (fun r => by subst r; exact lt_irrefl _ q), if_pos (by omega), add_zero]
  · rw [if_neg (by omega), if_pos (Fin.ext q), if_pos (by omega), zero_add]
  · rw [if_neg (by omega), if_neg (fun r => by subst r; exact lt_irrefl _ q), if_neg (by omega), add_zero]

section
variable (d : Fin 16 → Fin 64 → Fin 576 → ℝ) (𝒱 : Variants) (c : Dev nD) (bd : Option 𝒱.V) (arg0 : Memref sig .tc .vmem S64x16x576 .f32) (harg0 : arg0.IsWhole) (arg1 : Memref sig .tc .vmem S16x320 .f32) (harg1 : arg1.IsWhole) (X0 : BufTy.Contents (Elt Ideal) arg0.view.ty)
  (hX : ∀ t h r, arg0.view.read (Elt Ideal) X0 (ix3 t h r) = (d h t r : EReal))
include hX

theorem trip_at (k : Fin k0_t1_loop.trips) (acc : FVec Ideal S16x320 .f32) (h : Fin 16) (i : Fin 320) :
    tripR_k0_t1 (F := Ideal) 𝒱 c bd arg0 harg0 arg1 harg1 X0 k acc (ix2 h i) = acc (ix2 h i) + ((∑ r, if bucket k r = i then d h k r else 0 : ℝ) : EReal) := by
  unfold tripR_k0_t1 trip_k0_t1
  dsimp only
  refine pay (fun h r => d h k r) k acc _ (fun h r => ?_) h i
  refine Eq.trans ?_ (hX k h r)
  rw [View.readAt_apply]
  refine congrArg _ (funext fun a => Fin.ext ?_)
  have e := congrFun (off k) a
  match a with
  | 0 => simpa using e
  | 1 => simpa using e
  | 2 => simpa using e

/-- After some of the frames the sums are those over these frames. -/
theorem trips_at (init : FVec Ideal S16x320 .f32) (h0 : ∀ h i, init (ix2 h i) = 0) (h : Fin 16) (i : Fin 320) :
    ∀ n ≤ 64, st_k0_t1 (F := Ideal) 𝒱 c bd arg0 harg0 arg1 harg1 X0 init n (ix2 h i)
      = ((∑ t : Fin 64, if t.val < n then ∑ r, (if bucket t r = i then d h t r else 0) else 0 : ℝ) : EReal)
  | 0, _ => by
    rw [st_k0_t1_zero, h0]
    simp
  | n + 1, hn => by
    refine (congrFun (st_k0_t1_succ 𝒱 c bd arg0 harg0 arg1 harg1 X0 init ⟨n, hn⟩) _).trans ?_
    rw [trip_at d 𝒱 c bd arg0 harg0 arg1 harg1 X0 hX ⟨n, hn⟩, trips_at init h0 h i n (by omega), ← EReal.coe_add]
    exact congrArg _ (next (fun t => ∑ r, if bucket t r = i then d h t r else 0) n hn)
end

theorem idx : ∀ t : Fin cfg0.N, win0_0.index t = ![0, 0, 0] ∧ win0_1.index t = ![0, 0] :=
  (by decide +kernel : ∀ t : Fin grid0.N, _)

theorem ref_word : ∀ (t : Fin 64) (r : Fin 576), (BiasGradRefIdeal.Read.val_main_v18 (F := Ideal) (ix3 t r 0)).toInt = (bucket t r : ℤ) := by
  have e : ∀ (t : Fin 64) (r : Fin 576), BiasGradRefIdeal.Read.val_main_v12 (F := Ideal) (ix2 t r) = BitVec.ofNat 32 (bucket t r).val := fun t r => by
    pointwise [BiasGradRefIdeal.Read.val_main_v12, BiasGradRefIdeal.Read.val_main_v10, BiasGradRefIdeal.Read.val_main_call0_v4, BiasGradRefIdeal.Read.val_main_call0_v3, BiasGradRefIdeal.Read.val_main_call0_v2, BiasGradRefIdeal.Read.val_main_call0_v1, BiasGradRefIdeal.Read.val_main_call0_v0, BiasGradRefIdeal.Read.val_main_c_0, BiasGradRefIdeal.Read.val_main_c_1, BiasGradRefIdeal.Read.val_main_c_2, BiasGradRefIdeal.Read.val_main_v11, BiasGradRefIdeal.Read.val_main_v9, BiasGradRefIdeal.Read.val_main_v8, BiasGradRefIdeal.Read.val_main_v7, BiasGradRefIdeal.Read.val_main_v6, BiasGradRefIdeal.Read.val_main_v5, BiasGradRefIdeal.Read.val_main_v4, BiasGradRefIdeal.Read.val_main_v3, BiasGradRefIdeal.Read.val_main_v2, BiasGradRefIdeal.Read.val_main_v1, BiasGradRefIdeal.Read.val_main_c]
    exact word' t r
  have e' : ∀ b : Fin 320, (Scalar.select (IntOp.cmpi .slt (BitVec.ofNat 32 b.val) 0#32) (IntOp.addi (BitVec.ofNat 32 b.val) 320#32) (BitVec.ofNat 32 b.val)).toInt = (b : ℤ) := by
    decide +kernel
  intro t r
  pointwise [BiasGradRefIdeal.Read.val_main_v18, BiasGradRefIdeal.Read.val_main_v17, BiasGradRefIdeal.Read.val_main_v16, BiasGradRefIdeal.Read.val_main_v14]
  rw [e]
  exact e' _

/-- An update lands in the row of its head, in the column its frame and place read. -/
theorem lands (V : IVec BiasGradRefIdeal.S64x576x1 32) (h' h : Fin 16) (t : Fin 64) (r : Fin 576) (hV : (V (ix3 t r 0)).toInt = (bucket t r : ℤ)) (i : Fin 320) :
    BiasGradRefIdeal.scatter_S16x320_S64x576x1_S16x64x576_0_1_1_2.resultIdx? (ix3 h' t r) V = some (ix2 h i) ↔ h' = h ∧ bucket t r = i := by
  have w0 : BiasGradRefIdeal.scatter_S16x320_S64x576x1_S16x64x576_0_1_1_2.window (ix3 h' t r) 0 = h'.val := rfl
  have w1 : BiasGradRefIdeal.scatter_S16x320_S64x576x1_S16x64x576_0_1_1_2.window (ix3 h' t r) 1 = 0 := rfl
  have s0 : BiasGradRefIdeal.scatter_S16x320_S64x576x1_S16x64x576_0_1_1_2.start (ix3 h' t r) V 0 = 0 := rfl
  have s1 : BiasGradRefIdeal.scatter_S16x320_S64x576x1_S16x64x576_0_1_1_2.start (ix3 h' t r) V 1 = (bucket t r : ℤ) := by
    rw [← hV]
    refine congrArg (fun j => (V j).toInt) (funext fun a => ?_)
    match a with
    | 0 => rfl
    | 1 => rfl
    | 2 => rfl
  refine (Idealize.ShloMosaic.Routing.resultIdx?_ix2 _ _ _ h i).trans ?_
  rw [w0, w1, s0, s1, Fin.ext_iff, Fin.ext_iff]
  omega

/-- What both programs leave: each head's sum of the gradients that read one entry of the table. -/
def total (d : Fin 16 → Fin 64 → Fin 576 → ℝ) (h : Fin 16) (i : Fin 320) : ℝ := ∑ t, ∑ r, if bucket t r = i then d h t r else 0

theorem ref_at (d : Fin 16 → Fin 64 → Fin 576 → ℝ) (x0 : (⟨BiasGradRefIdeal.S16x64x576, .f32⟩ : BufTy).Contents (Elt Ideal)) (hx : ∀ h t r, x0 (ix3 h t r) = (d h t r : EReal)) (h : Fin 16) (i : Fin 320) :
    BiasGradRefIdeal.Read.val_main_v21 (F := Ideal) x0 (ix2 h i) = (total d h i : EReal) := by
  have z : BiasGradRefIdeal.Read.val_main_v20 (F := Ideal) (ix2 h i) = 0 := by
    pointwise [BiasGradRefIdeal.Read.val_main_v20, BiasGradRefIdeal.Read.val_main_cst_5]
  show BiasGradRefIdeal.Read.val_main_v20 (F := Ideal) (ix2 h i) + ∑ j ∈ Finset.univ.filter (fun j => BiasGradRefIdeal.scatter_S16x320_S64x576x1_S16x64x576_0_1_1_2.resultIdx? j (BiasGradRefIdeal.Read.val_main_v18 (F := Ideal)) = some (ix2 h i)), x0 j = _
  rw [z, zero_add, Finset.sum_filter]
  refine (sum_idx3 _).trans ?_
  have q : ∀ h' t r, _ := fun h' t r => lands (BiasGradRefIdeal.Read.val_main_v18 (F := Ideal)) h' h t r (ref_word t r) i
  simp only [q, hx]
  rw [Finset.sum_eq_single h (fun h' _ q => by simp [q]) (by simp)]
  simp only [true_and, total, ← sum_coe]
  refine Finset.sum_congr rfl fun t _ => Finset.sum_congr rfl fun r _ => ?_
  split <;> rfl

variable (m : (ℓ : Loc nD τ sig) → Buf (Elt Ideal) ℓ) (c : Dev nD) (d : Fin 16 → Fin 64 → Fin 576 → ℝ)
  (x : FVec Ideal S16x64x576 .f32) (hm : m ((c : Thread nD τ).loc main_arg0) = x) (hd : ∀ h t r, x (ix3 h t r) = (d h t r : EReal))
include hm hd

theorem blk_at (t0 : Fin cfg0.N) (t : Fin 64) (h : Fin 16) (r : Fin 576) : iblk m c 0 t0 (ix3 t h r) = (d h t r : EReal) := by
  rw [← hd h t r, ← hm]
  blk_point [iblk, main_v0, idx t0]

theorem outs_at (t0 : Fin cfg0.N) (h : Fin 16) (i : Fin 320) : outsAt0 (F := Ideal) m c t0 (ix2 h i) = (total d h i : EReal) := by
  unfold outsAt0 out0_A_1
  frame_out
  refine (trips_at d _ _ _ _ _ _ _ _ (fun t h r => ?_) _ (fun h i => ?_) h i 64 le_rfl).trans ?_
  · rw [Memref.IsWhole.read_unread]
    exact blk_at m c d x hm hd t0 t h r
  · pointwise [k0_pay1]
  · refine congrArg _ (Finset.sum_congr rfl fun t _ => if_pos t.isLt)
theorem final : (dats m 0 c).arrAt 1 (cfgs 0).N = Cert.BiasGradRefIdeal.Read.val_main_v21 (F := Ideal) x := by
  refine (dats m 0 c).arrAt_eq_of_covers 1 _ (by decide +kernel) fun t _ y => ?_
  blk_simp
  rw [after0_1]
  have e : ∀ a, ((win0_1.blk t).view.emb y a).val = (y a).val := fun a => by
    have q := congrFun (idx t).2 a
    match a with
    | 0 => simp_all
    | 1 => simp_all
  rw [eq_ix2 ((win0_1.blk t).view.emb y)]
  refine Eq.trans ?_ (ref_at d x hd _ _).symm
  refine Eq.trans (congrArg _ (funext fun a => Fin.ext ?_)) (outs_at m c d x hm hd t _ _)
  match a with
  | 0 => exact (e 0).symm
  | 1 => exact (e 1).symm
end Cert.BiasGrad

end
-- ==== Proof.SguRef.lean ====
module

public import proofs.«01_k».proof.Proof.Gen.SguRefIdeal.Run
public import proofs.«01_k».proof.Proof.Gen.SguRefIdeal.Read
public import proofs.«01_k».proof.Proof.Scalars
public import proofs.«01_k».proof.Proof.LN
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Sgu
open Cert.SguRefIdeal.Read Cert.SguRefIdeal Cert.Sc Cert.LN

/-! The error function's unit over the real numbers, and its slope. -/

/-- The error function. -/
def er (x : ℝ) : ℝ := 2 / Real.sqrt Real.pi * ∫ t in (0 : ℝ)..x, Real.exp (-(t ^ 2))
def hs : ℝ := (Real.sqrt 2)⁻¹
def gs : ℝ := (Real.sqrt (2 * Real.pi))⁻¹
def gl (x : ℝ) : ℝ := 1 / 2 * x * (1 + er (x * hs))
def gg (x : ℝ) : ℝ := 1 / 2 * (1 + er (x * hs)) + x * Real.exp (-(1 / 2) * x * x) * gs

theorem hs_sq : hs * hs = 1 / 2 := by
  unfold hs
  rw [← mul_inv, Real.mul_self_sqrt (by norm_num)]
  norm_num
theorem hs_gs : hs * (Real.sqrt Real.pi)⁻¹ = gs := by
  unfold hs gs
  rw [Real.sqrt_mul (by norm_num), mul_inv]
theorem gg_ref (x d : ℝ) : 1 / 2 * x * d * (2 * (Real.sqrt Real.pi)⁻¹ * Real.exp (-(x * hs * (x * hs)))) * hs + 1 / 2 * (d * (1 + er (x * hs))) = d * gg x := by
  unfold gg
  rw [show -(x * hs * (x * hs)) = -(1 / 2) * x * x by linear_combination (-x * x) * hs_sq]
  linear_combination (x * d * Real.exp (-(1 / 2) * x * x)) * hs_gs
theorem two_root : Ideal.sqrt (Ideal.ofBits .f32 0x40000000#32) = ((Real.sqrt 2 : ℝ) : EReal) := by
  rw [two_f32, Ideal.sqrt_coe]
  norm_num
theorem pi_root : Ideal.sqrt (Ideal.acos (Ideal.ofBits .f32 0xBF800000#32)) = ((Real.sqrt Real.pi : ℝ) : EReal) := by
  rw [neg_one_f32, Ideal.acos_coe, if_pos (by norm_num), Real.arccos_neg_one, Ideal.sqrt_coe, if_neg (not_lt.mpr Real.pi_pos.le)]
theorem root_ne : Real.sqrt 2 ≠ 0 := by positivity
theorem root_pi_ne : Real.sqrt Real.pi ≠ 0 := (Real.sqrt_pos.mpr Real.pi_pos).ne'

section
variable (H : S1x2048x4096.Idx → ℝ) (BI : S4096.Idx → ℝ) (LG LB : S2048.Idx → ℝ) (WS : S8x128x128.Idx → ℝ) (BS : S8x128.Idx → ℝ) (CT : S1x2048x2048.Idx → ℝ)

def lo (l : Fin 2048) : Fin 4096 := ⟨l.val, by omega⟩
def hi (l : Fin 2048) : Fin 4096 := ⟨2048 + l.val, by omega⟩
def pr (r : Fin 2048) (l : Fin 4096) : ℝ := H (ix3 0 r l) + BI (ix1 l)
def u (r l : Fin 2048) : ℝ := gl (pr H BI r (lo l))
def v (r l : Fin 2048) : ℝ := gl (pr H BI r (hi l))
def vn (r l : Fin 2048) : ℝ := xh (v H BI r) l * LG (ix1 l) + LB (ix1 l)

theorem v10_at (r : Fin 2048) (l : Fin 4096) : val_main_v10 (F := Ideal) (fun i => ((H i : ℝ) : EReal)) (fun i => ((BI i : ℝ) : EReal)) (ix3 0 r l) = ((pr H BI r l * hs : ℝ) : EReal) := by
  pointwise [val_main_v3,val_main_v4,val_main_v5,val_main_v8,val_main_v9,val_main_v10,val_main_cst_0]
  rw [two_root, ← EReal.coe_add, Ideal.div_coe root_ne, ← EReal.coe_mul, one_div]
  rfl
theorem v7_at (r : Fin 2048) (l : Fin 4096) : val_main_v7 (F := Ideal) (fun i => ((H i : ℝ) : EReal)) (fun i => ((BI i : ℝ) : EReal)) (ix3 0 r l) = ((1 / 2 * pr H BI r l : ℝ) : EReal) := by
  pointwise [val_main_v3,val_main_v4,val_main_v5,val_main_v6,val_main_v7,val_main_cst]
  rw [half, ← EReal.coe_add, ← EReal.coe_mul]
  rfl
theorem v21_at (r : Fin 2048) (l : Fin 4096) : val_main_v21 (F := Ideal) (fun i => ((H i : ℝ) : EReal)) (fun i => ((BI i : ℝ) : EReal)) (ix3 0 r l) = ((1 + er (pr H BI r l * hs) : ℝ) : EReal) := by
  pointwise [val_main_v21,val_main_v20,val_main_cst_3,val_main_v13]
  rw [v10_at, Ideal.erf_coe]
  simp only [one_eq, ← EReal.coe_add]
  rfl
theorem v19_at (r : Fin 2048) (l : Fin 4096) : val_main_v19 (F := Ideal) (fun i => ((H i : ℝ) : EReal)) (fun i => ((BI i : ℝ) : EReal)) (ix3 0 r l)
    = ((2 * (Real.sqrt Real.pi)⁻¹ * Real.exp (-(pr H BI r l * hs * (pr H BI r l * hs))) : ℝ) : EReal) := by
  pointwise [val_main_v19,val_main_v18,val_main_v17,val_main_v16,val_main_v15,val_main_v14,val_main_v12,val_main_v11,val_main_cst_1,val_main_cst_2]
  rw [v10_at, pi_root, two_f32, Ideal.div_coe root_pi_ne, ← EReal.coe_mul, ← EReal.coe_mul, ← EReal.coe_neg, Ideal.exp_coe, ← EReal.coe_mul, one_div]
theorem v23_at (r : Fin 2048) (l : Fin 2048) : val_main_v23 (F := Ideal) (fun i => ((H i : ℝ) : EReal)) (fun i => ((BI i : ℝ) : EReal)) (ix3 0 r l) = ((u H BI r l : ℝ) : EReal) := by
  pointwise [val_main_v23, val_main_v22]
  rw [v7_at, v21_at, ← EReal.coe_mul]
  rfl
theorem v24_at (r : Fin 2048) (l : Fin 2048) : val_main_v24 (F := Ideal) (fun i => ((H i : ℝ) : EReal)) (fun i => ((BI i : ℝ) : EReal)) (ix3 0 r l) = ((v H BI r l : ℝ) : EReal) := by
  pointwise [val_main_v24, val_main_v22]
  rw [v7_at, v21_at, ← EReal.coe_mul]
  rfl
theorem v39_at (r l : Fin 2048) : val_main_v39 (F := Ideal) (fun i => ((H i : ℝ) : EReal)) (fun i => ((BI i : ℝ) : EReal)) (ix3 0 r l) = ((v H BI r l - mean (v H BI r) : ℝ) : EReal) := by
  pointwise [val_main_v39,val_main_v38,val_main_v28,val_main_v27,val_main_cst_5,val_main_v26,val_main_v25,val_main_cst_4]
  rw [mean_read _ (v H BI r) (fun k => v24_at H BI r k), v24_at, ← EReal.coe_sub]
theorem v30_at (r l : Fin 2048) : val_main_v30 (F := Ideal) (fun i => ((H i : ℝ) : EReal)) (fun i => ((BI i : ℝ) : EReal)) (ix3 0 r l) = ((v H BI r l - mean (v H BI r) : ℝ) : EReal) := by
  pointwise [val_main_v30,val_main_v29,val_main_v28,val_main_v27,val_main_cst_5,val_main_v26,val_main_v25,val_main_cst_4]
  rw [mean_read _ (v H BI r) (fun k => v24_at H BI r k), v24_at, ← EReal.coe_sub]
theorem v41_at (r : Fin 2048) : val_main_v41 (F := Ideal) (fun i => ((H i : ℝ) : EReal)) (fun i => ((BI i : ℝ) : EReal)) (ix3 0 r 0) = ((var (v H BI r) + eps : ℝ) : EReal) := by
  pointwise [val_main_v41,val_main_v40,val_main_cst_9,val_main_v37,val_main_v36,val_main_cst_8,val_main_v35,val_main_v34,val_main_cst_7,val_main_v31]
  simp only [v30_at, ← EReal.coe_mul, sum_coe, long_f32, eps_f32]
  rw [Ideal.div_coe (by norm_num), ← EReal.coe_mul, ← EReal.coe_add]
  rfl
theorem v42_at (r : Fin 2048) : val_main_v42 (F := Ideal) (fun i => ((H i : ℝ) : EReal)) (fun i => ((BI i : ℝ) : EReal)) (ix3 0 r 0) = ((rs (v H BI r) : ℝ) : EReal) := by
  pointwise [val_main_v42]
  rw [v41_at, rsqrt_pos (var_pos _)]
  rfl
theorem v47_at (r l : Fin 2048) : val_main_v47 (F := Ideal) (fun i => ((H i : ℝ) : EReal)) (fun i => ((BI i : ℝ) : EReal)) (ix3 0 r l) = ((xh (v H BI r) l : ℝ) : EReal) := by
  pointwise [val_main_v47,val_main_v46]
  rw [v39_at, v42_at, ← EReal.coe_mul]
  rfl
theorem v53_at (r l : Fin 2048) : val_main_v53 (F := Ideal) (fun i => ((H i : ℝ) : EReal)) (fun i => ((BI i : ℝ) : EReal)) (fun i => ((LG i : ℝ) : EReal)) (fun i => ((LB i : ℝ) : EReal)) (ix3 0 r l) = ((vn H BI LG LB r l : ℝ) : EReal) := by
  pointwise [val_main_v53,val_main_v52,val_main_v51,val_main_v50,val_main_v49,val_main_v48]
  rw [v47_at, ← EReal.coe_mul, ← EReal.coe_add]
  rfl

/-! The product over a window's places, masked. -/

def msk (t s : Fin 128) : ℝ := if s.val / 64 ≤ t.val / 64 then 1 else 0
def wsm (g : Fin 8) (t s : Fin 128) : ℝ := WS (ix3 g t s) * msk t s
/-- A row: place `t` of window `n`. -/
def row (n : Fin 16) (t : Fin 128) : Fin 2048 := ⟨n.val * 128 + t.val, by omega⟩
def win (r : Fin 2048) : Fin 16 := ⟨r.val / 128, by omega⟩
def pl (r : Fin 2048) : Fin 128 := ⟨r.val % 128, by omega⟩
/-- A lane: channel `c` of group `g`. -/
def lane (g : Fin 8) (c : Fin 256) : Fin 2048 := ⟨g.val * 256 + c.val, by omega⟩
def gr (l : Fin 2048) : Fin 8 := ⟨l.val / 256, by omega⟩
def ch (l : Fin 2048) : Fin 256 := ⟨l.val % 256, by omega⟩
theorem win_row (n : Fin 16) (t : Fin 128) : win (row n t) = n := Fin.ext (by show (n.val * 128 + t.val) / 128 = n.val; omega)
theorem pl_row (n : Fin 16) (t : Fin 128) : pl (row n t) = t := Fin.ext (by show (n.val * 128 + t.val) % 128 = t.val; omega)
theorem row_win (r : Fin 2048) : row (win r) (pl r) = r := Fin.ext (by show r.val / 128 * 128 + r.val % 128 = r.val; omega)
theorem gr_lane (g : Fin 8) (c : Fin 256) : gr (lane g c) = g := Fin.ext (by show (g.val * 256 + c.val) / 256 = g.val; omega)
theorem ch_lane (g : Fin 8) (c : Fin 256) : ch (lane g c) = c := Fin.ext (by show (g.val * 256 + c.val) % 256 = c.val; omega)
theorem lane_gr (l : Fin 2048) : lane (gr l) (ch l) = l := Fin.ext (by show l.val / 256 * 256 + l.val % 256 = l.val; omega)
def sp (r l : Fin 2048) : ℝ := (∑ s, vn H BI LG LB (row (win r) s) l * wsm WS (gr l) (pl r) s) + BS (ix2 (gr l) (pl r))
def du (r l : Fin 2048) : ℝ := CT (ix3 0 r l) * sp H BI LG LB WS BS r l
def ds (r l : Fin 2048) : ℝ := u H BI r l * CT (ix3 0 r l)
def dvn (r l : Fin 2048) : ℝ := ∑ t, ds H BI CT (row (win r) t) l * wsm WS (gr l) t (pl r)

theorem v54_at (n : Fin 16) (t : Fin 128) (g : Fin 8) (c : Fin 256) : val_main_v54 (F := Ideal) (fun i => ((H i : ℝ) : EReal)) (fun i => ((BI i : ℝ) : EReal)) (fun i => ((LG i : ℝ) : EReal)) (fun i => ((LB i : ℝ) : EReal)) (ix5 0 n t g c) = ((vn H BI LG LB (row n t) (lane g c) : ℝ) : EReal) := by
  pointwise [val_main_v54]
  exact v53_at H BI LG LB (row n t) (lane g c)
/-- The chunk of a place, as the printed chain of a floor division computes it. -/
def chunk (s : Fin 128) : BitVec 32 :=
  Scalar.select
    (IntOp.andi
      (IntOp.cmpi .ne (if BitVec.ofNat 32 s.val = 0 then 0 else if (BitVec.ofNat 32 s.val).msb = true then -1 else 1 : BitVec 32)
        (if id (constantI S_ 32 64#32) ix0 = 0 then 0 else if BitVec.msb (id (constantI S_ 32 64#32) ix0) = true then -1 else 1))
      (IntOp.cmpi .ne (IntOp.remsi .host (BitVec.ofNat 32 s.val) (id (constantI S_ 32 64#32) ix0)) 0#32))
    (IntOp.subi (IntOp.divsi .host (BitVec.ofNat 32 s.val) (id (constantI S_ 32 64#32) ix0)) 1#32)
    (IntOp.divsi .host (BitVec.ofNat 32 s.val) (id (constantI S_ 32 64#32) ix0))
theorem chunk_eq : ∀ s : Fin 128, chunk s = BitVec.ofNat 32 (s.val / 64) := by decide +kernel
theorem le_words (a b : Fin 2) : IntOp.cmpi .sle (BitVec.ofNat 32 a.val) (BitVec.ofNat 32 b.val) = if a.val ≤ b.val then 1#1 else 0#1 := by
  revert a b; decide +kernel
theorem mask_real (t s : Fin 128) : FloatOps.uitofp (F := Ideal) .f32 (IntOp.cmpi .sle (BitVec.ofNat 32 (s.val / 64)) (BitVec.ofNat 32 (t.val / 64))) = ((msk t s : ℝ) : EReal) := by
  rw [le_words ⟨s.val / 64, by omega⟩ ⟨t.val / 64, by omega⟩]
  unfold msk
  split <;> simp [FloatOps.uitofp]
theorem v63_at (t s : Fin 128) : val_main_v63 (F := Ideal) (ix2 t s) = ((msk t s : ℝ) : EReal) := by
  refine Eq.trans ?_ (mask_real t s)
  rw [← chunk_eq, ← chunk_eq]
  pointwise [val_main_v63,val_main_v62,val_main_v61,val_main_v60,val_main_v59,val_main_v58,val_main_v57]
  pointwise [val_main_call0_v11,val_main_call0_v13,val_main_call0_v2,val_main_call0_v10,val_main_call0_v6,val_main_call0_v3,val_main_call0_v5,val_main_call0_v4,val_main_call0_v8,val_main_call0_v9,val_main_call0_v7,val_main_call0_v1,val_main_call0_v0,val_main_call0_v12,val_main_call0_c,val_main_call0_c_0,val_main_v56,val_main_v55,val_main_c,val_main_v58,val_main_c_11,val_main_call1_v11,val_main_call1_v13,val_main_call1_v2,val_main_call1_v10,val_main_call1_v6,val_main_call1_v3,val_main_call1_v5,val_main_call1_v4,val_main_call1_v8,val_main_call1_v9,val_main_call1_v7,val_main_call1_v1,val_main_call1_v0,val_main_call1_v12,val_main_call1_c,val_main_call1_c_0]
  rfl
theorem v66_at (g : Fin 8) (t s : Fin 128) : val_main_v66 (F := Ideal) (fun i => ((WS i : ℝ) : EReal)) (ix3 g t s) = ((wsm WS g t s : ℝ) : EReal) := by
  pointwise [val_main_v66,val_main_v65,val_main_v64]
  rw [v63_at, ← EReal.coe_mul]
  rfl
theorem v72_at (n : Fin 16) (t : Fin 128) (g : Fin 8) (c : Fin 256) : val_main_v72 (F := Ideal) (fun i => ((H i : ℝ) : EReal)) (fun i => ((BI i : ℝ) : EReal)) (fun i => ((LG i : ℝ) : EReal)) (fun i => ((LB i : ℝ) : EReal)) (fun i => ((WS i : ℝ) : EReal)) (fun i => ((BS i : ℝ) : EReal)) (ix5 0 n t g c) = ((sp H BI LG LB WS BS (row n t) (lane g c) : ℝ) : EReal) := by
  pointwise [val_main_v72,val_main_v71,val_main_v70,val_main_v69,val_main_v68,val_main_v67,val_main_v2,val_main_v1,val_main_v0]
  simp only [v54_at, v66_at, ← EReal.coe_mul, sum_coe, ← EReal.coe_add]
  unfold sp
  rw [win_row, pl_row, gr_lane]
theorem v76_at (r l : Fin 2048) : val_main_v76 (F := Ideal) (fun i => ((H i : ℝ) : EReal)) (fun i => ((BI i : ℝ) : EReal)) (fun i => ((LG i : ℝ) : EReal)) (fun i => ((LB i : ℝ) : EReal)) (fun i => ((WS i : ℝ) : EReal)) (fun i => ((BS i : ℝ) : EReal)) (fun i => ((CT i : ℝ) : EReal)) (ix3 0 r l) = ((du H BI LG LB WS BS CT r l : ℝ) : EReal) := by
  pointwise [val_main_v76,val_main_v73]
  refine (congrArg _ (v72_at H BI LG LB WS BS (win r) (pl r) (gr l) (ch l))).trans ?_
  rw [row_win, lane_gr, ← EReal.coe_mul]
  rfl
theorem v75_at (r l : Fin 2048) : val_main_v75 (F := Ideal) (fun i => ((H i : ℝ) : EReal)) (fun i => ((BI i : ℝ) : EReal)) (fun i => ((CT i : ℝ) : EReal)) (ix3 0 r l) = ((ds H BI CT r l : ℝ) : EReal) := by
  pointwise [val_main_v75]
  rw [v23_at, ← EReal.coe_mul]
  rfl
theorem v88_at (r l : Fin 2048) : val_main_v88 (F := Ideal) (fun i => ((H i : ℝ) : EReal)) (fun i => ((BI i : ℝ) : EReal)) (fun i => ((WS i : ℝ) : EReal)) (fun i => ((CT i : ℝ) : EReal)) (ix3 0 r l) = ((dvn H BI WS CT r l : ℝ) : EReal) := by
  pointwise [val_main_v88,val_main_v85,val_main_v84,val_main_v82,val_main_v77]
  refine (Finset.sum_congr rfl fun t _ => congrArg₂ (· * ·) (v75_at H BI CT (row (win r) t) l) (v66_at WS (gr l) t (pl r))).trans ?_
  simp only [← EReal.coe_mul, sum_coe]
  rfl

def dvh (r l : Fin 2048) : ℝ := dvn H BI WS CT r l * LG (ix1 l)
theorem v96_at (r l : Fin 2048) : val_main_v96 (F := Ideal) (fun i => ((H i : ℝ) : EReal)) (fun i => ((BI i : ℝ) : EReal)) (fun i => ((LG i : ℝ) : EReal)) (fun i => ((WS i : ℝ) : EReal)) (fun i => ((CT i : ℝ) : EReal)) (ix3 0 r l) = ((dvh H BI LG WS CT r l : ℝ) : EReal) := by
  pointwise [val_main_v96,val_main_v95,val_main_v48]
  rw [v88_at, ← EReal.coe_mul]
  rfl
theorem v109_at (r : Fin 2048) : val_main_v109 (F := Ideal) (fun i => ((H i : ℝ) : EReal)) (fun i => ((BI i : ℝ) : EReal)) (fun i => ((LG i : ℝ) : EReal)) (fun i => ((WS i : ℝ) : EReal)) (fun i => ((CT i : ℝ) : EReal)) (ix1 r) = ((through (v H BI r) (dvh H BI LG WS CT r) : ℝ) : EReal) := by
  pointwise [val_main_v109,val_main_cst_21]
  rw [reduce_02]
  pointwise [val_main_v108,val_main_v107,val_main_cst_20,val_main_v103,val_main_v100,val_main_v99,val_main_cst_18,val_main_v98,val_main_v45,val_main_v44,val_main_cst_10,val_main_v43]
  simp only [v39_at, v41_at, v42_at, v96_at, neg_half_f32, long_f32]
  rw [Ideal.div_coe (var_pos _).ne', Ideal.div_coe (by norm_num)]
  simp only [← EReal.coe_mul, sum_coe]
  rfl
theorem v123_at (r l : Fin 2048) : val_main_v123 (F := Ideal) (fun i => ((H i : ℝ) : EReal)) (fun i => ((BI i : ℝ) : EReal)) (fun i => ((LG i : ℝ) : EReal)) (fun i => ((WS i : ℝ) : EReal)) (fun i => ((CT i : ℝ) : EReal)) (ix3 0 r l) = ((dz (v H BI r) (dvh H BI LG WS CT r) l : ℝ) : EReal) := by
  rw [← chain_eq]
  pointwise [val_main_v123,val_main_v122,val_main_v121,val_main_v120,val_main_cst_24]
  rw [reduce_02]
  pointwise [val_main_cst_6,val_main_v32,val_main_v33,val_main_v101,val_main_v102,val_main_v104,val_main_cst_19,val_main_v105,val_main_v106,val_main_v110,val_main_v111,val_main_v112,val_main_v113,val_main_cst_22,val_main_v114,val_main_v115,val_main_v116,val_main_v117,val_main_cst_23,val_main_v118,val_main_v119]
  simp only [v30_at, v42_at, v96_at, v109_at, two_f32, long_f32]
  rw [Ideal.div_coe (by norm_num)]
  simp only [← EReal.coe_mul, ← EReal.coe_neg, sum_coe, ← EReal.coe_add]
  rfl

/-! The five gradients. -/

def dpu (r l : Fin 2048) : ℝ := du H BI LG LB WS BS CT r l * gg (pr H BI r (lo l))
def dpv (r l : Fin 2048) : ℝ := dz (v H BI r) (dvh H BI LG WS CT r) l * gg (pr H BI r (hi l))
def dpre (r : Fin 2048) (l : Fin 4096) : ℝ := if h : l.val < 2048 then dpu H BI LG LB WS BS CT r ⟨l.val, h⟩ else dpv H BI LG WS CT r ⟨l.val - 2048, by omega⟩
def dct (r : Fin 2048) (l : Fin 4096) : ℝ := if h : l.val < 2048 then du H BI LG LB WS BS CT r ⟨l.val, h⟩ else dz (v H BI r) (dvh H BI LG WS CT r) ⟨l.val - 2048, by omega⟩
theorem v124_at (r : Fin 2048) (l : Fin 4096) : val_main_v124 (F := Ideal) (fun i => ((H i : ℝ) : EReal)) (fun i => ((BI i : ℝ) : EReal)) (fun i => ((LG i : ℝ) : EReal)) (fun i => ((LB i : ℝ) : EReal)) (fun i => ((WS i : ℝ) : EReal)) (fun i => ((BS i : ℝ) : EReal)) (fun i => ((CT i : ℝ) : EReal)) (ix3 0 r l) = ((dct H BI LG LB WS BS CT r l : ℝ) : EReal) := by
  pointwise [val_main_v124]
  unfold dct
  split
  · exact v76_at H BI LG LB WS BS CT r _
  · exact v123_at H BI LG WS CT r _
theorem v132_at (r : Fin 2048) (l : Fin 4096) : val_main_v132 (F := Ideal) (fun i => ((H i : ℝ) : EReal)) (fun i => ((BI i : ℝ) : EReal)) (fun i => ((LG i : ℝ) : EReal)) (fun i => ((LB i : ℝ) : EReal)) (fun i => ((WS i : ℝ) : EReal)) (fun i => ((BS i : ℝ) : EReal)) (fun i => ((CT i : ℝ) : EReal)) (ix3 0 r l) = ((dpre H BI LG LB WS BS CT r l : ℝ) : EReal) := by
  pointwise [val_main_v132,val_main_v131,val_main_v130,val_main_cst_25,val_main_v129,val_main_v128,val_main_v8,val_main_cst_0,val_main_v127,val_main_v126,val_main_v125]
  rw [v124_at, v7_at, v19_at, v21_at, two_root, half, Ideal.div_coe root_ne]
  simp only [← EReal.coe_mul, ← EReal.coe_add, one_div (Real.sqrt 2)]
  rw [EReal.coe_eq_coe_iff]
  refine (gg_ref _ _).trans ?_
  unfold dct dpre
  split <;> rename_i h
  · rfl
  · unfold dpv hi
    rw [show (⟨2048 + (l.val - 2048), by omega⟩ : Fin 4096) = l from Fin.ext (by show 2048 + (l.val - 2048) = l.val; omega)]
theorem ref_dpre : val_main_v144 (F := Ideal) (fun i => ((H i : ℝ) : EReal)) (fun i => ((BI i : ℝ) : EReal)) (fun i => ((LG i : ℝ) : EReal)) (fun i => ((LB i : ℝ) : EReal)) (fun i => ((WS i : ℝ) : EReal)) (fun i => ((BS i : ℝ) : EReal)) (fun i => ((CT i : ℝ) : EReal)) = fun j : S2048x4096.Idx => ((dpre H BI LG LB WS BS CT (j 0) (j 1) : ℝ) : EReal) := by
  funext j
  obtain ⟨r, l, rfl⟩ : ∃ (r : Fin 2048) (l : Fin 4096), j = ix2 r l := ⟨j 0, j 1, eq_ix2 j⟩
  pointwise [val_main_v144,val_main_v143]
  exact v132_at H BI LG LB WS BS CT r l
/-- The three places that the product over windows and channels runs over. -/
def over : Fin 16 × Fin 256 ≃ dot_S8x1x16x256x128_S1x16x128x8x256_S8x128x128_123_014_4_2_0_3.contr.Idx where
  toFun p := fun a => match a with
    | ⟨0, _⟩ => ⟨0, Nat.one_pos⟩
    | ⟨1, _⟩ => ⟨p.1.val, p.1.isLt⟩
    | ⟨2, _⟩ => ⟨p.2.val, p.2.isLt⟩
  invFun k := (⟨(k ⟨1, by decide⟩).val, (k ⟨1, by decide⟩).isLt⟩, ⟨(k ⟨2, by decide⟩).val, (k ⟨2, by decide⟩).isLt⟩)
  left_inv _ := rfl
  right_inv k := by
    funext a; apply Fin.ext
    match a with
    | ⟨0, _⟩ => exact (Nat.lt_one_iff.mp (k ⟨0, by decide⟩).isLt).symm
    | ⟨1, _⟩ => rfl
    | ⟨2, _⟩ => rfl
theorem dot_over (x : S8x1x16x256x128.Idx → EReal) (y : S1x16x128x8x256.Idx → EReal) (g : Fin 8) (t s : Fin 128) :
    Ideal.matmul dot_S8x1x16x256x128_S1x16x128x8x256_S8x128x128_123_014_4_2_0_3 x y (fun _ => 0) (ix3 g t s) = ∑ n : Fin 16, ∑ c : Fin 256, x (ix5 g 0 n c t) * y (ix5 0 n s g c) := by
  show 0 + ∑ k : dot_S8x1x16x256x128_S1x16x128x8x256_S8x128x128_123_014_4_2_0_3.contr.Idx, _ = _
  rw [zero_add, ← Fintype.sum_prod_type']
  refine (Fintype.sum_equiv over _ _ fun p => ?_).symm
  have el : dot_S8x1x16x256x128_S1x16x128x8x256_S8x128x128_123_014_4_2_0_3.lhsIdx (ix3 g t s) (over p) = ix5 g 0 p.1 p.2 t := by
    funext a; apply Fin.ext
    unfold DotDims.lhsIdx
    match a with
    | ⟨0, _⟩ => rw [dif_pos (by decide +revert)]; rfl
    | ⟨1, _⟩ => rw [dif_neg (by decide +revert), dif_neg (by decide +revert)]; rfl
    | ⟨2, _⟩ => rw [dif_neg (by decide +revert), dif_neg (by decide +revert)]; rfl
    | ⟨3, _⟩ => rw [dif_neg (by decide +revert), dif_neg (by decide +revert)]; rfl
    | ⟨4, _⟩ => rw [dif_neg (by decide +revert), dif_pos (by decide +revert)]; rfl
  have er : dot_S8x1x16x256x128_S1x16x128x8x256_S8x128x128_123_014_4_2_0_3.rhsIdx (ix3 g t s) (over p) = ix5 0 p.1 s g p.2 := by
    funext a; apply Fin.ext
    unfold DotDims.rhsIdx
    match a with
    | ⟨0, _⟩ => rw [dif_neg (by decide +revert), dif_neg (by decide +revert)]; rfl
    | ⟨1, _⟩ => rw [dif_neg (by decide +revert), dif_neg (by decide +revert)]; rfl
    | ⟨2, _⟩ => rw [dif_neg (by decide +revert), dif_pos (by decide +revert)]; rfl
    | ⟨3, _⟩ => rw [dif_pos (by decide +revert)]; rfl
    | ⟨4, _⟩ => rw [dif_neg (by decide +revert), dif_neg (by decide +revert)]; rfl
  rw [el, er]
/-- The gradient of a group's weights: over all windows and channels, where the mask lets through. -/
def dws (g : Fin 8) (t s : Fin 128) : ℝ := (∑ n, ∑ c, ds H BI CT (row n t) (lane g c) * vn H BI LG LB (row n s) (lane g c)) * msk t s
theorem ref_dws : val_main_v87 (F := Ideal) (fun i => ((H i : ℝ) : EReal)) (fun i => ((BI i : ℝ) : EReal)) (fun i => ((LG i : ℝ) : EReal)) (fun i => ((LB i : ℝ) : EReal)) (fun i => ((CT i : ℝ) : EReal)) = fun j : S8x128x128.Idx => ((dws H BI LG LB CT (j 0) (j 1) (j 2) : ℝ) : EReal) := by
  funext j
  obtain ⟨g, t, s, rfl⟩ : ∃ (g : Fin 8) (t s : Fin 128), j = ix3 g t s := ⟨j 0, j 1, j 2, eq_ix3 j⟩
  pointwise [val_main_v87,val_main_v86,val_main_v83,val_main_v64]
  rw [dot_over, v63_at]
  pointwise [val_main_v82,val_main_v77]
  refine (congrArg (· * ((msk t s : ℝ) : EReal)) (Finset.sum_congr rfl fun n _ => Finset.sum_congr rfl fun c _ => congrArg₂ (· * ·) (v75_at H BI CT (row n t) (lane g c)) (v54_at H BI LG LB n s g c))).trans ?_
  simp only [← EReal.coe_mul, sum_coe]
  rfl
theorem reduce_lead {a b c : ℕ} (h : (⟨5, ![1, 1, a, b, c]⟩ : Shape).ReducesTo [0, 1] (⟨3, ![a, b, c]⟩ : Shape)) (v : (⟨5, ![1, 1, a, b, c]⟩ : Shape).Idx → EReal) (init : EReal)
    (x : Fin a) (y : Fin b) (z : Fin c) : Ideal.hostReduceAdd h v init (ix3 x y z) = init + v (ix5 0 0 x y z) := by
  have key : ∀ i : (⟨5, ![1, 1, a, b, c]⟩ : Shape).Idx, h.drop i = ix3 x y z ↔ ∃ k : Fin 1, ix5 k 0 x y z = i := by
    intro i
    constructor
    · intro e
      refine ⟨0, ?_⟩
      funext d; apply Fin.ext
      match d with
      | ⟨0, _⟩ => exact (Nat.lt_one_iff.mp (i 0).isLt).symm
      | ⟨1, _⟩ => exact (Nat.lt_one_iff.mp (i 1).isLt).symm
      | ⟨2, _⟩ => exact (congrArg Fin.val (congrFun e 0)).symm
      | ⟨3, _⟩ => exact (congrArg Fin.val (congrFun e 1)).symm
      | ⟨4, _⟩ => exact (congrArg Fin.val (congrFun e 2)).symm
    · rintro ⟨k, rfl⟩
      funext d; apply Fin.ext
      match d with
      | ⟨0, _⟩ => rfl
      | ⟨1, _⟩ => rfl
      | ⟨2, _⟩ => rfl
  refine congrArg (init + ·) ((Finset.sum_filter_eq_sum_of_fiber _ (fun k : Fin 1 => ix5 k 0 x y z) (fun _ _ _ => Subsingleton.elim _ _) key v).trans ?_)
  simp
def dss (t : Fin 128) (l : Fin 2048) : ℝ := ∑ n, ds H BI CT (row n t) l
theorem ref_dss : val_main_v81 (F := Ideal) (fun i => ((H i : ℝ) : EReal)) (fun i => ((BI i : ℝ) : EReal)) (fun i => ((CT i : ℝ) : EReal)) = fun j : S128x2048.Idx => ((dss H BI CT (j 0) (j 1) : ℝ) : EReal) := by
  funext j
  obtain ⟨t, l, rfl⟩ : ∃ (t : Fin 128) (l : Fin 2048), j = ix2 t l := ⟨j 0, j 1, eq_ix2 j⟩
  pointwise [val_main_v81,val_main_v80,val_main_v79]
  rw [reduce_lead]
  pointwise [val_main_v78,val_main_v77,val_main_cst_12,val_main_cst_13]
  refine (Finset.sum_congr rfl fun n _ => v75_at H BI CT (row n t) l).trans ?_
  rw [sum_coe]
  rfl
def rows (i : Fin 8) (l : Fin 2048) : EReal :=
  if i.val = 1 then ((∑ r, dvn H BI WS CT r l : ℝ) : EReal)
  else if i.val = 0 then ((∑ r, dvn H BI WS CT r l * xh (v H BI r) l : ℝ) : EReal)
  else 0
theorem ref_rows : val_main_v139 (F := Ideal) (fun i => ((H i : ℝ) : EReal)) (fun i => ((BI i : ℝ) : EReal)) (fun i => ((WS i : ℝ) : EReal)) (fun i => ((CT i : ℝ) : EReal)) = fun j : S8x2048.Idx => rows H BI WS CT (j 0) (j 1) := by
  funext j
  obtain ⟨i, l, rfl⟩ : ∃ (i : Fin 8) (l : Fin 2048), j = ix2 i l := ⟨j 0, j 1, eq_ix2 j⟩
  show _ = rows H BI WS CT i l
  pointwise [val_main_v139,val_main_v138,val_main_cst_28,val_main_v137,val_main_v136,val_main_v97,val_main_v91,val_main_cst_17,val_main_cst_15]
  simp only [reduce_01]
  pointwise [val_main_v94,val_main_v93,val_main_v92,val_main_v90,val_main_v89,val_main_cst_16,val_main_cst_14]
  unfold rows
  obtain ⟨i, hi⟩ := i
  rcases i with _ | _ | i
  · simp only [v47_at, v88_at, ← EReal.coe_mul, sum_coe]
    simp [mul_comm]
  · simp only [v88_at, sum_coe]
    simp
  · simp
def rowsIn (i : Fin 8) (l : Fin 4096) : EReal := if i.val = 0 then ((∑ r, dpre H BI LG LB WS BS CT r l : ℝ) : EReal) else 0
theorem ref_rowsIn : val_main_v142 (F := Ideal) (fun i => ((H i : ℝ) : EReal)) (fun i => ((BI i : ℝ) : EReal)) (fun i => ((LG i : ℝ) : EReal)) (fun i => ((LB i : ℝ) : EReal)) (fun i => ((WS i : ℝ) : EReal)) (fun i => ((BS i : ℝ) : EReal)) (fun i => ((CT i : ℝ) : EReal)) = fun j : S8x4096.Idx => rowsIn H BI LG LB WS BS CT (j 0) (j 1) := by
  funext j
  obtain ⟨i, l, rfl⟩ : ∃ (i : Fin 8) (l : Fin 4096), j = ix2 i l := ⟨j 0, j 1, eq_ix2 j⟩
  show _ = rowsIn H BI LG LB WS BS CT i l
  pointwise [val_main_v142,val_main_v141,val_main_cst_29,val_main_v140,val_main_v135,val_main_cst_27]
  simp only [reduce_01]
  pointwise [val_main_v134,val_main_v133,val_main_cst_26]
  unfold rowsIn
  obtain ⟨i, hi⟩ := i
  rcases i with _ | i
  · simp only [v132_at, sum_coe]
    simp
  · simp
end
end Cert.Sgu

end
-- ==== Proof.SguBlk.lean ====
module

public import proofs.«01_k».proof.Proof.Gen.SguIdeal.Value
public import proofs.«01_k».proof.Proof.SguRef
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Sgu
open Cert.SguIdeal Cert.SguIdeal.Gen Cert.Sc Cert.LN

/-! What one point of the kernel computes, over the real numbers: point `t` has the rows `256 t … 256 t + 255`. -/

theorem root_half_eq : Named.named (F := Ideal) κ "root_half" (φ := .f32) 0x3F3504F3#32 = ((hs : ℝ) : EReal) :=
  IdealRules.named_const.ideal_named_scalar _ _ _ _ rfl
theorem gauss_eq : Named.named (F := Ideal) κ "gauss" (φ := .f32) 0x3ECC422A#32 = ((gs : ℝ) : EReal) :=
  IdealRules.named_const.ideal_named_scalar _ _ _ _ rfl

section
variable (H : S1x2048x4096.Idx → ℝ) (BI : S4096.Idx → ℝ) (LG LB : S2048.Idx → ℝ) (WS : S8x128x128.Idx → ℝ) (BS : S8x128.Idx → ℝ) (CT : S1x2048x2048.Idx → ℝ) (t : Fin 8)

def tr (i : Fin 256) : Fin 2048 := ⟨t.val * 256 + i.val, by omega⟩
def PB : S256x4096.Idx → EReal := fun i => ((pr H BI (tr t (i 0)) (i 1) : ℝ) : EReal)
def QB : S256x2048.Idx → EReal := fun i => ((CT (ix3 0 (tr t (i 0)) (i 1)) : ℝ) : EReal)
def GB (L : S2048.Idx → ℝ) : S1x2048.Idx → EReal := fun i => ((L (ix1 (i 1)) : ℝ) : EReal)
def WB : S8x128x128.Idx → EReal := fun i => ((WS i : ℝ) : EReal)
def BB : S128x8.Idx → EReal := fun i => ((BS (ix2 (i 1) (i 0)) : ℝ) : EReal)

abbrev PU : Vec Ideal S256x2048 .f32 := View.ld (Val := Elt Ideal) (e' := .f32) (PB H BI t) (Rect.unit (s := S256x4096) ![0, 0] ![256, 2048] inb_S256x4096_S256x2048_0_0)
abbrev PV : Vec Ideal S256x2048 .f32 := View.ld (Val := Elt Ideal) (e' := .f32) (PB H BI t) (Rect.unit (s := S256x4096) ![0, 2048] ![256, 2048] inb_S256x4096_S256x2048_0_2048)
theorem PU_at (i : Fin 256) (l : Fin 2048) : PU H BI t (ix2 i l) = ((pr H BI (tr t i) (lo l) : ℝ) : EReal) := by
  unfold PU
  pointwise [PB]
  rfl
theorem PV_at (i : Fin 256) (l : Fin 2048) : PV H BI t (ix2 i l) = ((pr H BI (tr t i) (hi l) : ℝ) : EReal) := by
  unfold PV
  pointwise [PB]
  rfl
theorem gl_read (x : ℝ) : Ideal.ofBits .f32 0x3F000000#32 * (x : EReal) * (1 + FloatOps.erf (F := Ideal) (φ := .f32) ((x : EReal) * ((hs : ℝ) : EReal))) = ((gl x : ℝ) : EReal) := by
  rw [half, ← EReal.coe_mul, ← EReal.coe_mul, show FloatOps.erf (F := Ideal) (φ := .f32) ((x * hs : ℝ) : EReal) = _ from Ideal.erf_coe _]
  simp only [one_eq, ← EReal.coe_add, ← EReal.coe_mul]
  rfl
theorem u_at (i : Fin 256) (l : Fin 2048) : k0_pay8 (F := Ideal) (PU H BI t) (ix2 i l) = ((u H BI (tr t i) l : ℝ) : EReal) := by
  pointwise [k0_pay8, k0_pay6]
  rw [PU_at, root_half_eq]
  exact gl_read _
theorem c_at (i : Fin 256) (l : Fin 2048) : k0_pay9 (F := Ideal) (PV H BI t) (ix2 i l) = ((v H BI (tr t i) l - mean (v H BI (tr t i)) : ℝ) : EReal) := by
  pointwise [k0_pay9, k0_pay7]
  simp only [PV_at, root_half_eq, gl_read]
  rw [mean_read (fun k => ((gl (pr H BI (tr t i) (hi k)) : ℝ) : EReal)) (v H BI (tr t i)) (fun k => rfl), ← EReal.coe_sub]
  rfl
theorem r_at (i : Fin 256) : k0_pay10 (F := Ideal) (PV H BI t) (ix2 i 0) = ((rs (v H BI (tr t i)) : ℝ) : EReal) := by
  pointwise [k0_pay10]
  simp only [c_at, ← EReal.coe_mul, sum_coe, long_f32, eps_f32]
  rw [Ideal.div_coe (by norm_num), ← EReal.coe_mul, ← EReal.coe_add]
  exact rsqrt_pos (var_pos (v H BI (tr t i)))
theorem x_at (i : Fin 256) (l : Fin 2048) : k0_pay11 (F := Ideal) (PV H BI t) (ix2 i l) = ((xh (v H BI (tr t i)) l : ℝ) : EReal) := by
  pointwise [k0_pay11]
  rw [c_at, r_at, ← EReal.coe_mul]
  rfl
abbrev VN : FVec Ideal S256x2048 .bf16 := k0_pay12 (k0_pay11 (PV H BI t)) (GB LG) (GB LB)
theorem vn_at (i : Fin 256) (l : Fin 2048) : VN H BI LG LB t (ix2 i l) = ((vn H BI LG LB (tr t i) l : ℝ) : EReal) := by
  unfold VN
  pointwise [k0_pay12, GB]
  rw [x_at, ← EReal.coe_mul, ← EReal.coe_add]
  rfl
/-- The chunk of a place, as the kernel's chain of a floor division computes it; `k` is the sign of the divisor. -/
def tile (k : BitVec 32) (s : Fin 128) : BitVec 32 :=
  Scalar.select
    (IntOp.andi
      (IntOp.cmpi .ne
        (IntOp.subi (BitVec.setWidth 32 (IntOp.cmpi .sgt (BitVec.ofNat 32 s.val) 0#32)) (BitVec.setWidth 32 (IntOp.cmpi .slt (BitVec.ofNat 32 s.val) 0#32)))
        (Scalar.subi k (Scalar.extui (Scalar.cmpi .slt 64#32 0#32))))
      (IntOp.cmpi .ne (IntOp.remsi .vector (BitVec.ofNat 32 s.val) 64#32) 0#32))
    (IntOp.subi (IntOp.divsi .vector (BitVec.ofNat 32 s.val) 64#32) 1#32)
    (IntOp.divsi .vector (BitVec.ofNat 32 s.val) 64#32)
theorem tile_eq : ∀ s : Fin 128, tile 1#32 s = BitVec.ofNat 32 (s.val / 64) := by decide +kernel
theorem mask_real' (t s : Fin 128) : FloatOps.sitofp (F := Ideal) .f32 (BitVec.setWidth 32 (IntOp.cmpi .sle (BitVec.ofNat 32 (s.val / 64)) (BitVec.ofNat 32 (t.val / 64)))) = ((msk t s : ℝ) : EReal) := by
  rw [le_words ⟨s.val / 64, by omega⟩ ⟨t.val / 64, by omega⟩]
  unfold msk
  split <;> simp [FloatOps.sitofp]
abbrev MK : FVec Ideal S128x128 .f32 := k0_pay16 (iota Kind.tc S128x128 32 [0] iota_S128x128_d0_w32) k0_pay13 (64#32) k0_pay14 k0_pay15 1#32 0#32
theorem mk_at (i s : Fin 128) : MK (ix2 i s) = ((msk i s : ℝ) : EReal) := by
  unfold MK
  refine Eq.trans ?_ (mask_real' i s)
  rw [← tile_eq, ← tile_eq]
  pointwise [k0_pay13, k0_pay14, k0_pay15, k0_pay16]
  rfl

theorem mk_gen (J : IVec S128x128 32) (x y z : BitVec 32) (hJ : J = iota Kind.tc S128x128 32 [0] iota_S128x128_d0_w32) (hx : x = 64#32) (hy : y = 1#32) (hz : z = 0#32) (i s : Fin 128) :
    k0_pay16 (F := Ideal) J k0_pay13 x k0_pay14 k0_pay15 y z (ix2 i s) = ((msk i s : ℝ) : EReal) := by
  subst hJ hx hy hz
  exact mk_at i s

theorem lane_zero (x : Fin 256) (h : x.val < 2048) : (⟨x.val, h⟩ : Fin 2048) = lane 0 x := Fin.ext (by show x.val = 0 * 256 + x.val; omega)

/-! The three products of a point, read at a place: `f` names the rows of the place's window. -/

theorem du_at (i : Fin 256) (l : Fin 2048) (a : Fin 128) (g : Fin 8) (f : Fin 128 → Fin 256) (ha : i.val % 128 = a.val) (hg : l.val / 256 = g.val)
    (hf : ∀ s, (f s).val = i.val / 128 * 128 + s.val) :
    CT (ix3 0 (tr t i) l) * (∑ s, WS (ix3 g a s) * msk a s * vn H BI LG LB (tr t (f s)) l + BS (ix2 g a)) = du H BI LG LB WS BS CT (tr t i) l := by
  have e1 : pl (tr t i) = a := Fin.ext (by show (t.val * 256 + i.val) % 128 = a.val; omega)
  have e2 : gr l = g := Fin.ext hg
  have e3 : ∀ s, row (win (tr t i)) s = tr t (f s) := fun s => Fin.ext (by show (t.val * 256 + i.val) / 128 * 128 + s.val = t.val * 256 + (f s).val; rw [hf]; omega)
  unfold du sp wsm
  simp only [e1, e2, e3, mul_comm]
theorem dvn_at (i : Fin 256) (l : Fin 2048) (a : Fin 128) (g : Fin 8) (f : Fin 128 → Fin 256) (ha : i.val % 128 = a.val) (hg : l.val / 256 = g.val)
    (hf : ∀ s, (f s).val = i.val / 128 * 128 + s.val) :
    ∑ s, WS (ix3 g s a) * msk s a * (CT (ix3 0 (tr t (f s)) l) * u H BI (tr t (f s)) l) = dvn H BI WS CT (tr t i) l := by
  have e1 : pl (tr t i) = a := Fin.ext (by show (t.val * 256 + i.val) % 128 = a.val; omega)
  have e2 : gr l = g := Fin.ext hg
  have e3 : ∀ s, row (win (tr t i)) s = tr t (f s) := fun s => Fin.ext (by show (t.val * 256 + i.val) / 128 * 128 + s.val = t.val * 256 + (f s).val; rw [hf]; omega)
  unfold dvn ds wsm
  simp only [e1, e2, e3, mul_comm]
end

/-! Stores that tile a buffer, each a block of one array. -/

theorem emb2 {N M n k o p : ℕ} (inb) (a : Fin n) (b : Fin k) :
    (Rect.unit (s := (⟨2, ![N, M]⟩ : Shape)) ![o, p] ![n, k] inb).emb (ix2 a b)
      = ix2 ⟨o + a.val, lt_of_lt_of_le (Nat.add_lt_add_left a.isLt o) (inb 0)⟩ ⟨p + b.val, lt_of_lt_of_le (Nat.add_lt_add_left b.isLt p) (inb 1)⟩ := by
  refine funext fun d => Fin.ext ((Rect.emb_apply _ _ d).trans ?_)
  fin_cases d
  · exact congrArg (o + ·) (Nat.one_mul _)
  · exact congrArg (p + ·) (Nat.one_mul _)

theorem emb3 {A N M n k z o p : ℕ} (inb) (a : Fin n) (b : Fin k) :
    (Rect.unit (s := (⟨3, ![A, N, M]⟩ : Shape)) ![z, o, p] ![1, n, k] inb).emb (ix3 0 a b)
      = ix3 ⟨z, lt_of_lt_of_le (Nat.lt_succ_self z) (inb 0)⟩ ⟨o + a.val, lt_of_lt_of_le (Nat.add_lt_add_left a.isLt o) (inb 1)⟩ ⟨p + b.val, lt_of_lt_of_le (Nat.add_lt_add_left b.isLt p) (inb 2)⟩ := by
  refine funext fun d => Fin.ext ((Rect.emb_apply _ _ d).trans ?_)
  fin_cases d
  · exact congrArg (z + ·) (Nat.one_mul _)
  · exact congrArg (o + ·) (Nat.one_mul _)
  · exact congrArg (p + ·) (Nat.one_mul _)

/-- A stretch of one row, stored last. -/
theorem canon_cell {N M o p k : ℕ} (inb) (w : (⟨2, ![1, k]⟩ : Shape).Idx → EReal) (L) (i : Fin N) (l : Fin M) :
    View.canon (Val := Elt Ideal) (e := .f32) (⟨Rect.unit (s := (⟨2, ![N, M]⟩ : Shape)) ![o, p] ![1, k] inb, w⟩ :: L) (ix2 i l)
      = if h : i.val = o ∧ p ≤ l.val ∧ l.val < p + k then w (ix2 0 ⟨l.val - p, by omega⟩) else View.canon L (ix2 i l) := by
  split
  · rename_i h
    have e : (Rect.unit (s := (⟨2, ![N, M]⟩ : Shape)) ![o, p] ![1, k] inb).emb (ix2 0 ⟨l.val - p, by omega⟩) = ix2 i l := by
      rw [emb2]
      exact congrArg₂ ix2 (Fin.ext (by show o + 0 = i.val; omega)) (Fin.ext (by show p + (l.val - p) = l.val; omega))
    rw [← e]
    exact View.canon_cons_emb _ _ _ _
  · rename_i h
    refine View.canon_cons_of_not_mem _ _ ?_
    rw [Rect.mem_set_unit]
    intro hall
    obtain ⟨h1, h2⟩ := hall 0
    obtain ⟨h3, h4⟩ := hall 1
    change o ≤ i.val at h1
    change i.val < o + 1 at h2
    exact h ⟨by omega, h3, h4⟩

/-- Stores over contents are stores over a fill with them. -/
theorem read_fill {sig : RefSig} {κ : Kind} {sp : Space} {N M : ℕ} {e : EltTy} (v : View sig κ sp (⟨2, ![N, M]⟩ : Shape) e) (f : v.ty.Contents (Elt Ideal)) (inb) :
    ∀ (L : List (View.Piece (Elt Ideal) (⟨2, ![N, M]⟩ : Shape) e)) (y),
      v.read (Elt Ideal) (v.writes (Elt Ideal) f L) y = View.canon (L ++ [⟨Rect.unit (s := (⟨2, ![N, M]⟩ : Shape)) ![0, 0] ![N, M] inb, v.read (Elt Ideal) f⟩]) y
  | [], y => (congrFun (View.canon_cons_unit_lit (Val := Elt Ideal) (S := (⟨2, ![N, M]⟩ : Shape)) inb (v.read (Elt Ideal) f) [] (fun a => by fin_cases a <;> rfl)) y).symm
  | p :: L, y => by
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy]
      exact read_fill v f inb L y

theorem readCov_blocks {sig : RefSig} {κ : Kind} {sp : Space} {N M : ℕ} {e : EltTy} (v : View sig κ sp (⟨2, ![N, M]⟩ : Shape) e) (G : (⟨2, ![N, M]⟩ : Shape).Idx → Elt Ideal e) (L) (inb)
    (hL : View.PiecesOf (Val := Elt Ideal) G L) (size) (hc : View.Piece.tiledL L size = true) : v.readCov L (Rect.unit (s := (⟨2, ![N, M]⟩ : Shape)) ![0, 0] ![N, M] inb).toLoadRect = G := by
  rw [View.readCov_eq_canon']
  funext j
  refine (View.canon_apply_of_pieces G L hL.mem _ (View.cover_of_tiledL L size hc _)).trans (congrArg G (funext fun d => Fin.ext ?_))
  fin_cases d <;> simp [Rect.unit, LoadRect.idx]

/-- Stores by twos through one rectangle, the later of the two first: a block of `G` over anything. -/
def Twice {S : Shape} {e : EltTy} (G : S.Idx → Elt Ideal e) : List (View.Piece (Elt Ideal) S e) → Prop
  | p :: q :: L => (∀ x : p.1.shape.Idx, p.2 x = G (p.1.emb x)) ∧ p.1 = q.1 ∧ Twice G L
  | _ => True
def heads {S : Shape} {e : EltTy} : List (View.Piece (Elt Ideal) S e) → List (View.Piece (Elt Ideal) S e)
  | p :: _ :: L => p :: heads L
  | _ => []
theorem canon_twice {S : Shape} {e : EltTy} (G : S.Idx → Elt Ideal e) : ∀ (L : List (View.Piece (Elt Ideal) S e)), Twice G L → ∀ y, (∃ p ∈ heads L, y ∈ p.1.set) → View.canon L y = G y
  | [], _, _, ⟨_, h, _⟩ => absurd h List.not_mem_nil
  | [_], _, _, ⟨_, h, _⟩ => absurd h List.not_mem_nil
  | p :: q :: L, h, y, ⟨r, hr, hy⟩ => by
    by_cases hp : y ∈ p.1.set
    · obtain ⟨x, rfl⟩ : ∃ x, p.1.emb x = y := p.1.exists_idx_of_mem hp
      exact (View.canon_cons_emb p.1 p.2 _ x).trans (h.1 x)
    · rw [View.canon_cons_of_not_mem p _ hp, View.canon_cons_of_not_mem q _ (by rw [← h.2.1]; exact hp)]
      refine canon_twice G L h.2.2 y ⟨r, (List.mem_cons.mp hr).resolve_left ?_, hy⟩
      rintro rfl
      exact hp hy
theorem canon_step {S : Shape} (P T : S.Idx → EReal) (L : List (View.Piece (Elt Ideal) S .f32)) (size : Fin S.rank → ℕ) (h : Twice (fun y => P y + T y) L)
    (hc : View.Piece.tiledL (heads L) size = true) (y : S.Idx) : View.canon L y = P y + T y :=
  canon_twice _ L h y (View.cover_of_tiledL _ size hc y)
end Cert.Sgu

end
-- ==== Proof.Sgu.lean ====
module

public import proofs.«01_k».proof.Proof.SguBlk
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Sgu
open Cert.SguIdeal Cert.SguIdeal.Gen Cert.Sc Cert.LN

section
variable (m : (ℓ : Loc nD τ sig) → Buf (Elt Ideal) ℓ) (c : Dev nD)
variable (H : S1x2048x4096.Idx → ℝ) (BI : S4096.Idx → ℝ) (LG LB : S2048.Idx → ℝ) (WS : S8x128x128.Idx → ℝ) (BS : S8x128.Idx → ℝ) (CT : S1x2048x2048.Idx → ℝ)
  (hH : m ((c : Thread nD τ).loc main_arg0) = fun i => ((H i : ℝ) : EReal)) (hI : m ((c : Thread nD τ).loc main_arg1) = fun i => ((BI i : ℝ) : EReal))
  (hG : m ((c : Thread nD τ).loc main_arg2) = fun i => ((LG i : ℝ) : EReal)) (hB : m ((c : Thread nD τ).loc main_arg3) = fun i => ((LB i : ℝ) : EReal))
  (hW : m ((c : Thread nD τ).loc main_arg4) = fun i => ((WS i : ℝ) : EReal)) (hS : m ((c : Thread nD τ).loc main_arg5) = fun i => ((BS i : ℝ) : EReal))
  (hC : m ((c : Thread nD τ).loc main_arg6) = fun i => ((CT i : ℝ) : EReal))

theorem idx : ∀ t : Fin cfg0.N, win0_0.index t = ![t.val, 0] ∧ win0_1.index t = ![t.val, 0] ∧ win0_2.index t = ![0, 0] ∧ win0_3.index t = ![0, 0] ∧ win0_4.index t = ![0, 0, 0] ∧ win0_5.index t = ![0, 0]
    ∧ win0_6.index t = ![t.val, 0] ∧ win0_7.index t = ![0, 0, 0] ∧ win0_8.index t = ![0, 0] ∧ win0_9.index t = ![0, 0] ∧ win0_10.index t = ![0, 0] :=
  (by decide +kernel : ∀ t : Fin grid0.N, _)

def at' (t : Fin cfg0.N) : Fin 8 := ⟨t.val, lt_of_lt_of_eq t.isLt N_0⟩

include hC in
theorem b0 (t : Fin cfg0.N) : iblk m c 0 t = QB CT (at' t) := by
  funext y
  obtain ⟨r, d, rfl⟩ : ∃ (r : Fin 256) (d : Fin 2048), y = ix2 r d := ⟨y 0, y 1, eq_ix2 y⟩
  refine Eq.trans (b := m ((c : Thread nD τ).loc main_arg6) (ix3 0 (tr (at' t) r) d)) ?_ (congrFun hC _)
  unfold tr at'
  blk_point [iblk, V, idx t]

include hH hI in
theorem b1 (t : Fin cfg0.N) : iblk m c 1 t = PB H BI (at' t) := by
  funext y
  obtain ⟨r, d, rfl⟩ : ∃ (r : Fin 256) (d : Fin 4096), y = ix2 r d := ⟨y 0, y 1, eq_ix2 y⟩
  refine Eq.trans (b := V m c main_v5 (ix2 (tr (at' t) r) d)) ?_ ?_
  · unfold tr at'
    blk_point [iblk, idx t]
  · entry_read
    pointwise
    rw [hH, hI]
    exact (EReal.coe_add _ _).symm

include hG in
theorem b2 (t : Fin cfg0.N) : iblk m c 2 t = GB LG := by
  funext y
  obtain ⟨r, d, rfl⟩ : ∃ (r : Fin 1) (d : Fin 2048), y = ix2 r d := ⟨y 0, y 1, eq_ix2 y⟩
  refine Eq.trans (b := m ((c : Thread nD τ).loc main_arg2) (ix1 d)) ?_ (congrFun hG _)
  blk_point [iblk, V, idx t]

include hB in
theorem b3 (t : Fin cfg0.N) : iblk m c 3 t = GB LB := by
  funext y
  obtain ⟨r, d, rfl⟩ : ∃ (r : Fin 1) (d : Fin 2048), y = ix2 r d := ⟨y 0, y 1, eq_ix2 y⟩
  refine Eq.trans (b := m ((c : Thread nD τ).loc main_arg3) (ix1 d)) ?_ (congrFun hB _)
  blk_point [iblk, V, idx t]

include hW in
theorem b4 (t : Fin cfg0.N) : iblk m c 4 t = WB WS := by
  funext y
  obtain ⟨g, r, d, rfl⟩ : ∃ (g : Fin 8) (r : Fin 128) (d : Fin 128), y = ix3 g r d := ⟨y 0, y 1, y 2, eq_ix3 y⟩
  refine Eq.trans (b := m ((c : Thread nD τ).loc main_arg4) (ix3 g r d)) ?_ (congrFun hW _)
  blk_point [iblk, V, idx t]

include hS in
theorem b5 (t : Fin cfg0.N) : iblk m c 5 t = BB BS := by
  funext y
  obtain ⟨r, d, rfl⟩ : ∃ (r : Fin 128) (d : Fin 8), y = ix2 r d := ⟨y 0, y 1, eq_ix2 y⟩
  refine Eq.trans (b := m ((c : Thread nD τ).loc main_arg5) (ix2 d r)) ?_ (congrFun hS _)
  blk_point [iblk, V, idx t]

/-- What a result holds before a point: zero before the first. -/
def before8 (t : Fin cfg0.N) : FVec Ideal S128x2048 .f32 := if h : t.val % 8 = 0 then k0_pay3 else (outsAt0 (F := Ideal) m c (t.val - 1) (by omega)).2.2.1

/-- What a point adds to a place's row: the two windows of the point. -/
def T8 (t : Fin 8) (a : Fin 128) (l : Fin 2048) : EReal := ((ds H BI CT (tr t ⟨a.val, by omega⟩) l : ℝ) : EReal) + ((ds H BI CT (tr t ⟨128 + a.val, by omega⟩) l : ℝ) : EReal)

set_option maxHeartbeats 2000000 in
include hH hI hC in
theorem step8 (t : Fin cfg0.N) (y : S128x2048.Idx) : (outsAt0 (F := Ideal) m c t.val t.isLt).2.2.1 y
    = before8 m c t y + T8 H BI CT (at' t) (y 0) (y 1) := by
  unfold before8
  rcases Classical.em (t.val % 8 = 0) with h | h
  on_goal 1 => rw [dif_pos h, outsAt0_A m c t h]; dsimp only; unfold out0_A_8
  on_goal 2 => rw [dif_neg h, outsAt0_B m c t h]; dsimp only; unfold out0_B_8
  all_goals
    frame_open
    simp (disch := decide) only [↓ View.readCov_skip, ↓ View.readCov_cons_toLoadRect, ↓ View.readCov_fill]
    frame_out
    rw [b0 m c CT hC, b1 m c H BI hH hI]
    refine canon_step _ (fun z : S128x2048.Idx => T8 H BI CT (at' t) (z 0) (z 1)) _ ![128, 256] ?_ ?_ y
    on_goal 2 => rfl
    refine ⟨?_, rfl, ?_, rfl, ?_, rfl, ?_, rfl, ?_, rfl, ?_, rfl, ?_, rfl, ?_, rfl, trivial⟩
    all_goals
      intro x
      obtain ⟨a, b, rfl⟩ : ∃ (a : Fin 128) (b : Fin 256), x = ix2 a b := ⟨x 0, x 1, eq_ix2 x⟩
      rw [emb2]
      dsimp only
      pointwise [QB, k0_pay20, k0_pay22, k0_pay23, k0_pay29, k0_pay31, k0_pay32, k0_pay39, k0_pay41, k0_pay42, k0_pay48, k0_pay50, k0_pay51, k0_pay58, k0_pay60, k0_pay61, k0_pay66, k0_pay68, k0_pay69, k0_pay78, k0_pay80, k0_pay81, k0_pay86, k0_pay88, k0_pay89, k0_pay97, k0_pay99, k0_pay100, k0_pay106, k0_pay108, k0_pay109, k0_pay117, k0_pay119, k0_pay120, k0_pay126, k0_pay128, k0_pay129, k0_pay136, k0_pay138, k0_pay139, k0_pay145, k0_pay147, k0_pay148, k0_pay155, k0_pay157, k0_pay158, k0_pay163, k0_pay165, k0_pay166]
      rw [u_at, u_at]
      simp only [← EReal.coe_mul]
      rw [add_assoc]
      unfold T8 ds
      rw [mul_comm (CT _), mul_comm (CT _)]
      try rfl
end
end Cert.Sgu

end
-- ==== Proof.Sgu7.lean ====
module

public import proofs.«01_k».proof.Proof.Sgu
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Sgu
open Cert.SguIdeal Cert.SguIdeal.Gen Cert.Sc Cert.LN

section
variable (m : (ℓ : Loc nD τ sig) → Buf (Elt Ideal) ℓ) (c : Dev nD)
variable (H : S1x2048x4096.Idx → ℝ) (BI : S4096.Idx → ℝ) (LG LB : S2048.Idx → ℝ) (WS : S8x128x128.Idx → ℝ) (BS : S8x128.Idx → ℝ) (CT : S1x2048x2048.Idx → ℝ)
  (hH : m ((c : Thread nD τ).loc main_arg0) = fun i => ((H i : ℝ) : EReal)) (hI : m ((c : Thread nD τ).loc main_arg1) = fun i => ((BI i : ℝ) : EReal))
  (hG : m ((c : Thread nD τ).loc main_arg2) = fun i => ((LG i : ℝ) : EReal)) (hB : m ((c : Thread nD τ).loc main_arg3) = fun i => ((LB i : ℝ) : EReal))
  (hW : m ((c : Thread nD τ).loc main_arg4) = fun i => ((WS i : ℝ) : EReal)) (hS : m ((c : Thread nD τ).loc main_arg5) = fun i => ((BS i : ℝ) : EReal))
  (hC : m ((c : Thread nD τ).loc main_arg6) = fun i => ((CT i : ℝ) : EReal))

/-- What a point adds to a window's weights. -/
def T7 (t : Fin 8) (g : Fin 8) (a s : Fin 128) : EReal :=
  (((∑ x : Fin 256, CT (ix3 0 (tr t ⟨a.val, by omega⟩) (lane g x)) * u H BI (tr t ⟨a.val, by omega⟩) (lane g x) * vn H BI LG LB (tr t ⟨s.val, by omega⟩) (lane g x)) * msk a s : ℝ) : EReal)
  + (((∑ x : Fin 256, CT (ix3 0 (tr t ⟨128 + a.val, by omega⟩) (lane g x)) * u H BI (tr t ⟨128 + a.val, by omega⟩) (lane g x) * vn H BI LG LB (tr t ⟨128 + s.val, by omega⟩) (lane g x)) * msk a s : ℝ) : EReal)
def before7 (t : Fin cfg0.N) : FVec Ideal S8x128x128 .f32 := if h : t.val % 8 = 0 then k0_pay2 else (outsAt0 (F := Ideal) m c (t.val - 1) (by omega)).2.1

set_option maxHeartbeats 2000000 in
include hH hI hG hB hC in
theorem step7 (t : Fin cfg0.N) (y : S8x128x128.Idx) : (outsAt0 (F := Ideal) m c t.val t.isLt).2.1 y
    = before7 m c t y + T7 H BI LG LB CT (at' t) (y 0) (y 1) (y 2) := by
  unfold before7
  rcases Classical.em (t.val % 8 = 0) with h | h
  on_goal 1 => rw [dif_pos h, outsAt0_A m c t h]; dsimp only; unfold out0_A_7
  on_goal 2 => rw [dif_neg h, outsAt0_B m c t h]; dsimp only; unfold out0_B_7
  all_goals
    frame_open
    simp (disch := decide) only [↓ View.readCov_skip, ↓ View.readCov_cons_toLoadRect, ↓ View.readCov_fill]
    frame_out
    rw [b0 m c CT hC, b1 m c H BI hH hI, b2 m c LG hG, b3 m c LB hB]
    refine canon_step _ (fun z : S8x128x128.Idx => T7 H BI LG LB CT (at' t) (z 0) (z 1) (z 2)) _ ![1, 128, 128] ?_ ?_ y
    on_goal 2 => rfl
    refine ⟨?_, rfl, ?_, rfl, ?_, rfl, ?_, rfl, ?_, rfl, ?_, rfl, ?_, rfl, ?_, rfl, trivial⟩
    all_goals
      intro x
      obtain ⟨z, a, b, rfl⟩ : ∃ (z : Fin 1) (a : Fin 128) (b : Fin 128), x = ix3 z a b := ⟨x 0, x 1, x 2, eq_ix3 x⟩
      obtain rfl : z = 0 := Subsingleton.elim _ _
      rw [emb3]
      dsimp only
      pointwise [QB, k0_pay19, k0_pay20, k0_pay22, k0_pay24, k0_pay27, k0_pay28, k0_pay29, k0_pay31, k0_pay33, k0_pay35, k0_pay38, k0_pay39, k0_pay41, k0_pay43, k0_pay46, k0_pay47, k0_pay48, k0_pay50, k0_pay52, k0_pay54, k0_pay57, k0_pay58, k0_pay60, k0_pay62, k0_pay64, k0_pay65, k0_pay66, k0_pay68, k0_pay70, k0_pay72, k0_pay73, k0_pay74, k0_pay77, k0_pay78, k0_pay80, k0_pay82, k0_pay84, k0_pay85, k0_pay86, k0_pay88, k0_pay90, k0_pay92, k0_pay93, k0_pay96, k0_pay97, k0_pay99, k0_pay101, k0_pay103, k0_pay104, k0_pay105, k0_pay106, k0_pay108, k0_pay110, k0_pay112, k0_pay113, k0_pay116, k0_pay117, k0_pay119, k0_pay121, k0_pay123, k0_pay124, k0_pay125, k0_pay126, k0_pay128, k0_pay130, k0_pay132, k0_pay135, k0_pay136, k0_pay138, k0_pay140, k0_pay142, k0_pay143, k0_pay144, k0_pay145, k0_pay147, k0_pay149, k0_pay151, k0_pay154, k0_pay155, k0_pay157, k0_pay159, k0_pay161, k0_pay162, k0_pay163, k0_pay165, k0_pay167, k0_pay169]
      simp (disch := rfl) only [u_at, vn_at, mk_gen, ← EReal.coe_mul, sum_coe]
      rw [add_assoc]
      unfold T7
      try simp only [lane_zero]
      try rfl
end
end Cert.Sgu

end
-- ==== Proof.SguRow.lean ====
module

public import proofs.«01_k».proof.Proof.SguBlk
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Sgu
open Cert.SguIdeal Cert.SguIdeal.Gen Cert.Sc Cert.LN

/-! The rows a point adds up, and its block of the result. -/

section
variable (H : S1x2048x4096.Idx → ℝ) (BI : S4096.Idx → ℝ) (LG LB : S2048.Idx → ℝ) (WS : S8x128x128.Idx → ℝ) (BS : S8x128.Idx → ℝ) (CT : S1x2048x2048.Idx → ℝ) (t : Fin 8)

abbrev DM : Vec Ideal S256x2048 .f32 := fun y : S256x2048.Idx => ((dvn H BI WS CT (tr t (y 0)) (y 1) : ℝ) : EReal)
abbrev UM : Vec Ideal S256x2048 .f32 := fun y : S256x2048.Idx => ((du H BI LG LB WS BS CT (tr t (y 0)) (y 1) : ℝ) : EReal)
abbrev ZM : FVec Ideal S256x2048 .f32 := k0_pay172 (k0_pay10 (PV H BI t)) (k0_pay11 (PV H BI t)) (DM H BI WS CT t) (GB LG)
theorem z_at (r : Fin 256) (l : Fin 2048) : ZM H BI LG WS CT t (ix2 r l) = ((dz (v H BI (tr t r)) (dvh H BI LG WS CT (tr t r)) l : ℝ) : EReal) := by
  unfold ZM
  pointwise [k0_pay172, GB]
  simp only [x_at, r_at, ← EReal.coe_mul, sum_coe, long_f32]
  rw [Ideal.div_coe (by norm_num), Ideal.div_coe (by norm_num)]
  simp only [← EReal.coe_mul, ← EReal.coe_sub]
  rfl
theorem gg_read (x : ℝ) : Ideal.ofBits .f32 0x3F000000#32 * (1 + FloatOps.erf (F := Ideal) (φ := .f32) ((x : EReal) * ((hs : ℝ) : EReal))) + (x : EReal) * Ideal.exp (Ideal.ofBits .f32 0xBF000000#32 * (x : EReal) * (x : EReal)) * ((gs : ℝ) : EReal) = ((gg x : ℝ) : EReal) := by
  rw [half, neg_half_f32, ← EReal.coe_mul, ← EReal.coe_mul, ← EReal.coe_mul, show FloatOps.erf (F := Ideal) (φ := .f32) ((x * hs : ℝ) : EReal) = _ from Ideal.erf_coe _, Ideal.exp_coe]
  simp only [one_eq, ← EReal.coe_add, ← EReal.coe_mul]
  rfl
theorem pu_at (r : Fin 256) (l : Fin 2048) : k0_pay175 (F := Ideal) (k0_pay6 (PU H BI t)) (UM H BI LG LB WS BS CT t) (k0_pay173 (k0_pay6 (PU H BI t))) k0_pay174 (ix2 r l) = ((dpu H BI LG LB WS BS CT (tr t r) l : ℝ) : EReal) := by
  pointwise [k0_pay175, k0_pay173, k0_pay174, k0_pay6]
  rw [PU_at, root_half_eq, gauss_eq]
  refine (congrArg (fun z : EReal => _ * z) (gg_read _)).trans ?_
  rw [← EReal.coe_mul]
  rfl
theorem pv_at (r : Fin 256) (l : Fin 2048) : k0_pay176 (F := Ideal) (k0_pay7 (PV H BI t)) (ZM H BI LG WS CT t) (ix2 r l) = ((dpv H BI LG WS CT (tr t r) l : ℝ) : EReal) := by
  pointwise [k0_pay176, k0_pay7]
  rw [PV_at, root_half_eq, gauss_eq, z_at]
  refine (congrArg (fun z : EReal => _ * z) (gg_read _)).trans ?_
  rw [← EReal.coe_mul]
  rfl

def T9 (t : Fin 8) (i : Fin 8) (l : Fin 2048) : EReal :=
  if i.val = 1 then ((∑ r, dvn H BI WS CT (tr t r) l : ℝ) : EReal) else if i.val = 0 then ((∑ r, dvn H BI WS CT (tr t r) l * xh (v H BI (tr t r)) l : ℝ) : EReal) else 0
def T10 (t : Fin 8) (i : Fin 8) (l : Fin 4096) : EReal := if i.val = 0 then ((∑ r, dpre H BI LG LB WS BS CT (tr t r) l : ℝ) : EReal) else 0

theorem canon_fill {N M : ℕ} (inb) (P : (⟨2, ![N, M]⟩ : Shape).Idx → EReal) (y) :
    View.canon (Val := Elt Ideal) (e := .f32) [⟨Rect.unit (s := (⟨2, ![N, M]⟩ : Shape)) ![0, 0] ![N, M] inb, P⟩] y = P y :=
  congrFun (View.canon_cons_unit_lit (Val := Elt Ideal) (e := .f32) (S := (⟨2, ![N, M]⟩ : Shape)) inb P [] (fun a => by fin_cases a <;> rfl)) y

theorem rows_step (P : FVec Ideal S8x2048 .f32) (i : Fin 8) (l : Fin 2048) :
    View.canon (Val := Elt Ideal) (e := .f32) [⟨Rect.unit (s := S8x2048) ![1, 0] ![1, 2048] inb_S8x2048_S1x2048_1_0, k0_pay171 (F := Ideal) (DM H BI WS CT t) (View.ld (Val := Elt Ideal) (e' := .f32) P (Rect.unit (s := S8x2048) ![1, 0] ![1, 2048] inb_S8x2048_S1x2048_1_0))⟩,
      ⟨Rect.unit (s := S8x2048) ![0, 0] ![1, 2048] inb_S8x2048_S1x2048_0_0, k0_pay170 (F := Ideal) (k0_pay11 (PV H BI t)) (DM H BI WS CT t) (View.ld (Val := Elt Ideal) (e' := .f32) P (Rect.unit (s := S8x2048) ![0, 0] ![1, 2048] inb_S8x2048_S1x2048_0_0))⟩,
      ⟨Rect.unit (s := S8x2048) ![0, 0] ![8, 2048] inb_S8x2048_S8x2048_0_0, P⟩] (ix2 i l) = P (ix2 i l) + T9 H BI WS CT t i l := by
  unfold T9
  refine (canon_cell _ _ _ i l).trans ?_
  rcases Classical.em (i.val = 1) with h1 | h1
  · obtain rfl : i = 1 := Fin.ext h1
    rw [dif_pos ⟨rfl, Nat.zero_le _, by omega⟩, if_pos h1]
    pointwise [k0_pay171]
    rw [sum_coe]
    rfl
  · rw [dif_neg (fun h => h1 h.1), if_neg h1]
    refine (canon_cell _ _ _ i l).trans ?_
    rcases Classical.em (i.val = 0) with h0 | h0
    · obtain rfl : i = 0 := Fin.ext h0
      rw [dif_pos ⟨rfl, Nat.zero_le _, by omega⟩, if_pos h0]
      pointwise [k0_pay170]
      simp only [x_at, ← EReal.coe_mul, sum_coe]
      rfl
    · rw [dif_neg (fun h => h0 h.1), if_neg h0, add_zero]
      exact canon_fill _ P _

theorem rowsIn_step (P : FVec Ideal S8x4096 .f32) (i : Fin 8) (l : Fin 4096) :
    View.canon (Val := Elt Ideal) (e := .f32) [⟨Rect.unit (s := S8x4096) ![0, 2048] ![1, 2048] inb_S8x4096_S1x2048_0_2048, k0_pay178 (F := Ideal) (k0_pay7 (PV H BI t)) (ZM H BI LG WS CT t) (View.ld (Val := Elt Ideal) (e' := .f32) P (Rect.unit (s := S8x4096) ![0, 2048] ![1, 2048] inb_S8x4096_S1x2048_0_2048))⟩,
      ⟨Rect.unit (s := S8x4096) ![0, 0] ![1, 2048] inb_S8x4096_S1x2048_0_0, k0_pay177 (F := Ideal) (k0_pay6 (PU H BI t)) (UM H BI LG LB WS BS CT t) (k0_pay173 (k0_pay6 (PU H BI t))) k0_pay174 (View.ld (Val := Elt Ideal) (e' := .f32) P (Rect.unit (s := S8x4096) ![0, 0] ![1, 2048] inb_S8x4096_S1x2048_0_0))⟩,
      ⟨Rect.unit (s := S8x4096) ![0, 0] ![8, 4096] inb_S8x4096_S8x4096_0_0, P⟩] (ix2 i l) = P (ix2 i l) + T10 H BI LG LB WS BS CT t i l := by
  unfold T10 dpre
  refine (canon_cell _ _ _ i l).trans ?_
  rcases Classical.em (i.val = 0) with h0 | h0
  · obtain rfl : i = 0 := Fin.ext h0
    rw [if_pos h0]
    rcases Classical.em (l.val < 2048) with hl | hl
    · rw [dif_neg (fun h => by omega)]
      refine (canon_cell _ _ _ 0 l).trans ?_
      rw [dif_pos ⟨rfl, Nat.zero_le _, by omega⟩]
      simp only [dif_pos hl]
      obtain ⟨k, rfl⟩ : ∃ k : Fin 2048, l = lo k := ⟨⟨l.val, hl⟩, rfl⟩
      pointwise [k0_pay177]
      simp only [pu_at, sum_coe]
      try rfl
    · obtain ⟨k, rfl⟩ : ∃ k : Fin 2048, l = hi k := ⟨⟨l.val - 2048, by omega⟩, Fin.ext (by show l.val = 2048 + (l.val - 2048); omega)⟩
      rw [dif_pos ⟨rfl, by unfold hi; simp, by show 2048 + k.val < 4096; omega⟩]
      simp only [dif_neg hl]
      have e : ∀ h, (⟨(hi k).val - 2048, h⟩ : Fin 2048) = k := fun h => Fin.ext (by unfold hi; simp)
      simp only [e]
      pointwise [k0_pay178]
      simp only [pv_at, sum_coe]
      rfl
  · rw [dif_neg (fun h => h0 h.1), if_neg h0, add_zero]
    refine (canon_cell _ _ _ i l).trans ?_
    rw [dif_neg (fun h => h0 h.1)]
    exact canon_fill _ P _

theorem block_eq (y : S256x4096.Idx) :
    View.canon (Val := Elt Ideal) (e := .bf16) [⟨Rect.unit (s := S256x4096) ![0, 2048] ![256, 2048] inb_S256x4096_S256x2048_0_2048, k0_pay1 (F := Ideal) (k0_pay176 (k0_pay7 (PV H BI t)) (ZM H BI LG WS CT t))⟩,
      ⟨Rect.unit (s := S256x4096) ![0, 0] ![256, 2048] inb_S256x4096_S256x2048_0_0, k0_pay179 (F := Ideal) (k0_pay6 (PU H BI t)) (UM H BI LG LB WS BS CT t) (k0_pay173 (k0_pay6 (PU H BI t))) k0_pay174⟩] y
      = ((dpre H BI LG LB WS BS CT (tr t (y 0)) (y 1) : ℝ) : EReal) := by
  have hL : View.PiecesOf (Val := Elt Ideal) (e := .bf16) (fun y : S256x4096.Idx => ((dpre H BI LG LB WS BS CT (tr t (y 0)) (y 1) : ℝ) : EReal)) [⟨Rect.unit (s := S256x4096) ![0, 2048] ![256, 2048] inb_S256x4096_S256x2048_0_2048, k0_pay1 (F := Ideal) (k0_pay176 (k0_pay7 (PV H BI t)) (ZM H BI LG WS CT t))⟩,
      ⟨Rect.unit (s := S256x4096) ![0, 0] ![256, 2048] inb_S256x4096_S256x2048_0_0, k0_pay179 (F := Ideal) (k0_pay6 (PU H BI t)) (UM H BI LG LB WS BS CT t) (k0_pay173 (k0_pay6 (PU H BI t))) k0_pay174⟩] := by
    refine ⟨?_, ?_, trivial⟩
    · intro x
      obtain ⟨a, b, rfl⟩ : ∃ (a : Fin 256) (b : Fin 2048), x = ix2 a b := ⟨x 0, x 1, eq_ix2 x⟩
      rw [emb2]
      dsimp only
      unfold dpre
      pointwise [k0_pay1]
      rw [pv_at]
    · intro x
      obtain ⟨a, b, rfl⟩ : ∃ (a : Fin 256) (b : Fin 2048), x = ix2 a b := ⟨x 0, x 1, eq_ix2 x⟩
      rw [emb2]
      dsimp only
      unfold dpre
      pointwise [k0_pay179]
      rw [pu_at]
  refine View.canon_apply_of_pieces (Val := Elt Ideal) (e := .bf16) (fun y : S256x4096.Idx => ((dpre H BI LG LB WS BS CT (tr t (y 0)) (y 1) : ℝ) : EReal)) _ hL.mem y (View.cover_of_tiledL _ ![256, 2048] ?_ y)
  rfl
end
end Cert.Sgu

end
-- ==== Proof.SguPt.lean ====
module

public import proofs.«01_k».proof.Proof.Sgu
public import proofs.«01_k».proof.Proof.SguRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Sgu
open Cert.SguIdeal Cert.SguIdeal.Gen Cert.Sc Cert.LN

section
variable (m : (ℓ : Loc nD τ sig) → Buf (Elt Ideal) ℓ) (c : Dev nD)
variable (H : S1x2048x4096.Idx → ℝ) (BI : S4096.Idx → ℝ) (LG LB : S2048.Idx → ℝ) (WS : S8x128x128.Idx → ℝ) (BS : S8x128.Idx → ℝ) (CT : S1x2048x2048.Idx → ℝ)
  (hH : m ((c : Thread nD τ).loc main_arg0) = fun i => ((H i : ℝ) : EReal)) (hI : m ((c : Thread nD τ).loc main_arg1) = fun i => ((BI i : ℝ) : EReal))
  (hG : m ((c : Thread nD τ).loc main_arg2) = fun i => ((LG i : ℝ) : EReal)) (hB : m ((c : Thread nD τ).loc main_arg3) = fun i => ((LB i : ℝ) : EReal))
  (hW : m ((c : Thread nD τ).loc main_arg4) = fun i => ((WS i : ℝ) : EReal)) (hS : m ((c : Thread nD τ).loc main_arg5) = fun i => ((BS i : ℝ) : EReal))
  (hC : m ((c : Thread nD τ).loc main_arg6) = fun i => ((CT i : ℝ) : EReal))

def before9 (t : Fin cfg0.N) : FVec Ideal S8x2048 .f32 := if h : t.val % 8 = 0 then k0_pay4 else (outsAt0 (F := Ideal) m c (t.val - 1) (by omega)).2.2.2.1
def before10 (t : Fin cfg0.N) : FVec Ideal S8x4096 .f32 := if h : t.val % 8 = 0 then k0_pay5 else (outsAt0 (F := Ideal) m c (t.val - 1) (by omega)).2.2.2.2
set_option maxHeartbeats 8000000 in
include hH hI hG hB hW hS hC in
theorem steps (t : Fin cfg0.N) (i : Fin 8) (l : Fin 2048) (j : Fin 8) (k : Fin 4096) :
    (outsAt0 (F := Ideal) m c t.val t.isLt).1 = (fun y : S256x4096.Idx => ((dpre H BI LG LB WS BS CT (tr (at' t) (y 0)) (y 1) : ℝ) : EReal))
    ∧ (outsAt0 (F := Ideal) m c t.val t.isLt).2.2.2.1 (ix2 i l) = before9 m c t (ix2 i l) + T9 H BI WS CT (at' t) i l
    ∧ (outsAt0 (F := Ideal) m c t.val t.isLt).2.2.2.2 (ix2 j k) = before10 m c t (ix2 j k) + T10 H BI LG LB WS BS CT (at' t) j k := by
  unfold before9 before10
  rcases Classical.em (t.val % 8 = 0) with h | h
  on_goal 1 => rw [dif_pos h, dif_pos h, outsAt0_A m c t h]; dsimp only; unfold out0_A_6 out0_A_9 out0_A_10
  on_goal 2 => rw [dif_neg h, dif_neg h, outsAt0_B m c t h]; dsimp only; unfold out0_B_6 out0_B_9 out0_B_10
  all_goals
    frame_open
    simp (disch := decide) only [↓ View.readCov_skip, ↓ View.readCov_cons_toLoadRect, ↓ View.readCov_fill]
    frame_out
    simp only [b0 m c CT hC, b1 m c H BI hH hI, b2 m c LG hG, b3 m c LB hB, b4 m c WS hW, b5 m c BS hS]
    rw [readCov_blocks (G := fun y : S256x2048.Idx => ((dvn H BI WS CT (tr (at' t) (y 0)) (y 1) : ℝ) : EReal)) (size := ![128, 256])]
    on_goal 3 => rfl
    on_goal 2 =>
      refine ⟨?_, ?_, ?_, ?_, ?_, ?_, ?_, ?_, ?_, ?_, ?_, ?_, ?_, ?_, ?_, ?_, trivial⟩
      all_goals
        intro x
        obtain ⟨a, b, rfl⟩ : ∃ (a : Fin 128) (b : Fin 256), x = ix2 a b := ⟨x 0, x 1, eq_ix2 x⟩
        rw [emb2]
        dsimp only
        pointwise [QB, WB, k0_pay17, k0_pay20, k0_pay22, k0_pay24, k0_pay25, k0_pay26, k0_pay29, k0_pay31, k0_pay33, k0_pay34, k0_pay36, k0_pay39, k0_pay41, k0_pay43, k0_pay44, k0_pay45, k0_pay48, k0_pay50, k0_pay52, k0_pay53, k0_pay55, k0_pay58, k0_pay60, k0_pay62, k0_pay63, k0_pay66, k0_pay68, k0_pay70, k0_pay71, k0_pay75, k0_pay78, k0_pay80, k0_pay82, k0_pay83, k0_pay86, k0_pay88, k0_pay90, k0_pay91, k0_pay94, k0_pay97, k0_pay99, k0_pay101, k0_pay102, k0_pay106, k0_pay108, k0_pay110, k0_pay111, k0_pay114, k0_pay117, k0_pay119, k0_pay121, k0_pay122, k0_pay126, k0_pay128, k0_pay130, k0_pay131, k0_pay133, k0_pay136, k0_pay138, k0_pay140, k0_pay141, k0_pay145, k0_pay147, k0_pay149, k0_pay150, k0_pay152, k0_pay155, k0_pay157, k0_pay159, k0_pay160, k0_pay163, k0_pay165, k0_pay167, k0_pay168]
        simp (disch := rfl) only [u_at, mk_gen, ← EReal.coe_mul, sum_coe]
        rw [EReal.coe_eq_coe_iff]
      iterate 8
        exact dvn_at H BI WS CT (at' t) _ _ a _ (fun s => ⟨128 + s.val, by omega⟩) (by dsimp only; omega) (by simp; try omega) (by intro s; dsimp only; omega)
        exact dvn_at H BI WS CT (at' t) _ _ a _ (fun s => ⟨s.val, by omega⟩) (by dsimp only; omega) (by simp; try omega) (by intro s; dsimp only; omega)
    rw [readCov_blocks (G := fun y : S256x2048.Idx => ((du H BI LG LB WS BS CT (tr (at' t) (y 0)) (y 1) : ℝ) : EReal)) (size := ![128, 256])]
    on_goal 3 => rfl
    on_goal 2 =>
      refine ⟨?_, ?_, ?_, ?_, ?_, ?_, ?_, ?_, ?_, ?_, ?_, ?_, ?_, ?_, ?_, ?_, trivial⟩
      all_goals
        intro x
        obtain ⟨a, b, rfl⟩ : ∃ (a : Fin 128) (b : Fin 256), x = ix2 a b := ⟨x 0, x 1, eq_ix2 x⟩
        rw [emb2]
        dsimp only
        pointwise [QB, WB, BB, k0_pay17, k0_pay18, k0_pay19, k0_pay20, k0_pay21, k0_pay28, k0_pay29, k0_pay30, k0_pay36, k0_pay37, k0_pay38, k0_pay39, k0_pay40, k0_pay47, k0_pay48, k0_pay49, k0_pay55, k0_pay56, k0_pay57, k0_pay58, k0_pay59, k0_pay65, k0_pay66, k0_pay67, k0_pay75, k0_pay76, k0_pay77, k0_pay78, k0_pay79, k0_pay85, k0_pay86, k0_pay87, k0_pay94, k0_pay95, k0_pay96, k0_pay97, k0_pay98, k0_pay105, k0_pay106, k0_pay107, k0_pay114, k0_pay115, k0_pay116, k0_pay117, k0_pay118, k0_pay125, k0_pay126, k0_pay127, k0_pay133, k0_pay134, k0_pay135, k0_pay136, k0_pay137, k0_pay144, k0_pay145, k0_pay146, k0_pay152, k0_pay153, k0_pay154, k0_pay155, k0_pay156, k0_pay162, k0_pay163, k0_pay164]
        simp (disch := rfl) only [vn_at, mk_gen, ← EReal.coe_mul, sum_coe, ← EReal.coe_add]
        rw [EReal.coe_eq_coe_iff]
      iterate 8
        exact du_at H BI LG LB WS BS CT (at' t) _ _ a _ (fun s => ⟨128 + s.val, by omega⟩) (by dsimp only; omega) (by simp; try omega) (by intro s; dsimp only; omega)
        exact du_at H BI LG LB WS BS CT (at' t) _ _ a _ (fun s => ⟨s.val, by omega⟩) (by dsimp only; omega) (by simp; try omega) (by intro s; dsimp only; omega)
    refine ⟨funext fun y => block_eq H BI LG LB WS BS CT (at' t) y, ?_, ?_⟩
  · exact rows_step H BI WS CT (at' t) k0_pay4 i l
  · exact rowsIn_step H BI LG LB WS BS CT (at' t) k0_pay5 j k
  · refine (read_fill _ _ inb_S8x2048_S8x2048_0_0 _ _).trans ?_
    frame_out
    exact rows_step H BI WS CT (at' t) _ i l
  · refine (read_fill _ _ inb_S8x4096_S8x4096_0_0 _ _).trans ?_
    frame_out
    exact rowsIn_step H BI LG LB WS BS CT (at' t) _ j k
end
end Cert.Sgu

end
-- ==== Proof.SguOut.lean ====
module

public import proofs.«01_k».proof.Proof.Sgu7
public import proofs.«01_k».proof.Proof.SguPt
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Sgu
open Cert.SguIdeal Cert.SguIdeal.Gen Cert.Sc Cert.LN

/-- The window of a point. -/
def wn (t : Fin 8) (w : Fin 2) : Fin 16 := ⟨t.val * 2 + w.val, by omega⟩
theorem row_fst (t : Fin 8) (a : Fin 128) : row (wn t 0) a = tr t ⟨a.val, by omega⟩ := Fin.ext (by show (t.val * 2 + 0) * 128 + a.val = t.val * 256 + a.val; omega)
theorem row_snd (t : Fin 8) (a : Fin 128) : row (wn t 1) a = tr t ⟨128 + a.val, by omega⟩ := Fin.ext (by show (t.val * 2 + 1) * 128 + a.val = t.val * 256 + (128 + a.val); omega)
theorem sum_wn (f : Fin 16 → ℝ) : ∑ n, f n = ∑ t : Fin 8, (f (wn t 0) + f (wn t 1)) :=
  (Fin.sum_univ_tiles 8 2 rfl f).trans (Finset.sum_congr rfl fun t _ => Fin.sum_univ_two _)
theorem sum_tr (f : Fin 2048 → ℝ) : ∑ r, f r = ∑ t : Fin 8, ∑ r : Fin 256, f (tr t r) := Fin.sum_univ_tiles 8 256 rfl f

section
variable (m : (ℓ : Loc nD τ sig) → Buf (Elt Ideal) ℓ) (c : Dev nD)
variable (H : S1x2048x4096.Idx → ℝ) (BI : S4096.Idx → ℝ) (LG LB : S2048.Idx → ℝ) (WS : S8x128x128.Idx → ℝ) (BS : S8x128.Idx → ℝ) (CT : S1x2048x2048.Idx → ℝ)
  (hH : m ((c : Thread nD τ).loc main_arg0) = fun i => ((H i : ℝ) : EReal)) (hI : m ((c : Thread nD τ).loc main_arg1) = fun i => ((BI i : ℝ) : EReal))
  (hG : m ((c : Thread nD τ).loc main_arg2) = fun i => ((LG i : ℝ) : EReal)) (hB : m ((c : Thread nD τ).loc main_arg3) = fun i => ((LB i : ℝ) : EReal))
  (hW : m ((c : Thread nD τ).loc main_arg4) = fun i => ((WS i : ℝ) : EReal)) (hS : m ((c : Thread nD τ).loc main_arg5) = fun i => ((BS i : ℝ) : EReal))
  (hC : m ((c : Thread nD τ).loc main_arg6) = fun i => ((CT i : ℝ) : EReal))

include hH hI hG hB hW hS hC in
theorem final6 : (dats m 0 c).arrAt 6 (cfgs 0).N = fun j : S2048x4096.Idx => ((dpre H BI LG LB WS BS CT (j 0) (j 1) : ℝ) : EReal) := by
  refine (dats m 0 c).arrAt_eq_of_covers 6 _ (by decide +kernel) fun t _ y => ?_
  have key : ∀ (a : Fin 2048) (b : Fin 4096), a = tr (at' t) (y 0) → b = y 1 →
      (outsAt0 (F := Ideal) m c t.val t.isLt).1 y = ((dpre H BI LG LB WS BS CT a b : ℝ) : EReal) := by
    rintro _ _ rfl rfl
    exact congrFun (steps m c H BI LG LB WS BS CT hH hI hG hB hW hS hC t 0 0 0 0).1 y
  refine Eq.trans ?_ (key _ _ (Fin.ext (by blk_simp [idx t]; show _ = t.val * 256 + (y 0).val; omega)) (Fin.ext (by blk_simp [idx t])))
  rw [after0_6]
  generalize (outsAt0 (F := Ideal) m c t.val t.isLt).1 = w
  frame_out
  try rfl

include hH hI hG hB hW hS hC in
theorem final7 : (dats m 0 c).arrAt 7 (cfgs 0).N = fun j : S8x128x128.Idx => ((dws H BI LG LB CT (j 0) (j 1) (j 2) : ℝ) : EReal) := by
  refine (dats m 0 c).arrAt_eq_of_after_last 7 t0_7 (by decide +kernel) _ fun j => ?_
  blk_simp
  rw [after0_7, Pipeline.eq_sum_fin_of_reset_step_apply_last (fun n h => (outsAt0 (F := Ideal) m c n h).2.1) 8 (fun _ => 0) (fun (t : Fin cfg0.N) (j : S8x128x128.Idx) => T7 H BI LG LB CT (at' t) (j 0) (j 1) (j 2))
    (fun t h j => by
      have e : before7 m c t j = 0 := by unfold before7; rw [dif_pos h]; obtain ⟨g, a, s, rfl⟩ : ∃ (g : Fin 8) (a s : Fin 128), j = ix3 g a s := ⟨j 0, j 1, j 2, eq_ix3 j⟩; pointwise [k0_pay2]
      have s := step7 m c H BI LG LB CT hH hI hG hB hC t j
      exact s.trans (congrArg (fun z : EReal => z + _) e))
    (fun t h j => by
      have e : before7 m c t = (outsAt0 (F := Ideal) m c (t.val - 1) (by omega)).2.1 := by unfold before7; rw [dif_neg h]
      have s := step7 m c H BI LG LB CT hH hI hG hB hC t j
      exact s.trans (congrArg (fun z : EReal => z + _) (congrFun e j)))
    (le_of_eq N_0) t0_7 rfl j]
  obtain ⟨g, a, s, rfl⟩ : ∃ (g : Fin 8) (a s : Fin 128), j = ix3 g a s := ⟨j 0, j 1, j 2, eq_ix3 j⟩
  show 0 + ∑ t : Fin 8, T7 H BI LG LB CT t g a s = ((dws H BI LG LB CT g a s : ℝ) : EReal)
  unfold T7 dws ds
  rw [zero_add, sum_wn]
  simp only [← EReal.coe_add, sum_coe, row_fst, row_snd]
  rw [EReal.coe_eq_coe_iff, Finset.sum_mul]
  refine Finset.sum_congr rfl fun t _ => ?_
  rw [add_mul]
  exact congrArg₂ (fun x y : ℝ => x * msk a s + y * msk a s) (Finset.sum_congr rfl fun x _ => by ring) (Finset.sum_congr rfl fun x _ => by ring)

include hH hI hG hB hW hS hC in
theorem final8 : (dats m 0 c).arrAt 8 (cfgs 0).N = fun j : S128x2048.Idx => ((dss H BI CT (j 0) (j 1) : ℝ) : EReal) := by
  refine (dats m 0 c).arrAt_eq_of_after_last 8 t0_7 (by decide +kernel) _ fun j => ?_
  blk_simp
  rw [after0_8, Pipeline.eq_sum_fin_of_reset_step_apply_last (fun n h => (outsAt0 (F := Ideal) m c n h).2.2.1) 8 (fun _ => 0) (fun (t : Fin cfg0.N) (j : S128x2048.Idx) => T8 H BI CT (at' t) (j 0) (j 1))
    (fun t h j => by
      have e : before8 m c t j = 0 := by unfold before8; rw [dif_pos h]; obtain ⟨i, l, rfl⟩ : ∃ (i : Fin 128) (l : Fin 2048), j = ix2 i l := ⟨j 0, j 1, eq_ix2 j⟩; pointwise [k0_pay3]
      have s := step8 m c H BI CT hH hI hC t j
      exact s.trans (congrArg (fun z : EReal => z + _) e))
    (fun t h j => by
      have e : before8 m c t = (outsAt0 (F := Ideal) m c (t.val - 1) (by omega)).2.2.1 := by unfold before8; rw [dif_neg h]
      have s := step8 m c H BI CT hH hI hC t j
      exact s.trans (congrArg (fun z : EReal => z + _) (congrFun e j)))
    (le_of_eq N_0) t0_7 rfl j]
  obtain ⟨i, l, rfl⟩ : ∃ (i : Fin 128) (l : Fin 2048), j = ix2 i l := ⟨j 0, j 1, eq_ix2 j⟩
  show 0 + ∑ t : Fin 8, T8 H BI CT t i l = ((dss H BI CT i l : ℝ) : EReal)
  unfold T8 dss
  rw [zero_add, sum_wn]
  simp only [← EReal.coe_add, sum_coe, row_fst, row_snd]

include hH hI hG hB hW hS hC in
theorem final9 : (dats m 0 c).arrAt 9 (cfgs 0).N = fun j : S8x2048.Idx => rows H BI WS CT (j 0) (j 1) := by
  refine (dats m 0 c).arrAt_eq_of_after_last 9 t0_7 (by decide +kernel) _ fun j => ?_
  blk_simp
  rw [after0_9, Pipeline.eq_sum_fin_of_reset_step_apply_last (fun n h => (outsAt0 (F := Ideal) m c n h).2.2.2.1) 8 (fun _ => 0) (fun (t : Fin cfg0.N) (j : S8x2048.Idx) => T9 H BI WS CT (at' t) (j 0) (j 1))
    (fun t h j => by
      have e : before9 m c t j = 0 := by unfold before9; rw [dif_pos h]; obtain ⟨i, l, rfl⟩ : ∃ (i : Fin 8) (l : Fin 2048), j = ix2 i l := ⟨j 0, j 1, eq_ix2 j⟩; pointwise [k0_pay4]
      have s : (outsAt0 (F := Ideal) m c t.val t.isLt).2.2.2.1 j = before9 m c t j + T9 H BI WS CT (at' t) (j 0) (j 1) := by
        obtain ⟨i, l, rfl⟩ : ∃ (i : Fin 8) (l : Fin 2048), j = ix2 i l := ⟨j 0, j 1, eq_ix2 j⟩
        exact (steps m c H BI LG LB WS BS CT hH hI hG hB hW hS hC t i l 0 0).2.1
      exact s.trans (congrArg (fun z : EReal => z + _) e))
    (fun t h j => by
      have e : before9 m c t = (outsAt0 (F := Ideal) m c (t.val - 1) (by omega)).2.2.2.1 := by unfold before9; rw [dif_neg h]
      have s : (outsAt0 (F := Ideal) m c t.val t.isLt).2.2.2.1 j = before9 m c t j + T9 H BI WS CT (at' t) (j 0) (j 1) := by
        obtain ⟨i, l, rfl⟩ : ∃ (i : Fin 8) (l : Fin 2048), j = ix2 i l := ⟨j 0, j 1, eq_ix2 j⟩
        exact (steps m c H BI LG LB WS BS CT hH hI hG hB hW hS hC t i l 0 0).2.1
      exact s.trans (congrArg (fun z : EReal => z + _) (congrFun e j)))
    (le_of_eq N_0) t0_7 rfl j]
  obtain ⟨i, l, rfl⟩ : ∃ (i : Fin 8) (l : Fin 2048), j = ix2 i l := ⟨j 0, j 1, eq_ix2 j⟩
  show 0 + ∑ t : Fin 8, T9 H BI WS CT t i l = rows H BI WS CT i l
  unfold T9 rows
  rw [zero_add]
  simp only [sum_tr]
  split_ifs
  · exact sum_coe _ _
  · exact sum_coe _ _
  · exact Finset.sum_const_zero

include hH hI hG hB hW hS hC in
theorem final10 : (dats m 0 c).arrAt 10 (cfgs 0).N = fun j : S8x4096.Idx => rowsIn H BI LG LB WS BS CT (j 0) (j 1) := by
  refine (dats m 0 c).arrAt_eq_of_after_last 10 t0_7 (by decide +kernel) _ fun j => ?_
  blk_simp
  rw [after0_10, Pipeline.eq_sum_fin_of_reset_step_apply_last (fun n h => (outsAt0 (F := Ideal) m c n h).2.2.2.2) 8 (fun _ => 0) (fun (t : Fin cfg0.N) (j : S8x4096.Idx) => T10 H BI LG LB WS BS CT (at' t) (j 0) (j 1))
    (fun t h j => by
      have e : before10 m c t j = 0 := by unfold before10; rw [dif_pos h]; obtain ⟨i, l, rfl⟩ : ∃ (i : Fin 8) (l : Fin 4096), j = ix2 i l := ⟨j 0, j 1, eq_ix2 j⟩; pointwise [k0_pay5]
      have s : (outsAt0 (F := Ideal) m c t.val t.isLt).2.2.2.2 j = before10 m c t j + T10 H BI LG LB WS BS CT (at' t) (j 0) (j 1) := by
        obtain ⟨i, l, rfl⟩ : ∃ (i : Fin 8) (l : Fin 4096), j = ix2 i l := ⟨j 0, j 1, eq_ix2 j⟩
        exact (steps m c H BI LG LB WS BS CT hH hI hG hB hW hS hC t 0 0 i l).2.2
      exact s.trans (congrArg (fun z : EReal => z + _) e))
    (fun t h j => by
      have e : before10 m c t = (outsAt0 (F := Ideal) m c (t.val - 1) (by omega)).2.2.2.2 := by unfold before10; rw [dif_neg h]
      have s : (outsAt0 (F := Ideal) m c t.val t.isLt).2.2.2.2 j = before10 m c t j + T10 H BI LG LB WS BS CT (at' t) (j 0) (j 1) := by
        obtain ⟨i, l, rfl⟩ : ∃ (i : Fin 8) (l : Fin 4096), j = ix2 i l := ⟨j 0, j 1, eq_ix2 j⟩
        exact (steps m c H BI LG LB WS BS CT hH hI hG hB hW hS hC t 0 0 i l).2.2
      exact s.trans (congrArg (fun z : EReal => z + _) (congrFun e j)))
    (le_of_eq N_0) t0_7 rfl j]
  obtain ⟨i, l, rfl⟩ : ∃ (i : Fin 8) (l : Fin 4096), j = ix2 i l := ⟨j 0, j 1, eq_ix2 j⟩
  show 0 + ∑ t : Fin 8, T10 H BI LG LB WS BS CT t i l = rowsIn H BI LG LB WS BS CT i l
  unfold T10 rowsIn
  rw [zero_add]
  simp only [sum_tr]
  split_ifs
  · exact sum_coe _ _
  · exact Finset.sum_const_zero
end
end Cert.Sgu

end
-- ==== Proof.LNE.lean ====
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The layer norm of a row of 1024 extended reals, as its operations compute it. -/

namespace Cert.LNE

section
variable (f : Fin 1024 → EReal)
def mean : EReal := Ideal.div (∑ k, f k) (Ideal.ofBits .f32 0x44800000#32)
def rs : EReal := Ideal.rsqrt (Ideal.div (∑ k, (f k - mean f) * (f k - mean f)) (Ideal.ofBits .f32 0x44800000#32) + Ideal.ofBits .f32 0x3727C5AC#32)
def xh (d : Fin 1024) : EReal := (f d - mean f) * rs f
end

end Cert.LNE

end
-- ==== Proof.FfnLn.lean ====
module

public import proofs.«01_k».proof.Proof.Gen.FfnLnIdeal.Value
public import proofs.«01_k».proof.Proof.Gen.FfnLnRefIdeal.Run
public import proofs.«01_k».proof.Proof.Gen.FfnLnRefIdeal.Read
public import proofs.«01_k».proof.Proof.LNE
public import proofs.«01_k».proof.Proof.Scalars
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnLn
open Cert.FfnLnIdeal Cert.FfnLnIdeal.Gen Cert.LNE Cert.Sc

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

def row (t : Fin cfg0.N) (i : Fin 256) : Fin 2048 := ⟨t.val * 256 + i.val, by have := t.isLt; change t.val < 8 at this; omega⟩

section
variable (A : FVec Ideal FfnLnRefIdeal.S1x2048x5632 .f32) (W : FVec Ideal FfnLnRefIdeal.S2816x1024 .f32) (X : FVec Ideal FfnLnRefIdeal.S1x2048x1024 .f32) (M : FVec Ideal FfnLnRefIdeal.S1x1x1024 .f32) (G B : FVec Ideal FfnLnRefIdeal.S1024 .f32)

def left (n : Fin 2816) : Fin 5632 := ⟨n.val, by omega⟩
def right (n : Fin 2816) : Fin 5632 := ⟨2816 + n.val, by omega⟩

/-- The hidden row, its product, and the row with its residual. -/
def act (r : Fin 2048) (n : Fin 2816) : EReal := A (ix3 0 r (left n)) * Ideal.div 1 (1 + Ideal.exp (-(A (ix3 0 r (left n))))) * A (ix3 0 r (right n))
def y (r : Fin 2048) (d : Fin 1024) : EReal := ∑ k : Fin 2816, act A r k * W (ix2 k d)
def gw (d : Fin 1024) : EReal := Ideal.ofBits .f32 0x3F000000#32 * (1 + M (ix3 0 0 d))
def z (r : Fin 2048) (d : Fin 1024) : EReal := Ideal.ofBits .f32 0x3FD744FD#32 * X (ix3 0 r d) + gw M d * y A W r d

open Cert.FfnLnRefIdeal.Read
theorem v5_at (r : Fin 2048) (n : Fin 2816) : val_main_v5 (F := Ideal) A (ix3 0 r n) = act A r n := by
  pointwise [val_main_v5,val_main_v4,val_main_v3,val_main_v2,val_main_call0_v5,val_main_call0_v4,val_main_call0_v3,val_main_call0_v2,val_main_call0_v1,val_main_call0_v0,val_main_call0_cst,val_main_call0_cst_0]
  rfl
theorem v6_at (r : Fin 2048) (d : Fin 1024) : val_main_v6 (F := Ideal) A W (ix3 0 r d) = y A W r d := by
  pointwise [val_main_v6]
  simp only [v5_at]
  rfl
theorem v13_at (r : Fin 2048) (d : Fin 1024) : val_main_v13 (F := Ideal) A W X M (ix3 0 r d) = z A W X M r d := by
  pointwise [val_main_v13,val_main_v12,val_main_v11,val_main_v10,val_main_v9,val_main_v8,val_main_v7,val_main_v1,val_main_v0,val_main_cst,val_main_cst_0,val_main_cst_1]
  simp only [v6_at]
  rfl
theorem ref_act : val_main_v62 (F := Ideal) A = fun j : S2048x2816.Idx => act A (j 0) (j 1) := by
  funext j
  obtain ⟨r, d, rfl⟩ : ∃ (r : Fin 2048) (d : Fin 2816), j = ix2 r d := ⟨j 0, j 1, eq_ix2 j⟩
  pointwise [val_main_v62,val_main_v61]
  exact v5_at A r d
theorem ref_y : val_main_v60 (F := Ideal) A W = fun j : S2048x1024.Idx => y A W (j 0) (j 1) := by
  funext j
  obtain ⟨r, d, rfl⟩ : ∃ (r : Fin 2048) (d : Fin 1024), j = ix2 r d := ⟨j 0, j 1, eq_ix2 j⟩
  pointwise [val_main_v60,val_main_v59]
  exact v6_at A W r d
theorem ref_rs : val_main_v58 (F := Ideal) A W X M = fun j : S2048x1.Idx => rs (z A W X M (j 0)) := by
  funext j
  obtain ⟨r, d, rfl⟩ : ∃ (r : Fin 2048) (d : Fin 1), j = ix2 r d := ⟨j 0, j 1, eq_ix2 j⟩
  pointwise [val_main_v58,val_main_v14,val_main_v15,val_main_v16,val_main_v17,val_main_v18,val_main_v19,val_main_v20,val_main_v21,val_main_v22,val_main_v23,val_main_v24,val_main_v25,val_main_v26,val_main_v27,val_main_cst_0,val_main_cst_1,val_main_cst_2,val_main_cst_3,val_main_cst_4,val_main_cst_5,val_main_cst_6,val_main_cst_7,val_main_cst_8,val_main_cst_9,val_main_cst_10,val_main_cst_11]
  simp only [v13_at]
  rfl
theorem ref_xh : val_main_v57 (F := Ideal) A W X M = fun j : S2048x1024.Idx => xh (z A W X M (j 0)) (j 1) := by
  funext j
  obtain ⟨r, d, rfl⟩ : ∃ (r : Fin 2048) (d : Fin 1024), j = ix2 r d := ⟨j 0, j 1, eq_ix2 j⟩
  pointwise [val_main_v53,val_main_v54,val_main_v55,val_main_v56,val_main_v57,val_main_v14,val_main_v15,val_main_v16,val_main_v17,val_main_v18,val_main_v19,val_main_v20,val_main_v21,val_main_v22,val_main_v23,val_main_v24,val_main_v25,val_main_v26,val_main_v27,val_main_cst_0,val_main_cst_1,val_main_cst_2,val_main_cst_3,val_main_cst_4,val_main_cst_5,val_main_cst_6,val_main_cst_7,val_main_cst_8,val_main_cst_9,val_main_cst_10,val_main_cst_11]
  simp only [v13_at]
  rfl
theorem ref_xn : val_main_v52 (F := Ideal) A W X M G B = fun j : S2048x1024.Idx => xh (z A W X M (j 0)) (j 1) * G (ix1 (j 1)) + B (ix1 (j 1)) := by
  funext j
  obtain ⟨r, d, rfl⟩ : ∃ (r : Fin 2048) (d : Fin 1024), j = ix2 r d := ⟨j 0, j 1, eq_ix2 j⟩
  pointwise [val_main_v28,val_main_v29,val_main_v30,val_main_v31,val_main_v32,val_main_v33,val_main_v34,val_main_v35,val_main_v36,val_main_v37,val_main_v38,val_main_v39,val_main_v40,val_main_v41,val_main_v42,val_main_v43,val_main_v44,val_main_v45,val_main_v46,val_main_v47,val_main_v48,val_main_v49,val_main_v50,val_main_v51,val_main_v52,val_main_cst_0,val_main_cst_1,val_main_cst_2,val_main_cst_3,val_main_cst_4,val_main_cst_5,val_main_cst_6,val_main_cst_7,val_main_cst_8,val_main_cst_9,val_main_cst_10,val_main_cst_11]
  simp only [v13_at]
  rfl
end

variable (m : (ℓ : Loc nD τ sig) → Buf (Elt Ideal) ℓ) (c : Dev nD)

abbrev A0 : FVec Ideal FfnLnRefIdeal.S1x2048x5632 .f32 := m ((c : Thread nD τ).loc main_arg0)
abbrev A1 : FVec Ideal FfnLnRefIdeal.S2816x1024 .f32 := m ((c : Thread nD τ).loc main_arg1)
abbrev A2 : FVec Ideal FfnLnRefIdeal.S1x2048x1024 .f32 := m ((c : Thread nD τ).loc main_arg2)
abbrev A3 : FVec Ideal FfnLnRefIdeal.S1x1x1024 .f32 := m ((c : Thread nD τ).loc main_arg3)
abbrev A4 : FVec Ideal FfnLnRefIdeal.S1024 .f32 := m ((c : Thread nD τ).loc main_arg4)
abbrev A5 : FVec Ideal FfnLnRefIdeal.S1024 .f32 := m ((c : Thread nD τ).loc main_arg5)

section
variable (t : Fin cfg0.N)
theorem b0 (r : Fin 256) (k : Fin 5632) : iblk m c 0 t (ix2 r k) = A0 m c (ix3 0 (row t r) k) := by
  unfold row; blk_point [iblk, V, idx t]
theorem b1 (k : Fin 2816) (d : Fin 1024) : iblk m c 1 t (ix2 k d) = A1 m c (ix2 k d) := by
  blk_point [iblk, V, idx t]
theorem b2 (r : Fin 256) (d : Fin 1024) : iblk m c 2 t (ix2 r d) = A2 m c (ix3 0 (row t r) d) := by
  unfold row; blk_point [iblk, V, idx t]
theorem b3 (d : Fin 1024) : iblk m c 3 t (ix2 0 d) = gw (A3 m c) d := by
  refine Eq.trans (b := V m c main_v4 (ix2 0 d)) ?_ ?_
  · blk_point [iblk, idx t]
  · entry_read; pointwise
    rfl
theorem b4 (d : Fin 1024) : iblk m c 4 t (ix2 0 d) = A4 m c (ix1 d) := by
  blk_point [iblk, V, idx t]
theorem b5 (d : Fin 1024) : iblk m c 5 t (ix2 0 d) = A5 m c (ix1 d) := by
  blk_point [iblk, V, idx t]

abbrev P0 : FVec Ideal S256x2816 .bf16 := View.ld (Val := Elt Ideal) (e' := .bf16) (iblk m c 0 t) (Rect.unit (s := S256x5632) ![0, 0] ![256, 2816] inb_S256x5632_S256x2816_0_0)
abbrev P1 : FVec Ideal S256x2816 .bf16 := View.ld (Val := Elt Ideal) (e' := .bf16) (iblk m c 0 t) (Rect.unit (s := S256x5632) ![0, 2816] ![256, 2816] inb_S256x5632_S256x2816_0_2816)
theorem p0 (r : Fin 256) (n : Fin 2816) : P0 m c t (ix2 r n) = A0 m c (ix3 0 (row t r) (left n)) := by
  refine (congrArg (iblk m c 0 t) ?_).trans (b0 m c t r (left n))
  unfold left
  blk_ext <;> simp [LoadRect.idx, Rect.unit]
theorem p1 (r : Fin 256) (n : Fin 2816) : P1 m c t (ix2 r n) = A0 m c (ix3 0 (row t r) (right n)) := by
  refine (congrArg (iblk m c 0 t) ?_).trans (b0 m c t r (right n))
  unfold right
  blk_ext <;> simp [LoadRect.idx, Rect.unit]

theorem act_at (r : Fin 256) (n : Fin 2816) : k0_pay5 (F := Ideal) (P0 m c t) (P1 m c t) (ix2 r n) = act (A0 m c) (row t r) n := by
  pointwise [k0_pay5]
  rw [p0, p1, half_bf16, ← half, sigmoid]
  rfl
theorem y_at (r : Fin 256) (d : Fin 1024) : k0_pay6 (F := Ideal) (P0 m c t) (P1 m c t) (iblk m c 1 t) (ix2 r d) = y (A0 m c) (A1 m c) (row t r) d := by
  pointwise [k0_pay6]
  simp only [act_at, b1]
  rfl
theorem zc_at (r : Fin 256) (d : Fin 1024) : k0_pay7 (F := Ideal) (P0 m c t) (P1 m c t) (iblk m c 1 t) (iblk m c 2 t) (iblk m c 3 t) (ix2 r d)
    = z (A0 m c) (A1 m c) (A2 m c) (A3 m c) (row t r) d - mean (z (A0 m c) (A1 m c) (A2 m c) (A3 m c) (row t r)) := by
  pointwise [k0_pay7]
  simp only [y_at, b2, b3]
  rfl
abbrev Z : FVec Ideal S256x1024 .f32 := k0_pay7 (F := Ideal) (P0 m c t) (P1 m c t) (iblk m c 1 t) (iblk m c 2 t) (iblk m c 3 t)
abbrev VV : FVec Ideal S256x1 .f32 := k0_pay8 (F := Ideal) (P0 m c t) (P1 m c t) (iblk m c 1 t) (iblk m c 2 t) (iblk m c 3 t)
theorem rs_at (r : Fin 256) (d : Fin 1) : k0_pay1 (VV m c t) (ix2 r d) = rs (z (A0 m c) (A1 m c) (A2 m c) (A3 m c) (row t r)) := by
  pointwise [k0_pay1, k0_pay8]
  simp only [zc_at]
  rfl
theorem xh_at (r : Fin 256) (d : Fin 1024) : k0_pay2 (Z m c t) (VV m c t) (ix2 r d) = xh (z (A0 m c) (A1 m c) (A2 m c) (A3 m c) (row t r)) d := by
  pointwise [k0_pay2]
  exact congrArg₂ (· * ·) (zc_at m c t r d) (rs_at m c t r 0)
theorem xn_at (r : Fin 256) (d : Fin 1024) : k0_pay3 (Z m c t) (VV m c t) (iblk m c 4 t) (iblk m c 5 t) (ix2 r d)
    = xh (z (A0 m c) (A1 m c) (A2 m c) (A3 m c) (row t r)) d * A4 m c (ix1 d) + A5 m c (ix1 d) := by
  pointwise [k0_pay3]
  rw [xh_at, b4, b5]
end

theorem final6 : (dats m 0 c).arrAt 6 (cfgs 0).N = fun j : S2048x1024.Idx => xh (z (A0 m c) (A1 m c) (A2 m c) (A3 m c) (j 0)) (j 1) * A4 m c (ix1 (j 1)) + A5 m c (ix1 (j 1)) := by
  refine (dats m 0 c).arrAt_eq_of_covers 6 _ (by decide +kernel) fun t _ y => ?_
  have key : ∀ (a : Fin 2048) (b : Fin 1024), a = row t (y 0) → b = y 1 →
      k0_pay3 (Z m c t) (VV m c t) (iblk m c 4 t) (iblk m c 5 t) y = xh (z (A0 m c) (A1 m c) (A2 m c) (A3 m c) a) b * A4 m c (ix1 b) + A5 m c (ix1 b) := by
    rintro _ _ rfl rfl
    obtain ⟨r, d, rfl⟩ : ∃ (r : Fin 256) (d : Fin 1024), y = ix2 r d := ⟨y 0, y 1, eq_ix2 y⟩
    exact xn_at m c t r d
  refine Eq.trans ?_ (key _ _ (Fin.ext (by blk_simp [idx t]; show _ = t.val * 256 + (y 0).val; omega)) (Fin.ext (by blk_simp [idx t])))
  rw [after0_6]; unfold_out out0_6; frame_out
  rfl
theorem final7 : (dats m 0 c).arrAt 7 (cfgs 0).N = fun j : S2048x1024.Idx => xh (z (A0 m c) (A1 m c) (A2 m c) (A3 m c) (j 0)) (j 1) := by
  refine (dats m 0 c).arrAt_eq_of_covers 7 _ (by decide +kernel) fun t _ y => ?_
  have key : ∀ (a : Fin 2048) (b : Fin 1024), a = row t (y 0) → b = y 1 →
      k0_pay2 (Z m c t) (VV m c t) y = xh (z (A0 m c) (A1 m c) (A2 m c) (A3 m c) a) b := by
    rintro _ _ rfl rfl
    obtain ⟨r, d, rfl⟩ : ∃ (r : Fin 256) (d : Fin 1024), y = ix2 r d := ⟨y 0, y 1, eq_ix2 y⟩
    exact xh_at m c t r d
  refine Eq.trans ?_ (key _ _ (Fin.ext (by blk_simp [idx t]; show _ = t.val * 256 + (y 0).val; omega)) (Fin.ext (by blk_simp [idx t])))
  rw [after0_7]; unfold_out out0_7; frame_out
  rfl
theorem final8 : (dats m 0 c).arrAt 8 (cfgs 0).N = fun j : S2048x1.Idx => rs (z (A0 m c) (A1 m c) (A2 m c) (A3 m c) (j 0)) := by
  refine (dats m 0 c).arrAt_eq_of_covers 8 _ (by decide +kernel) fun t _ y => ?_
  have key : ∀ (a : Fin 2048), a = row t (y 0) →
      k0_pay1 (VV m c t) y = rs (z (A0 m c) (A1 m c) (A2 m c) (A3 m c) a) := by
    rintro _ rfl
    obtain ⟨r, d, rfl⟩ : ∃ (r : Fin 256) (d : Fin 1), y = ix2 r d := ⟨y 0, y 1, eq_ix2 y⟩
    exact rs_at m c t r d
  refine Eq.trans ?_ (key _ (Fin.ext (by blk_simp [idx t]; show _ = t.val * 256 + (y 0).val; omega)))
  rw [after0_8]; unfold_out out0_8; frame_out
  rfl
theorem final9 : (dats m 0 c).arrAt 9 (cfgs 0).N = fun j : S2048x1024.Idx => y (A0 m c) (A1 m c) (j 0) (j 1) := by
  refine (dats m 0 c).arrAt_eq_of_covers 9 _ (by decide +kernel) fun t _ v => ?_
  have key : ∀ (a : Fin 2048) (b : Fin 1024), a = row t (v 0) → b = v 1 →
      k0_pay4 (k0_pay6 (F := Ideal) (P0 m c t) (P1 m c t) (iblk m c 1 t)) v = y (A0 m c) (A1 m c) a b := by
    rintro _ _ rfl rfl
    obtain ⟨r, d, rfl⟩ : ∃ (r : Fin 256) (d : Fin 1024), v = ix2 r d := ⟨v 0, v 1, eq_ix2 v⟩
    exact y_at m c t r d
  refine Eq.trans ?_ (key _ _ (Fin.ext (by blk_simp [idx t]; show _ = t.val * 256 + (v 0).val; omega)) (Fin.ext (by blk_simp [idx t])))
  rw [after0_9]; unfold out0_9; frame_out
  rfl

theorem final10 : (dats m 0 c).arrAt 10 (cfgs 0).N = fun j : S2048x2816.Idx => act (A0 m c) (j 0) (j 1) := by
  refine (dats m 0 c).arrAt_eq_of_covers 10 _ (by decide +kernel) fun t _ v => ?_
  have key : ∀ (a : Fin 2048) (b : Fin 2816), a = row t (v 0) → b = v 1 → k0_pay5 (F := Ideal) (P0 m c t) (P1 m c t) v = act (A0 m c) a b := by
    rintro _ _ rfl rfl
    obtain ⟨r, d, rfl⟩ : ∃ (r : Fin 256) (d : Fin 2816), v = ix2 r d := ⟨v 0, v 1, eq_ix2 v⟩
    exact act_at m c t r d
  refine Eq.trans ?_ (key _ _ (Fin.ext (by blk_simp [idx t]; show _ = t.val * 256 + (v 0).val; omega)) (Fin.ext (by blk_simp [idx t])))
  rw [after0_10]; unfold out0_10; frame_out
  rfl

end Cert.FfnLn

end
-- ==== Proof.MixLn.lean ====
module

public import proofs.«01_k».proof.Proof.Gen.MixLnIdeal.Value
public import proofs.«01_k».proof.Proof.Gen.MixLnRefIdeal.Run
public import proofs.«01_k».proof.Proof.Gen.MixLnRefIdeal.Read
public import proofs.«01_k».proof.Proof.LNE
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixLn
open Cert.MixLnIdeal Cert.MixLnIdeal.Gen Cert.LNE

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] :=
  (by decide +kernel : ∀ t : Fin grid0.N, _)

def row (t : Fin cfg0.N) (i : Fin 256) : Fin 2048 := ⟨t.val * 256 + i.val, by have := t.isLt; change t.val < 8 at this; omega⟩

section
variable (A : FVec Ideal MixLnRefIdeal.S1x2048x2048 .f32) (W : FVec Ideal MixLnRefIdeal.S2048x1024 .f32) (X : FVec Ideal MixLnRefIdeal.S1x2048x1024 .f32) (M : FVec Ideal MixLnRefIdeal.S1x1x1024 .f32) (G B : FVec Ideal MixLnRefIdeal.S1024 .f32)

/-- The mixer's product, and the row with its residual. -/
def y (r : Fin 2048) (d : Fin 1024) : EReal := ∑ k : Fin 2048, A (ix3 0 r k) * W (ix2 k d)
def z (r : Fin 2048) (d : Fin 1024) : EReal := Ideal.ofBits .f32 0x3FD744FD#32 * X (ix3 0 r d) + (1 + M (ix3 0 0 d)) * y A W r d

open Cert.MixLnRefIdeal.Read
theorem v7_at (r : Fin 2048) (d : Fin 1024) : val_main_v7 (F := Ideal) A W X M (ix3 0 r d) = z A W X M r d := by
  pointwise [val_main_v7,val_main_v6,val_main_v5,val_main_v4,val_main_v3,val_main_v2,val_main_v1,val_main_v0,val_main_cst_0,val_main_cst]
  rfl
theorem ref_y : val_main_v54 (F := Ideal) A W = fun j : S2048x1024.Idx => y A W (j 0) (j 1) := by
  funext j
  obtain ⟨r, d, rfl⟩ : ∃ (r : Fin 2048) (d : Fin 1024), j = ix2 r d := ⟨j 0, j 1, eq_ix2 j⟩
  pointwise [val_main_v54,val_main_v53,val_main_v2]
  rfl
theorem ref_rs : val_main_v52 (F := Ideal) A W X M = fun j : S2048x1.Idx => rs (z A W X M (j 0)) := by
  funext j
  obtain ⟨r, d, rfl⟩ : ∃ (r : Fin 2048) (d : Fin 1), j = ix2 r d := ⟨j 0, j 1, eq_ix2 j⟩
  pointwise [val_main_v52,val_main_v8,val_main_v9,val_main_v10,val_main_v11,val_main_v12,val_main_v13,val_main_v14,val_main_v15,val_main_v16,val_main_v17,val_main_v18,val_main_v19,val_main_v20,val_main_v21,val_main_cst_1,val_main_cst_2,val_main_cst_3,val_main_cst_4,val_main_cst_5,val_main_cst_6,val_main_cst_7,val_main_cst_8,val_main_cst_9,val_main_cst_10]
  simp only [v7_at]
  rfl
theorem ref_xh : val_main_v51 (F := Ideal) A W X M = fun j : S2048x1024.Idx => xh (z A W X M (j 0)) (j 1) := by
  funext j
  obtain ⟨r, d, rfl⟩ : ∃ (r : Fin 2048) (d : Fin 1024), j = ix2 r d := ⟨j 0, j 1, eq_ix2 j⟩
  pointwise [val_main_v51,val_main_v50,val_main_v49,val_main_v48,val_main_v47,val_main_v8,val_main_v9,val_main_v10,val_main_v11,val_main_v12,val_main_v13,val_main_v14,val_main_v15,val_main_v16,val_main_v17,val_main_v18,val_main_v19,val_main_v20,val_main_v21,val_main_cst_1,val_main_cst_2,val_main_cst_3,val_main_cst_4,val_main_cst_5,val_main_cst_6,val_main_cst_7,val_main_cst_8,val_main_cst_9,val_main_cst_10]
  simp only [v7_at]
  rfl
theorem ref_xn : val_main_v46 (F := Ideal) A W X M G B = fun j : S2048x1024.Idx => xh (z A W X M (j 0)) (j 1) * G (ix1 (j 1)) + B (ix1 (j 1)) := by
  funext j
  obtain ⟨r, d, rfl⟩ : ∃ (r : Fin 2048) (d : Fin 1024), j = ix2 r d := ⟨j 0, j 1, eq_ix2 j⟩
  pointwise [val_main_v22,val_main_v23,val_main_v24,val_main_v25,val_main_v26,val_main_v27,val_main_v28,val_main_v29,val_main_v30,val_main_v31,val_main_v32,val_main_v33,val_main_v34,val_main_v35,val_main_v36,val_main_v37,val_main_v38,val_main_v39,val_main_v40,val_main_v41,val_main_v42,val_main_v43,val_main_v44,val_main_v45,val_main_v46,val_main_cst_1,val_main_cst_2,val_main_cst_3,val_main_cst_4,val_main_cst_5,val_main_cst_6,val_main_cst_7,val_main_cst_8,val_main_cst_9,val_main_cst_10]
  simp only [v7_at]
  rfl
end

variable (m : (ℓ : Loc nD τ sig) → Buf (Elt Ideal) ℓ) (c : Dev nD)

abbrev A0 : FVec Ideal MixLnRefIdeal.S1x2048x2048 .f32 := m ((c : Thread nD τ).loc main_arg0)
abbrev A1 : FVec Ideal MixLnRefIdeal.S2048x1024 .f32 := m ((c : Thread nD τ).loc main_arg1)
abbrev A2 : FVec Ideal MixLnRefIdeal.S1x2048x1024 .f32 := m ((c : Thread nD τ).loc main_arg2)
abbrev A3 : FVec Ideal MixLnRefIdeal.S1x1x1024 .f32 := m ((c : Thread nD τ).loc main_arg3)
abbrev A4 : FVec Ideal MixLnRefIdeal.S1024 .f32 := m ((c : Thread nD τ).loc main_arg4)
abbrev A5 : FVec Ideal MixLnRefIdeal.S1024 .f32 := m ((c : Thread nD τ).loc main_arg5)

section
variable (t : Fin cfg0.N)
theorem b0 (r : Fin 256) (k : Fin 2048) : iblk m c 0 t (ix2 r k) = A0 m c (ix3 0 (row t r) k) := by
  unfold row; blk_point [iblk, V, idx t]
theorem b1 (k : Fin 2048) (d : Fin 1024) : iblk m c 1 t (ix2 k d) = A1 m c (ix2 k d) := by
  blk_point [iblk, V, idx t]
theorem b2 (r : Fin 256) (d : Fin 1024) : iblk m c 2 t (ix2 r d) = A2 m c (ix3 0 (row t r) d) := by
  unfold row; blk_point [iblk, V, idx t]
theorem b3 (d : Fin 1024) : iblk m c 3 t (ix2 0 d) = 1 + A3 m c (ix3 0 0 d) := by
  refine Eq.trans (b := V m c main_v2 (ix2 0 d)) ?_ ?_
  · blk_point [iblk, idx t]
  · entry_read; pointwise
theorem b4 (d : Fin 1024) : iblk m c 4 t (ix2 0 d) = A4 m c (ix1 d) := by
  blk_point [iblk, V, idx t]
theorem b5 (d : Fin 1024) : iblk m c 5 t (ix2 0 d) = A5 m c (ix1 d) := by
  blk_point [iblk, V, idx t]

theorem y_at (r : Fin 256) (d : Fin 1024) : k0_pay2 (iblk m c 0 t) (iblk m c 1 t) (ix2 r d) = y (A0 m c) (A1 m c) (row t r) d := by
  pointwise [k0_pay2]
  simp only [b0, b1]
  rfl
theorem zc_at (r : Fin 256) (d : Fin 1024) : k0_pay3 (iblk m c 0 t) (iblk m c 1 t) (iblk m c 2 t) (iblk m c 3 t) (ix2 r d)
    = z (A0 m c) (A1 m c) (A2 m c) (A3 m c) (row t r) d - mean (z (A0 m c) (A1 m c) (A2 m c) (A3 m c) (row t r)) := by
  pointwise [k0_pay3]
  simp only [y_at, b2, b3]
  rfl
theorem rs_at (r : Fin 256) (d : Fin 1) : k0_pay4 (iblk m c 0 t) (iblk m c 1 t) (iblk m c 2 t) (iblk m c 3 t) (ix2 r d) = rs (z (A0 m c) (A1 m c) (A2 m c) (A3 m c) (row t r)) := by
  pointwise [k0_pay4]
  simp only [zc_at]
  rfl
theorem xh_at (r : Fin 256) (d : Fin 1024) : k0_pay5 (iblk m c 0 t) (iblk m c 1 t) (iblk m c 2 t) (iblk m c 3 t) (ix2 r d) = xh (z (A0 m c) (A1 m c) (A2 m c) (A3 m c) (row t r)) d := by
  pointwise [k0_pay5]
  simp only [zc_at, rs_at]
  rfl
theorem xn_at (r : Fin 256) (d : Fin 1024) : k0_pay6 (iblk m c 0 t) (iblk m c 1 t) (iblk m c 2 t) (iblk m c 3 t) (iblk m c 4 t) (iblk m c 5 t) (ix2 r d)
    = xh (z (A0 m c) (A1 m c) (A2 m c) (A3 m c) (row t r)) d * A4 m c (ix1 d) + A5 m c (ix1 d) := by
  pointwise [k0_pay6]
  simp only [xh_at, b4, b5]
end

theorem final6 : (dats m 0 c).arrAt 6 (cfgs 0).N = fun j : S2048x1024.Idx => xh (z (A0 m c) (A1 m c) (A2 m c) (A3 m c) (j 0)) (j 1) * A4 m c (ix1 (j 1)) + A5 m c (ix1 (j 1)) := by
  refine (dats m 0 c).arrAt_eq_of_covers 6 _ (by decide +kernel) fun t _ y => ?_
  have key : ∀ (a : Fin 2048) (b : Fin 1024), a = row t (y 0) → b = y 1 →
      k0_pay6 (iblk m c 0 t) (iblk m c 1 t) (iblk m c 2 t) (iblk m c 3 t) (iblk m c 4 t) (iblk m c 5 t) y = xh (z (A0 m c) (A1 m c) (A2 m c) (A3 m c) a) b * A4 m c (ix1 b) + A5 m c (ix1 b) := by
    rintro _ _ rfl rfl
    obtain ⟨r, d, rfl⟩ : ∃ (r : Fin 256) (d : Fin 1024), y = ix2 r d := ⟨y 0, y 1, eq_ix2 y⟩
    exact xn_at m c t r d
  refine Eq.trans ?_ (key _ _ (Fin.ext (by blk_simp [idx t]; show _ = t.val * 256 + (y 0).val; omega)) (Fin.ext (by blk_simp [idx t])))
  rw [after0_6]; unfold out0_6; frame_out
  rfl
theorem final7 : (dats m 0 c).arrAt 7 (cfgs 0).N = fun j : S2048x1024.Idx => xh (z (A0 m c) (A1 m c) (A2 m c) (A3 m c) (j 0)) (j 1) := by
  refine (dats m 0 c).arrAt_eq_of_covers 7 _ (by decide +kernel) fun t _ y => ?_
  have key : ∀ (a : Fin 2048) (b : Fin 1024), a = row t (y 0) → b = y 1 →
      k0_pay5 (iblk m c 0 t) (iblk m c 1 t) (iblk m c 2 t) (iblk m c 3 t) y = xh (z (A0 m c) (A1 m c) (A2 m c) (A3 m c) a) b := by
    rintro _ _ rfl rfl
    obtain ⟨r, d, rfl⟩ : ∃ (r : Fin 256) (d : Fin 1024), y = ix2 r d := ⟨y 0, y 1, eq_ix2 y⟩
    exact xh_at m c t r d
  refine Eq.trans ?_ (key _ _ (Fin.ext (by blk_simp [idx t]; show _ = t.val * 256 + (y 0).val; omega)) (Fin.ext (by blk_simp [idx t])))
  rw [after0_7]; unfold out0_7; frame_out
  rfl
theorem final8 : (dats m 0 c).arrAt 8 (cfgs 0).N = fun j : S2048x1.Idx => rs (z (A0 m c) (A1 m c) (A2 m c) (A3 m c) (j 0)) := by
  refine (dats m 0 c).arrAt_eq_of_covers 8 _ (by decide +kernel) fun t _ y => ?_
  have key : ∀ (a : Fin 2048), a = row t (y 0) →
      k0_pay4 (iblk m c 0 t) (iblk m c 1 t) (iblk m c 2 t) (iblk m c 3 t) y = rs (z (A0 m c) (A1 m c) (A2 m c) (A3 m c) a) := by
    rintro _ rfl
    obtain ⟨r, d, rfl⟩ : ∃ (r : Fin 256) (d : Fin 1), y = ix2 r d := ⟨y 0, y 1, eq_ix2 y⟩
    exact rs_at m c t r d
  refine Eq.trans ?_ (key _ (Fin.ext (by blk_simp [idx t]; show _ = t.val * 256 + (y 0).val; omega)))
  rw [after0_8]; unfold out0_8; frame_out
  rfl
theorem final9 : (dats m 0 c).arrAt 9 (cfgs 0).N = fun j : S2048x1024.Idx => y (A0 m c) (A1 m c) (j 0) (j 1) := by
  refine (dats m 0 c).arrAt_eq_of_covers 9 _ (by decide +kernel) fun t _ v => ?_
  have key : ∀ (a : Fin 2048) (b : Fin 1024), a = row t (v 0) → b = v 1 →
      k0_pay1 (k0_pay2 (iblk m c 0 t) (iblk m c 1 t)) v = y (A0 m c) (A1 m c) a b := by
    rintro _ _ rfl rfl
    obtain ⟨r, d, rfl⟩ : ∃ (r : Fin 256) (d : Fin 1024), v = ix2 r d := ⟨v 0, v 1, eq_ix2 v⟩
    exact y_at m c t r d
  refine Eq.trans ?_ (key _ _ (Fin.ext (by blk_simp [idx t]; show _ = t.val * 256 + (v 0).val; omega)) (Fin.ext (by blk_simp [idx t])))
  rw [after0_9]; unfold out0_9; frame_out
  rfl

end Cert.MixLn

end
-- ==== Proof.FfnUp.lean ====
module

public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnUp
open Cert.FfnUpIdeal Cert.FfnUpIdeal.Gen

theorem idx : ∀ t : Fin cfg0.N, win0_0.index t = ![t.val, 0] ∧ win0_1.index t = ![0, 0] ∧ win0_2.index t = ![0, 0] ∧ win0_3.index t = ![0, 0, 0] ∧ win0_4.index t = ![t.val, 0] ∧ win0_5.index t = ![t.val, 0] :=
  (by decide +kernel : ∀ t : Fin grid0.N, _)

def row (t : Fin cfg0.N) (i : Fin 512) : Fin 2048 := ⟨t.val * 512 + i.val, by have := t.isLt; change t.val < 4 at this; omega⟩
/-- A column of the product: column `n` of slab `s` of the weights. -/
def col (s : Fin 4) (n : Fin 1408) : Fin 5632 := ⟨s.val * 1408 + n.val, by omega⟩

section
variable (X : FVec Ideal FfnUpRefIdeal.S1x2048x1024 .f32) (L H : FVec Ideal FfnUpRefIdeal.S1x1x1024 .f32) (W : FVec Ideal FfnUpRefIdeal.S1024x5632 .f32)

/-- The modulated row, and its product. -/
def h (r : Fin 2048) (d : Fin 1024) : EReal := X (ix3 0 r d) * (1 + L (ix3 0 0 d)) + H (ix3 0 0 d)
def o (r : Fin 2048) (n : Fin 5632) : EReal := (∑ d : Fin 1024, h X L H r d * W (ix2 d n))

open Cert.FfnUpRefIdeal.Read
theorem v5_at (r : Fin 2048) (d : Fin 1024) : val_main_v5 (F := Ideal) X L H (ix3 0 r d) = h X L H r d := by
  pointwise [val_main_v5,val_main_v4,val_main_v3,val_main_v2,val_main_v1,val_main_v0,val_main_cst]
  rfl
theorem ref_o : val_main_v8 (F := Ideal) X L H W = fun j : S2048x5632.Idx => o X L H W (j 0) (j 1) := by
  funext j
  obtain ⟨r, d, rfl⟩ : ∃ (r : Fin 2048) (d : Fin 5632), j = ix2 r d := ⟨j 0, j 1, eq_ix2 j⟩
  pointwise [val_main_v8,val_main_v7,val_main_v6]
  simp only [v5_at]
  rfl
theorem ref_h : val_main_v10 (F := Ideal) X L H = fun j : S2048x1024.Idx => h X L H (j 0) (j 1) := by
  funext j
  obtain ⟨r, d, rfl⟩ : ∃ (r : Fin 2048) (d : Fin 1024), j = ix2 r d := ⟨j 0, j 1, eq_ix2 j⟩
  pointwise [val_main_v10,val_main_v9]
  exact v5_at X L H r d
end

variable (m : (ℓ : Loc nD τ sig) → Buf (Elt Ideal) ℓ) (c : Dev nD)

abbrev A0 : FVec Ideal FfnUpRefIdeal.S1x2048x1024 .f32 := m ((c : Thread nD τ).loc main_arg0)
abbrev A1 : FVec Ideal FfnUpRefIdeal.S1x1x1024 .f32 := m ((c : Thread nD τ).loc main_arg1)
abbrev A2 : FVec Ideal FfnUpRefIdeal.S1x1x1024 .f32 := m ((c : Thread nD τ).loc main_arg2)
abbrev A3 : FVec Ideal FfnUpRefIdeal.S1024x5632 .f32 := m ((c : Thread nD τ).loc main_arg3)

section
variable (t : Fin cfg0.N)
theorem b0 (r : Fin 512) (d : Fin 1024) : iblk m c 0 t (ix2 r d) = A0 m c (ix3 0 (row t r) d) := by
  unfold row; blk_point [iblk, V, idx t]
theorem b1 (d : Fin 1024) : iblk m c 1 t (ix2 0 d) = A1 m c (ix3 0 0 d) := by
  blk_point [iblk, V, idx t]
theorem b2 (d : Fin 1024) : iblk m c 2 t (ix2 0 d) = A2 m c (ix3 0 0 d) := by
  blk_point [iblk, V, idx t]
theorem b3 (s : Fin 4) (d : Fin 1024) (n : Fin 1408) : iblk m c 3 t (ix3 s d n) = A3 m c (ix2 d (col s n)) := by
  unfold col; blk_point [iblk, V, idx t]

theorem h_at (r : Fin 512) (d : Fin 1024) : k0_pay2 (iblk m c 0 t) (iblk m c 1 t) (iblk m c 2 t) (ix2 r d) = h (A0 m c) (A1 m c) (A2 m c) (row t r) d := by
  pointwise [k0_pay2]
  rw [b0, b1, b2]
  rfl
/-- The slabs of the weights, each loaded alone. -/
abbrev slab (s : Fin 4) (i : ∀ k, (![s.val, 0, 0] : Fin 3 → ℕ) k + (![1, 1024, 1408] : Fin 3 → ℕ) k ≤ S4x1024x1408.size k) : FVec Ideal S1x1024x1408 .bf16 :=
  View.ld (Val := Elt Ideal) (e' := .bf16) (iblk m c 3 t) (Rect.unit (s := S4x1024x1408) ![s.val, 0, 0] ![1, 1024, 1408] i)
theorem slab_at (s : Fin 4) (i) (d : Fin 1024) (n : Fin 1408) : slab m c t s i (ix3 0 d n) = A3 m c (ix2 d (col s n)) := by
  refine (congrArg (iblk m c 3 t) ?_).trans (b3 m c t s d n)
  blk_ext <;> simp [LoadRect.idx, Rect.unit]

theorem part0 (i) (r : Fin 512) (n : Fin 1408) : k0_pay3 (F := Ideal) (iblk m c 0 t) (iblk m c 1 t) (iblk m c 2 t) (slab m c t 0 i) (ix2 r n) = o (A0 m c) (A1 m c) (A2 m c) (A3 m c) (row t r) (col 0 n) := by
  pointwise [k0_pay3]
  simp only [h_at, slab_at]
  rfl
theorem part1 (i) (r : Fin 512) (n : Fin 1408) : k0_pay4 (F := Ideal) (iblk m c 0 t) (iblk m c 1 t) (iblk m c 2 t) (slab m c t 1 i) (ix2 r n) = o (A0 m c) (A1 m c) (A2 m c) (A3 m c) (row t r) (col 1 n) := by
  pointwise [k0_pay4]
  simp only [h_at, slab_at]
  rfl
theorem part2 (i) (r : Fin 512) (n : Fin 1408) : k0_pay5 (F := Ideal) (iblk m c 0 t) (iblk m c 1 t) (iblk m c 2 t) (slab m c t 2 i) (ix2 r n) = o (A0 m c) (A1 m c) (A2 m c) (A3 m c) (row t r) (col 2 n) := by
  pointwise [k0_pay5]
  simp only [h_at, slab_at]
  rfl
theorem part3 (i) (r : Fin 512) (n : Fin 1408) : k0_pay1 (F := Ideal) (k0_pay2 (iblk m c 0 t) (iblk m c 1 t) (iblk m c 2 t)) (slab m c t 3 i) (ix2 r n) = o (A0 m c) (A1 m c) (A2 m c) (A3 m c) (row t r) (col 3 n) := by
  pointwise [k0_pay1]
  simp only [h_at, slab_at]
  rfl

end

theorem final5 : (dats m 0 c).arrAt 5 (cfgs 0).N = fun j : S2048x1024.Idx => h (A0 m c) (A1 m c) (A2 m c) (j 0) (j 1) := by
  refine (dats m 0 c).arrAt_eq_of_covers 5 _ (by decide +kernel) fun t _ y => ?_
  have key : ∀ (a : Fin 2048) (b : Fin 1024), a = row t (y 0) → b = y 1 → k0_pay2 (iblk m c 0 t) (iblk m c 1 t) (iblk m c 2 t) y = h (A0 m c) (A1 m c) (A2 m c) a b := by
    rintro _ _ rfl rfl
    obtain ⟨r, d, rfl⟩ : ∃ (r : Fin 512) (d : Fin 1024), y = ix2 r d := ⟨y 0, y 1, eq_ix2 y⟩
    exact h_at m c t r d
  refine Eq.trans ?_ (key _ _ (Fin.ext (by blk_simp [idx t]; show _ = t.val * 512 + (y 0).val; omega)) (Fin.ext (by blk_simp [idx t])))
  rw [after0_5]; unfold out0_5; frame_out
  rfl

theorem final4 : (dats m 0 c).arrAt 4 (cfgs 0).N = fun j : S2048x5632.Idx => o (A0 m c) (A1 m c) (A2 m c) (A3 m c) (j 0) (j 1) := by
  refine (dats m 0 c).arrAt_eq_of_covers 4 _ (by decide +kernel) fun t _ y => ?_
  have key : ∀ (s : Fin 4) (x : S512x1408.Idx) (a : Fin 2048) (b : Fin 5632), a = row t (x 0) → b = col s (x 1) →
      o (A0 m c) (A1 m c) (A2 m c) (A3 m c) (row t (x 0)) (col s (x 1)) = o (A0 m c) (A1 m c) (A2 m c) (A3 m c) a b := by
    rintro s x _ _ rfl rfl
    rfl
  blk_simp
  rw [after0_4]; unfold out0_4; frame_out
  canon_tiles x hx
  · obtain ⟨r, d, rfl⟩ : ∃ (r : Fin 512) (d : Fin 1408), x = ix2 r d := ⟨x 0, x 1, eq_ix2 x⟩
    exact (part3 m c t _ r d).trans (key 3 (ix2 r d) _ _ (Fin.ext (by blk_simp [idx t]; exact congrArg (t.val * 512 + ·) hx0)) (Fin.ext (by blk_simp [idx t]; refine hx1.trans ?_; show _ = 3 * 1408 + d.val; simp [ix2])))
  · obtain ⟨r, d, rfl⟩ : ∃ (r : Fin 512) (d : Fin 1408), x = ix2 r d := ⟨x 0, x 1, eq_ix2 x⟩
    exact (part2 m c t _ r d).trans (key 2 (ix2 r d) _ _ (Fin.ext (by blk_simp [idx t]; exact congrArg (t.val * 512 + ·) hx0)) (Fin.ext (by blk_simp [idx t]; refine hx1.trans ?_; show _ = 2 * 1408 + d.val; simp [ix2])))
  · obtain ⟨r, d, rfl⟩ : ∃ (r : Fin 512) (d : Fin 1408), x = ix2 r d := ⟨x 0, x 1, eq_ix2 x⟩
    exact (part1 m c t _ r d).trans (key 1 (ix2 r d) _ _ (Fin.ext (by blk_simp [idx t]; exact congrArg (t.val * 512 + ·) hx0)) (Fin.ext (by blk_simp [idx t]; refine hx1.trans ?_; show _ = 1 * 1408 + d.val; simp [ix2])))
  · obtain ⟨r, d, rfl⟩ : ∃ (r : Fin 512) (d : Fin 1408), x = ix2 r d := ⟨x 0, x 1, eq_ix2 x⟩
    exact (part0 m c t _ r d).trans (key 0 (ix2 r d) _ _ (Fin.ext (by blk_simp [idx t]; exact congrArg (t.val * 512 + ·) hx0)) (Fin.ext (by blk_simp [idx t]; refine hx1.trans ?_; show _ = 0 * 1408 + d.val; simp [ix2])))

end Cert.FfnUp

end
-- ==== Proof.GmlpUp.lean ====
module

public import proofs.«01_k».proof.Proof.Gen.GmlpUpIdeal.Value
public import proofs.«01_k».proof.Proof.Gen.GmlpUpRefIdeal.Run
public import proofs.«01_k».proof.Proof.Gen.GmlpUpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GmlpUp
open Cert.GmlpUpIdeal Cert.GmlpUpIdeal.Gen

theorem idx : ∀ t : Fin cfg0.N, win0_0.index t = ![t.val, 0] ∧ win0_1.index t = ![0, 0] ∧ win0_2.index t = ![0, 0] ∧ win0_3.index t = ![0, 0, 0] ∧ win0_4.index t = ![0, 0] ∧ win0_5.index t = ![t.val, 0] ∧ win0_6.index t = ![t.val, 0] :=
  (by decide +kernel : ∀ t : Fin grid0.N, _)

def row (t : Fin cfg0.N) (i : Fin 512) : Fin 2048 := ⟨t.val * 512 + i.val, by have := t.isLt; change t.val < 4 at this; omega⟩
/-- A column of the product: column `n` of slab `s` of the weights. -/
def col (s : Fin 4) (n : Fin 1024) : Fin 4096 := ⟨s.val * 1024 + n.val, by omega⟩

section
variable (X : FVec Ideal GmlpUpRefIdeal.S1x2048x1024 .f32) (L H : FVec Ideal GmlpUpRefIdeal.S1x1x1024 .f32) (W : FVec Ideal GmlpUpRefIdeal.S1024x4096 .f32) (B : FVec Ideal GmlpUpRefIdeal.S4096 .f32)

/-- The modulated row, and its product. -/
def h (r : Fin 2048) (d : Fin 1024) : EReal := X (ix3 0 r d) * (1 + L (ix3 0 0 d)) + H (ix3 0 0 d)
def o (r : Fin 2048) (n : Fin 4096) : EReal := (∑ d : Fin 1024, h X L H r d * W (ix2 d n)) + B (ix1 n)

open Cert.GmlpUpRefIdeal.Read
theorem v5_at (r : Fin 2048) (d : Fin 1024) : val_main_v5 (F := Ideal) X L H (ix3 0 r d) = h X L H r d := by
  pointwise [val_main_v5,val_main_v4,val_main_v3,val_main_v2,val_main_v1,val_main_v0,val_main_cst]
  rfl
theorem ref_o : val_main_v10 (F := Ideal) X L H W B = fun j : S2048x4096.Idx => o X L H W B (j 0) (j 1) := by
  funext j
  obtain ⟨r, d, rfl⟩ : ∃ (r : Fin 2048) (d : Fin 4096), j = ix2 r d := ⟨j 0, j 1, eq_ix2 j⟩
  pointwise [val_main_v10,val_main_v9,val_main_v8,val_main_v7,val_main_v6]
  simp only [v5_at]
  rfl
theorem ref_h : val_main_v12 (F := Ideal) X L H = fun j : S2048x1024.Idx => h X L H (j 0) (j 1) := by
  funext j
  obtain ⟨r, d, rfl⟩ : ∃ (r : Fin 2048) (d : Fin 1024), j = ix2 r d := ⟨j 0, j 1, eq_ix2 j⟩
  pointwise [val_main_v12,val_main_v11]
  exact v5_at X L H r d
end

variable (m : (ℓ : Loc nD τ sig) → Buf (Elt Ideal) ℓ) (c : Dev nD)

abbrev A0 : FVec Ideal GmlpUpRefIdeal.S1x2048x1024 .f32 := m ((c : Thread nD τ).loc main_arg0)
abbrev A1 : FVec Ideal GmlpUpRefIdeal.S1x1x1024 .f32 := m ((c : Thread nD τ).loc main_arg1)
abbrev A2 : FVec Ideal GmlpUpRefIdeal.S1x1x1024 .f32 := m ((c : Thread nD τ).loc main_arg2)
abbrev A3 : FVec Ideal GmlpUpRefIdeal.S1024x4096 .f32 := m ((c : Thread nD τ).loc main_arg3)
abbrev A4 : FVec Ideal GmlpUpRefIdeal.S4096 .f32 := m ((c : Thread nD τ).loc main_arg4)
section
variable (t : Fin cfg0.N)
theorem b0 (r : Fin 512) (d : Fin 1024) : iblk m c 0 t (ix2 r d) = A0 m c (ix3 0 (row t r) d) := by
  unfold row; blk_point [iblk, V, idx t]
theorem b1 (d : Fin 1024) : iblk m c 1 t (ix2 0 d) = A1 m c (ix3 0 0 d) := by
  blk_point [iblk, V, idx t]
theorem b2 (d : Fin 1024) : iblk m c 2 t (ix2 0 d) = A2 m c (ix3 0 0 d) := by
  blk_point [iblk, V, idx t]
theorem b3 (s : Fin 4) (d : Fin 1024) (n : Fin 1024) : iblk m c 3 t (ix3 s d n) = A3 m c (ix2 d (col s n)) := by
  unfold col; blk_point [iblk, V, idx t]
theorem b4 (n : Fin 4096) : iblk m c 4 t (ix2 0 n) = A4 m c (ix1 n) := by
  blk_point [iblk, V, idx t]
theorem h_at (r : Fin 512) (d : Fin 1024) : k0_pay3 (iblk m c 0 t) (iblk m c 1 t) (iblk m c 2 t) (ix2 r d) = h (A0 m c) (A1 m c) (A2 m c) (row t r) d := by
  pointwise [k0_pay3]
  rw [b0, b1, b2]
  rfl
/-- The slabs of the weights and of the bias, each loaded alone. -/
abbrev slab (s : Fin 4) (i : ∀ k, (![s.val, 0, 0] : Fin 3 → ℕ) k + (![1, 1024, 1024] : Fin 3 → ℕ) k ≤ S4x1024x1024.size k) : FVec Ideal S1x1024x1024 .bf16 :=
  View.ld (Val := Elt Ideal) (e' := .bf16) (iblk m c 3 t) (Rect.unit (s := S4x1024x1024) ![s.val, 0, 0] ![1, 1024, 1024] i)
theorem slab_at (s : Fin 4) (i) (d : Fin 1024) (n : Fin 1024) : slab m c t s i (ix3 0 d n) = A3 m c (ix2 d (col s n)) := by
  refine (congrArg (iblk m c 3 t) ?_).trans (b3 m c t s d n)
  blk_ext <;> simp [LoadRect.idx, Rect.unit]
abbrev strip (o : ℕ) (i : ∀ k, (![0, o] : Fin 2 → ℕ) k + (![1, 1024] : Fin 2 → ℕ) k ≤ S1x4096.size k) : FVec Ideal S1x1024 .f32 :=
  View.ld (Val := Elt Ideal) (e' := .f32) (iblk m c 4 t) (Rect.unit (s := S1x4096) ![0, o] ![1, 1024] i)
theorem strip_at (s : Fin 4) (o : ℕ) (h : o = s.val * 1024) (i) (n : Fin 1024) : strip m c t o i (ix2 0 n) = A4 m c (ix1 (col s n)) := by
  refine (congrArg (iblk m c 4 t) ?_).trans (b4 m c t (col s n))
  subst h
  unfold col
  blk_ext <;> simp [LoadRect.idx, Rect.unit]
theorem part0 (i) (k) (hk : k = 0 * 1024) (i') (r : Fin 512) (n : Fin 1024) : k0_pay4 (F := Ideal) (iblk m c 0 t) (iblk m c 1 t) (iblk m c 2 t) (slab m c t 0 i) (strip m c t k i') (ix2 r n) = o (A0 m c) (A1 m c) (A2 m c) (A3 m c) (A4 m c) (row t r) (col 0 n) := by
  pointwise [k0_pay4]
  simp only [h_at, slab_at, strip_at m c t 0 k hk]
  rfl
theorem part1 (i) (k) (hk : k = 1 * 1024) (i') (r : Fin 512) (n : Fin 1024) : k0_pay5 (F := Ideal) (iblk m c 0 t) (iblk m c 1 t) (iblk m c 2 t) (slab m c t 1 i) (strip m c t k i') (ix2 r n) = o (A0 m c) (A1 m c) (A2 m c) (A3 m c) (A4 m c) (row t r) (col 1 n) := by
  pointwise [k0_pay5]
  simp only [h_at, slab_at, strip_at m c t 1 k hk]
  rfl
theorem part2 (i) (k) (hk : k = 2 * 1024) (i') (r : Fin 512) (n : Fin 1024) : k0_pay1 (F := Ideal) (k0_pay3 (iblk m c 0 t) (iblk m c 1 t) (iblk m c 2 t)) (slab m c t 2 i) (strip m c t k i') (ix2 r n) = o (A0 m c) (A1 m c) (A2 m c) (A3 m c) (A4 m c) (row t r) (col 2 n) := by
  pointwise [k0_pay1]
  simp only [h_at, slab_at, strip_at m c t 2 k hk]
  rfl
theorem part3 (i) (k) (hk : k = 3 * 1024) (i') (r : Fin 512) (n : Fin 1024) : k0_pay2 (F := Ideal) (k0_pay3 (iblk m c 0 t) (iblk m c 1 t) (iblk m c 2 t)) (slab m c t 3 i) (strip m c t k i') (ix2 r n) = o (A0 m c) (A1 m c) (A2 m c) (A3 m c) (A4 m c) (row t r) (col 3 n) := by
  pointwise [k0_pay2]
  simp only [h_at, slab_at, strip_at m c t 3 k hk]
  rfl

end

theorem final6 : (dats m 0 c).arrAt 6 (cfgs 0).N = fun j : S2048x1024.Idx => h (A0 m c) (A1 m c) (A2 m c) (j 0) (j 1) := by
  refine (dats m 0 c).arrAt_eq_of_covers 6 _ (by decide +kernel) fun t _ y => ?_
  have key : ∀ (a : Fin 2048) (b : Fin 1024), a = row t (y 0) → b = y 1 → k0_pay3 (iblk m c 0 t) (iblk m c 1 t) (iblk m c 2 t) y = h (A0 m c) (A1 m c) (A2 m c) a b := by
    rintro _ _ rfl rfl
    obtain ⟨r, d, rfl⟩ : ∃ (r : Fin 512) (d : Fin 1024), y = ix2 r d := ⟨y 0, y 1, eq_ix2 y⟩
    exact h_at m c t r d
  refine Eq.trans ?_ (key _ _ (Fin.ext (by blk_simp [idx t]; show _ = t.val * 512 + (y 0).val; omega)) (Fin.ext (by blk_simp [idx t])))
  rw [after0_6]; unfold out0_6; frame_out
  rfl

theorem final5 : (dats m 0 c).arrAt 5 (cfgs 0).N = fun j : S2048x4096.Idx => o (A0 m c) (A1 m c) (A2 m c) (A3 m c) (A4 m c) (j 0) (j 1) := by
  refine (dats m 0 c).arrAt_eq_of_covers 5 _ (by decide +kernel) fun t _ y => ?_
  have key : ∀ (s : Fin 4) (x : S512x1024.Idx) (a : Fin 2048) (b : Fin 4096), a = row t (x 0) → b = col s (x 1) →
      o (A0 m c) (A1 m c) (A2 m c) (A3 m c) (A4 m c) (row t (x 0)) (col s (x 1)) = o (A0 m c) (A1 m c) (A2 m c) (A3 m c) (A4 m c) a b := by
    rintro s x _ _ rfl rfl
    rfl
  blk_simp
  rw [after0_5]; unfold_out out0_5; frame_out
  canon_tiles x hx
  · obtain ⟨r, d, rfl⟩ : ∃ (r : Fin 512) (d : Fin 1024), x = ix2 r d := ⟨x 0, x 1, eq_ix2 x⟩
    exact (part3 m c t _ _ rfl _ r d).trans (key 3 (ix2 r d) _ _ (Fin.ext (by blk_simp [idx t]; exact congrArg (t.val * 512 + ·) hx0)) (Fin.ext (by blk_simp [idx t]; refine hx1.trans ?_; show _ = 3 * 1024 + d.val; simp [ix2])))
  · obtain ⟨r, d, rfl⟩ : ∃ (r : Fin 512) (d : Fin 1024), x = ix2 r d := ⟨x 0, x 1, eq_ix2 x⟩
    exact (part2 m c t _ _ rfl _ r d).trans (key 2 (ix2 r d) _ _ (Fin.ext (by blk_simp [idx t]; exact congrArg (t.val * 512 + ·) hx0)) (Fin.ext (by blk_simp [idx t]; refine hx1.trans ?_; show _ = 2 * 1024 + d.val; simp [ix2])))
  · obtain ⟨r, d, rfl⟩ : ∃ (r : Fin 512) (d : Fin 1024), x = ix2 r d := ⟨x 0, x 1, eq_ix2 x⟩
    exact (part1 m c t _ _ rfl _ r d).trans (key 1 (ix2 r d) _ _ (Fin.ext (by blk_simp [idx t]; exact congrArg (t.val * 512 + ·) hx0)) (Fin.ext (by blk_simp [idx t]; refine hx1.trans ?_; show _ = 1 * 1024 + d.val; simp [ix2])))
  · obtain ⟨r, d, rfl⟩ : ∃ (r : Fin 512) (d : Fin 1024), x = ix2 r d := ⟨x 0, x 1, eq_ix2 x⟩
    exact (part0 m c t _ _ rfl _ r d).trans (key 0 (ix2 r d) _ _ (Fin.ext (by blk_simp [idx t]; exact congrArg (t.val * 512 + ·) hx0)) (Fin.ext (by blk_simp [idx t]; refine hx1.trans ?_; show _ = 0 * 1024 + d.val; simp [ix2])))

end Cert.GmlpUp

end
-- ==== Proof.SguFwd.lean ====
module

public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.SguBlk
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SguFwd
open Cert.SguFwdIdeal Cert.SguFwdIdeal.Gen

theorem idx : ∀ t : Fin cfg0.N, win0_0.index t = ![t.val, 0] ∧ win0_1.index t = ![0, 0] ∧ win0_2.index t = ![0, 0] ∧ win0_3.index t = ![0, 0, 0] ∧ win0_4.index t = ![0, 0] ∧ win0_5.index t = ![t.val, 0] :=
  (by decide +kernel : ∀ t : Fin grid0.N, _)

theorem root_half_eq : Named.named (F := Ideal) κ "root_half" (φ := .f32) 0x3F3504F3#32 = ((Sgu.hs : ℝ) : EReal) :=
  IdealRules.named_const.ideal_named_scalar _ _ _ _ rfl

/-- The error function's unit of an extended real. -/
def gel (x : EReal) : EReal := Ideal.ofBits .f32 0x3F000000#32 * x * (1 + FloatOps.erf (F := Ideal) (φ := .f32) (x * ((Sgu.hs : ℝ) : EReal)))

theorem div_root (x : EReal) : Ideal.div x ((Real.sqrt 2 : ℝ) : EReal) = x * ((Sgu.hs : ℝ) : EReal) := by
  rw [Ideal.div_coe Sgu.root_ne, one_div]
  rfl

section
variable (H : FVec Ideal SguFwdRefIdeal.S1x2048x4096 .f32) (BI : FVec Ideal SguFwdRefIdeal.S4096 .f32) (LG LB : FVec Ideal SguFwdRefIdeal.S2048 .f32) (WS : FVec Ideal SguFwdRefIdeal.S8x128x128 .f32) (BS : FVec Ideal SguFwdRefIdeal.S8x128 .f32)

def g (r : Fin 2048) (l : Fin 4096) : EReal := gel (H (ix3 0 r l) + BI (ix1 l))
/-- The half that is mixed, its mean, its deviation's inverse, and its norm. -/
def v (r l : Fin 2048) : EReal := g H BI r (Sgu.hi l)
def mean (r : Fin 2048) : EReal := Ideal.div (∑ k, v H BI r k) (Ideal.ofBits .f32 0x45000000#32)
def rs (r : Fin 2048) : EReal := Ideal.rsqrt (Ideal.div (∑ k, (v H BI r k - mean H BI r) * (v H BI r k - mean H BI r)) (Ideal.ofBits .f32 0x45000000#32) + Ideal.ofBits .f32 0x3727C5AC#32)
def vn (r l : Fin 2048) : EReal := (v H BI r l - mean H BI r) * rs H BI r * LG (ix1 l) + LB (ix1 l)
/-- The mixing over a window's places, and the gated row. -/
def sp (n : Fin 16) (t : Fin 128) (q : Fin 8) (c : Fin 256) : EReal := (∑ s, vn H BI LG LB (Sgu.row n s) (Sgu.lane q c) * (WS (ix3 q t s) * ((Sgu.msk t s : ℝ) : EReal))) + BS (ix2 q t)
def out (r l : Fin 2048) : EReal := g H BI r (Sgu.lo l) * sp H BI LG LB WS BS (Sgu.win r) (Sgu.pl r) (Sgu.gr l) (Sgu.ch l)

open Cert.SguFwdRefIdeal.Read
theorem v14_at (r : Fin 2048) (l : Fin 4096) : val_main_v14 (F := Ideal) H BI (ix3 0 r l) = g H BI r l := by
  pointwise [val_main_v3,val_main_v4,val_main_v5,val_main_cst,val_main_v6,val_main_v7,val_main_cst_0,val_main_v8,val_main_v9,val_main_v10,val_main_v11,val_main_cst_1,val_main_v12,val_main_v13,val_main_v14]
  rw [Sgu.two_root, div_root]
  rfl
theorem v16_at (r l : Fin 2048) : val_main_v16 (F := Ideal) H BI (ix3 0 r l) = v H BI r l := by
  pointwise [val_main_v16]
  exact v14_at H BI r (Sgu.hi l)
theorem v40_at (r l : Fin 2048) : val_main_v40 (F := Ideal) H BI LG LB (ix3 0 r l) = vn H BI LG LB r l := by
  pointwise [val_main_v17,val_main_v18,val_main_v19,val_main_v20,val_main_v21,val_main_v22,val_main_v23,val_main_v24,val_main_v25,val_main_v26,val_main_v27,val_main_v28,val_main_v29,val_main_v30,val_main_v31,val_main_v32,val_main_v33,val_main_v34,val_main_v35,val_main_v36,val_main_v37,val_main_v38,val_main_v39,val_main_v40,val_main_cst_2,val_main_cst_3,val_main_cst_4,val_main_cst_5,val_main_cst_6]
  simp only [v16_at]
  rfl
theorem v41_at (n : Fin 16) (t : Fin 128) (q : Fin 8) (c : Fin 256) : val_main_v41 (F := Ideal) H BI LG LB (ix5 0 n t q c) = vn H BI LG LB (Sgu.row n t) (Sgu.lane q c) := by
  pointwise [val_main_v41]
  exact v40_at H BI LG LB (Sgu.row n t) (Sgu.lane q c)
theorem v50_at (t s : Fin 128) : val_main_v50 (F := Ideal) (ix2 t s) = ((Sgu.msk t s : ℝ) : EReal) := by
  refine Eq.trans ?_ (Sgu.mask_real t s)
  rw [← Sgu.chunk_eq, ← Sgu.chunk_eq]
  pointwise [val_main_v50,val_main_v49,val_main_v48,val_main_v47,val_main_v46,val_main_v45,val_main_v44]
  pointwise [val_main_call0_v11,val_main_call0_v13,val_main_call0_v2,val_main_call0_v10,val_main_call0_v6,val_main_call0_v3,val_main_call0_v5,val_main_call0_v4,val_main_call0_v8,val_main_call0_v9,val_main_call0_v7,val_main_call0_v1,val_main_call0_v0,val_main_call0_v12,val_main_call0_c,val_main_call0_c_0,val_main_v43,val_main_v42,val_main_c,val_main_v45,val_main_c_7,val_main_call1_v11,val_main_call1_v13,val_main_call1_v2,val_main_call1_v10,val_main_call1_v6,val_main_call1_v3,val_main_call1_v5,val_main_call1_v4,val_main_call1_v8,val_main_call1_v9,val_main_call1_v7,val_main_call1_v1,val_main_call1_v0,val_main_call1_v12,val_main_call1_c,val_main_call1_c_0]
  rfl
theorem v53_at (q : Fin 8) (t s : Fin 128) : val_main_v53 (F := Ideal) WS (ix3 q t s) = WS (ix3 q t s) * ((Sgu.msk t s : ℝ) : EReal) := by
  pointwise [val_main_v53,val_main_v52,val_main_v51]
  rw [v50_at]
theorem v59_at (n : Fin 16) (t : Fin 128) (q : Fin 8) (c : Fin 256) : val_main_v59 (F := Ideal) H BI LG LB WS BS (ix5 0 n t q c) = sp H BI LG LB WS BS n t q c := by
  pointwise [val_main_v59,val_main_v58,val_main_v57,val_main_v56,val_main_v55,val_main_v54,val_main_v2,val_main_v1,val_main_v0]
  simp only [v41_at, v53_at]
  rfl
theorem ref_out : val_main_v63 (F := Ideal) H BI LG LB WS BS = fun j : S2048x2048.Idx => out H BI LG LB WS BS (j 0) (j 1) := by
  funext j
  obtain ⟨r, l, rfl⟩ : ∃ (r l : Fin 2048), j = ix2 r l := ⟨j 0, j 1, eq_ix2 j⟩
  pointwise [val_main_v63,val_main_v62,val_main_v61,val_main_v60,val_main_v15]
  exact congrArg₂ (· * ·) (v14_at H BI r (Sgu.lo l)) (v59_at H BI LG LB WS BS (Sgu.win r) (Sgu.pl r) (Sgu.gr l) (Sgu.ch l))
end

variable (m : (ℓ : Loc nD τ sig) → Buf (Elt Ideal) ℓ) (c : Dev nD)
abbrev A0 : FVec Ideal SguFwdRefIdeal.S1x2048x4096 .f32 := m ((c : Thread nD τ).loc main_arg0)
abbrev A1 : FVec Ideal SguFwdRefIdeal.S4096 .f32 := m ((c : Thread nD τ).loc main_arg1)
abbrev A2 : FVec Ideal SguFwdRefIdeal.S2048 .f32 := m ((c : Thread nD τ).loc main_arg2)
abbrev A3 : FVec Ideal SguFwdRefIdeal.S2048 .f32 := m ((c : Thread nD τ).loc main_arg3)
abbrev A4 : FVec Ideal SguFwdRefIdeal.S8x128x128 .f32 := m ((c : Thread nD τ).loc main_arg4)
abbrev A5 : FVec Ideal SguFwdRefIdeal.S8x128 .f32 := m ((c : Thread nD τ).loc main_arg5)

section
variable (t : Fin cfg0.N)
def row (i : Fin 256) : Fin 2048 := ⟨t.val * 256 + i.val, by have := t.isLt; change t.val < 8 at this; omega⟩
theorem b0 (r : Fin 256) (l : Fin 4096) : iblk m c 0 t (ix2 r l) = A0 m c (ix3 0 (row t r) l) + A1 m c (ix1 l) := by
  refine Eq.trans (b := V m c main_v3 (ix2 (row t r) l)) ?_ ?_
  · unfold row; blk_point [iblk, idx t]
  · entry_read; pointwise
theorem b1 (l : Fin 2048) : iblk m c 1 t (ix2 0 l) = A2 m c (ix1 l) := by
  refine Eq.trans (b := V m c main_v4 (ix2 0 l)) ?_ ?_
  · blk_point [iblk, idx t]
  · entry_read; pointwise
theorem b2 (l : Fin 2048) : iblk m c 2 t (ix2 0 l) = A3 m c (ix1 l) := by
  refine Eq.trans (b := V m c main_v5 (ix2 0 l)) ?_ ?_
  · blk_point [iblk, idx t]
  · entry_read; pointwise
theorem b3 (q : Fin 8) (a s : Fin 128) : iblk m c 3 t (ix3 q a s) = A4 m c (ix3 q a s) := by
  blk_point [iblk, V, idx t]
theorem b4 (a : Fin 128) (q : Fin 8) : iblk m c 4 t (ix2 a q) = A5 m c (ix2 q a) := by
  refine Eq.trans (b := V m c main_v6 (ix2 a q)) ?_ ?_
  · blk_point [iblk, idx t]
  · entry_read; pointwise

/-- The two halves of a block. -/
abbrev half (o : ℕ) (i : ∀ k, (![0, o] : Fin 2 → ℕ) k + (![256, 2048] : Fin 2 → ℕ) k ≤ S256x4096.size k) : FVec Ideal S256x2048 .f32 :=
  View.ld (Val := Elt Ideal) (e' := .f32) (iblk m c 0 t) (Rect.unit (s := S256x4096) ![0, o] ![256, 2048] i)
theorem half_at (o : ℕ) (i) (r : Fin 256) (l : Fin 2048) (k : Fin 4096) (hk : k.val = o + l.val) : half m c t o i (ix2 r l) = A0 m c (ix3 0 (row t r) k) + A1 m c (ix1 k) := by
  refine (congrArg (iblk m c 0 t) ?_).trans (b0 m c t r k)
  blk_ext <;> simp [LoadRect.idx, Rect.unit, hk]
abbrev U : FVec Ideal S256x2048 .f32 := k0_pay7 (F := Ideal) (half m c t 0 inb_S256x4096_S256x2048_0_0)
theorem u_at (r : Fin 256) (l : Fin 2048) : U m c t (ix2 r l) = g (A0 m c) (A1 m c) (row t r) (Sgu.lo l) := by
  pointwise [k0_pay7]
  rw [root_half_eq, half_at m c t _ _ r l (Sgu.lo l) (by simp [Sgu.lo])]
  rfl
abbrev VN : FVec Ideal S256x2048 .bf16 := k0_pay9 (F := Ideal) (k0_pay8 (half m c t 2048 inb_S256x4096_S256x2048_0_2048) (iblk m c 1 t)) (iblk m c 2 t)
theorem vn_at (r : Fin 256) (l : Fin 2048) : VN m c t (ix2 r l) = vn (A0 m c) (A1 m c) (A2 m c) (A3 m c) (row t r) l := by
  pointwise [k0_pay9, k0_pay8]
  have e : ∀ k : Fin 2048, half m c t 2048 inb_S256x4096_S256x2048_0_2048 (ix2 r k) = A0 m c (ix3 0 (row t r) (Sgu.hi k)) + A1 m c (ix1 (Sgu.hi k)) := fun k => half_at m c t _ _ r k (Sgu.hi k) rfl
  simp only [e, b1, b2, root_half_eq]
  rfl
abbrev MK : FVec Ideal S128x128 .f32 := k0_pay14 (F := Ideal) (iota .tc S128x128 32 [0] iota_S128x128_d0_w32) k0_pay10 k0_pay11 k0_pay12 k0_pay13
theorem mk_at (a s : Fin 128) : MK (ix2 a s) = ((Sgu.msk a s : ℝ) : EReal) := by
  refine Eq.trans ?_ (Sgu.mask_real' a s)
  rw [← Sgu.tile_eq, ← Sgu.tile_eq]
  pointwise [k0_pay10, k0_pay11, k0_pay12, k0_pay13, k0_pay14]
  rfl

/-- One group's mix of one window of the block, gated: rows from `o`, lanes from `p`. -/
def tile (U : FVec Ideal S256x2048 .f32) (N : FVec Ideal S256x2048 .bf16) (K : FVec Ideal S128x128 .f32) (w : FVec Ideal S1x128x128 .f32) (b : FVec Ideal S128x1 .f32) (o p : ℕ) (hs : S256x2048.Slices ![o, p] S128x256) : FVec Ideal S128x256 .bf16 :=
  truncf .bf16 (mulf (extractStridedSlice S128x256 ![o, p] U hs)
    (addf (matmul dot_S128x128_S128x256_S128x256_1_0_0_1_n_n none (truncf .bf16 (mulf (shapeCast S128x128 w shapeCasts_S1x128x128_S128x128) K) bitsLt_bf16_f32)
        (extractStridedSlice S128x256 ![o, p] N hs) (constant S128x256 .f32 0x00000000#32))
      (broadcastTo S128x256 (shapeCast S128x1 b shapeCasts_S128x1_S128x1) broadcasts_S128x1_S128x256))) bitsLt_bf16_f32
def at2 (h : Fin 2) (k : Fin 128) : Fin 256 := ⟨h.val * 128 + k.val, by omega⟩
theorem tile_read (U : FVec Ideal S256x2048 .f32) (N : FVec Ideal S256x2048 .bf16) (K : FVec Ideal S128x128 .f32) (w : FVec Ideal S1x128x128 .f32) (b : FVec Ideal S128x1 .f32) (h : Fin 2) (q : Fin 8) (o p : ℕ) (ho : o = h.val * 128) (hp : p = q.val * 256) (hs) (k : Fin 128) (l : Fin 256) :
    tile U N K w b o p hs (ix2 k l) = U (ix2 (at2 h k) (Sgu.lane q l)) * ((∑ s : Fin 128, w (ix3 0 k s) * K (ix2 k s) * N (ix2 (at2 h s) (Sgu.lane q l))) + b (ix2 k 0)) := by
  subst ho hp
  pointwise [tile]
  rfl
abbrev slab (z : ℕ) (i : ∀ k, (![z, 0, 0] : Fin 3 → ℕ) k + (![1, 128, 128] : Fin 3 → ℕ) k ≤ S8x128x128.size k) : FVec Ideal S1x128x128 .f32 :=
  View.ld (Val := Elt Ideal) (e' := .f32) (iblk m c 3 t) (Rect.unit (s := S8x128x128) ![z, 0, 0] ![1, 128, 128] i)
theorem slab_at (z : ℕ) (i) (q : Fin 8) (hz : z = q.val) (k s : Fin 128) : slab m c t z i (ix3 0 k s) = A4 m c (ix3 q k s) := by
  refine (congrArg (iblk m c 3 t) ?_).trans (b3 m c t q k s)
  blk_ext <;> simp [LoadRect.idx, Rect.unit, hz]
abbrev strip (z : ℕ) (j : ∀ k, (![0, z] : Fin 2 → ℕ) k + (![128, 1] : Fin 2 → ℕ) k ≤ S128x8.size k) : FVec Ideal S128x1 .f32 :=
  View.ld (Val := Elt Ideal) (e' := .f32) (iblk m c 4 t) (Rect.unit (s := S128x8) ![0, z] ![128, 1] j)
theorem strip_at (z : ℕ) (j) (q : Fin 8) (hz : z = q.val) (k : Fin 128) : strip m c t z j (ix2 k 0) = A5 m c (ix2 q k) := by
  refine (congrArg (iblk m c 4 t) ?_).trans (b4 m c t k q)
  blk_ext <;> simp [LoadRect.idx, Rect.unit, hz]

theorem row_at2 (h : Fin 2) (s : Fin 128) (n : Fin 16) (hn : n.val = t.val * 2 + h.val) : row t (at2 h s) = Sgu.row n s := Fin.ext (by
  show t.val * 256 + (h.val * 128 + s.val) = n.val * 128 + s.val
  omega)
theorem tile_at (h : Fin 2) (q : Fin 8) (o p z : ℕ) (ho : o = h.val * 128) (hp : p = q.val * 256) (hz : z = q.val) (hs i j) (x : S128x256.Idx) (a b : Fin 2048)
    (ha : a.val = t.val * 256 + (o + (x 0).val)) (hb : b.val = p + (x 1).val) :
    tile (U m c t) (VN m c t) MK (slab m c t z i) (strip m c t z j) o p hs x = out (A0 m c) (A1 m c) (A2 m c) (A3 m c) (A4 m c) (A5 m c) a b := by
  obtain ⟨k, l, rfl⟩ : ∃ (k : Fin 128) (l : Fin 256), x = ix2 k l := ⟨x 0, x 1, eq_ix2 x⟩
  have ht : t.val < 8 := t.isLt
  obtain ⟨n, hn⟩ : ∃ n : Fin 16, n.val = t.val * 2 + h.val := ⟨⟨t.val * 2 + h.val, by omega⟩, rfl⟩
  have ea : a = Sgu.row n k := Fin.ext (by
    refine ha.trans ?_
    show t.val * 256 + (o + k.val) = n.val * 128 + k.val
    omega)
  have eb : b = Sgu.lane q l := Fin.ext (by
    refine hb.trans ?_
    show p + l.val = q.val * 256 + l.val
    omega)
  subst ea eb
  rw [tile_read _ _ _ _ _ h q o p ho hp hs k l]
  unfold out sp
  rw [Sgu.win_row, Sgu.pl_row, Sgu.gr_lane, Sgu.ch_lane, u_at, row_at2 t h k n hn, strip_at m c t z j q hz]
  refine congrArg (fun y => _ * (y + _)) (Finset.sum_congr rfl fun s _ => ?_)
  rw [slab_at m c t z i q hz, mk_at, vn_at, row_at2 t h s n hn]
  exact mul_comm _ _
end

theorem final (c : Dev nD) : (dats m 0 c).arrAt 5 (cfgs 0).N = fun j : S2048x2048.Idx => out (A0 m c) (A1 m c) (A2 m c) (A3 m c) (A4 m c) (A5 m c) (j 0) (j 1) := by
  refine (dats m 0 c).arrAt_eq_of_covers 5 _ (by decide +kernel) fun t _ y => ?_
  blk_simp
  rw [after0_5]; unfold_out out0_5; frame_out
  canon_tiles x hx
  · exact tile_at m c t 1 7 _ _ _ rfl rfl rfl _ _ _ x _ _ (by blk_simp [idx t]; simp [hx0]) (by blk_simp [idx t]; simp [hx1])
  · exact tile_at m c t 0 7 _ _ _ rfl rfl rfl _ _ _ x _ _ (by blk_simp [idx t]; simp [hx0]) (by blk_simp [idx t]; simp [hx1])
  · exact tile_at m c t 1 6 _ _ _ rfl rfl rfl _ _ _ x _ _ (by blk_simp [idx t]; simp [hx0]) (by blk_simp [idx t]; simp [hx1])
  · exact tile_at m c t 0 6 _ _ _ rfl rfl rfl _ _ _ x _ _ (by blk_simp [idx t]; simp [hx0]) (by blk_simp [idx t]; simp [hx1])
  · exact tile_at m c t 1 5 _ _ _ rfl rfl rfl _ _ _ x _ _ (by blk_simp [idx t]; simp [hx0]) (by blk_simp [idx t]; simp [hx1])
  · exact tile_at m c t 0 5 _ _ _ rfl rfl rfl _ _ _ x _ _ (by blk_simp [idx t]; simp [hx0]) (by blk_simp [idx t]; simp [hx1])
  · exact tile_at m c t 1 4 _ _ _ rfl rfl rfl _ _ _ x _ _ (by blk_simp [idx t]; simp [hx0]) (by blk_simp [idx t]; simp [hx1])
  · exact tile_at m c t 0 4 _ _ _ rfl rfl rfl _ _ _ x _ _ (by blk_simp [idx t]; simp [hx0]) (by blk_simp [idx t]; simp [hx1])
  · exact tile_at m c t 1 3 _ _ _ rfl rfl rfl _ _ _ x _ _ (by blk_simp [idx t]; simp [hx0]) (by blk_simp [idx t]; simp [hx1])
  · exact tile_at m c t 0 3 _ _ _ rfl rfl rfl _ _ _ x _ _ (by blk_simp [idx t]; simp [hx0]) (by blk_simp [idx t]; simp [hx1])
  · exact tile_at m c t 1 2 _ _ _ rfl rfl rfl _ _ _ x _ _ (by blk_simp [idx t]; simp [hx0]) (by blk_simp [idx t]; simp [hx1])
  · exact tile_at m c t 0 2 _ _ _ rfl rfl rfl _ _ _ x _ _ (by blk_simp [idx t]; simp [hx0]) (by blk_simp [idx t]; simp [hx1])
  · exact tile_at m c t 1 1 _ _ _ rfl rfl rfl _ _ _ x _ _ (by blk_simp [idx t]; simp [hx0]) (by blk_simp [idx t]; simp [hx1])
  · exact tile_at m c t 0 1 _ _ _ rfl rfl rfl _ _ _ x _ _ (by blk_simp [idx t]; simp [hx0]) (by blk_simp [idx t]; simp [hx1])
  · exact tile_at m c t 1 0 _ _ _ rfl rfl rfl _ _ _ x _ _ (by blk_simp [idx t]; simp [hx0]) (by blk_simp [idx t]; simp [hx1])
  · exact tile_at m c t 0 0 _ _ _ rfl rfl rfl _ _ _ x _ _ (by blk_simp [idx t]; simp [hx0]) (by blk_simp [idx t]; simp [hx1])

end Cert.SguFwd

end
-- ==== Proof.AdaMod.lean ====
module

public import proofs.«01_k».proof.Proof.Gen.AdaModIdeal.Value
public import proofs.«01_k».proof.Proof.Gen.AdaModRefIdeal.Run
public import proofs.«01_k».proof.Proof.Gen.AdaModRefIdeal.Read
public import proofs.«01_k».proof.Proof.Scalars
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdaMod
open Cert.AdaModIdeal Cert.AdaModIdeal.Gen

open Cert.AdaModRefIdeal.Read in
theorem ref_at (C : FVec Ideal AdaModRefIdeal.S8x1024 .f32) (W : FVec Ideal AdaModRefIdeal.S4x1024x2304 .f32) (B : FVec Ideal AdaModRefIdeal.S4x2304 .f32) (l : Fin 4) (b : Fin 8) (n : Fin 2304) :
    val_main_v5 (F := Ideal) C W B (ix3 l b n) = (∑ d : Fin 1024, (C (ix2 b d) : EReal) * Ideal.div 1 (1 + Ideal.exp (-(C (ix2 b d) : EReal))) * (W (ix3 l d n) : EReal)) + (B (ix2 l n) : EReal) := by
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  refine congrArg (· + _) (Finset.sum_congr rfl fun b _ => mul_comm _ _)

theorem idx : ∀ t : Fin cfg0.N, win0_0.index t = ![0, 0] ∧ win0_1.index t = ![(grid0.coords t 0).val, 0, (grid0.coords t 1).val] ∧ win0_2.index t = ![(grid0.coords t 0).val, 0, (grid0.coords t 1).val] ∧ win0_3.index t = ![(grid0.coords t 0).val, 0, (grid0.coords t 1).val] :=
  (by decide +kernel : ∀ t : Fin grid0.N, _)

variable (m : (ℓ : Loc nD τ sig) → Buf (Elt Ideal) ℓ)

theorem final (c : Dev nD) : (dats m 0 c).arrAt 3 (cfgs 0).N = Cert.AdaModRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  rw [eq_ix3 (((cfg0.win 3).blk t).view.emb y)]
  refine Eq.trans ?_ (ref_at _ _ _ _ _ _).symm
  pointwise [k0_pay1]
  simp only [Cert.Sc.sigmoid]
  blk_point [iblk, V, idx t]

end Cert.AdaMod

end
-- ==== Proof.AttnSpec.lean ====
module

public import proofs.«01_k».proof.Proof.Gen.AttnFwdIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwd
open Cert.AttnFwdIdeal Cert.AttnFwdIdeal.Gen

def row (n : Fin 32) (t : Fin 64) : Fin 2048 := ⟨n.val * 64 + t.val, by omega⟩
def col (h : Fin 16) (d : Fin 64) : Fin 1024 := ⟨h.val * 64 + d.val, by omega⟩
def band (n : Fin 32) (r : Fin 576) : Fin 2560 := ⟨n.val * 64 + r.val, by omega⟩
/-- A row of the padded keys or values: nought in the first 512. -/
def pd (X : FVec Ideal S1x2048x1024 .f32) (p : Fin 2560) (l : Fin 1024) : EReal := if h : p.val < 512 then 0 else X (ix3 0 ⟨p.val - 512, by omega⟩ l)
/-- Less than any number. -/
abbrev low : EReal := Ideal.ofBits .f32 0xFF800000#32
/-- The greatest of a row. -/
def top (s : Fin 576 → EReal) : EReal := Finset.univ.fold (max : Ideal .f32 → Ideal .f32 → Ideal .f32) low s
theorem top_low (s : Fin 576 → EReal) : max low (top s) = top s :=
  max_eq_right ((Finset.le_fold_max _).2 (Or.inl le_rfl))
/-- The exponentials of a row of scores, less the greatest, and the mean of values they weigh. -/
def ex (s : Fin 576 → EReal) (r : Fin 576) : EReal := FloatOps.exp (F := Ideal) (φ := .f32) (s r - top s)
def mean (s v : Fin 576 → EReal) : EReal := ∑ r, Ideal.div (ex s r) (∑ k, ex s k) * v r

section
variable (Q K W : FVec Ideal S1x2048x1024 .f32) (B : FVec Ideal S16x64x576 .f32)

/-- A chunk's scores with its band, and what the attention gives. -/
def sc (n : Fin 32) (h : Fin 16) (t : Fin 64) (r : Fin 576) : EReal :=
  if 512 ≤ n.val * 64 + r.val then (∑ d : Fin 64, Q (ix3 0 (row n t) (col h d)) * pd K (band n r) (col h d)) * Ideal.ofBits .f32 0x3E000000#32 + B (ix3 h t r) else low
def out (n : Fin 32) (h : Fin 16) (t d : Fin 64) : EReal := mean (sc Q K B n h t) fun r => pd W (band n r) (col h d)

/-- What both programs leave. -/
def res : FVec Ideal S2048x1024 .bf16 := fun j => out Q K W B ⟨(j 0).val / 64, by have : (j 0).val < 2048 := (j 0).isLt; omega⟩ ⟨(j 1).val / 64, by have : (j 1).val < 1024 := (j 1).isLt; omega⟩ ⟨(j 0).val % 64, by omega⟩ ⟨(j 1).val % 64, by omega⟩
theorem res_of (i : S2048x1024.Idx) (n : Fin 32) (h : Fin 16) (t d : Fin 64) (h0 : (i 0).val = n.val * 64 + t.val) (h1 : (i 1).val = h.val * 64 + d.val) : res Q K W B i = out Q K W B n h t d := by
  unfold res
  congr 1 <;> exact Fin.ext (by show _ = _; simp only [h0, h1]; omega)
end

end Cert.AttnFwd

end
-- ==== Proof.AttnWord.lean ====
module

public import proofs.«01_k».proof.Proof.AttnSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwd
open Cert.AttnFwdIdeal Cert.AttnFwdIdeal.Gen

theorem rword : ∀ (n : Fin 32) (r : Fin 576), IntOp.cmpi .sge (IntOp.addi (IntOp.subi (IntOp.muli (BitVec.ofNat 32 n.val) 64#32) 512#32) (BitVec.ofNat 32 r.val)) 0#32 = if 512 ≤ n.val * 64 + r.val then 1#1 else 0#1 := by
  decide +kernel
theorem kword : ∀ (j : Fin 2) (b : Fin 16) (r : Fin 576), IntOp.cmpi .sge (IntOp.addi (BitVec.ofNat 32 r.val) (Scalar.muli (Scalar.addi (Scalar.muli (BitVec.ofNat 32 j.val) 16#32) (BitVec.ofNat 32 b.val)) 64#32)) 512#32 = if 512 ≤ (j.val * 16 + b.val) * 64 + r.val then 1#1 else 0#1 := by
  decide +kernel

theorem pick (p : Prop) [Decidable p] (a b : EReal) : Scalar.select (if p then 1#1 else 0#1) a b = if p then a else b := by
  split <;> rfl

end Cert.AttnFwd

end
-- ==== Proof.AttnTile.lean ====
module

public import proofs.«01_k».proof.Proof.AttnWord
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwd
open Cert.AttnFwdIdeal Cert.AttnFwdIdeal.Gen

/-- The two heads of a block: lanes below 64, and the others. -/
abbrev lowSel : IVec S64x128 1 := k0_pay3
abbrev highSel : IVec S64x128 1 := xori k0_pay3 (constantI S64x128 1 1#1)
/-- Which of a chunk's band are frames of the sequence. -/
abbrev valid (i : grid0.Coords) (w : BitVec 32) : IVec S64x576 1 :=
  cmpi .sge (addi (iota .tc S64x576 32 [1] iota_S64x576_d1_w32) (broadcast S64x576 (Scalar.muli (Scalar.addi (Scalar.muli (BitVec.ofNat 32 (i 1).val) 16#32) w) 64#32))) (broadcast S64x576 512#32)

/-- One head's scores of one chunk's queries with its band of keys: masked, scaled, with the bias. -/
def scores (sel : IVec S64x128 1) (q : FVec Ideal S64x128 .bf16) (k : FVec Ideal S576x128 .bf16) (b : FVec Ideal S1x64x576 .f32) (vl : IVec S64x576 1) : FVec Ideal S64x576 .f32 :=
  select vl (addf (mulf (matmul dot_S64x128_S576x128_S64x576_1_1_0_0_n_n none (select sel (shapeCast S64x128 q shapeCasts_S64x128_S64x128) (broadcast S64x128 (Scalar.ofBits .bf16 0x0000#16)))
    (shapeCast S576x128 k shapeCasts_S576x128_S576x128) (constant S64x576 .f32 0x00000000#32)) (broadcast S64x576 (Scalar.ofBits .f32 0x3E000000#32))) (shapeCast S64x576 b shapeCasts_S1x64x576_S64x576)) (broadcast S64x576 (Scalar.ofBits .f32 0xFF800000#32))
/-- The exponentials of scores, less the row's greatest. -/
def expo (s : FVec Ideal S64x576 .f32) : FVec Ideal S64x576 .f32 :=
  exp (subf s (broadcastTo S64x576 (shapeCast S64x1 (multiReduction .maximumf [1] S64 s 0xFF800000#32 reduces_S64x576_S64 (.inl rfl) rfl) shapeCasts_S64_S64x1) broadcasts_S64x1_S64x576))
/-- The softmax's product with the values. -/
def mix (e : FVec Ideal S64x576 .f32) (v : FVec Ideal S576x128 .bf16) : FVec Ideal S64x128 .f32 :=
  matmul dot_S64x576_S576x128_S64x128_1_0_0_1_n_n none (truncf .bf16 (divf e (broadcastTo S64x576 (shapeCast S64x1 (multiReduction .add [1] S64 e 0x00000000#32 reduces_S64x576_S64 (.inl rfl) rfl) shapeCasts_S64_S64x1) broadcasts_S64x1_S64x576)) bitsLt_bf16_f32)
    (shapeCast S576x128 v shapeCasts_S576x128_S576x128) (constant S64x128 .f32 0x00000000#32)
/-- Both heads of one chunk. -/
def tile (q : FVec Ideal S64x128 .bf16) (k v : FVec Ideal S576x128 .bf16) (b0 b1 : FVec Ideal S1x64x576 .f32) (vl : IVec S64x576 1) : FVec Ideal S64x128 .f32 :=
  select lowSel (mix (expo (scores lowSel q k b0 vl)) v) (mix (expo (scores highSel q k b1 vl)) v)

theorem low_at : ∀ (t : Fin 64) (l : Fin 128), lowSel (ix2 t l) = if l.val / 64 = 0 then 1#1 else 0#1 := by
  decide +kernel
theorem high_at : ∀ (t : Fin 64) (l : Fin 128), highSel (ix2 t l) = if l.val / 64 = 1 then 1#1 else 0#1 := by
  decide +kernel
theorem expo_at (s : FVec Ideal S64x576 .f32) (t : Fin 64) (r : Fin 576) : expo s (ix2 t r) = ex (fun k => s (ix2 t k)) r := by
  pointwise [expo]
  rfl
theorem mix_at (s : FVec Ideal S64x576 .f32) (v : FVec Ideal S576x128 .bf16) (t : Fin 64) (l : Fin 128) : mix (expo s) v (ix2 t l) = mean (fun k => s (ix2 t k)) fun r => v (ix2 r l) := by
  pointwise [mix]
  simp only [expo_at]
  rfl
def lane (u : Fin 2) (d : Fin 64) : Fin 128 := ⟨u.val * 64 + d.val, by omega⟩
/-- A sum over the lanes of one head. -/
theorem head (u : Fin 2) (f g : Fin 128 → EReal) : (∑ x : Fin 128, (if x.val / 64 = u.val then f x else 0) * g x) = ∑ d, f (lane u d) * g (lane u d) := by
  refine (Fin.sum_univ_add (a := 64) (b := 64) fun x : Fin 128 => (if x.val / 64 = u.val then f x else 0) * g x).trans ?_
  match u with
  | 0 =>
    refine (congrArg₂ (· + ·) (Finset.sum_congr rfl fun d _ => ?_) (Finset.sum_eq_zero fun d _ => ?_)).trans (add_zero _)
    · rw [if_pos (by simp <;> omega)]
      exact congrArg (fun x => f x * g x) (Fin.ext (by simp [lane] <;> omega))
    · rw [if_neg (by simp), zero_mul]
  | 1 =>
    refine (congrArg₂ (· + ·) (Finset.sum_eq_zero fun d _ => ?_) (Finset.sum_congr rfl fun d _ => ?_)).trans (zero_add _)
    · rw [if_neg (by simp; omega), zero_mul]
    · rw [if_pos (by simp <;> omega)]
      exact congrArg (fun x => f x * g x) (Fin.ext (by simp [lane] <;> omega))
theorem scores_at (u : Fin 2) (sel : IVec S64x128 1) (hs : ∀ t l, sel (ix2 t l) = if l.val / 64 = u.val then 1#1 else 0#1) (q : FVec Ideal S64x128 .bf16) (k : FVec Ideal S576x128 .bf16) (b : FVec Ideal S1x64x576 .f32) (vl : IVec S64x576 1) (t : Fin 64) (r : Fin 576) :
    scores sel q k b vl (ix2 t r) = Scalar.select (vl (ix2 t r)) ((∑ d, q (ix2 t (lane u d)) * k (ix2 r (lane u d))) * Ideal.ofBits .f32 0x3E000000#32 + b (ix3 0 t r)) low := by
  rw [← head u (fun x => q (ix2 t x)) fun x => k (ix2 r x)]
  pointwise [scores]
  simp only [hs, pick, ite_mul, zero_mul]

end Cert.AttnFwd

end
-- ==== Proof.AttnBand.lean ====
module

public import proofs.«01_k».proof.Proof.AttnWord
public import Idealize.ShloMosaic.Lib.KernelVsHost
public import proofs.«01_k».proof.Proof.Gen.AttnFwdRefIdeal.Run
public import proofs.«01_k».proof.Proof.Gen.AttnFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwd
open Cert.AttnFwdIdeal Cert.AttnFwdIdeal.Gen

section
variable (Q K W : FVec Ideal S1x2048x1024 .f32) (B : FVec Ideal S16x64x576 .f32)

open Cert.AttnFwdRefIdeal.Read
theorem v0_at (n : Fin 32) (t : Fin 64) (h : Fin 16) (d : Fin 64) : val_main_v0 (F := Ideal) Q (ix4 n t h d) = Q (ix3 0 (row n t) (col h d)) := by
  pointwise [val_main_v0]
  rfl
theorem v3_at (p : Fin 2560) (l : Fin 1024) : val_main_v3 (F := Ideal) K (ix2 p l) = pd K p l := by
  pointwise [val_main_v3, val_main_v2, val_main_v1, val_main_cst]
  unfold pd
  rfl
theorem v6_at (p : Fin 2560) (l : Fin 1024) : val_main_v6 (F := Ideal) W (ix2 p l) = pd W p l := v3_at W p l
theorem v4_at (b : Fin 40) (t : Fin 64) (h : Fin 16) (d : Fin 64) : val_main_v4 (F := Ideal) K (ix4 b t h d) = pd K ⟨b.val * 64 + t.val, by omega⟩ (col h d) := by
  pointwise [val_main_v4]
  exact v3_at K _ (col h d)
/-- Nine slices, each a chunk further, side by side. -/
theorem nine (y : FVec Ideal AttnFwdRefIdeal.S40x64x16x64 .f32) (f : Fin 9 → FVec Ideal AttnFwdRefIdeal.S32x64x16x64 .f32) (hf : ∀ (k : Fin 9) n t h d, f k (ix4 n t h d) = y (ix4 ⟨k.val + n.val, by omega⟩ t h d))
    (n : Fin 32) (r : Fin 576) (h : Fin 16) (d : Fin 64) :
    concatenate AttnFwdRefIdeal.S32x576x16x64 1 [⟨AttnFwdRefIdeal.S32x64x16x64, f 0⟩, ⟨AttnFwdRefIdeal.S32x64x16x64, f 1⟩, ⟨AttnFwdRefIdeal.S32x64x16x64, f 2⟩, ⟨AttnFwdRefIdeal.S32x64x16x64, f 3⟩, ⟨AttnFwdRefIdeal.S32x64x16x64, f 4⟩, ⟨AttnFwdRefIdeal.S32x64x16x64, f 5⟩, ⟨AttnFwdRefIdeal.S32x64x16x64, f 6⟩, ⟨AttnFwdRefIdeal.S32x64x16x64, f 7⟩, ⟨AttnFwdRefIdeal.S32x64x16x64, f 8⟩]
      AttnFwdRefIdeal.Gen.concatenates_S32x64x16x64_S32x64x16x64_S32x64x16x64_S32x64x16x64_S32x64x16x64_S32x64x16x64_S32x64x16x64_S32x64x16x64_S32x64x16x64_S32x576x16x64_d1 (ix4 n r h d)
      = y (ix4 ⟨r.val / 64 + n.val, by omega⟩ ⟨r.val % 64, by omega⟩ h d) := by
  refine (concatenate_ofFn_apply (t := AttnFwdRefIdeal.S32x576x16x64) (s₁ := AttnFwdRefIdeal.S32x64x16x64) 1 f _ rfl 64 rfl (ix4 n r h d) ⟨r.val / 64, by omega⟩ rfl (ix4 n ⟨r.val % 64, by omega⟩ h d) rfl ?_).trans (hf _ _ _ _ _)
  intro b hb
  match b with
  | 0 => rfl
  | 1 => exact absurd rfl hb
  | 2 => rfl
  | 3 => rfl
theorem v17_at (n : Fin 32) (r : Fin 576) (h : Fin 16) (d : Fin 64) : val_main_v17 (F := Ideal) K (ix4 n r h d) = pd K (band n r) (col h d) := by
  refine (nine (val_main_v4 (F := Ideal) K) (![val_main_v8 (F := Ideal) K, val_main_v9 (F := Ideal) K, val_main_v10 (F := Ideal) K, val_main_v11 (F := Ideal) K, val_main_v12 (F := Ideal) K, val_main_v13 (F := Ideal) K, val_main_v14 (F := Ideal) K, val_main_v15 (F := Ideal) K, val_main_v16 (F := Ideal) K] : Fin 9 → FVec Ideal AttnFwdRefIdeal.S32x64x16x64 .f32) ?_ n r h d).trans ((v4_at K _ _ h d).trans ?_)
  · intro k n t h d
    fin_cases k <;> pointwise [val_main_v8, val_main_v9, val_main_v10, val_main_v11, val_main_v12, val_main_v13, val_main_v14, val_main_v15, val_main_v16]
    all_goals rfl
  · refine congrArg (fun p => pd K p (col h d)) (Fin.ext ?_)
    show (r.val / 64 + n.val) * 64 + r.val % 64 = n.val * 64 + r.val
    omega
theorem v27_at (n : Fin 32) (r : Fin 576) (h : Fin 16) (d : Fin 64) : val_main_v27 (F := Ideal) W (ix4 n r h d) = pd W (band n r) (col h d) := v17_at W n r h d
theorem v40_at (n : Fin 32) (r : Fin 576) : val_main_v40 (F := Ideal) (ix2 n r) = if 512 ≤ n.val * 64 + r.val then 1#1 else 0#1 := by
  rw [← rword]
  pointwise [val_main_v40, val_main_v39, val_main_v38, val_main_v37, val_main_v36, val_main_v35, val_main_v34, val_main_v33, val_main_v32, val_main_v31, val_main_v30, val_main_v29, val_main_v28, val_main_c, val_main_c_0, val_main_c_1]
theorem v48_at (n : Fin 32) (h : Fin 16) (t : Fin 64) (r : Fin 576) : val_main_v48 (F := Ideal) Q K B (ix4 n h t r) = sc Q K B n h t r := by
  pointwise [val_main_v48, val_main_call0_v2, val_main_call0_v1, val_main_call0_v0, val_main_cst_3, val_main_v47, val_main_v46, val_main_v45, val_main_v44, val_main_v43, val_main_v42, val_main_cst_2, val_main_v41]
  simp only [v40_at, v0_at, v17_at, pick]
  rfl
theorem red (x : FVec Ideal AttnFwdRefIdeal.S32x16x64x576 .f32) (n : Fin 32) (h : Fin 16) (t : Fin 64) :
    Host.reduce FloatOps.maximumf x (val_main_cst_4 (F := Ideal)) AttnFwdRefIdeal.Gen.reducesTo_S32x16x64x576_S32x16x64_d3 AttnFwdRefIdeal.Gen.h_S_ (ix3 n h t) = top fun k => x (ix4 n h t k) := by
  pointwise [val_main_cst_4]
  rfl
theorem v49_at (n : Fin 32) (h : Fin 16) (t : Fin 64) : val_main_v49 (F := Ideal) Q K B (ix3 n h t) = top (sc Q K B n h t) := by
  unfold val_main_v49
  refine (red _ n h t).trans ?_
  exact congrArg top (funext fun k => v48_at Q K B n h t k)
theorem over (x : FVec Ideal AttnFwdRefIdeal.S32x16x64 .f32) (i : AttnFwdRefIdeal.S32x16x64.Idx) (s : Fin 576 → EReal) (e : x i = top s) : maximumf (val_main_v50 (F := Ideal)) x i = top s := by
  refine Eq.trans ?_ (top_low s)
  rw [← e]
  rfl
theorem v51_at (n : Fin 32) (h : Fin 16) (t : Fin 64) : val_main_v51 (F := Ideal) Q K B (ix3 n h t) = top (sc Q K B n h t) := by
  unfold val_main_v51
  exact over _ _ _ (v49_at Q K B n h t)
theorem v55_at (n : Fin 32) (h : Fin 16) (t : Fin 64) (r : Fin 576) : val_main_v55 (F := Ideal) Q K B (ix4 n h t r) = ex (sc Q K B n h t) r := by
  pointwise [val_main_v55, val_main_v54, val_main_v53, val_main_v52]
  rw [v48_at, v51_at]
  rfl
theorem v60_at (n : Fin 32) (h : Fin 16) (d t : Fin 64) : val_main_v60 (F := Ideal) Q K W B (ix4 n h d t) = out Q K W B n h t d := by
  pointwise [val_main_v60, val_main_v59, val_main_v58, val_main_v57, val_main_v56, val_main_cst_6]
  simp only [v55_at, v27_at]
  exact Finset.sum_congr rfl fun r _ => mul_comm _ _
theorem ref_out : val_main_v63 (F := Ideal) Q K W B = res Q K W B := by
  funext j
  obtain ⟨a, b, rfl⟩ : ∃ (a : Fin 2048) (b : Fin 1024), j = ix2 a b := ⟨j 0, j 1, eq_ix2 j⟩
  obtain ⟨n, t, rfl⟩ : ∃ n t, a = row n t := ⟨⟨a.val / 64, by omega⟩, ⟨a.val % 64, by omega⟩, Fin.ext (by show _ = a.val / 64 * 64 + a.val % 64; omega)⟩
  obtain ⟨h, d, rfl⟩ : ∃ h d, b = col h d := ⟨⟨b.val / 64, by omega⟩, ⟨b.val % 64, by omega⟩, Fin.ext (by show _ = b.val / 64 * 64 + b.val % 64; omega)⟩
  refine Eq.trans (b := val_main_v61 (F := Ideal) Q K W B (ix4 n t h d)) ?_ ?_
  · pointwise [val_main_v63, val_main_v62]
    refine congrArg (val_main_v61 (F := Ideal) Q K W B) ?_
    blk_ext <;> simp [row, col] <;> omega
  · pointwise [val_main_v61]
    rw [v60_at]
    exact (res_of Q K W B _ n h t d rfl rfl).symm
end

end Cert.AttnFwd

end
-- ==== Proof.AttnFwd.lean ====
module

public import proofs.«01_k».proof.Proof.AttnTile
public import proofs.«01_k».proof.Proof.AttnBand
public import Idealize.ShloMosaic.Lib.KernelVsHost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwd
open Cert.AttnFwdIdeal Cert.AttnFwdIdeal.Gen

variable (m : (ℓ : Loc nD τ sig) → Buf (Elt Ideal) ℓ) (c : Dev nD)
abbrev A0 : FVec Ideal S1x2048x1024 .f32 := m ((c : Thread nD τ).loc main_arg0)
abbrev A1 : FVec Ideal S1x2048x1024 .f32 := m ((c : Thread nD τ).loc main_arg1)
abbrev A2 : FVec Ideal S1x2048x1024 .f32 := m ((c : Thread nD τ).loc main_arg2)
abbrev A3 : FVec Ideal S16x64x576 .f32 := m ((c : Thread nD τ).loc main_arg3)

theorem idx : ∀ t : Fin cfg0.N, win0_0.index t = ![t.val % 2, t.val / 2] ∧ win0_1.index t = ![0, t.val / 2] ∧ win0_2.index t = ![0, t.val / 2] ∧ win0_3.index t = ![t.val / 2, 0, 0] ∧ win0_4.index t = ![t.val % 2, t.val / 2] :=
  (by decide +kernel : ∀ t : Fin grid0.N, _)
theorem second : ∀ t : Fin cfg0.N, (grid0.coords t 1).val = t.val % 2 :=
  (by decide +kernel : ∀ t : Fin grid0.N, _)

section
variable (t : Fin cfg0.N)
theorem t_lt : t.val < 16 := t.isLt
def ln (l : Fin 128) : Fin 1024 := ⟨t.val / 2 * 128 + l.val, by have := t_lt t; omega⟩
def hd (u : Fin 2) : Fin 16 := ⟨t.val / 2 * 2 + u.val, by have := t_lt t; omega⟩
def ch (b : Fin 16) : Fin 32 := ⟨t.val % 2 * 16 + b.val, by omega⟩
def rows (i : Fin 1024) : Fin 2048 := ⟨t.val % 2 * 1024 + i.val, by omega⟩
theorem b0 (i : Fin 1024) (l : Fin 128) : iblk m c 0 t (ix2 i l) = A0 m c (ix3 0 (rows t i) (ln t l)) := by
  refine Eq.trans (b := V m c main_v1 (ix2 (rows t i) (ln t l))) ?_ ?_
  · unfold rows ln; blk_point [iblk, idx t]
  · unfold V
    simp only [List.flatten_cons, List.flatten_nil, List.cons_append, List.nil_append, List.append_nil, hostOps0, hostOps0_1, hostOps0_2, hostOps0_3]
    entry_read
    pointwise
theorem nought : FloatOps.sitofp (F := Ideal) .bf16 (0#32) = 0 := by
  show (((0#32 : BitVec 32).toInt : ℝ) : EReal) = 0
  simp
/-- Padding in front. -/
theorem pads_at (x : FVec Ideal S2048x1024 .bf16) (X : FVec Ideal S1x2048x1024 .f32) (hx : ∀ a b, x (ix2 a b) = X (ix3 0 a b)) (z : FVec Ideal S_ .bf16) (hz : ∀ i, z i = 0) (p : Fin 2560) (l : Fin 1024) :
    pad S2560x1024 ![512, 0] ![0, 0] ![0, 0] x z pads_S2048x1024_S2560x1024_51200_000 h_S_ (ix2 p l) = pd X p l := by
  unfold pd
  split
  · next h =>
    refine (pad_apply_of_not_inside _ _ _ _ _ _ _ _ 0 fun q => ?_).trans (hz _)
    have : (512 : ℕ) ≤ p.val := q.1
    omega
  · next h =>
    refine (pad_apply_of_inside _ _ _ _ _ _ _ _ (ix2 ⟨p.val - 512, by omega⟩ l) fun a => ?_).trans (hx _ _)
    match a with
    | 0 =>
      show p.val = 512 + (p.val - 512) * 1
      omega
    | 1 =>
      show l.val = 0 + l.val * 1
      omega
theorem b1 (p : Fin 2560) (l : Fin 128) : iblk m c 1 t (ix2 p l) = pd (A1 m c) p (ln t l) := by
  refine Eq.trans (b := V m c main_v4 (ix2 p (ln t l))) ?_ ?_
  · unfold ln; blk_point [iblk, idx t]
  · entry_read
    refine pads_at _ (A1 m c) (fun a b => ?_) _ (fun i => ?_) p (ln t l)
    · simp only [StableHlo.TRef.unary, StableHlo.TRef.binary, StableHlo.TRef.nullary, StableHlo.TRef.toBuf, StableHlo.TRef.ofBuf, cast_eq]; after_results_simp; pointwise
    · simp only [StableHlo.TRef.unary, StableHlo.TRef.binary, StableHlo.TRef.nullary, StableHlo.TRef.toBuf, StableHlo.TRef.ofBuf, cast_eq]; after_results_simp; pointwise; exact nought
theorem b2 (p : Fin 2560) (l : Fin 128) : iblk m c 2 t (ix2 p l) = pd (A2 m c) p (ln t l) := by
  refine Eq.trans (b := V m c main_v7 (ix2 p (ln t l))) ?_ ?_
  · unfold ln; blk_point [iblk, idx t]
  · entry_read
    refine pads_at _ (A2 m c) (fun a b => ?_) _ (fun i => ?_) p (ln t l)
    · simp only [StableHlo.TRef.unary, StableHlo.TRef.binary, StableHlo.TRef.nullary, StableHlo.TRef.toBuf, StableHlo.TRef.ofBuf, cast_eq]; after_results_simp; pointwise
    · simp only [StableHlo.TRef.unary, StableHlo.TRef.binary, StableHlo.TRef.nullary, StableHlo.TRef.toBuf, StableHlo.TRef.ofBuf, cast_eq]; after_results_simp; pointwise; exact nought
theorem b3 (u : Fin 2) (a : Fin 64) (r : Fin 576) : iblk m c 3 t (ix3 u a r) = A3 m c (ix3 (hd t u) a r) := by
  unfold hd
  blk_point [iblk, V, idx t]

/-- A chunk's queries, its band of keys or values, and a head's bias. -/
abbrev lq (o : ℕ) (i : ∀ k, (![o, 0] : Fin 2 → ℕ) k + (![64, 128] : Fin 2 → ℕ) k ≤ S1024x128.size k) : FVec Ideal S64x128 .bf16 :=
  View.ld (Val := Elt Ideal) (e' := .bf16) (iblk m c 0 t) (Rect.unit (s := S1024x128) ![o, 0] ![64, 128] i)
abbrev lk (o : Fin 2 → ℕ) (i : ∀ k, o k + (![576, 128] : Fin 2 → ℕ) k ≤ S2560x128.size k) : FVec Ideal S576x128 .bf16 :=
  View.ld (Val := Elt Ideal) (e' := .bf16) (iblk m c 1 t) (Rect.unit (s := S2560x128) o ![576, 128] i)
abbrev lv (o : Fin 2 → ℕ) (i : ∀ k, o k + (![576, 128] : Fin 2 → ℕ) k ≤ S2560x128.size k) : FVec Ideal S576x128 .bf16 :=
  View.ld (Val := Elt Ideal) (e' := .bf16) (iblk m c 2 t) (Rect.unit (s := S2560x128) o ![576, 128] i)
abbrev lb (z : ℕ) (i : ∀ k, (![z, 0, 0] : Fin 3 → ℕ) k + (![1, 64, 576] : Fin 3 → ℕ) k ≤ S2x64x576.size k) : FVec Ideal S1x64x576 .f32 :=
  View.ld (Val := Elt Ideal) (e' := .f32) (iblk m c 3 t) (Rect.unit (s := S2x64x576) ![z, 0, 0] ![1, 64, 576] i)
theorem ln_lane (u : Fin 2) (d : Fin 64) : ln t (lane u d) = col (hd t u) d := Fin.ext (by
  show t.val / 2 * 128 + (u.val * 64 + d.val) = (t.val / 2 * 2 + u.val) * 64 + d.val
  omega)
theorem lq_at (b : Fin 16) (o : ℕ) (ho : o = b.val * 64) (i) (a : Fin 64) (u : Fin 2) (d : Fin 64) : lq m c t o i (ix2 a (lane u d)) = A0 m c (ix3 0 (row (ch t b) a) (col (hd t u) d)) := by
  have e : rows t ⟨b.val * 64 + a.val, by omega⟩ = row (ch t b) a := Fin.ext (by
    show t.val % 2 * 1024 + (b.val * 64 + a.val) = (t.val % 2 * 16 + b.val) * 64 + a.val
    omega)
  rw [← ln_lane, ← e]
  refine (congrArg (iblk m c 0 t) ?_).trans (b0 m c t ⟨b.val * 64 + a.val, by omega⟩ (lane u d))
  blk_ext <;> simp [LoadRect.idx, Rect.unit, ho]
theorem lk_at (b : Fin 16) (o : Fin 2 → ℕ) (ho : o = ![(ch t b).val * 64, 0]) (i) (r : Fin 576) (u : Fin 2) (d : Fin 64) : lk m c t o i (ix2 r (lane u d)) = pd (A1 m c) (band (ch t b) r) (col (hd t u) d) := by
  rw [← ln_lane]
  refine (congrArg (iblk m c 1 t) ?_).trans (b1 m c t (band (ch t b) r) (lane u d))
  subst ho
  blk_ext <;> simp [LoadRect.idx, Rect.unit, band]
theorem lv_at (b : Fin 16) (o : Fin 2 → ℕ) (ho : o = ![(ch t b).val * 64, 0]) (i) (r : Fin 576) (u : Fin 2) (d : Fin 64) : lv m c t o i (ix2 r (lane u d)) = pd (A2 m c) (band (ch t b) r) (col (hd t u) d) := by
  rw [← ln_lane]
  refine (congrArg (iblk m c 2 t) ?_).trans (b2 m c t (band (ch t b) r) (lane u d))
  subst ho
  blk_ext <;> simp [LoadRect.idx, Rect.unit, band]
theorem lb_at (u : Fin 2) (z : ℕ) (hz : z = u.val) (i) (a : Fin 64) (r : Fin 576) : lb m c t z i (ix3 0 a r) = A3 m c (ix3 (hd t u) a r) := by
  refine (congrArg (iblk m c 3 t) ?_).trans (b3 m c t u a r)
  blk_ext <;> simp [LoadRect.idx, Rect.unit, hz]
theorem valid_at (b : Fin 16) (a : Fin 64) (r : Fin 576) : valid (grid0.coords t) (BitVec.ofNat 32 b.val) (ix2 a r) = if 512 ≤ (ch t b).val * 64 + r.val then 1#1 else 0#1 := by
  refine Eq.trans ?_ (kword ⟨t.val % 2, by omega⟩ b r)
  pointwise
  simp only [second]
/-- A row of one head's scores, as the attention has it. -/
theorem row_at (b : Fin 16) (u : Fin 2) (sel : IVec S64x128 1) (hs : ∀ t l, sel (ix2 t l) = if l.val / 64 = u.val then 1#1 else 0#1) (o ok z) (ho : o = b.val * 64) (hk : ok = ![(ch t b).val * 64, 0]) (hz : z = u.val) (i j k) (a : Fin 64) (r : Fin 576) :
    scores sel (lq m c t o i) (lk m c t ok j) (lb m c t z k) (valid (grid0.coords t) (BitVec.ofNat 32 b.val)) (ix2 a r) = sc (A0 m c) (A1 m c) (A3 m c) (ch t b) (hd t u) a r := by
  rw [scores_at u sel hs, valid_at, pick, lb_at m c t u z hz]
  simp only [lq_at m c t b o ho, lk_at m c t b ok hk]
  rfl
theorem tile_at (b : Fin 16) (o ok) (ho : o = b.val * 64) (hk : ok = ![(ch t b).val * 64, 0]) (i j j' k k') (a : Fin 64) (u : Fin 2) (d : Fin 64) :
    tile (lq m c t o i) (lk m c t ok j) (lv m c t ok j') (lb m c t 0 k) (lb m c t 1 k') (valid (grid0.coords t) (BitVec.ofNat 32 b.val)) (ix2 a (lane u d)) = out (A0 m c) (A1 m c) (A2 m c) (A3 m c) (ch t b) (hd t u) a d := by
  show Scalar.select (lowSel (ix2 a (lane u d))) _ _ = _
  rw [low_at, pick, mix_at, mix_at]
  simp only [row_at m c t b 0 lowSel low_at o ok 0 ho hk rfl, row_at m c t b 1 highSel high_at o ok 1 ho hk rfl, lv_at m c t b ok hk]
  match u with
  | 0 => exact if_pos (by simp [lane])
  | 1 => exact if_neg (by simp [lane])
theorem off_at (b : Fin 16) : k0_off1 (grid0.coords t) (BitVec.ofNat 32 b.val) = ![(ch t b).val * 64, 0] := by
  rw [k0_off1_eq, second]
  refine congrArg (fun x => ![x, 0]) ?_
  show 1024 * (t.val % 2) + 64 * b.val = (t.val % 2 * 16 + b.val) * 64
  omega
end

def place (b : Fin 16) (a : Fin 64) : Fin 1024 := ⟨b.val * 64 + a.val, by omega⟩
/-- A block is its chunks, one under the other. -/
theorem stack (f : Fin 16 → FVec Ideal S64x128 .f32) (b : Fin 16) (a : Fin 64) (l : Fin 128) :
    k0_pay2 (F := Ideal) (f 0) (f 1) (f 2) (f 3) (f 4) (f 5) (f 6) (f 7) (f 8) (f 9) (f 10) (f 11) (f 12) (f 13) (f 14) (f 15) (ix2 (place b a) l) = f b (ix2 a l) := by
  refine concatenate_ofFn_apply (t := S1024x128) (s₁ := S64x128) 0 f concatenates_S64x128_S64x128_S64x128_S64x128_S64x128_S64x128_S64x128_S64x128_S64x128_S64x128_S64x128_S64x128_S64x128_S64x128_S64x128_S64x128_S1024x128_d0 rfl 64 rfl (ix2 (place b a) l) b ?_ (ix2 a l) ?_ ?_
  · show (b.val * 64 + a.val) / 64 = b.val
    omega
  · show a.val = (b.val * 64 + a.val) % 64
    omega
  · intro k hk
    match k with
    | 0 => exact absurd rfl hk
    | 1 => rfl
theorem stacked (f0 f1 f2 f3 f4 f5 f6 f7 f8 f9 f10 f11 f12 f13 f14 f15 : FVec Ideal S64x128 .f32) (P : Fin 16 → Fin 64 → Fin 2 → Fin 64 → EReal) (h : ∀ b a u d, (![f0, f1, f2, f3, f4, f5, f6, f7, f8, f9, f10, f11, f12, f13, f14, f15] : Fin 16 → FVec Ideal S64x128 .f32) b (ix2 a (lane u d)) = P b a u d) (b : Fin 16) (a : Fin 64) (u : Fin 2) (d : Fin 64) :
    k0_pay2 (F := Ideal) f0 f1 f2 f3 f4 f5 f6 f7 f8 f9 f10 f11 f12 f13 f14 f15 (ix2 (place b a) (lane u d)) = P b a u d :=
  (stack ![f0, f1, f2, f3, f4, f5, f6, f7, f8, f9, f10, f11, f12, f13, f14, f15] b a (lane u d)).trans (h b a u d)

theorem final (c : Dev nD) : (dats m 0 c).arrAt 4 (cfgs 0).N = res (A0 m c) (A1 m c) (A2 m c) (A3 m c) := by
  refine (dats m 0 c).arrAt_eq_of_covers 4 _ (by decide +kernel) fun t _ y => ?_
  blk_simp
  rw [after0_4]; unfold outsAt0 out0_A_4; frame_out
  obtain ⟨p, l, rfl⟩ : ∃ (p : Fin 1024) (l : Fin 128), y = ix2 p l := ⟨y 0, y 1, eq_ix2 y⟩
  obtain ⟨b, a, rfl⟩ : ∃ b a, p = place b a := ⟨⟨p.val / 64, by omega⟩, ⟨p.val % 64, by omega⟩, Fin.ext (by show _ = p.val / 64 * 64 + p.val % 64; omega)⟩
  obtain ⟨u, d, rfl⟩ : ∃ u d, l = lane u d := ⟨⟨l.val / 64, by omega⟩, ⟨l.val % 64, by omega⟩, Fin.ext (by show _ = l.val / 64 * 64 + l.val % 64; omega)⟩
  refine (stacked _ _ _ _ _ _ _ _ _ _ _ _ _ _ _ _ (fun b a u d => out (A0 m c) (A1 m c) (A2 m c) (A3 m c) (ch t b) (hd t u) a d) ?_ b a u d).trans ?_
  · intro b a u d
    fin_cases b
    · exact tile_at m c t 0 _ _ rfl (off_at t 0) _ _ _ _ _ a u d
    · exact tile_at m c t 1 _ _ rfl (off_at t 1) _ _ _ _ _ a u d
    · exact tile_at m c t 2 _ _ rfl (off_at t 2) _ _ _ _ _ a u d
    · exact tile_at m c t 3 _ _ rfl (off_at t 3) _ _ _ _ _ a u d
    · exact tile_at m c t 4 _ _ rfl (off_at t 4) _ _ _ _ _ a u d
    · exact tile_at m c t 5 _ _ rfl (off_at t 5) _ _ _ _ _ a u d
    · exact tile_at m c t 6 _ _ rfl (off_at t 6) _ _ _ _ _ a u d
    · exact tile_at m c t 7 _ _ rfl (off_at t 7) _ _ _ _ _ a u d
    · exact tile_at m c t 8 _ _ rfl (off_at t 8) _ _ _ _ _ a u d
    · exact tile_at m c t 9 _ _ rfl (off_at t 9) _ _ _ _ _ a u d
    · exact tile_at m c t 10 _ _ rfl (off_at t 10) _ _ _ _ _ a u d
    · exact tile_at m c t 11 _ _ rfl (off_at t 11) _ _ _ _ _ a u d
    · exact tile_at m c t 12 _ _ rfl (off_at t 12) _ _ _ _ _ a u d
    · exact tile_at m c t 13 _ _ rfl (off_at t 13) _ _ _ _ _ a u d
    · exact tile_at m c t 14 _ _ rfl (off_at t 14) _ _ _ _ _ a u d
    · exact tile_at m c t 15 _ _ rfl (off_at t 15) _ _ _ _ _ a u d
  · exact (res_of _ _ _ _ _ _ _ _ _ (by blk_simp [idx t]; simp [place, ch]; omega) (by blk_simp [idx t]; simp [lane, hd]; omega)).symm

end Cert.AttnFwd

end
-- ==== Proof.lean ====
module

public import proofs.«01_k».proof.Defs
public import proofs.«01_k».proof.Proof.Gen.LaneSum
public import proofs.«01_k».proof.Proof.Gen.LaneSum.Frame
public import proofs.«01_k».proof.Proof.Gen.LaneSumIdeal
public import proofs.«01_k».proof.Proof.Gen.LaneSumIdeal.Frame
public import proofs.«01_k».proof.Proof.Gen.LaneSumIdeal.Value
public import proofs.«01_k».proof.Proof.Gen.LaneSumRefIdeal
public import proofs.«01_k».proof.Proof.Gen.LaneSumRefIdeal.Run
public import proofs.«01_k».proof.Proof.Gen.LaneSumRefIdeal.Read
public import proofs.«01_k».proof.Proof.Gen.AdaGrad
public import proofs.«01_k».proof.Proof.Gen.AdaGrad.Frame
public import proofs.«01_k».proof.Proof.Gen.AdaGradIdeal
public import proofs.«01_k».proof.Proof.Gen.AdaGradIdeal.Frame
public import proofs.«01_k».proof.Proof.Gen.AdaGradIdeal.Value
public import proofs.«01_k».proof.Proof.Gen.AdaGradRefIdeal
public import proofs.«01_k».proof.Proof.Gen.AdaGradRefIdeal.Run
public import proofs.«01_k».proof.Proof.Gen.AdaGradRefIdeal.Read
public import proofs.«01_k».proof.Proof.Gen.FfnAct
public import proofs.«01_k».proof.Proof.Gen.FfnAct.Frame
public import proofs.«01_k».proof.Proof.Gen.FfnActIdeal
public import proofs.«01_k».proof.Proof.Gen.FfnActIdeal.Frame
public import proofs.«01_k».proof.Proof.Gen.FfnActIdeal.Value
public import proofs.«01_k».proof.Proof.Gen.FfnActRefIdeal
public import proofs.«01_k».proof.Proof.Gen.FfnActRefIdeal.Run
public import proofs.«01_k».proof.Proof.Gen.FfnActRefIdeal.Read
public import proofs.«01_k».proof.Proof.Gen.Pre_ffn_finite
public import proofs.«01_k».proof.Proof.Gen.UpFirst
public import proofs.«01_k».proof.Proof.Gen.UpFirst.Frame
public import proofs.«01_k».proof.Proof.Gen.UpFirstIdeal
public import proofs.«01_k».proof.Proof.Gen.UpFirstIdeal.Frame
public import proofs.«01_k».proof.Proof.Gen.UpFirstIdeal.Value
public import proofs.«01_k».proof.Proof.Gen.UpFirstRefIdeal
public import proofs.«01_k».proof.Proof.Gen.UpFirstRefIdeal.Run
public import proofs.«01_k».proof.Proof.Gen.UpFirstRefIdeal.Read
public import proofs.«01_k».proof.Proof.Gen.UpMixer
public import proofs.«01_k».proof.Proof.Gen.UpMixer.Frame
public import proofs.«01_k».proof.Proof.Gen.UpMixerIdeal
public import proofs.«01_k».proof.Proof.Gen.UpMixerIdeal.Frame
public import proofs.«01_k».proof.Proof.Gen.UpMixerIdeal.Value
public import proofs.«01_k».proof.Proof.Gen.UpMixerRefIdeal
public import proofs.«01_k».proof.Proof.Gen.UpMixerRefIdeal.Run
public import proofs.«01_k».proof.Proof.Gen.UpMixerRefIdeal.Read
public import proofs.«01_k».proof.Proof.Gen.Pre_up1_finite
public import proofs.«01_k».proof.Proof.Gen.LossLn
public import proofs.«01_k».proof.Proof.Gen.LossLn.Frame
public import proofs.«01_k».proof.Proof.Gen.LossLnIdeal
public import proofs.«01_k».proof.Proof.Gen.LossLnIdeal.Frame
public import proofs.«01_k».proof.Proof.Gen.LossLnIdeal.Value
public import proofs.«01_k».proof.Proof.Gen.LossLnRefIdeal
public import proofs.«01_k».proof.Proof.Gen.LossLnRefIdeal.Run
public import proofs.«01_k».proof.Proof.Gen.LossLnRefIdeal.Read
public import proofs.«01_k».proof.Proof.Gen.Pre_loss_finite
public import proofs.«01_k».proof.Proof.Gen.UpFfn
public import proofs.«01_k».proof.Proof.Gen.UpFfn.Frame
public import proofs.«01_k».proof.Proof.Gen.UpFfnIdeal
public import proofs.«01_k».proof.Proof.Gen.UpFfnIdeal.Frame
public import proofs.«01_k».proof.Proof.Gen.UpFfnIdeal.Value
public import proofs.«01_k».proof.Proof.Gen.UpFfnRefIdeal
public import proofs.«01_k».proof.Proof.Gen.UpFfnRefIdeal.Run
public import proofs.«01_k».proof.Proof.Gen.UpFfnRefIdeal.Read
public import proofs.«01_k».proof.Proof.Gen.Pre_up2_finite
public import proofs.«01_k».proof.Proof.Gen.GmlpIn
public import proofs.«01_k».proof.Proof.Gen.GmlpIn.Frame
public import proofs.«01_k».proof.Proof.Gen.GmlpInIdeal
public import proofs.«01_k».proof.Proof.Gen.GmlpInIdeal.Frame
public import proofs.«01_k».proof.Proof.Gen.GmlpInIdeal.Value
public import proofs.«01_k».proof.Proof.Gen.GmlpInRefIdeal
public import proofs.«01_k».proof.Proof.Gen.GmlpInRefIdeal.Run
public import proofs.«01_k».proof.Proof.Gen.GmlpInRefIdeal.Read
public import proofs.«01_k».proof.Proof.Gen.Pre_gmlp_finite
public import proofs.«01_k».proof.Proof.Gen.AttnQ
public import proofs.«01_k».proof.Proof.Gen.AttnQ.Frame
public import proofs.«01_k».proof.Proof.Gen.AttnQIdeal
public import proofs.«01_k».proof.Proof.Gen.AttnQIdeal.Frame
public import proofs.«01_k».proof.Proof.Gen.AttnQIdeal.Value
public import proofs.«01_k».proof.Proof.Gen.AttnQRefIdeal
public import proofs.«01_k».proof.Proof.Gen.AttnQRefIdeal.Run
public import proofs.«01_k».proof.Proof.Gen.AttnQRefIdeal.Read
public import proofs.«01_k».proof.Proof.Gen.Pre_attnq_finite
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.Pre_kv_finite
public import proofs.«01_k».proof.Proof.Gen.BiasGrad
public import proofs.«01_k».proof.Proof.Gen.BiasGrad.Frame
public import proofs.«01_k».proof.Proof.Gen.BiasGradIdeal
public import proofs.«01_k».proof.Proof.Gen.BiasGradIdeal.Frame
public import proofs.«01_k».proof.Proof.Gen.BiasGradIdeal.Value
public import proofs.«01_k».proof.Proof.Gen.BiasGradRefIdeal
public import proofs.«01_k».proof.Proof.Gen.BiasGradRefIdeal.Run
public import proofs.«01_k».proof.Proof.Gen.BiasGradRefIdeal.Read
public import proofs.«01_k».proof.Proof.Gen.Pre_bias_finite
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Gen.Pre_sgu_finite
public import proofs.«01_k».proof.Proof.Gen.FfnLn
public import proofs.«01_k».proof.Proof.Gen.FfnLn.Frame
public import proofs.«01_k».proof.Proof.Gen.FfnLnIdeal
public import proofs.«01_k».proof.Proof.Gen.FfnLnIdeal.Frame
public import proofs.«01_k».proof.Proof.Gen.FfnLnIdeal.Value
public import proofs.«01_k».proof.Proof.Gen.FfnLnRefIdeal
public import proofs.«01_k».proof.Proof.Gen.FfnLnRefIdeal.Run
public import proofs.«01_k».proof.Proof.Gen.FfnLnRefIdeal.Read
public import proofs.«01_k».proof.Proof.Gen.MixLn
public import proofs.«01_k».proof.Proof.Gen.MixLn.Frame
public import proofs.«01_k».proof.Proof.Gen.MixLnIdeal
public import proofs.«01_k».proof.Proof.Gen.MixLnIdeal.Frame
public import proofs.«01_k».proof.Proof.Gen.MixLnIdeal.Value
public import proofs.«01_k».proof.Proof.Gen.MixLnRefIdeal
public import proofs.«01_k».proof.Proof.Gen.MixLnRefIdeal.Run
public import proofs.«01_k».proof.Proof.Gen.MixLnRefIdeal.Read
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.GmlpUp
public import proofs.«01_k».proof.Proof.Gen.GmlpUp.Frame
public import proofs.«01_k».proof.Proof.Gen.GmlpUpIdeal
public import proofs.«01_k».proof.Proof.Gen.GmlpUpIdeal.Frame
public import proofs.«01_k».proof.Proof.Gen.GmlpUpIdeal.Value
public import proofs.«01_k».proof.Proof.Gen.GmlpUpRefIdeal
public import proofs.«01_k».proof.Proof.Gen.GmlpUpRefIdeal.Run
public import proofs.«01_k».proof.Proof.Gen.GmlpUpRefIdeal.Read
public import proofs.«01_k».proof.Proof.Gen.SguFwd
public import proofs.«01_k».proof.Proof.Gen.SguFwd.Frame
public import proofs.«01_k».proof.Proof.Gen.SguFwdIdeal
public import proofs.«01_k».proof.Proof.Gen.SguFwdIdeal.Frame
public import proofs.«01_k».proof.Proof.Gen.SguFwdIdeal.Value
public import proofs.«01_k».proof.Proof.Gen.SguFwdRefIdeal
public import proofs.«01_k».proof.Proof.Gen.SguFwdRefIdeal.Run
public import proofs.«01_k».proof.Proof.Gen.SguFwdRefIdeal.Read
public import proofs.«01_k».proof.Proof.Gen.AdaMod
public import proofs.«01_k».proof.Proof.Gen.AdaMod.Frame
public import proofs.«01_k».proof.Proof.Gen.AdaModIdeal
public import proofs.«01_k».proof.Proof.Gen.AdaModIdeal.Frame
public import proofs.«01_k».proof.Proof.Gen.AdaModIdeal.Value
public import proofs.«01_k».proof.Proof.Gen.AdaModRefIdeal
public import proofs.«01_k».proof.Proof.Gen.AdaModRefIdeal.Run
public import proofs.«01_k».proof.Proof.Gen.AdaModRefIdeal.Read
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Lane
public import proofs.«01_k».proof.Proof.Ada
public import proofs.«01_k».proof.Proof.Ffn
public import proofs.«01_k».proof.Proof.UpFirst
public import proofs.«01_k».proof.Proof.UpMixer
public import proofs.«01_k».proof.Proof.Loss
public import proofs.«01_k».proof.Proof.UpFfn
public import proofs.«01_k».proof.Proof.GmlpIn
public import proofs.«01_k».proof.Proof.AttnQ
public import proofs.«01_k».proof.Proof.Kv
public import proofs.«01_k».proof.Proof.Bias
public import proofs.«01_k».proof.Proof.SguOut
public import proofs.«01_k».proof.Proof.FfnLn
public import proofs.«01_k».proof.Proof.MixLn
public import proofs.«01_k».proof.Proof.FfnUp
public import proofs.«01_k».proof.Proof.GmlpUp
public import proofs.«01_k».proof.Proof.SguFwd
public import proofs.«01_k».proof.Proof.AdaMod
public import proofs.«01_k».proof.Proof.AttnFwd
public import Idealize.ShloMosaic.Adequacy
public import Idealize.ShloMosaic.Init

@[expose] public section

set_option maxRecDepth 16384

noncomputable section

namespace Cert.Proof

open Idealize.ShloMosaic Idealize.SL.Sem

/-- The gradient of the spatial gating unit's bias: both programs leave the sums over the groups. -/
theorem pair_lane : algebraic_LaneSumIdeal_LaneSumRefIdeal (hLaneSumIdeal := Cert.LaneSumIdeal.Gen.facts) (hLaneSumRefIdeal := Cert.LaneSumRefIdeal.Gen.facts) := by
  pair_intro
  · run_from Cert.LaneSumIdeal.Value.run m g
  · run_from Cert.LaneSumRefIdeal.Value.run m' g'
    rw [hagree c]
    funext j
    rw [eq_ix2 j]
    exact (Cert.Lane.ref_at _ _ _).symm

/-- The gradient of the modulation's weights. -/
theorem pair_ada : algebraic_AdaGradIdeal_AdaGradRefIdeal (hAdaGradIdeal := Cert.AdaGradIdeal.Gen.facts) (hAdaGradRefIdeal := Cert.AdaGradRefIdeal.Gen.facts) := by
  pair_intro
  · run_from Cert.AdaGradIdeal.Value.run_blocks m g
  · run_from Cert.AdaGradRefIdeal.Value.run m' g'
    exact (Cert.Ada.final m c).symm

/-- The gradient of SwiGLU through the down projection. -/
theorem pair_ffn : algebraic_FfnActIdeal_FfnActRefIdeal_pre_ffn_finite (hFfnActIdeal := Cert.FfnActIdeal.Gen.facts) (hFfnActRefIdeal := Cert.FfnActRefIdeal.Gen.facts) (hPre_ffn_finite := Cert.Pre_ffn_finite.Gen.facts) := by
  intro m g m' g' hpre hagree
  refine ⟨_, Cert.FfnActIdeal.Value.run_blocks m g, (θ_run Cert.FfnActRefIdeal.defs _ _).mono (fun r h c => ?_) (Cert.FfnActRefIdeal.Value.run m' g')⟩
  obtain ⟨p0, p1, p2⟩ := hpre c
  obtain ⟨X, hX⟩ := Cert.Sc.real_of_finite _ _ p0
  obtain ⟨W, hW⟩ := Cert.Sc.real_of_finite _ _ p1
  obtain ⟨C, hC⟩ := Cert.Sc.real_of_finite _ _ p2
  refine ⟨(h c).1.trans ?_, (h c).2⟩
  refine (Cert.FfnActRefIdeal.Read.val_main_v11_eq _ _ _).trans ?_
  rw [(hagree c).1, (hagree c).2.1, (hagree c).2.2, hX, hW, hC]
  exact (Cert.Ffn.ref_eq X W C).trans (Cert.Ffn.final m c X W C hX hW hC).symm

/-- The gradient of a modulation through the product after it. -/
theorem pair_up0 : algebraic_UpFirstIdeal_UpFirstRefIdeal (hUpFirstIdeal := Cert.UpFirstIdeal.Gen.facts) (hUpFirstRefIdeal := Cert.UpFirstRefIdeal.Gen.facts) := by
  intro m g m' g' _ hagree
  refine ⟨_, _, Cert.UpFirstIdeal.Value.run_blocks m g, (θ_run Cert.UpFirstRefIdeal.defs _ _).mono (fun r h c => ?_) (Cert.UpFirstRefIdeal.Value.run m' g')⟩
  refine ⟨(h c).1.trans ?_, (h c).2.1.trans ?_, (h c).2.2⟩
  · refine (Cert.UpFirstRefIdeal.Read.val_main_v20_eq _ _ _ _).trans ?_
    rw [(hagree c).2.1, (hagree c).2.2.2.1, (hagree c).2.2.2.2.1, (hagree c).2.2.2.2.2]
    exact (Cert.UpFirst.ref_dx _ _ _ _).trans (Cert.UpFirst.final5 m c).symm
  · refine (Cert.UpFirstRefIdeal.Read.val_main_v18_eq _ _ _).trans ?_
    rw [(hagree c).1, (hagree c).2.2.2.1, (hagree c).2.2.2.2.2]
    exact (Cert.UpFirst.ref_rows _ _ _).trans (Cert.UpFirst.final6 m c).symm

set_option maxHeartbeats 4000000 in
/-- The gradient behind the token mixer's layer norm. -/
theorem pair_up1 : algebraic_UpMixerIdeal_UpMixerRefIdeal_pre_up1_finite (hUpMixerIdeal := Cert.UpMixerIdeal.Gen.facts) (hUpMixerRefIdeal := Cert.UpMixerRefIdeal.Gen.facts) (hPre_up1_finite := Cert.Pre_up1_finite.Gen.facts) := by
  intro m g m' g' hpre hagree
  refine ⟨_, _, _, Cert.UpMixerIdeal.Value.run_blocks m g, (θ_run Cert.UpMixerRefIdeal.defs _ _).mono (fun r h c => ?_) (Cert.UpMixerRefIdeal.Value.run m' g')⟩
  obtain ⟨p0, p1, p2, p3, p4, p5, p6, p7⟩ := hpre c
  obtain ⟨X, hX⟩ := Cert.Sc.real_of_finite _ _ p0
  obtain ⟨Y, hY⟩ := Cert.Sc.real_of_finite _ _ p1
  obtain ⟨M, hM⟩ := Cert.Sc.real_of_finite _ _ p2
  obtain ⟨G, hG⟩ := Cert.Sc.real_of_finite _ _ p3
  obtain ⟨L, hL⟩ := Cert.Sc.real_of_finite _ _ p4
  obtain ⟨W, hW⟩ := Cert.Sc.real_of_finite _ _ p5
  obtain ⟨CX, hCX⟩ := Cert.Sc.real_of_finite _ _ p6
  obtain ⟨C, hC⟩ := Cert.Sc.real_of_finite _ _ p7
  obtain ⟨a0, a1, a2, a3, a4, a5, a6, a7, a8, a9⟩ := hagree c
  refine ⟨(h c).1.trans ?_, (h c).2.1.trans ?_, (h c).2.2.1.trans ?_, (h c).2.2.2⟩
  · refine (Cert.UpMixerRefIdeal.Read.val_main_v102_eq _ _).trans ?_
    rw [a0, a1, a2, a3, a5, a7, a8, a9, hX, hY, hM, hG, hL, hW, hCX, hC]
    exact (Cert.UpMixer.ref_dx X Y CX M L G W C).trans (Cert.UpMixer.final10 m c X Y CX M L G W C hX hY hM hG hL hW hCX hC).symm
  · refine (Cert.UpMixerRefIdeal.Read.val_main_v104_eq _ _).trans ?_
    rw [a0, a1, a2, a3, a5, a7, a8, a9, hX, hY, hM, hG, hL, hW, hCX, hC]
    exact (Cert.UpMixer.ref_dy X Y CX M L G W C).trans (Cert.UpMixer.final11 m c X Y CX M L G W C hX hY hM hG hL hW hCX hC).symm
  · refine (Cert.UpMixerRefIdeal.Read.val_main_v101_eq _ _).trans ?_
    rw [a0, a1, a2, a3, a4, a5, a7, a8, a9, hX, hY, hM, hG, hL, hW, hCX, hC]
    exact (Cert.UpMixer.ref_rows X Y CX M L G _ W C).trans (Cert.UpMixer.final12 m c X Y CX M L G W C hX hY hM hG hL hW hCX hC).symm

set_option maxHeartbeats 4000000 in
/-- The gradient of the loss and of the last layer norm. -/
theorem pair_loss : algebraic_LossLnIdeal_LossLnRefIdeal_pre_loss_finite (hLossLnIdeal := Cert.LossLnIdeal.Gen.facts) (hLossLnRefIdeal := Cert.LossLnRefIdeal.Gen.facts) (hPre_loss_finite := Cert.Pre_loss_finite.Gen.facts) := by
  intro m g m' g' hpre hagree
  refine ⟨_, _, _, Cert.LossLnIdeal.Value.run_blocks m g, (θ_run Cert.LossLnRefIdeal.defs _ _).mono (fun r h c => ?_) (Cert.LossLnRefIdeal.Value.run m' g')⟩
  obtain ⟨p0, p1, p2, p3, p4, p5⟩ := hpre c
  obtain ⟨X, hX⟩ := Cert.Sc.real_of_finite _ _ p0
  obtain ⟨Y, hY⟩ := Cert.Sc.real_of_finite _ _ p1
  obtain ⟨M, hM⟩ := Cert.Sc.real_of_finite _ _ p2
  obtain ⟨G, hG⟩ := Cert.Sc.real_of_finite _ _ p3
  obtain ⟨B, hB⟩ := Cert.Sc.real_of_finite _ _ p4
  obtain ⟨TG, hTG⟩ := Cert.Sc.real_of_finite _ _ p5
  obtain ⟨a0, a1, a2, a3, a4, a5⟩ := hagree c
  refine ⟨(h c).1.trans ?_, (h c).2.1.trans ?_, (h c).2.2.1.trans ?_, (h c).2.2.2⟩
  · refine (Cert.LossLnRefIdeal.Read.val_main_v140_eq _).trans ?_
    show Cert.LossLnRefIdeal.Read.val_main_v140 (F := Ideal) (m' ((c.tc : Thread Cert.LossLnRefIdeal.nD Cert.LossLnRefIdeal.τ).loc Cert.LossLnRefIdeal.main_arg0)) (m' ((c.tc : Thread Cert.LossLnRefIdeal.nD Cert.LossLnRefIdeal.τ).loc Cert.LossLnRefIdeal.main_arg1)) (m' ((c.tc : Thread Cert.LossLnRefIdeal.nD Cert.LossLnRefIdeal.τ).loc Cert.LossLnRefIdeal.main_arg2)) (m' ((c.tc : Thread Cert.LossLnRefIdeal.nD Cert.LossLnRefIdeal.τ).loc Cert.LossLnRefIdeal.main_arg3)) (m' ((c.tc : Thread Cert.LossLnRefIdeal.nD Cert.LossLnRefIdeal.τ).loc Cert.LossLnRefIdeal.main_arg4)) (m' ((c.tc : Thread Cert.LossLnRefIdeal.nD Cert.LossLnRefIdeal.τ).loc Cert.LossLnRefIdeal.main_arg5)) = _
    rw [a0, a1, a2, a3, a4, a5, hX, hY, hM, hG, hB, hTG]
    exact (Cert.LossLn.ref_dx X Y TG M G B).trans (Cert.LossLn.final7 m c X Y TG M G B hX hY hM hG hB hTG).symm
  · refine (Cert.LossLnRefIdeal.Read.val_main_v142_eq _).trans ?_
    show Cert.LossLnRefIdeal.Read.val_main_v142 (F := Ideal) (m' ((c.tc : Thread Cert.LossLnRefIdeal.nD Cert.LossLnRefIdeal.τ).loc Cert.LossLnRefIdeal.main_arg0)) (m' ((c.tc : Thread Cert.LossLnRefIdeal.nD Cert.LossLnRefIdeal.τ).loc Cert.LossLnRefIdeal.main_arg1)) (m' ((c.tc : Thread Cert.LossLnRefIdeal.nD Cert.LossLnRefIdeal.τ).loc Cert.LossLnRefIdeal.main_arg2)) (m' ((c.tc : Thread Cert.LossLnRefIdeal.nD Cert.LossLnRefIdeal.τ).loc Cert.LossLnRefIdeal.main_arg3)) (m' ((c.tc : Thread Cert.LossLnRefIdeal.nD Cert.LossLnRefIdeal.τ).loc Cert.LossLnRefIdeal.main_arg4)) (m' ((c.tc : Thread Cert.LossLnRefIdeal.nD Cert.LossLnRefIdeal.τ).loc Cert.LossLnRefIdeal.main_arg5)) = _
    rw [a0, a1, a2, a3, a4, a5, hX, hY, hM, hG, hB, hTG]
    exact (Cert.LossLn.ref_dy X Y TG M G B).trans (Cert.LossLn.final8 m c X Y TG M G B hX hY hM hG hB hTG).symm
  · refine (Cert.LossLnRefIdeal.Read.val_main_v139_eq _).trans ?_
    show Cert.LossLnRefIdeal.Read.val_main_v139 (F := Ideal) (m' ((c.tc : Thread Cert.LossLnRefIdeal.nD Cert.LossLnRefIdeal.τ).loc Cert.LossLnRefIdeal.main_arg0)) (m' ((c.tc : Thread Cert.LossLnRefIdeal.nD Cert.LossLnRefIdeal.τ).loc Cert.LossLnRefIdeal.main_arg1)) (m' ((c.tc : Thread Cert.LossLnRefIdeal.nD Cert.LossLnRefIdeal.τ).loc Cert.LossLnRefIdeal.main_arg2)) (m' ((c.tc : Thread Cert.LossLnRefIdeal.nD Cert.LossLnRefIdeal.τ).loc Cert.LossLnRefIdeal.main_arg3)) (m' ((c.tc : Thread Cert.LossLnRefIdeal.nD Cert.LossLnRefIdeal.τ).loc Cert.LossLnRefIdeal.main_arg4)) (m' ((c.tc : Thread Cert.LossLnRefIdeal.nD Cert.LossLnRefIdeal.τ).loc Cert.LossLnRefIdeal.main_arg5)) = _
    rw [a0, a1, a2, a3, a4, a5, hX, hY, hM, hG, hB, hTG]
    exact (Cert.LossLn.ref_rows X Y TG M G B).trans (Cert.LossLn.final9 m c X Y TG M G B hX hY hM hG hB hTG).symm

set_option maxHeartbeats 4000000 in
/-- The gradient behind the feed-forward part's layer norm. -/
theorem pair_up2 : algebraic_UpFfnIdeal_UpFfnRefIdeal_pre_up2_finite (hUpFfnIdeal := Cert.UpFfnIdeal.Gen.facts) (hUpFfnRefIdeal := Cert.UpFfnRefIdeal.Gen.facts) (hPre_up2_finite := Cert.Pre_up2_finite.Gen.facts) := by
  intro m g m' g' hpre hagree
  refine ⟨_, _, _, Cert.UpFfnIdeal.Value.run_blocks m g, (θ_run Cert.UpFfnRefIdeal.defs _ _).mono (fun r h c => ?_) (Cert.UpFfnRefIdeal.Value.run m' g')⟩
  obtain ⟨p0, p1, p2, p3, p4, p5, p6, p7⟩ := hpre c
  obtain ⟨X, hX⟩ := Cert.Sc.real_of_finite _ _ p0
  obtain ⟨Y, hY⟩ := Cert.Sc.real_of_finite _ _ p1
  obtain ⟨M, hM⟩ := Cert.Sc.real_of_finite _ _ p2
  obtain ⟨G, hG⟩ := Cert.Sc.real_of_finite _ _ p3
  obtain ⟨L, hL⟩ := Cert.Sc.real_of_finite _ _ p4
  obtain ⟨W, hW⟩ := Cert.Sc.real_of_finite _ _ p5
  obtain ⟨CX, hCX⟩ := Cert.Sc.real_of_finite _ _ p6
  obtain ⟨C, hC⟩ := Cert.Sc.real_of_finite _ _ p7
  obtain ⟨a0, a1, a2, a3, a4, a5, a6, a7, a8, a9⟩ := hagree c
  refine ⟨(h c).1.trans ?_, (h c).2.1.trans ?_, (h c).2.2.1.trans ?_, (h c).2.2.2⟩
  · refine (Cert.UpFfnRefIdeal.Read.val_main_v106_eq _ _).trans ?_
    rw [a0, a1, a2, a3, a5, a7, a8, a9, hX, hY, hM, hG, hL, hW, hCX, hC]
    exact (Cert.Dgrad.ref_dx X Y CX M L G _ _ (Cert.UpFfn.H W C) (Cert.UpFfn.product W C)).trans (Cert.UpFfn.final10 m c X Y CX M L G W C hX hY hM hG hL hW hCX hC).symm
  · refine (Cert.UpFfnRefIdeal.Read.val_main_v108_eq _ _).trans ?_
    rw [a0, a1, a2, a3, a5, a7, a8, a9, hX, hY, hM, hG, hL, hW, hCX, hC]
    exact (Cert.Dgrad.ref_dy X Y CX M L G _ _ (Cert.UpFfn.H W C) (Cert.UpFfn.product W C)).trans (Cert.UpFfn.final11 m c X Y CX M L G W C hX hY hM hG hL hW hCX hC).symm
  · refine (Cert.UpFfnRefIdeal.Read.val_main_v105_eq _ _).trans ?_
    rw [a0, a1, a2, a3, a4, a5, a7, a8, a9, hX, hY, hM, hG, hL, hW, hCX, hC]
    exact (Cert.Dgrad.ref_rows X Y CX M L G _ _ _ (Cert.UpFfn.H W C) (Cert.UpFfn.product W C)).trans (Cert.UpFfn.final12 m c X Y CX M L G W C hX hY hM hG hL hW hCX hC).symm

set_option maxHeartbeats 4000000 in
/-- The gradient behind the layer norm before the gated mixer. -/
theorem pair_gmlp : algebraic_GmlpInIdeal_GmlpInRefIdeal_pre_gmlp_finite (hGmlpInIdeal := Cert.GmlpInIdeal.Gen.facts) (hGmlpInRefIdeal := Cert.GmlpInRefIdeal.Gen.facts) (hPre_gmlp_finite := Cert.Pre_gmlp_finite.Gen.facts) := by
  intro m g m' g' hpre hagree
  refine ⟨_, _, _, Cert.GmlpInIdeal.Value.run_blocks m g, (θ_run Cert.GmlpInRefIdeal.defs _ _).mono (fun r h c => ?_) (Cert.GmlpInRefIdeal.Value.run m' g')⟩
  obtain ⟨p0, p1, p2, p3, p4, p5, p6, p7⟩ := hpre c
  obtain ⟨X, hX⟩ := Cert.Sc.real_of_finite _ _ p0
  obtain ⟨Y, hY⟩ := Cert.Sc.real_of_finite _ _ p1
  obtain ⟨M, hM⟩ := Cert.Sc.real_of_finite _ _ p2
  obtain ⟨G, hG⟩ := Cert.Sc.real_of_finite _ _ p3
  obtain ⟨L, hL⟩ := Cert.Sc.real_of_finite _ _ p4
  obtain ⟨W, hW⟩ := Cert.Sc.real_of_finite _ _ p5
  obtain ⟨CX, hCX⟩ := Cert.Sc.real_of_finite _ _ p6
  obtain ⟨C, hC⟩ := Cert.Sc.real_of_finite _ _ p7
  obtain ⟨a0, a1, a2, a3, a4, a5, a6, a7, a8, a9⟩ := hagree c
  refine ⟨(h c).1.trans ?_, (h c).2.1.trans ?_, (h c).2.2.1.trans ?_, (h c).2.2.2⟩
  · refine (Cert.GmlpInRefIdeal.Read.val_main_v106_eq _ _).trans ?_
    rw [a0, a1, a2, a3, a5, a7, a8, a9, hX, hY, hM, hG, hL, hW, hCX, hC]
    exact (Cert.GmlpIn.ref_dx X Y CX M L G W C).trans (Cert.GmlpIn.final10 m c X Y CX M L G W C hX hY hM hG hL hW hCX hC).symm
  · refine (Cert.GmlpInRefIdeal.Read.val_main_v108_eq _ _).trans ?_
    rw [a0, a1, a2, a3, a5, a7, a8, a9, hX, hY, hM, hG, hL, hW, hCX, hC]
    exact (Cert.GmlpIn.ref_dy X Y CX M L G W C).trans (Cert.GmlpIn.final11 m c X Y CX M L G W C hX hY hM hG hL hW hCX hC).symm
  · refine (Cert.GmlpInRefIdeal.Read.val_main_v105_eq _ _).trans ?_
    rw [a0, a1, a2, a3, a4, a5, a7, a8, a9, hX, hY, hM, hG, hL, hW, hCX, hC]
    exact (Cert.GmlpIn.ref_rows X Y CX M L G _ W C).trans (Cert.GmlpIn.final12 m c X Y CX M L G W C hX hY hM hG hL hW hCX hC).symm

set_option maxHeartbeats 4000000 in
/-- The gradient behind the layer norm before the queries. -/
theorem pair_attnq : algebraic_AttnQIdeal_AttnQRefIdeal_pre_attnq_finite (hAttnQIdeal := Cert.AttnQIdeal.Gen.facts) (hAttnQRefIdeal := Cert.AttnQRefIdeal.Gen.facts) (hPre_attnq_finite := Cert.Pre_attnq_finite.Gen.facts) := by
  intro m g m' g' hpre hagree
  refine ⟨_, _, _, Cert.AttnQIdeal.Value.run_blocks m g, (θ_run Cert.AttnQRefIdeal.defs _ _).mono (fun r h c => ?_) (Cert.AttnQRefIdeal.Value.run m' g')⟩
  obtain ⟨p0, p1, p2, p3, p4, p5, p6, p7⟩ := hpre c
  obtain ⟨X, hX⟩ := Cert.Sc.real_of_finite _ _ p0
  obtain ⟨Y, hY⟩ := Cert.Sc.real_of_finite _ _ p1
  obtain ⟨M, hM⟩ := Cert.Sc.real_of_finite _ _ p2
  obtain ⟨G, hG⟩ := Cert.Sc.real_of_finite _ _ p3
  obtain ⟨L, hL⟩ := Cert.Sc.real_of_finite _ _ p4
  obtain ⟨W, hW⟩ := Cert.Sc.real_of_finite _ _ p5
  obtain ⟨CX, hCX⟩ := Cert.Sc.real_of_finite _ _ p6
  obtain ⟨C, hC⟩ := Cert.Sc.real_of_finite _ _ p7
  obtain ⟨a0, a1, a2, a3, a4, a5, a6, a7, a8, a9⟩ := hagree c
  refine ⟨(h c).1.trans ?_, (h c).2.1.trans ?_, (h c).2.2.1.trans ?_, (h c).2.2.2⟩
  · refine (Cert.AttnQRefIdeal.Read.val_main_v106_eq _ _).trans ?_
    rw [a0, a1, a2, a3, a5, a7, a8, a9, hX, hY, hM, hG, hL, hW, hCX, hC]
    exact (Cert.AttnQ.ref_dx X Y CX M L G W C).trans (Cert.AttnQ.final10 m c X Y CX M L G W C hX hY hM hG hL hW hCX hC).symm
  · refine (Cert.AttnQRefIdeal.Read.val_main_v108_eq _ _).trans ?_
    rw [a0, a1, a2, a3, a5, a7, a8, a9, hX, hY, hM, hG, hL, hW, hCX, hC]
    exact (Cert.AttnQ.ref_dy X Y CX M L G W C).trans (Cert.AttnQ.final11 m c X Y CX M L G W C hX hY hM hG hL hW hCX hC).symm
  · refine (Cert.AttnQRefIdeal.Read.val_main_v105_eq _ _).trans ?_
    rw [a0, a1, a2, a3, a4, a5, a7, a8, a9, hX, hY, hM, hG, hL, hW, hCX, hC]
    exact (Cert.AttnQ.ref_rows X Y CX M L G _ W C).trans (Cert.AttnQ.final12 m c X Y CX M L G W C hX hY hM hG hL hW hCX hC).symm

set_option maxHeartbeats 4000000 in
/-- The gradient behind the layer norm before the keys and values. -/
theorem pair_kv : algebraic_KvIdeal_KvRefIdeal_pre_kv_finite (hKvIdeal := Cert.KvIdeal.Gen.facts) (hKvRefIdeal := Cert.KvRefIdeal.Gen.facts) (hPre_kv_finite := Cert.Pre_kv_finite.Gen.facts) := by
  intro m g m' g' hpre hagree
  refine ⟨_, _, _, Cert.KvIdeal.Value.run_blocks m g, (θ_run Cert.KvRefIdeal.defs _ _).mono (fun r h c => ?_) (Cert.KvRefIdeal.Value.run m' g')⟩
  obtain ⟨p0, p1, p2, p3, p4, p5, p6, p7⟩ := hpre c
  obtain ⟨X, hX⟩ := Cert.Sc.real_of_finite _ _ p0
  obtain ⟨Y, hY⟩ := Cert.Sc.real_of_finite _ _ p1
  obtain ⟨M, hM⟩ := Cert.Sc.real_of_finite _ _ p2
  obtain ⟨G, hG⟩ := Cert.Sc.real_of_finite _ _ p3
  obtain ⟨L, hL⟩ := Cert.Sc.real_of_finite _ _ p4
  obtain ⟨W, hW⟩ := Cert.Sc.real_of_finite _ _ p5
  obtain ⟨CX, hCX⟩ := Cert.Sc.real_of_finite _ _ p6
  obtain ⟨C, hC⟩ := Cert.Sc.real_of_finite _ _ p7
  obtain ⟨a0, a1, a2, a3, a4, a5, a6, a7, a8, a9⟩ := hagree c
  refine ⟨(h c).1.trans ?_, (h c).2.1.trans ?_, (h c).2.2.1.trans ?_, (h c).2.2.2⟩
  · refine (Cert.KvRefIdeal.Read.val_main_v106_eq _ _).trans ?_
    rw [a0, a1, a2, a3, a5, a7, a8, a9, hX, hY, hM, hG, hL, hW, hCX, hC]
    exact (Cert.Kv.ref_dx X Y CX M L G W C).trans (Cert.Kv.final10 m c X Y CX M L G W C hX hY hM hG hL hW hCX hC).symm
  · refine (Cert.KvRefIdeal.Read.val_main_v108_eq _ _).trans ?_
    rw [a0, a1, a2, a3, a5, a7, a8, a9, hX, hY, hM, hG, hL, hW, hCX, hC]
    exact (Cert.Kv.ref_dy X Y CX M L G W C).trans (Cert.Kv.final11 m c X Y CX M L G W C hX hY hM hG hL hW hCX hC).symm
  · refine (Cert.KvRefIdeal.Read.val_main_v105_eq _ _).trans ?_
    rw [a0, a1, a2, a3, a4, a5, a7, a8, a9, hX, hY, hM, hG, hL, hW, hCX, hC]
    exact (Cert.Kv.ref_rows X Y CX M L G _ W C).trans (Cert.Kv.final12 m c X Y CX M L G W C hX hY hM hG hL hW hCX hC).symm

/-- The gradient of the table of relative positions. -/
theorem pair_bias : algebraic_BiasGradIdeal_BiasGradRefIdeal_pre_bias_finite (hBiasGradIdeal := Cert.BiasGradIdeal.Gen.facts) (hBiasGradRefIdeal := Cert.BiasGradRefIdeal.Gen.facts) (hPre_bias_finite := Cert.Pre_bias_finite.Gen.facts) := by
  intro m g m' g' hpre hagree
  refine ⟨_, Cert.BiasGradIdeal.Value.run_blocks m g, (θ_run Cert.BiasGradRefIdeal.defs _ _).mono (fun r h c => ?_) (Cert.BiasGradRefIdeal.Value.run m' g')⟩
  obtain ⟨X, hX⟩ := Cert.Sc.real_of_finite _ _ (hpre c)
  refine ⟨(h c).1.trans ?_, (h c).2⟩
  rw [hagree c]
  exact (Cert.BiasGrad.final m c (fun h t r => X (ix3 h t r)) _ rfl fun h t r => congrFun hX _).symm

set_option maxHeartbeats 4000000 in
/-- The gradient of the spatial gating unit: of the gate, its window weights, its layer norm and the activation before it. -/
theorem pair_sgu : algebraic_SguIdeal_SguRefIdeal_pre_sgu_finite (hSguIdeal := Cert.SguIdeal.Gen.facts) (hSguRefIdeal := Cert.SguRefIdeal.Gen.facts) (hPre_sgu_finite := Cert.Pre_sgu_finite.Gen.facts) := by
  intro m g m' g' hpre hagree
  refine ⟨_, _, _, _, _, Cert.SguIdeal.Value.run_blocks m g, (θ_run Cert.SguRefIdeal.defs _ _).mono (fun r h c => ?_) (Cert.SguRefIdeal.Value.run m' g')⟩
  obtain ⟨p0, p1, p2, p3, p4, p5, p6⟩ := hpre c
  obtain ⟨H, hH⟩ := Cert.Sc.real_of_finite _ _ p0
  obtain ⟨BI, hBI⟩ := Cert.Sc.real_of_finite _ _ p1
  obtain ⟨LG, hLG⟩ := Cert.Sc.real_of_finite _ _ p2
  obtain ⟨LB, hLB⟩ := Cert.Sc.real_of_finite _ _ p3
  obtain ⟨WS, hWS⟩ := Cert.Sc.real_of_finite _ _ p4
  obtain ⟨BS, hBS⟩ := Cert.Sc.real_of_finite _ _ p5
  obtain ⟨CT, hCT⟩ := Cert.Sc.real_of_finite _ _ p6
  obtain ⟨a0, a1, a2, a3, a4, a5, a6⟩ := hagree c
  refine ⟨(h c).1.trans ?_, (h c).2.1.trans ?_, (h c).2.2.1.trans ?_, (h c).2.2.2.1.trans ?_, (h c).2.2.2.2.1.trans ?_, (h c).2.2.2.2.2⟩
  · refine (Cert.SguRefIdeal.Read.val_main_v144_eq _).trans ?_
    show Cert.SguRefIdeal.Read.val_main_v144 (F := Ideal) (m' ((c.tc : Thread Cert.SguRefIdeal.nD Cert.SguRefIdeal.τ).loc Cert.SguRefIdeal.main_arg0)) (m' ((c.tc : Thread Cert.SguRefIdeal.nD Cert.SguRefIdeal.τ).loc Cert.SguRefIdeal.main_arg1)) (m' ((c.tc : Thread Cert.SguRefIdeal.nD Cert.SguRefIdeal.τ).loc Cert.SguRefIdeal.main_arg2)) (m' ((c.tc : Thread Cert.SguRefIdeal.nD Cert.SguRefIdeal.τ).loc Cert.SguRefIdeal.main_arg3)) (m' ((c.tc : Thread Cert.SguRefIdeal.nD Cert.SguRefIdeal.τ).loc Cert.SguRefIdeal.main_arg4)) (m' ((c.tc : Thread Cert.SguRefIdeal.nD Cert.SguRefIdeal.τ).loc Cert.SguRefIdeal.main_arg5)) (m' ((c.tc : Thread Cert.SguRefIdeal.nD Cert.SguRefIdeal.τ).loc Cert.SguRefIdeal.main_arg6)) = _
    rw [a0, a1, a2, a3, a4, a5, a6, hH, hBI, hLG, hLB, hWS, hBS, hCT]
    exact (Cert.Sgu.ref_dpre H BI LG LB WS BS CT).trans (Cert.Sgu.final6 m c H BI LG LB WS BS CT hH hBI hLG hLB hWS hBS hCT).symm
  · refine (Cert.SguRefIdeal.Read.val_main_v87_eq _).trans ?_
    show Cert.SguRefIdeal.Read.val_main_v87 (F := Ideal) (m' ((c.tc : Thread Cert.SguRefIdeal.nD Cert.SguRefIdeal.τ).loc Cert.SguRefIdeal.main_arg0)) (m' ((c.tc : Thread Cert.SguRefIdeal.nD Cert.SguRefIdeal.τ).loc Cert.SguRefIdeal.main_arg1)) (m' ((c.tc : Thread Cert.SguRefIdeal.nD Cert.SguRefIdeal.τ).loc Cert.SguRefIdeal.main_arg2)) (m' ((c.tc : Thread Cert.SguRefIdeal.nD Cert.SguRefIdeal.τ).loc Cert.SguRefIdeal.main_arg3)) (m' ((c.tc : Thread Cert.SguRefIdeal.nD Cert.SguRefIdeal.τ).loc Cert.SguRefIdeal.main_arg6)) = _
    rw [a0, a1, a2, a3, a6, hH, hBI, hLG, hLB, hCT]
    exact (Cert.Sgu.ref_dws H BI LG LB CT).trans (Cert.Sgu.final7 m c H BI LG LB WS BS CT hH hBI hLG hLB hWS hBS hCT).symm
  · refine (Cert.SguRefIdeal.Read.val_main_v81_eq _).trans ?_
    show Cert.SguRefIdeal.Read.val_main_v81 (F := Ideal) (m' ((c.tc : Thread Cert.SguRefIdeal.nD Cert.SguRefIdeal.τ).loc Cert.SguRefIdeal.main_arg0)) (m' ((c.tc : Thread Cert.SguRefIdeal.nD Cert.SguRefIdeal.τ).loc Cert.SguRefIdeal.main_arg1)) (m' ((c.tc : Thread Cert.SguRefIdeal.nD Cert.SguRefIdeal.τ).loc Cert.SguRefIdeal.main_arg6)) = _
    rw [a0, a1, a6, hH, hBI, hCT]
    exact (Cert.Sgu.ref_dss H BI CT).trans (Cert.Sgu.final8 m c H BI LG LB WS BS CT hH hBI hLG hLB hWS hBS hCT).symm
  · refine (Cert.SguRefIdeal.Read.val_main_v139_eq _).trans ?_
    show Cert.SguRefIdeal.Read.val_main_v139 (F := Ideal) (m' ((c.tc : Thread Cert.SguRefIdeal.nD Cert.SguRefIdeal.τ).loc Cert.SguRefIdeal.main_arg0)) (m' ((c.tc : Thread Cert.SguRefIdeal.nD Cert.SguRefIdeal.τ).loc Cert.SguRefIdeal.main_arg1)) (m' ((c.tc : Thread Cert.SguRefIdeal.nD Cert.SguRefIdeal.τ).loc Cert.SguRefIdeal.main_arg4)) (m' ((c.tc : Thread Cert.SguRefIdeal.nD Cert.SguRefIdeal.τ).loc Cert.SguRefIdeal.main_arg6)) = _
    rw [a0, a1, a4, a6, hH, hBI, hWS, hCT]
    exact (Cert.Sgu.ref_rows H BI WS CT).trans (Cert.Sgu.final9 m c H BI LG LB WS BS CT hH hBI hLG hLB hWS hBS hCT).symm
  · refine (Cert.SguRefIdeal.Read.val_main_v142_eq _).trans ?_
    show Cert.SguRefIdeal.Read.val_main_v142 (F := Ideal) (m' ((c.tc : Thread Cert.SguRefIdeal.nD Cert.SguRefIdeal.τ).loc Cert.SguRefIdeal.main_arg0)) (m' ((c.tc : Thread Cert.SguRefIdeal.nD Cert.SguRefIdeal.τ).loc Cert.SguRefIdeal.main_arg1)) (m' ((c.tc : Thread Cert.SguRefIdeal.nD Cert.SguRefIdeal.τ).loc Cert.SguRefIdeal.main_arg2)) (m' ((c.tc : Thread Cert.SguRefIdeal.nD Cert.SguRefIdeal.τ).loc Cert.SguRefIdeal.main_arg3)) (m' ((c.tc : Thread Cert.SguRefIdeal.nD Cert.SguRefIdeal.τ).loc Cert.SguRefIdeal.main_arg4)) (m' ((c.tc : Thread Cert.SguRefIdeal.nD Cert.SguRefIdeal.τ).loc Cert.SguRefIdeal.main_arg5)) (m' ((c.tc : Thread Cert.SguRefIdeal.nD Cert.SguRefIdeal.τ).loc Cert.SguRefIdeal.main_arg6)) = _
    rw [a0, a1, a2, a3, a4, a5, a6, hH, hBI, hLG, hLB, hWS, hBS, hCT]
    exact (Cert.Sgu.ref_rowsIn H BI LG LB WS BS CT).trans (Cert.Sgu.final10 m c H BI LG LB WS BS CT hH hBI hLG hLB hWS hBS hCT).symm

/-- SwiGLU, its down projection, its residual and its layer norm. -/
theorem pair_fln : algebraic_FfnLnIdeal_FfnLnRefIdeal (hFfnLnIdeal := Cert.FfnLnIdeal.Gen.facts) (hFfnLnRefIdeal := Cert.FfnLnRefIdeal.Gen.facts) := by
  intro m g m' g' _ hagree
  refine ⟨_, _, _, _, _, Cert.FfnLnIdeal.Value.run_blocks m g, (θ_run Cert.FfnLnRefIdeal.defs _ _).mono (fun r h c => ?_) (Cert.FfnLnRefIdeal.Value.run m' g')⟩
  refine ⟨(h c).1.trans ?_, (h c).2.1.trans ?_, (h c).2.2.1.trans ?_, (h c).2.2.2.1.trans ?_, (h c).2.2.2.2.1.trans ?_, (h c).2.2.2.2.2⟩
  · refine (Cert.FfnLnRefIdeal.Read.val_main_v52_eq _ _).trans ?_
    rw [(hagree c).1, (hagree c).2.1, (hagree c).2.2.1, (hagree c).2.2.2.1, (hagree c).2.2.2.2.1, (hagree c).2.2.2.2.2]
    exact (Cert.FfnLn.ref_xn _ _ _ _ _ _).trans (Cert.FfnLn.final6 m c).symm
  · refine (Cert.FfnLnRefIdeal.Read.val_main_v57_eq _ _).trans ?_
    rw [(hagree c).1, (hagree c).2.1, (hagree c).2.2.1, (hagree c).2.2.2.1]
    exact (Cert.FfnLn.ref_xh _ _ _ _).trans (Cert.FfnLn.final7 m c).symm
  · refine (Cert.FfnLnRefIdeal.Read.val_main_v58_eq _ _).trans ?_
    rw [(hagree c).1, (hagree c).2.1, (hagree c).2.2.1, (hagree c).2.2.2.1]
    exact (Cert.FfnLn.ref_rs _ _ _ _).trans (Cert.FfnLn.final8 m c).symm
  · refine (Cert.FfnLnRefIdeal.Read.val_main_v60_eq _ _).trans ?_
    rw [(hagree c).1, (hagree c).2.1]
    exact (Cert.FfnLn.ref_y _ _).trans (Cert.FfnLn.final9 m c).symm
  · refine (Cert.FfnLnRefIdeal.Read.val_main_v62_eq _).trans ?_
    rw [(hagree c).1]
    exact (Cert.FfnLn.ref_act _).trans (Cert.FfnLn.final10 m c).symm

/-- The mixer's last product, its residual and its layer norm. -/
theorem pair_mln : algebraic_MixLnIdeal_MixLnRefIdeal (hMixLnIdeal := Cert.MixLnIdeal.Gen.facts) (hMixLnRefIdeal := Cert.MixLnRefIdeal.Gen.facts) := by
  intro m g m' g' _ hagree
  refine ⟨_, _, _, _, Cert.MixLnIdeal.Value.run_blocks m g, (θ_run Cert.MixLnRefIdeal.defs _ _).mono (fun r h c => ?_) (Cert.MixLnRefIdeal.Value.run m' g')⟩
  refine ⟨(h c).1.trans ?_, (h c).2.1.trans ?_, (h c).2.2.1.trans ?_, (h c).2.2.2.1.trans ?_, (h c).2.2.2.2⟩
  · refine (Cert.MixLnRefIdeal.Read.val_main_v46_eq _ _).trans ?_
    rw [(hagree c).1, (hagree c).2.1, (hagree c).2.2.1, (hagree c).2.2.2.1, (hagree c).2.2.2.2.1, (hagree c).2.2.2.2.2]
    exact (Cert.MixLn.ref_xn _ _ _ _ _ _).trans (Cert.MixLn.final6 m c).symm
  · refine (Cert.MixLnRefIdeal.Read.val_main_v51_eq _ _).trans ?_
    rw [(hagree c).1, (hagree c).2.1, (hagree c).2.2.1, (hagree c).2.2.2.1]
    exact (Cert.MixLn.ref_xh _ _ _ _).trans (Cert.MixLn.final7 m c).symm
  · refine (Cert.MixLnRefIdeal.Read.val_main_v52_eq _ _ _ _).trans ?_
    rw [(hagree c).1, (hagree c).2.1, (hagree c).2.2.1, (hagree c).2.2.2.1]
    exact (Cert.MixLn.ref_rs _ _ _ _).trans (Cert.MixLn.final8 m c).symm
  · refine (Cert.MixLnRefIdeal.Read.val_main_v54_eq _ _).trans ?_
    rw [(hagree c).1, (hagree c).2.1]
    exact (Cert.MixLn.ref_y _ _).trans (Cert.MixLn.final9 m c).symm

/-- The modulation and the product that feeds SwiGLU. -/
theorem pair_mgu : algebraic_FfnUpIdeal_FfnUpRefIdeal (hFfnUpIdeal := Cert.FfnUpIdeal.Gen.facts) (hFfnUpRefIdeal := Cert.FfnUpRefIdeal.Gen.facts) := by
  intro m g m' g' _ hagree
  refine ⟨_, _, Cert.FfnUpIdeal.Value.run_blocks m g, (θ_run Cert.FfnUpRefIdeal.defs _ _).mono (fun r h c => ?_) (Cert.FfnUpRefIdeal.Value.run m' g')⟩
  refine ⟨(h c).1.trans ?_, (h c).2.1.trans ?_, (h c).2.2⟩
  · refine (Cert.FfnUpRefIdeal.Read.val_main_v8_eq _ _ _ _).trans ?_
    rw [(hagree c).1, (hagree c).2.1, (hagree c).2.2.1, (hagree c).2.2.2]
    exact (Cert.FfnUp.ref_o _ _ _ _).trans (Cert.FfnUp.final4 m c).symm
  · refine (Cert.FfnUpRefIdeal.Read.val_main_v10_eq _ _ _).trans ?_
    rw [(hagree c).1, (hagree c).2.1, (hagree c).2.2.1]
    exact (Cert.FfnUp.ref_h _ _ _).trans (Cert.FfnUp.final5 m c).symm

/-- The modulation and the product that feeds the spatial gating unit. -/
theorem pair_min : algebraic_GmlpUpIdeal_GmlpUpRefIdeal (hGmlpUpIdeal := Cert.GmlpUpIdeal.Gen.facts) (hGmlpUpRefIdeal := Cert.GmlpUpRefIdeal.Gen.facts) := by
  intro m g m' g' _ hagree
  refine ⟨_, _, Cert.GmlpUpIdeal.Value.run_blocks m g, (θ_run Cert.GmlpUpRefIdeal.defs _ _).mono (fun r h c => ?_) (Cert.GmlpUpRefIdeal.Value.run m' g')⟩
  refine ⟨(h c).1.trans ?_, (h c).2.1.trans ?_, (h c).2.2⟩
  · refine (Cert.GmlpUpRefIdeal.Read.val_main_v10_eq _ _ _ _ _).trans ?_
    rw [(hagree c).1, (hagree c).2.1, (hagree c).2.2.1, (hagree c).2.2.2.1, (hagree c).2.2.2.2]
    exact (Cert.GmlpUp.ref_o _ _ _ _ _).trans (Cert.GmlpUp.final5 m c).symm
  · refine (Cert.GmlpUpRefIdeal.Read.val_main_v12_eq _ _ _).trans ?_
    rw [(hagree c).1, (hagree c).2.1, (hagree c).2.2.1]
    exact (Cert.GmlpUp.ref_h _ _ _).trans (Cert.GmlpUp.final6 m c).symm

/-- The spatial gating unit. -/
theorem pair_sguf : algebraic_SguFwdIdeal_SguFwdRefIdeal (hSguFwdIdeal := Cert.SguFwdIdeal.Gen.facts) (hSguFwdRefIdeal := Cert.SguFwdRefIdeal.Gen.facts) := by
  intro m g m' g' _ hagree
  refine ⟨_, Cert.SguFwdIdeal.Value.run_blocks m g, (θ_run Cert.SguFwdRefIdeal.defs _ _).mono (fun r h c => ?_) (Cert.SguFwdRefIdeal.Value.run m' g')⟩
  refine ⟨(h c).1.trans ?_, (h c).2⟩
  refine (Cert.SguFwdRefIdeal.Read.val_main_v63_eq _ _).trans ?_
  rw [(hagree c).1, (hagree c).2.1, (hagree c).2.2.1, (hagree c).2.2.2.1, (hagree c).2.2.2.2.1, (hagree c).2.2.2.2.2]
  exact (Cert.SguFwd.ref_out _ _ _ _ _ _).trans (Cert.SguFwd.final m c).symm

/-- The modulation of every layer. -/
theorem pair_adaf : algebraic_AdaModIdeal_AdaModRefIdeal (hAdaModIdeal := Cert.AdaModIdeal.Gen.facts) (hAdaModRefIdeal := Cert.AdaModRefIdeal.Gen.facts) := by
  pair_intro
  · run_from Cert.AdaModIdeal.Value.run_blocks m g
  · run_from Cert.AdaModRefIdeal.Value.run m' g'
    exact (Cert.AdaMod.final m c).symm

/-- The chunked band attention. -/
theorem pair_attnf : algebraic_AttnFwdIdeal_AttnFwdRefIdeal (hAttnFwdIdeal := Cert.AttnFwdIdeal.Gen.facts) (hAttnFwdRefIdeal := Cert.AttnFwdRefIdeal.Gen.facts) := by
  intro m g m' g' _ hagree
  refine ⟨_, Cert.AttnFwdIdeal.Value.run_blocks m g, (θ_run Cert.AttnFwdRefIdeal.defs _ _).mono (fun r h c => ?_) (Cert.AttnFwdRefIdeal.Value.run m' g')⟩
  refine ⟨(h c).1.trans ?_, (h c).2⟩
  refine (Cert.AttnFwdRefIdeal.Read.val_main_v63_eq _ _).trans ?_
  rw [(hagree c).1, (hagree c).2.1, (hagree c).2.2.1, (hagree c).2.2.2]
  exact (Cert.AttnFwd.ref_out _ _ _ _).trans (Cert.AttnFwd.final m c).symm

theorem claim : Cert.Claim := ⟨Cert.LaneSum.Gen.facts,
  Cert.LaneSumIdeal.Gen.facts,
  Cert.LaneSumRefIdeal.Gen.facts,
  Cert.AdaGrad.Gen.facts,
  Cert.AdaGradIdeal.Gen.facts,
  Cert.AdaGradRefIdeal.Gen.facts,
  Cert.FfnAct.Gen.facts,
  Cert.FfnActIdeal.Gen.facts,
  Cert.FfnActRefIdeal.Gen.facts,
  Cert.UpFirst.Gen.facts,
  Cert.UpFirstIdeal.Gen.facts,
  Cert.UpFirstRefIdeal.Gen.facts,
  Cert.UpMixer.Gen.facts,
  Cert.UpMixerIdeal.Gen.facts,
  Cert.UpMixerRefIdeal.Gen.facts,
  Cert.LossLn.Gen.facts,
  Cert.LossLnIdeal.Gen.facts,
  Cert.LossLnRefIdeal.Gen.facts,
  Cert.UpFfn.Gen.facts,
  Cert.UpFfnIdeal.Gen.facts,
  Cert.UpFfnRefIdeal.Gen.facts,
  Cert.GmlpIn.Gen.facts,
  Cert.GmlpInIdeal.Gen.facts,
  Cert.GmlpInRefIdeal.Gen.facts,
  Cert.AttnQ.Gen.facts,
  Cert.AttnQIdeal.Gen.facts,
  Cert.AttnQRefIdeal.Gen.facts,
  Cert.Kv.Gen.facts,
  Cert.KvIdeal.Gen.facts,
  Cert.KvRefIdeal.Gen.facts,
  Cert.BiasGrad.Gen.facts,
  Cert.BiasGradIdeal.Gen.facts,
  Cert.BiasGradRefIdeal.Gen.facts,
  Cert.Sgu.Gen.facts,
  Cert.SguIdeal.Gen.facts,
  Cert.SguRefIdeal.Gen.facts,
  Cert.FfnLn.Gen.facts,
  Cert.FfnLnIdeal.Gen.facts,
  Cert.FfnLnRefIdeal.Gen.facts,
  Cert.MixLn.Gen.facts,
  Cert.MixLnIdeal.Gen.facts,
  Cert.MixLnRefIdeal.Gen.facts,
  Cert.FfnUp.Gen.facts,
  Cert.FfnUpIdeal.Gen.facts,
  Cert.FfnUpRefIdeal.Gen.facts,
  Cert.GmlpUp.Gen.facts,
  Cert.GmlpUpIdeal.Gen.facts,
  Cert.GmlpUpRefIdeal.Gen.facts,
  Cert.SguFwd.Gen.facts,
  Cert.SguFwdIdeal.Gen.facts,
  Cert.SguFwdRefIdeal.Gen.facts,
  Cert.AdaMod.Gen.facts,
  Cert.AdaModIdeal.Gen.facts,
  Cert.AdaModRefIdeal.Gen.facts,
  Cert.AttnFwd.Gen.facts,
  Cert.AttnFwdIdeal.Gen.facts,
  Cert.AttnFwdRefIdeal.Gen.facts,
  Cert.Pre_ffn_finite.Gen.facts,
  Cert.Pre_up1_finite.Gen.facts,
  Cert.Pre_loss_finite.Gen.facts,
  Cert.Pre_up2_finite.Gen.facts,
  Cert.Pre_gmlp_finite.Gen.facts,
  Cert.Pre_attnq_finite.Gen.facts,
  Cert.Pre_kv_finite.Gen.facts,
  Cert.Pre_bias_finite.Gen.facts,
  Cert.Pre_sgu_finite.Gen.facts,
  fun m ρ _ => Cert.LaneSum.Gen.frame m ρ,
  fun m ρ _ => Cert.LaneSumIdeal.Gen.frame m ρ,
  fun m ρ _ => (θ_run Cert.LaneSumRefIdeal.defs _ _).mono (fun r h => ⟨fun c => by
    have h := h c
    first | exact h.2 | (simp only [and_assoc] at h ⊢; exact h.2), sem_eq_zero_of_no_sems (by decide) r.2⟩) (Cert.LaneSumRefIdeal.Value.run m ρ),
  fun m ρ _ => Cert.AdaGrad.Gen.frame m ρ,
  fun m ρ _ => Cert.AdaGradIdeal.Gen.frame m ρ,
  fun m ρ _ => (θ_run Cert.AdaGradRefIdeal.defs _ _).mono (fun r h => ⟨fun c => by
    have h := h c
    first | exact h.2 | (simp only [and_assoc] at h ⊢; exact h.2), sem_eq_zero_of_no_sems (by decide) r.2⟩) (Cert.AdaGradRefIdeal.Value.run m ρ),
  fun m ρ _ => Cert.FfnAct.Gen.frame m ρ,
  fun m ρ _ => Cert.FfnActIdeal.Gen.frame m ρ,
  fun m ρ _ => Cert.FfnActIdeal.Gen.frame m ρ,
  fun m ρ _ => (θ_run Cert.FfnActRefIdeal.defs _ _).mono (fun r h => ⟨fun c => by
    have h := h c
    first | exact h.2 | (simp only [and_assoc] at h ⊢; exact h.2), sem_eq_zero_of_no_sems (by decide) r.2⟩) (Cert.FfnActRefIdeal.Value.run m ρ),
  fun m ρ _ => (θ_run Cert.FfnActRefIdeal.defs _ _).mono (fun r h => ⟨fun c => by
    have h := h c
    first | exact h.2 | (simp only [and_assoc] at h ⊢; exact h.2), sem_eq_zero_of_no_sems (by decide) r.2⟩) (Cert.FfnActRefIdeal.Value.run m ρ),
  fun m ρ _ => Cert.UpFirst.Gen.frame m ρ,
  fun m ρ _ => Cert.UpFirstIdeal.Gen.frame m ρ,
  fun m ρ _ => (θ_run Cert.UpFirstRefIdeal.defs _ _).mono (fun r h => ⟨fun c => by
    have h := h c
    first | exact h.2.2 | (simp only [and_assoc] at h ⊢; exact h.2.2), sem_eq_zero_of_no_sems (by decide) r.2⟩) (Cert.UpFirstRefIdeal.Value.run m ρ),
  fun m ρ _ => Cert.UpMixer.Gen.frame m ρ,
  fun m ρ _ => Cert.UpMixerIdeal.Gen.frame m ρ,
  fun m ρ _ => Cert.UpMixerIdeal.Gen.frame m ρ,
  fun m ρ _ => (θ_run Cert.UpMixerRefIdeal.defs _ _).mono (fun r h => ⟨fun c => by
    have h := h c
    first | exact h.2.2.2 | (simp only [and_assoc] at h ⊢; exact h.2.2.2), sem_eq_zero_of_no_sems (by decide) r.2⟩) (Cert.UpMixerRefIdeal.Value.run m ρ),
  fun m ρ _ => (θ_run Cert.UpMixerRefIdeal.defs _ _).mono (fun r h => ⟨fun c => by
    have h := h c
    first | exact h.2.2.2 | (simp only [and_assoc] at h ⊢; exact h.2.2.2), sem_eq_zero_of_no_sems (by decide) r.2⟩) (Cert.UpMixerRefIdeal.Value.run m ρ),
  fun m ρ _ => Cert.LossLn.Gen.frame m ρ,
  fun m ρ _ => Cert.LossLnIdeal.Gen.frame m ρ,
  fun m ρ _ => Cert.LossLnIdeal.Gen.frame m ρ,
  fun m ρ _ => (θ_run Cert.LossLnRefIdeal.defs _ _).mono (fun r h => ⟨fun c => by
    have h := h c
    first | exact h.2.2.2 | (simp only [and_assoc] at h ⊢; exact h.2.2.2), sem_eq_zero_of_no_sems (by decide) r.2⟩) (Cert.LossLnRefIdeal.Value.run m ρ),
  fun m ρ _ => (θ_run Cert.LossLnRefIdeal.defs _ _).mono (fun r h => ⟨fun c => by
    have h := h c
    first | exact h.2.2.2 | (simp only [and_assoc] at h ⊢; exact h.2.2.2), sem_eq_zero_of_no_sems (by decide) r.2⟩) (Cert.LossLnRefIdeal.Value.run m ρ),
  fun m ρ _ => Cert.UpFfn.Gen.frame m ρ,
  fun m ρ _ => Cert.UpFfnIdeal.Gen.frame m ρ,
  fun m ρ _ => Cert.UpFfnIdeal.Gen.frame m ρ,
  fun m ρ _ => (θ_run Cert.UpFfnRefIdeal.defs _ _).mono (fun r h => ⟨fun c => by
    have h := h c
    first | exact h.2.2.2 | (simp only [and_assoc] at h ⊢; exact h.2.2.2), sem_eq_zero_of_no_sems (by decide) r.2⟩) (Cert.UpFfnRefIdeal.Value.run m ρ),
  fun m ρ _ => (θ_run Cert.UpFfnRefIdeal.defs _ _).mono (fun r h => ⟨fun c => by
    have h := h c
    first | exact h.2.2.2 | (simp only [and_assoc] at h ⊢; exact h.2.2.2), sem_eq_zero_of_no_sems (by decide) r.2⟩) (Cert.UpFfnRefIdeal.Value.run m ρ),
  fun m ρ _ => Cert.GmlpIn.Gen.frame m ρ,
  fun m ρ _ => Cert.GmlpInIdeal.Gen.frame m ρ,
  fun m ρ _ => Cert.GmlpInIdeal.Gen.frame m ρ,
  fun m ρ _ => (θ_run Cert.GmlpInRefIdeal.defs _ _).mono (fun r h => ⟨fun c => by
    have h := h c
    first | exact h.2.2.2 | (simp only [and_assoc] at h ⊢; exact h.2.2.2), sem_eq_zero_of_no_sems (by decide) r.2⟩) (Cert.GmlpInRefIdeal.Value.run m ρ),
  fun m ρ _ => (θ_run Cert.GmlpInRefIdeal.defs _ _).mono (fun r h => ⟨fun c => by
    have h := h c
    first | exact h.2.2.2 | (simp only [and_assoc] at h ⊢; exact h.2.2.2), sem_eq_zero_of_no_sems (by decide) r.2⟩) (Cert.GmlpInRefIdeal.Value.run m ρ),
  fun m ρ _ => Cert.AttnQ.Gen.frame m ρ,
  fun m ρ _ => Cert.AttnQIdeal.Gen.frame m ρ,
  fun m ρ _ => Cert.AttnQIdeal.Gen.frame m ρ,
  fun m ρ _ => (θ_run Cert.AttnQRefIdeal.defs _ _).mono (fun r h => ⟨fun c => by
    have h := h c
    first | exact h.2.2.2 | (simp only [and_assoc] at h ⊢; exact h.2.2.2), sem_eq_zero_of_no_sems (by decide) r.2⟩) (Cert.AttnQRefIdeal.Value.run m ρ),
  fun m ρ _ => (θ_run Cert.AttnQRefIdeal.defs _ _).mono (fun r h => ⟨fun c => by
    have h := h c
    first | exact h.2.2.2 | (simp only [and_assoc] at h ⊢; exact h.2.2.2), sem_eq_zero_of_no_sems (by decide) r.2⟩) (Cert.AttnQRefIdeal.Value.run m ρ),
  fun m ρ _ => Cert.Kv.Gen.frame m ρ,
  fun m ρ _ => Cert.KvIdeal.Gen.frame m ρ,
  fun m ρ _ => Cert.KvIdeal.Gen.frame m ρ,
  fun m ρ _ => (θ_run Cert.KvRefIdeal.defs _ _).mono (fun r h => ⟨fun c => by
    have h := h c
    first | exact h.2.2.2 | (simp only [and_assoc] at h ⊢; exact h.2.2.2), sem_eq_zero_of_no_sems (by decide) r.2⟩) (Cert.KvRefIdeal.Value.run m ρ),
  fun m ρ _ => (θ_run Cert.KvRefIdeal.defs _ _).mono (fun r h => ⟨fun c => by
    have h := h c
    first | exact h.2.2.2 | (simp only [and_assoc] at h ⊢; exact h.2.2.2), sem_eq_zero_of_no_sems (by decide) r.2⟩) (Cert.KvRefIdeal.Value.run m ρ),
  fun m ρ _ => Cert.BiasGrad.Gen.frame m ρ,
  fun m ρ _ => Cert.BiasGradIdeal.Gen.frame m ρ,
  fun m ρ _ => Cert.BiasGradIdeal.Gen.frame m ρ,
  fun m ρ _ => (θ_run Cert.BiasGradRefIdeal.defs _ _).mono (fun r h => ⟨fun c => by
    have h := h c
    first | exact h.2 | (simp only [and_assoc] at h ⊢; exact h.2), sem_eq_zero_of_no_sems (by decide) r.2⟩) (Cert.BiasGradRefIdeal.Value.run m ρ),
  fun m ρ _ => (θ_run Cert.BiasGradRefIdeal.defs _ _).mono (fun r h => ⟨fun c => by
    have h := h c
    first | exact h.2 | (simp only [and_assoc] at h ⊢; exact h.2), sem_eq_zero_of_no_sems (by decide) r.2⟩) (Cert.BiasGradRefIdeal.Value.run m ρ),
  fun m ρ _ => Cert.Sgu.Gen.frame m ρ,
  fun m ρ _ => Cert.SguIdeal.Gen.frame m ρ,
  fun m ρ _ => Cert.SguIdeal.Gen.frame m ρ,
  fun m ρ _ => (θ_run Cert.SguRefIdeal.defs _ _).mono (fun r h => ⟨fun c => by
    have h := h c
    first | exact h.2.2.2.2.2 | (simp only [and_assoc] at h ⊢; exact h.2.2.2.2.2), sem_eq_zero_of_no_sems (by decide) r.2⟩) (Cert.SguRefIdeal.Value.run m ρ),
  fun m ρ _ => (θ_run Cert.SguRefIdeal.defs _ _).mono (fun r h => ⟨fun c => by
    have h := h c
    first | exact h.2.2.2.2.2 | (simp only [and_assoc] at h ⊢; exact h.2.2.2.2.2), sem_eq_zero_of_no_sems (by decide) r.2⟩) (Cert.SguRefIdeal.Value.run m ρ),
  fun m ρ _ => Cert.FfnLn.Gen.frame m ρ,
  fun m ρ _ => Cert.FfnLnIdeal.Gen.frame m ρ,
  fun m ρ _ => (θ_run Cert.FfnLnRefIdeal.defs _ _).mono (fun r h => ⟨fun c => by
    have h := h c
    first | exact h.2.2.2.2.2 | (simp only [and_assoc] at h ⊢; exact h.2.2.2.2.2), sem_eq_zero_of_no_sems (by decide) r.2⟩) (Cert.FfnLnRefIdeal.Value.run m ρ),
  fun m ρ _ => Cert.MixLn.Gen.frame m ρ,
  fun m ρ _ => Cert.MixLnIdeal.Gen.frame m ρ,
  fun m ρ _ => (θ_run Cert.MixLnRefIdeal.defs _ _).mono (fun r h => ⟨fun c => by
    have h := h c
    first | exact h.2.2.2.2 | (simp only [and_assoc] at h ⊢; exact h.2.2.2.2), sem_eq_zero_of_no_sems (by decide) r.2⟩) (Cert.MixLnRefIdeal.Value.run m ρ),
  fun m ρ _ => Cert.FfnUp.Gen.frame m ρ,
  fun m ρ _ => Cert.FfnUpIdeal.Gen.frame m ρ,
  fun m ρ _ => (θ_run Cert.FfnUpRefIdeal.defs _ _).mono (fun r h => ⟨fun c => by
    have h := h c
    first | exact h.2.2 | (simp only [and_assoc] at h ⊢; exact h.2.2), sem_eq_zero_of_no_sems (by decide) r.2⟩) (Cert.FfnUpRefIdeal.Value.run m ρ),
  fun m ρ _ => Cert.GmlpUp.Gen.frame m ρ,
  fun m ρ _ => Cert.GmlpUpIdeal.Gen.frame m ρ,
  fun m ρ _ => (θ_run Cert.GmlpUpRefIdeal.defs _ _).mono (fun r h => ⟨fun c => by
    have h := h c
    first | exact h.2.2 | (simp only [and_assoc] at h ⊢; exact h.2.2), sem_eq_zero_of_no_sems (by decide) r.2⟩) (Cert.GmlpUpRefIdeal.Value.run m ρ),
  fun m ρ _ => Cert.SguFwd.Gen.frame m ρ,
  fun m ρ _ => Cert.SguFwdIdeal.Gen.frame m ρ,
  fun m ρ _ => (θ_run Cert.SguFwdRefIdeal.defs _ _).mono (fun r h => ⟨fun c => by
    have h := h c
    first | exact h.2 | (simp only [and_assoc] at h ⊢; exact h.2), sem_eq_zero_of_no_sems (by decide) r.2⟩) (Cert.SguFwdRefIdeal.Value.run m ρ),
  fun m ρ _ => Cert.AdaMod.Gen.frame m ρ,
  fun m ρ _ => Cert.AdaModIdeal.Gen.frame m ρ,
  fun m ρ _ => (θ_run Cert.AdaModRefIdeal.defs _ _).mono (fun r h => ⟨fun c => by
    have h := h c
    first | exact h.2 | (simp only [and_assoc] at h ⊢; exact h.2), sem_eq_zero_of_no_sems (by decide) r.2⟩) (Cert.AdaModRefIdeal.Value.run m ρ),
  fun m ρ _ => Cert.AttnFwd.Gen.frame m ρ,
  fun m ρ _ => Cert.AttnFwdIdeal.Gen.frame m ρ,
  fun m ρ _ => (θ_run Cert.AttnFwdRefIdeal.defs _ _).mono (fun r h => ⟨fun c => by
    have h := h c
    first | exact h.2 | (simp only [and_assoc] at h ⊢; exact h.2), sem_eq_zero_of_no_sems (by decide) r.2⟩) (Cert.AttnFwdRefIdeal.Value.run m ρ),
  trivial,
  pair_lane,
  trivial,
  pair_ada,
  trivial,
  pair_ffn,
  trivial,
  pair_up0,
  trivial,
  pair_up1,
  trivial,
  pair_loss,
  trivial,
  pair_up2,
  trivial,
  pair_gmlp,
  trivial,
  pair_attnq,
  trivial,
  pair_kv,
  trivial,
  pair_bias,
  ⟨IdealRules.named_const.statement Cert.SguIdeal.κ "root_half" .f32 0x3F3504F3#32 (((Real.sqrt 2)⁻¹ : ℝ) : EReal) rfl, IdealRules.named_const.statement Cert.SguIdeal.κ "gauss" .f32 0x3ECC422A#32 (((Real.sqrt (2 * Real.pi))⁻¹ : ℝ) : EReal) rfl⟩,
  pair_sgu,
  trivial,
  pair_fln,
  trivial,
  pair_mln,
  trivial,
  pair_mgu,
  trivial,
  pair_min,
  IdealRules.named_const.statement Cert.SguFwdIdeal.κ "root_half" .f32 0x3F3504F3#32 (((Real.sqrt 2)⁻¹ : ℝ) : EReal) rfl,
  pair_sguf,
  trivial,
  pair_adaf,
  trivial,
  pair_attnf⟩

end Cert.Proof

end
